-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelBdx (m : (ℓ : Loc Cert.KernelBdx.nD Cert.KernelBdx.τ Cert.KernelBdx.sig) → Buf (Elt Bits) ℓ) : Prop :=
  True

def Pre_KernelBdxIdeal (m : (ℓ : Loc Cert.KernelBdxIdeal.nD Cert.KernelBdxIdeal.τ Cert.KernelBdxIdeal.sig) → Buf (Elt Ideal) ℓ) : Prop :=
  True

def Pre_ReferenceBdxIdeal (m : (ℓ : Loc Cert.ReferenceBdxIdeal.nD Cert.ReferenceBdxIdeal.τ Cert.ReferenceBdxIdeal.sig) → Buf (Elt Ideal) ℓ) : Prop :=
  True

def Pre_KernelBdw (m : (ℓ : Loc Cert.KernelBdw.nD Cert.KernelBdw.τ Cert.KernelBdw.sig) → Buf (Elt Bits) ℓ) : Prop :=
  True

def Pre_KernelBdwIdeal (m : (ℓ : Loc Cert.KernelBdwIdeal.nD Cert.KernelBdwIdeal.τ Cert.KernelBdwIdeal.sig) → Buf (Elt Ideal) ℓ) : Prop :=
  True

def Pre_ReferenceBdwIdeal (m : (ℓ : Loc Cert.ReferenceBdwIdeal.nD Cert.ReferenceBdwIdeal.τ Cert.ReferenceBdwIdeal.sig) → Buf (Elt Ideal) ℓ) : Prop :=
  True

def Pre_KernelGdw (m : (ℓ : Loc Cert.KernelGdw.nD Cert.KernelGdw.τ Cert.KernelGdw.sig) → Buf (Elt Bits) ℓ) : Prop :=
  True

def Pre_KernelGdwIdeal (m : (ℓ : Loc Cert.KernelGdwIdeal.nD Cert.KernelGdwIdeal.τ Cert.KernelGdwIdeal.sig) → Buf (Elt Ideal) ℓ) : Prop :=
  True

def Pre_ReferenceGdwIdeal (m : (ℓ : Loc Cert.ReferenceGdwIdeal.nD Cert.ReferenceGdwIdeal.τ Cert.ReferenceGdwIdeal.sig) → Buf (Elt Ideal) ℓ) : Prop :=
  True

def Pre_KernelGdx (m : (ℓ : Loc Cert.KernelGdx.nD Cert.KernelGdx.τ Cert.KernelGdx.sig) → Buf (Elt Bits) ℓ) : Prop :=
  True

def Pre_KernelGdxIdeal (m : (ℓ : Loc Cert.KernelGdxIdeal.nD Cert.KernelGdxIdeal.τ Cert.KernelGdxIdeal.sig) → Buf (Elt Ideal) ℓ) : Prop :=
  True

def Pre_KernelGdxIdeal_finite_branch [hPre_finite_branch : Cert.Pre_finite_branch.Facts] (m : (ℓ : Loc Cert.KernelGdxIdeal.nD Cert.KernelGdxIdeal.τ Cert.KernelGdxIdeal.sig) → Buf (Elt Ideal) ℓ) : Prop :=
  ∀ c : Dev Cert.KernelGdxIdeal.nD,
    (Cert.Pre_finite_branch.fn (F := Ideal) (m ((c.tc : Thread Cert.KernelGdxIdeal.nD Cert.KernelGdxIdeal.τ).loc Cert.KernelGdxIdeal.main_arg0)) (m ((c.tc : Thread Cert.KernelGdxIdeal.nD Cert.KernelGdxIdeal.τ).loc Cert.KernelGdxIdeal.main_arg1)) (m ((c.tc : Thread Cert.KernelGdxIdeal.nD Cert.KernelGdxIdeal.τ).loc Cert.KernelGdxIdeal.main_arg2)) (m ((c.tc : Thread Cert.KernelGdxIdeal.nD Cert.KernelGdxIdeal.τ).loc Cert.KernelGdxIdeal.main_arg3))) = (fun _ => 1#1)

def Pre_ReferenceGdxIdeal (m : (ℓ : Loc Cert.ReferenceGdxIdeal.nD Cert.ReferenceGdxIdeal.τ Cert.ReferenceGdxIdeal.sig) → Buf (Elt Ideal) ℓ) : Prop :=
  True

def Pre_ReferenceGdxIdeal_finite_branch [hPre_finite_branch : Cert.Pre_finite_branch.Facts] (m : (ℓ : Loc Cert.ReferenceGdxIdeal.nD Cert.ReferenceGdxIdeal.τ Cert.ReferenceGdxIdeal.sig) → Buf (Elt Ideal) ℓ) : Prop :=
  ∀ c : Dev Cert.ReferenceGdxIdeal.nD,
    (Cert.Pre_finite_branch.fn (F := Ideal) (m ((c.tc : Thread Cert.ReferenceGdxIdeal.nD Cert.ReferenceGdxIdeal.τ).loc Cert.ReferenceGdxIdeal.main_arg0)) (m ((c.tc : Thread Cert.ReferenceGdxIdeal.nD Cert.ReferenceGdxIdeal.τ).loc Cert.ReferenceGdxIdeal.main_arg1)) (m ((c.tc : Thread Cert.ReferenceGdxIdeal.nD Cert.ReferenceGdxIdeal.τ).loc Cert.ReferenceGdxIdeal.main_arg2)) (m ((c.tc : Thread Cert.ReferenceGdxIdeal.nD Cert.ReferenceGdxIdeal.τ).loc Cert.ReferenceGdxIdeal.main_arg3))) = (fun _ => 1#1)

def Pre_KernelIdx (m : (ℓ : Loc Cert.KernelIdx.nD Cert.KernelIdx.τ Cert.KernelIdx.sig) → Buf (Elt Bits) ℓ) : Prop :=
  True

def Pre_KernelIdxIdeal (m : (ℓ : Loc Cert.KernelIdxIdeal.nD Cert.KernelIdxIdeal.τ Cert.KernelIdxIdeal.sig) → Buf (Elt Ideal) ℓ) : Prop :=
  True

def Pre_ReferenceIdxIdeal (m : (ℓ : Loc Cert.ReferenceIdxIdeal.nD Cert.ReferenceIdxIdeal.τ Cert.ReferenceIdxIdeal.sig) → Buf (Elt Ideal) ℓ) : Prop :=
  True

def Pre_KernelIdw (m : (ℓ : Loc Cert.KernelIdw.nD Cert.KernelIdw.τ Cert.KernelIdw.sig) → Buf (Elt Bits) ℓ) : Prop :=
  True

def Pre_KernelIdwIdeal (m : (ℓ : Loc Cert.KernelIdwIdeal.nD Cert.KernelIdwIdeal.τ Cert.KernelIdwIdeal.sig) → Buf (Elt Ideal) ℓ) : Prop :=
  True

def Pre_ReferenceIdwIdeal (m : (ℓ : Loc Cert.ReferenceIdwIdeal.nD Cert.ReferenceIdwIdeal.τ Cert.ReferenceIdwIdeal.sig) → Buf (Elt Ideal) ℓ) : Prop :=
  True

def Pre_KernelOdx (m : (ℓ : Loc Cert.KernelOdx.nD Cert.KernelOdx.τ Cert.KernelOdx.sig) → Buf (Elt Bits) ℓ) : Prop :=
  True

def Pre_KernelOdxIdeal (m : (ℓ : Loc Cert.KernelOdxIdeal.nD Cert.KernelOdxIdeal.τ Cert.KernelOdxIdeal.sig) → Buf (Elt Ideal) ℓ) : Prop :=
  True

def Pre_ReferenceOdxIdeal (m : (ℓ : Loc Cert.ReferenceOdxIdeal.nD Cert.ReferenceOdxIdeal.τ Cert.ReferenceOdxIdeal.sig) → Buf (Elt Ideal) ℓ) : Prop :=
  True

def Pre_KernelOdw (m : (ℓ : Loc Cert.KernelOdw.nD Cert.KernelOdw.τ Cert.KernelOdw.sig) → Buf (Elt Bits) ℓ) : Prop :=
  True

def Pre_KernelOdwIdeal (m : (ℓ : Loc Cert.KernelOdwIdeal.nD Cert.KernelOdwIdeal.τ Cert.KernelOdwIdeal.sig) → Buf (Elt Ideal) ℓ) : Prop :=
  True

def Pre_ReferenceOdwIdeal (m : (ℓ : Loc Cert.ReferenceOdwIdeal.nD Cert.ReferenceOdwIdeal.τ Cert.ReferenceOdwIdeal.sig) → Buf (Elt Ideal) ℓ) : Prop :=
  True

def Pre_KernelOf (m : (ℓ : Loc Cert.KernelOf.nD Cert.KernelOf.τ Cert.KernelOf.sig) → Buf (Elt Bits) ℓ) : Prop :=
  True

def Pre_KernelOfIdeal (m : (ℓ : Loc Cert.KernelOfIdeal.nD Cert.KernelOfIdeal.τ Cert.KernelOfIdeal.sig) → Buf (Elt Ideal) ℓ) : Prop :=
  True

def Pre_ReferenceOfIdeal (m : (ℓ : Loc Cert.ReferenceOfIdeal.nD Cert.ReferenceOfIdeal.τ Cert.ReferenceOfIdeal.sig) → Buf (Elt Ideal) ℓ) : Prop :=
  True

def Pre_KernelPdx (m : (ℓ : Loc Cert.KernelPdx.nD Cert.KernelPdx.τ Cert.KernelPdx.sig) → Buf (Elt Bits) ℓ) : Prop :=
  True

def Pre_KernelPdxIdeal (m : (ℓ : Loc Cert.KernelPdxIdeal.nD Cert.KernelPdxIdeal.τ Cert.KernelPdxIdeal.sig) → Buf (Elt Ideal) ℓ) : Prop :=
  True

def Pre_ReferencePdxIdeal (m : (ℓ : Loc Cert.ReferencePdxIdeal.nD Cert.ReferencePdxIdeal.τ Cert.ReferencePdxIdeal.sig) → Buf (Elt Ideal) ℓ) : Prop :=
  True

def Pre_KernelPdw (m : (ℓ : Loc Cert.KernelPdw.nD Cert.KernelPdw.τ Cert.KernelPdw.sig) → Buf (Elt Bits) ℓ) : Prop :=
  True

def Pre_KernelPdwIdeal (m : (ℓ : Loc Cert.KernelPdwIdeal.nD Cert.KernelPdwIdeal.τ Cert.KernelPdwIdeal.sig) → Buf (Elt Ideal) ℓ) : Prop :=
  True

def Pre_ReferencePdwIdeal (m : (ℓ : Loc Cert.ReferencePdwIdeal.nD Cert.ReferencePdwIdeal.τ Cert.ReferencePdwIdeal.sig) → Buf (Elt Ideal) ℓ) : Prop :=
  True

def Pre_KernelPf (m : (ℓ : Loc Cert.KernelPf.nD Cert.KernelPf.τ Cert.KernelPf.sig) → Buf (Elt Bits) ℓ) : Prop :=
  True

def Pre_KernelPfIdeal (m : (ℓ : Loc Cert.KernelPfIdeal.nD Cert.KernelPfIdeal.τ Cert.KernelPfIdeal.sig) → Buf (Elt Ideal) ℓ) : Prop :=
  True

def Pre_ReferencePfIdeal (m : (ℓ : Loc Cert.ReferencePfIdeal.nD Cert.ReferencePfIdeal.τ Cert.ReferencePfIdeal.sig) → Buf (Elt Ideal) ℓ) : Prop :=
  True

def Pre_KernelUdx (m : (ℓ : Loc Cert.KernelUdx.nD Cert.KernelUdx.τ Cert.KernelUdx.sig) → Buf (Elt Bits) ℓ) : Prop :=
  True

def Pre_KernelUdxIdeal (m : (ℓ : Loc Cert.KernelUdxIdeal.nD Cert.KernelUdxIdeal.τ Cert.KernelUdxIdeal.sig) → Buf (Elt Ideal) ℓ) : Prop :=
  True

def Pre_ReferenceUdxIdeal (m : (ℓ : Loc Cert.ReferenceUdxIdeal.nD Cert.ReferenceUdxIdeal.τ Cert.ReferenceUdxIdeal.sig) → Buf (Elt Ideal) ℓ) : Prop :=
  True

def Pre_KernelUdw (m : (ℓ : Loc Cert.KernelUdw.nD Cert.KernelUdw.τ Cert.KernelUdw.sig) → Buf (Elt Bits) ℓ) : Prop :=
  True

def Pre_KernelUdwIdeal (m : (ℓ : Loc Cert.KernelUdwIdeal.nD Cert.KernelUdwIdeal.τ Cert.KernelUdwIdeal.sig) → Buf (Elt Ideal) ℓ) : Prop :=
  True

def Pre_ReferenceUdwIdeal (m : (ℓ : Loc Cert.ReferenceUdwIdeal.nD Cert.ReferenceUdwIdeal.τ Cert.ReferenceUdwIdeal.sig) → Buf (Elt Ideal) ℓ) : Prop :=
  True

def Pre_KernelUf (m : (ℓ : Loc Cert.KernelUf.nD Cert.KernelUf.τ Cert.KernelUf.sig) → Buf (Elt Bits) ℓ) : Prop :=
  True

def Pre_KernelUfIdeal (m : (ℓ : Loc Cert.KernelUfIdeal.nD Cert.KernelUfIdeal.τ Cert.KernelUfIdeal.sig) → Buf (Elt Ideal) ℓ) : Prop :=
  True

def Pre_ReferenceUfIdeal (m : (ℓ : Loc Cert.ReferenceUfIdeal.nD Cert.ReferenceUfIdeal.τ Cert.ReferenceUfIdeal.sig) → Buf (Elt Ideal) ℓ) : Prop :=
  True

def Pre_KernelVdx (m : (ℓ : Loc Cert.KernelVdx.nD Cert.KernelVdx.τ Cert.KernelVdx.sig) → Buf (Elt Bits) ℓ) : Prop :=
  True

def Pre_KernelVdxIdeal (m : (ℓ : Loc Cert.KernelVdxIdeal.nD Cert.KernelVdxIdeal.τ Cert.KernelVdxIdeal.sig) → Buf (Elt Ideal) ℓ) : Prop :=
  True

def Pre_ReferenceVdxIdeal (m : (ℓ : Loc Cert.ReferenceVdxIdeal.nD Cert.ReferenceVdxIdeal.τ Cert.ReferenceVdxIdeal.sig) → Buf (Elt Ideal) ℓ) : Prop :=
  True

def Pre_KernelVdw (m : (ℓ : Loc Cert.KernelVdw.nD Cert.KernelVdw.τ Cert.KernelVdw.sig) → Buf (Elt Bits) ℓ) : Prop :=
  True

def Pre_KernelVdwIdeal (m : (ℓ : Loc Cert.KernelVdwIdeal.nD Cert.KernelVdwIdeal.τ Cert.KernelVdwIdeal.sig) → Buf (Elt Ideal) ℓ) : Prop :=
  True

def Pre_ReferenceVdwIdeal (m : (ℓ : Loc Cert.ReferenceVdwIdeal.nD Cert.ReferenceVdwIdeal.τ Cert.ReferenceVdwIdeal.sig) → Buf (Elt Ideal) ℓ) : Prop :=
  True

def Pre_KernelVf (m : (ℓ : Loc Cert.KernelVf.nD Cert.KernelVf.τ Cert.KernelVf.sig) → Buf (Elt Bits) ℓ) : Prop :=
  True

def Pre_KernelVfIdeal (m : (ℓ : Loc Cert.KernelVfIdeal.nD Cert.KernelVfIdeal.τ Cert.KernelVfIdeal.sig) → Buf (Elt Ideal) ℓ) : Prop :=
  True

def Pre_ReferenceVfIdeal (m : (ℓ : Loc Cert.ReferenceVfIdeal.nD Cert.ReferenceVfIdeal.τ Cert.ReferenceVfIdeal.sig) → Buf (Elt Ideal) ℓ) : Prop :=
  True

def Pre_KernelIf (m : (ℓ : Loc Cert.KernelIf.nD Cert.KernelIf.τ Cert.KernelIf.sig) → Buf (Elt Bits) ℓ) : Prop :=
  True

def Pre_KernelIfIdeal (m : (ℓ : Loc Cert.KernelIfIdeal.nD Cert.KernelIfIdeal.τ Cert.KernelIfIdeal.sig) → Buf (Elt Ideal) ℓ) : Prop :=
  True

def Pre_ReferenceIfIdeal (m : (ℓ : Loc Cert.ReferenceIfIdeal.nD Cert.ReferenceIfIdeal.τ Cert.ReferenceIfIdeal.sig) → Buf (Elt Ideal) ℓ) : Prop :=
  True

def Pre_KernelMf (m : (ℓ : Loc Cert.KernelMf.nD Cert.KernelMf.τ Cert.KernelMf.sig) → Buf (Elt Bits) ℓ) : Prop :=
  True

def Pre_KernelMfIdeal (m : (ℓ : Loc Cert.KernelMfIdeal.nD Cert.KernelMfIdeal.τ Cert.KernelMfIdeal.sig) → Buf (Elt Ideal) ℓ) : Prop :=
  True

def Pre_ReferenceMfIdeal (m : (ℓ : Loc Cert.ReferenceMfIdeal.nD Cert.ReferenceMfIdeal.τ Cert.ReferenceMfIdeal.sig) → Buf (Elt Ideal) ℓ) : Prop :=
  True

def Pre_KernelBf (m : (ℓ : Loc Cert.KernelBf.nD Cert.KernelBf.τ Cert.KernelBf.sig) → Buf (Elt Bits) ℓ) : Prop :=
  True

def Pre_KernelBfIdeal (m : (ℓ : Loc Cert.KernelBfIdeal.nD Cert.KernelBfIdeal.τ Cert.KernelBfIdeal.sig) → Buf (Elt Ideal) ℓ) : Prop :=
  True

def Pre_ReferenceBfIdeal (m : (ℓ : Loc Cert.ReferenceBfIdeal.nD Cert.ReferenceBfIdeal.τ Cert.ReferenceBfIdeal.sig) → Buf (Elt Ideal) ℓ) : Prop :=
  True

def Pre_KernelGf (m : (ℓ : Loc Cert.KernelGf.nD Cert.KernelGf.τ Cert.KernelGf.sig) → Buf (Elt Bits) ℓ) : Prop :=
  True

def Pre_KernelGfIdeal (m : (ℓ : Loc Cert.KernelGfIdeal.nD Cert.KernelGfIdeal.τ Cert.KernelGfIdeal.sig) → Buf (Elt Ideal) ℓ) : Prop :=
  True

def Pre_ReferenceGfIdeal (m : (ℓ : Loc Cert.ReferenceGfIdeal.nD Cert.ReferenceGfIdeal.τ Cert.ReferenceGfIdeal.sig) → Buf (Elt Ideal) ℓ) : Prop :=
  True

def Pre_KernelCf (m : (ℓ : Loc Cert.KernelCf.nD Cert.KernelCf.τ Cert.KernelCf.sig) → Buf (Elt Bits) ℓ) : Prop :=
  True

def Pre_KernelCfIdeal (m : (ℓ : Loc Cert.KernelCfIdeal.nD Cert.KernelCfIdeal.τ Cert.KernelCfIdeal.sig) → Buf (Elt Ideal) ℓ) : Prop :=
  True

def Pre_ReferenceCfIdeal (m : (ℓ : Loc Cert.ReferenceCfIdeal.nD Cert.ReferenceCfIdeal.τ Cert.ReferenceCfIdeal.sig) → Buf (Elt Ideal) ℓ) : Prop :=
  True

def Pre_KernelSf (m : (ℓ : Loc Cert.KernelSf.nD Cert.KernelSf.τ Cert.KernelSf.sig) → Buf (Elt Bits) ℓ) : Prop :=
  True

def Pre_KernelSfIdeal (m : (ℓ : Loc Cert.KernelSfIdeal.nD Cert.KernelSfIdeal.τ Cert.KernelSfIdeal.sig) → Buf (Elt Ideal) ℓ) : Prop :=
  True

def Pre_ReferenceSfIdeal (m : (ℓ : Loc Cert.ReferenceSfIdeal.nD Cert.ReferenceSfIdeal.τ Cert.ReferenceSfIdeal.sig) → Buf (Elt Ideal) ℓ) : Prop :=
  True

def Pre_KernelJf (m : (ℓ : Loc Cert.KernelJf.nD Cert.KernelJf.τ Cert.KernelJf.sig) → Buf (Elt Bits) ℓ) : Prop :=
  True

def Pre_KernelJfIdeal (m : (ℓ : Loc Cert.KernelJfIdeal.nD Cert.KernelJfIdeal.τ Cert.KernelJfIdeal.sig) → Buf (Elt Ideal) ℓ) : Prop :=
  True

def Pre_ReferenceJfIdeal (m : (ℓ : Loc Cert.ReferenceJfIdeal.nD Cert.ReferenceJfIdeal.τ Cert.ReferenceJfIdeal.sig) → Buf (Elt Ideal) ℓ) : Prop :=
  True

def Pre_KernelLf (m : (ℓ : Loc Cert.KernelLf.nD Cert.KernelLf.τ Cert.KernelLf.sig) → Buf (Elt Bits) ℓ) : Prop :=
  True

def Pre_KernelLfIdeal (m : (ℓ : Loc Cert.KernelLfIdeal.nD Cert.KernelLfIdeal.τ Cert.KernelLfIdeal.sig) → Buf (Elt Ideal) ℓ) : Prop :=
  True

def Pre_ReferenceLfIdeal (m : (ℓ : Loc Cert.ReferenceLfIdeal.nD Cert.ReferenceLfIdeal.τ Cert.ReferenceLfIdeal.sig) → Buf (Elt Ideal) ℓ) : Prop :=
  True

def Pre_KernelEf (m : (ℓ : Loc Cert.KernelEf.nD Cert.KernelEf.τ Cert.KernelEf.sig) → Buf (Elt Bits) ℓ) : Prop :=
  True

def Pre_KernelEfIdeal (m : (ℓ : Loc Cert.KernelEfIdeal.nD Cert.KernelEfIdeal.τ Cert.KernelEfIdeal.sig) → Buf (Elt Ideal) ℓ) : Prop :=
  True

def Pre_ReferenceEfIdeal (m : (ℓ : Loc Cert.ReferenceEfIdeal.nD Cert.ReferenceEfIdeal.τ Cert.ReferenceEfIdeal.sig) → Buf (Elt Ideal) ℓ) : Prop :=
  True

def Pre_KernelAf (m : (ℓ : Loc Cert.KernelAf.nD Cert.KernelAf.τ Cert.KernelAf.sig) → Buf (Elt Bits) ℓ) : Prop :=
  True

def Pre_KernelAfIdeal (m : (ℓ : Loc Cert.KernelAfIdeal.nD Cert.KernelAfIdeal.τ Cert.KernelAfIdeal.sig) → Buf (Elt Ideal) ℓ) : Prop :=
  True

def Pre_KernelAfIdeal_finite_scores [hPre_finite_scores : Cert.Pre_finite_scores.Facts] (m : (ℓ : Loc Cert.KernelAfIdeal.nD Cert.KernelAfIdeal.τ Cert.KernelAfIdeal.sig) → Buf (Elt Ideal) ℓ) : Prop :=
  ∀ c : Dev Cert.KernelAfIdeal.nD,
    (Cert.Pre_finite_scores.fn (F := Ideal) (m ((c.tc : Thread Cert.KernelAfIdeal.nD Cert.KernelAfIdeal.τ).loc Cert.KernelAfIdeal.main_arg0)) (m ((c.tc : Thread Cert.KernelAfIdeal.nD Cert.KernelAfIdeal.τ).loc Cert.KernelAfIdeal.main_arg1)) (m ((c.tc : Thread Cert.KernelAfIdeal.nD Cert.KernelAfIdeal.τ).loc Cert.KernelAfIdeal.main_arg2))) = (fun _ => 1#1)

def Pre_ReferenceAfIdeal (m : (ℓ : Loc Cert.ReferenceAfIdeal.nD Cert.ReferenceAfIdeal.τ Cert.ReferenceAfIdeal.sig) → Buf (Elt Ideal) ℓ) : Prop :=
  True

def Pre_ReferenceAfIdeal_finite_scores [hPre_finite_scores : Cert.Pre_finite_scores.Facts] (m : (ℓ : Loc Cert.ReferenceAfIdeal.nD Cert.ReferenceAfIdeal.τ Cert.ReferenceAfIdeal.sig) → Buf (Elt Ideal) ℓ) : Prop :=
  ∀ c : Dev Cert.ReferenceAfIdeal.nD,
    (Cert.Pre_finite_scores.fn (F := Ideal) (m ((c.tc : Thread Cert.ReferenceAfIdeal.nD Cert.ReferenceAfIdeal.τ).loc Cert.ReferenceAfIdeal.main_arg0)) (m ((c.tc : Thread Cert.ReferenceAfIdeal.nD Cert.ReferenceAfIdeal.τ).loc Cert.ReferenceAfIdeal.main_arg1)) (m ((c.tc : Thread Cert.ReferenceAfIdeal.nD Cert.ReferenceAfIdeal.τ).loc Cert.ReferenceAfIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3)
      ∧ r.2.mem ((c.tc : Thread Cert.KernelDw.nD Cert.KernelDw.τ).loc Cert.KernelDw.main_arg4) = m ((c.tc : Thread Cert.KernelDw.nD Cert.KernelDw.τ).loc Cert.KernelDw.main_arg4))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3)
      ∧ r.2.mem ((c.tc : Thread Cert.KernelDwIdeal.nD Cert.KernelDwIdeal.τ).loc Cert.KernelDwIdeal.main_arg4) = m ((c.tc : Thread Cert.KernelDwIdeal.nD Cert.KernelDwIdeal.τ).loc Cert.KernelDwIdeal.main_arg4))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3)
      ∧ r.2.mem ((c.tc : Thread Cert.ReferenceDwIdeal.nD Cert.ReferenceDwIdeal.τ).loc Cert.ReferenceDwIdeal.main_arg4) = m ((c.tc : Thread Cert.ReferenceDwIdeal.nD Cert.ReferenceDwIdeal.τ).loc Cert.ReferenceDwIdeal.main_arg4))
      ∧ r.2.sem = fun _ => 0)

def quiescent_KernelBdx [hKernelBdx : Cert.KernelBdx.Facts] : Prop :=
  ∀ (m : (ℓ : Loc Cert.KernelBdx.nD Cert.KernelBdx.τ Cert.KernelBdx.sig) → Buf (Elt Bits) ℓ) (g : Dev Cert.KernelBdx.nD → PrngReg), Pre_KernelBdx m →
    θ_run (Cert.KernelBdx.defs (F := Bits)) (onTc (τ := Cert.KernelBdx.τ) (Cert.KernelBdx.main (F := Bits))) ⟨m, fun _ => 0, g⟩ (fun r => (∀ c : Dev Cert.KernelBdx.nD,
      r.2.mem ((c.tc : Thread Cert.KernelBdx.nD Cert.KernelBdx.τ).loc Cert.KernelBdx.main_arg0) = m ((c.tc : Thread Cert.KernelBdx.nD Cert.KernelBdx.τ).loc Cert.KernelBdx.main_arg0)
      ∧ r.2.mem ((c.tc : Thread Cert.KernelBdx.nD Cert.KernelBdx.τ).loc Cert.KernelBdx.main_arg1) = m ((c.tc : Thread Cert.KernelBdx.nD Cert.KernelBdx.τ).loc Cert.KernelBdx.main_arg1))
      ∧ r.2.sem = fun _ => 0)

def quiescent_KernelBdxIdeal [hKernelBdxIdeal : Cert.KernelBdxIdeal.Facts] : Prop :=
  ∀ (m : (ℓ : Loc Cert.KernelBdxIdeal.nD Cert.KernelBdxIdeal.τ Cert.KernelBdxIdeal.sig) → Buf (Elt Ideal) ℓ) (g : Dev Cert.KernelBdxIdeal.nD → PrngReg), Pre_KernelBdxIdeal m →
    θ_run (Cert.KernelBdxIdeal.defs (F := Ideal)) (onTc (τ := Cert.KernelBdxIdeal.τ) (Cert.KernelBdxIdeal.main (F := Ideal))) ⟨m, fun _ => 0, g⟩ (fun r => (∀ c : Dev Cert.KernelBdxIdeal.nD,
      r.2.mem ((c.tc : Thread Cert.KernelBdxIdeal.nD Cert.KernelBdxIdeal.τ).loc Cert.KernelBdxIdeal.main_arg0) = m ((c.tc : Thread Cert.KernelBdxIdeal.nD Cert.KernelBdxIdeal.τ).loc Cert.KernelBdxIdeal.main_arg0)
      ∧ r.2.mem ((c.tc : Thread Cert.KernelBdxIdeal.nD Cert.KernelBdxIdeal.τ).loc Cert.KernelBdxIdeal.main_arg1) = m ((c.tc : Thread Cert.KernelBdxIdeal.nD Cert.KernelBdxIdeal.τ).loc Cert.KernelBdxIdeal.main_arg1))
      ∧ r.2.sem = fun _ => 0)

def quiescent_ReferenceBdxIdeal [hReferenceBdxIdeal : Cert.ReferenceBdxIdeal.Facts] : Prop :=
  ∀ (m : (ℓ : Loc Cert.ReferenceBdxIdeal.nD Cert.ReferenceBdxIdeal.τ Cert.ReferenceBdxIdeal.sig) → Buf (Elt Ideal) ℓ) (g : Dev Cert.ReferenceBdxIdeal.nD → PrngReg), Pre_ReferenceBdxIdeal m →
    θ_run (Cert.ReferenceBdxIdeal.defs (F := Ideal)) (onTc (τ := Cert.ReferenceBdxIdeal.τ) (Cert.ReferenceBdxIdeal.main (F := Ideal))) ⟨m, fun _ => 0, g⟩ (fun r => (∀ c : Dev Cert.ReferenceBdxIdeal.nD,
      r.2.mem ((c.tc : Thread Cert.ReferenceBdxIdeal.nD Cert.ReferenceBdxIdeal.τ).loc Cert.ReferenceBdxIdeal.main_arg0) = m ((c.tc : Thread Cert.ReferenceBdxIdeal.nD Cert.ReferenceBdxIdeal.τ).loc Cert.ReferenceBdxIdeal.main_arg0)
      ∧ r.2.mem ((c.tc : Thread Cert.ReferenceBdxIdeal.nD Cert.ReferenceBdxIdeal.τ).loc Cert.ReferenceBdxIdeal.main_arg1) = m ((c.tc : Thread Cert.ReferenceBdxIdeal.nD Cert.ReferenceBdxIdeal.τ).loc Cert.ReferenceBdxIdeal.main_arg1))
      ∧ r.2.sem = fun _ => 0)

def quiescent_KernelBdw [hKernelBdw : Cert.KernelBdw.Facts] : Prop :=
  ∀ (m : (ℓ : Loc Cert.KernelBdw.nD Cert.KernelBdw.τ Cert.KernelBdw.sig) → Buf (Elt Bits) ℓ) (g : Dev Cert.KernelBdw.nD → PrngReg), Pre_KernelBdw m →
    θ_run (Cert.KernelBdw.defs (F := Bits)) (onTc (τ := Cert.KernelBdw.τ) (Cert.KernelBdw.main (F := Bits))) ⟨m, fun _ => 0, g⟩ (fun r => (∀ c : Dev Cert.KernelBdw.nD,
      r.2.mem ((c.tc : Thread Cert.KernelBdw.nD Cert.KernelBdw.τ).loc Cert.KernelBdw.main_arg0) = m ((c.tc : Thread Cert.KernelBdw.nD Cert.KernelBdw.τ).loc Cert.KernelBdw.main_arg0)
      ∧ r.2.mem ((c.tc : Thread Cert.KernelBdw.nD Cert.KernelBdw.τ).loc Cert.KernelBdw.main_arg1) = m ((c.tc : Thread Cert.KernelBdw.nD Cert.KernelBdw.τ).loc Cert.KernelBdw.main_arg1))
      ∧ r.2.sem = fun _ => 0)

def quiescent_KernelBdwIdeal [hKernelBdwIdeal : Cert.KernelBdwIdeal.Facts] : Prop :=
  ∀ (m : (ℓ : Loc Cert.KernelBdwIdeal.nD Cert.KernelBdwIdeal.τ Cert.KernelBdwIdeal.sig) → Buf (Elt Ideal) ℓ) (g : Dev Cert.KernelBdwIdeal.nD → PrngReg), Pre_KernelBdwIdeal m →
    θ_run (Cert.KernelBdwIdeal.defs (F := Ideal)) (onTc (τ := Cert.KernelBdwIdeal.τ) (Cert.KernelBdwIdeal.main (F := Ideal))) ⟨m, fun _ => 0, g⟩ (fun r => (∀ c : Dev Cert.KernelBdwIdeal.nD,
      r.2.mem ((c.tc : Thread Cert.KernelBdwIdeal.nD Cert.KernelBdwIdeal.τ).loc Cert.KernelBdwIdeal.main_arg0) = m ((c.tc : Thread Cert.KernelBdwIdeal.nD Cert.KernelBdwIdeal.τ).loc Cert.KernelBdwIdeal.main_arg0)
      ∧ r.2.mem ((c.tc : Thread Cert.KernelBdwIdeal.nD Cert.KernelBdwIdeal.τ).loc Cert.KernelBdwIdeal.main_arg1) = m ((c.tc : Thread Cert.KernelBdwIdeal.nD Cert.KernelBdwIdeal.τ).loc Cert.KernelBdwIdeal.main_arg1))
      ∧ r.2.sem = fun _ => 0)

def quiescent_ReferenceBdwIdeal [hReferenceBdwIdeal : Cert.ReferenceBdwIdeal.Facts] : Prop :=
  ∀ (m : (ℓ : Loc Cert.ReferenceBdwIdeal.nD Cert.ReferenceBdwIdeal.τ Cert.ReferenceBdwIdeal.sig) → Buf (Elt Ideal) ℓ) (g : Dev Cert.ReferenceBdwIdeal.nD → PrngReg), Pre_ReferenceBdwIdeal m →
    θ_run (Cert.ReferenceBdwIdeal.defs (F := Ideal)) (onTc (τ := Cert.ReferenceBdwIdeal.τ) (Cert.ReferenceBdwIdeal.main (F := Ideal))) ⟨m, fun _ => 0, g⟩ (fun r => (∀ c : Dev Cert.ReferenceBdwIdeal.nD,
      r.2.mem ((c.tc : Thread Cert.ReferenceBdwIdeal.nD Cert.ReferenceBdwIdeal.τ).loc Cert.ReferenceBdwIdeal.main_arg0) = m ((c.tc : Thread Cert.ReferenceBdwIdeal.nD Cert.ReferenceBdwIdeal.τ).loc Cert.ReferenceBdwIdeal.main_arg0)
      ∧ r.2.mem ((c.tc : Thread Cert.ReferenceBdwIdeal.nD Cert.ReferenceBdwIdeal.τ).loc Cert.ReferenceBdwIdeal.main_arg1) = m ((c.tc : Thread Cert.ReferenceBdwIdeal.nD Cert.ReferenceBdwIdeal.τ).loc Cert.ReferenceBdwIdeal.main_arg1))
      ∧ r.2.sem = fun _ => 0)

def quiescent_KernelGdw [hKernelGdw : Cert.KernelGdw.Facts] : Prop :=
  ∀ (m : (ℓ : Loc Cert.KernelGdw.nD Cert.KernelGdw.τ Cert.KernelGdw.sig) → Buf (Elt Bits) ℓ) (g : Dev Cert.KernelGdw.nD → PrngReg), Pre_KernelGdw m →
    θ_run (Cert.KernelGdw.defs (F := Bits)) (onTc (τ := Cert.KernelGdw.τ) (Cert.KernelGdw.main (F := Bits))) ⟨m, fun _ => 0, g⟩ (fun r => (∀ c : Dev Cert.KernelGdw.nD,
      r.2.mem ((c.tc : Thread Cert.KernelGdw.nD Cert.KernelGdw.τ).loc Cert.KernelGdw.main_arg0) = m ((c.tc : Thread Cert.KernelGdw.nD Cert.KernelGdw.τ).loc Cert.KernelGdw.main_arg0)
      ∧ r.2.mem ((c.tc : Thread Cert.KernelGdw.nD Cert.KernelGdw.τ).loc Cert.KernelGdw.main_arg1) = m ((c.tc : Thread Cert.KernelGdw.nD Cert.KernelGdw.τ).loc Cert.KernelGdw.main_arg1)
      ∧ r.2.mem ((c.tc : Thread Cert.KernelGdw.nD Cert.KernelGdw.τ).loc Cert.KernelGdw.main_arg2) = m ((c.tc : Thread Cert.KernelGdw.nD Cert.KernelGdw.τ).loc Cert.KernelGdw.main_arg2))
      ∧ r.2.sem = fun _ => 0)

def quiescent_KernelGdwIdeal [hKernelGdwIdeal : Cert.KernelGdwIdeal.Facts] : Prop :=
  ∀ (m : (ℓ : Loc Cert.KernelGdwIdeal.nD Cert.KernelGdwIdeal.τ Cert.KernelGdwIdeal.sig) → Buf (Elt Ideal) ℓ) (g : Dev Cert.KernelGdwIdeal.nD → PrngReg), Pre_KernelGdwIdeal m →
    θ_run (Cert.KernelGdwIdeal.defs (F := Ideal)) (onTc (τ := Cert.KernelGdwIdeal.τ) (Cert.KernelGdwIdeal.main (F := Ideal))) ⟨m, fun _ => 0, g⟩ (fun r => (∀ c : Dev Cert.KernelGdwIdeal.nD,
      r.2.mem ((c.tc : Thread Cert.KernelGdwIdeal.nD Cert.KernelGdwIdeal.τ).loc Cert.KernelGdwIdeal.main_arg0) = m ((c.tc : Thread Cert.KernelGdwIdeal.nD Cert.KernelGdwIdeal.τ).loc Cert.KernelGdwIdeal.main_arg0)
      ∧ r.2.mem ((c.tc : Thread Cert.KernelGdwIdeal.nD Cert.KernelGdwIdeal.τ).loc Cert.KernelGdwIdeal.main_arg1) = m ((c.tc : Thread Cert.KernelGdwIdeal.nD Cert.KernelGdwIdeal.τ).loc Cert.KernelGdwIdeal.main_arg1)
      ∧ r.2.mem ((c.tc : Thread Cert.KernelGdwIdeal.nD Cert.KernelGdwIdeal.τ).loc Cert.KernelGdwIdeal.main_arg2) = m ((c.tc : Thread Cert.KernelGdwIdeal.nD Cert.KernelGdwIdeal.τ).loc Cert.KernelGdwIdeal.main_arg2))
      ∧ r.2.sem = fun _ => 0)

def quiescent_ReferenceGdwIdeal [hReferenceGdwIdeal : Cert.ReferenceGdwIdeal.Facts] : Prop :=
  ∀ (m : (ℓ : Loc Cert.ReferenceGdwIdeal.nD Cert.ReferenceGdwIdeal.τ Cert.ReferenceGdwIdeal.sig) → Buf (Elt Ideal) ℓ) (g : Dev Cert.ReferenceGdwIdeal.nD → PrngReg), Pre_ReferenceGdwIdeal m →
    θ_run (Cert.ReferenceGdwIdeal.defs (F := Ideal)) (onTc (τ := Cert.ReferenceGdwIdeal.τ) (Cert.ReferenceGdwIdeal.main (F := Ideal))) ⟨m, fun _ => 0, g⟩ (fun r => (∀ c : Dev Cert.ReferenceGdwIdeal.nD,
      r.2.mem ((c.tc : Thread Cert.ReferenceGdwIdeal.nD Cert.ReferenceGdwIdeal.τ).loc Cert.ReferenceGdwIdeal.main_arg0) = m ((c.tc : Thread Cert.ReferenceGdwIdeal.nD Cert.ReferenceGdwIdeal.τ).loc Cert.ReferenceGdwIdeal.main_arg0)
      ∧ r.2.mem ((c.tc : Thread Cert.ReferenceGdwIdeal.nD Cert.ReferenceGdwIdeal.τ).loc Cert.ReferenceGdwIdeal.main_arg1) = m ((c.tc : Thread Cert.ReferenceGdwIdeal.nD Cert.ReferenceGdwIdeal.τ).loc Cert.ReferenceGdwIdeal.main_arg1)
      ∧ r.2.mem ((c.tc : Thread Cert.ReferenceGdwIdeal.nD Cert.ReferenceGdwIdeal.τ).loc Cert.ReferenceGdwIdeal.main_arg2) = m ((c.tc : Thread Cert.ReferenceGdwIdeal.nD Cert.ReferenceGdwIdeal.τ).loc Cert.ReferenceGdwIdeal.main_arg2))
      ∧ r.2.sem = fun _ => 0)

def quiescent_KernelGdx [hKernelGdx : Cert.KernelGdx.Facts] : Prop :=
  ∀ (m : (ℓ : Loc Cert.KernelGdx.nD Cert.KernelGdx.τ Cert.KernelGdx.sig) → Buf (Elt Bits) ℓ) (g : Dev Cert.KernelGdx.nD → PrngReg), Pre_KernelGdx m →
    θ_run (Cert.KernelGdx.defs (F := Bits)) (onTc (τ := Cert.KernelGdx.τ) (Cert.KernelGdx.main (F := Bits))) ⟨m, fun _ => 0, g⟩ (fun r => (∀ c : Dev Cert.KernelGdx.nD,
      r.2.mem ((c.tc : Thread Cert.KernelGdx.nD Cert.KernelGdx.τ).loc Cert.KernelGdx.main_arg0) = m ((c.tc : Thread Cert.KernelGdx.nD Cert.KernelGdx.τ).loc Cert.KernelGdx.main_arg0)
      ∧ r.2.mem ((c.tc : Thread Cert.KernelGdx.nD Cert.KernelGdx.τ).loc Cert.KernelGdx.main_arg1) = m ((c.tc : Thread Cert.KernelGdx.nD Cert.KernelGdx.τ).loc Cert.KernelGdx.main_arg1)
      ∧ r.2.mem ((c.tc : Thread Cert.KernelGdx.nD Cert.KernelGdx.τ).loc Cert.KernelGdx.main_arg2) = m ((c.tc : Thread Cert.KernelGdx.nD Cert.KernelGdx.τ).loc Cert.KernelGdx.main_arg2)
      ∧ r.2.mem ((c.tc : Thread Cert.KernelGdx.nD Cert.KernelGdx.τ).loc Cert.KernelGdx.main_arg3) = m ((c.tc : Thread Cert.KernelGdx.nD Cert.KernelGdx.τ).loc Cert.KernelGdx.main_arg3))
      ∧ r.2.sem = fun _ => 0)

def quiescent_KernelGdxIdeal [hKernelGdxIdeal : Cert.KernelGdxIdeal.Facts] : Prop :=
  ∀ (m : (ℓ : Loc Cert.KernelGdxIdeal.nD Cert.KernelGdxIdeal.τ Cert.KernelGdxIdeal.sig) → Buf (Elt Ideal) ℓ) (g : Dev Cert.KernelGdxIdeal.nD → PrngReg), Pre_KernelGdxIdeal m →
    θ_run (Cert.KernelGdxIdeal.defs (F := Ideal)) (onTc (τ := Cert.KernelGdxIdeal.τ) (Cert.KernelGdxIdeal.main (F := Ideal))) ⟨m, fun _ => 0, g⟩ (fun r => (∀ c : Dev Cert.KernelGdxIdeal.nD,
      r.2.mem ((c.tc : Thread Cert.KernelGdxIdeal.nD Cert.KernelGdxIdeal.τ).loc Cert.KernelGdxIdeal.main_arg0) = m ((c.tc : Thread Cert.KernelGdxIdeal.nD Cert.KernelGdxIdeal.τ).loc Cert.KernelGdxIdeal.main_arg0)
      ∧ r.2.mem ((c.tc : Thread Cert.KernelGdxIdeal.nD Cert.KernelGdxIdeal.τ).loc Cert.KernelGdxIdeal.main_arg1) = m ((c.tc : Thread Cert.KernelGdxIdeal.nD Cert.KernelGdxIdeal.τ).loc Cert.KernelGdxIdeal.main_arg1)
      ∧ r.2.mem ((c.tc : Thread Cert.KernelGdxIdeal.nD Cert.KernelGdxIdeal.τ).loc Cert.KernelGdxIdeal.main_arg2) = m ((c.tc : Thread Cert.KernelGdxIdeal.nD Cert.KernelGdxIdeal.τ).loc Cert.KernelGdxIdeal.main_arg2)
      ∧ r.2.mem ((c.tc : Thread Cert.KernelGdxIdeal.nD Cert.KernelGdxIdeal.τ).loc Cert.KernelGdxIdeal.main_arg3) = m ((c.tc : Thread Cert.KernelGdxIdeal.nD Cert.KernelGdxIdeal.τ).loc Cert.KernelGdxIdeal.main_arg3))
      ∧ r.2.sem = fun _ => 0)

def quiescent_KernelGdxIdeal_pre_finite_branch [hKernelGdxIdeal : Cert.KernelGdxIdeal.Facts] [hPre_finite_branch : Cert.Pre_finite_branch.Facts] : Prop :=
  ∀ (m : (ℓ : Loc Cert.KernelGdxIdeal.nD Cert.KernelGdxIdeal.τ Cert.KernelGdxIdeal.sig) → Buf (Elt Ideal) ℓ) (g : Dev Cert.KernelGdxIdeal.nD → PrngReg), Pre_KernelGdxIdeal_finite_branch m →
    θ_run (Cert.KernelGdxIdeal.defs (F := Ideal)) (onTc (τ := Cert.KernelGdxIdeal.τ) (Cert.KernelGdxIdeal.main (F := Ideal))) ⟨m, fun _ => 0, g⟩ (fun r => (∀ c : Dev Cert.KernelGdxIdeal.nD,
      r.2.mem ((c.tc : Thread Cert.KernelGdxIdeal.nD Cert.KernelGdxIdeal.τ).loc Cert.KernelGdxIdeal.main_arg0) = m ((c.tc : Thread Cert.KernelGdxIdeal.nD Cert.KernelGdxIdeal.τ).loc Cert.KernelGdxIdeal.main_arg0)
      ∧ r.2.mem ((c.tc : Thread Cert.KernelGdxIdeal.nD Cert.KernelGdxIdeal.τ).loc Cert.KernelGdxIdeal.main_arg1) = m ((c.tc : Thread Cert.KernelGdxIdeal.nD Cert.KernelGdxIdeal.τ).loc Cert.KernelGdxIdeal.main_arg1)
      ∧ r.2.mem ((c.tc : Thread Cert.KernelGdxIdeal.nD Cert.KernelGdxIdeal.τ).loc Cert.KernelGdxIdeal.main_arg2) = m ((c.tc : Thread Cert.KernelGdxIdeal.nD Cert.KernelGdxIdeal.τ).loc Cert.KernelGdxIdeal.main_arg2)
      ∧ r.2.mem ((c.tc : Thread Cert.KernelGdxIdeal.nD Cert.KernelGdxIdeal.τ).loc Cert.KernelGdxIdeal.main_arg3) = m ((c.tc : Thread Cert.KernelGdxIdeal.nD Cert.KernelGdxIdeal.τ).loc Cert.KernelGdxIdeal.main_arg3))
      ∧ r.2.sem = fun _ => 0)

def quiescent_ReferenceGdxIdeal [hReferenceGdxIdeal : Cert.ReferenceGdxIdeal.Facts] : Prop :=
  ∀ (m : (ℓ : Loc Cert.ReferenceGdxIdeal.nD Cert.ReferenceGdxIdeal.τ Cert.ReferenceGdxIdeal.sig) → Buf (Elt Ideal) ℓ) (g : Dev Cert.ReferenceGdxIdeal.nD → PrngReg), Pre_ReferenceGdxIdeal m →
    θ_run (Cert.ReferenceGdxIdeal.defs (F := Ideal)) (onTc (τ := Cert.ReferenceGdxIdeal.τ) (Cert.ReferenceGdxIdeal.main (F := Ideal))) ⟨m, fun _ => 0, g⟩ (fun r => (∀ c : Dev Cert.ReferenceGdxIdeal.nD,
      r.2.mem ((c.tc : Thread Cert.ReferenceGdxIdeal.nD Cert.ReferenceGdxIdeal.τ).loc Cert.ReferenceGdxIdeal.main_arg0) = m ((c.tc : Thread Cert.ReferenceGdxIdeal.nD Cert.ReferenceGdxIdeal.τ).loc Cert.ReferenceGdxIdeal.main_arg0)
      ∧ r.2.mem ((c.tc : Thread Cert.ReferenceGdxIdeal.nD Cert.ReferenceGdxIdeal.τ).loc Cert.ReferenceGdxIdeal.main_arg1) = m ((c.tc : Thread Cert.ReferenceGdxIdeal.nD Cert.ReferenceGdxIdeal.τ).loc Cert.ReferenceGdxIdeal.main_arg1)
      ∧ r.2.mem ((c.tc : Thread Cert.ReferenceGdxIdeal.nD Cert.ReferenceGdxIdeal.τ).loc Cert.ReferenceGdxIdeal.main_arg2) = m ((c.tc : Thread Cert.ReferenceGdxIdeal.nD Cert.ReferenceGdxIdeal.τ).loc Cert.ReferenceGdxIdeal.main_arg2)
      ∧ r.2.mem ((c.tc : Thread Cert.ReferenceGdxIdeal.nD Cert.ReferenceGdxIdeal.τ).loc Cert.ReferenceGdxIdeal.main_arg3) = m ((c.tc : Thread Cert.ReferenceGdxIdeal.nD Cert.ReferenceGdxIdeal.τ).loc Cert.ReferenceGdxIdeal.main_arg3))
      ∧ r.2.sem = fun _ => 0)

def quiescent_ReferenceGdxIdeal_pre_finite_branch [hReferenceGdxIdeal : Cert.ReferenceGdxIdeal.Facts] [hPre_finite_branch : Cert.Pre_finite_branch.Facts] : Prop :=
  ∀ (m : (ℓ : Loc Cert.ReferenceGdxIdeal.nD Cert.ReferenceGdxIdeal.τ Cert.ReferenceGdxIdeal.sig) → Buf (Elt Ideal) ℓ) (g : Dev Cert.ReferenceGdxIdeal.nD → PrngReg), Pre_ReferenceGdxIdeal_finite_branch m →
    θ_run (Cert.ReferenceGdxIdeal.defs (F := Ideal)) (onTc (τ := Cert.ReferenceGdxIdeal.τ) (Cert.ReferenceGdxIdeal.main (F := Ideal))) ⟨m, fun _ => 0, g⟩ (fun r => (∀ c : Dev Cert.ReferenceGdxIdeal.nD,
      r.2.mem ((c.tc : Thread Cert.ReferenceGdxIdeal.nD Cert.ReferenceGdxIdeal.τ).loc Cert.ReferenceGdxIdeal.main_arg0) = m ((c.tc : Thread Cert.ReferenceGdxIdeal.nD Cert.ReferenceGdxIdeal.τ).loc Cert.ReferenceGdxIdeal.main_arg0)
      ∧ r.2.mem ((c.tc : Thread Cert.ReferenceGdxIdeal.nD Cert.ReferenceGdxIdeal.τ).loc Cert.ReferenceGdxIdeal.main_arg1) = m ((c.tc : Thread Cert.ReferenceGdxIdeal.nD Cert.ReferenceGdxIdeal.τ).loc Cert.ReferenceGdxIdeal.main_arg1)
      ∧ r.2.mem ((c.tc : Thread Cert.ReferenceGdxIdeal.nD Cert.ReferenceGdxIdeal.τ).loc Cert.ReferenceGdxIdeal.main_arg2) = m ((c.tc : Thread Cert.ReferenceGdxIdeal.nD Cert.ReferenceGdxIdeal.τ).loc Cert.ReferenceGdxIdeal.main_arg2)
      ∧ r.2.mem ((c.tc : Thread Cert.ReferenceGdxIdeal.nD Cert.ReferenceGdxIdeal.τ).loc Cert.ReferenceGdxIdeal.main_arg3) = m ((c.tc : Thread Cert.ReferenceGdxIdeal.nD Cert.ReferenceGdxIdeal.τ).loc Cert.ReferenceGdxIdeal.main_arg3))
      ∧ r.2.sem = fun _ => 0)

def quiescent_KernelIdx [hKernelIdx : Cert.KernelIdx.Facts] : Prop :=
  ∀ (m : (ℓ : Loc Cert.KernelIdx.nD Cert.KernelIdx.τ Cert.KernelIdx.sig) → Buf (Elt Bits) ℓ) (g : Dev Cert.KernelIdx.nD → PrngReg), Pre_KernelIdx m →
    θ_run (Cert.KernelIdx.defs (F := Bits)) (onTc (τ := Cert.KernelIdx.τ) (Cert.KernelIdx.main (F := Bits))) ⟨m, fun _ => 0, g⟩ (fun r => (∀ c : Dev Cert.KernelIdx.nD,
      r.2.mem ((c.tc : Thread Cert.KernelIdx.nD Cert.KernelIdx.τ).loc Cert.KernelIdx.main_arg0) = m ((c.tc : Thread Cert.KernelIdx.nD Cert.KernelIdx.τ).loc Cert.KernelIdx.main_arg0)
      ∧ r.2.mem ((c.tc : Thread Cert.KernelIdx.nD Cert.KernelIdx.τ).loc Cert.KernelIdx.main_arg1) = m ((c.tc : Thread Cert.KernelIdx.nD Cert.KernelIdx.τ).loc Cert.KernelIdx.main_arg1)
      ∧ r.2.mem ((c.tc : Thread Cert.KernelIdx.nD Cert.KernelIdx.τ).loc Cert.KernelIdx.main_arg2) = m ((c.tc : Thread Cert.KernelIdx.nD Cert.KernelIdx.τ).loc Cert.KernelIdx.main_arg2)
      ∧ r.2.mem ((c.tc : Thread Cert.KernelIdx.nD Cert.KernelIdx.τ).loc Cert.KernelIdx.main_arg3) = m ((c.tc : Thread Cert.KernelIdx.nD Cert.KernelIdx.τ).loc Cert.KernelIdx.main_arg3)
      ∧ r.2.mem ((c.tc : Thread Cert.KernelIdx.nD Cert.KernelIdx.τ).loc Cert.KernelIdx.main_arg4) = m ((c.tc : Thread Cert.KernelIdx.nD Cert.KernelIdx.τ).loc Cert.KernelIdx.main_arg4)
      ∧ r.2.mem ((c.tc : Thread Cert.KernelIdx.nD Cert.KernelIdx.τ).loc Cert.KernelIdx.main_arg5) = m ((c.tc : Thread Cert.KernelIdx.nD Cert.KernelIdx.τ).loc Cert.KernelIdx.main_arg5)
      ∧ r.2.mem ((c.tc : Thread Cert.KernelIdx.nD Cert.KernelIdx.τ).loc Cert.KernelIdx.main_arg6) = m ((c.tc : Thread Cert.KernelIdx.nD Cert.KernelIdx.τ).loc Cert.KernelIdx.main_arg6)
      ∧ r.2.mem ((c.tc : Thread Cert.KernelIdx.nD Cert.KernelIdx.τ).loc Cert.KernelIdx.main_arg7) = m ((c.tc : Thread Cert.KernelIdx.nD Cert.KernelIdx.τ).loc Cert.KernelIdx.main_arg7)
      ∧ r.2.mem ((c.tc : Thread Cert.KernelIdx.nD Cert.KernelIdx.τ).loc Cert.KernelIdx.main_arg8) = m ((c.tc : Thread Cert.KernelIdx.nD Cert.KernelIdx.τ).loc Cert.KernelIdx.main_arg8)
      ∧ r.2.mem ((c.tc : Thread Cert.KernelIdx.nD Cert.KernelIdx.τ).loc Cert.KernelIdx.main_arg9) = m ((c.tc : Thread Cert.KernelIdx.nD Cert.KernelIdx.τ).loc Cert.KernelIdx.main_arg9)
      ∧ r.2.mem ((c.tc : Thread Cert.KernelIdx.nD Cert.KernelIdx.τ).loc Cert.KernelIdx.main_arg10) = m ((c.tc : Thread Cert.KernelIdx.nD Cert.KernelIdx.τ).loc Cert.KernelIdx.main_arg10)
      ∧ r.2.mem ((c.tc : Thread Cert.KernelIdx.nD Cert.KernelIdx.τ).loc Cert.KernelIdx.main_arg11) = m ((c.tc : Thread Cert.KernelIdx.nD Cert.KernelIdx.τ).loc Cert.KernelIdx.main_arg11)
      ∧ r.2.mem ((c.tc : Thread Cert.KernelIdx.nD Cert.KernelIdx.τ).loc Cert.KernelIdx.main_arg12) = m ((c.tc : Thread Cert.KernelIdx.nD Cert.KernelIdx.τ).loc Cert.KernelIdx.main_arg12)
      ∧ r.2.mem ((c.tc : Thread Cert.KernelIdx.nD Cert.KernelIdx.τ).loc Cert.KernelIdx.main_arg13) = m ((c.tc : Thread Cert.KernelIdx.nD Cert.KernelIdx.τ).loc Cert.KernelIdx.main_arg13))
      ∧ r.2.sem = fun _ => 0)

def quiescent_KernelIdxIdeal [hKernelIdxIdeal : Cert.KernelIdxIdeal.Facts] : Prop :=
  ∀ (m : (ℓ : Loc Cert.KernelIdxIdeal.nD Cert.KernelIdxIdeal.τ Cert.KernelIdxIdeal.sig) → Buf (Elt Ideal) ℓ) (g : Dev Cert.KernelIdxIdeal.nD → PrngReg), Pre_KernelIdxIdeal m →
    θ_run (Cert.KernelIdxIdeal.defs (F := Ideal)) (onTc (τ := Cert.KernelIdxIdeal.τ) (Cert.KernelIdxIdeal.main (F := Ideal))) ⟨m, fun _ => 0, g⟩ (fun r => (∀ c : Dev Cert.KernelIdxIdeal.nD,
      r.2.mem ((c.tc : Thread Cert.KernelIdxIdeal.nD Cert.KernelIdxIdeal.τ).loc Cert.KernelIdxIdeal.main_arg0) = m ((c.tc : Thread Cert.KernelIdxIdeal.nD Cert.KernelIdxIdeal.τ).loc Cert.KernelIdxIdeal.main_arg0)
      ∧ r.2.mem ((c.tc : Thread Cert.KernelIdxIdeal.nD Cert.KernelIdxIdeal.τ).loc Cert.KernelIdxIdeal.main_arg1) = m ((c.tc : Thread Cert.KernelIdxIdeal.nD Cert.KernelIdxIdeal.τ).loc Cert.KernelIdxIdeal.main_arg1)
      ∧ r.2.mem ((c.tc : Thread Cert.KernelIdxIdeal.nD Cert.KernelIdxIdeal.τ).loc Cert.KernelIdxIdeal.main_arg2) = m ((c.tc : Thread Cert.KernelIdxIdeal.nD Cert.KernelIdxIdeal.τ).loc Cert.KernelIdxIdeal.main_arg2)
      ∧ r.2.mem ((c.tc : Thread Cert.KernelIdxIdeal.nD Cert.KernelIdxIdeal.τ).loc Cert.KernelIdxIdeal.main_arg3) = m ((c.tc : Thread Cert.KernelIdxIdeal.nD Cert.KernelIdxIdeal.τ).loc Cert.KernelIdxIdeal.main_arg3)
      ∧ r.2.mem ((c.tc : Thread Cert.KernelIdxIdeal.nD Cert.KernelIdxIdeal.τ).loc Cert.KernelIdxIdeal.main_arg4) = m ((c.tc : Thread Cert.KernelIdxIdeal.nD Cert.KernelIdxIdeal.τ).loc Cert.KernelIdxIdeal.main_arg4)
      ∧ r.2.mem ((c.tc : Thread Cert.KernelIdxIdeal.nD Cert.KernelIdxIdeal.τ).loc Cert.KernelIdxIdeal.main_arg5) = m ((c.tc : Thread Cert.KernelIdxIdeal.nD Cert.KernelIdxIdeal.τ).loc Cert.KernelIdxIdeal.main_arg5)
      ∧ r.2.mem ((c.tc : Thread Cert.KernelIdxIdeal.nD Cert.KernelIdxIdeal.τ).loc Cert.KernelIdxIdeal.main_arg6) = m ((c.tc : Thread Cert.KernelIdxIdeal.nD Cert.KernelIdxIdeal.τ).loc Cert.KernelIdxIdeal.main_arg6)
      ∧ r.2.mem ((c.tc : Thread Cert.KernelIdxIdeal.nD Cert.KernelIdxIdeal.τ).loc Cert.KernelIdxIdeal.main_arg7) = m ((c.tc : Thread Cert.KernelIdxIdeal.nD Cert.KernelIdxIdeal.τ).loc Cert.KernelIdxIdeal.main_arg7)
      ∧ r.2.mem ((c.tc : Thread Cert.KernelIdxIdeal.nD Cert.KernelIdxIdeal.τ).loc Cert.KernelIdxIdeal.main_arg8) = m ((c.tc : Thread Cert.KernelIdxIdeal.nD Cert.KernelIdxIdeal.τ).loc Cert.KernelIdxIdeal.main_arg8)
      ∧ r.2.mem ((c.tc : Thread Cert.KernelIdxIdeal.nD Cert.KernelIdxIdeal.τ).loc Cert.KernelIdxIdeal.main_arg9) = m ((c.tc : Thread Cert.KernelIdxIdeal.nD Cert.KernelIdxIdeal.τ).loc Cert.KernelIdxIdeal.main_arg9)
      ∧ r.2.mem ((c.tc : Thread Cert.KernelIdxIdeal.nD Cert.KernelIdxIdeal.τ).loc Cert.KernelIdxIdeal.main_arg10) = m ((c.tc : Thread Cert.KernelIdxIdeal.nD Cert.KernelIdxIdeal.τ).loc Cert.KernelIdxIdeal.main_arg10)
      ∧ r.2.mem ((c.tc : Thread Cert.KernelIdxIdeal.nD Cert.KernelIdxIdeal.τ).loc Cert.KernelIdxIdeal.main_arg11) = m ((c.tc : Thread Cert.KernelIdxIdeal.nD Cert.KernelIdxIdeal.τ).loc Cert.KernelIdxIdeal.main_arg11)
      ∧ r.2.mem ((c.tc : Thread Cert.KernelIdxIdeal.nD Cert.KernelIdxIdeal.τ).loc Cert.KernelIdxIdeal.main_arg12) = m ((c.tc : Thread Cert.KernelIdxIdeal.nD Cert.KernelIdxIdeal.τ).loc Cert.KernelIdxIdeal.main_arg12)
      ∧ r.2.mem ((c.tc : Thread Cert.KernelIdxIdeal.nD Cert.KernelIdxIdeal.τ).loc Cert.KernelIdxIdeal.main_arg13) = m ((c.tc : Thread Cert.KernelIdxIdeal.nD Cert.KernelIdxIdeal.τ).loc Cert.KernelIdxIdeal.main_arg13))
      ∧ r.2.sem = fun _ => 0)

def quiescent_ReferenceIdxIdeal [hReferenceIdxIdeal : Cert.ReferenceIdxIdeal.Facts] : Prop :=
  ∀ (m : (ℓ : Loc Cert.ReferenceIdxIdeal.nD Cert.ReferenceIdxIdeal.τ Cert.ReferenceIdxIdeal.sig) → Buf (Elt Ideal) ℓ) (g : Dev Cert.ReferenceIdxIdeal.nD → PrngReg), Pre_ReferenceIdxIdeal m →
    θ_run (Cert.ReferenceIdxIdeal.defs (F := Ideal)) (onTc (τ := Cert.ReferenceIdxIdeal.τ) (Cert.ReferenceIdxIdeal.main (F := Ideal))) ⟨m, fun _ => 0, g⟩ (fun r => (∀ c : Dev Cert.ReferenceIdxIdeal.nD,
      r.2.mem ((c.tc : Thread Cert.ReferenceIdxIdeal.nD Cert.ReferenceIdxIdeal.τ).loc Cert.ReferenceIdxIdeal.main_arg0) = m ((c.tc : Thread Cert.ReferenceIdxIdeal.nD Cert.ReferenceIdxIdeal.τ).loc Cert.ReferenceIdxIdeal.main_arg0)
      ∧ r.2.mem ((c.tc : Thread Cert.ReferenceIdxIdeal.nD Cert.ReferenceIdxIdeal.τ).loc Cert.ReferenceIdxIdeal.main_arg1) = m ((c.tc : Thread Cert.ReferenceIdxIdeal.nD Cert.ReferenceIdxIdeal.τ).loc Cert.ReferenceIdxIdeal.main_arg1)
      ∧ r.2.mem ((c.tc : Thread Cert.ReferenceIdxIdeal.nD Cert.ReferenceIdxIdeal.τ).loc Cert.ReferenceIdxIdeal.main_arg2) = m ((c.tc : Thread Cert.ReferenceIdxIdeal.nD Cert.ReferenceIdxIdeal.τ).loc Cert.ReferenceIdxIdeal.main_arg2)
      ∧ r.2.mem ((c.tc : Thread Cert.ReferenceIdxIdeal.nD Cert.ReferenceIdxIdeal.τ).loc Cert.ReferenceIdxIdeal.main_arg3) = m ((c.tc : Thread Cert.ReferenceIdxIdeal.nD Cert.ReferenceIdxIdeal.τ).loc Cert.ReferenceIdxIdeal.main_arg3)
      ∧ r.2.mem ((c.tc : Thread Cert.ReferenceIdxIdeal.nD Cert.ReferenceIdxIdeal.τ).loc Cert.ReferenceIdxIdeal.main_arg4) = m ((c.tc : Thread Cert.ReferenceIdxIdeal.nD Cert.ReferenceIdxIdeal.τ).loc Cert.ReferenceIdxIdeal.main_arg4)
      ∧ r.2.mem ((c.tc : Thread Cert.ReferenceIdxIdeal.nD Cert.ReferenceIdxIdeal.τ).loc Cert.ReferenceIdxIdeal.main_arg5) = m ((c.tc : Thread Cert.ReferenceIdxIdeal.nD Cert.ReferenceIdxIdeal.τ).loc Cert.ReferenceIdxIdeal.main_arg5)
      ∧ r.2.mem ((c.tc : Thread Cert.ReferenceIdxIdeal.nD Cert.ReferenceIdxIdeal.τ).loc Cert.ReferenceIdxIdeal.main_arg6) = m ((c.tc : Thread Cert.ReferenceIdxIdeal.nD Cert.ReferenceIdxIdeal.τ).loc Cert.ReferenceIdxIdeal.main_arg6)
      ∧ r.2.mem ((c.tc : Thread Cert.ReferenceIdxIdeal.nD Cert.ReferenceIdxIdeal.τ).loc Cert.ReferenceIdxIdeal.main_arg7) = m ((c.tc : Thread Cert.ReferenceIdxIdeal.nD Cert.ReferenceIdxIdeal.τ).loc Cert.ReferenceIdxIdeal.main_arg7)
      ∧ r.2.mem ((c.tc : Thread Cert.ReferenceIdxIdeal.nD Cert.ReferenceIdxIdeal.τ).loc Cert.ReferenceIdxIdeal.main_arg8) = m ((c.tc : Thread Cert.ReferenceIdxIdeal.nD Cert.ReferenceIdxIdeal.τ).loc Cert.ReferenceIdxIdeal.main_arg8)
      ∧ r.2.mem ((c.tc : Thread Cert.ReferenceIdxIdeal.nD Cert.ReferenceIdxIdeal.τ).loc Cert.ReferenceIdxIdeal.main_arg9) = m ((c.tc : Thread Cert.ReferenceIdxIdeal.nD Cert.ReferenceIdxIdeal.τ).loc Cert.ReferenceIdxIdeal.main_arg9)
      ∧ r.2.mem ((c.tc : Thread Cert.ReferenceIdxIdeal.nD Cert.ReferenceIdxIdeal.τ).loc Cert.ReferenceIdxIdeal.main_arg10) = m ((c.tc : Thread Cert.ReferenceIdxIdeal.nD Cert.ReferenceIdxIdeal.τ).loc Cert.ReferenceIdxIdeal.main_arg10)
      ∧ r.2.mem ((c.tc : Thread Cert.ReferenceIdxIdeal.nD Cert.ReferenceIdxIdeal.τ).loc Cert.ReferenceIdxIdeal.main_arg11) = m ((c.tc : Thread Cert.ReferenceIdxIdeal.nD Cert.ReferenceIdxIdeal.τ).loc Cert.ReferenceIdxIdeal.main_arg11)
      ∧ r.2.mem ((c.tc : Thread Cert.ReferenceIdxIdeal.nD Cert.ReferenceIdxIdeal.τ).loc Cert.ReferenceIdxIdeal.main_arg12) = m ((c.tc : Thread Cert.ReferenceIdxIdeal.nD Cert.ReferenceIdxIdeal.τ).loc Cert.ReferenceIdxIdeal.main_arg12)
      ∧ r.2.mem ((c.tc : Thread Cert.ReferenceIdxIdeal.nD Cert.ReferenceIdxIdeal.τ).loc Cert.ReferenceIdxIdeal.main_arg13) = m ((c.tc : Thread Cert.ReferenceIdxIdeal.nD Cert.ReferenceIdxIdeal.τ).loc Cert.ReferenceIdxIdeal.main_arg13))
      ∧ r.2.sem = fun _ => 0)

def quiescent_KernelIdw [hKernelIdw : Cert.KernelIdw.Facts] : Prop :=
  ∀ (m : (ℓ : Loc Cert.KernelIdw.nD Cert.KernelIdw.τ Cert.KernelIdw.sig) → Buf (Elt Bits) ℓ) (g : Dev Cert.KernelIdw.nD → PrngReg), Pre_KernelIdw m →
    θ_run (Cert.KernelIdw.defs (F := Bits)) (onTc (τ := Cert.KernelIdw.τ) (Cert.KernelIdw.main (F := Bits))) ⟨m, fun _ => 0, g⟩ (fun r => (∀ c : Dev Cert.KernelIdw.nD,
      r.2.mem ((c.tc : Thread Cert.KernelIdw.nD Cert.KernelIdw.τ).loc Cert.KernelIdw.main_arg0) = m ((c.tc : Thread Cert.KernelIdw.nD Cert.KernelIdw.τ).loc Cert.KernelIdw.main_arg0)
      ∧ r.2.mem ((c.tc : Thread Cert.KernelIdw.nD Cert.KernelIdw.τ).loc Cert.KernelIdw.main_arg1) = m ((c.tc : Thread Cert.KernelIdw.nD Cert.KernelIdw.τ).loc Cert.KernelIdw.main_arg1)
      ∧ r.2.mem ((c.tc : Thread Cert.KernelIdw.nD Cert.KernelIdw.τ).loc Cert.KernelIdw.main_arg2) = m ((c.tc : Thread Cert.KernelIdw.nD Cert.KernelIdw.τ).loc Cert.KernelIdw.main_arg2)
      ∧ r.2.mem ((c.tc : Thread Cert.KernelIdw.nD Cert.KernelIdw.τ).loc Cert.KernelIdw.main_arg3) = m ((c.tc : Thread Cert.KernelIdw.nD Cert.KernelIdw.τ).loc Cert.KernelIdw.main_arg3)
      ∧ r.2.mem ((c.tc : Thread Cert.KernelIdw.nD Cert.KernelIdw.τ).loc Cert.KernelIdw.main_arg4) = m ((c.tc : Thread Cert.KernelIdw.nD Cert.KernelIdw.τ).loc Cert.KernelIdw.main_arg4)
      ∧ r.2.mem ((c.tc : Thread Cert.KernelIdw.nD Cert.KernelIdw.τ).loc Cert.KernelIdw.main_arg5) = m ((c.tc : Thread Cert.KernelIdw.nD Cert.KernelIdw.τ).loc Cert.KernelIdw.main_arg5)
      ∧ r.2.mem ((c.tc : Thread Cert.KernelIdw.nD Cert.KernelIdw.τ).loc Cert.KernelIdw.main_arg6) = m ((c.tc : Thread Cert.KernelIdw.nD Cert.KernelIdw.τ).loc Cert.KernelIdw.main_arg6)
      ∧ r.2.mem ((c.tc : Thread Cert.KernelIdw.nD Cert.KernelIdw.τ).loc Cert.KernelIdw.main_arg7) = m ((c.tc : Thread Cert.KernelIdw.nD Cert.KernelIdw.τ).loc Cert.KernelIdw.main_arg7)
      ∧ r.2.mem ((c.tc : Thread Cert.KernelIdw.nD Cert.KernelIdw.τ).loc Cert.KernelIdw.main_arg8) = m ((c.tc : Thread Cert.KernelIdw.nD Cert.KernelIdw.τ).loc Cert.KernelIdw.main_arg8)
      ∧ r.2.mem ((c.tc : Thread Cert.KernelIdw.nD Cert.KernelIdw.τ).loc Cert.KernelIdw.main_arg9) = m ((c.tc : Thread Cert.KernelIdw.nD Cert.KernelIdw.τ).loc Cert.KernelIdw.main_arg9)
      ∧ r.2.mem ((c.tc : Thread Cert.KernelIdw.nD Cert.KernelIdw.τ).loc Cert.KernelIdw.main_arg10) = m ((c.tc : Thread Cert.KernelIdw.nD Cert.KernelIdw.τ).loc Cert.KernelIdw.main_arg10)
      ∧ r.2.mem ((c.tc : Thread Cert.KernelIdw.nD Cert.KernelIdw.τ).loc Cert.KernelIdw.main_arg11) = m ((c.tc : Thread Cert.KernelIdw.nD Cert.KernelIdw.τ).loc Cert.KernelIdw.main_arg11)
      ∧ r.2.mem ((c.tc : Thread Cert.KernelIdw.nD Cert.KernelIdw.τ).loc Cert.KernelIdw.main_arg12) = m ((c.tc : Thread Cert.KernelIdw.nD Cert.KernelIdw.τ).loc Cert.KernelIdw.main_arg12)
      ∧ r.2.mem ((c.tc : Thread Cert.KernelIdw.nD Cert.KernelIdw.τ).loc Cert.KernelIdw.main_arg13) = m ((c.tc : Thread Cert.KernelIdw.nD Cert.KernelIdw.τ).loc Cert.KernelIdw.main_arg13))
      ∧ r.2.sem = fun _ => 0)

def quiescent_KernelIdwIdeal [hKernelIdwIdeal : Cert.KernelIdwIdeal.Facts] : Prop :=
  ∀ (m : (ℓ : Loc Cert.KernelIdwIdeal.nD Cert.KernelIdwIdeal.τ Cert.KernelIdwIdeal.sig) → Buf (Elt Ideal) ℓ) (g : Dev Cert.KernelIdwIdeal.nD → PrngReg), Pre_KernelIdwIdeal m →
    θ_run (Cert.KernelIdwIdeal.defs (F := Ideal)) (onTc (τ := Cert.KernelIdwIdeal.τ) (Cert.KernelIdwIdeal.main (F := Ideal))) ⟨m, fun _ => 0, g⟩ (fun r => (∀ c : Dev Cert.KernelIdwIdeal.nD,
      r.2.mem ((c.tc : Thread Cert.KernelIdwIdeal.nD Cert.KernelIdwIdeal.τ).loc Cert.KernelIdwIdeal.main_arg0) = m ((c.tc : Thread Cert.KernelIdwIdeal.nD Cert.KernelIdwIdeal.τ).loc Cert.KernelIdwIdeal.main_arg0)
      ∧ r.2.mem ((c.tc : Thread Cert.KernelIdwIdeal.nD Cert.KernelIdwIdeal.τ).loc Cert.KernelIdwIdeal.main_arg1) = m ((c.tc : Thread Cert.KernelIdwIdeal.nD Cert.KernelIdwIdeal.τ).loc Cert.KernelIdwIdeal.main_arg1)
      ∧ r.2.mem ((c.tc : Thread Cert.KernelIdwIdeal.nD Cert.KernelIdwIdeal.τ).loc Cert.KernelIdwIdeal.main_arg2) = m ((c.tc : Thread Cert.KernelIdwIdeal.nD Cert.KernelIdwIdeal.τ).loc Cert.KernelIdwIdeal.main_arg2)
      ∧ r.2.mem ((c.tc : Thread Cert.KernelIdwIdeal.nD Cert.KernelIdwIdeal.τ).loc Cert.KernelIdwIdeal.main_arg3) = m ((c.tc : Thread Cert.KernelIdwIdeal.nD Cert.KernelIdwIdeal.τ).loc Cert.KernelIdwIdeal.main_arg3)
      ∧ r.2.mem ((c.tc : Thread Cert.KernelIdwIdeal.nD Cert.KernelIdwIdeal.τ).loc Cert.KernelIdwIdeal.main_arg4) = m ((c.tc : Thread Cert.KernelIdwIdeal.nD Cert.KernelIdwIdeal.τ).loc Cert.KernelIdwIdeal.main_arg4)
      ∧ r.2.mem ((c.tc : Thread Cert.KernelIdwIdeal.nD Cert.KernelIdwIdeal.τ).loc Cert.KernelIdwIdeal.main_arg5) = m ((c.tc : Thread Cert.KernelIdwIdeal.nD Cert.KernelIdwIdeal.τ).loc Cert.KernelIdwIdeal.main_arg5)
      ∧ r.2.mem ((c.tc : Thread Cert.KernelIdwIdeal.nD Cert.KernelIdwIdeal.τ).loc Cert.KernelIdwIdeal.main_arg6) = m ((c.tc : Thread Cert.KernelIdwIdeal.nD Cert.KernelIdwIdeal.τ).loc Cert.KernelIdwIdeal.main_arg6)
      ∧ r.2.mem ((c.tc : Thread Cert.KernelIdwIdeal.nD Cert.KernelIdwIdeal.τ).loc Cert.KernelIdwIdeal.main_arg7) = m ((c.tc : Thread Cert.KernelIdwIdeal.nD Cert.KernelIdwIdeal.τ).loc Cert.KernelIdwIdeal.main_arg7)
      ∧ r.2.mem ((c.tc : Thread Cert.KernelIdwIdeal.nD Cert.KernelIdwIdeal.τ).loc Cert.KernelIdwIdeal.main_arg8) = m ((c.tc : Thread Cert.KernelIdwIdeal.nD Cert.KernelIdwIdeal.τ).loc Cert.KernelIdwIdeal.main_arg8)
      ∧ r.2.mem ((c.tc : Thread Cert.KernelIdwIdeal.nD Cert.KernelIdwIdeal.τ).loc Cert.KernelIdwIdeal.main_arg9) = m ((c.tc : Thread Cert.KernelIdwIdeal.nD Cert.KernelIdwIdeal.τ).loc Cert.KernelIdwIdeal.main_arg9)
      ∧ r.2.mem ((c.tc : Thread Cert.KernelIdwIdeal.nD Cert.KernelIdwIdeal.τ).loc Cert.KernelIdwIdeal.main_arg10) = m ((c.tc : Thread Cert.KernelIdwIdeal.nD Cert.KernelIdwIdeal.τ).loc Cert.KernelIdwIdeal.main_arg10)
      ∧ r.2.mem ((c.tc : Thread Cert.KernelIdwIdeal.nD Cert.KernelIdwIdeal.τ).loc Cert.KernelIdwIdeal.main_arg11) = m ((c.tc : Thread Cert.KernelIdwIdeal.nD Cert.KernelIdwIdeal.τ).loc Cert.KernelIdwIdeal.main_arg11)
      ∧ r.2.mem ((c.tc : Thread Cert.KernelIdwIdeal.nD Cert.KernelIdwIdeal.τ).loc Cert.KernelIdwIdeal.main_arg12) = m ((c.tc : Thread Cert.KernelIdwIdeal.nD Cert.KernelIdwIdeal.τ).loc Cert.KernelIdwIdeal.main_arg12)
      ∧ r.2.mem ((c.tc : Thread Cert.KernelIdwIdeal.nD Cert.KernelIdwIdeal.τ).loc Cert.KernelIdwIdeal.main_arg13) = m ((c.tc : Thread Cert.KernelIdwIdeal.nD Cert.KernelIdwIdeal.τ).loc Cert.KernelIdwIdeal.main_arg13))
      ∧ r.2.sem = fun _ => 0)

def quiescent_ReferenceIdwIdeal [hReferenceIdwIdeal : Cert.ReferenceIdwIdeal.Facts] : Prop :=
  ∀ (m : (ℓ : Loc Cert.ReferenceIdwIdeal.nD Cert.ReferenceIdwIdeal.τ Cert.ReferenceIdwIdeal.sig) → Buf (Elt Ideal) ℓ) (g : Dev Cert.ReferenceIdwIdeal.nD → PrngReg), Pre_ReferenceIdwIdeal m →
    θ_run (Cert.ReferenceIdwIdeal.defs (F := Ideal)) (onTc (τ := Cert.ReferenceIdwIdeal.τ) (Cert.ReferenceIdwIdeal.main (F := Ideal))) ⟨m, fun _ => 0, g⟩ (fun r => (∀ c : Dev Cert.ReferenceIdwIdeal.nD,
      r.2.mem ((c.tc : Thread Cert.ReferenceIdwIdeal.nD Cert.ReferenceIdwIdeal.τ).loc Cert.ReferenceIdwIdeal.main_arg0) = m ((c.tc : Thread Cert.ReferenceIdwIdeal.nD Cert.ReferenceIdwIdeal.τ).loc Cert.ReferenceIdwIdeal.main_arg0)
      ∧ r.2.mem ((c.tc : Thread Cert.ReferenceIdwIdeal.nD Cert.ReferenceIdwIdeal.τ).loc Cert.ReferenceIdwIdeal.main_arg1) = m ((c.tc : Thread Cert.ReferenceIdwIdeal.nD Cert.ReferenceIdwIdeal.τ).loc Cert.ReferenceIdwIdeal.main_arg1)
      ∧ r.2.mem ((c.tc : Thread Cert.ReferenceIdwIdeal.nD Cert.ReferenceIdwIdeal.τ).loc Cert.ReferenceIdwIdeal.main_arg2) = m ((c.tc : Thread Cert.ReferenceIdwIdeal.nD Cert.ReferenceIdwIdeal.τ).loc Cert.ReferenceIdwIdeal.main_arg2)
      ∧ r.2.mem ((c.tc : Thread Cert.ReferenceIdwIdeal.nD Cert.ReferenceIdwIdeal.τ).loc Cert.ReferenceIdwIdeal.main_arg3) = m ((c.tc : Thread Cert.ReferenceIdwIdeal.nD Cert.ReferenceIdwIdeal.τ).loc Cert.ReferenceIdwIdeal.main_arg3)
      ∧ r.2.mem ((c.tc : Thread Cert.ReferenceIdwIdeal.nD Cert.ReferenceIdwIdeal.τ).loc Cert.ReferenceIdwIdeal.main_arg4) = m ((c.tc : Thread Cert.ReferenceIdwIdeal.nD Cert.ReferenceIdwIdeal.τ).loc Cert.ReferenceIdwIdeal.main_arg4)
      ∧ r.2.mem ((c.tc : Thread Cert.ReferenceIdwIdeal.nD Cert.ReferenceIdwIdeal.τ).loc Cert.ReferenceIdwIdeal.main_arg5) = m ((c.tc : Thread Cert.ReferenceIdwIdeal.nD Cert.ReferenceIdwIdeal.τ).loc Cert.ReferenceIdwIdeal.main_arg5)
      ∧ r.2.mem ((c.tc : Thread Cert.ReferenceIdwIdeal.nD Cert.ReferenceIdwIdeal.τ).loc Cert.ReferenceIdwIdeal.main_arg6) = m ((c.tc : Thread Cert.ReferenceIdwIdeal.nD Cert.ReferenceIdwIdeal.τ).loc Cert.ReferenceIdwIdeal.main_arg6)
      ∧ r.2.mem ((c.tc : Thread Cert.ReferenceIdwIdeal.nD Cert.ReferenceIdwIdeal.τ).loc Cert.ReferenceIdwIdeal.main_arg7) = m ((c.tc : Thread Cert.ReferenceIdwIdeal.nD Cert.ReferenceIdwIdeal.τ).loc Cert.ReferenceIdwIdeal.main_arg7)
      ∧ r.2.mem ((c.tc : Thread Cert.ReferenceIdwIdeal.nD Cert.ReferenceIdwIdeal.τ).loc Cert.ReferenceIdwIdeal.main_arg8) = m ((c.tc : Thread Cert.ReferenceIdwIdeal.nD Cert.ReferenceIdwIdeal.τ).loc Cert.ReferenceIdwIdeal.main_arg8)
      ∧ r.2.mem ((c.tc : Thread Cert.ReferenceIdwIdeal.nD Cert.ReferenceIdwIdeal.τ).loc Cert.ReferenceIdwIdeal.main_arg9) = m ((c.tc : Thread Cert.ReferenceIdwIdeal.nD Cert.ReferenceIdwIdeal.τ).loc Cert.ReferenceIdwIdeal.main_arg9)
      ∧ r.2.mem ((c.tc : Thread Cert.ReferenceIdwIdeal.nD Cert.ReferenceIdwIdeal.τ).loc Cert.ReferenceIdwIdeal.main_arg10) = m ((c.tc : Thread Cert.ReferenceIdwIdeal.nD Cert.ReferenceIdwIdeal.τ).loc Cert.ReferenceIdwIdeal.main_arg10)
      ∧ r.2.mem ((c.tc : Thread Cert.ReferenceIdwIdeal.nD Cert.ReferenceIdwIdeal.τ).loc Cert.ReferenceIdwIdeal.main_arg11) = m ((c.tc : Thread Cert.ReferenceIdwIdeal.nD Cert.ReferenceIdwIdeal.τ).loc Cert.ReferenceIdwIdeal.main_arg11)
      ∧ r.2.mem ((c.tc : Thread Cert.ReferenceIdwIdeal.nD Cert.ReferenceIdwIdeal.τ).loc Cert.ReferenceIdwIdeal.main_arg12) = m ((c.tc : Thread Cert.ReferenceIdwIdeal.nD Cert.ReferenceIdwIdeal.τ).loc Cert.ReferenceIdwIdeal.main_arg12)
      ∧ r.2.mem ((c.tc : Thread Cert.ReferenceIdwIdeal.nD Cert.ReferenceIdwIdeal.τ).loc Cert.ReferenceIdwIdeal.main_arg13) = m ((c.tc : Thread Cert.ReferenceIdwIdeal.nD Cert.ReferenceIdwIdeal.τ).loc Cert.ReferenceIdwIdeal.main_arg13))
      ∧ r.2.sem = fun _ => 0)

def quiescent_KernelOdx [hKernelOdx : Cert.KernelOdx.Facts] : Prop :=
  ∀ (m : (ℓ : Loc Cert.KernelOdx.nD Cert.KernelOdx.τ Cert.KernelOdx.sig) → Buf (Elt Bits) ℓ) (g : Dev Cert.KernelOdx.nD → PrngReg), Pre_KernelOdx m →
    θ_run (Cert.KernelOdx.defs (F := Bits)) (onTc (τ := Cert.KernelOdx.τ) (Cert.KernelOdx.main (F := Bits))) ⟨m, fun _ => 0, g⟩ (fun r => (∀ c : Dev Cert.KernelOdx.nD,
      r.2.mem ((c.tc : Thread Cert.KernelOdx.nD Cert.KernelOdx.τ).loc Cert.KernelOdx.main_arg0) = m ((c.tc : Thread Cert.KernelOdx.nD Cert.KernelOdx.τ).loc Cert.KernelOdx.main_arg0)
      ∧ r.2.mem ((c.tc : Thread Cert.KernelOdx.nD Cert.KernelOdx.τ).loc Cert.KernelOdx.main_arg1) = m ((c.tc : Thread Cert.KernelOdx.nD Cert.KernelOdx.τ).loc Cert.KernelOdx.main_arg1))
      ∧ r.2.sem = fun _ => 0)

def quiescent_KernelOdxIdeal [hKernelOdxIdeal : Cert.KernelOdxIdeal.Facts] : Prop :=
  ∀ (m : (ℓ : Loc Cert.KernelOdxIdeal.nD Cert.KernelOdxIdeal.τ Cert.KernelOdxIdeal.sig) → Buf (Elt Ideal) ℓ) (g : Dev Cert.KernelOdxIdeal.nD → PrngReg), Pre_KernelOdxIdeal m →
    θ_run (Cert.KernelOdxIdeal.defs (F := Ideal)) (onTc (τ := Cert.KernelOdxIdeal.τ) (Cert.KernelOdxIdeal.main (F := Ideal))) ⟨m, fun _ => 0, g⟩ (fun r => (∀ c : Dev Cert.KernelOdxIdeal.nD,
      r.2.mem ((c.tc : Thread Cert.KernelOdxIdeal.nD Cert.KernelOdxIdeal.τ).loc Cert.KernelOdxIdeal.main_arg0) = m ((c.tc : Thread Cert.KernelOdxIdeal.nD Cert.KernelOdxIdeal.τ).loc Cert.KernelOdxIdeal.main_arg0)
      ∧ r.2.mem ((c.tc : Thread Cert.KernelOdxIdeal.nD Cert.KernelOdxIdeal.τ).loc Cert.KernelOdxIdeal.main_arg1) = m ((c.tc : Thread Cert.KernelOdxIdeal.nD Cert.KernelOdxIdeal.τ).loc Cert.KernelOdxIdeal.main_arg1))
      ∧ r.2.sem = fun _ => 0)

def quiescent_ReferenceOdxIdeal [hReferenceOdxIdeal : Cert.ReferenceOdxIdeal.Facts] : Prop :=
  ∀ (m : (ℓ : Loc Cert.ReferenceOdxIdeal.nD Cert.ReferenceOdxIdeal.τ Cert.ReferenceOdxIdeal.sig) → Buf (Elt Ideal) ℓ) (g : Dev Cert.ReferenceOdxIdeal.nD → PrngReg), Pre_ReferenceOdxIdeal m →
    θ_run (Cert.ReferenceOdxIdeal.defs (F := Ideal)) (onTc (τ := Cert.ReferenceOdxIdeal.τ) (Cert.ReferenceOdxIdeal.main (F := Ideal))) ⟨m, fun _ => 0, g⟩ (fun r => (∀ c : Dev Cert.ReferenceOdxIdeal.nD,
      r.2.mem ((c.tc : Thread Cert.ReferenceOdxIdeal.nD Cert.ReferenceOdxIdeal.τ).loc Cert.ReferenceOdxIdeal.main_arg0) = m ((c.tc : Thread Cert.ReferenceOdxIdeal.nD Cert.ReferenceOdxIdeal.τ).loc Cert.ReferenceOdxIdeal.main_arg0)
      ∧ r.2.mem ((c.tc : Thread Cert.ReferenceOdxIdeal.nD Cert.ReferenceOdxIdeal.τ).loc Cert.ReferenceOdxIdeal.main_arg1) = m ((c.tc : Thread Cert.ReferenceOdxIdeal.nD Cert.ReferenceOdxIdeal.τ).loc Cert.ReferenceOdxIdeal.main_arg1))
      ∧ r.2.sem = fun _ => 0)

def quiescent_KernelOdw [hKernelOdw : Cert.KernelOdw.Facts] : Prop :=
  ∀ (m : (ℓ : Loc Cert.KernelOdw.nD Cert.KernelOdw.τ Cert.KernelOdw.sig) → Buf (Elt Bits) ℓ) (g : Dev Cert.KernelOdw.nD → PrngReg), Pre_KernelOdw m →
    θ_run (Cert.KernelOdw.defs (F := Bits)) (onTc (τ := Cert.KernelOdw.τ) (Cert.KernelOdw.main (F := Bits))) ⟨m, fun _ => 0, g⟩ (fun r => (∀ c : Dev Cert.KernelOdw.nD,
      r.2.mem ((c.tc : Thread Cert.KernelOdw.nD Cert.KernelOdw.τ).loc Cert.KernelOdw.main_arg0) = m ((c.tc : Thread Cert.KernelOdw.nD Cert.KernelOdw.τ).loc Cert.KernelOdw.main_arg0)
      ∧ r.2.mem ((c.tc : Thread Cert.KernelOdw.nD Cert.KernelOdw.τ).loc Cert.KernelOdw.main_arg1) = m ((c.tc : Thread Cert.KernelOdw.nD Cert.KernelOdw.τ).loc Cert.KernelOdw.main_arg1))
      ∧ r.2.sem = fun _ => 0)

def quiescent_KernelOdwIdeal [hKernelOdwIdeal : Cert.KernelOdwIdeal.Facts] : Prop :=
  ∀ (m : (ℓ : Loc Cert.KernelOdwIdeal.nD Cert.KernelOdwIdeal.τ Cert.KernelOdwIdeal.sig) → Buf (Elt Ideal) ℓ) (g : Dev Cert.KernelOdwIdeal.nD → PrngReg), Pre_KernelOdwIdeal m →
    θ_run (Cert.KernelOdwIdeal.defs (F := Ideal)) (onTc (τ := Cert.KernelOdwIdeal.τ) (Cert.KernelOdwIdeal.main (F := Ideal))) ⟨m, fun _ => 0, g⟩ (fun r => (∀ c : Dev Cert.KernelOdwIdeal.nD,
      r.2.mem ((c.tc : Thread Cert.KernelOdwIdeal.nD Cert.KernelOdwIdeal.τ).loc Cert.KernelOdwIdeal.main_arg0) = m ((c.tc : Thread Cert.KernelOdwIdeal.nD Cert.KernelOdwIdeal.τ).loc Cert.KernelOdwIdeal.main_arg0)
      ∧ r.2.mem ((c.tc : Thread Cert.KernelOdwIdeal.nD Cert.KernelOdwIdeal.τ).loc Cert.KernelOdwIdeal.main_arg1) = m ((c.tc : Thread Cert.KernelOdwIdeal.nD Cert.KernelOdwIdeal.τ).loc Cert.KernelOdwIdeal.main_arg1))
      ∧ r.2.sem = fun _ => 0)

def quiescent_ReferenceOdwIdeal [hReferenceOdwIdeal : Cert.ReferenceOdwIdeal.Facts] : Prop :=
  ∀ (m : (ℓ : Loc Cert.ReferenceOdwIdeal.nD Cert.ReferenceOdwIdeal.τ Cert.ReferenceOdwIdeal.sig) → Buf (Elt Ideal) ℓ) (g : Dev Cert.ReferenceOdwIdeal.nD → PrngReg), Pre_ReferenceOdwIdeal m →
    θ_run (Cert.ReferenceOdwIdeal.defs (F := Ideal)) (onTc (τ := Cert.ReferenceOdwIdeal.τ) (Cert.ReferenceOdwIdeal.main (F := Ideal))) ⟨m, fun _ => 0, g⟩ (fun r => (∀ c : Dev Cert.ReferenceOdwIdeal.nD,
      r.2.mem ((c.tc : Thread Cert.ReferenceOdwIdeal.nD Cert.ReferenceOdwIdeal.τ).loc Cert.ReferenceOdwIdeal.main_arg0) = m ((c.tc : Thread Cert.ReferenceOdwIdeal.nD Cert.ReferenceOdwIdeal.τ).loc Cert.ReferenceOdwIdeal.main_arg0)
      ∧ r.2.mem ((c.tc : Thread Cert.ReferenceOdwIdeal.nD Cert.ReferenceOdwIdeal.τ).loc Cert.ReferenceOdwIdeal.main_arg1) = m ((c.tc : Thread Cert.ReferenceOdwIdeal.nD Cert.ReferenceOdwIdeal.τ).loc Cert.ReferenceOdwIdeal.main_arg1))
      ∧ r.2.sem = fun _ => 0)

def quiescent_KernelOf [hKernelOf : Cert.KernelOf.Facts] : Prop :=
  ∀ (m : (ℓ : Loc Cert.KernelOf.nD Cert.KernelOf.τ Cert.KernelOf.sig) → Buf (Elt Bits) ℓ) (g : Dev Cert.KernelOf.nD → PrngReg), Pre_KernelOf m →
    θ_run (Cert.KernelOf.defs (F := Bits)) (onTc (τ := Cert.KernelOf.τ) (Cert.KernelOf.main (F := Bits))) ⟨m, fun _ => 0, g⟩ (fun r => (∀ c : Dev Cert.KernelOf.nD,
      r.2.mem ((c.tc : Thread Cert.KernelOf.nD Cert.KernelOf.τ).loc Cert.KernelOf.main_arg0) = m ((c.tc : Thread Cert.KernelOf.nD Cert.KernelOf.τ).loc Cert.KernelOf.main_arg0)
      ∧ r.2.mem ((c.tc : Thread Cert.KernelOf.nD Cert.KernelOf.τ).loc Cert.KernelOf.main_arg1) = m ((c.tc : Thread Cert.KernelOf.nD Cert.KernelOf.τ).loc Cert.KernelOf.main_arg1))
      ∧ r.2.sem = fun _ => 0)

def quiescent_KernelOfIdeal [hKernelOfIdeal : Cert.KernelOfIdeal.Facts] : Prop :=
  ∀ (m : (ℓ : Loc Cert.KernelOfIdeal.nD Cert.KernelOfIdeal.τ Cert.KernelOfIdeal.sig) → Buf (Elt Ideal) ℓ) (g : Dev Cert.KernelOfIdeal.nD → PrngReg), Pre_KernelOfIdeal m →
    θ_run (Cert.KernelOfIdeal.defs (F := Ideal)) (onTc (τ := Cert.KernelOfIdeal.τ) (Cert.KernelOfIdeal.main (F := Ideal))) ⟨m, fun _ => 0, g⟩ (fun r => (∀ c : Dev Cert.KernelOfIdeal.nD,
      r.2.mem ((c.tc : Thread Cert.KernelOfIdeal.nD Cert.KernelOfIdeal.τ).loc Cert.KernelOfIdeal.main_arg0) = m ((c.tc : Thread Cert.KernelOfIdeal.nD Cert.KernelOfIdeal.τ).loc Cert.KernelOfIdeal.main_arg0)
      ∧ r.2.mem ((c.tc : Thread Cert.KernelOfIdeal.nD Cert.KernelOfIdeal.τ).loc Cert.KernelOfIdeal.main_arg1) = m ((c.tc : Thread Cert.KernelOfIdeal.nD Cert.KernelOfIdeal.τ).loc Cert.KernelOfIdeal.main_arg1))
      ∧ r.2.sem = fun _ => 0)

def quiescent_ReferenceOfIdeal [hReferenceOfIdeal : Cert.ReferenceOfIdeal.Facts] : Prop :=
  ∀ (m : (ℓ : Loc Cert.ReferenceOfIdeal.nD Cert.ReferenceOfIdeal.τ Cert.ReferenceOfIdeal.sig) → Buf (Elt Ideal) ℓ) (g : Dev Cert.ReferenceOfIdeal.nD → PrngReg), Pre_ReferenceOfIdeal m →
    θ_run (Cert.ReferenceOfIdeal.defs (F := Ideal)) (onTc (τ := Cert.ReferenceOfIdeal.τ) (Cert.ReferenceOfIdeal.main (F := Ideal))) ⟨m, fun _ => 0, g⟩ (fun r => (∀ c : Dev Cert.ReferenceOfIdeal.nD,
      r.2.mem ((c.tc : Thread Cert.ReferenceOfIdeal.nD Cert.ReferenceOfIdeal.τ).loc Cert.ReferenceOfIdeal.main_arg0) = m ((c.tc : Thread Cert.ReferenceOfIdeal.nD Cert.ReferenceOfIdeal.τ).loc Cert.ReferenceOfIdeal.main_arg0)
      ∧ r.2.mem ((c.tc : Thread Cert.ReferenceOfIdeal.nD Cert.ReferenceOfIdeal.τ).loc Cert.ReferenceOfIdeal.main_arg1) = m ((c.tc : Thread Cert.ReferenceOfIdeal.nD Cert.ReferenceOfIdeal.τ).loc Cert.ReferenceOfIdeal.main_arg1))
      ∧ r.2.sem = fun _ => 0)

def quiescent_KernelPdx [hKernelPdx : Cert.KernelPdx.Facts] : Prop :=
  ∀ (m : (ℓ : Loc Cert.KernelPdx.nD Cert.KernelPdx.τ Cert.KernelPdx.sig) → Buf (Elt Bits) ℓ) (g : Dev Cert.KernelPdx.nD → PrngReg), Pre_KernelPdx m →
    θ_run (Cert.KernelPdx.defs (F := Bits)) (onTc (τ := Cert.KernelPdx.τ) (Cert.KernelPdx.main (F := Bits))) ⟨m, fun _ => 0, g⟩ (fun r => (∀ c : Dev Cert.KernelPdx.nD,
      r.2.mem ((c.tc : Thread Cert.KernelPdx.nD Cert.KernelPdx.τ).loc Cert.KernelPdx.main_arg0) = m ((c.tc : Thread Cert.KernelPdx.nD Cert.KernelPdx.τ).loc Cert.KernelPdx.main_arg0)
      ∧ r.2.mem ((c.tc : Thread Cert.KernelPdx.nD Cert.KernelPdx.τ).loc Cert.KernelPdx.main_arg1) = m ((c.tc : Thread Cert.KernelPdx.nD Cert.KernelPdx.τ).loc Cert.KernelPdx.main_arg1))
      ∧ r.2.sem = fun _ => 0)

def quiescent_KernelPdxIdeal [hKernelPdxIdeal : Cert.KernelPdxIdeal.Facts] : Prop :=
  ∀ (m : (ℓ : Loc Cert.KernelPdxIdeal.nD Cert.KernelPdxIdeal.τ Cert.KernelPdxIdeal.sig) → Buf (Elt Ideal) ℓ) (g : Dev Cert.KernelPdxIdeal.nD → PrngReg), Pre_KernelPdxIdeal m →
    θ_run (Cert.KernelPdxIdeal.defs (F := Ideal)) (onTc (τ := Cert.KernelPdxIdeal.τ) (Cert.KernelPdxIdeal.main (F := Ideal))) ⟨m, fun _ => 0, g⟩ (fun r => (∀ c : Dev Cert.KernelPdxIdeal.nD,
      r.2.mem ((c.tc : Thread Cert.KernelPdxIdeal.nD Cert.KernelPdxIdeal.τ).loc Cert.KernelPdxIdeal.main_arg0) = m ((c.tc : Thread Cert.KernelPdxIdeal.nD Cert.KernelPdxIdeal.τ).loc Cert.KernelPdxIdeal.main_arg0)
      ∧ r.2.mem ((c.tc : Thread Cert.KernelPdxIdeal.nD Cert.KernelPdxIdeal.τ).loc Cert.KernelPdxIdeal.main_arg1) = m ((c.tc : Thread Cert.KernelPdxIdeal.nD Cert.KernelPdxIdeal.τ).loc Cert.KernelPdxIdeal.main_arg1))
      ∧ r.2.sem = fun _ => 0)

def quiescent_ReferencePdxIdeal [hReferencePdxIdeal : Cert.ReferencePdxIdeal.Facts] : Prop :=
  ∀ (m : (ℓ : Loc Cert.ReferencePdxIdeal.nD Cert.ReferencePdxIdeal.τ Cert.ReferencePdxIdeal.sig) → Buf (Elt Ideal) ℓ) (g : Dev Cert.ReferencePdxIdeal.nD → PrngReg), Pre_ReferencePdxIdeal m →
    θ_run (Cert.ReferencePdxIdeal.defs (F := Ideal)) (onTc (τ := Cert.ReferencePdxIdeal.τ) (Cert.ReferencePdxIdeal.main (F := Ideal))) ⟨m, fun _ => 0, g⟩ (fun r => (∀ c : Dev Cert.ReferencePdxIdeal.nD,
      r.2.mem ((c.tc : Thread Cert.ReferencePdxIdeal.nD Cert.ReferencePdxIdeal.τ).loc Cert.ReferencePdxIdeal.main_arg0) = m ((c.tc : Thread Cert.ReferencePdxIdeal.nD Cert.ReferencePdxIdeal.τ).loc Cert.ReferencePdxIdeal.main_arg0)
      ∧ r.2.mem ((c.tc : Thread Cert.ReferencePdxIdeal.nD Cert.ReferencePdxIdeal.τ).loc Cert.ReferencePdxIdeal.main_arg1) = m ((c.tc : Thread Cert.ReferencePdxIdeal.nD Cert.ReferencePdxIdeal.τ).loc Cert.ReferencePdxIdeal.main_arg1))
      ∧ r.2.sem = fun _ => 0)

def quiescent_KernelPdw [hKernelPdw : Cert.KernelPdw.Facts] : Prop :=
  ∀ (m : (ℓ : Loc Cert.KernelPdw.nD Cert.KernelPdw.τ Cert.KernelPdw.sig) → Buf (Elt Bits) ℓ) (g : Dev Cert.KernelPdw.nD → PrngReg), Pre_KernelPdw m →
    θ_run (Cert.KernelPdw.defs (F := Bits)) (onTc (τ := Cert.KernelPdw.τ) (Cert.KernelPdw.main (F := Bits))) ⟨m, fun _ => 0, g⟩ (fun r => (∀ c : Dev Cert.KernelPdw.nD,
      r.2.mem ((c.tc : Thread Cert.KernelPdw.nD Cert.KernelPdw.τ).loc Cert.KernelPdw.main_arg0) = m ((c.tc : Thread Cert.KernelPdw.nD Cert.KernelPdw.τ).loc Cert.KernelPdw.main_arg0)
      ∧ r.2.mem ((c.tc : Thread Cert.KernelPdw.nD Cert.KernelPdw.τ).loc Cert.KernelPdw.main_arg1) = m ((c.tc : Thread Cert.KernelPdw.nD Cert.KernelPdw.τ).loc Cert.KernelPdw.main_arg1))
      ∧ r.2.sem = fun _ => 0)

def quiescent_KernelPdwIdeal [hKernelPdwIdeal : Cert.KernelPdwIdeal.Facts] : Prop :=
  ∀ (m : (ℓ : Loc Cert.KernelPdwIdeal.nD Cert.KernelPdwIdeal.τ Cert.KernelPdwIdeal.sig) → Buf (Elt Ideal) ℓ) (g : Dev Cert.KernelPdwIdeal.nD → PrngReg), Pre_KernelPdwIdeal m →
    θ_run (Cert.KernelPdwIdeal.defs (F := Ideal)) (onTc (τ := Cert.KernelPdwIdeal.τ) (Cert.KernelPdwIdeal.main (F := Ideal))) ⟨m, fun _ => 0, g⟩ (fun r => (∀ c : Dev Cert.KernelPdwIdeal.nD,
      r.2.mem ((c.tc : Thread Cert.KernelPdwIdeal.nD Cert.KernelPdwIdeal.τ).loc Cert.KernelPdwIdeal.main_arg0) = m ((c.tc : Thread Cert.KernelPdwIdeal.nD Cert.KernelPdwIdeal.τ).loc Cert.KernelPdwIdeal.main_arg0)
      ∧ r.2.mem ((c.tc : Thread Cert.KernelPdwIdeal.nD Cert.KernelPdwIdeal.τ).loc Cert.KernelPdwIdeal.main_arg1) = m ((c.tc : Thread Cert.KernelPdwIdeal.nD Cert.KernelPdwIdeal.τ).loc Cert.KernelPdwIdeal.main_arg1))
      ∧ r.2.sem = fun _ => 0)

def quiescent_ReferencePdwIdeal [hReferencePdwIdeal : Cert.ReferencePdwIdeal.Facts] : Prop :=
  ∀ (m : (ℓ : Loc Cert.ReferencePdwIdeal.nD Cert.ReferencePdwIdeal.τ Cert.ReferencePdwIdeal.sig) → Buf (Elt Ideal) ℓ) (g : Dev Cert.ReferencePdwIdeal.nD → PrngReg), Pre_ReferencePdwIdeal m →
    θ_run (Cert.ReferencePdwIdeal.defs (F := Ideal)) (onTc (τ := Cert.ReferencePdwIdeal.τ) (Cert.ReferencePdwIdeal.main (F := Ideal))) ⟨m, fun _ => 0, g⟩ (fun r => (∀ c : Dev Cert.ReferencePdwIdeal.nD,
      r.2.mem ((c.tc : Thread Cert.ReferencePdwIdeal.nD Cert.ReferencePdwIdeal.τ).loc Cert.ReferencePdwIdeal.main_arg0) = m ((c.tc : Thread Cert.ReferencePdwIdeal.nD Cert.ReferencePdwIdeal.τ).loc Cert.ReferencePdwIdeal.main_arg0)
      ∧ r.2.mem ((c.tc : Thread Cert.ReferencePdwIdeal.nD Cert.ReferencePdwIdeal.τ).loc Cert.ReferencePdwIdeal.main_arg1) = m ((c.tc : Thread Cert.ReferencePdwIdeal.nD Cert.ReferencePdwIdeal.τ).loc Cert.ReferencePdwIdeal.main_arg1))
      ∧ r.2.sem = fun _ => 0)

def quiescent_KernelPf [hKernelPf : Cert.KernelPf.Facts] : Prop :=
  ∀ (m : (ℓ : Loc Cert.KernelPf.nD Cert.KernelPf.τ Cert.KernelPf.sig) → Buf (Elt Bits) ℓ) (g : Dev Cert.KernelPf.nD → PrngReg), Pre_KernelPf m →
    θ_run (Cert.KernelPf.defs (F := Bits)) (onTc (τ := Cert.KernelPf.τ) (Cert.KernelPf.main (F := Bits))) ⟨m, fun _ => 0, g⟩ (fun r => (∀ c : Dev Cert.KernelPf.nD,
      r.2.mem ((c.tc : Thread Cert.KernelPf.nD Cert.KernelPf.τ).loc Cert.KernelPf.main_arg0) = m ((c.tc : Thread Cert.KernelPf.nD Cert.KernelPf.τ).loc Cert.KernelPf.main_arg0)
      ∧ r.2.mem ((c.tc : Thread Cert.KernelPf.nD Cert.KernelPf.τ).loc Cert.KernelPf.main_arg1) = m ((c.tc : Thread Cert.KernelPf.nD Cert.KernelPf.τ).loc Cert.KernelPf.main_arg1))
      ∧ r.2.sem = fun _ => 0)

def quiescent_KernelPfIdeal [hKernelPfIdeal : Cert.KernelPfIdeal.Facts] : Prop :=
  ∀ (m : (ℓ : Loc Cert.KernelPfIdeal.nD Cert.KernelPfIdeal.τ Cert.KernelPfIdeal.sig) → Buf (Elt Ideal) ℓ) (g : Dev Cert.KernelPfIdeal.nD → PrngReg), Pre_KernelPfIdeal m →
    θ_run (Cert.KernelPfIdeal.defs (F := Ideal)) (onTc (τ := Cert.KernelPfIdeal.τ) (Cert.KernelPfIdeal.main (F := Ideal))) ⟨m, fun _ => 0, g⟩ (fun r => (∀ c : Dev Cert.KernelPfIdeal.nD,
      r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
      ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1))
      ∧ r.2.sem = fun _ => 0)

def quiescent_ReferencePfIdeal [hReferencePfIdeal : Cert.ReferencePfIdeal.Facts] : Prop :=
  ∀ (m : (ℓ : Loc Cert.ReferencePfIdeal.nD Cert.ReferencePfIdeal.τ Cert.ReferencePfIdeal.sig) → Buf (Elt Ideal) ℓ) (g : Dev Cert.ReferencePfIdeal.nD → PrngReg), Pre_ReferencePfIdeal m →
    θ_run (Cert.ReferencePfIdeal.defs (F := Ideal)) (onTc (τ := Cert.ReferencePfIdeal.τ) (Cert.ReferencePfIdeal.main (F := Ideal))) ⟨m, fun _ => 0, g⟩ (fun r => (∀ c : Dev Cert.ReferencePfIdeal.nD,
      r.2.mem ((c.tc : Thread Cert.ReferencePfIdeal.nD Cert.ReferencePfIdeal.τ).loc Cert.ReferencePfIdeal.main_arg0) = m ((c.tc : Thread Cert.ReferencePfIdeal.nD Cert.ReferencePfIdeal.τ).loc Cert.ReferencePfIdeal.main_arg0)
      ∧ r.2.mem ((c.tc : Thread Cert.ReferencePfIdeal.nD Cert.ReferencePfIdeal.τ).loc Cert.ReferencePfIdeal.main_arg1) = m ((c.tc : Thread Cert.ReferencePfIdeal.nD Cert.ReferencePfIdeal.τ).loc Cert.ReferencePfIdeal.main_arg1))
      ∧ r.2.sem = fun _ => 0)

def quiescent_KernelUdx [hKernelUdx : Cert.KernelUdx.Facts] : Prop :=
  ∀ (m : (ℓ : Loc Cert.KernelUdx.nD Cert.KernelUdx.τ Cert.KernelUdx.sig) → Buf (Elt Bits) ℓ) (g : Dev Cert.KernelUdx.nD → PrngReg), Pre_KernelUdx m →
    θ_run (Cert.KernelUdx.defs (F := Bits)) (onTc (τ := Cert.KernelUdx.τ) (Cert.KernelUdx.main (F := Bits))) ⟨m, fun _ => 0, g⟩ (fun r => (∀ c : Dev Cert.KernelUdx.nD,
      r.2.mem ((c.tc : Thread Cert.KernelUdx.nD Cert.KernelUdx.τ).loc Cert.KernelUdx.main_arg0) = m ((c.tc : Thread Cert.KernelUdx.nD Cert.KernelUdx.τ).loc Cert.KernelUdx.main_arg0)
      ∧ r.2.mem ((c.tc : Thread Cert.KernelUdx.nD Cert.KernelUdx.τ).loc Cert.KernelUdx.main_arg1) = m ((c.tc : Thread Cert.KernelUdx.nD Cert.KernelUdx.τ).loc Cert.KernelUdx.main_arg1))
      ∧ r.2.sem = fun _ => 0)

def quiescent_KernelUdxIdeal [hKernelUdxIdeal : Cert.KernelUdxIdeal.Facts] : Prop :=
  ∀ (m : (ℓ : Loc Cert.KernelUdxIdeal.nD Cert.KernelUdxIdeal.τ Cert.KernelUdxIdeal.sig) → Buf (Elt Ideal) ℓ) (g : Dev Cert.KernelUdxIdeal.nD → PrngReg), Pre_KernelUdxIdeal m →
    θ_run (Cert.KernelUdxIdeal.defs (F := Ideal)) (onTc (τ := Cert.KernelUdxIdeal.τ) (Cert.KernelUdxIdeal.main (F := Ideal))) ⟨m, fun _ => 0, g⟩ (fun r => (∀ c : Dev Cert.KernelUdxIdeal.nD,
      r.2.mem ((c.tc : Thread Cert.KernelUdxIdeal.nD Cert.KernelUdxIdeal.τ).loc Cert.KernelUdxIdeal.main_arg0) = m ((c.tc : Thread Cert.KernelUdxIdeal.nD Cert.KernelUdxIdeal.τ).loc Cert.KernelUdxIdeal.main_arg0)
      ∧ r.2.mem ((c.tc : Thread Cert.KernelUdxIdeal.nD Cert.KernelUdxIdeal.τ).loc Cert.KernelUdxIdeal.main_arg1) = m ((c.tc : Thread Cert.KernelUdxIdeal.nD Cert.KernelUdxIdeal.τ).loc Cert.KernelUdxIdeal.main_arg1))
      ∧ r.2.sem = fun _ => 0)

def quiescent_ReferenceUdxIdeal [hReferenceUdxIdeal : Cert.ReferenceUdxIdeal.Facts] : Prop :=
  ∀ (m : (ℓ : Loc Cert.ReferenceUdxIdeal.nD Cert.ReferenceUdxIdeal.τ Cert.ReferenceUdxIdeal.sig) → Buf (Elt Ideal) ℓ) (g : Dev Cert.ReferenceUdxIdeal.nD → PrngReg), Pre_ReferenceUdxIdeal m →
    θ_run (Cert.ReferenceUdxIdeal.defs (F := Ideal)) (onTc (τ := Cert.ReferenceUdxIdeal.τ) (Cert.ReferenceUdxIdeal.main (F := Ideal))) ⟨m, fun _ => 0, g⟩ (fun r => (∀ c : Dev Cert.ReferenceUdxIdeal.nD,
      r.2.mem ((c.tc : Thread Cert.ReferenceUdxIdeal.nD Cert.ReferenceUdxIdeal.τ).loc Cert.ReferenceUdxIdeal.main_arg0) = m ((c.tc : Thread Cert.ReferenceUdxIdeal.nD Cert.ReferenceUdxIdeal.τ).loc Cert.ReferenceUdxIdeal.main_arg0)
      ∧ r.2.mem ((c.tc : Thread Cert.ReferenceUdxIdeal.nD Cert.ReferenceUdxIdeal.τ).loc Cert.ReferenceUdxIdeal.main_arg1) = m ((c.tc : Thread Cert.ReferenceUdxIdeal.nD Cert.ReferenceUdxIdeal.τ).loc Cert.ReferenceUdxIdeal.main_arg1))
      ∧ r.2.sem = fun _ => 0)

def quiescent_KernelUdw [hKernelUdw : Cert.KernelUdw.Facts] : Prop :=
  ∀ (m : (ℓ : Loc Cert.KernelUdw.nD Cert.KernelUdw.τ Cert.KernelUdw.sig) → Buf (Elt Bits) ℓ) (g : Dev Cert.KernelUdw.nD → PrngReg), Pre_KernelUdw m →
    θ_run (Cert.KernelUdw.defs (F := Bits)) (onTc (τ := Cert.KernelUdw.τ) (Cert.KernelUdw.main (F := Bits))) ⟨m, fun _ => 0, g⟩ (fun r => (∀ c : Dev Cert.KernelUdw.nD,
      r.2.mem ((c.tc : Thread Cert.KernelUdw.nD Cert.KernelUdw.τ).loc Cert.KernelUdw.main_arg0) = m ((c.tc : Thread Cert.KernelUdw.nD Cert.KernelUdw.τ).loc Cert.KernelUdw.main_arg0)
      ∧ r.2.mem ((c.tc : Thread Cert.KernelUdw.nD Cert.KernelUdw.τ).loc Cert.KernelUdw.main_arg1) = m ((c.tc : Thread Cert.KernelUdw.nD Cert.KernelUdw.τ).loc Cert.KernelUdw.main_arg1))
      ∧ r.2.sem = fun _ => 0)

def quiescent_KernelUdwIdeal [hKernelUdwIdeal : Cert.KernelUdwIdeal.Facts] : Prop :=
  ∀ (m : (ℓ : Loc Cert.KernelUdwIdeal.nD Cert.KernelUdwIdeal.τ Cert.KernelUdwIdeal.sig) → Buf (Elt Ideal) ℓ) (g : Dev Cert.KernelUdwIdeal.nD → PrngReg), Pre_KernelUdwIdeal m →
    θ_run (Cert.KernelUdwIdeal.defs (F := Ideal)) (onTc (τ := Cert.KernelUdwIdeal.τ) (Cert.KernelUdwIdeal.main (F := Ideal))) ⟨m, fun _ => 0, g⟩ (fun r => (∀ c : Dev Cert.KernelUdwIdeal.nD,
      r.2.mem ((c.tc : Thread Cert.KernelUdwIdeal.nD Cert.KernelUdwIdeal.τ).loc Cert.KernelUdwIdeal.main_arg0) = m ((c.tc : Thread Cert.KernelUdwIdeal.nD Cert.KernelUdwIdeal.τ).loc Cert.KernelUdwIdeal.main_arg0)
      ∧ r.2.mem ((c.tc : Thread Cert.KernelUdwIdeal.nD Cert.KernelUdwIdeal.τ).loc Cert.KernelUdwIdeal.main_arg1) = m ((c.tc : Thread Cert.KernelUdwIdeal.nD Cert.KernelUdwIdeal.τ).loc Cert.KernelUdwIdeal.main_arg1))
      ∧ r.2.sem = fun _ => 0)

def quiescent_ReferenceUdwIdeal [hReferenceUdwIdeal : Cert.ReferenceUdwIdeal.Facts] : Prop :=
  ∀ (m : (ℓ : Loc Cert.ReferenceUdwIdeal.nD Cert.ReferenceUdwIdeal.τ Cert.ReferenceUdwIdeal.sig) → Buf (Elt Ideal) ℓ) (g : Dev Cert.ReferenceUdwIdeal.nD → PrngReg), Pre_ReferenceUdwIdeal m →
    θ_run (Cert.ReferenceUdwIdeal.defs (F := Ideal)) (onTc (τ := Cert.ReferenceUdwIdeal.τ) (Cert.ReferenceUdwIdeal.main (F := Ideal))) ⟨m, fun _ => 0, g⟩ (fun r => (∀ c : Dev Cert.ReferenceUdwIdeal.nD,
      r.2.mem ((c.tc : Thread Cert.ReferenceUdwIdeal.nD Cert.ReferenceUdwIdeal.τ).loc Cert.ReferenceUdwIdeal.main_arg0) = m ((c.tc : Thread Cert.ReferenceUdwIdeal.nD Cert.ReferenceUdwIdeal.τ).loc Cert.ReferenceUdwIdeal.main_arg0)
      ∧ r.2.mem ((c.tc : Thread Cert.ReferenceUdwIdeal.nD Cert.ReferenceUdwIdeal.τ).loc Cert.ReferenceUdwIdeal.main_arg1) = m ((c.tc : Thread Cert.ReferenceUdwIdeal.nD Cert.ReferenceUdwIdeal.τ).loc Cert.ReferenceUdwIdeal.main_arg1))
      ∧ r.2.sem = fun _ => 0)

def quiescent_KernelUf [hKernelUf : Cert.KernelUf.Facts] : Prop :=
  ∀ (m : (ℓ : Loc Cert.KernelUf.nD Cert.KernelUf.τ Cert.KernelUf.sig) → Buf (Elt Bits) ℓ) (g : Dev Cert.KernelUf.nD → PrngReg), Pre_KernelUf m →
    θ_run (Cert.KernelUf.defs (F := Bits)) (onTc (τ := Cert.KernelUf.τ) (Cert.KernelUf.main (F := Bits))) ⟨m, fun _ => 0, g⟩ (fun r => (∀ c : Dev Cert.KernelUf.nD,
      r.2.mem ((c.tc : Thread Cert.KernelUf.nD Cert.KernelUf.τ).loc Cert.KernelUf.main_arg0) = m ((c.tc : Thread Cert.KernelUf.nD Cert.KernelUf.τ).loc Cert.KernelUf.main_arg0)
      ∧ r.2.mem ((c.tc : Thread Cert.KernelUf.nD Cert.KernelUf.τ).loc Cert.KernelUf.main_arg1) = m ((c.tc : Thread Cert.KernelUf.nD Cert.KernelUf.τ).loc Cert.KernelUf.main_arg1))
      ∧ r.2.sem = fun _ => 0)

def quiescent_KernelUfIdeal [hKernelUfIdeal : Cert.KernelUfIdeal.Facts] : Prop :=
  ∀ (m : (ℓ : Loc Cert.KernelUfIdeal.nD Cert.KernelUfIdeal.τ Cert.KernelUfIdeal.sig) → Buf (Elt Ideal) ℓ) (g : Dev Cert.KernelUfIdeal.nD → PrngReg), Pre_KernelUfIdeal m →
    θ_run (Cert.KernelUfIdeal.defs (F := Ideal)) (onTc (τ := Cert.KernelUfIdeal.τ) (Cert.KernelUfIdeal.main (F := Ideal))) ⟨m, fun _ => 0, g⟩ (fun r => (∀ c : Dev Cert.KernelUfIdeal.nD,
      r.2.mem ((c.tc : Thread Cert.KernelUfIdeal.nD Cert.KernelUfIdeal.τ).loc Cert.KernelUfIdeal.main_arg0) = m ((c.tc : Thread Cert.KernelUfIdeal.nD Cert.KernelUfIdeal.τ).loc Cert.KernelUfIdeal.main_arg0)
      ∧ r.2.mem ((c.tc : Thread Cert.KernelUfIdeal.nD Cert.KernelUfIdeal.τ).loc Cert.KernelUfIdeal.main_arg1) = m ((c.tc : Thread Cert.KernelUfIdeal.nD Cert.KernelUfIdeal.τ).loc Cert.KernelUfIdeal.main_arg1))
      ∧ r.2.sem = fun _ => 0)

def quiescent_ReferenceUfIdeal [hReferenceUfIdeal : Cert.ReferenceUfIdeal.Facts] : Prop :=
  ∀ (m : (ℓ : Loc Cert.ReferenceUfIdeal.nD Cert.ReferenceUfIdeal.τ Cert.ReferenceUfIdeal.sig) → Buf (Elt Ideal) ℓ) (g : Dev Cert.ReferenceUfIdeal.nD → PrngReg), Pre_ReferenceUfIdeal m →
    θ_run (Cert.ReferenceUfIdeal.defs (F := Ideal)) (onTc (τ := Cert.ReferenceUfIdeal.τ) (Cert.ReferenceUfIdeal.main (F := Ideal))) ⟨m, fun _ => 0, g⟩ (fun r => (∀ c : Dev Cert.ReferenceUfIdeal.nD,
      r.2.mem ((c.tc : Thread Cert.ReferenceUfIdeal.nD Cert.ReferenceUfIdeal.τ).loc Cert.ReferenceUfIdeal.main_arg0) = m ((c.tc : Thread Cert.ReferenceUfIdeal.nD Cert.ReferenceUfIdeal.τ).loc Cert.ReferenceUfIdeal.main_arg0)
      ∧ r.2.mem ((c.tc : Thread Cert.ReferenceUfIdeal.nD Cert.ReferenceUfIdeal.τ).loc Cert.ReferenceUfIdeal.main_arg1) = m ((c.tc : Thread Cert.ReferenceUfIdeal.nD Cert.ReferenceUfIdeal.τ).loc Cert.ReferenceUfIdeal.main_arg1))
      ∧ r.2.sem = fun _ => 0)

def quiescent_KernelVdx [hKernelVdx : Cert.KernelVdx.Facts] : Prop :=
  ∀ (m : (ℓ : Loc Cert.KernelVdx.nD Cert.KernelVdx.τ Cert.KernelVdx.sig) → Buf (Elt Bits) ℓ) (g : Dev Cert.KernelVdx.nD → PrngReg), Pre_KernelVdx m →
    θ_run (Cert.KernelVdx.defs (F := Bits)) (onTc (τ := Cert.KernelVdx.τ) (Cert.KernelVdx.main (F := Bits))) ⟨m, fun _ => 0, g⟩ (fun r => (∀ c : Dev Cert.KernelVdx.nD,
      r.2.mem ((c.tc : Thread Cert.KernelVdx.nD Cert.KernelVdx.τ).loc Cert.KernelVdx.main_arg0) = m ((c.tc : Thread Cert.KernelVdx.nD Cert.KernelVdx.τ).loc Cert.KernelVdx.main_arg0)
      ∧ r.2.mem ((c.tc : Thread Cert.KernelVdx.nD Cert.KernelVdx.τ).loc Cert.KernelVdx.main_arg1) = m ((c.tc : Thread Cert.KernelVdx.nD Cert.KernelVdx.τ).loc Cert.KernelVdx.main_arg1))
      ∧ r.2.sem = fun _ => 0)

def quiescent_KernelVdxIdeal [hKernelVdxIdeal : Cert.KernelVdxIdeal.Facts] : Prop :=
  ∀ (m : (ℓ : Loc Cert.KernelVdxIdeal.nD Cert.KernelVdxIdeal.τ Cert.KernelVdxIdeal.sig) → Buf (Elt Ideal) ℓ) (g : Dev Cert.KernelVdxIdeal.nD → PrngReg), Pre_KernelVdxIdeal m →
    θ_run (Cert.KernelVdxIdeal.defs (F := Ideal)) (onTc (τ := Cert.KernelVdxIdeal.τ) (Cert.KernelVdxIdeal.main (F := Ideal))) ⟨m, fun _ => 0, g⟩ (fun r => (∀ c : Dev Cert.KernelVdxIdeal.nD,
      r.2.mem ((c.tc : Thread Cert.KernelVdxIdeal.nD Cert.KernelVdxIdeal.τ).loc Cert.KernelVdxIdeal.main_arg0) = m ((c.tc : Thread Cert.KernelVdxIdeal.nD Cert.KernelVdxIdeal.τ).loc Cert.KernelVdxIdeal.main_arg0)
      ∧ r.2.mem ((c.tc : Thread Cert.KernelVdxIdeal.nD Cert.KernelVdxIdeal.τ).loc Cert.KernelVdxIdeal.main_arg1) = m ((c.tc : Thread Cert.KernelVdxIdeal.nD Cert.KernelVdxIdeal.τ).loc Cert.KernelVdxIdeal.main_arg1))
      ∧ r.2.sem = fun _ => 0)

def quiescent_ReferenceVdxIdeal [hReferenceVdxIdeal : Cert.ReferenceVdxIdeal.Facts] : Prop :=
  ∀ (m : (ℓ : Loc Cert.ReferenceVdxIdeal.nD Cert.ReferenceVdxIdeal.τ Cert.ReferenceVdxIdeal.sig) → Buf (Elt Ideal) ℓ) (g : Dev Cert.ReferenceVdxIdeal.nD → PrngReg), Pre_ReferenceVdxIdeal m →
    θ_run (Cert.ReferenceVdxIdeal.defs (F := Ideal)) (onTc (τ := Cert.ReferenceVdxIdeal.τ) (Cert.ReferenceVdxIdeal.main (F := Ideal))) ⟨m, fun _ => 0, g⟩ (fun r => (∀ c : Dev Cert.ReferenceVdxIdeal.nD,
      r.2.mem ((c.tc : Thread Cert.ReferenceVdxIdeal.nD Cert.ReferenceVdxIdeal.τ).loc Cert.ReferenceVdxIdeal.main_arg0) = m ((c.tc : Thread Cert.ReferenceVdxIdeal.nD Cert.ReferenceVdxIdeal.τ).loc Cert.ReferenceVdxIdeal.main_arg0)
      ∧ r.2.mem ((c.tc : Thread Cert.ReferenceVdxIdeal.nD Cert.ReferenceVdxIdeal.τ).loc Cert.ReferenceVdxIdeal.main_arg1) = m ((c.tc : Thread Cert.ReferenceVdxIdeal.nD Cert.ReferenceVdxIdeal.τ).loc Cert.ReferenceVdxIdeal.main_arg1))
      ∧ r.2.sem = fun _ => 0)

def quiescent_KernelVdw [hKernelVdw : Cert.KernelVdw.Facts] : Prop :=
  ∀ (m : (ℓ : Loc Cert.KernelVdw.nD Cert.KernelVdw.τ Cert.KernelVdw.sig) → Buf (Elt Bits) ℓ) (g : Dev Cert.KernelVdw.nD → PrngReg), Pre_KernelVdw m →
    θ_run (Cert.KernelVdw.defs (F := Bits)) (onTc (τ := Cert.KernelVdw.τ) (Cert.KernelVdw.main (F := Bits))) ⟨m, fun _ => 0, g⟩ (fun r => (∀ c : Dev Cert.KernelVdw.nD,
      r.2.mem ((c.tc : Thread Cert.KernelVdw.nD Cert.KernelVdw.τ).loc Cert.KernelVdw.main_arg0) = m ((c.tc : Thread Cert.KernelVdw.nD Cert.KernelVdw.τ).loc Cert.KernelVdw.main_arg0)
      ∧ r.2.mem ((c.tc : Thread Cert.KernelVdw.nD Cert.KernelVdw.τ).loc Cert.KernelVdw.main_arg1) = m ((c.tc : Thread Cert.KernelVdw.nD Cert.KernelVdw.τ).loc Cert.KernelVdw.main_arg1))
      ∧ r.2.sem = fun _ => 0)

def quiescent_KernelVdwIdeal [hKernelVdwIdeal : Cert.KernelVdwIdeal.Facts] : Prop :=
  ∀ (m : (ℓ : Loc Cert.KernelVdwIdeal.nD Cert.KernelVdwIdeal.τ Cert.KernelVdwIdeal.sig) → Buf (Elt Ideal) ℓ) (g : Dev Cert.KernelVdwIdeal.nD → PrngReg), Pre_KernelVdwIdeal m →
    θ_run (Cert.KernelVdwIdeal.defs (F := Ideal)) (onTc (τ := Cert.KernelVdwIdeal.τ) (Cert.KernelVdwIdeal.main (F := Ideal))) ⟨m, fun _ => 0, g⟩ (fun r => (∀ c : Dev Cert.KernelVdwIdeal.nD,
      r.2.mem ((c.tc : Thread Cert.KernelVdwIdeal.nD Cert.KernelVdwIdeal.τ).loc Cert.KernelVdwIdeal.main_arg0) = m ((c.tc : Thread Cert.KernelVdwIdeal.nD Cert.KernelVdwIdeal.τ).loc Cert.KernelVdwIdeal.main_arg0)
      ∧ r.2.mem ((c.tc : Thread Cert.KernelVdwIdeal.nD Cert.KernelVdwIdeal.τ).loc Cert.KernelVdwIdeal.main_arg1) = m ((c.tc : Thread Cert.KernelVdwIdeal.nD Cert.KernelVdwIdeal.τ).loc Cert.KernelVdwIdeal.main_arg1))
      ∧ r.2.sem = fun _ => 0)

def quiescent_ReferenceVdwIdeal [hReferenceVdwIdeal : Cert.ReferenceVdwIdeal.Facts] : Prop :=
  ∀ (m : (ℓ : Loc Cert.ReferenceVdwIdeal.nD Cert.ReferenceVdwIdeal.τ Cert.ReferenceVdwIdeal.sig) → Buf (Elt Ideal) ℓ) (g : Dev Cert.ReferenceVdwIdeal.nD → PrngReg), Pre_ReferenceVdwIdeal m →
    θ_run (Cert.ReferenceVdwIdeal.defs (F := Ideal)) (onTc (τ := Cert.ReferenceVdwIdeal.τ) (Cert.ReferenceVdwIdeal.main (F := Ideal))) ⟨m, fun _ => 0, g⟩ (fun r => (∀ c : Dev Cert.ReferenceVdwIdeal.nD,
      r.2.mem ((c.tc : Thread Cert.ReferenceVdwIdeal.nD Cert.ReferenceVdwIdeal.τ).loc Cert.ReferenceVdwIdeal.main_arg0) = m ((c.tc : Thread Cert.ReferenceVdwIdeal.nD Cert.ReferenceVdwIdeal.τ).loc Cert.ReferenceVdwIdeal.main_arg0)
      ∧ r.2.mem ((c.tc : Thread Cert.ReferenceVdwIdeal.nD Cert.ReferenceVdwIdeal.τ).loc Cert.ReferenceVdwIdeal.main_arg1) = m ((c.tc : Thread Cert.ReferenceVdwIdeal.nD Cert.ReferenceVdwIdeal.τ).loc Cert.ReferenceVdwIdeal.main_arg1))
      ∧ r.2.sem = fun _ => 0)

def quiescent_KernelVf [hKernelVf : Cert.KernelVf.Facts] : Prop :=
  ∀ (m : (ℓ : Loc Cert.KernelVf.nD Cert.KernelVf.τ Cert.KernelVf.sig) → Buf (Elt Bits) ℓ) (g : Dev Cert.KernelVf.nD → PrngReg), Pre_KernelVf m →
    θ_run (Cert.KernelVf.defs (F := Bits)) (onTc (τ := Cert.KernelVf.τ) (Cert.KernelVf.main (F := Bits))) ⟨m, fun _ => 0, g⟩ (fun r => (∀ c : Dev Cert.KernelVf.nD,
      r.2.mem ((c.tc : Thread Cert.KernelVf.nD Cert.KernelVf.τ).loc Cert.KernelVf.main_arg0) = m ((c.tc : Thread Cert.KernelVf.nD Cert.KernelVf.τ).loc Cert.KernelVf.main_arg0)
      ∧ r.2.mem ((c.tc : Thread Cert.KernelVf.nD Cert.KernelVf.τ).loc Cert.KernelVf.main_arg1) = m ((c.tc : Thread Cert.KernelVf.nD Cert.KernelVf.τ).loc Cert.KernelVf.main_arg1))
      ∧ r.2.sem = fun _ => 0)

def quiescent_KernelVfIdeal [hKernelVfIdeal : Cert.KernelVfIdeal.Facts] : Prop :=
  ∀ (m : (ℓ : Loc Cert.KernelVfIdeal.nD Cert.KernelVfIdeal.τ Cert.KernelVfIdeal.sig) → Buf (Elt Ideal) ℓ) (g : Dev Cert.KernelVfIdeal.nD → PrngReg), Pre_KernelVfIdeal m →
    θ_run (Cert.KernelVfIdeal.defs (F := Ideal)) (onTc (τ := Cert.KernelVfIdeal.τ) (Cert.KernelVfIdeal.main (F := Ideal))) ⟨m, fun _ => 0, g⟩ (fun r => (∀ c : Dev Cert.KernelVfIdeal.nD,
      r.2.mem ((c.tc : Thread Cert.KernelVfIdeal.nD Cert.KernelVfIdeal.τ).loc Cert.KernelVfIdeal.main_arg0) = m ((c.tc : Thread Cert.KernelVfIdeal.nD Cert.KernelVfIdeal.τ).loc Cert.KernelVfIdeal.main_arg0)
      ∧ r.2.mem ((c.tc : Thread Cert.KernelVfIdeal.nD Cert.KernelVfIdeal.τ).loc Cert.KernelVfIdeal.main_arg1) = m ((c.tc : Thread Cert.KernelVfIdeal.nD Cert.KernelVfIdeal.τ).loc Cert.KernelVfIdeal.main_arg1))
      ∧ r.2.sem = fun _ => 0)

def quiescent_ReferenceVfIdeal [hReferenceVfIdeal : Cert.ReferenceVfIdeal.Facts] : Prop :=
  ∀ (m : (ℓ : Loc Cert.ReferenceVfIdeal.nD Cert.ReferenceVfIdeal.τ Cert.ReferenceVfIdeal.sig) → Buf (Elt Ideal) ℓ) (g : Dev Cert.ReferenceVfIdeal.nD → PrngReg), Pre_ReferenceVfIdeal m →
    θ_run (Cert.ReferenceVfIdeal.defs (F := Ideal)) (onTc (τ := Cert.ReferenceVfIdeal.τ) (Cert.ReferenceVfIdeal.main (F := Ideal))) ⟨m, fun _ => 0, g⟩ (fun r => (∀ c : Dev Cert.ReferenceVfIdeal.nD,
      r.2.mem ((c.tc : Thread Cert.ReferenceVfIdeal.nD Cert.ReferenceVfIdeal.τ).loc Cert.ReferenceVfIdeal.main_arg0) = m ((c.tc : Thread Cert.ReferenceVfIdeal.nD Cert.ReferenceVfIdeal.τ).loc Cert.ReferenceVfIdeal.main_arg0)
      ∧ r.2.mem ((c.tc : Thread Cert.ReferenceVfIdeal.nD Cert.ReferenceVfIdeal.τ).loc Cert.ReferenceVfIdeal.main_arg1) = m ((c.tc : Thread Cert.ReferenceVfIdeal.nD Cert.ReferenceVfIdeal.τ).loc Cert.ReferenceVfIdeal.main_arg1))
      ∧ r.2.sem = fun _ => 0)

def quiescent_KernelIf [hKernelIf : Cert.KernelIf.Facts] : Prop :=
  ∀ (m : (ℓ : Loc Cert.KernelIf.nD Cert.KernelIf.τ Cert.KernelIf.sig) → Buf (Elt Bits) ℓ) (g : Dev Cert.KernelIf.nD → PrngReg), Pre_KernelIf m →
    θ_run (Cert.KernelIf.defs (F := Bits)) (onTc (τ := Cert.KernelIf.τ) (Cert.KernelIf.main (F := Bits))) ⟨m, fun _ => 0, g⟩ (fun r => (∀ c : Dev Cert.KernelIf.nD,
      r.2.mem ((c.tc : Thread Cert.KernelIf.nD Cert.KernelIf.τ).loc Cert.KernelIf.main_arg0) = m ((c.tc : Thread Cert.KernelIf.nD Cert.KernelIf.τ).loc Cert.KernelIf.main_arg0)
      ∧ r.2.mem ((c.tc : Thread Cert.KernelIf.nD Cert.KernelIf.τ).loc Cert.KernelIf.main_arg1) = m ((c.tc : Thread Cert.KernelIf.nD Cert.KernelIf.τ).loc Cert.KernelIf.main_arg1))
      ∧ r.2.sem = fun _ => 0)

def quiescent_KernelIfIdeal [hKernelIfIdeal : Cert.KernelIfIdeal.Facts] : Prop :=
  ∀ (m : (ℓ : Loc Cert.KernelIfIdeal.nD Cert.KernelIfIdeal.τ Cert.KernelIfIdeal.sig) → Buf (Elt Ideal) ℓ) (g : Dev Cert.KernelIfIdeal.nD → PrngReg), Pre_KernelIfIdeal m →
    θ_run (Cert.KernelIfIdeal.defs (F := Ideal)) (onTc (τ := Cert.KernelIfIdeal.τ) (Cert.KernelIfIdeal.main (F := Ideal))) ⟨m, fun _ => 0, g⟩ (fun r => (∀ c : Dev Cert.KernelIfIdeal.nD,
      r.2.mem ((c.tc : Thread Cert.KernelIfIdeal.nD Cert.KernelIfIdeal.τ).loc Cert.KernelIfIdeal.main_arg0) = m ((c.tc : Thread Cert.KernelIfIdeal.nD Cert.KernelIfIdeal.τ).loc Cert.KernelIfIdeal.main_arg0)
      ∧ r.2.mem ((c.tc : Thread Cert.KernelIfIdeal.nD Cert.KernelIfIdeal.τ).loc Cert.KernelIfIdeal.main_arg1) = m ((c.tc : Thread Cert.KernelIfIdeal.nD Cert.KernelIfIdeal.τ).loc Cert.KernelIfIdeal.main_arg1))
      ∧ r.2.sem = fun _ => 0)

def quiescent_ReferenceIfIdeal [hReferenceIfIdeal : Cert.ReferenceIfIdeal.Facts] : Prop :=
  ∀ (m : (ℓ : Loc Cert.ReferenceIfIdeal.nD Cert.ReferenceIfIdeal.τ Cert.ReferenceIfIdeal.sig) → Buf (Elt Ideal) ℓ) (g : Dev Cert.ReferenceIfIdeal.nD → PrngReg), Pre_ReferenceIfIdeal m →
    θ_run (Cert.ReferenceIfIdeal.defs (F := Ideal)) (onTc (τ := Cert.ReferenceIfIdeal.τ) (Cert.ReferenceIfIdeal.main (F := Ideal))) ⟨m, fun _ => 0, g⟩ (fun r => (∀ c : Dev Cert.ReferenceIfIdeal.nD,
      r.2.mem ((c.tc : Thread Cert.ReferenceIfIdeal.nD Cert.ReferenceIfIdeal.τ).loc Cert.ReferenceIfIdeal.main_arg0) = m ((c.tc : Thread Cert.ReferenceIfIdeal.nD Cert.ReferenceIfIdeal.τ).loc Cert.ReferenceIfIdeal.main_arg0)
      ∧ r.2.mem ((c.tc : Thread Cert.ReferenceIfIdeal.nD Cert.ReferenceIfIdeal.τ).loc Cert.ReferenceIfIdeal.main_arg1) = m ((c.tc : Thread Cert.ReferenceIfIdeal.nD Cert.ReferenceIfIdeal.τ).loc Cert.ReferenceIfIdeal.main_arg1))
      ∧ r.2.sem = fun _ => 0)

def quiescent_KernelMf [hKernelMf : Cert.KernelMf.Facts] : Prop :=
  ∀ (m : (ℓ : Loc Cert.KernelMf.nD Cert.KernelMf.τ Cert.KernelMf.sig) → Buf (Elt Bits) ℓ) (g : Dev Cert.KernelMf.nD → PrngReg), Pre_KernelMf m →
    θ_run (Cert.KernelMf.defs (F := Bits)) (onTc (τ := Cert.KernelMf.τ) (Cert.KernelMf.main (F := Bits))) ⟨m, fun _ => 0, g⟩ (fun r => (∀ c : Dev Cert.KernelMf.nD,
      r.2.mem ((c.tc : Thread Cert.KernelMf.nD Cert.KernelMf.τ).loc Cert.KernelMf.main_arg0) = m ((c.tc : Thread Cert.KernelMf.nD Cert.KernelMf.τ).loc Cert.KernelMf.main_arg0)
      ∧ r.2.mem ((c.tc : Thread Cert.KernelMf.nD Cert.KernelMf.τ).loc Cert.KernelMf.main_arg1) = m ((c.tc : Thread Cert.KernelMf.nD Cert.KernelMf.τ).loc Cert.KernelMf.main_arg1))
      ∧ r.2.sem = fun _ => 0)

def quiescent_KernelMfIdeal [hKernelMfIdeal : Cert.KernelMfIdeal.Facts] : Prop :=
  ∀ (m : (ℓ : Loc Cert.KernelMfIdeal.nD Cert.KernelMfIdeal.τ Cert.KernelMfIdeal.sig) → Buf (Elt Ideal) ℓ) (g : Dev Cert.KernelMfIdeal.nD → PrngReg), Pre_KernelMfIdeal m →
    θ_run (Cert.KernelMfIdeal.defs (F := Ideal)) (onTc (τ := Cert.KernelMfIdeal.τ) (Cert.KernelMfIdeal.main (F := Ideal))) ⟨m, fun _ => 0, g⟩ (fun r => (∀ c : Dev Cert.KernelMfIdeal.nD,
      r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
      ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1))
      ∧ r.2.sem = fun _ => 0)

def quiescent_ReferenceMfIdeal [hReferenceMfIdeal : Cert.ReferenceMfIdeal.Facts] : Prop :=
  ∀ (m : (ℓ : Loc Cert.ReferenceMfIdeal.nD Cert.ReferenceMfIdeal.τ Cert.ReferenceMfIdeal.sig) → Buf (Elt Ideal) ℓ) (g : Dev Cert.ReferenceMfIdeal.nD → PrngReg), Pre_ReferenceMfIdeal m →
    θ_run (Cert.ReferenceMfIdeal.defs (F := Ideal)) (onTc (τ := Cert.ReferenceMfIdeal.τ) (Cert.ReferenceMfIdeal.main (F := Ideal))) ⟨m, fun _ => 0, g⟩ (fun r => (∀ c : Dev Cert.ReferenceMfIdeal.nD,
      r.2.mem ((c.tc : Thread Cert.ReferenceMfIdeal.nD Cert.ReferenceMfIdeal.τ).loc Cert.ReferenceMfIdeal.main_arg0) = m ((c.tc : Thread Cert.ReferenceMfIdeal.nD Cert.ReferenceMfIdeal.τ).loc Cert.ReferenceMfIdeal.main_arg0)
      ∧ r.2.mem ((c.tc : Thread Cert.ReferenceMfIdeal.nD Cert.ReferenceMfIdeal.τ).loc Cert.ReferenceMfIdeal.main_arg1) = m ((c.tc : Thread Cert.ReferenceMfIdeal.nD Cert.ReferenceMfIdeal.τ).loc Cert.ReferenceMfIdeal.main_arg1))
      ∧ r.2.sem = fun _ => 0)

def quiescent_KernelBf [hKernelBf : Cert.KernelBf.Facts] : Prop :=
  ∀ (m : (ℓ : Loc Cert.KernelBf.nD Cert.KernelBf.τ Cert.KernelBf.sig) → Buf (Elt Bits) ℓ) (g : Dev Cert.KernelBf.nD → PrngReg), Pre_KernelBf m →
    θ_run (Cert.KernelBf.defs (F := Bits)) (onTc (τ := Cert.KernelBf.τ) (Cert.KernelBf.main (F := Bits))) ⟨m, fun _ => 0, g⟩ (fun r => (∀ c : Dev Cert.KernelBf.nD,
      r.2.mem ((c.tc : Thread Cert.KernelBf.nD Cert.KernelBf.τ).loc Cert.KernelBf.main_arg0) = m ((c.tc : Thread Cert.KernelBf.nD Cert.KernelBf.τ).loc Cert.KernelBf.main_arg0)
      ∧ r.2.mem ((c.tc : Thread Cert.KernelBf.nD Cert.KernelBf.τ).loc Cert.KernelBf.main_arg1) = m ((c.tc : Thread Cert.KernelBf.nD Cert.KernelBf.τ).loc Cert.KernelBf.main_arg1))
      ∧ r.2.sem = fun _ => 0)

def quiescent_KernelBfIdeal [hKernelBfIdeal : Cert.KernelBfIdeal.Facts] : Prop :=
  ∀ (m : (ℓ : Loc Cert.KernelBfIdeal.nD Cert.KernelBfIdeal.τ Cert.KernelBfIdeal.sig) → Buf (Elt Ideal) ℓ) (g : Dev Cert.KernelBfIdeal.nD → PrngReg), Pre_KernelBfIdeal m →
    θ_run (Cert.KernelBfIdeal.defs (F := Ideal)) (onTc (τ := Cert.KernelBfIdeal.τ) (Cert.KernelBfIdeal.main (F := Ideal))) ⟨m, fun _ => 0, g⟩ (fun r => (∀ c : Dev Cert.KernelBfIdeal.nD,
      r.2.mem ((c.tc : Thread Cert.KernelBfIdeal.nD Cert.KernelBfIdeal.τ).loc Cert.KernelBfIdeal.main_arg0) = m ((c.tc : Thread Cert.KernelBfIdeal.nD Cert.KernelBfIdeal.τ).loc Cert.KernelBfIdeal.main_arg0)
      ∧ r.2.mem ((c.tc : Thread Cert.KernelBfIdeal.nD Cert.KernelBfIdeal.τ).loc Cert.KernelBfIdeal.main_arg1) = m ((c.tc : Thread Cert.KernelBfIdeal.nD Cert.KernelBfIdeal.τ).loc Cert.KernelBfIdeal.main_arg1))
      ∧ r.2.sem = fun _ => 0)

def quiescent_ReferenceBfIdeal [hReferenceBfIdeal : Cert.ReferenceBfIdeal.Facts] : Prop :=
  ∀ (m : (ℓ : Loc Cert.ReferenceBfIdeal.nD Cert.ReferenceBfIdeal.τ Cert.ReferenceBfIdeal.sig) → Buf (Elt Ideal) ℓ) (g : Dev Cert.ReferenceBfIdeal.nD → PrngReg), Pre_ReferenceBfIdeal m →
    θ_run (Cert.ReferenceBfIdeal.defs (F := Ideal)) (onTc (τ := Cert.ReferenceBfIdeal.τ) (Cert.ReferenceBfIdeal.main (F := Ideal))) ⟨m, fun _ => 0, g⟩ (fun r => (∀ c : Dev Cert.ReferenceBfIdeal.nD,
      r.2.mem ((c.tc : Thread Cert.ReferenceBfIdeal.nD Cert.ReferenceBfIdeal.τ).loc Cert.ReferenceBfIdeal.main_arg0) = m ((c.tc : Thread Cert.ReferenceBfIdeal.nD Cert.ReferenceBfIdeal.τ).loc Cert.ReferenceBfIdeal.main_arg0)
      ∧ r.2.mem ((c.tc : Thread Cert.ReferenceBfIdeal.nD Cert.ReferenceBfIdeal.τ).loc Cert.ReferenceBfIdeal.main_arg1) = m ((c.tc : Thread Cert.ReferenceBfIdeal.nD Cert.ReferenceBfIdeal.τ).loc Cert.ReferenceBfIdeal.main_arg1))
      ∧ r.2.sem = fun _ => 0)

def quiescent_KernelGf [hKernelGf : Cert.KernelGf.Facts] : Prop :=
  ∀ (m : (ℓ : Loc Cert.KernelGf.nD Cert.KernelGf.τ Cert.KernelGf.sig) → Buf (Elt Bits) ℓ) (g : Dev Cert.KernelGf.nD → PrngReg), Pre_KernelGf m →
    θ_run (Cert.KernelGf.defs (F := Bits)) (onTc (τ := Cert.KernelGf.τ) (Cert.KernelGf.main (F := Bits))) ⟨m, fun _ => 0, g⟩ (fun r => (∀ c : Dev Cert.KernelGf.nD,
      r.2.mem ((c.tc : Thread Cert.KernelGf.nD Cert.KernelGf.τ).loc Cert.KernelGf.main_arg0) = m ((c.tc : Thread Cert.KernelGf.nD Cert.KernelGf.τ).loc Cert.KernelGf.main_arg0)
      ∧ r.2.mem ((c.tc : Thread Cert.KernelGf.nD Cert.KernelGf.τ).loc Cert.KernelGf.main_arg1) = m ((c.tc : Thread Cert.KernelGf.nD Cert.KernelGf.τ).loc Cert.KernelGf.main_arg1)
      ∧ r.2.mem ((c.tc : Thread Cert.KernelGf.nD Cert.KernelGf.τ).loc Cert.KernelGf.main_arg2) = m ((c.tc : Thread Cert.KernelGf.nD Cert.KernelGf.τ).loc Cert.KernelGf.main_arg2))
      ∧ r.2.sem = fun _ => 0)

def quiescent_KernelGfIdeal [hKernelGfIdeal : Cert.KernelGfIdeal.Facts] : Prop :=
  ∀ (m : (ℓ : Loc Cert.KernelGfIdeal.nD Cert.KernelGfIdeal.τ Cert.KernelGfIdeal.sig) → Buf (Elt Ideal) ℓ) (g : Dev Cert.KernelGfIdeal.nD → PrngReg), Pre_KernelGfIdeal m →
    θ_run (Cert.KernelGfIdeal.defs (F := Ideal)) (onTc (τ := Cert.KernelGfIdeal.τ) (Cert.KernelGfIdeal.main (F := Ideal))) ⟨m, fun _ => 0, g⟩ (fun r => (∀ c : Dev Cert.KernelGfIdeal.nD,
      r.2.mem ((c.tc : Thread Cert.KernelGfIdeal.nD Cert.KernelGfIdeal.τ).loc Cert.KernelGfIdeal.main_arg0) = m ((c.tc : Thread Cert.KernelGfIdeal.nD Cert.KernelGfIdeal.τ).loc Cert.KernelGfIdeal.main_arg0)
      ∧ r.2.mem ((c.tc : Thread Cert.KernelGfIdeal.nD Cert.KernelGfIdeal.τ).loc Cert.KernelGfIdeal.main_arg1) = m ((c.tc : Thread Cert.KernelGfIdeal.nD Cert.KernelGfIdeal.τ).loc Cert.KernelGfIdeal.main_arg1)
      ∧ r.2.mem ((c.tc : Thread Cert.KernelGfIdeal.nD Cert.KernelGfIdeal.τ).loc Cert.KernelGfIdeal.main_arg2) = m ((c.tc : Thread Cert.KernelGfIdeal.nD Cert.KernelGfIdeal.τ).loc Cert.KernelGfIdeal.main_arg2))
      ∧ r.2.sem = fun _ => 0)

def quiescent_ReferenceGfIdeal [hReferenceGfIdeal : Cert.ReferenceGfIdeal.Facts] : Prop :=
  ∀ (m : (ℓ : Loc Cert.ReferenceGfIdeal.nD Cert.ReferenceGfIdeal.τ Cert.ReferenceGfIdeal.sig) → Buf (Elt Ideal) ℓ) (g : Dev Cert.ReferenceGfIdeal.nD → PrngReg), Pre_ReferenceGfIdeal m →
    θ_run (Cert.ReferenceGfIdeal.defs (F := Ideal)) (onTc (τ := Cert.ReferenceGfIdeal.τ) (Cert.ReferenceGfIdeal.main (F := Ideal))) ⟨m, fun _ => 0, g⟩ (fun r => (∀ c : Dev Cert.ReferenceGfIdeal.nD,
      r.2.mem ((c.tc : Thread Cert.ReferenceGfIdeal.nD Cert.ReferenceGfIdeal.τ).loc Cert.ReferenceGfIdeal.main_arg0) = m ((c.tc : Thread Cert.ReferenceGfIdeal.nD Cert.ReferenceGfIdeal.τ).loc Cert.ReferenceGfIdeal.main_arg0)
      ∧ r.2.mem ((c.tc : Thread Cert.ReferenceGfIdeal.nD Cert.ReferenceGfIdeal.τ).loc Cert.ReferenceGfIdeal.main_arg1) = m ((c.tc : Thread Cert.ReferenceGfIdeal.nD Cert.ReferenceGfIdeal.τ).loc Cert.ReferenceGfIdeal.main_arg1)
      ∧ r.2.mem ((c.tc : Thread Cert.ReferenceGfIdeal.nD Cert.ReferenceGfIdeal.τ).loc Cert.ReferenceGfIdeal.main_arg2) = m ((c.tc : Thread Cert.ReferenceGfIdeal.nD Cert.ReferenceGfIdeal.τ).loc Cert.ReferenceGfIdeal.main_arg2))
      ∧ r.2.sem = fun _ => 0)

def quiescent_KernelCf [hKernelCf : Cert.KernelCf.Facts] : Prop :=
  ∀ (m : (ℓ : Loc Cert.KernelCf.nD Cert.KernelCf.τ Cert.KernelCf.sig) → Buf (Elt Bits) ℓ) (g : Dev Cert.KernelCf.nD → PrngReg), Pre_KernelCf m →
    θ_run (Cert.KernelCf.defs (F := Bits)) (onTc (τ := Cert.KernelCf.τ) (Cert.KernelCf.main (F := Bits))) ⟨m, fun _ => 0, g⟩ (fun r => (∀ c : Dev Cert.KernelCf.nD,
      r.2.mem ((c.tc : Thread Cert.KernelCf.nD Cert.KernelCf.τ).loc Cert.KernelCf.main_arg0) = m ((c.tc : Thread Cert.KernelCf.nD Cert.KernelCf.τ).loc Cert.KernelCf.main_arg0)
      ∧ r.2.mem ((c.tc : Thread Cert.KernelCf.nD Cert.KernelCf.τ).loc Cert.KernelCf.main_arg1) = m ((c.tc : Thread Cert.KernelCf.nD Cert.KernelCf.τ).loc Cert.KernelCf.main_arg1)
      ∧ r.2.mem ((c.tc : Thread Cert.KernelCf.nD Cert.KernelCf.τ).loc Cert.KernelCf.main_arg2) = m ((c.tc : Thread Cert.KernelCf.nD Cert.KernelCf.τ).loc Cert.KernelCf.main_arg2)
      ∧ r.2.mem ((c.tc : Thread Cert.KernelCf.nD Cert.KernelCf.τ).loc Cert.KernelCf.main_arg3) = m ((c.tc : Thread Cert.KernelCf.nD Cert.KernelCf.τ).loc Cert.KernelCf.main_arg3)
      ∧ r.2.mem ((c.tc : Thread Cert.KernelCf.nD Cert.KernelCf.τ).loc Cert.KernelCf.main_arg4) = m ((c.tc : Thread Cert.KernelCf.nD Cert.KernelCf.τ).loc Cert.KernelCf.main_arg4))
      ∧ r.2.sem = fun _ => 0)

def quiescent_KernelCfIdeal [hKernelCfIdeal : Cert.KernelCfIdeal.Facts] : Prop :=
  ∀ (m : (ℓ : Loc Cert.KernelCfIdeal.nD Cert.KernelCfIdeal.τ Cert.KernelCfIdeal.sig) → Buf (Elt Ideal) ℓ) (g : Dev Cert.KernelCfIdeal.nD → PrngReg), Pre_KernelCfIdeal m →
    θ_run (Cert.KernelCfIdeal.defs (F := Ideal)) (onTc (τ := Cert.KernelCfIdeal.τ) (Cert.KernelCfIdeal.main (F := Ideal))) ⟨m, fun _ => 0, g⟩ (fun r => (∀ c : Dev Cert.KernelCfIdeal.nD,
      r.2.mem ((c.tc : Thread Cert.KernelCfIdeal.nD Cert.KernelCfIdeal.τ).loc Cert.KernelCfIdeal.main_arg0) = m ((c.tc : Thread Cert.KernelCfIdeal.nD Cert.KernelCfIdeal.τ).loc Cert.KernelCfIdeal.main_arg0)
      ∧ r.2.mem ((c.tc : Thread Cert.KernelCfIdeal.nD Cert.KernelCfIdeal.τ).loc Cert.KernelCfIdeal.main_arg1) = m ((c.tc : Thread Cert.KernelCfIdeal.nD Cert.KernelCfIdeal.τ).loc Cert.KernelCfIdeal.main_arg1)
      ∧ r.2.mem ((c.tc : Thread Cert.KernelCfIdeal.nD Cert.KernelCfIdeal.τ).loc Cert.KernelCfIdeal.main_arg2) = m ((c.tc : Thread Cert.KernelCfIdeal.nD Cert.KernelCfIdeal.τ).loc Cert.KernelCfIdeal.main_arg2)
      ∧ r.2.mem ((c.tc : Thread Cert.KernelCfIdeal.nD Cert.KernelCfIdeal.τ).loc Cert.KernelCfIdeal.main_arg3) = m ((c.tc : Thread Cert.KernelCfIdeal.nD Cert.KernelCfIdeal.τ).loc Cert.KernelCfIdeal.main_arg3)
      ∧ r.2.mem ((c.tc : Thread Cert.KernelCfIdeal.nD Cert.KernelCfIdeal.τ).loc Cert.KernelCfIdeal.main_arg4) = m ((c.tc : Thread Cert.KernelCfIdeal.nD Cert.KernelCfIdeal.τ).loc Cert.KernelCfIdeal.main_arg4))
      ∧ r.2.sem = fun _ => 0)

def quiescent_ReferenceCfIdeal [hReferenceCfIdeal : Cert.ReferenceCfIdeal.Facts] : Prop :=
  ∀ (m : (ℓ : Loc Cert.ReferenceCfIdeal.nD Cert.ReferenceCfIdeal.τ Cert.ReferenceCfIdeal.sig) → Buf (Elt Ideal) ℓ) (g : Dev Cert.ReferenceCfIdeal.nD → PrngReg), Pre_ReferenceCfIdeal m →
    θ_run (Cert.ReferenceCfIdeal.defs (F := Ideal)) (onTc (τ := Cert.ReferenceCfIdeal.τ) (Cert.ReferenceCfIdeal.main (F := Ideal))) ⟨m, fun _ => 0, g⟩ (fun r => (∀ c : Dev Cert.ReferenceCfIdeal.nD,
      r.2.mem ((c.tc : Thread Cert.ReferenceCfIdeal.nD Cert.ReferenceCfIdeal.τ).loc Cert.ReferenceCfIdeal.main_arg0) = m ((c.tc : Thread Cert.ReferenceCfIdeal.nD Cert.ReferenceCfIdeal.τ).loc Cert.ReferenceCfIdeal.main_arg0)
      ∧ r.2.mem ((c.tc : Thread Cert.ReferenceCfIdeal.nD Cert.ReferenceCfIdeal.τ).loc Cert.ReferenceCfIdeal.main_arg1) = m ((c.tc : Thread Cert.ReferenceCfIdeal.nD Cert.ReferenceCfIdeal.τ).loc Cert.ReferenceCfIdeal.main_arg1)
      ∧ r.2.mem ((c.tc : Thread Cert.ReferenceCfIdeal.nD Cert.ReferenceCfIdeal.τ).loc Cert.ReferenceCfIdeal.main_arg2) = m ((c.tc : Thread Cert.ReferenceCfIdeal.nD Cert.ReferenceCfIdeal.τ).loc Cert.ReferenceCfIdeal.main_arg2)
      ∧ r.2.mem ((c.tc : Thread Cert.ReferenceCfIdeal.nD Cert.ReferenceCfIdeal.τ).loc Cert.ReferenceCfIdeal.main_arg3) = m ((c.tc : Thread Cert.ReferenceCfIdeal.nD Cert.ReferenceCfIdeal.τ).loc Cert.ReferenceCfIdeal.main_arg3)
      ∧ r.2.mem ((c.tc : Thread Cert.ReferenceCfIdeal.nD Cert.ReferenceCfIdeal.τ).loc Cert.ReferenceCfIdeal.main_arg4) = m ((c.tc : Thread Cert.ReferenceCfIdeal.nD Cert.ReferenceCfIdeal.τ).loc Cert.ReferenceCfIdeal.main_arg4))
      ∧ r.2.sem = fun _ => 0)

def quiescent_KernelSf [hKernelSf : Cert.KernelSf.Facts] : Prop :=
  ∀ (m : (ℓ : Loc Cert.KernelSf.nD Cert.KernelSf.τ Cert.KernelSf.sig) → Buf (Elt Bits) ℓ) (g : Dev Cert.KernelSf.nD → PrngReg), Pre_KernelSf m →
    θ_run (Cert.KernelSf.defs (F := Bits)) (onTc (τ := Cert.KernelSf.τ) (Cert.KernelSf.main (F := Bits))) ⟨m, fun _ => 0, g⟩ (fun r => (∀ c : Dev Cert.KernelSf.nD,
      r.2.mem ((c.tc : Thread Cert.KernelSf.nD Cert.KernelSf.τ).loc Cert.KernelSf.main_arg0) = m ((c.tc : Thread Cert.KernelSf.nD Cert.KernelSf.τ).loc Cert.KernelSf.main_arg0)
      ∧ r.2.mem ((c.tc : Thread Cert.KernelSf.nD Cert.KernelSf.τ).loc Cert.KernelSf.main_arg1) = m ((c.tc : Thread Cert.KernelSf.nD Cert.KernelSf.τ).loc Cert.KernelSf.main_arg1)
      ∧ r.2.mem ((c.tc : Thread Cert.KernelSf.nD Cert.KernelSf.τ).loc Cert.KernelSf.main_arg2) = m ((c.tc : Thread Cert.KernelSf.nD Cert.KernelSf.τ).loc Cert.KernelSf.main_arg2)
      ∧ r.2.mem ((c.tc : Thread Cert.KernelSf.nD Cert.KernelSf.τ).loc Cert.KernelSf.main_arg3) = m ((c.tc : Thread Cert.KernelSf.nD Cert.KernelSf.τ).loc Cert.KernelSf.main_arg3)
      ∧ r.2.mem ((c.tc : Thread Cert.KernelSf.nD Cert.KernelSf.τ).loc Cert.KernelSf.main_arg4) = m ((c.tc : Thread Cert.KernelSf.nD Cert.KernelSf.τ).loc Cert.KernelSf.main_arg4))
      ∧ r.2.sem = fun _ => 0)

def quiescent_KernelSfIdeal [hKernelSfIdeal : Cert.KernelSfIdeal.Facts] : Prop :=
  ∀ (m : (ℓ : Loc Cert.KernelSfIdeal.nD Cert.KernelSfIdeal.τ Cert.KernelSfIdeal.sig) → Buf (Elt Ideal) ℓ) (g : Dev Cert.KernelSfIdeal.nD → PrngReg), Pre_KernelSfIdeal m →
    θ_run (Cert.KernelSfIdeal.defs (F := Ideal)) (onTc (τ := Cert.KernelSfIdeal.τ) (Cert.KernelSfIdeal.main (F := Ideal))) ⟨m, fun _ => 0, g⟩ (fun r => (∀ c : Dev Cert.KernelSfIdeal.nD,
      r.2.mem ((c.tc : Thread Cert.KernelSfIdeal.nD Cert.KernelSfIdeal.τ).loc Cert.KernelSfIdeal.main_arg0) = m ((c.tc : Thread Cert.KernelSfIdeal.nD Cert.KernelSfIdeal.τ).loc Cert.KernelSfIdeal.main_arg0)
      ∧ r.2.mem ((c.tc : Thread Cert.KernelSfIdeal.nD Cert.KernelSfIdeal.τ).loc Cert.KernelSfIdeal.main_arg1) = m ((c.tc : Thread Cert.KernelSfIdeal.nD Cert.KernelSfIdeal.τ).loc Cert.KernelSfIdeal.main_arg1)
      ∧ r.2.mem ((c.tc : Thread Cert.KernelSfIdeal.nD Cert.KernelSfIdeal.τ).loc Cert.KernelSfIdeal.main_arg2) = m ((c.tc : Thread Cert.KernelSfIdeal.nD Cert.KernelSfIdeal.τ).loc Cert.KernelSfIdeal.main_arg2)
      ∧ r.2.mem ((c.tc : Thread Cert.KernelSfIdeal.nD Cert.KernelSfIdeal.τ).loc Cert.KernelSfIdeal.main_arg3) = m ((c.tc : Thread Cert.KernelSfIdeal.nD Cert.KernelSfIdeal.τ).loc Cert.KernelSfIdeal.main_arg3)
      ∧ r.2.mem ((c.tc : Thread Cert.KernelSfIdeal.nD Cert.KernelSfIdeal.τ).loc Cert.KernelSfIdeal.main_arg4) = m ((c.tc : Thread Cert.KernelSfIdeal.nD Cert.KernelSfIdeal.τ).loc Cert.KernelSfIdeal.main_arg4))
      ∧ r.2.sem = fun _ => 0)

def quiescent_ReferenceSfIdeal [hReferenceSfIdeal : Cert.ReferenceSfIdeal.Facts] : Prop :=
  ∀ (m : (ℓ : Loc Cert.ReferenceSfIdeal.nD Cert.ReferenceSfIdeal.τ Cert.ReferenceSfIdeal.sig) → Buf (Elt Ideal) ℓ) (g : Dev Cert.ReferenceSfIdeal.nD → PrngReg), Pre_ReferenceSfIdeal m →
    θ_run (Cert.ReferenceSfIdeal.defs (F := Ideal)) (onTc (τ := Cert.ReferenceSfIdeal.τ) (Cert.ReferenceSfIdeal.main (F := Ideal))) ⟨m, fun _ => 0, g⟩ (fun r => (∀ c : Dev Cert.ReferenceSfIdeal.nD,
      r.2.mem ((c.tc : Thread Cert.ReferenceSfIdeal.nD Cert.ReferenceSfIdeal.τ).loc Cert.ReferenceSfIdeal.main_arg0) = m ((c.tc : Thread Cert.ReferenceSfIdeal.nD Cert.ReferenceSfIdeal.τ).loc Cert.ReferenceSfIdeal.main_arg0)
      ∧ r.2.mem ((c.tc : Thread Cert.ReferenceSfIdeal.nD Cert.ReferenceSfIdeal.τ).loc Cert.ReferenceSfIdeal.main_arg1) = m ((c.tc : Thread Cert.ReferenceSfIdeal.nD Cert.ReferenceSfIdeal.τ).loc Cert.ReferenceSfIdeal.main_arg1)
      ∧ r.2.mem ((c.tc : Thread Cert.ReferenceSfIdeal.nD Cert.ReferenceSfIdeal.τ).loc Cert.ReferenceSfIdeal.main_arg2) = m ((c.tc : Thread Cert.ReferenceSfIdeal.nD Cert.ReferenceSfIdeal.τ).loc Cert.ReferenceSfIdeal.main_arg2)
      ∧ r.2.mem ((c.tc : Thread Cert.ReferenceSfIdeal.nD Cert.ReferenceSfIdeal.τ).loc Cert.ReferenceSfIdeal.main_arg3) = m ((c.tc : Thread Cert.ReferenceSfIdeal.nD Cert.ReferenceSfIdeal.τ).loc Cert.ReferenceSfIdeal.main_arg3)
      ∧ r.2.mem ((c.tc : Thread Cert.ReferenceSfIdeal.nD Cert.ReferenceSfIdeal.τ).loc Cert.ReferenceSfIdeal.main_arg4) = m ((c.tc : Thread Cert.ReferenceSfIdeal.nD Cert.ReferenceSfIdeal.τ).loc Cert.ReferenceSfIdeal.main_arg4))
      ∧ r.2.sem = fun _ => 0)

def quiescent_KernelJf [hKernelJf : Cert.KernelJf.Facts] : Prop :=
  ∀ (m : (ℓ : Loc Cert.KernelJf.nD Cert.KernelJf.τ Cert.KernelJf.sig) → Buf (Elt Bits) ℓ) (g : Dev Cert.KernelJf.nD → PrngReg), Pre_KernelJf m →
    θ_run (Cert.KernelJf.defs (F := Bits)) (onTc (τ := Cert.KernelJf.τ) (Cert.KernelJf.main (F := Bits))) ⟨m, fun _ => 0, g⟩ (fun r => (∀ c : Dev Cert.KernelJf.nD,
      r.2.mem ((c.tc : Thread Cert.KernelJf.nD Cert.KernelJf.τ).loc Cert.KernelJf.main_arg0) = m ((c.tc : Thread Cert.KernelJf.nD Cert.KernelJf.τ).loc Cert.KernelJf.main_arg0)
      ∧ r.2.mem ((c.tc : Thread Cert.KernelJf.nD Cert.KernelJf.τ).loc Cert.KernelJf.main_arg1) = m ((c.tc : Thread Cert.KernelJf.nD Cert.KernelJf.τ).loc Cert.KernelJf.main_arg1)
      ∧ r.2.mem ((c.tc : Thread Cert.KernelJf.nD Cert.KernelJf.τ).loc Cert.KernelJf.main_arg2) = m ((c.tc : Thread Cert.KernelJf.nD Cert.KernelJf.τ).loc Cert.KernelJf.main_arg2)
      ∧ r.2.mem ((c.tc : Thread Cert.KernelJf.nD Cert.KernelJf.τ).loc Cert.KernelJf.main_arg3) = m ((c.tc : Thread Cert.KernelJf.nD Cert.KernelJf.τ).loc Cert.KernelJf.main_arg3)
      ∧ r.2.mem ((c.tc : Thread Cert.KernelJf.nD Cert.KernelJf.τ).loc Cert.KernelJf.main_arg4) = m ((c.tc : Thread Cert.KernelJf.nD Cert.KernelJf.τ).loc Cert.KernelJf.main_arg4)
      ∧ r.2.mem ((c.tc : Thread Cert.KernelJf.nD Cert.KernelJf.τ).loc Cert.KernelJf.main_arg5) = m ((c.tc : Thread Cert.KernelJf.nD Cert.KernelJf.τ).loc Cert.KernelJf.main_arg5)
      ∧ r.2.mem ((c.tc : Thread Cert.KernelJf.nD Cert.KernelJf.τ).loc Cert.KernelJf.main_arg6) = m ((c.tc : Thread Cert.KernelJf.nD Cert.KernelJf.τ).loc Cert.KernelJf.main_arg6)
      ∧ r.2.mem ((c.tc : Thread Cert.KernelJf.nD Cert.KernelJf.τ).loc Cert.KernelJf.main_arg7) = m ((c.tc : Thread Cert.KernelJf.nD Cert.KernelJf.τ).loc Cert.KernelJf.main_arg7)
      ∧ r.2.mem ((c.tc : Thread Cert.KernelJf.nD Cert.KernelJf.τ).loc Cert.KernelJf.main_arg8) = m ((c.tc : Thread Cert.KernelJf.nD Cert.KernelJf.τ).loc Cert.KernelJf.main_arg8))
      ∧ r.2.sem = fun _ => 0)

def quiescent_KernelJfIdeal [hKernelJfIdeal : Cert.KernelJfIdeal.Facts] : Prop :=
  ∀ (m : (ℓ : Loc Cert.KernelJfIdeal.nD Cert.KernelJfIdeal.τ Cert.KernelJfIdeal.sig) → Buf (Elt Ideal) ℓ) (g : Dev Cert.KernelJfIdeal.nD → PrngReg), Pre_KernelJfIdeal m →
    θ_run (Cert.KernelJfIdeal.defs (F := Ideal)) (onTc (τ := Cert.KernelJfIdeal.τ) (Cert.KernelJfIdeal.main (F := Ideal))) ⟨m, fun _ => 0, g⟩ (fun r => (∀ c : Dev Cert.KernelJfIdeal.nD,
      r.2.mem ((c.tc : Thread Cert.KernelJfIdeal.nD Cert.KernelJfIdeal.τ).loc Cert.KernelJfIdeal.main_arg0) = m ((c.tc : Thread Cert.KernelJfIdeal.nD Cert.KernelJfIdeal.τ).loc Cert.KernelJfIdeal.main_arg0)
      ∧ r.2.mem ((c.tc : Thread Cert.KernelJfIdeal.nD Cert.KernelJfIdeal.τ).loc Cert.KernelJfIdeal.main_arg1) = m ((c.tc : Thread Cert.KernelJfIdeal.nD Cert.KernelJfIdeal.τ).loc Cert.KernelJfIdeal.main_arg1)
      ∧ r.2.mem ((c.tc : Thread Cert.KernelJfIdeal.nD Cert.KernelJfIdeal.τ).loc Cert.KernelJfIdeal.main_arg2) = m ((c.tc : Thread Cert.KernelJfIdeal.nD Cert.KernelJfIdeal.τ).loc Cert.KernelJfIdeal.main_arg2)
      ∧ r.2.mem ((c.tc : Thread Cert.KernelJfIdeal.nD Cert.KernelJfIdeal.τ).loc Cert.KernelJfIdeal.main_arg3) = m ((c.tc : Thread Cert.KernelJfIdeal.nD Cert.KernelJfIdeal.τ).loc Cert.KernelJfIdeal.main_arg3)
      ∧ r.2.mem ((c.tc : Thread Cert.KernelJfIdeal.nD Cert.KernelJfIdeal.τ).loc Cert.KernelJfIdeal.main_arg4) = m ((c.tc : Thread Cert.KernelJfIdeal.nD Cert.KernelJfIdeal.τ).loc Cert.KernelJfIdeal.main_arg4)
      ∧ r.2.mem ((c.tc : Thread Cert.KernelJfIdeal.nD Cert.KernelJfIdeal.τ).loc Cert.KernelJfIdeal.main_arg5) = m ((c.tc : Thread Cert.KernelJfIdeal.nD Cert.KernelJfIdeal.τ).loc Cert.KernelJfIdeal.main_arg5)
      ∧ r.2.mem ((c.tc : Thread Cert.KernelJfIdeal.nD Cert.KernelJfIdeal.τ).loc Cert.KernelJfIdeal.main_arg6) = m ((c.tc : Thread Cert.KernelJfIdeal.nD Cert.KernelJfIdeal.τ).loc Cert.KernelJfIdeal.main_arg6)
      ∧ r.2.mem ((c.tc : Thread Cert.KernelJfIdeal.nD Cert.KernelJfIdeal.τ).loc Cert.KernelJfIdeal.main_arg7) = m ((c.tc : Thread Cert.KernelJfIdeal.nD Cert.KernelJfIdeal.τ).loc Cert.KernelJfIdeal.main_arg7)
      ∧ r.2.mem ((c.tc : Thread Cert.KernelJfIdeal.nD Cert.KernelJfIdeal.τ).loc Cert.KernelJfIdeal.main_arg8) = m ((c.tc : Thread Cert.KernelJfIdeal.nD Cert.KernelJfIdeal.τ).loc Cert.KernelJfIdeal.main_arg8))
      ∧ r.2.sem = fun _ => 0)

def quiescent_ReferenceJfIdeal [hReferenceJfIdeal : Cert.ReferenceJfIdeal.Facts] : Prop :=
  ∀ (m : (ℓ : Loc Cert.ReferenceJfIdeal.nD Cert.ReferenceJfIdeal.τ Cert.ReferenceJfIdeal.sig) → Buf (Elt Ideal) ℓ) (g : Dev Cert.ReferenceJfIdeal.nD → PrngReg), Pre_ReferenceJfIdeal m →
    θ_run (Cert.ReferenceJfIdeal.defs (F := Ideal)) (onTc (τ := Cert.ReferenceJfIdeal.τ) (Cert.ReferenceJfIdeal.main (F := Ideal))) ⟨m, fun _ => 0, g⟩ (fun r => (∀ c : Dev Cert.ReferenceJfIdeal.nD,
      r.2.mem ((c.tc : Thread Cert.ReferenceJfIdeal.nD Cert.ReferenceJfIdeal.τ).loc Cert.ReferenceJfIdeal.main_arg0) = m ((c.tc : Thread Cert.ReferenceJfIdeal.nD Cert.ReferenceJfIdeal.τ).loc Cert.ReferenceJfIdeal.main_arg0)
      ∧ r.2.mem ((c.tc : Thread Cert.ReferenceJfIdeal.nD Cert.ReferenceJfIdeal.τ).loc Cert.ReferenceJfIdeal.main_arg1) = m ((c.tc : Thread Cert.ReferenceJfIdeal.nD Cert.ReferenceJfIdeal.τ).loc Cert.ReferenceJfIdeal.main_arg1)
      ∧ r.2.mem ((c.tc : Thread Cert.ReferenceJfIdeal.nD Cert.ReferenceJfIdeal.τ).loc Cert.ReferenceJfIdeal.main_arg2) = m ((c.tc : Thread Cert.ReferenceJfIdeal.nD Cert.ReferenceJfIdeal.τ).loc Cert.ReferenceJfIdeal.main_arg2)
      ∧ r.2.mem ((c.tc : Thread Cert.ReferenceJfIdeal.nD Cert.ReferenceJfIdeal.τ).loc Cert.ReferenceJfIdeal.main_arg3) = m ((c.tc : Thread Cert.ReferenceJfIdeal.nD Cert.ReferenceJfIdeal.τ).loc Cert.ReferenceJfIdeal.main_arg3)
      ∧ r.2.mem ((c.tc : Thread Cert.ReferenceJfIdeal.nD Cert.ReferenceJfIdeal.τ).loc Cert.ReferenceJfIdeal.main_arg4) = m ((c.tc : Thread Cert.ReferenceJfIdeal.nD Cert.ReferenceJfIdeal.τ).loc Cert.ReferenceJfIdeal.main_arg4)
      ∧ r.2.mem ((c.tc : Thread Cert.ReferenceJfIdeal.nD Cert.ReferenceJfIdeal.τ).loc Cert.ReferenceJfIdeal.main_arg5) = m ((c.tc : Thread Cert.ReferenceJfIdeal.nD Cert.ReferenceJfIdeal.τ).loc Cert.ReferenceJfIdeal.main_arg5)
      ∧ r.2.mem ((c.tc : Thread Cert.ReferenceJfIdeal.nD Cert.ReferenceJfIdeal.τ).loc Cert.ReferenceJfIdeal.main_arg6) = m ((c.tc : Thread Cert.ReferenceJfIdeal.nD Cert.ReferenceJfIdeal.τ).loc Cert.ReferenceJfIdeal.main_arg6)
      ∧ r.2.mem ((c.tc : Thread Cert.ReferenceJfIdeal.nD Cert.ReferenceJfIdeal.τ).loc Cert.ReferenceJfIdeal.main_arg7) = m ((c.tc : Thread Cert.ReferenceJfIdeal.nD Cert.ReferenceJfIdeal.τ).loc Cert.ReferenceJfIdeal.main_arg7)
      ∧ r.2.mem ((c.tc : Thread Cert.ReferenceJfIdeal.nD Cert.ReferenceJfIdeal.τ).loc Cert.ReferenceJfIdeal.main_arg8) = m ((c.tc : Thread Cert.ReferenceJfIdeal.nD Cert.ReferenceJfIdeal.τ).loc Cert.ReferenceJfIdeal.main_arg8))
      ∧ r.2.sem = fun _ => 0)

def quiescent_KernelLf [hKernelLf : Cert.KernelLf.Facts] : Prop :=
  ∀ (m : (ℓ : Loc Cert.KernelLf.nD Cert.KernelLf.τ Cert.KernelLf.sig) → Buf (Elt Bits) ℓ) (g : Dev Cert.KernelLf.nD → PrngReg), Pre_KernelLf m →
    θ_run (Cert.KernelLf.defs (F := Bits)) (onTc (τ := Cert.KernelLf.τ) (Cert.KernelLf.main (F := Bits))) ⟨m, fun _ => 0, g⟩ (fun r => (∀ c : Dev Cert.KernelLf.nD,
      r.2.mem ((c.tc : Thread Cert.KernelLf.nD Cert.KernelLf.τ).loc Cert.KernelLf.main_arg0) = m ((c.tc : Thread Cert.KernelLf.nD Cert.KernelLf.τ).loc Cert.KernelLf.main_arg0)
      ∧ r.2.mem ((c.tc : Thread Cert.KernelLf.nD Cert.KernelLf.τ).loc Cert.KernelLf.main_arg1) = m ((c.tc : Thread Cert.KernelLf.nD Cert.KernelLf.τ).loc Cert.KernelLf.main_arg1)
      ∧ r.2.mem ((c.tc : Thread Cert.KernelLf.nD Cert.KernelLf.τ).loc Cert.KernelLf.main_arg2) = m ((c.tc : Thread Cert.KernelLf.nD Cert.KernelLf.τ).loc Cert.KernelLf.main_arg2)
      ∧ r.2.mem ((c.tc : Thread Cert.KernelLf.nD Cert.KernelLf.τ).loc Cert.KernelLf.main_arg3) = m ((c.tc : Thread Cert.KernelLf.nD Cert.KernelLf.τ).loc Cert.KernelLf.main_arg3))
      ∧ r.2.sem = fun _ => 0)

def quiescent_KernelLfIdeal [hKernelLfIdeal : Cert.KernelLfIdeal.Facts] : Prop :=
  ∀ (m : (ℓ : Loc Cert.KernelLfIdeal.nD Cert.KernelLfIdeal.τ Cert.KernelLfIdeal.sig) → Buf (Elt Ideal) ℓ) (g : Dev Cert.KernelLfIdeal.nD → PrngReg), Pre_KernelLfIdeal m →
    θ_run (Cert.KernelLfIdeal.defs (F := Ideal)) (onTc (τ := Cert.KernelLfIdeal.τ) (Cert.KernelLfIdeal.main (F := Ideal))) ⟨m, fun _ => 0, g⟩ (fun r => (∀ c : Dev Cert.KernelLfIdeal.nD,
      r.2.mem ((c.tc : Thread Cert.KernelLfIdeal.nD Cert.KernelLfIdeal.τ).loc Cert.KernelLfIdeal.main_arg0) = m ((c.tc : Thread Cert.KernelLfIdeal.nD Cert.KernelLfIdeal.τ).loc Cert.KernelLfIdeal.main_arg0)
      ∧ r.2.mem ((c.tc : Thread Cert.KernelLfIdeal.nD Cert.KernelLfIdeal.τ).loc Cert.KernelLfIdeal.main_arg1) = m ((c.tc : Thread Cert.KernelLfIdeal.nD Cert.KernelLfIdeal.τ).loc Cert.KernelLfIdeal.main_arg1)
      ∧ r.2.mem ((c.tc : Thread Cert.KernelLfIdeal.nD Cert.KernelLfIdeal.τ).loc Cert.KernelLfIdeal.main_arg2) = m ((c.tc : Thread Cert.KernelLfIdeal.nD Cert.KernelLfIdeal.τ).loc Cert.KernelLfIdeal.main_arg2)
      ∧ r.2.mem ((c.tc : Thread Cert.KernelLfIdeal.nD Cert.KernelLfIdeal.τ).loc Cert.KernelLfIdeal.main_arg3) = m ((c.tc : Thread Cert.KernelLfIdeal.nD Cert.KernelLfIdeal.τ).loc Cert.KernelLfIdeal.main_arg3))
      ∧ r.2.sem = fun _ => 0)

def quiescent_ReferenceLfIdeal [hReferenceLfIdeal : Cert.ReferenceLfIdeal.Facts] : Prop :=
  ∀ (m : (ℓ : Loc Cert.ReferenceLfIdeal.nD Cert.ReferenceLfIdeal.τ Cert.ReferenceLfIdeal.sig) → Buf (Elt Ideal) ℓ) (g : Dev Cert.ReferenceLfIdeal.nD → PrngReg), Pre_ReferenceLfIdeal m →
    θ_run (Cert.ReferenceLfIdeal.defs (F := Ideal)) (onTc (τ := Cert.ReferenceLfIdeal.τ) (Cert.ReferenceLfIdeal.main (F := Ideal))) ⟨m, fun _ => 0, g⟩ (fun r => (∀ c : Dev Cert.ReferenceLfIdeal.nD,
      r.2.mem ((c.tc : Thread Cert.ReferenceLfIdeal.nD Cert.ReferenceLfIdeal.τ).loc Cert.ReferenceLfIdeal.main_arg0) = m ((c.tc : Thread Cert.ReferenceLfIdeal.nD Cert.ReferenceLfIdeal.τ).loc Cert.ReferenceLfIdeal.main_arg0)
      ∧ r.2.mem ((c.tc : Thread Cert.ReferenceLfIdeal.nD Cert.ReferenceLfIdeal.τ).loc Cert.ReferenceLfIdeal.main_arg1) = m ((c.tc : Thread Cert.ReferenceLfIdeal.nD Cert.ReferenceLfIdeal.τ).loc Cert.ReferenceLfIdeal.main_arg1)
      ∧ r.2.mem ((c.tc : Thread Cert.ReferenceLfIdeal.nD Cert.ReferenceLfIdeal.τ).loc Cert.ReferenceLfIdeal.main_arg2) = m ((c.tc : Thread Cert.ReferenceLfIdeal.nD Cert.ReferenceLfIdeal.τ).loc Cert.ReferenceLfIdeal.main_arg2)
      ∧ r.2.mem ((c.tc : Thread Cert.ReferenceLfIdeal.nD Cert.ReferenceLfIdeal.τ).loc Cert.ReferenceLfIdeal.main_arg3) = m ((c.tc : Thread Cert.ReferenceLfIdeal.nD Cert.ReferenceLfIdeal.τ).loc Cert.ReferenceLfIdeal.main_arg3))
      ∧ r.2.sem = fun _ => 0)

def quiescent_KernelEf [hKernelEf : Cert.KernelEf.Facts] : Prop :=
  ∀ (m : (ℓ : Loc Cert.KernelEf.nD Cert.KernelEf.τ Cert.KernelEf.sig) → Buf (Elt Bits) ℓ) (g : Dev Cert.KernelEf.nD → PrngReg), Pre_KernelEf m →
    θ_run (Cert.KernelEf.defs (F := Bits)) (onTc (τ := Cert.KernelEf.τ) (Cert.KernelEf.main (F := Bits))) ⟨m, fun _ => 0, g⟩ (fun r => (∀ c : Dev Cert.KernelEf.nD,
      r.2.mem ((c.tc : Thread Cert.KernelEf.nD Cert.KernelEf.τ).loc Cert.KernelEf.main_arg0) = m ((c.tc : Thread Cert.KernelEf.nD Cert.KernelEf.τ).loc Cert.KernelEf.main_arg0)
      ∧ r.2.mem ((c.tc : Thread Cert.KernelEf.nD Cert.KernelEf.τ).loc Cert.KernelEf.main_arg1) = m ((c.tc : Thread Cert.KernelEf.nD Cert.KernelEf.τ).loc Cert.KernelEf.main_arg1)
      ∧ r.2.mem ((c.tc : Thread Cert.KernelEf.nD Cert.KernelEf.τ).loc Cert.KernelEf.main_arg2) = m ((c.tc : Thread Cert.KernelEf.nD Cert.KernelEf.τ).loc Cert.KernelEf.main_arg2)
      ∧ r.2.mem ((c.tc : Thread Cert.KernelEf.nD Cert.KernelEf.τ).loc Cert.KernelEf.main_arg3) = m ((c.tc : Thread Cert.KernelEf.nD Cert.KernelEf.τ).loc Cert.KernelEf.main_arg3))
      ∧ r.2.sem = fun _ => 0)

def quiescent_KernelEfIdeal [hKernelEfIdeal : Cert.KernelEfIdeal.Facts] : Prop :=
  ∀ (m : (ℓ : Loc Cert.KernelEfIdeal.nD Cert.KernelEfIdeal.τ Cert.KernelEfIdeal.sig) → Buf (Elt Ideal) ℓ) (g : Dev Cert.KernelEfIdeal.nD → PrngReg), Pre_KernelEfIdeal m →
    θ_run (Cert.KernelEfIdeal.defs (F := Ideal)) (onTc (τ := Cert.KernelEfIdeal.τ) (Cert.KernelEfIdeal.main (F := Ideal))) ⟨m, fun _ => 0, g⟩ (fun r => (∀ c : Dev Cert.KernelEfIdeal.nD,
      r.2.mem ((c.tc : Thread Cert.KernelEfIdeal.nD Cert.KernelEfIdeal.τ).loc Cert.KernelEfIdeal.main_arg0) = m ((c.tc : Thread Cert.KernelEfIdeal.nD Cert.KernelEfIdeal.τ).loc Cert.KernelEfIdeal.main_arg0)
      ∧ r.2.mem ((c.tc : Thread Cert.KernelEfIdeal.nD Cert.KernelEfIdeal.τ).loc Cert.KernelEfIdeal.main_arg1) = m ((c.tc : Thread Cert.KernelEfIdeal.nD Cert.KernelEfIdeal.τ).loc Cert.KernelEfIdeal.main_arg1)
      ∧ r.2.mem ((c.tc : Thread Cert.KernelEfIdeal.nD Cert.KernelEfIdeal.τ).loc Cert.KernelEfIdeal.main_arg2) = m ((c.tc : Thread Cert.KernelEfIdeal.nD Cert.KernelEfIdeal.τ).loc Cert.KernelEfIdeal.main_arg2)
      ∧ r.2.mem ((c.tc : Thread Cert.KernelEfIdeal.nD Cert.KernelEfIdeal.τ).loc Cert.KernelEfIdeal.main_arg3) = m ((c.tc : Thread Cert.KernelEfIdeal.nD Cert.KernelEfIdeal.τ).loc Cert.KernelEfIdeal.main_arg3))
      ∧ r.2.sem = fun _ => 0)

def quiescent_ReferenceEfIdeal [hReferenceEfIdeal : Cert.ReferenceEfIdeal.Facts] : Prop :=
  ∀ (m : (ℓ : Loc Cert.ReferenceEfIdeal.nD Cert.ReferenceEfIdeal.τ Cert.ReferenceEfIdeal.sig) → Buf (Elt Ideal) ℓ) (g : Dev Cert.ReferenceEfIdeal.nD → PrngReg), Pre_ReferenceEfIdeal m →
    θ_run (Cert.ReferenceEfIdeal.defs (F := Ideal)) (onTc (τ := Cert.ReferenceEfIdeal.τ) (Cert.ReferenceEfIdeal.main (F := Ideal))) ⟨m, fun _ => 0, g⟩ (fun r => (∀ c : Dev Cert.ReferenceEfIdeal.nD,
      r.2.mem ((c.tc : Thread Cert.ReferenceEfIdeal.nD Cert.ReferenceEfIdeal.τ).loc Cert.ReferenceEfIdeal.main_arg0) = m ((c.tc : Thread Cert.ReferenceEfIdeal.nD Cert.ReferenceEfIdeal.τ).loc Cert.ReferenceEfIdeal.main_arg0)
      ∧ r.2.mem ((c.tc : Thread Cert.ReferenceEfIdeal.nD Cert.ReferenceEfIdeal.τ).loc Cert.ReferenceEfIdeal.main_arg1) = m ((c.tc : Thread Cert.ReferenceEfIdeal.nD Cert.ReferenceEfIdeal.τ).loc Cert.ReferenceEfIdeal.main_arg1)
      ∧ r.2.mem ((c.tc : Thread Cert.ReferenceEfIdeal.nD Cert.ReferenceEfIdeal.τ).loc Cert.ReferenceEfIdeal.main_arg2) = m ((c.tc : Thread Cert.ReferenceEfIdeal.nD Cert.ReferenceEfIdeal.τ).loc Cert.ReferenceEfIdeal.main_arg2)
      ∧ r.2.mem ((c.tc : Thread Cert.ReferenceEfIdeal.nD Cert.ReferenceEfIdeal.τ).loc Cert.ReferenceEfIdeal.main_arg3) = m ((c.tc : Thread Cert.ReferenceEfIdeal.nD Cert.ReferenceEfIdeal.τ).loc Cert.ReferenceEfIdeal.main_arg3))
      ∧ r.2.sem = fun _ => 0)

def quiescent_KernelAf [hKernelAf : Cert.KernelAf.Facts] : Prop :=
  ∀ (m : (ℓ : Loc Cert.KernelAf.nD Cert.KernelAf.τ Cert.KernelAf.sig) → Buf (Elt Bits) ℓ) (g : Dev Cert.KernelAf.nD → PrngReg), Pre_KernelAf m →
    θ_run (Cert.KernelAf.defs (F := Bits)) (onTc (τ := Cert.KernelAf.τ) (Cert.KernelAf.main (F := Bits))) ⟨m, fun _ => 0, g⟩ (fun r => (∀ c : Dev Cert.KernelAf.nD,
      r.2.mem ((c.tc : Thread Cert.KernelAf.nD Cert.KernelAf.τ).loc Cert.KernelAf.main_arg0) = m ((c.tc : Thread Cert.KernelAf.nD Cert.KernelAf.τ).loc Cert.KernelAf.main_arg0)
      ∧ r.2.mem ((c.tc : Thread Cert.KernelAf.nD Cert.KernelAf.τ).loc Cert.KernelAf.main_arg1) = m ((c.tc : Thread Cert.KernelAf.nD Cert.KernelAf.τ).loc Cert.KernelAf.main_arg1)
      ∧ r.2.mem ((c.tc : Thread Cert.KernelAf.nD Cert.KernelAf.τ).loc Cert.KernelAf.main_arg2) = m ((c.tc : Thread Cert.KernelAf.nD Cert.KernelAf.τ).loc Cert.KernelAf.main_arg2))
      ∧ r.2.sem = fun _ => 0)

def quiescent_KernelAfIdeal [hKernelAfIdeal : Cert.KernelAfIdeal.Facts] : Prop :=
  ∀ (m : (ℓ : Loc Cert.KernelAfIdeal.nD Cert.KernelAfIdeal.τ Cert.KernelAfIdeal.sig) → Buf (Elt Ideal) ℓ) (g : Dev Cert.KernelAfIdeal.nD → PrngReg), Pre_KernelAfIdeal m →
    θ_run (Cert.KernelAfIdeal.defs (F := Ideal)) (onTc (τ := Cert.KernelAfIdeal.τ) (Cert.KernelAfIdeal.main (F := Ideal))) ⟨m, fun _ => 0, g⟩ (fun r => (∀ c : Dev Cert.KernelAfIdeal.nD,
      r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
      ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
      ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2))
      ∧ r.2.sem = fun _ => 0)

def quiescent_KernelAfIdeal_pre_finite_scores [hKernelAfIdeal : Cert.KernelAfIdeal.Facts] [hPre_finite_scores : Cert.Pre_finite_scores.Facts] : Prop :=
  ∀ (m : (ℓ : Loc Cert.KernelAfIdeal.nD Cert.KernelAfIdeal.τ Cert.KernelAfIdeal.sig) → Buf (Elt Ideal) ℓ) (g : Dev Cert.KernelAfIdeal.nD → PrngReg), Pre_KernelAfIdeal_finite_scores m →
    θ_run (Cert.KernelAfIdeal.defs (F := Ideal)) (onTc (τ := Cert.KernelAfIdeal.τ) (Cert.KernelAfIdeal.main (F := Ideal))) ⟨m, fun _ => 0, g⟩ (fun r => (∀ c : Dev Cert.KernelAfIdeal.nD,
      r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
      ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
      ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2))
      ∧ r.2.sem = fun _ => 0)

def quiescent_ReferenceAfIdeal [hReferenceAfIdeal : Cert.ReferenceAfIdeal.Facts] : Prop :=
  ∀ (m : (ℓ : Loc Cert.ReferenceAfIdeal.nD Cert.ReferenceAfIdeal.τ Cert.ReferenceAfIdeal.sig) → Buf (Elt Ideal) ℓ) (g : Dev Cert.ReferenceAfIdeal.nD → PrngReg), Pre_ReferenceAfIdeal m →
    θ_run (Cert.ReferenceAfIdeal.defs (F := Ideal)) (onTc (τ := Cert.ReferenceAfIdeal.τ) (Cert.ReferenceAfIdeal.main (F := Ideal))) ⟨m, fun _ => 0, g⟩ (fun r => (∀ c : Dev Cert.ReferenceAfIdeal.nD,
      r.2.mem ((c.tc : Thread Cert.ReferenceAfIdeal.nD Cert.ReferenceAfIdeal.τ).loc Cert.ReferenceAfIdeal.main_arg0) = m ((c.tc : Thread Cert.ReferenceAfIdeal.nD Cert.ReferenceAfIdeal.τ).loc Cert.ReferenceAfIdeal.main_arg0)
      ∧ r.2.mem ((c.tc : Thread Cert.ReferenceAfIdeal.nD Cert.ReferenceAfIdeal.τ).loc Cert.ReferenceAfIdeal.main_arg1) = m ((c.tc : Thread Cert.ReferenceAfIdeal.nD Cert.ReferenceAfIdeal.τ).loc Cert.ReferenceAfIdeal.main_arg1)
      ∧ r.2.mem ((c.tc : Thread Cert.ReferenceAfIdeal.nD Cert.ReferenceAfIdeal.τ).loc Cert.ReferenceAfIdeal.main_arg2) = m ((c.tc : Thread Cert.ReferenceAfIdeal.nD Cert.ReferenceAfIdeal.τ).loc Cert.ReferenceAfIdeal.main_arg2))
      ∧ r.2.sem = fun _ => 0)

def quiescent_ReferenceAfIdeal_pre_finite_scores [hReferenceAfIdeal : Cert.ReferenceAfIdeal.Facts] [hPre_finite_scores : Cert.Pre_finite_scores.Facts] : Prop :=
  ∀ (m : (ℓ : Loc Cert.ReferenceAfIdeal.nD Cert.ReferenceAfIdeal.τ Cert.ReferenceAfIdeal.sig) → Buf (Elt Ideal) ℓ) (g : Dev Cert.ReferenceAfIdeal.nD → PrngReg), Pre_ReferenceAfIdeal_finite_scores m →
    θ_run (Cert.ReferenceAfIdeal.defs (F := Ideal)) (onTc (τ := Cert.ReferenceAfIdeal.τ) (Cert.ReferenceAfIdeal.main (F := Ideal))) ⟨m, fun _ => 0, g⟩ (fun r => (∀ c : Dev Cert.ReferenceAfIdeal.nD,
      r.2.mem ((c.tc : Thread Cert.ReferenceAfIdeal.nD Cert.ReferenceAfIdeal.τ).loc Cert.ReferenceAfIdeal.main_arg0) = m ((c.tc : Thread Cert.ReferenceAfIdeal.nD Cert.ReferenceAfIdeal.τ).loc Cert.ReferenceAfIdeal.main_arg0)
      ∧ r.2.mem ((c.tc : Thread Cert.ReferenceAfIdeal.nD Cert.ReferenceAfIdeal.τ).loc Cert.ReferenceAfIdeal.main_arg1) = m ((c.tc : Thread Cert.ReferenceAfIdeal.nD Cert.ReferenceAfIdeal.τ).loc Cert.ReferenceAfIdeal.main_arg1)
      ∧ r.2.mem ((c.tc : Thread Cert.ReferenceAfIdeal.nD Cert.ReferenceAfIdeal.τ).loc Cert.ReferenceAfIdeal.main_arg2) = m ((c.tc : Thread Cert.ReferenceAfIdeal.nD Cert.ReferenceAfIdeal.τ).loc Cert.ReferenceAfIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)) (v8 : (c : Dev Cert.KernelIdeal.nD) → Buf (Elt Ideal) ((c.tc : Thread Cert.KernelIdeal.nD Cert.KernelIdeal.τ).loc Cert.KernelIdeal.main_v8_8)) (v9 : (c : Dev Cert.KernelIdeal.nD) → Buf (Elt Ideal) ((c.tc : Thread Cert.KernelIdeal.nD Cert.KernelIdeal.τ).loc Cert.KernelIdeal.main_v8_9)) (v10 : (c : Dev Cert.KernelIdeal.nD) → Buf (Elt Ideal) ((c.tc : Thread Cert.KernelIdeal.nD Cert.KernelIdeal.τ).loc Cert.KernelIdeal.main_v8_10)) (v11 : (c : Dev Cert.KernelIdeal.nD) → Buf (Elt Ideal) ((c.tc : Thread Cert.KernelIdeal.nD Cert.KernelIdeal.τ).loc Cert.KernelIdeal.main_v8_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_v8_8) = v8 c
          ∧ r.2.mem ((c.tc : Thread Cert.KernelIdeal.nD Cert.KernelIdeal.τ).loc Cert.KernelIdeal.main_v8_9) = v9 c
          ∧ r.2.mem ((c.tc : Thread Cert.KernelIdeal.nD Cert.KernelIdeal.τ).loc Cert.KernelIdeal.main_v8_10) = v10 c
          ∧ r.2.mem ((c.tc : Thread Cert.KernelIdeal.nD Cert.KernelIdeal.τ).loc Cert.KernelIdeal.main_v8_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_v46) = v5 c
          ∧ r.2.mem ((c.tc : Thread Cert.ReferenceIdeal.nD Cert.ReferenceIdeal.τ).loc Cert.ReferenceIdeal.main_v47) = v6 c
          ∧ r.2.mem ((c.tc : Thread Cert.ReferenceIdeal.nD Cert.ReferenceIdeal.τ).loc Cert.ReferenceIdeal.main_v48) = v7 c
          ∧ r.2.mem ((c.tc : Thread Cert.ReferenceIdeal.nD Cert.ReferenceIdeal.τ).loc Cert.ReferenceIdeal.main_v50) = v8 c
          ∧ r.2.mem ((c.tc : Thread Cert.ReferenceIdeal.nD Cert.ReferenceIdeal.τ).loc Cert.ReferenceIdeal.main_v52) = v9 c
          ∧ r.2.mem ((c.tc : Thread Cert.ReferenceIdeal.nD Cert.ReferenceIdeal.τ).loc Cert.ReferenceIdeal.main_v54) = v10 c
          ∧ r.2.mem ((c.tc : Thread Cert.ReferenceIdeal.nD Cert.ReferenceIdeal.τ).loc Cert.ReferenceIdeal.main_v56) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)) →
    ∃ (v0 : (c : Dev Cert.KernelDxIdeal.nD) → Buf (Elt Ideal) ((c.tc : Thread Cert.KernelDxIdeal.nD Cert.KernelDxIdeal.τ).loc Cert.KernelDxIdeal.main_v1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v1) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v4) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)
      ∧ m' ((c.tc : Thread Cert.ReferenceDwIdeal.nD Cert.ReferenceDwIdeal.τ).loc Cert.ReferenceDwIdeal.main_arg3) = m ((c.tc : Thread Cert.KernelDwIdeal.nD Cert.KernelDwIdeal.τ).loc Cert.KernelDwIdeal.main_arg3)
      ∧ m' ((c.tc : Thread Cert.ReferenceDwIdeal.nD Cert.ReferenceDwIdeal.τ).loc Cert.ReferenceDwIdeal.main_arg4) = m ((c.tc : Thread Cert.KernelDwIdeal.nD Cert.KernelDwIdeal.τ).loc Cert.KernelDwIdeal.main_arg4)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3)
          ∧ r.2.mem ((c.tc : Thread Cert.KernelDwIdeal.nD Cert.KernelDwIdeal.τ).loc Cert.KernelDwIdeal.main_arg4) = m ((c.tc : Thread Cert.KernelDwIdeal.nD Cert.KernelDwIdeal.τ).loc Cert.KernelDwIdeal.main_arg4))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v5) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2)
          ∧ r.2.mem ((c.tc : Thread Cert.ReferenceDwIdeal.nD Cert.ReferenceDwIdeal.τ).loc Cert.ReferenceDwIdeal.main_arg3) = m' ((c.tc : Thread Cert.ReferenceDwIdeal.nD Cert.ReferenceDwIdeal.τ).loc Cert.ReferenceDwIdeal.main_arg3)
          ∧ r.2.mem ((c.tc : Thread Cert.ReferenceDwIdeal.nD Cert.ReferenceDwIdeal.τ).loc Cert.ReferenceDwIdeal.main_arg4) = m' ((c.tc : Thread Cert.ReferenceDwIdeal.nD Cert.ReferenceDwIdeal.τ).loc Cert.ReferenceDwIdeal.main_arg4))

def preserves_KernelBdx_KernelBdxIdeal : Prop :=
  True

def algebraic_KernelBdxIdeal_ReferenceBdxIdeal [hKernelBdxIdeal : Cert.KernelBdxIdeal.Facts] [hReferenceBdxIdeal : Cert.ReferenceBdxIdeal.Facts] : Prop :=
  ∀ (m : (ℓ : Loc Cert.KernelBdxIdeal.nD Cert.KernelBdxIdeal.τ Cert.KernelBdxIdeal.sig) → Buf (Elt Ideal) ℓ) (g : Dev Cert.KernelBdxIdeal.nD → PrngReg)
    (m' : (ℓ : Loc Cert.ReferenceBdxIdeal.nD Cert.ReferenceBdxIdeal.τ Cert.ReferenceBdxIdeal.sig) → Buf (Elt Ideal) ℓ) (g' : Dev Cert.ReferenceBdxIdeal.nD → PrngReg), Pre_KernelBdxIdeal m →
    (∀ c : Dev Cert.KernelBdxIdeal.nD,
      m' ((c.tc : Thread Cert.ReferenceBdxIdeal.nD Cert.ReferenceBdxIdeal.τ).loc Cert.ReferenceBdxIdeal.main_arg0) = m ((c.tc : Thread Cert.KernelBdxIdeal.nD Cert.KernelBdxIdeal.τ).loc Cert.KernelBdxIdeal.main_arg0)
      ∧ m' ((c.tc : Thread Cert.ReferenceBdxIdeal.nD Cert.ReferenceBdxIdeal.τ).loc Cert.ReferenceBdxIdeal.main_arg1) = m ((c.tc : Thread Cert.KernelBdxIdeal.nD Cert.KernelBdxIdeal.τ).loc Cert.KernelBdxIdeal.main_arg1)) →
    ∃ (v0 : (c : Dev Cert.KernelBdxIdeal.nD) → Buf (Elt Ideal) ((c.tc : Thread Cert.KernelBdxIdeal.nD Cert.KernelBdxIdeal.τ).loc Cert.KernelBdxIdeal.main_v1)),
      θ_run (Cert.KernelBdxIdeal.defs (F := Ideal)) (onTc (τ := Cert.KernelBdxIdeal.τ) (Cert.KernelBdxIdeal.main (F := Ideal))) ⟨m, fun _ => 0, g⟩ (fun r => ∀ c : Dev Cert.KernelBdxIdeal.nD,
          r.2.mem ((c.tc : Thread Cert.KernelBdxIdeal.nD Cert.KernelBdxIdeal.τ).loc Cert.KernelBdxIdeal.main_v1) = v0 c
          ∧ r.2.mem ((c.tc : Thread Cert.KernelBdxIdeal.nD Cert.KernelBdxIdeal.τ).loc Cert.KernelBdxIdeal.main_arg0) = m ((c.tc : Thread Cert.KernelBdxIdeal.nD Cert.KernelBdxIdeal.τ).loc Cert.KernelBdxIdeal.main_arg0)
          ∧ r.2.mem ((c.tc : Thread Cert.KernelBdxIdeal.nD Cert.KernelBdxIdeal.τ).loc Cert.KernelBdxIdeal.main_arg1) = m ((c.tc : Thread Cert.KernelBdxIdeal.nD Cert.KernelBdxIdeal.τ).loc Cert.KernelBdxIdeal.main_arg1))
      ∧ θ_run (Cert.ReferenceBdxIdeal.defs (F := Ideal)) (onTc (τ := Cert.ReferenceBdxIdeal.τ) (Cert.ReferenceBdxIdeal.main (F := Ideal))) ⟨m', fun _ => 0, g'⟩ (fun r => ∀ c : Dev Cert.ReferenceBdxIdeal.nD,
          r.2.mem ((c.tc : Thread Cert.ReferenceBdxIdeal.nD Cert.ReferenceBdxIdeal.τ).loc Cert.ReferenceBdxIdeal.main_v3) = v0 c
          ∧ r.2.mem ((c.tc : Thread Cert.ReferenceBdxIdeal.nD Cert.ReferenceBdxIdeal.τ).loc Cert.ReferenceBdxIdeal.main_arg0) = m' ((c.tc : Thread Cert.ReferenceBdxIdeal.nD Cert.ReferenceBdxIdeal.τ).loc Cert.ReferenceBdxIdeal.main_arg0)
          ∧ r.2.mem ((c.tc : Thread Cert.ReferenceBdxIdeal.nD Cert.ReferenceBdxIdeal.τ).loc Cert.ReferenceBdxIdeal.main_arg1) = m' ((c.tc : Thread Cert.ReferenceBdxIdeal.nD Cert.ReferenceBdxIdeal.τ).loc Cert.ReferenceBdxIdeal.main_arg1))

def preserves_KernelBdw_KernelBdwIdeal : Prop :=
  True

def algebraic_KernelBdwIdeal_ReferenceBdwIdeal [hKernelBdwIdeal : Cert.KernelBdwIdeal.Facts] [hReferenceBdwIdeal : Cert.ReferenceBdwIdeal.Facts] : Prop :=
  ∀ (m : (ℓ : Loc Cert.KernelBdwIdeal.nD Cert.KernelBdwIdeal.τ Cert.KernelBdwIdeal.sig) → Buf (Elt Ideal) ℓ) (g : Dev Cert.KernelBdwIdeal.nD → PrngReg)
    (m' : (ℓ : Loc Cert.ReferenceBdwIdeal.nD Cert.ReferenceBdwIdeal.τ Cert.ReferenceBdwIdeal.sig) → Buf (Elt Ideal) ℓ) (g' : Dev Cert.ReferenceBdwIdeal.nD → PrngReg), Pre_KernelBdwIdeal m →
    (∀ c : Dev Cert.KernelBdwIdeal.nD,
      m' ((c.tc : Thread Cert.ReferenceBdwIdeal.nD Cert.ReferenceBdwIdeal.τ).loc Cert.ReferenceBdwIdeal.main_arg0) = m ((c.tc : Thread Cert.KernelBdwIdeal.nD Cert.KernelBdwIdeal.τ).loc Cert.KernelBdwIdeal.main_arg0)
      ∧ m' ((c.tc : Thread Cert.ReferenceBdwIdeal.nD Cert.ReferenceBdwIdeal.τ).loc Cert.ReferenceBdwIdeal.main_arg1) = m ((c.tc : Thread Cert.KernelBdwIdeal.nD Cert.KernelBdwIdeal.τ).loc Cert.KernelBdwIdeal.main_arg1)) →
    ∃ (v0 : (c : Dev Cert.KernelBdwIdeal.nD) → Buf (Elt Ideal) ((c.tc : Thread Cert.KernelBdwIdeal.nD Cert.KernelBdwIdeal.τ).loc Cert.KernelBdwIdeal.main_v0)),
      θ_run (Cert.KernelBdwIdeal.defs (F := Ideal)) (onTc (τ := Cert.KernelBdwIdeal.τ) (Cert.KernelBdwIdeal.main (F := Ideal))) ⟨m, fun _ => 0, g⟩ (fun r => ∀ c : Dev Cert.KernelBdwIdeal.nD,
          r.2.mem ((c.tc : Thread Cert.KernelBdwIdeal.nD Cert.KernelBdwIdeal.τ).loc Cert.KernelBdwIdeal.main_v0) = v0 c
          ∧ r.2.mem ((c.tc : Thread Cert.KernelBdwIdeal.nD Cert.KernelBdwIdeal.τ).loc Cert.KernelBdwIdeal.main_arg0) = m ((c.tc : Thread Cert.KernelBdwIdeal.nD Cert.KernelBdwIdeal.τ).loc Cert.KernelBdwIdeal.main_arg0)
          ∧ r.2.mem ((c.tc : Thread Cert.KernelBdwIdeal.nD Cert.KernelBdwIdeal.τ).loc Cert.KernelBdwIdeal.main_arg1) = m ((c.tc : Thread Cert.KernelBdwIdeal.nD Cert.KernelBdwIdeal.τ).loc Cert.KernelBdwIdeal.main_arg1))
      ∧ θ_run (Cert.ReferenceBdwIdeal.defs (F := Ideal)) (onTc (τ := Cert.ReferenceBdwIdeal.τ) (Cert.ReferenceBdwIdeal.main (F := Ideal))) ⟨m', fun _ => 0, g'⟩ (fun r => ∀ c : Dev Cert.ReferenceBdwIdeal.nD,
          r.2.mem ((c.tc : Thread Cert.ReferenceBdwIdeal.nD Cert.ReferenceBdwIdeal.τ).loc Cert.ReferenceBdwIdeal.main_v4) = v0 c
          ∧ r.2.mem ((c.tc : Thread Cert.ReferenceBdwIdeal.nD Cert.ReferenceBdwIdeal.τ).loc Cert.ReferenceBdwIdeal.main_arg0) = m' ((c.tc : Thread Cert.ReferenceBdwIdeal.nD Cert.ReferenceBdwIdeal.τ).loc Cert.ReferenceBdwIdeal.main_arg0)
          ∧ r.2.mem ((c.tc : Thread Cert.ReferenceBdwIdeal.nD Cert.ReferenceBdwIdeal.τ).loc Cert.ReferenceBdwIdeal.main_arg1) = m' ((c.tc : Thread Cert.ReferenceBdwIdeal.nD Cert.ReferenceBdwIdeal.τ).loc Cert.ReferenceBdwIdeal.main_arg1))

def preserves_KernelGdw_KernelGdwIdeal : Prop :=
  True

def algebraic_KernelGdwIdeal_ReferenceGdwIdeal [hKernelGdwIdeal : Cert.KernelGdwIdeal.Facts] [hReferenceGdwIdeal : Cert.ReferenceGdwIdeal.Facts] : Prop :=
  ∀ (m : (ℓ : Loc Cert.KernelGdwIdeal.nD Cert.KernelGdwIdeal.τ Cert.KernelGdwIdeal.sig) → Buf (Elt Ideal) ℓ) (g : Dev Cert.KernelGdwIdeal.nD → PrngReg)
    (m' : (ℓ : Loc Cert.ReferenceGdwIdeal.nD Cert.ReferenceGdwIdeal.τ Cert.ReferenceGdwIdeal.sig) → Buf (Elt Ideal) ℓ) (g' : Dev Cert.ReferenceGdwIdeal.nD → PrngReg), Pre_KernelGdwIdeal m →
    (∀ c : Dev Cert.KernelGdwIdeal.nD,
      m' ((c.tc : Thread Cert.ReferenceGdwIdeal.nD Cert.ReferenceGdwIdeal.τ).loc Cert.ReferenceGdwIdeal.main_arg0) = m ((c.tc : Thread Cert.KernelGdwIdeal.nD Cert.KernelGdwIdeal.τ).loc Cert.KernelGdwIdeal.main_arg0)
      ∧ m' ((c.tc : Thread Cert.ReferenceGdwIdeal.nD Cert.ReferenceGdwIdeal.τ).loc Cert.ReferenceGdwIdeal.main_arg1) = m ((c.tc : Thread Cert.KernelGdwIdeal.nD Cert.KernelGdwIdeal.τ).loc Cert.KernelGdwIdeal.main_arg1)
      ∧ m' ((c.tc : Thread Cert.ReferenceGdwIdeal.nD Cert.ReferenceGdwIdeal.τ).loc Cert.ReferenceGdwIdeal.main_arg2) = m ((c.tc : Thread Cert.KernelGdwIdeal.nD Cert.KernelGdwIdeal.τ).loc Cert.KernelGdwIdeal.main_arg2)) →
    ∃ (v0 : (c : Dev Cert.KernelGdwIdeal.nD) → Buf (Elt Ideal) ((c.tc : Thread Cert.KernelGdwIdeal.nD Cert.KernelGdwIdeal.τ).loc Cert.KernelGdwIdeal.main_v0)),
      θ_run (Cert.KernelGdwIdeal.defs (F := Ideal)) (onTc (τ := Cert.KernelGdwIdeal.τ) (Cert.KernelGdwIdeal.main (F := Ideal))) ⟨m, fun _ => 0, g⟩ (fun r => ∀ c : Dev Cert.KernelGdwIdeal.nD,
          r.2.mem ((c.tc : Thread Cert.KernelGdwIdeal.nD Cert.KernelGdwIdeal.τ).loc Cert.KernelGdwIdeal.main_v0) = v0 c
          ∧ r.2.mem ((c.tc : Thread Cert.KernelGdwIdeal.nD Cert.KernelGdwIdeal.τ).loc Cert.KernelGdwIdeal.main_arg0) = m ((c.tc : Thread Cert.KernelGdwIdeal.nD Cert.KernelGdwIdeal.τ).loc Cert.KernelGdwIdeal.main_arg0)
          ∧ r.2.mem ((c.tc : Thread Cert.KernelGdwIdeal.nD Cert.KernelGdwIdeal.τ).loc Cert.KernelGdwIdeal.main_arg1) = m ((c.tc : Thread Cert.KernelGdwIdeal.nD Cert.KernelGdwIdeal.τ).loc Cert.KernelGdwIdeal.main_arg1)
          ∧ r.2.mem ((c.tc : Thread Cert.KernelGdwIdeal.nD Cert.KernelGdwIdeal.τ).loc Cert.KernelGdwIdeal.main_arg2) = m ((c.tc : Thread Cert.KernelGdwIdeal.nD Cert.KernelGdwIdeal.τ).loc Cert.KernelGdwIdeal.main_arg2))
      ∧ θ_run (Cert.ReferenceGdwIdeal.defs (F := Ideal)) (onTc (τ := Cert.ReferenceGdwIdeal.τ) (Cert.ReferenceGdwIdeal.main (F := Ideal))) ⟨m', fun _ => 0, g'⟩ (fun r => ∀ c : Dev Cert.ReferenceGdwIdeal.nD,
          r.2.mem ((c.tc : Thread Cert.ReferenceGdwIdeal.nD Cert.ReferenceGdwIdeal.τ).loc Cert.ReferenceGdwIdeal.main_v6) = v0 c
          ∧ r.2.mem ((c.tc : Thread Cert.ReferenceGdwIdeal.nD Cert.ReferenceGdwIdeal.τ).loc Cert.ReferenceGdwIdeal.main_arg0) = m' ((c.tc : Thread Cert.ReferenceGdwIdeal.nD Cert.ReferenceGdwIdeal.τ).loc Cert.ReferenceGdwIdeal.main_arg0)
          ∧ r.2.mem ((c.tc : Thread Cert.ReferenceGdwIdeal.nD Cert.ReferenceGdwIdeal.τ).loc Cert.ReferenceGdwIdeal.main_arg1) = m' ((c.tc : Thread Cert.ReferenceGdwIdeal.nD Cert.ReferenceGdwIdeal.τ).loc Cert.ReferenceGdwIdeal.main_arg1)
          ∧ r.2.mem ((c.tc : Thread Cert.ReferenceGdwIdeal.nD Cert.ReferenceGdwIdeal.τ).loc Cert.ReferenceGdwIdeal.main_arg2) = m' ((c.tc : Thread Cert.ReferenceGdwIdeal.nD Cert.ReferenceGdwIdeal.τ).loc Cert.ReferenceGdwIdeal.main_arg2))

def preserves_KernelGdx_KernelGdxIdeal : Prop :=
  True

def algebraic_KernelGdxIdeal_ReferenceGdxIdeal_pre_finite_branch [hKernelGdxIdeal : Cert.KernelGdxIdeal.Facts] [hReferenceGdxIdeal : Cert.ReferenceGdxIdeal.Facts] [hPre_finite_branch : Cert.Pre_finite_branch.Facts] : Prop :=
  ∀ (m : (ℓ : Loc Cert.KernelGdxIdeal.nD Cert.KernelGdxIdeal.τ Cert.KernelGdxIdeal.sig) → Buf (Elt Ideal) ℓ) (g : Dev Cert.KernelGdxIdeal.nD → PrngReg)
    (m' : (ℓ : Loc Cert.ReferenceGdxIdeal.nD Cert.ReferenceGdxIdeal.τ Cert.ReferenceGdxIdeal.sig) → Buf (Elt Ideal) ℓ) (g' : Dev Cert.ReferenceGdxIdeal.nD → PrngReg), Pre_KernelGdxIdeal_finite_branch m →
    (∀ c : Dev Cert.KernelGdxIdeal.nD,
      m' ((c.tc : Thread Cert.ReferenceGdxIdeal.nD Cert.ReferenceGdxIdeal.τ).loc Cert.ReferenceGdxIdeal.main_arg0) = m ((c.tc : Thread Cert.KernelGdxIdeal.nD Cert.KernelGdxIdeal.τ).loc Cert.KernelGdxIdeal.main_arg0)
      ∧ m' ((c.tc : Thread Cert.ReferenceGdxIdeal.nD Cert.ReferenceGdxIdeal.τ).loc Cert.ReferenceGdxIdeal.main_arg1) = m ((c.tc : Thread Cert.KernelGdxIdeal.nD Cert.KernelGdxIdeal.τ).loc Cert.KernelGdxIdeal.main_arg1)
      ∧ m' ((c.tc : Thread Cert.ReferenceGdxIdeal.nD Cert.ReferenceGdxIdeal.τ).loc Cert.ReferenceGdxIdeal.main_arg2) = m ((c.tc : Thread Cert.KernelGdxIdeal.nD Cert.KernelGdxIdeal.τ).loc Cert.KernelGdxIdeal.main_arg2)
      ∧ m' ((c.tc : Thread Cert.ReferenceGdxIdeal.nD Cert.ReferenceGdxIdeal.τ).loc Cert.ReferenceGdxIdeal.main_arg3) = m ((c.tc : Thread Cert.KernelGdxIdeal.nD Cert.KernelGdxIdeal.τ).loc Cert.KernelGdxIdeal.main_arg3)) →
    ∃ (v0 : (c : Dev Cert.KernelGdxIdeal.nD) → Buf (Elt Ideal) ((c.tc : Thread Cert.KernelGdxIdeal.nD Cert.KernelGdxIdeal.τ).loc Cert.KernelGdxIdeal.main_v1_0)) (v1 : (c : Dev Cert.KernelGdxIdeal.nD) → Buf (Elt Ideal) ((c.tc : Thread Cert.KernelGdxIdeal.nD Cert.KernelGdxIdeal.τ).loc Cert.KernelGdxIdeal.main_v1_1)),
      θ_run (Cert.KernelGdxIdeal.defs (F := Ideal)) (onTc (τ := Cert.KernelGdxIdeal.τ) (Cert.KernelGdxIdeal.main (F := Ideal))) ⟨m, fun _ => 0, g⟩ (fun r => ∀ c : Dev Cert.KernelGdxIdeal.nD,
          r.2.mem ((c.tc : Thread Cert.KernelGdxIdeal.nD Cert.KernelGdxIdeal.τ).loc Cert.KernelGdxIdeal.main_v1_0) = v0 c
          ∧ r.2.mem ((c.tc : Thread Cert.KernelGdxIdeal.nD Cert.KernelGdxIdeal.τ).loc Cert.KernelGdxIdeal.main_v1_1) = v1 c
          ∧ r.2.mem ((c.tc : Thread Cert.KernelGdxIdeal.nD Cert.KernelGdxIdeal.τ).loc Cert.KernelGdxIdeal.main_arg0) = m ((c.tc : Thread Cert.KernelGdxIdeal.nD Cert.KernelGdxIdeal.τ).loc Cert.KernelGdxIdeal.main_arg0)
          ∧ r.2.mem ((c.tc : Thread Cert.KernelGdxIdeal.nD Cert.KernelGdxIdeal.τ).loc Cert.KernelGdxIdeal.main_arg1) = m ((c.tc : Thread Cert.KernelGdxIdeal.nD Cert.KernelGdxIdeal.τ).loc Cert.KernelGdxIdeal.main_arg1)
          ∧ r.2.mem ((c.tc : Thread Cert.KernelGdxIdeal.nD Cert.KernelGdxIdeal.τ).loc Cert.KernelGdxIdeal.main_arg2) = m ((c.tc : Thread Cert.KernelGdxIdeal.nD Cert.KernelGdxIdeal.τ).loc Cert.KernelGdxIdeal.main_arg2)
          ∧ r.2.mem ((c.tc : Thread Cert.KernelGdxIdeal.nD Cert.KernelGdxIdeal.τ).loc Cert.KernelGdxIdeal.main_arg3) = m ((c.tc : Thread Cert.KernelGdxIdeal.nD Cert.KernelGdxIdeal.τ).loc Cert.KernelGdxIdeal.main_arg3))
      ∧ θ_run (Cert.ReferenceGdxIdeal.defs (F := Ideal)) (onTc (τ := Cert.ReferenceGdxIdeal.τ) (Cert.ReferenceGdxIdeal.main (F := Ideal))) ⟨m', fun _ => 0, g'⟩ (fun r => ∀ c : Dev Cert.ReferenceGdxIdeal.nD,
          r.2.mem ((c.tc : Thread Cert.ReferenceGdxIdeal.nD Cert.ReferenceGdxIdeal.τ).loc Cert.ReferenceGdxIdeal.main_v6) = v0 c
          ∧ r.2.mem ((c.tc : Thread Cert.ReferenceGdxIdeal.nD Cert.ReferenceGdxIdeal.τ).loc Cert.ReferenceGdxIdeal.main_v7) = v1 c
          ∧ r.2.mem ((c.tc : Thread Cert.ReferenceGdxIdeal.nD Cert.ReferenceGdxIdeal.τ).loc Cert.ReferenceGdxIdeal.main_arg0) = m' ((c.tc : Thread Cert.ReferenceGdxIdeal.nD Cert.ReferenceGdxIdeal.τ).loc Cert.ReferenceGdxIdeal.main_arg0)
          ∧ r.2.mem ((c.tc : Thread Cert.ReferenceGdxIdeal.nD Cert.ReferenceGdxIdeal.τ).loc Cert.ReferenceGdxIdeal.main_arg1) = m' ((c.tc : Thread Cert.ReferenceGdxIdeal.nD Cert.ReferenceGdxIdeal.τ).loc Cert.ReferenceGdxIdeal.main_arg1)
          ∧ r.2.mem ((c.tc : Thread Cert.ReferenceGdxIdeal.nD Cert.ReferenceGdxIdeal.τ).loc Cert.ReferenceGdxIdeal.main_arg2) = m' ((c.tc : Thread Cert.ReferenceGdxIdeal.nD Cert.ReferenceGdxIdeal.τ).loc Cert.ReferenceGdxIdeal.main_arg2)
          ∧ r.2.mem ((c.tc : Thread Cert.ReferenceGdxIdeal.nD Cert.ReferenceGdxIdeal.τ).loc Cert.ReferenceGdxIdeal.main_arg3) = m' ((c.tc : Thread Cert.ReferenceGdxIdeal.nD Cert.ReferenceGdxIdeal.τ).loc Cert.ReferenceGdxIdeal.main_arg3))

def preserves_KernelIdx_KernelIdxIdeal : Prop :=
  True

def algebraic_KernelIdxIdeal_ReferenceIdxIdeal [hKernelIdxIdeal : Cert.KernelIdxIdeal.Facts] [hReferenceIdxIdeal : Cert.ReferenceIdxIdeal.Facts] : Prop :=
  ∀ (m : (ℓ : Loc Cert.KernelIdxIdeal.nD Cert.KernelIdxIdeal.τ Cert.KernelIdxIdeal.sig) → Buf (Elt Ideal) ℓ) (g : Dev Cert.KernelIdxIdeal.nD → PrngReg)
    (m' : (ℓ : Loc Cert.ReferenceIdxIdeal.nD Cert.ReferenceIdxIdeal.τ Cert.ReferenceIdxIdeal.sig) → Buf (Elt Ideal) ℓ) (g' : Dev Cert.ReferenceIdxIdeal.nD → PrngReg), Pre_KernelIdxIdeal m →
    (∀ c : Dev Cert.KernelIdxIdeal.nD,
      m' ((c.tc : Thread Cert.ReferenceIdxIdeal.nD Cert.ReferenceIdxIdeal.τ).loc Cert.ReferenceIdxIdeal.main_arg0) = m ((c.tc : Thread Cert.KernelIdxIdeal.nD Cert.KernelIdxIdeal.τ).loc Cert.KernelIdxIdeal.main_arg0)
      ∧ m' ((c.tc : Thread Cert.ReferenceIdxIdeal.nD Cert.ReferenceIdxIdeal.τ).loc Cert.ReferenceIdxIdeal.main_arg1) = m ((c.tc : Thread Cert.KernelIdxIdeal.nD Cert.KernelIdxIdeal.τ).loc Cert.KernelIdxIdeal.main_arg1)
      ∧ m' ((c.tc : Thread Cert.ReferenceIdxIdeal.nD Cert.ReferenceIdxIdeal.τ).loc Cert.ReferenceIdxIdeal.main_arg2) = m ((c.tc : Thread Cert.KernelIdxIdeal.nD Cert.KernelIdxIdeal.τ).loc Cert.KernelIdxIdeal.main_arg2)
      ∧ m' ((c.tc : Thread Cert.ReferenceIdxIdeal.nD Cert.ReferenceIdxIdeal.τ).loc Cert.ReferenceIdxIdeal.main_arg3) = m ((c.tc : Thread Cert.KernelIdxIdeal.nD Cert.KernelIdxIdeal.τ).loc Cert.KernelIdxIdeal.main_arg3)
      ∧ m' ((c.tc : Thread Cert.ReferenceIdxIdeal.nD Cert.ReferenceIdxIdeal.τ).loc Cert.ReferenceIdxIdeal.main_arg4) = m ((c.tc : Thread Cert.KernelIdxIdeal.nD Cert.KernelIdxIdeal.τ).loc Cert.KernelIdxIdeal.main_arg4)
      ∧ m' ((c.tc : Thread Cert.ReferenceIdxIdeal.nD Cert.ReferenceIdxIdeal.τ).loc Cert.ReferenceIdxIdeal.main_arg5) = m ((c.tc : Thread Cert.KernelIdxIdeal.nD Cert.KernelIdxIdeal.τ).loc Cert.KernelIdxIdeal.main_arg5)
      ∧ m' ((c.tc : Thread Cert.ReferenceIdxIdeal.nD Cert.ReferenceIdxIdeal.τ).loc Cert.ReferenceIdxIdeal.main_arg6) = m ((c.tc : Thread Cert.KernelIdxIdeal.nD Cert.KernelIdxIdeal.τ).loc Cert.KernelIdxIdeal.main_arg6)
      ∧ m' ((c.tc : Thread Cert.ReferenceIdxIdeal.nD Cert.ReferenceIdxIdeal.τ).loc Cert.ReferenceIdxIdeal.main_arg7) = m ((c.tc : Thread Cert.KernelIdxIdeal.nD Cert.KernelIdxIdeal.τ).loc Cert.KernelIdxIdeal.main_arg7)
      ∧ m' ((c.tc : Thread Cert.ReferenceIdxIdeal.nD Cert.ReferenceIdxIdeal.τ).loc Cert.ReferenceIdxIdeal.main_arg8) = m ((c.tc : Thread Cert.KernelIdxIdeal.nD Cert.KernelIdxIdeal.τ).loc Cert.KernelIdxIdeal.main_arg8)
      ∧ m' ((c.tc : Thread Cert.ReferenceIdxIdeal.nD Cert.ReferenceIdxIdeal.τ).loc Cert.ReferenceIdxIdeal.main_arg9) = m ((c.tc : Thread Cert.KernelIdxIdeal.nD Cert.KernelIdxIdeal.τ).loc Cert.KernelIdxIdeal.main_arg9)
      ∧ m' ((c.tc : Thread Cert.ReferenceIdxIdeal.nD Cert.ReferenceIdxIdeal.τ).loc Cert.ReferenceIdxIdeal.main_arg10) = m ((c.tc : Thread Cert.KernelIdxIdeal.nD Cert.KernelIdxIdeal.τ).loc Cert.KernelIdxIdeal.main_arg10)
      ∧ m' ((c.tc : Thread Cert.ReferenceIdxIdeal.nD Cert.ReferenceIdxIdeal.τ).loc Cert.ReferenceIdxIdeal.main_arg11) = m ((c.tc : Thread Cert.KernelIdxIdeal.nD Cert.KernelIdxIdeal.τ).loc Cert.KernelIdxIdeal.main_arg11)
      ∧ m' ((c.tc : Thread Cert.ReferenceIdxIdeal.nD Cert.ReferenceIdxIdeal.τ).loc Cert.ReferenceIdxIdeal.main_arg12) = m ((c.tc : Thread Cert.KernelIdxIdeal.nD Cert.KernelIdxIdeal.τ).loc Cert.KernelIdxIdeal.main_arg12)
      ∧ m' ((c.tc : Thread Cert.ReferenceIdxIdeal.nD Cert.ReferenceIdxIdeal.τ).loc Cert.ReferenceIdxIdeal.main_arg13) = m ((c.tc : Thread Cert.KernelIdxIdeal.nD Cert.KernelIdxIdeal.τ).loc Cert.KernelIdxIdeal.main_arg13)) →
    ∃ (v0 : (c : Dev Cert.KernelIdxIdeal.nD) → Buf (Elt Ideal) ((c.tc : Thread Cert.KernelIdxIdeal.nD Cert.KernelIdxIdeal.τ).loc Cert.KernelIdxIdeal.main_v1)),
      θ_run (Cert.KernelIdxIdeal.defs (F := Ideal)) (onTc (τ := Cert.KernelIdxIdeal.τ) (Cert.KernelIdxIdeal.main (F := Ideal))) ⟨m, fun _ => 0, g⟩ (fun r => ∀ c : Dev Cert.KernelIdxIdeal.nD,
          r.2.mem ((c.tc : Thread Cert.KernelIdxIdeal.nD Cert.KernelIdxIdeal.τ).loc Cert.KernelIdxIdeal.main_v1) = v0 c
          ∧ r.2.mem ((c.tc : Thread Cert.KernelIdxIdeal.nD Cert.KernelIdxIdeal.τ).loc Cert.KernelIdxIdeal.main_arg0) = m ((c.tc : Thread Cert.KernelIdxIdeal.nD Cert.KernelIdxIdeal.τ).loc Cert.KernelIdxIdeal.main_arg0)
          ∧ r.2.mem ((c.tc : Thread Cert.KernelIdxIdeal.nD Cert.KernelIdxIdeal.τ).loc Cert.KernelIdxIdeal.main_arg1) = m ((c.tc : Thread Cert.KernelIdxIdeal.nD Cert.KernelIdxIdeal.τ).loc Cert.KernelIdxIdeal.main_arg1)
          ∧ r.2.mem ((c.tc : Thread Cert.KernelIdxIdeal.nD Cert.KernelIdxIdeal.τ).loc Cert.KernelIdxIdeal.main_arg2) = m ((c.tc : Thread Cert.KernelIdxIdeal.nD Cert.KernelIdxIdeal.τ).loc Cert.KernelIdxIdeal.main_arg2)
          ∧ r.2.mem ((c.tc : Thread Cert.KernelIdxIdeal.nD Cert.KernelIdxIdeal.τ).loc Cert.KernelIdxIdeal.main_arg3) = m ((c.tc : Thread Cert.KernelIdxIdeal.nD Cert.KernelIdxIdeal.τ).loc Cert.KernelIdxIdeal.main_arg3)
          ∧ r.2.mem ((c.tc : Thread Cert.KernelIdxIdeal.nD Cert.KernelIdxIdeal.τ).loc Cert.KernelIdxIdeal.main_arg4) = m ((c.tc : Thread Cert.KernelIdxIdeal.nD Cert.KernelIdxIdeal.τ).loc Cert.KernelIdxIdeal.main_arg4)
          ∧ r.2.mem ((c.tc : Thread Cert.KernelIdxIdeal.nD Cert.KernelIdxIdeal.τ).loc Cert.KernelIdxIdeal.main_arg5) = m ((c.tc : Thread Cert.KernelIdxIdeal.nD Cert.KernelIdxIdeal.τ).loc Cert.KernelIdxIdeal.main_arg5)
          ∧ r.2.mem ((c.tc : Thread Cert.KernelIdxIdeal.nD Cert.KernelIdxIdeal.τ).loc Cert.KernelIdxIdeal.main_arg6) = m ((c.tc : Thread Cert.KernelIdxIdeal.nD Cert.KernelIdxIdeal.τ).loc Cert.KernelIdxIdeal.main_arg6)
          ∧ r.2.mem ((c.tc : Thread Cert.KernelIdxIdeal.nD Cert.KernelIdxIdeal.τ).loc Cert.KernelIdxIdeal.main_arg7) = m ((c.tc : Thread Cert.KernelIdxIdeal.nD Cert.KernelIdxIdeal.τ).loc Cert.KernelIdxIdeal.main_arg7)
          ∧ r.2.mem ((c.tc : Thread Cert.KernelIdxIdeal.nD Cert.KernelIdxIdeal.τ).loc Cert.KernelIdxIdeal.main_arg8) = m ((c.tc : Thread Cert.KernelIdxIdeal.nD Cert.KernelIdxIdeal.τ).loc Cert.KernelIdxIdeal.main_arg8)
          ∧ r.2.mem ((c.tc : Thread Cert.KernelIdxIdeal.nD Cert.KernelIdxIdeal.τ).loc Cert.KernelIdxIdeal.main_arg9) = m ((c.tc : Thread Cert.KernelIdxIdeal.nD Cert.KernelIdxIdeal.τ).loc Cert.KernelIdxIdeal.main_arg9)
          ∧ r.2.mem ((c.tc : Thread Cert.KernelIdxIdeal.nD Cert.KernelIdxIdeal.τ).loc Cert.KernelIdxIdeal.main_arg10) = m ((c.tc : Thread Cert.KernelIdxIdeal.nD Cert.KernelIdxIdeal.τ).loc Cert.KernelIdxIdeal.main_arg10)
          ∧ r.2.mem ((c.tc : Thread Cert.KernelIdxIdeal.nD Cert.KernelIdxIdeal.τ).loc Cert.KernelIdxIdeal.main_arg11) = m ((c.tc : Thread Cert.KernelIdxIdeal.nD Cert.KernelIdxIdeal.τ).loc Cert.KernelIdxIdeal.main_arg11)
          ∧ r.2.mem ((c.tc : Thread Cert.KernelIdxIdeal.nD Cert.KernelIdxIdeal.τ).loc Cert.KernelIdxIdeal.main_arg12) = m ((c.tc : Thread Cert.KernelIdxIdeal.nD Cert.KernelIdxIdeal.τ).loc Cert.KernelIdxIdeal.main_arg12)
          ∧ r.2.mem ((c.tc : Thread Cert.KernelIdxIdeal.nD Cert.KernelIdxIdeal.τ).loc Cert.KernelIdxIdeal.main_arg13) = m ((c.tc : Thread Cert.KernelIdxIdeal.nD Cert.KernelIdxIdeal.τ).loc Cert.KernelIdxIdeal.main_arg13))
      ∧ θ_run (Cert.ReferenceIdxIdeal.defs (F := Ideal)) (onTc (τ := Cert.ReferenceIdxIdeal.τ) (Cert.ReferenceIdxIdeal.main (F := Ideal))) ⟨m', fun _ => 0, g'⟩ (fun r => ∀ c : Dev Cert.ReferenceIdxIdeal.nD,
          r.2.mem ((c.tc : Thread Cert.ReferenceIdxIdeal.nD Cert.ReferenceIdxIdeal.τ).loc Cert.ReferenceIdxIdeal.main_v3) = v0 c
          ∧ r.2.mem ((c.tc : Thread Cert.ReferenceIdxIdeal.nD Cert.ReferenceIdxIdeal.τ).loc Cert.ReferenceIdxIdeal.main_arg0) = m' ((c.tc : Thread Cert.ReferenceIdxIdeal.nD Cert.ReferenceIdxIdeal.τ).loc Cert.ReferenceIdxIdeal.main_arg0)
          ∧ r.2.mem ((c.tc : Thread Cert.ReferenceIdxIdeal.nD Cert.ReferenceIdxIdeal.τ).loc Cert.ReferenceIdxIdeal.main_arg1) = m' ((c.tc : Thread Cert.ReferenceIdxIdeal.nD Cert.ReferenceIdxIdeal.τ).loc Cert.ReferenceIdxIdeal.main_arg1)
          ∧ r.2.mem ((c.tc : Thread Cert.ReferenceIdxIdeal.nD Cert.ReferenceIdxIdeal.τ).loc Cert.ReferenceIdxIdeal.main_arg2) = m' ((c.tc : Thread Cert.ReferenceIdxIdeal.nD Cert.ReferenceIdxIdeal.τ).loc Cert.ReferenceIdxIdeal.main_arg2)
          ∧ r.2.mem ((c.tc : Thread Cert.ReferenceIdxIdeal.nD Cert.ReferenceIdxIdeal.τ).loc Cert.ReferenceIdxIdeal.main_arg3) = m' ((c.tc : Thread Cert.ReferenceIdxIdeal.nD Cert.ReferenceIdxIdeal.τ).loc Cert.ReferenceIdxIdeal.main_arg3)
          ∧ r.2.mem ((c.tc : Thread Cert.ReferenceIdxIdeal.nD Cert.ReferenceIdxIdeal.τ).loc Cert.ReferenceIdxIdeal.main_arg4) = m' ((c.tc : Thread Cert.ReferenceIdxIdeal.nD Cert.ReferenceIdxIdeal.τ).loc Cert.ReferenceIdxIdeal.main_arg4)
          ∧ r.2.mem ((c.tc : Thread Cert.ReferenceIdxIdeal.nD Cert.ReferenceIdxIdeal.τ).loc Cert.ReferenceIdxIdeal.main_arg5) = m' ((c.tc : Thread Cert.ReferenceIdxIdeal.nD Cert.ReferenceIdxIdeal.τ).loc Cert.ReferenceIdxIdeal.main_arg5)
          ∧ r.2.mem ((c.tc : Thread Cert.ReferenceIdxIdeal.nD Cert.ReferenceIdxIdeal.τ).loc Cert.ReferenceIdxIdeal.main_arg6) = m' ((c.tc : Thread Cert.ReferenceIdxIdeal.nD Cert.ReferenceIdxIdeal.τ).loc Cert.ReferenceIdxIdeal.main_arg6)
          ∧ r.2.mem ((c.tc : Thread Cert.ReferenceIdxIdeal.nD Cert.ReferenceIdxIdeal.τ).loc Cert.ReferenceIdxIdeal.main_arg7) = m' ((c.tc : Thread Cert.ReferenceIdxIdeal.nD Cert.ReferenceIdxIdeal.τ).loc Cert.ReferenceIdxIdeal.main_arg7)
          ∧ r.2.mem ((c.tc : Thread Cert.ReferenceIdxIdeal.nD Cert.ReferenceIdxIdeal.τ).loc Cert.ReferenceIdxIdeal.main_arg8) = m' ((c.tc : Thread Cert.ReferenceIdxIdeal.nD Cert.ReferenceIdxIdeal.τ).loc Cert.ReferenceIdxIdeal.main_arg8)
          ∧ r.2.mem ((c.tc : Thread Cert.ReferenceIdxIdeal.nD Cert.ReferenceIdxIdeal.τ).loc Cert.ReferenceIdxIdeal.main_arg9) = m' ((c.tc : Thread Cert.ReferenceIdxIdeal.nD Cert.ReferenceIdxIdeal.τ).loc Cert.ReferenceIdxIdeal.main_arg9)
          ∧ r.2.mem ((c.tc : Thread Cert.ReferenceIdxIdeal.nD Cert.ReferenceIdxIdeal.τ).loc Cert.ReferenceIdxIdeal.main_arg10) = m' ((c.tc : Thread Cert.ReferenceIdxIdeal.nD Cert.ReferenceIdxIdeal.τ).loc Cert.ReferenceIdxIdeal.main_arg10)
          ∧ r.2.mem ((c.tc : Thread Cert.ReferenceIdxIdeal.nD Cert.ReferenceIdxIdeal.τ).loc Cert.ReferenceIdxIdeal.main_arg11) = m' ((c.tc : Thread Cert.ReferenceIdxIdeal.nD Cert.ReferenceIdxIdeal.τ).loc Cert.ReferenceIdxIdeal.main_arg11)
          ∧ r.2.mem ((c.tc : Thread Cert.ReferenceIdxIdeal.nD Cert.ReferenceIdxIdeal.τ).loc Cert.ReferenceIdxIdeal.main_arg12) = m' ((c.tc : Thread Cert.ReferenceIdxIdeal.nD Cert.ReferenceIdxIdeal.τ).loc Cert.ReferenceIdxIdeal.main_arg12)
          ∧ r.2.mem ((c.tc : Thread Cert.ReferenceIdxIdeal.nD Cert.ReferenceIdxIdeal.τ).loc Cert.ReferenceIdxIdeal.main_arg13) = m' ((c.tc : Thread Cert.ReferenceIdxIdeal.nD Cert.ReferenceIdxIdeal.τ).loc Cert.ReferenceIdxIdeal.main_arg13))

def preserves_KernelIdw_KernelIdwIdeal : Prop :=
  True

def algebraic_KernelIdwIdeal_ReferenceIdwIdeal [hKernelIdwIdeal : Cert.KernelIdwIdeal.Facts] [hReferenceIdwIdeal : Cert.ReferenceIdwIdeal.Facts] : Prop :=
  ∀ (m : (ℓ : Loc Cert.KernelIdwIdeal.nD Cert.KernelIdwIdeal.τ Cert.KernelIdwIdeal.sig) → Buf (Elt Ideal) ℓ) (g : Dev Cert.KernelIdwIdeal.nD → PrngReg)
    (m' : (ℓ : Loc Cert.ReferenceIdwIdeal.nD Cert.ReferenceIdwIdeal.τ Cert.ReferenceIdwIdeal.sig) → Buf (Elt Ideal) ℓ) (g' : Dev Cert.ReferenceIdwIdeal.nD → PrngReg), Pre_KernelIdwIdeal m →
    (∀ c : Dev Cert.KernelIdwIdeal.nD,
      m' ((c.tc : Thread Cert.ReferenceIdwIdeal.nD Cert.ReferenceIdwIdeal.τ).loc Cert.ReferenceIdwIdeal.main_arg0) = m ((c.tc : Thread Cert.KernelIdwIdeal.nD Cert.KernelIdwIdeal.τ).loc Cert.KernelIdwIdeal.main_arg0)
      ∧ m' ((c.tc : Thread Cert.ReferenceIdwIdeal.nD Cert.ReferenceIdwIdeal.τ).loc Cert.ReferenceIdwIdeal.main_arg1) = m ((c.tc : Thread Cert.KernelIdwIdeal.nD Cert.KernelIdwIdeal.τ).loc Cert.KernelIdwIdeal.main_arg1)
      ∧ m' ((c.tc : Thread Cert.ReferenceIdwIdeal.nD Cert.ReferenceIdwIdeal.τ).loc Cert.ReferenceIdwIdeal.main_arg2) = m ((c.tc : Thread Cert.KernelIdwIdeal.nD Cert.KernelIdwIdeal.τ).loc Cert.KernelIdwIdeal.main_arg2)
      ∧ m' ((c.tc : Thread Cert.ReferenceIdwIdeal.nD Cert.ReferenceIdwIdeal.τ).loc Cert.ReferenceIdwIdeal.main_arg3) = m ((c.tc : Thread Cert.KernelIdwIdeal.nD Cert.KernelIdwIdeal.τ).loc Cert.KernelIdwIdeal.main_arg3)
      ∧ m' ((c.tc : Thread Cert.ReferenceIdwIdeal.nD Cert.ReferenceIdwIdeal.τ).loc Cert.ReferenceIdwIdeal.main_arg4) = m ((c.tc : Thread Cert.KernelIdwIdeal.nD Cert.KernelIdwIdeal.τ).loc Cert.KernelIdwIdeal.main_arg4)
      ∧ m' ((c.tc : Thread Cert.ReferenceIdwIdeal.nD Cert.ReferenceIdwIdeal.τ).loc Cert.ReferenceIdwIdeal.main_arg5) = m ((c.tc : Thread Cert.KernelIdwIdeal.nD Cert.KernelIdwIdeal.τ).loc Cert.KernelIdwIdeal.main_arg5)
      ∧ m' ((c.tc : Thread Cert.ReferenceIdwIdeal.nD Cert.ReferenceIdwIdeal.τ).loc Cert.ReferenceIdwIdeal.main_arg6) = m ((c.tc : Thread Cert.KernelIdwIdeal.nD Cert.KernelIdwIdeal.τ).loc Cert.KernelIdwIdeal.main_arg6)
      ∧ m' ((c.tc : Thread Cert.ReferenceIdwIdeal.nD Cert.ReferenceIdwIdeal.τ).loc Cert.ReferenceIdwIdeal.main_arg7) = m ((c.tc : Thread Cert.KernelIdwIdeal.nD Cert.KernelIdwIdeal.τ).loc Cert.KernelIdwIdeal.main_arg7)
      ∧ m' ((c.tc : Thread Cert.ReferenceIdwIdeal.nD Cert.ReferenceIdwIdeal.τ).loc Cert.ReferenceIdwIdeal.main_arg8) = m ((c.tc : Thread Cert.KernelIdwIdeal.nD Cert.KernelIdwIdeal.τ).loc Cert.KernelIdwIdeal.main_arg8)
      ∧ m' ((c.tc : Thread Cert.ReferenceIdwIdeal.nD Cert.ReferenceIdwIdeal.τ).loc Cert.ReferenceIdwIdeal.main_arg9) = m ((c.tc : Thread Cert.KernelIdwIdeal.nD Cert.KernelIdwIdeal.τ).loc Cert.KernelIdwIdeal.main_arg9)
      ∧ m' ((c.tc : Thread Cert.ReferenceIdwIdeal.nD Cert.ReferenceIdwIdeal.τ).loc Cert.ReferenceIdwIdeal.main_arg10) = m ((c.tc : Thread Cert.KernelIdwIdeal.nD Cert.KernelIdwIdeal.τ).loc Cert.KernelIdwIdeal.main_arg10)
      ∧ m' ((c.tc : Thread Cert.ReferenceIdwIdeal.nD Cert.ReferenceIdwIdeal.τ).loc Cert.ReferenceIdwIdeal.main_arg11) = m ((c.tc : Thread Cert.KernelIdwIdeal.nD Cert.KernelIdwIdeal.τ).loc Cert.KernelIdwIdeal.main_arg11)
      ∧ m' ((c.tc : Thread Cert.ReferenceIdwIdeal.nD Cert.ReferenceIdwIdeal.τ).loc Cert.ReferenceIdwIdeal.main_arg12) = m ((c.tc : Thread Cert.KernelIdwIdeal.nD Cert.KernelIdwIdeal.τ).loc Cert.KernelIdwIdeal.main_arg12)
      ∧ m' ((c.tc : Thread Cert.ReferenceIdwIdeal.nD Cert.ReferenceIdwIdeal.τ).loc Cert.ReferenceIdwIdeal.main_arg13) = m ((c.tc : Thread Cert.KernelIdwIdeal.nD Cert.KernelIdwIdeal.τ).loc Cert.KernelIdwIdeal.main_arg13)) →
    ∃ (v0 : (c : Dev Cert.KernelIdwIdeal.nD) → Buf (Elt Ideal) ((c.tc : Thread Cert.KernelIdwIdeal.nD Cert.KernelIdwIdeal.τ).loc Cert.KernelIdwIdeal.main_v0)),
      θ_run (Cert.KernelIdwIdeal.defs (F := Ideal)) (onTc (τ := Cert.KernelIdwIdeal.τ) (Cert.KernelIdwIdeal.main (F := Ideal))) ⟨m, fun _ => 0, g⟩ (fun r => ∀ c : Dev Cert.KernelIdwIdeal.nD,
          r.2.mem ((c.tc : Thread Cert.KernelIdwIdeal.nD Cert.KernelIdwIdeal.τ).loc Cert.KernelIdwIdeal.main_v0) = v0 c
          ∧ r.2.mem ((c.tc : Thread Cert.KernelIdwIdeal.nD Cert.KernelIdwIdeal.τ).loc Cert.KernelIdwIdeal.main_arg0) = m ((c.tc : Thread Cert.KernelIdwIdeal.nD Cert.KernelIdwIdeal.τ).loc Cert.KernelIdwIdeal.main_arg0)
          ∧ r.2.mem ((c.tc : Thread Cert.KernelIdwIdeal.nD Cert.KernelIdwIdeal.τ).loc Cert.KernelIdwIdeal.main_arg1) = m ((c.tc : Thread Cert.KernelIdwIdeal.nD Cert.KernelIdwIdeal.τ).loc Cert.KernelIdwIdeal.main_arg1)
          ∧ r.2.mem ((c.tc : Thread Cert.KernelIdwIdeal.nD Cert.KernelIdwIdeal.τ).loc Cert.KernelIdwIdeal.main_arg2) = m ((c.tc : Thread Cert.KernelIdwIdeal.nD Cert.KernelIdwIdeal.τ).loc Cert.KernelIdwIdeal.main_arg2)
          ∧ r.2.mem ((c.tc : Thread Cert.KernelIdwIdeal.nD Cert.KernelIdwIdeal.τ).loc Cert.KernelIdwIdeal.main_arg3) = m ((c.tc : Thread Cert.KernelIdwIdeal.nD Cert.KernelIdwIdeal.τ).loc Cert.KernelIdwIdeal.main_arg3)
          ∧ r.2.mem ((c.tc : Thread Cert.KernelIdwIdeal.nD Cert.KernelIdwIdeal.τ).loc Cert.KernelIdwIdeal.main_arg4) = m ((c.tc : Thread Cert.KernelIdwIdeal.nD Cert.KernelIdwIdeal.τ).loc Cert.KernelIdwIdeal.main_arg4)
          ∧ r.2.mem ((c.tc : Thread Cert.KernelIdwIdeal.nD Cert.KernelIdwIdeal.τ).loc Cert.KernelIdwIdeal.main_arg5) = m ((c.tc : Thread Cert.KernelIdwIdeal.nD Cert.KernelIdwIdeal.τ).loc Cert.KernelIdwIdeal.main_arg5)
          ∧ r.2.mem ((c.tc : Thread Cert.KernelIdwIdeal.nD Cert.KernelIdwIdeal.τ).loc Cert.KernelIdwIdeal.main_arg6) = m ((c.tc : Thread Cert.KernelIdwIdeal.nD Cert.KernelIdwIdeal.τ).loc Cert.KernelIdwIdeal.main_arg6)
          ∧ r.2.mem ((c.tc : Thread Cert.KernelIdwIdeal.nD Cert.KernelIdwIdeal.τ).loc Cert.KernelIdwIdeal.main_arg7) = m ((c.tc : Thread Cert.KernelIdwIdeal.nD Cert.KernelIdwIdeal.τ).loc Cert.KernelIdwIdeal.main_arg7)
          ∧ r.2.mem ((c.tc : Thread Cert.KernelIdwIdeal.nD Cert.KernelIdwIdeal.τ).loc Cert.KernelIdwIdeal.main_arg8) = m ((c.tc : Thread Cert.KernelIdwIdeal.nD Cert.KernelIdwIdeal.τ).loc Cert.KernelIdwIdeal.main_arg8)
          ∧ r.2.mem ((c.tc : Thread Cert.KernelIdwIdeal.nD Cert.KernelIdwIdeal.τ).loc Cert.KernelIdwIdeal.main_arg9) = m ((c.tc : Thread Cert.KernelIdwIdeal.nD Cert.KernelIdwIdeal.τ).loc Cert.KernelIdwIdeal.main_arg9)
          ∧ r.2.mem ((c.tc : Thread Cert.KernelIdwIdeal.nD Cert.KernelIdwIdeal.τ).loc Cert.KernelIdwIdeal.main_arg10) = m ((c.tc : Thread Cert.KernelIdwIdeal.nD Cert.KernelIdwIdeal.τ).loc Cert.KernelIdwIdeal.main_arg10)
          ∧ r.2.mem ((c.tc : Thread Cert.KernelIdwIdeal.nD Cert.KernelIdwIdeal.τ).loc Cert.KernelIdwIdeal.main_arg11) = m ((c.tc : Thread Cert.KernelIdwIdeal.nD Cert.KernelIdwIdeal.τ).loc Cert.KernelIdwIdeal.main_arg11)
          ∧ r.2.mem ((c.tc : Thread Cert.KernelIdwIdeal.nD Cert.KernelIdwIdeal.τ).loc Cert.KernelIdwIdeal.main_arg12) = m ((c.tc : Thread Cert.KernelIdwIdeal.nD Cert.KernelIdwIdeal.τ).loc Cert.KernelIdwIdeal.main_arg12)
          ∧ r.2.mem ((c.tc : Thread Cert.KernelIdwIdeal.nD Cert.KernelIdwIdeal.τ).loc Cert.KernelIdwIdeal.main_arg13) = m ((c.tc : Thread Cert.KernelIdwIdeal.nD Cert.KernelIdwIdeal.τ).loc Cert.KernelIdwIdeal.main_arg13))
      ∧ θ_run (Cert.ReferenceIdwIdeal.defs (F := Ideal)) (onTc (τ := Cert.ReferenceIdwIdeal.τ) (Cert.ReferenceIdwIdeal.main (F := Ideal))) ⟨m', fun _ => 0, g'⟩ (fun r => ∀ c : Dev Cert.ReferenceIdwIdeal.nD,
          r.2.mem ((c.tc : Thread Cert.ReferenceIdwIdeal.nD Cert.ReferenceIdwIdeal.τ).loc Cert.ReferenceIdwIdeal.main_v4) = v0 c
          ∧ r.2.mem ((c.tc : Thread Cert.ReferenceIdwIdeal.nD Cert.ReferenceIdwIdeal.τ).loc Cert.ReferenceIdwIdeal.main_arg0) = m' ((c.tc : Thread Cert.ReferenceIdwIdeal.nD Cert.ReferenceIdwIdeal.τ).loc Cert.ReferenceIdwIdeal.main_arg0)
          ∧ r.2.mem ((c.tc : Thread Cert.ReferenceIdwIdeal.nD Cert.ReferenceIdwIdeal.τ).loc Cert.ReferenceIdwIdeal.main_arg1) = m' ((c.tc : Thread Cert.ReferenceIdwIdeal.nD Cert.ReferenceIdwIdeal.τ).loc Cert.ReferenceIdwIdeal.main_arg1)
          ∧ r.2.mem ((c.tc : Thread Cert.ReferenceIdwIdeal.nD Cert.ReferenceIdwIdeal.τ).loc Cert.ReferenceIdwIdeal.main_arg2) = m' ((c.tc : Thread Cert.ReferenceIdwIdeal.nD Cert.ReferenceIdwIdeal.τ).loc Cert.ReferenceIdwIdeal.main_arg2)
          ∧ r.2.mem ((c.tc : Thread Cert.ReferenceIdwIdeal.nD Cert.ReferenceIdwIdeal.τ).loc Cert.ReferenceIdwIdeal.main_arg3) = m' ((c.tc : Thread Cert.ReferenceIdwIdeal.nD Cert.ReferenceIdwIdeal.τ).loc Cert.ReferenceIdwIdeal.main_arg3)
          ∧ r.2.mem ((c.tc : Thread Cert.ReferenceIdwIdeal.nD Cert.ReferenceIdwIdeal.τ).loc Cert.ReferenceIdwIdeal.main_arg4) = m' ((c.tc : Thread Cert.ReferenceIdwIdeal.nD Cert.ReferenceIdwIdeal.τ).loc Cert.ReferenceIdwIdeal.main_arg4)
          ∧ r.2.mem ((c.tc : Thread Cert.ReferenceIdwIdeal.nD Cert.ReferenceIdwIdeal.τ).loc Cert.ReferenceIdwIdeal.main_arg5) = m' ((c.tc : Thread Cert.ReferenceIdwIdeal.nD Cert.ReferenceIdwIdeal.τ).loc Cert.ReferenceIdwIdeal.main_arg5)
          ∧ r.2.mem ((c.tc : Thread Cert.ReferenceIdwIdeal.nD Cert.ReferenceIdwIdeal.τ).loc Cert.ReferenceIdwIdeal.main_arg6) = m' ((c.tc : Thread Cert.ReferenceIdwIdeal.nD Cert.ReferenceIdwIdeal.τ).loc Cert.ReferenceIdwIdeal.main_arg6)
          ∧ r.2.mem ((c.tc : Thread Cert.ReferenceIdwIdeal.nD Cert.ReferenceIdwIdeal.τ).loc Cert.ReferenceIdwIdeal.main_arg7) = m' ((c.tc : Thread Cert.ReferenceIdwIdeal.nD Cert.ReferenceIdwIdeal.τ).loc Cert.ReferenceIdwIdeal.main_arg7)
          ∧ r.2.mem ((c.tc : Thread Cert.ReferenceIdwIdeal.nD Cert.ReferenceIdwIdeal.τ).loc Cert.ReferenceIdwIdeal.main_arg8) = m' ((c.tc : Thread Cert.ReferenceIdwIdeal.nD Cert.ReferenceIdwIdeal.τ).loc Cert.ReferenceIdwIdeal.main_arg8)
          ∧ r.2.mem ((c.tc : Thread Cert.ReferenceIdwIdeal.nD Cert.ReferenceIdwIdeal.τ).loc Cert.ReferenceIdwIdeal.main_arg9) = m' ((c.tc : Thread Cert.ReferenceIdwIdeal.nD Cert.ReferenceIdwIdeal.τ).loc Cert.ReferenceIdwIdeal.main_arg9)
          ∧ r.2.mem ((c.tc : Thread Cert.ReferenceIdwIdeal.nD Cert.ReferenceIdwIdeal.τ).loc Cert.ReferenceIdwIdeal.main_arg10) = m' ((c.tc : Thread Cert.ReferenceIdwIdeal.nD Cert.ReferenceIdwIdeal.τ).loc Cert.ReferenceIdwIdeal.main_arg10)
          ∧ r.2.mem ((c.tc : Thread Cert.ReferenceIdwIdeal.nD Cert.ReferenceIdwIdeal.τ).loc Cert.ReferenceIdwIdeal.main_arg11) = m' ((c.tc : Thread Cert.ReferenceIdwIdeal.nD Cert.ReferenceIdwIdeal.τ).loc Cert.ReferenceIdwIdeal.main_arg11)
          ∧ r.2.mem ((c.tc : Thread Cert.ReferenceIdwIdeal.nD Cert.ReferenceIdwIdeal.τ).loc Cert.ReferenceIdwIdeal.main_arg12) = m' ((c.tc : Thread Cert.ReferenceIdwIdeal.nD Cert.ReferenceIdwIdeal.τ).loc Cert.ReferenceIdwIdeal.main_arg12)
          ∧ r.2.mem ((c.tc : Thread Cert.ReferenceIdwIdeal.nD Cert.ReferenceIdwIdeal.τ).loc Cert.ReferenceIdwIdeal.main_arg13) = m' ((c.tc : Thread Cert.ReferenceIdwIdeal.nD Cert.ReferenceIdwIdeal.τ).loc Cert.ReferenceIdwIdeal.main_arg13))

def preserves_KernelOdx_KernelOdxIdeal : Prop :=
  True

def algebraic_KernelOdxIdeal_ReferenceOdxIdeal [hKernelOdxIdeal : Cert.KernelOdxIdeal.Facts] [hReferenceOdxIdeal : Cert.ReferenceOdxIdeal.Facts] : Prop :=
  ∀ (m : (ℓ : Loc Cert.KernelOdxIdeal.nD Cert.KernelOdxIdeal.τ Cert.KernelOdxIdeal.sig) → Buf (Elt Ideal) ℓ) (g : Dev Cert.KernelOdxIdeal.nD → PrngReg)
    (m' : (ℓ : Loc Cert.ReferenceOdxIdeal.nD Cert.ReferenceOdxIdeal.τ Cert.ReferenceOdxIdeal.sig) → Buf (Elt Ideal) ℓ) (g' : Dev Cert.ReferenceOdxIdeal.nD → PrngReg), Pre_KernelOdxIdeal m →
    (∀ c : Dev Cert.KernelOdxIdeal.nD,
      m' ((c.tc : Thread Cert.ReferenceOdxIdeal.nD Cert.ReferenceOdxIdeal.τ).loc Cert.ReferenceOdxIdeal.main_arg0) = m ((c.tc : Thread Cert.KernelOdxIdeal.nD Cert.KernelOdxIdeal.τ).loc Cert.KernelOdxIdeal.main_arg0)
      ∧ m' ((c.tc : Thread Cert.ReferenceOdxIdeal.nD Cert.ReferenceOdxIdeal.τ).loc Cert.ReferenceOdxIdeal.main_arg1) = m ((c.tc : Thread Cert.KernelOdxIdeal.nD Cert.KernelOdxIdeal.τ).loc Cert.KernelOdxIdeal.main_arg1)) →
    ∃ (v0 : (c : Dev Cert.KernelOdxIdeal.nD) → Buf (Elt Ideal) ((c.tc : Thread Cert.KernelOdxIdeal.nD Cert.KernelOdxIdeal.τ).loc Cert.KernelOdxIdeal.main_v1)),
      θ_run (Cert.KernelOdxIdeal.defs (F := Ideal)) (onTc (τ := Cert.KernelOdxIdeal.τ) (Cert.KernelOdxIdeal.main (F := Ideal))) ⟨m, fun _ => 0, g⟩ (fun r => ∀ c : Dev Cert.KernelOdxIdeal.nD,
          r.2.mem ((c.tc : Thread Cert.KernelOdxIdeal.nD Cert.KernelOdxIdeal.τ).loc Cert.KernelOdxIdeal.main_v1) = v0 c
          ∧ r.2.mem ((c.tc : Thread Cert.KernelOdxIdeal.nD Cert.KernelOdxIdeal.τ).loc Cert.KernelOdxIdeal.main_arg0) = m ((c.tc : Thread Cert.KernelOdxIdeal.nD Cert.KernelOdxIdeal.τ).loc Cert.KernelOdxIdeal.main_arg0)
          ∧ r.2.mem ((c.tc : Thread Cert.KernelOdxIdeal.nD Cert.KernelOdxIdeal.τ).loc Cert.KernelOdxIdeal.main_arg1) = m ((c.tc : Thread Cert.KernelOdxIdeal.nD Cert.KernelOdxIdeal.τ).loc Cert.KernelOdxIdeal.main_arg1))
      ∧ θ_run (Cert.ReferenceOdxIdeal.defs (F := Ideal)) (onTc (τ := Cert.ReferenceOdxIdeal.τ) (Cert.ReferenceOdxIdeal.main (F := Ideal))) ⟨m', fun _ => 0, g'⟩ (fun r => ∀ c : Dev Cert.ReferenceOdxIdeal.nD,
          r.2.mem ((c.tc : Thread Cert.ReferenceOdxIdeal.nD Cert.ReferenceOdxIdeal.τ).loc Cert.ReferenceOdxIdeal.main_v2) = v0 c
          ∧ r.2.mem ((c.tc : Thread Cert.ReferenceOdxIdeal.nD Cert.ReferenceOdxIdeal.τ).loc Cert.ReferenceOdxIdeal.main_arg0) = m' ((c.tc : Thread Cert.ReferenceOdxIdeal.nD Cert.ReferenceOdxIdeal.τ).loc Cert.ReferenceOdxIdeal.main_arg0)
          ∧ r.2.mem ((c.tc : Thread Cert.ReferenceOdxIdeal.nD Cert.ReferenceOdxIdeal.τ).loc Cert.ReferenceOdxIdeal.main_arg1) = m' ((c.tc : Thread Cert.ReferenceOdxIdeal.nD Cert.ReferenceOdxIdeal.τ).loc Cert.ReferenceOdxIdeal.main_arg1))

def preserves_KernelOdw_KernelOdwIdeal : Prop :=
  True

def algebraic_KernelOdwIdeal_ReferenceOdwIdeal [hKernelOdwIdeal : Cert.KernelOdwIdeal.Facts] [hReferenceOdwIdeal : Cert.ReferenceOdwIdeal.Facts] : Prop :=
  ∀ (m : (ℓ : Loc Cert.KernelOdwIdeal.nD Cert.KernelOdwIdeal.τ Cert.KernelOdwIdeal.sig) → Buf (Elt Ideal) ℓ) (g : Dev Cert.KernelOdwIdeal.nD → PrngReg)
    (m' : (ℓ : Loc Cert.ReferenceOdwIdeal.nD Cert.ReferenceOdwIdeal.τ Cert.ReferenceOdwIdeal.sig) → Buf (Elt Ideal) ℓ) (g' : Dev Cert.ReferenceOdwIdeal.nD → PrngReg), Pre_KernelOdwIdeal m →
    (∀ c : Dev Cert.KernelOdwIdeal.nD,
      m' ((c.tc : Thread Cert.ReferenceOdwIdeal.nD Cert.ReferenceOdwIdeal.τ).loc Cert.ReferenceOdwIdeal.main_arg0) = m ((c.tc : Thread Cert.KernelOdwIdeal.nD Cert.KernelOdwIdeal.τ).loc Cert.KernelOdwIdeal.main_arg0)
      ∧ m' ((c.tc : Thread Cert.ReferenceOdwIdeal.nD Cert.ReferenceOdwIdeal.τ).loc Cert.ReferenceOdwIdeal.main_arg1) = m ((c.tc : Thread Cert.KernelOdwIdeal.nD Cert.KernelOdwIdeal.τ).loc Cert.KernelOdwIdeal.main_arg1)) →
    ∃ (v0 : (c : Dev Cert.KernelOdwIdeal.nD) → Buf (Elt Ideal) ((c.tc : Thread Cert.KernelOdwIdeal.nD Cert.KernelOdwIdeal.τ).loc Cert.KernelOdwIdeal.main_v0)),
      θ_run (Cert.KernelOdwIdeal.defs (F := Ideal)) (onTc (τ := Cert.KernelOdwIdeal.τ) (Cert.KernelOdwIdeal.main (F := Ideal))) ⟨m, fun _ => 0, g⟩ (fun r => ∀ c : Dev Cert.KernelOdwIdeal.nD,
          r.2.mem ((c.tc : Thread Cert.KernelOdwIdeal.nD Cert.KernelOdwIdeal.τ).loc Cert.KernelOdwIdeal.main_v0) = v0 c
          ∧ r.2.mem ((c.tc : Thread Cert.KernelOdwIdeal.nD Cert.KernelOdwIdeal.τ).loc Cert.KernelOdwIdeal.main_arg0) = m ((c.tc : Thread Cert.KernelOdwIdeal.nD Cert.KernelOdwIdeal.τ).loc Cert.KernelOdwIdeal.main_arg0)
          ∧ r.2.mem ((c.tc : Thread Cert.KernelOdwIdeal.nD Cert.KernelOdwIdeal.τ).loc Cert.KernelOdwIdeal.main_arg1) = m ((c.tc : Thread Cert.KernelOdwIdeal.nD Cert.KernelOdwIdeal.τ).loc Cert.KernelOdwIdeal.main_arg1))
      ∧ θ_run (Cert.ReferenceOdwIdeal.defs (F := Ideal)) (onTc (τ := Cert.ReferenceOdwIdeal.τ) (Cert.ReferenceOdwIdeal.main (F := Ideal))) ⟨m', fun _ => 0, g'⟩ (fun r => ∀ c : Dev Cert.ReferenceOdwIdeal.nD,
          r.2.mem ((c.tc : Thread Cert.ReferenceOdwIdeal.nD Cert.ReferenceOdwIdeal.τ).loc Cert.ReferenceOdwIdeal.main_v3) = v0 c
          ∧ r.2.mem ((c.tc : Thread Cert.ReferenceOdwIdeal.nD Cert.ReferenceOdwIdeal.τ).loc Cert.ReferenceOdwIdeal.main_arg0) = m' ((c.tc : Thread Cert.ReferenceOdwIdeal.nD Cert.ReferenceOdwIdeal.τ).loc Cert.ReferenceOdwIdeal.main_arg0)
          ∧ r.2.mem ((c.tc : Thread Cert.ReferenceOdwIdeal.nD Cert.ReferenceOdwIdeal.τ).loc Cert.ReferenceOdwIdeal.main_arg1) = m' ((c.tc : Thread Cert.ReferenceOdwIdeal.nD Cert.ReferenceOdwIdeal.τ).loc Cert.ReferenceOdwIdeal.main_arg1))

def preserves_KernelOf_KernelOfIdeal : Prop :=
  True

def algebraic_KernelOfIdeal_ReferenceOfIdeal [hKernelOfIdeal : Cert.KernelOfIdeal.Facts] [hReferenceOfIdeal : Cert.ReferenceOfIdeal.Facts] : Prop :=
  ∀ (m : (ℓ : Loc Cert.KernelOfIdeal.nD Cert.KernelOfIdeal.τ Cert.KernelOfIdeal.sig) → Buf (Elt Ideal) ℓ) (g : Dev Cert.KernelOfIdeal.nD → PrngReg)
    (m' : (ℓ : Loc Cert.ReferenceOfIdeal.nD Cert.ReferenceOfIdeal.τ Cert.ReferenceOfIdeal.sig) → Buf (Elt Ideal) ℓ) (g' : Dev Cert.ReferenceOfIdeal.nD → PrngReg), Pre_KernelOfIdeal m →
    (∀ c : Dev Cert.KernelOfIdeal.nD,
      m' ((c.tc : Thread Cert.ReferenceOfIdeal.nD Cert.ReferenceOfIdeal.τ).loc Cert.ReferenceOfIdeal.main_arg0) = m ((c.tc : Thread Cert.KernelOfIdeal.nD Cert.KernelOfIdeal.τ).loc Cert.KernelOfIdeal.main_arg0)
      ∧ m' ((c.tc : Thread Cert.ReferenceOfIdeal.nD Cert.ReferenceOfIdeal.τ).loc Cert.ReferenceOfIdeal.main_arg1) = m ((c.tc : Thread Cert.KernelOfIdeal.nD Cert.KernelOfIdeal.τ).loc Cert.KernelOfIdeal.main_arg1)) →
    ∃ (v0 : (c : Dev Cert.KernelOfIdeal.nD) → Buf (Elt Ideal) ((c.tc : Thread Cert.KernelOfIdeal.nD Cert.KernelOfIdeal.τ).loc Cert.KernelOfIdeal.main_v1)),
      θ_run (Cert.KernelOfIdeal.defs (F := Ideal)) (onTc (τ := Cert.KernelOfIdeal.τ) (Cert.KernelOfIdeal.main (F := Ideal))) ⟨m, fun _ => 0, g⟩ (fun r => ∀ c : Dev Cert.KernelOfIdeal.nD,
          r.2.mem ((c.tc : Thread Cert.KernelOfIdeal.nD Cert.KernelOfIdeal.τ).loc Cert.KernelOfIdeal.main_v1) = v0 c
          ∧ r.2.mem ((c.tc : Thread Cert.KernelOfIdeal.nD Cert.KernelOfIdeal.τ).loc Cert.KernelOfIdeal.main_arg0) = m ((c.tc : Thread Cert.KernelOfIdeal.nD Cert.KernelOfIdeal.τ).loc Cert.KernelOfIdeal.main_arg0)
          ∧ r.2.mem ((c.tc : Thread Cert.KernelOfIdeal.nD Cert.KernelOfIdeal.τ).loc Cert.KernelOfIdeal.main_arg1) = m ((c.tc : Thread Cert.KernelOfIdeal.nD Cert.KernelOfIdeal.τ).loc Cert.KernelOfIdeal.main_arg1))
      ∧ θ_run (Cert.ReferenceOfIdeal.defs (F := Ideal)) (onTc (τ := Cert.ReferenceOfIdeal.τ) (Cert.ReferenceOfIdeal.main (F := Ideal))) ⟨m', fun _ => 0, g'⟩ (fun r => ∀ c : Dev Cert.ReferenceOfIdeal.nD,
          r.2.mem ((c.tc : Thread Cert.ReferenceOfIdeal.nD Cert.ReferenceOfIdeal.τ).loc Cert.ReferenceOfIdeal.main_v0) = v0 c
          ∧ r.2.mem ((c.tc : Thread Cert.ReferenceOfIdeal.nD Cert.ReferenceOfIdeal.τ).loc Cert.ReferenceOfIdeal.main_arg0) = m' ((c.tc : Thread Cert.ReferenceOfIdeal.nD Cert.ReferenceOfIdeal.τ).loc Cert.ReferenceOfIdeal.main_arg0)
          ∧ r.2.mem ((c.tc : Thread Cert.ReferenceOfIdeal.nD Cert.ReferenceOfIdeal.τ).loc Cert.ReferenceOfIdeal.main_arg1) = m' ((c.tc : Thread Cert.ReferenceOfIdeal.nD Cert.ReferenceOfIdeal.τ).loc Cert.ReferenceOfIdeal.main_arg1))

def preserves_KernelPdx_KernelPdxIdeal : Prop :=
  True

def algebraic_KernelPdxIdeal_ReferencePdxIdeal [hKernelPdxIdeal : Cert.KernelPdxIdeal.Facts] [hReferencePdxIdeal : Cert.ReferencePdxIdeal.Facts] : Prop :=
  ∀ (m : (ℓ : Loc Cert.KernelPdxIdeal.nD Cert.KernelPdxIdeal.τ Cert.KernelPdxIdeal.sig) → Buf (Elt Ideal) ℓ) (g : Dev Cert.KernelPdxIdeal.nD → PrngReg)
    (m' : (ℓ : Loc Cert.ReferencePdxIdeal.nD Cert.ReferencePdxIdeal.τ Cert.ReferencePdxIdeal.sig) → Buf (Elt Ideal) ℓ) (g' : Dev Cert.ReferencePdxIdeal.nD → PrngReg), Pre_KernelPdxIdeal m →
    (∀ c : Dev Cert.KernelPdxIdeal.nD,
      m' ((c.tc : Thread Cert.ReferencePdxIdeal.nD Cert.ReferencePdxIdeal.τ).loc Cert.ReferencePdxIdeal.main_arg0) = m ((c.tc : Thread Cert.KernelPdxIdeal.nD Cert.KernelPdxIdeal.τ).loc Cert.KernelPdxIdeal.main_arg0)
      ∧ m' ((c.tc : Thread Cert.ReferencePdxIdeal.nD Cert.ReferencePdxIdeal.τ).loc Cert.ReferencePdxIdeal.main_arg1) = m ((c.tc : Thread Cert.KernelPdxIdeal.nD Cert.KernelPdxIdeal.τ).loc Cert.KernelPdxIdeal.main_arg1)) →
    ∃ (v0 : (c : Dev Cert.KernelPdxIdeal.nD) → Buf (Elt Ideal) ((c.tc : Thread Cert.KernelPdxIdeal.nD Cert.KernelPdxIdeal.τ).loc Cert.KernelPdxIdeal.main_v1)),
      θ_run (Cert.KernelPdxIdeal.defs (F := Ideal)) (onTc (τ := Cert.KernelPdxIdeal.τ) (Cert.KernelPdxIdeal.main (F := Ideal))) ⟨m, fun _ => 0, g⟩ (fun r => ∀ c : Dev Cert.KernelPdxIdeal.nD,
          r.2.mem ((c.tc : Thread Cert.KernelPdxIdeal.nD Cert.KernelPdxIdeal.τ).loc Cert.KernelPdxIdeal.main_v1) = v0 c
          ∧ r.2.mem ((c.tc : Thread Cert.KernelPdxIdeal.nD Cert.KernelPdxIdeal.τ).loc Cert.KernelPdxIdeal.main_arg0) = m ((c.tc : Thread Cert.KernelPdxIdeal.nD Cert.KernelPdxIdeal.τ).loc Cert.KernelPdxIdeal.main_arg0)
          ∧ r.2.mem ((c.tc : Thread Cert.KernelPdxIdeal.nD Cert.KernelPdxIdeal.τ).loc Cert.KernelPdxIdeal.main_arg1) = m ((c.tc : Thread Cert.KernelPdxIdeal.nD Cert.KernelPdxIdeal.τ).loc Cert.KernelPdxIdeal.main_arg1))
      ∧ θ_run (Cert.ReferencePdxIdeal.defs (F := Ideal)) (onTc (τ := Cert.ReferencePdxIdeal.τ) (Cert.ReferencePdxIdeal.main (F := Ideal))) ⟨m', fun _ => 0, g'⟩ (fun r => ∀ c : Dev Cert.ReferencePdxIdeal.nD,
          r.2.mem ((c.tc : Thread Cert.ReferencePdxIdeal.nD Cert.ReferencePdxIdeal.τ).loc Cert.ReferencePdxIdeal.main_v2) = v0 c
          ∧ r.2.mem ((c.tc : Thread Cert.ReferencePdxIdeal.nD Cert.ReferencePdxIdeal.τ).loc Cert.ReferencePdxIdeal.main_arg0) = m' ((c.tc : Thread Cert.ReferencePdxIdeal.nD Cert.ReferencePdxIdeal.τ).loc Cert.ReferencePdxIdeal.main_arg0)
          ∧ r.2.mem ((c.tc : Thread Cert.ReferencePdxIdeal.nD Cert.ReferencePdxIdeal.τ).loc Cert.ReferencePdxIdeal.main_arg1) = m' ((c.tc : Thread Cert.ReferencePdxIdeal.nD Cert.ReferencePdxIdeal.τ).loc Cert.ReferencePdxIdeal.main_arg1))

def preserves_KernelPdw_KernelPdwIdeal : Prop :=
  True

def algebraic_KernelPdwIdeal_ReferencePdwIdeal [hKernelPdwIdeal : Cert.KernelPdwIdeal.Facts] [hReferencePdwIdeal : Cert.ReferencePdwIdeal.Facts] : Prop :=
  ∀ (m : (ℓ : Loc Cert.KernelPdwIdeal.nD Cert.KernelPdwIdeal.τ Cert.KernelPdwIdeal.sig) → Buf (Elt Ideal) ℓ) (g : Dev Cert.KernelPdwIdeal.nD → PrngReg)
    (m' : (ℓ : Loc Cert.ReferencePdwIdeal.nD Cert.ReferencePdwIdeal.τ Cert.ReferencePdwIdeal.sig) → Buf (Elt Ideal) ℓ) (g' : Dev Cert.ReferencePdwIdeal.nD → PrngReg), Pre_KernelPdwIdeal m →
    (∀ c : Dev Cert.KernelPdwIdeal.nD,
      m' ((c.tc : Thread Cert.ReferencePdwIdeal.nD Cert.ReferencePdwIdeal.τ).loc Cert.ReferencePdwIdeal.main_arg0) = m ((c.tc : Thread Cert.KernelPdwIdeal.nD Cert.KernelPdwIdeal.τ).loc Cert.KernelPdwIdeal.main_arg0)
      ∧ m' ((c.tc : Thread Cert.ReferencePdwIdeal.nD Cert.ReferencePdwIdeal.τ).loc Cert.ReferencePdwIdeal.main_arg1) = m ((c.tc : Thread Cert.KernelPdwIdeal.nD Cert.KernelPdwIdeal.τ).loc Cert.KernelPdwIdeal.main_arg1)) →
    ∃ (v0 : (c : Dev Cert.KernelPdwIdeal.nD) → Buf (Elt Ideal) ((c.tc : Thread Cert.KernelPdwIdeal.nD Cert.KernelPdwIdeal.τ).loc Cert.KernelPdwIdeal.main_v0)),
      θ_run (Cert.KernelPdwIdeal.defs (F := Ideal)) (onTc (τ := Cert.KernelPdwIdeal.τ) (Cert.KernelPdwIdeal.main (F := Ideal))) ⟨m, fun _ => 0, g⟩ (fun r => ∀ c : Dev Cert.KernelPdwIdeal.nD,
          r.2.mem ((c.tc : Thread Cert.KernelPdwIdeal.nD Cert.KernelPdwIdeal.τ).loc Cert.KernelPdwIdeal.main_v0) = v0 c
          ∧ r.2.mem ((c.tc : Thread Cert.KernelPdwIdeal.nD Cert.KernelPdwIdeal.τ).loc Cert.KernelPdwIdeal.main_arg0) = m ((c.tc : Thread Cert.KernelPdwIdeal.nD Cert.KernelPdwIdeal.τ).loc Cert.KernelPdwIdeal.main_arg0)
          ∧ r.2.mem ((c.tc : Thread Cert.KernelPdwIdeal.nD Cert.KernelPdwIdeal.τ).loc Cert.KernelPdwIdeal.main_arg1) = m ((c.tc : Thread Cert.KernelPdwIdeal.nD Cert.KernelPdwIdeal.τ).loc Cert.KernelPdwIdeal.main_arg1))
      ∧ θ_run (Cert.ReferencePdwIdeal.defs (F := Ideal)) (onTc (τ := Cert.ReferencePdwIdeal.τ) (Cert.ReferencePdwIdeal.main (F := Ideal))) ⟨m', fun _ => 0, g'⟩ (fun r => ∀ c : Dev Cert.ReferencePdwIdeal.nD,
          r.2.mem ((c.tc : Thread Cert.ReferencePdwIdeal.nD Cert.ReferencePdwIdeal.τ).loc Cert.ReferencePdwIdeal.main_v3) = v0 c
          ∧ r.2.mem ((c.tc : Thread Cert.ReferencePdwIdeal.nD Cert.ReferencePdwIdeal.τ).loc Cert.ReferencePdwIdeal.main_arg0) = m' ((c.tc : Thread Cert.ReferencePdwIdeal.nD Cert.ReferencePdwIdeal.τ).loc Cert.ReferencePdwIdeal.main_arg0)
          ∧ r.2.mem ((c.tc : Thread Cert.ReferencePdwIdeal.nD Cert.ReferencePdwIdeal.τ).loc Cert.ReferencePdwIdeal.main_arg1) = m' ((c.tc : Thread Cert.ReferencePdwIdeal.nD Cert.ReferencePdwIdeal.τ).loc Cert.ReferencePdwIdeal.main_arg1))

def preserves_KernelPf_KernelPfIdeal : Prop :=
  True

def algebraic_KernelPfIdeal_ReferencePfIdeal [hKernelPfIdeal : Cert.KernelPfIdeal.Facts] [hReferencePfIdeal : Cert.ReferencePfIdeal.Facts] : Prop :=
  ∀ (m : (ℓ : Loc Cert.KernelPfIdeal.nD Cert.KernelPfIdeal.τ Cert.KernelPfIdeal.sig) → Buf (Elt Ideal) ℓ) (g : Dev Cert.KernelPfIdeal.nD → PrngReg)
    (m' : (ℓ : Loc Cert.ReferencePfIdeal.nD Cert.ReferencePfIdeal.τ Cert.ReferencePfIdeal.sig) → Buf (Elt Ideal) ℓ) (g' : Dev Cert.ReferencePfIdeal.nD → PrngReg), Pre_KernelPfIdeal m →
    (∀ c : Dev Cert.KernelPfIdeal.nD,
      m' ((c.tc : Thread Cert.ReferencePfIdeal.nD Cert.ReferencePfIdeal.τ).loc Cert.ReferencePfIdeal.main_arg0) = m ((c.tc : Thread Cert.KernelPfIdeal.nD Cert.KernelPfIdeal.τ).loc Cert.KernelPfIdeal.main_arg0)
      ∧ m' ((c.tc : Thread Cert.ReferencePfIdeal.nD Cert.ReferencePfIdeal.τ).loc Cert.ReferencePfIdeal.main_arg1) = m ((c.tc : Thread Cert.KernelPfIdeal.nD Cert.KernelPfIdeal.τ).loc Cert.KernelPfIdeal.main_arg1)) →
    ∃ (v0 : (c : Dev Cert.KernelPfIdeal.nD) → Buf (Elt Ideal) ((c.tc : Thread Cert.KernelPfIdeal.nD Cert.KernelPfIdeal.τ).loc Cert.KernelPfIdeal.main_v1)),
      θ_run (Cert.KernelPfIdeal.defs (F := Ideal)) (onTc (τ := Cert.KernelPfIdeal.τ) (Cert.KernelPfIdeal.main (F := Ideal))) ⟨m, fun _ => 0, g⟩ (fun r => ∀ c : Dev Cert.KernelPfIdeal.nD,
          r.2.mem ((c.tc : Thread Cert.KernelPfIdeal.nD Cert.KernelPfIdeal.τ).loc Cert.KernelPfIdeal.main_v1) = v0 c
          ∧ r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
          ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1))
      ∧ θ_run (Cert.ReferencePfIdeal.defs (F := Ideal)) (onTc (τ := Cert.ReferencePfIdeal.τ) (Cert.ReferencePfIdeal.main (F := Ideal))) ⟨m', fun _ => 0, g'⟩ (fun r => ∀ c : Dev Cert.ReferencePfIdeal.nD,
          r.2.mem ((c.tc : Thread Cert.ReferencePfIdeal.nD Cert.ReferencePfIdeal.τ).loc Cert.ReferencePfIdeal.main_v0) = v0 c
          ∧ r.2.mem ((c.tc : Thread Cert.ReferencePfIdeal.nD Cert.ReferencePfIdeal.τ).loc Cert.ReferencePfIdeal.main_arg0) = m' ((c.tc : Thread Cert.ReferencePfIdeal.nD Cert.ReferencePfIdeal.τ).loc Cert.ReferencePfIdeal.main_arg0)
          ∧ r.2.mem ((c.tc : Thread Cert.ReferencePfIdeal.nD Cert.ReferencePfIdeal.τ).loc Cert.ReferencePfIdeal.main_arg1) = m' ((c.tc : Thread Cert.ReferencePfIdeal.nD Cert.ReferencePfIdeal.τ).loc Cert.ReferencePfIdeal.main_arg1))

def preserves_KernelUdx_KernelUdxIdeal : Prop :=
  True

def algebraic_KernelUdxIdeal_ReferenceUdxIdeal [hKernelUdxIdeal : Cert.KernelUdxIdeal.Facts] [hReferenceUdxIdeal : Cert.ReferenceUdxIdeal.Facts] : Prop :=
  ∀ (m : (ℓ : Loc Cert.KernelUdxIdeal.nD Cert.KernelUdxIdeal.τ Cert.KernelUdxIdeal.sig) → Buf (Elt Ideal) ℓ) (g : Dev Cert.KernelUdxIdeal.nD → PrngReg)
    (m' : (ℓ : Loc Cert.ReferenceUdxIdeal.nD Cert.ReferenceUdxIdeal.τ Cert.ReferenceUdxIdeal.sig) → Buf (Elt Ideal) ℓ) (g' : Dev Cert.ReferenceUdxIdeal.nD → PrngReg), Pre_KernelUdxIdeal m →
    (∀ c : Dev Cert.KernelUdxIdeal.nD,
      m' ((c.tc : Thread Cert.ReferenceUdxIdeal.nD Cert.ReferenceUdxIdeal.τ).loc Cert.ReferenceUdxIdeal.main_arg0) = m ((c.tc : Thread Cert.KernelUdxIdeal.nD Cert.KernelUdxIdeal.τ).loc Cert.KernelUdxIdeal.main_arg0)
      ∧ m' ((c.tc : Thread Cert.ReferenceUdxIdeal.nD Cert.ReferenceUdxIdeal.τ).loc Cert.ReferenceUdxIdeal.main_arg1) = m ((c.tc : Thread Cert.KernelUdxIdeal.nD Cert.KernelUdxIdeal.τ).loc Cert.KernelUdxIdeal.main_arg1)) →
    ∃ (v0 : (c : Dev Cert.KernelUdxIdeal.nD) → Buf (Elt Ideal) ((c.tc : Thread Cert.KernelUdxIdeal.nD Cert.KernelUdxIdeal.τ).loc Cert.KernelUdxIdeal.main_v1)),
      θ_run (Cert.KernelUdxIdeal.defs (F := Ideal)) (onTc (τ := Cert.KernelUdxIdeal.τ) (Cert.KernelUdxIdeal.main (F := Ideal))) ⟨m, fun _ => 0, g⟩ (fun r => ∀ c : Dev Cert.KernelUdxIdeal.nD,
          r.2.mem ((c.tc : Thread Cert.KernelUdxIdeal.nD Cert.KernelUdxIdeal.τ).loc Cert.KernelUdxIdeal.main_v1) = v0 c
          ∧ r.2.mem ((c.tc : Thread Cert.KernelUdxIdeal.nD Cert.KernelUdxIdeal.τ).loc Cert.KernelUdxIdeal.main_arg0) = m ((c.tc : Thread Cert.KernelUdxIdeal.nD Cert.KernelUdxIdeal.τ).loc Cert.KernelUdxIdeal.main_arg0)
          ∧ r.2.mem ((c.tc : Thread Cert.KernelUdxIdeal.nD Cert.KernelUdxIdeal.τ).loc Cert.KernelUdxIdeal.main_arg1) = m ((c.tc : Thread Cert.KernelUdxIdeal.nD Cert.KernelUdxIdeal.τ).loc Cert.KernelUdxIdeal.main_arg1))
      ∧ θ_run (Cert.ReferenceUdxIdeal.defs (F := Ideal)) (onTc (τ := Cert.ReferenceUdxIdeal.τ) (Cert.ReferenceUdxIdeal.main (F := Ideal))) ⟨m', fun _ => 0, g'⟩ (fun r => ∀ c : Dev Cert.ReferenceUdxIdeal.nD,
          r.2.mem ((c.tc : Thread Cert.ReferenceUdxIdeal.nD Cert.ReferenceUdxIdeal.τ).loc Cert.ReferenceUdxIdeal.main_v2) = v0 c
          ∧ r.2.mem ((c.tc : Thread Cert.ReferenceUdxIdeal.nD Cert.ReferenceUdxIdeal.τ).loc Cert.ReferenceUdxIdeal.main_arg0) = m' ((c.tc : Thread Cert.ReferenceUdxIdeal.nD Cert.ReferenceUdxIdeal.τ).loc Cert.ReferenceUdxIdeal.main_arg0)
          ∧ r.2.mem ((c.tc : Thread Cert.ReferenceUdxIdeal.nD Cert.ReferenceUdxIdeal.τ).loc Cert.ReferenceUdxIdeal.main_arg1) = m' ((c.tc : Thread Cert.ReferenceUdxIdeal.nD Cert.ReferenceUdxIdeal.τ).loc Cert.ReferenceUdxIdeal.main_arg1))

def preserves_KernelUdw_KernelUdwIdeal : Prop :=
  True

def algebraic_KernelUdwIdeal_ReferenceUdwIdeal [hKernelUdwIdeal : Cert.KernelUdwIdeal.Facts] [hReferenceUdwIdeal : Cert.ReferenceUdwIdeal.Facts] : Prop :=
  ∀ (m : (ℓ : Loc Cert.KernelUdwIdeal.nD Cert.KernelUdwIdeal.τ Cert.KernelUdwIdeal.sig) → Buf (Elt Ideal) ℓ) (g : Dev Cert.KernelUdwIdeal.nD → PrngReg)
    (m' : (ℓ : Loc Cert.ReferenceUdwIdeal.nD Cert.ReferenceUdwIdeal.τ Cert.ReferenceUdwIdeal.sig) → Buf (Elt Ideal) ℓ) (g' : Dev Cert.ReferenceUdwIdeal.nD → PrngReg), Pre_KernelUdwIdeal m →
    (∀ c : Dev Cert.KernelUdwIdeal.nD,
      m' ((c.tc : Thread Cert.ReferenceUdwIdeal.nD Cert.ReferenceUdwIdeal.τ).loc Cert.ReferenceUdwIdeal.main_arg0) = m ((c.tc : Thread Cert.KernelUdwIdeal.nD Cert.KernelUdwIdeal.τ).loc Cert.KernelUdwIdeal.main_arg0)
      ∧ m' ((c.tc : Thread Cert.ReferenceUdwIdeal.nD Cert.ReferenceUdwIdeal.τ).loc Cert.ReferenceUdwIdeal.main_arg1) = m ((c.tc : Thread Cert.KernelUdwIdeal.nD Cert.KernelUdwIdeal.τ).loc Cert.KernelUdwIdeal.main_arg1)) →
    ∃ (v0 : (c : Dev Cert.KernelUdwIdeal.nD) → Buf (Elt Ideal) ((c.tc : Thread Cert.KernelUdwIdeal.nD Cert.KernelUdwIdeal.τ).loc Cert.KernelUdwIdeal.main_v0)),
      θ_run (Cert.KernelUdwIdeal.defs (F := Ideal)) (onTc (τ := Cert.KernelUdwIdeal.τ) (Cert.KernelUdwIdeal.main (F := Ideal))) ⟨m, fun _ => 0, g⟩ (fun r => ∀ c : Dev Cert.KernelUdwIdeal.nD,
          r.2.mem ((c.tc : Thread Cert.KernelUdwIdeal.nD Cert.KernelUdwIdeal.τ).loc Cert.KernelUdwIdeal.main_v0) = v0 c
          ∧ r.2.mem ((c.tc : Thread Cert.KernelUdwIdeal.nD Cert.KernelUdwIdeal.τ).loc Cert.KernelUdwIdeal.main_arg0) = m ((c.tc : Thread Cert.KernelUdwIdeal.nD Cert.KernelUdwIdeal.τ).loc Cert.KernelUdwIdeal.main_arg0)
          ∧ r.2.mem ((c.tc : Thread Cert.KernelUdwIdeal.nD Cert.KernelUdwIdeal.τ).loc Cert.KernelUdwIdeal.main_arg1) = m ((c.tc : Thread Cert.KernelUdwIdeal.nD Cert.KernelUdwIdeal.τ).loc Cert.KernelUdwIdeal.main_arg1))
      ∧ θ_run (Cert.ReferenceUdwIdeal.defs (F := Ideal)) (onTc (τ := Cert.ReferenceUdwIdeal.τ) (Cert.ReferenceUdwIdeal.main (F := Ideal))) ⟨m', fun _ => 0, g'⟩ (fun r => ∀ c : Dev Cert.ReferenceUdwIdeal.nD,
          r.2.mem ((c.tc : Thread Cert.ReferenceUdwIdeal.nD Cert.ReferenceUdwIdeal.τ).loc Cert.ReferenceUdwIdeal.main_v3) = v0 c
          ∧ r.2.mem ((c.tc : Thread Cert.ReferenceUdwIdeal.nD Cert.ReferenceUdwIdeal.τ).loc Cert.ReferenceUdwIdeal.main_arg0) = m' ((c.tc : Thread Cert.ReferenceUdwIdeal.nD Cert.ReferenceUdwIdeal.τ).loc Cert.ReferenceUdwIdeal.main_arg0)
          ∧ r.2.mem ((c.tc : Thread Cert.ReferenceUdwIdeal.nD Cert.ReferenceUdwIdeal.τ).loc Cert.ReferenceUdwIdeal.main_arg1) = m' ((c.tc : Thread Cert.ReferenceUdwIdeal.nD Cert.ReferenceUdwIdeal.τ).loc Cert.ReferenceUdwIdeal.main_arg1))

def preserves_KernelUf_KernelUfIdeal : Prop :=
  True

def algebraic_KernelUfIdeal_ReferenceUfIdeal [hKernelUfIdeal : Cert.KernelUfIdeal.Facts] [hReferenceUfIdeal : Cert.ReferenceUfIdeal.Facts] : Prop :=
  ∀ (m : (ℓ : Loc Cert.KernelUfIdeal.nD Cert.KernelUfIdeal.τ Cert.KernelUfIdeal.sig) → Buf (Elt Ideal) ℓ) (g : Dev Cert.KernelUfIdeal.nD → PrngReg)
    (m' : (ℓ : Loc Cert.ReferenceUfIdeal.nD Cert.ReferenceUfIdeal.τ Cert.ReferenceUfIdeal.sig) → Buf (Elt Ideal) ℓ) (g' : Dev Cert.ReferenceUfIdeal.nD → PrngReg), Pre_KernelUfIdeal m →
    (∀ c : Dev Cert.KernelUfIdeal.nD,
      m' ((c.tc : Thread Cert.ReferenceUfIdeal.nD Cert.ReferenceUfIdeal.τ).loc Cert.ReferenceUfIdeal.main_arg0) = m ((c.tc : Thread Cert.KernelUfIdeal.nD Cert.KernelUfIdeal.τ).loc Cert.KernelUfIdeal.main_arg0)
      ∧ m' ((c.tc : Thread Cert.ReferenceUfIdeal.nD Cert.ReferenceUfIdeal.τ).loc Cert.ReferenceUfIdeal.main_arg1) = m ((c.tc : Thread Cert.KernelUfIdeal.nD Cert.KernelUfIdeal.τ).loc Cert.KernelUfIdeal.main_arg1)) →
    ∃ (v0 : (c : Dev Cert.KernelUfIdeal.nD) → Buf (Elt Ideal) ((c.tc : Thread Cert.KernelUfIdeal.nD Cert.KernelUfIdeal.τ).loc Cert.KernelUfIdeal.main_v1)),
      θ_run (Cert.KernelUfIdeal.defs (F := Ideal)) (onTc (τ := Cert.KernelUfIdeal.τ) (Cert.KernelUfIdeal.main (F := Ideal))) ⟨m, fun _ => 0, g⟩ (fun r => ∀ c : Dev Cert.KernelUfIdeal.nD,
          r.2.mem ((c.tc : Thread Cert.KernelUfIdeal.nD Cert.KernelUfIdeal.τ).loc Cert.KernelUfIdeal.main_v1) = v0 c
          ∧ r.2.mem ((c.tc : Thread Cert.KernelUfIdeal.nD Cert.KernelUfIdeal.τ).loc Cert.KernelUfIdeal.main_arg0) = m ((c.tc : Thread Cert.KernelUfIdeal.nD Cert.KernelUfIdeal.τ).loc Cert.KernelUfIdeal.main_arg0)
          ∧ r.2.mem ((c.tc : Thread Cert.KernelUfIdeal.nD Cert.KernelUfIdeal.τ).loc Cert.KernelUfIdeal.main_arg1) = m ((c.tc : Thread Cert.KernelUfIdeal.nD Cert.KernelUfIdeal.τ).loc Cert.KernelUfIdeal.main_arg1))
      ∧ θ_run (Cert.ReferenceUfIdeal.defs (F := Ideal)) (onTc (τ := Cert.ReferenceUfIdeal.τ) (Cert.ReferenceUfIdeal.main (F := Ideal))) ⟨m', fun _ => 0, g'⟩ (fun r => ∀ c : Dev Cert.ReferenceUfIdeal.nD,
          r.2.mem ((c.tc : Thread Cert.ReferenceUfIdeal.nD Cert.ReferenceUfIdeal.τ).loc Cert.ReferenceUfIdeal.main_v0) = v0 c
          ∧ r.2.mem ((c.tc : Thread Cert.ReferenceUfIdeal.nD Cert.ReferenceUfIdeal.τ).loc Cert.ReferenceUfIdeal.main_arg0) = m' ((c.tc : Thread Cert.ReferenceUfIdeal.nD Cert.ReferenceUfIdeal.τ).loc Cert.ReferenceUfIdeal.main_arg0)
          ∧ r.2.mem ((c.tc : Thread Cert.ReferenceUfIdeal.nD Cert.ReferenceUfIdeal.τ).loc Cert.ReferenceUfIdeal.main_arg1) = m' ((c.tc : Thread Cert.ReferenceUfIdeal.nD Cert.ReferenceUfIdeal.τ).loc Cert.ReferenceUfIdeal.main_arg1))

def preserves_KernelVdx_KernelVdxIdeal : Prop :=
  True

def algebraic_KernelVdxIdeal_ReferenceVdxIdeal [hKernelVdxIdeal : Cert.KernelVdxIdeal.Facts] [hReferenceVdxIdeal : Cert.ReferenceVdxIdeal.Facts] : Prop :=
  ∀ (m : (ℓ : Loc Cert.KernelVdxIdeal.nD Cert.KernelVdxIdeal.τ Cert.KernelVdxIdeal.sig) → Buf (Elt Ideal) ℓ) (g : Dev Cert.KernelVdxIdeal.nD → PrngReg)
    (m' : (ℓ : Loc Cert.ReferenceVdxIdeal.nD Cert.ReferenceVdxIdeal.τ Cert.ReferenceVdxIdeal.sig) → Buf (Elt Ideal) ℓ) (g' : Dev Cert.ReferenceVdxIdeal.nD → PrngReg), Pre_KernelVdxIdeal m →
    (∀ c : Dev Cert.KernelVdxIdeal.nD,
      m' ((c.tc : Thread Cert.ReferenceVdxIdeal.nD Cert.ReferenceVdxIdeal.τ).loc Cert.ReferenceVdxIdeal.main_arg0) = m ((c.tc : Thread Cert.KernelVdxIdeal.nD Cert.KernelVdxIdeal.τ).loc Cert.KernelVdxIdeal.main_arg0)
      ∧ m' ((c.tc : Thread Cert.ReferenceVdxIdeal.nD Cert.ReferenceVdxIdeal.τ).loc Cert.ReferenceVdxIdeal.main_arg1) = m ((c.tc : Thread Cert.KernelVdxIdeal.nD Cert.KernelVdxIdeal.τ).loc Cert.KernelVdxIdeal.main_arg1)) →
    ∃ (v0 : (c : Dev Cert.KernelVdxIdeal.nD) → Buf (Elt Ideal) ((c.tc : Thread Cert.KernelVdxIdeal.nD Cert.KernelVdxIdeal.τ).loc Cert.KernelVdxIdeal.main_v1)),
      θ_run (Cert.KernelVdxIdeal.defs (F := Ideal)) (onTc (τ := Cert.KernelVdxIdeal.τ) (Cert.KernelVdxIdeal.main (F := Ideal))) ⟨m, fun _ => 0, g⟩ (fun r => ∀ c : Dev Cert.KernelVdxIdeal.nD,
          r.2.mem ((c.tc : Thread Cert.KernelVdxIdeal.nD Cert.KernelVdxIdeal.τ).loc Cert.KernelVdxIdeal.main_v1) = v0 c
          ∧ r.2.mem ((c.tc : Thread Cert.KernelVdxIdeal.nD Cert.KernelVdxIdeal.τ).loc Cert.KernelVdxIdeal.main_arg0) = m ((c.tc : Thread Cert.KernelVdxIdeal.nD Cert.KernelVdxIdeal.τ).loc Cert.KernelVdxIdeal.main_arg0)
          ∧ r.2.mem ((c.tc : Thread Cert.KernelVdxIdeal.nD Cert.KernelVdxIdeal.τ).loc Cert.KernelVdxIdeal.main_arg1) = m ((c.tc : Thread Cert.KernelVdxIdeal.nD Cert.KernelVdxIdeal.τ).loc Cert.KernelVdxIdeal.main_arg1))
      ∧ θ_run (Cert.ReferenceVdxIdeal.defs (F := Ideal)) (onTc (τ := Cert.ReferenceVdxIdeal.τ) (Cert.ReferenceVdxIdeal.main (F := Ideal))) ⟨m', fun _ => 0, g'⟩ (fun r => ∀ c : Dev Cert.ReferenceVdxIdeal.nD,
          r.2.mem ((c.tc : Thread Cert.ReferenceVdxIdeal.nD Cert.ReferenceVdxIdeal.τ).loc Cert.ReferenceVdxIdeal.main_v2) = v0 c
          ∧ r.2.mem ((c.tc : Thread Cert.ReferenceVdxIdeal.nD Cert.ReferenceVdxIdeal.τ).loc Cert.ReferenceVdxIdeal.main_arg0) = m' ((c.tc : Thread Cert.ReferenceVdxIdeal.nD Cert.ReferenceVdxIdeal.τ).loc Cert.ReferenceVdxIdeal.main_arg0)
          ∧ r.2.mem ((c.tc : Thread Cert.ReferenceVdxIdeal.nD Cert.ReferenceVdxIdeal.τ).loc Cert.ReferenceVdxIdeal.main_arg1) = m' ((c.tc : Thread Cert.ReferenceVdxIdeal.nD Cert.ReferenceVdxIdeal.τ).loc Cert.ReferenceVdxIdeal.main_arg1))

def preserves_KernelVdw_KernelVdwIdeal : Prop :=
  True

def algebraic_KernelVdwIdeal_ReferenceVdwIdeal [hKernelVdwIdeal : Cert.KernelVdwIdeal.Facts] [hReferenceVdwIdeal : Cert.ReferenceVdwIdeal.Facts] : Prop :=
  ∀ (m : (ℓ : Loc Cert.KernelVdwIdeal.nD Cert.KernelVdwIdeal.τ Cert.KernelVdwIdeal.sig) → Buf (Elt Ideal) ℓ) (g : Dev Cert.KernelVdwIdeal.nD → PrngReg)
    (m' : (ℓ : Loc Cert.ReferenceVdwIdeal.nD Cert.ReferenceVdwIdeal.τ Cert.ReferenceVdwIdeal.sig) → Buf (Elt Ideal) ℓ) (g' : Dev Cert.ReferenceVdwIdeal.nD → PrngReg), Pre_KernelVdwIdeal m →
    (∀ c : Dev Cert.KernelVdwIdeal.nD,
      m' ((c.tc : Thread Cert.ReferenceVdwIdeal.nD Cert.ReferenceVdwIdeal.τ).loc Cert.ReferenceVdwIdeal.main_arg0) = m ((c.tc : Thread Cert.KernelVdwIdeal.nD Cert.KernelVdwIdeal.τ).loc Cert.KernelVdwIdeal.main_arg0)
      ∧ m' ((c.tc : Thread Cert.ReferenceVdwIdeal.nD Cert.ReferenceVdwIdeal.τ).loc Cert.ReferenceVdwIdeal.main_arg1) = m ((c.tc : Thread Cert.KernelVdwIdeal.nD Cert.KernelVdwIdeal.τ).loc Cert.KernelVdwIdeal.main_arg1)) →
    ∃ (v0 : (c : Dev Cert.KernelVdwIdeal.nD) → Buf (Elt Ideal) ((c.tc : Thread Cert.KernelVdwIdeal.nD Cert.KernelVdwIdeal.τ).loc Cert.KernelVdwIdeal.main_v0)),
      θ_run (Cert.KernelVdwIdeal.defs (F := Ideal)) (onTc (τ := Cert.KernelVdwIdeal.τ) (Cert.KernelVdwIdeal.main (F := Ideal))) ⟨m, fun _ => 0, g⟩ (fun r => ∀ c : Dev Cert.KernelVdwIdeal.nD,
          r.2.mem ((c.tc : Thread Cert.KernelVdwIdeal.nD Cert.KernelVdwIdeal.τ).loc Cert.KernelVdwIdeal.main_v0) = v0 c
          ∧ r.2.mem ((c.tc : Thread Cert.KernelVdwIdeal.nD Cert.KernelVdwIdeal.τ).loc Cert.KernelVdwIdeal.main_arg0) = m ((c.tc : Thread Cert.KernelVdwIdeal.nD Cert.KernelVdwIdeal.τ).loc Cert.KernelVdwIdeal.main_arg0)
          ∧ r.2.mem ((c.tc : Thread Cert.KernelVdwIdeal.nD Cert.KernelVdwIdeal.τ).loc Cert.KernelVdwIdeal.main_arg1) = m ((c.tc : Thread Cert.KernelVdwIdeal.nD Cert.KernelVdwIdeal.τ).loc Cert.KernelVdwIdeal.main_arg1))
      ∧ θ_run (Cert.ReferenceVdwIdeal.defs (F := Ideal)) (onTc (τ := Cert.ReferenceVdwIdeal.τ) (Cert.ReferenceVdwIdeal.main (F := Ideal))) ⟨m', fun _ => 0, g'⟩ (fun r => ∀ c : Dev Cert.ReferenceVdwIdeal.nD,
          r.2.mem ((c.tc : Thread Cert.ReferenceVdwIdeal.nD Cert.ReferenceVdwIdeal.τ).loc Cert.ReferenceVdwIdeal.main_v3) = v0 c
          ∧ r.2.mem ((c.tc : Thread Cert.ReferenceVdwIdeal.nD Cert.ReferenceVdwIdeal.τ).loc Cert.ReferenceVdwIdeal.main_arg0) = m' ((c.tc : Thread Cert.ReferenceVdwIdeal.nD Cert.ReferenceVdwIdeal.τ).loc Cert.ReferenceVdwIdeal.main_arg0)
          ∧ r.2.mem ((c.tc : Thread Cert.ReferenceVdwIdeal.nD Cert.ReferenceVdwIdeal.τ).loc Cert.ReferenceVdwIdeal.main_arg1) = m' ((c.tc : Thread Cert.ReferenceVdwIdeal.nD Cert.ReferenceVdwIdeal.τ).loc Cert.ReferenceVdwIdeal.main_arg1))

def preserves_KernelVf_KernelVfIdeal : Prop :=
  True

def algebraic_KernelVfIdeal_ReferenceVfIdeal [hKernelVfIdeal : Cert.KernelVfIdeal.Facts] [hReferenceVfIdeal : Cert.ReferenceVfIdeal.Facts] : Prop :=
  ∀ (m : (ℓ : Loc Cert.KernelVfIdeal.nD Cert.KernelVfIdeal.τ Cert.KernelVfIdeal.sig) → Buf (Elt Ideal) ℓ) (g : Dev Cert.KernelVfIdeal.nD → PrngReg)
    (m' : (ℓ : Loc Cert.ReferenceVfIdeal.nD Cert.ReferenceVfIdeal.τ Cert.ReferenceVfIdeal.sig) → Buf (Elt Ideal) ℓ) (g' : Dev Cert.ReferenceVfIdeal.nD → PrngReg), Pre_KernelVfIdeal m →
    (∀ c : Dev Cert.KernelVfIdeal.nD,
      m' ((c.tc : Thread Cert.ReferenceVfIdeal.nD Cert.ReferenceVfIdeal.τ).loc Cert.ReferenceVfIdeal.main_arg0) = m ((c.tc : Thread Cert.KernelVfIdeal.nD Cert.KernelVfIdeal.τ).loc Cert.KernelVfIdeal.main_arg0)
      ∧ m' ((c.tc : Thread Cert.ReferenceVfIdeal.nD Cert.ReferenceVfIdeal.τ).loc Cert.ReferenceVfIdeal.main_arg1) = m ((c.tc : Thread Cert.KernelVfIdeal.nD Cert.KernelVfIdeal.τ).loc Cert.KernelVfIdeal.main_arg1)) →
    ∃ (v0 : (c : Dev Cert.KernelVfIdeal.nD) → Buf (Elt Ideal) ((c.tc : Thread Cert.KernelVfIdeal.nD Cert.KernelVfIdeal.τ).loc Cert.KernelVfIdeal.main_v1)),
      θ_run (Cert.KernelVfIdeal.defs (F := Ideal)) (onTc (τ := Cert.KernelVfIdeal.τ) (Cert.KernelVfIdeal.main (F := Ideal))) ⟨m, fun _ => 0, g⟩ (fun r => ∀ c : Dev Cert.KernelVfIdeal.nD,
          r.2.mem ((c.tc : Thread Cert.KernelVfIdeal.nD Cert.KernelVfIdeal.τ).loc Cert.KernelVfIdeal.main_v1) = v0 c
          ∧ r.2.mem ((c.tc : Thread Cert.KernelVfIdeal.nD Cert.KernelVfIdeal.τ).loc Cert.KernelVfIdeal.main_arg0) = m ((c.tc : Thread Cert.KernelVfIdeal.nD Cert.KernelVfIdeal.τ).loc Cert.KernelVfIdeal.main_arg0)
          ∧ r.2.mem ((c.tc : Thread Cert.KernelVfIdeal.nD Cert.KernelVfIdeal.τ).loc Cert.KernelVfIdeal.main_arg1) = m ((c.tc : Thread Cert.KernelVfIdeal.nD Cert.KernelVfIdeal.τ).loc Cert.KernelVfIdeal.main_arg1))
      ∧ θ_run (Cert.ReferenceVfIdeal.defs (F := Ideal)) (onTc (τ := Cert.ReferenceVfIdeal.τ) (Cert.ReferenceVfIdeal.main (F := Ideal))) ⟨m', fun _ => 0, g'⟩ (fun r => ∀ c : Dev Cert.ReferenceVfIdeal.nD,
          r.2.mem ((c.tc : Thread Cert.ReferenceVfIdeal.nD Cert.ReferenceVfIdeal.τ).loc Cert.ReferenceVfIdeal.main_v0) = v0 c
          ∧ r.2.mem ((c.tc : Thread Cert.ReferenceVfIdeal.nD Cert.ReferenceVfIdeal.τ).loc Cert.ReferenceVfIdeal.main_arg0) = m' ((c.tc : Thread Cert.ReferenceVfIdeal.nD Cert.ReferenceVfIdeal.τ).loc Cert.ReferenceVfIdeal.main_arg0)
          ∧ r.2.mem ((c.tc : Thread Cert.ReferenceVfIdeal.nD Cert.ReferenceVfIdeal.τ).loc Cert.ReferenceVfIdeal.main_arg1) = m' ((c.tc : Thread Cert.ReferenceVfIdeal.nD Cert.ReferenceVfIdeal.τ).loc Cert.ReferenceVfIdeal.main_arg1))

def preserves_KernelIf_KernelIfIdeal : Prop :=
  True

def algebraic_KernelIfIdeal_ReferenceIfIdeal [hKernelIfIdeal : Cert.KernelIfIdeal.Facts] [hReferenceIfIdeal : Cert.ReferenceIfIdeal.Facts] : Prop :=
  ∀ (m : (ℓ : Loc Cert.KernelIfIdeal.nD Cert.KernelIfIdeal.τ Cert.KernelIfIdeal.sig) → Buf (Elt Ideal) ℓ) (g : Dev Cert.KernelIfIdeal.nD → PrngReg)
    (m' : (ℓ : Loc Cert.ReferenceIfIdeal.nD Cert.ReferenceIfIdeal.τ Cert.ReferenceIfIdeal.sig) → Buf (Elt Ideal) ℓ) (g' : Dev Cert.ReferenceIfIdeal.nD → PrngReg), Pre_KernelIfIdeal m →
    (∀ c : Dev Cert.KernelIfIdeal.nD,
      m' ((c.tc : Thread Cert.ReferenceIfIdeal.nD Cert.ReferenceIfIdeal.τ).loc Cert.ReferenceIfIdeal.main_arg0) = m ((c.tc : Thread Cert.KernelIfIdeal.nD Cert.KernelIfIdeal.τ).loc Cert.KernelIfIdeal.main_arg0)
      ∧ m' ((c.tc : Thread Cert.ReferenceIfIdeal.nD Cert.ReferenceIfIdeal.τ).loc Cert.ReferenceIfIdeal.main_arg1) = m ((c.tc : Thread Cert.KernelIfIdeal.nD Cert.KernelIfIdeal.τ).loc Cert.KernelIfIdeal.main_arg1)) →
    ∃ (v0 : (c : Dev Cert.KernelIfIdeal.nD) → Buf (Elt Ideal) ((c.tc : Thread Cert.KernelIfIdeal.nD Cert.KernelIfIdeal.τ).loc Cert.KernelIfIdeal.main_v1_0)) (v1 : (c : Dev Cert.KernelIfIdeal.nD) → Buf (Elt Ideal) ((c.tc : Thread Cert.KernelIfIdeal.nD Cert.KernelIfIdeal.τ).loc Cert.KernelIfIdeal.main_v1_1)) (v2 : (c : Dev Cert.KernelIfIdeal.nD) → Buf (Elt Ideal) ((c.tc : Thread Cert.KernelIfIdeal.nD Cert.KernelIfIdeal.τ).loc Cert.KernelIfIdeal.main_v1_2)) (v3 : (c : Dev Cert.KernelIfIdeal.nD) → Buf (Elt Ideal) ((c.tc : Thread Cert.KernelIfIdeal.nD Cert.KernelIfIdeal.τ).loc Cert.KernelIfIdeal.main_v1_3)) (v4 : (c : Dev Cert.KernelIfIdeal.nD) → Buf (Elt Ideal) ((c.tc : Thread Cert.KernelIfIdeal.nD Cert.KernelIfIdeal.τ).loc Cert.KernelIfIdeal.main_v1_4)) (v5 : (c : Dev Cert.KernelIfIdeal.nD) → Buf (Elt Ideal) ((c.tc : Thread Cert.KernelIfIdeal.nD Cert.KernelIfIdeal.τ).loc Cert.KernelIfIdeal.main_v1_5)) (v6 : (c : Dev Cert.KernelIfIdeal.nD) → Buf (Elt Ideal) ((c.tc : Thread Cert.KernelIfIdeal.nD Cert.KernelIfIdeal.τ).loc Cert.KernelIfIdeal.main_v1_6)) (v7 : (c : Dev Cert.KernelIfIdeal.nD) → Buf (Elt Ideal) ((c.tc : Thread Cert.KernelIfIdeal.nD Cert.KernelIfIdeal.τ).loc Cert.KernelIfIdeal.main_v1_7)) (v8 : (c : Dev Cert.KernelIfIdeal.nD) → Buf (Elt Ideal) ((c.tc : Thread Cert.KernelIfIdeal.nD Cert.KernelIfIdeal.τ).loc Cert.KernelIfIdeal.main_v1_8)) (v9 : (c : Dev Cert.KernelIfIdeal.nD) → Buf (Elt Ideal) ((c.tc : Thread Cert.KernelIfIdeal.nD Cert.KernelIfIdeal.τ).loc Cert.KernelIfIdeal.main_v1_9)) (v10 : (c : Dev Cert.KernelIfIdeal.nD) → Buf (Elt Ideal) ((c.tc : Thread Cert.KernelIfIdeal.nD Cert.KernelIfIdeal.τ).loc Cert.KernelIfIdeal.main_v1_10)) (v11 : (c : Dev Cert.KernelIfIdeal.nD) → Buf (Elt Ideal) ((c.tc : Thread Cert.KernelIfIdeal.nD Cert.KernelIfIdeal.τ).loc Cert.KernelIfIdeal.main_v1_11)) (v12 : (c : Dev Cert.KernelIfIdeal.nD) → Buf (Elt Ideal) ((c.tc : Thread Cert.KernelIfIdeal.nD Cert.KernelIfIdeal.τ).loc Cert.KernelIfIdeal.main_v1_12)),
      θ_run (Cert.KernelIfIdeal.defs (F := Ideal)) (onTc (τ := Cert.KernelIfIdeal.τ) (Cert.KernelIfIdeal.main (F := Ideal))) ⟨m, fun _ => 0, g⟩ (fun r => ∀ c : Dev Cert.KernelIfIdeal.nD,
          r.2.mem ((c.tc : Thread Cert.KernelIfIdeal.nD Cert.KernelIfIdeal.τ).loc Cert.KernelIfIdeal.main_v1_0) = v0 c
          ∧ r.2.mem ((c.tc : Thread Cert.KernelIfIdeal.nD Cert.KernelIfIdeal.τ).loc Cert.KernelIfIdeal.main_v1_1) = v1 c
          ∧ r.2.mem ((c.tc : Thread Cert.KernelIfIdeal.nD Cert.KernelIfIdeal.τ).loc Cert.KernelIfIdeal.main_v1_2) = v2 c
          ∧ r.2.mem ((c.tc : Thread Cert.KernelIfIdeal.nD Cert.KernelIfIdeal.τ).loc Cert.KernelIfIdeal.main_v1_3) = v3 c
          ∧ r.2.mem ((c.tc : Thread Cert.KernelIfIdeal.nD Cert.KernelIfIdeal.τ).loc Cert.KernelIfIdeal.main_v1_4) = v4 c
          ∧ r.2.mem ((c.tc : Thread Cert.KernelIfIdeal.nD Cert.KernelIfIdeal.τ).loc Cert.KernelIfIdeal.main_v1_5) = v5 c
          ∧ r.2.mem ((c.tc : Thread Cert.KernelIfIdeal.nD Cert.KernelIfIdeal.τ).loc Cert.KernelIfIdeal.main_v1_6) = v6 c
          ∧ r.2.mem ((c.tc : Thread Cert.KernelIfIdeal.nD Cert.KernelIfIdeal.τ).loc Cert.KernelIfIdeal.main_v1_7) = v7 c
          ∧ r.2.mem ((c.tc : Thread Cert.KernelIfIdeal.nD Cert.KernelIfIdeal.τ).loc Cert.KernelIfIdeal.main_v1_8) = v8 c
          ∧ r.2.mem ((c.tc : Thread Cert.KernelIfIdeal.nD Cert.KernelIfIdeal.τ).loc Cert.KernelIfIdeal.main_v1_9) = v9 c
          ∧ r.2.mem ((c.tc : Thread Cert.KernelIfIdeal.nD Cert.KernelIfIdeal.τ).loc Cert.KernelIfIdeal.main_v1_10) = v10 c
          ∧ r.2.mem ((c.tc : Thread Cert.KernelIfIdeal.nD Cert.KernelIfIdeal.τ).loc Cert.KernelIfIdeal.main_v1_11) = v11 c
          ∧ r.2.mem ((c.tc : Thread Cert.KernelIfIdeal.nD Cert.KernelIfIdeal.τ).loc Cert.KernelIfIdeal.main_v1_12) = v12 c
          ∧ r.2.mem ((c.tc : Thread Cert.KernelIfIdeal.nD Cert.KernelIfIdeal.τ).loc Cert.KernelIfIdeal.main_arg0) = m ((c.tc : Thread Cert.KernelIfIdeal.nD Cert.KernelIfIdeal.τ).loc Cert.KernelIfIdeal.main_arg0)
          ∧ r.2.mem ((c.tc : Thread Cert.KernelIfIdeal.nD Cert.KernelIfIdeal.τ).loc Cert.KernelIfIdeal.main_arg1) = m ((c.tc : Thread Cert.KernelIfIdeal.nD Cert.KernelIfIdeal.τ).loc Cert.KernelIfIdeal.main_arg1))
      ∧ θ_run (Cert.ReferenceIfIdeal.defs (F := Ideal)) (onTc (τ := Cert.ReferenceIfIdeal.τ) (Cert.ReferenceIfIdeal.main (F := Ideal))) ⟨m', fun _ => 0, g'⟩ (fun r => ∀ c : Dev Cert.ReferenceIfIdeal.nD,
          r.2.mem ((c.tc : Thread Cert.ReferenceIfIdeal.nD Cert.ReferenceIfIdeal.τ).loc Cert.ReferenceIfIdeal.main_v1) = v0 c
          ∧ r.2.mem ((c.tc : Thread Cert.ReferenceIfIdeal.nD Cert.ReferenceIfIdeal.τ).loc Cert.ReferenceIfIdeal.main_v2) = v1 c
          ∧ r.2.mem ((c.tc : Thread Cert.ReferenceIfIdeal.nD Cert.ReferenceIfIdeal.τ).loc Cert.ReferenceIfIdeal.main_v3) = v2 c
          ∧ r.2.mem ((c.tc : Thread Cert.ReferenceIfIdeal.nD Cert.ReferenceIfIdeal.τ).loc Cert.ReferenceIfIdeal.main_v4) = v3 c
          ∧ r.2.mem ((c.tc : Thread Cert.ReferenceIfIdeal.nD Cert.ReferenceIfIdeal.τ).loc Cert.ReferenceIfIdeal.main_v5) = v4 c
          ∧ r.2.mem ((c.tc : Thread Cert.ReferenceIfIdeal.nD Cert.ReferenceIfIdeal.τ).loc Cert.ReferenceIfIdeal.main_v6) = v5 c
          ∧ r.2.mem ((c.tc : Thread Cert.ReferenceIfIdeal.nD Cert.ReferenceIfIdeal.τ).loc Cert.ReferenceIfIdeal.main_v7) = v6 c
          ∧ r.2.mem ((c.tc : Thread Cert.ReferenceIfIdeal.nD Cert.ReferenceIfIdeal.τ).loc Cert.ReferenceIfIdeal.main_v8) = v7 c
          ∧ r.2.mem ((c.tc : Thread Cert.ReferenceIfIdeal.nD Cert.ReferenceIfIdeal.τ).loc Cert.ReferenceIfIdeal.main_v9) = v8 c
          ∧ r.2.mem ((c.tc : Thread Cert.ReferenceIfIdeal.nD Cert.ReferenceIfIdeal.τ).loc Cert.ReferenceIfIdeal.main_v10) = v9 c
          ∧ r.2.mem ((c.tc : Thread Cert.ReferenceIfIdeal.nD Cert.ReferenceIfIdeal.τ).loc Cert.ReferenceIfIdeal.main_v11) = v10 c
          ∧ r.2.mem ((c.tc : Thread Cert.ReferenceIfIdeal.nD Cert.ReferenceIfIdeal.τ).loc Cert.ReferenceIfIdeal.main_v12) = v11 c
          ∧ r.2.mem ((c.tc : Thread Cert.ReferenceIfIdeal.nD Cert.ReferenceIfIdeal.τ).loc Cert.ReferenceIfIdeal.main_v13) = v12 c
          ∧ r.2.mem ((c.tc : Thread Cert.ReferenceIfIdeal.nD Cert.ReferenceIfIdeal.τ).loc Cert.ReferenceIfIdeal.main_arg0) = m' ((c.tc : Thread Cert.ReferenceIfIdeal.nD Cert.ReferenceIfIdeal.τ).loc Cert.ReferenceIfIdeal.main_arg0)
          ∧ r.2.mem ((c.tc : Thread Cert.ReferenceIfIdeal.nD Cert.ReferenceIfIdeal.τ).loc Cert.ReferenceIfIdeal.main_arg1) = m' ((c.tc : Thread Cert.ReferenceIfIdeal.nD Cert.ReferenceIfIdeal.τ).loc Cert.ReferenceIfIdeal.main_arg1))

def preserves_KernelMf_KernelMfIdeal : Prop :=
  True

def algebraic_KernelMfIdeal_ReferenceMfIdeal [hKernelMfIdeal : Cert.KernelMfIdeal.Facts] [hReferenceMfIdeal : Cert.ReferenceMfIdeal.Facts] : Prop :=
  ∀ (m : (ℓ : Loc Cert.KernelMfIdeal.nD Cert.KernelMfIdeal.τ Cert.KernelMfIdeal.sig) → Buf (Elt Ideal) ℓ) (g : Dev Cert.KernelMfIdeal.nD → PrngReg)
    (m' : (ℓ : Loc Cert.ReferenceMfIdeal.nD Cert.ReferenceMfIdeal.τ Cert.ReferenceMfIdeal.sig) → Buf (Elt Ideal) ℓ) (g' : Dev Cert.ReferenceMfIdeal.nD → PrngReg), Pre_KernelMfIdeal m →
    (∀ c : Dev Cert.KernelMfIdeal.nD,
      m' ((c.tc : Thread Cert.ReferenceMfIdeal.nD Cert.ReferenceMfIdeal.τ).loc Cert.ReferenceMfIdeal.main_arg0) = m ((c.tc : Thread Cert.KernelMfIdeal.nD Cert.KernelMfIdeal.τ).loc Cert.KernelMfIdeal.main_arg0)
      ∧ m' ((c.tc : Thread Cert.ReferenceMfIdeal.nD Cert.ReferenceMfIdeal.τ).loc Cert.ReferenceMfIdeal.main_arg1) = m ((c.tc : Thread Cert.KernelMfIdeal.nD Cert.KernelMfIdeal.τ).loc Cert.KernelMfIdeal.main_arg1)) →
    ∃ (v0 : (c : Dev Cert.KernelMfIdeal.nD) → Buf (Elt Ideal) ((c.tc : Thread Cert.KernelMfIdeal.nD Cert.KernelMfIdeal.τ).loc Cert.KernelMfIdeal.main_v1_0)) (v1 : (c : Dev Cert.KernelMfIdeal.nD) → Buf (Elt Ideal) ((c.tc : Thread Cert.KernelMfIdeal.nD Cert.KernelMfIdeal.τ).loc Cert.KernelMfIdeal.main_v1_1)) (v2 : (c : Dev Cert.KernelMfIdeal.nD) → Buf (Elt Ideal) ((c.tc : Thread Cert.KernelMfIdeal.nD Cert.KernelMfIdeal.τ).loc Cert.KernelMfIdeal.main_v1_2)) (v3 : (c : Dev Cert.KernelMfIdeal.nD) → Buf (Elt Ideal) ((c.tc : Thread Cert.KernelMfIdeal.nD Cert.KernelMfIdeal.τ).loc Cert.KernelMfIdeal.main_v1_3)),
      θ_run (Cert.KernelMfIdeal.defs (F := Ideal)) (onTc (τ := Cert.KernelMfIdeal.τ) (Cert.KernelMfIdeal.main (F := Ideal))) ⟨m, fun _ => 0, g⟩ (fun r => ∀ c : Dev Cert.KernelMfIdeal.nD,
          r.2.mem ((c.tc : Thread Cert.KernelMfIdeal.nD Cert.KernelMfIdeal.τ).loc Cert.KernelMfIdeal.main_v1_0) = v0 c
          ∧ r.2.mem ((c.tc : Thread Cert.KernelMfIdeal.nD Cert.KernelMfIdeal.τ).loc Cert.KernelMfIdeal.main_v1_1) = v1 c
          ∧ r.2.mem ((c.tc : Thread Cert.KernelMfIdeal.nD Cert.KernelMfIdeal.τ).loc Cert.KernelMfIdeal.main_v1_2) = v2 c
          ∧ r.2.mem ((c.tc : Thread Cert.KernelMfIdeal.nD Cert.KernelMfIdeal.τ).loc Cert.KernelMfIdeal.main_v1_3) = v3 c
          ∧ r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
          ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1))
      ∧ θ_run (Cert.ReferenceMfIdeal.defs (F := Ideal)) (onTc (τ := Cert.ReferenceMfIdeal.τ) (Cert.ReferenceMfIdeal.main (F := Ideal))) ⟨m', fun _ => 0, g'⟩ (fun r => ∀ c : Dev Cert.ReferenceMfIdeal.nD,
          r.2.mem ((c.tc : Thread Cert.ReferenceMfIdeal.nD Cert.ReferenceMfIdeal.τ).loc Cert.ReferenceMfIdeal.main_v1) = v0 c
          ∧ r.2.mem ((c.tc : Thread Cert.ReferenceMfIdeal.nD Cert.ReferenceMfIdeal.τ).loc Cert.ReferenceMfIdeal.main_v2) = v1 c
          ∧ r.2.mem ((c.tc : Thread Cert.ReferenceMfIdeal.nD Cert.ReferenceMfIdeal.τ).loc Cert.ReferenceMfIdeal.main_v3) = v2 c
          ∧ r.2.mem ((c.tc : Thread Cert.ReferenceMfIdeal.nD Cert.ReferenceMfIdeal.τ).loc Cert.ReferenceMfIdeal.main_v4) = v3 c
          ∧ r.2.mem ((c.tc : Thread Cert.ReferenceMfIdeal.nD Cert.ReferenceMfIdeal.τ).loc Cert.ReferenceMfIdeal.main_arg0) = m' ((c.tc : Thread Cert.ReferenceMfIdeal.nD Cert.ReferenceMfIdeal.τ).loc Cert.ReferenceMfIdeal.main_arg0)
          ∧ r.2.mem ((c.tc : Thread Cert.ReferenceMfIdeal.nD Cert.ReferenceMfIdeal.τ).loc Cert.ReferenceMfIdeal.main_arg1) = m' ((c.tc : Thread Cert.ReferenceMfIdeal.nD Cert.ReferenceMfIdeal.τ).loc Cert.ReferenceMfIdeal.main_arg1))

def preserves_KernelBf_KernelBfIdeal : Prop :=
  True

def algebraic_KernelBfIdeal_ReferenceBfIdeal [hKernelBfIdeal : Cert.KernelBfIdeal.Facts] [hReferenceBfIdeal : Cert.ReferenceBfIdeal.Facts] : Prop :=
  ∀ (m : (ℓ : Loc Cert.KernelBfIdeal.nD Cert.KernelBfIdeal.τ Cert.KernelBfIdeal.sig) → Buf (Elt Ideal) ℓ) (g : Dev Cert.KernelBfIdeal.nD → PrngReg)
    (m' : (ℓ : Loc Cert.ReferenceBfIdeal.nD Cert.ReferenceBfIdeal.τ Cert.ReferenceBfIdeal.sig) → Buf (Elt Ideal) ℓ) (g' : Dev Cert.ReferenceBfIdeal.nD → PrngReg), Pre_KernelBfIdeal m →
    (∀ c : Dev Cert.KernelBfIdeal.nD,
      m' ((c.tc : Thread Cert.ReferenceBfIdeal.nD Cert.ReferenceBfIdeal.τ).loc Cert.ReferenceBfIdeal.main_arg0) = m ((c.tc : Thread Cert.KernelBfIdeal.nD Cert.KernelBfIdeal.τ).loc Cert.KernelBfIdeal.main_arg0)
      ∧ m' ((c.tc : Thread Cert.ReferenceBfIdeal.nD Cert.ReferenceBfIdeal.τ).loc Cert.ReferenceBfIdeal.main_arg1) = m ((c.tc : Thread Cert.KernelBfIdeal.nD Cert.KernelBfIdeal.τ).loc Cert.KernelBfIdeal.main_arg1)) →
    ∃ (v0 : (c : Dev Cert.KernelBfIdeal.nD) → Buf (Elt Ideal) ((c.tc : Thread Cert.KernelBfIdeal.nD Cert.KernelBfIdeal.τ).loc Cert.KernelBfIdeal.main_v1)),
      θ_run (Cert.KernelBfIdeal.defs (F := Ideal)) (onTc (τ := Cert.KernelBfIdeal.τ) (Cert.KernelBfIdeal.main (F := Ideal))) ⟨m, fun _ => 0, g⟩ (fun r => ∀ c : Dev Cert.KernelBfIdeal.nD,
          r.2.mem ((c.tc : Thread Cert.KernelBfIdeal.nD Cert.KernelBfIdeal.τ).loc Cert.KernelBfIdeal.main_v1) = v0 c
          ∧ r.2.mem ((c.tc : Thread Cert.KernelBfIdeal.nD Cert.KernelBfIdeal.τ).loc Cert.KernelBfIdeal.main_arg0) = m ((c.tc : Thread Cert.KernelBfIdeal.nD Cert.KernelBfIdeal.τ).loc Cert.KernelBfIdeal.main_arg0)
          ∧ r.2.mem ((c.tc : Thread Cert.KernelBfIdeal.nD Cert.KernelBfIdeal.τ).loc Cert.KernelBfIdeal.main_arg1) = m ((c.tc : Thread Cert.KernelBfIdeal.nD Cert.KernelBfIdeal.τ).loc Cert.KernelBfIdeal.main_arg1))
      ∧ θ_run (Cert.ReferenceBfIdeal.defs (F := Ideal)) (onTc (τ := Cert.ReferenceBfIdeal.τ) (Cert.ReferenceBfIdeal.main (F := Ideal))) ⟨m', fun _ => 0, g'⟩ (fun r => ∀ c : Dev Cert.ReferenceBfIdeal.nD,
          r.2.mem ((c.tc : Thread Cert.ReferenceBfIdeal.nD Cert.ReferenceBfIdeal.τ).loc Cert.ReferenceBfIdeal.main_v0) = v0 c
          ∧ r.2.mem ((c.tc : Thread Cert.ReferenceBfIdeal.nD Cert.ReferenceBfIdeal.τ).loc Cert.ReferenceBfIdeal.main_arg0) = m' ((c.tc : Thread Cert.ReferenceBfIdeal.nD Cert.ReferenceBfIdeal.τ).loc Cert.ReferenceBfIdeal.main_arg0)
          ∧ r.2.mem ((c.tc : Thread Cert.ReferenceBfIdeal.nD Cert.ReferenceBfIdeal.τ).loc Cert.ReferenceBfIdeal.main_arg1) = m' ((c.tc : Thread Cert.ReferenceBfIdeal.nD Cert.ReferenceBfIdeal.τ).loc Cert.ReferenceBfIdeal.main_arg1))

def preserves_KernelGf_KernelGfIdeal : Prop :=
  True

def algebraic_KernelGfIdeal_ReferenceGfIdeal [hKernelGfIdeal : Cert.KernelGfIdeal.Facts] [hReferenceGfIdeal : Cert.ReferenceGfIdeal.Facts] : Prop :=
  ∀ (m : (ℓ : Loc Cert.KernelGfIdeal.nD Cert.KernelGfIdeal.τ Cert.KernelGfIdeal.sig) → Buf (Elt Ideal) ℓ) (g : Dev Cert.KernelGfIdeal.nD → PrngReg)
    (m' : (ℓ : Loc Cert.ReferenceGfIdeal.nD Cert.ReferenceGfIdeal.τ Cert.ReferenceGfIdeal.sig) → Buf (Elt Ideal) ℓ) (g' : Dev Cert.ReferenceGfIdeal.nD → PrngReg), Pre_KernelGfIdeal m →
    (∀ c : Dev Cert.KernelGfIdeal.nD,
      m' ((c.tc : Thread Cert.ReferenceGfIdeal.nD Cert.ReferenceGfIdeal.τ).loc Cert.ReferenceGfIdeal.main_arg0) = m ((c.tc : Thread Cert.KernelGfIdeal.nD Cert.KernelGfIdeal.τ).loc Cert.KernelGfIdeal.main_arg0)
      ∧ m' ((c.tc : Thread Cert.ReferenceGfIdeal.nD Cert.ReferenceGfIdeal.τ).loc Cert.ReferenceGfIdeal.main_arg1) = m ((c.tc : Thread Cert.KernelGfIdeal.nD Cert.KernelGfIdeal.τ).loc Cert.KernelGfIdeal.main_arg1)
      ∧ m' ((c.tc : Thread Cert.ReferenceGfIdeal.nD Cert.ReferenceGfIdeal.τ).loc Cert.ReferenceGfIdeal.main_arg2) = m ((c.tc : Thread Cert.KernelGfIdeal.nD Cert.KernelGfIdeal.τ).loc Cert.KernelGfIdeal.main_arg2)) →
    ∃ (v0 : (c : Dev Cert.KernelGfIdeal.nD) → Buf (Elt Ideal) ((c.tc : Thread Cert.KernelGfIdeal.nD Cert.KernelGfIdeal.τ).loc Cert.KernelGfIdeal.main_v1)),
      θ_run (Cert.KernelGfIdeal.defs (F := Ideal)) (onTc (τ := Cert.KernelGfIdeal.τ) (Cert.KernelGfIdeal.main (F := Ideal))) ⟨m, fun _ => 0, g⟩ (fun r => ∀ c : Dev Cert.KernelGfIdeal.nD,
          r.2.mem ((c.tc : Thread Cert.KernelGfIdeal.nD Cert.KernelGfIdeal.τ).loc Cert.KernelGfIdeal.main_v1) = v0 c
          ∧ r.2.mem ((c.tc : Thread Cert.KernelGfIdeal.nD Cert.KernelGfIdeal.τ).loc Cert.KernelGfIdeal.main_arg0) = m ((c.tc : Thread Cert.KernelGfIdeal.nD Cert.KernelGfIdeal.τ).loc Cert.KernelGfIdeal.main_arg0)
          ∧ r.2.mem ((c.tc : Thread Cert.KernelGfIdeal.nD Cert.KernelGfIdeal.τ).loc Cert.KernelGfIdeal.main_arg1) = m ((c.tc : Thread Cert.KernelGfIdeal.nD Cert.KernelGfIdeal.τ).loc Cert.KernelGfIdeal.main_arg1)
          ∧ r.2.mem ((c.tc : Thread Cert.KernelGfIdeal.nD Cert.KernelGfIdeal.τ).loc Cert.KernelGfIdeal.main_arg2) = m ((c.tc : Thread Cert.KernelGfIdeal.nD Cert.KernelGfIdeal.τ).loc Cert.KernelGfIdeal.main_arg2))
      ∧ θ_run (Cert.ReferenceGfIdeal.defs (F := Ideal)) (onTc (τ := Cert.ReferenceGfIdeal.τ) (Cert.ReferenceGfIdeal.main (F := Ideal))) ⟨m', fun _ => 0, g'⟩ (fun r => ∀ c : Dev Cert.ReferenceGfIdeal.nD,
          r.2.mem ((c.tc : Thread Cert.ReferenceGfIdeal.nD Cert.ReferenceGfIdeal.τ).loc Cert.ReferenceGfIdeal.main_v2) = v0 c
          ∧ r.2.mem ((c.tc : Thread Cert.ReferenceGfIdeal.nD Cert.ReferenceGfIdeal.τ).loc Cert.ReferenceGfIdeal.main_arg0) = m' ((c.tc : Thread Cert.ReferenceGfIdeal.nD Cert.ReferenceGfIdeal.τ).loc Cert.ReferenceGfIdeal.main_arg0)
          ∧ r.2.mem ((c.tc : Thread Cert.ReferenceGfIdeal.nD Cert.ReferenceGfIdeal.τ).loc Cert.ReferenceGfIdeal.main_arg1) = m' ((c.tc : Thread Cert.ReferenceGfIdeal.nD Cert.ReferenceGfIdeal.τ).loc Cert.ReferenceGfIdeal.main_arg1)
          ∧ r.2.mem ((c.tc : Thread Cert.ReferenceGfIdeal.nD Cert.ReferenceGfIdeal.τ).loc Cert.ReferenceGfIdeal.main_arg2) = m' ((c.tc : Thread Cert.ReferenceGfIdeal.nD Cert.ReferenceGfIdeal.τ).loc Cert.ReferenceGfIdeal.main_arg2))

def preserves_KernelCf_KernelCfIdeal : Prop :=
  True

def algebraic_KernelCfIdeal_ReferenceCfIdeal [hKernelCfIdeal : Cert.KernelCfIdeal.Facts] [hReferenceCfIdeal : Cert.ReferenceCfIdeal.Facts] : Prop :=
  ∀ (m : (ℓ : Loc Cert.KernelCfIdeal.nD Cert.KernelCfIdeal.τ Cert.KernelCfIdeal.sig) → Buf (Elt Ideal) ℓ) (g : Dev Cert.KernelCfIdeal.nD → PrngReg)
    (m' : (ℓ : Loc Cert.ReferenceCfIdeal.nD Cert.ReferenceCfIdeal.τ Cert.ReferenceCfIdeal.sig) → Buf (Elt Ideal) ℓ) (g' : Dev Cert.ReferenceCfIdeal.nD → PrngReg), Pre_KernelCfIdeal m →
    (∀ c : Dev Cert.KernelCfIdeal.nD,
      m' ((c.tc : Thread Cert.ReferenceCfIdeal.nD Cert.ReferenceCfIdeal.τ).loc Cert.ReferenceCfIdeal.main_arg0) = m ((c.tc : Thread Cert.KernelCfIdeal.nD Cert.KernelCfIdeal.τ).loc Cert.KernelCfIdeal.main_arg0)
      ∧ m' ((c.tc : Thread Cert.ReferenceCfIdeal.nD Cert.ReferenceCfIdeal.τ).loc Cert.ReferenceCfIdeal.main_arg1) = m ((c.tc : Thread Cert.KernelCfIdeal.nD Cert.KernelCfIdeal.τ).loc Cert.KernelCfIdeal.main_arg1)
      ∧ m' ((c.tc : Thread Cert.ReferenceCfIdeal.nD Cert.ReferenceCfIdeal.τ).loc Cert.ReferenceCfIdeal.main_arg2) = m ((c.tc : Thread Cert.KernelCfIdeal.nD Cert.KernelCfIdeal.τ).loc Cert.KernelCfIdeal.main_arg2)
      ∧ m' ((c.tc : Thread Cert.ReferenceCfIdeal.nD Cert.ReferenceCfIdeal.τ).loc Cert.ReferenceCfIdeal.main_arg3) = m ((c.tc : Thread Cert.KernelCfIdeal.nD Cert.KernelCfIdeal.τ).loc Cert.KernelCfIdeal.main_arg3)
      ∧ m' ((c.tc : Thread Cert.ReferenceCfIdeal.nD Cert.ReferenceCfIdeal.τ).loc Cert.ReferenceCfIdeal.main_arg4) = m ((c.tc : Thread Cert.KernelCfIdeal.nD Cert.KernelCfIdeal.τ).loc Cert.KernelCfIdeal.main_arg4)) →
    ∃ (v0 : (c : Dev Cert.KernelCfIdeal.nD) → Buf (Elt Ideal) ((c.tc : Thread Cert.KernelCfIdeal.nD Cert.KernelCfIdeal.τ).loc Cert.KernelCfIdeal.main_v2)),
      θ_run (Cert.KernelCfIdeal.defs (F := Ideal)) (onTc (τ := Cert.KernelCfIdeal.τ) (Cert.KernelCfIdeal.main (F := Ideal))) ⟨m, fun _ => 0, g⟩ (fun r => ∀ c : Dev Cert.KernelCfIdeal.nD,
          r.2.mem ((c.tc : Thread Cert.KernelCfIdeal.nD Cert.KernelCfIdeal.τ).loc Cert.KernelCfIdeal.main_v2) = v0 c
          ∧ r.2.mem ((c.tc : Thread Cert.KernelCfIdeal.nD Cert.KernelCfIdeal.τ).loc Cert.KernelCfIdeal.main_arg0) = m ((c.tc : Thread Cert.KernelCfIdeal.nD Cert.KernelCfIdeal.τ).loc Cert.KernelCfIdeal.main_arg0)
          ∧ r.2.mem ((c.tc : Thread Cert.KernelCfIdeal.nD Cert.KernelCfIdeal.τ).loc Cert.KernelCfIdeal.main_arg1) = m ((c.tc : Thread Cert.KernelCfIdeal.nD Cert.KernelCfIdeal.τ).loc Cert.KernelCfIdeal.main_arg1)
          ∧ r.2.mem ((c.tc : Thread Cert.KernelCfIdeal.nD Cert.KernelCfIdeal.τ).loc Cert.KernelCfIdeal.main_arg2) = m ((c.tc : Thread Cert.KernelCfIdeal.nD Cert.KernelCfIdeal.τ).loc Cert.KernelCfIdeal.main_arg2)
          ∧ r.2.mem ((c.tc : Thread Cert.KernelCfIdeal.nD Cert.KernelCfIdeal.τ).loc Cert.KernelCfIdeal.main_arg3) = m ((c.tc : Thread Cert.KernelCfIdeal.nD Cert.KernelCfIdeal.τ).loc Cert.KernelCfIdeal.main_arg3)
          ∧ r.2.mem ((c.tc : Thread Cert.KernelCfIdeal.nD Cert.KernelCfIdeal.τ).loc Cert.KernelCfIdeal.main_arg4) = m ((c.tc : Thread Cert.KernelCfIdeal.nD Cert.KernelCfIdeal.τ).loc Cert.KernelCfIdeal.main_arg4))
      ∧ θ_run (Cert.ReferenceCfIdeal.defs (F := Ideal)) (onTc (τ := Cert.ReferenceCfIdeal.τ) (Cert.ReferenceCfIdeal.main (F := Ideal))) ⟨m', fun _ => 0, g'⟩ (fun r => ∀ c : Dev Cert.ReferenceCfIdeal.nD,
          r.2.mem ((c.tc : Thread Cert.ReferenceCfIdeal.nD Cert.ReferenceCfIdeal.τ).loc Cert.ReferenceCfIdeal.main_v27) = v0 c
          ∧ r.2.mem ((c.tc : Thread Cert.ReferenceCfIdeal.nD Cert.ReferenceCfIdeal.τ).loc Cert.ReferenceCfIdeal.main_arg0) = m' ((c.tc : Thread Cert.ReferenceCfIdeal.nD Cert.ReferenceCfIdeal.τ).loc Cert.ReferenceCfIdeal.main_arg0)
          ∧ r.2.mem ((c.tc : Thread Cert.ReferenceCfIdeal.nD Cert.ReferenceCfIdeal.τ).loc Cert.ReferenceCfIdeal.main_arg1) = m' ((c.tc : Thread Cert.ReferenceCfIdeal.nD Cert.ReferenceCfIdeal.τ).loc Cert.ReferenceCfIdeal.main_arg1)
          ∧ r.2.mem ((c.tc : Thread Cert.ReferenceCfIdeal.nD Cert.ReferenceCfIdeal.τ).loc Cert.ReferenceCfIdeal.main_arg2) = m' ((c.tc : Thread Cert.ReferenceCfIdeal.nD Cert.ReferenceCfIdeal.τ).loc Cert.ReferenceCfIdeal.main_arg2)
          ∧ r.2.mem ((c.tc : Thread Cert.ReferenceCfIdeal.nD Cert.ReferenceCfIdeal.τ).loc Cert.ReferenceCfIdeal.main_arg3) = m' ((c.tc : Thread Cert.ReferenceCfIdeal.nD Cert.ReferenceCfIdeal.τ).loc Cert.ReferenceCfIdeal.main_arg3)
          ∧ r.2.mem ((c.tc : Thread Cert.ReferenceCfIdeal.nD Cert.ReferenceCfIdeal.τ).loc Cert.ReferenceCfIdeal.main_arg4) = m' ((c.tc : Thread Cert.ReferenceCfIdeal.nD Cert.ReferenceCfIdeal.τ).loc Cert.ReferenceCfIdeal.main_arg4))

def preserves_KernelSf_KernelSfIdeal : Prop :=
  True

def algebraic_KernelSfIdeal_ReferenceSfIdeal [hKernelSfIdeal : Cert.KernelSfIdeal.Facts] [hReferenceSfIdeal : Cert.ReferenceSfIdeal.Facts] : Prop :=
  ∀ (m : (ℓ : Loc Cert.KernelSfIdeal.nD Cert.KernelSfIdeal.τ Cert.KernelSfIdeal.sig) → Buf (Elt Ideal) ℓ) (g : Dev Cert.KernelSfIdeal.nD → PrngReg)
    (m' : (ℓ : Loc Cert.ReferenceSfIdeal.nD Cert.ReferenceSfIdeal.τ Cert.ReferenceSfIdeal.sig) → Buf (Elt Ideal) ℓ) (g' : Dev Cert.ReferenceSfIdeal.nD → PrngReg), Pre_KernelSfIdeal m →
    (∀ c : Dev Cert.KernelSfIdeal.nD,
      m' ((c.tc : Thread Cert.ReferenceSfIdeal.nD Cert.ReferenceSfIdeal.τ).loc Cert.ReferenceSfIdeal.main_arg0) = m ((c.tc : Thread Cert.KernelSfIdeal.nD Cert.KernelSfIdeal.τ).loc Cert.KernelSfIdeal.main_arg0)
      ∧ m' ((c.tc : Thread Cert.ReferenceSfIdeal.nD Cert.ReferenceSfIdeal.τ).loc Cert.ReferenceSfIdeal.main_arg1) = m ((c.tc : Thread Cert.KernelSfIdeal.nD Cert.KernelSfIdeal.τ).loc Cert.KernelSfIdeal.main_arg1)
      ∧ m' ((c.tc : Thread Cert.ReferenceSfIdeal.nD Cert.ReferenceSfIdeal.τ).loc Cert.ReferenceSfIdeal.main_arg2) = m ((c.tc : Thread Cert.KernelSfIdeal.nD Cert.KernelSfIdeal.τ).loc Cert.KernelSfIdeal.main_arg2)
      ∧ m' ((c.tc : Thread Cert.ReferenceSfIdeal.nD Cert.ReferenceSfIdeal.τ).loc Cert.ReferenceSfIdeal.main_arg3) = m ((c.tc : Thread Cert.KernelSfIdeal.nD Cert.KernelSfIdeal.τ).loc Cert.KernelSfIdeal.main_arg3)
      ∧ m' ((c.tc : Thread Cert.ReferenceSfIdeal.nD Cert.ReferenceSfIdeal.τ).loc Cert.ReferenceSfIdeal.main_arg4) = m ((c.tc : Thread Cert.KernelSfIdeal.nD Cert.KernelSfIdeal.τ).loc Cert.KernelSfIdeal.main_arg4)) →
    ∃ (v0 : (c : Dev Cert.KernelSfIdeal.nD) → Buf (Elt Ideal) ((c.tc : Thread Cert.KernelSfIdeal.nD Cert.KernelSfIdeal.τ).loc Cert.KernelSfIdeal.main_v3)),
      θ_run (Cert.KernelSfIdeal.defs (F := Ideal)) (onTc (τ := Cert.KernelSfIdeal.τ) (Cert.KernelSfIdeal.main (F := Ideal))) ⟨m, fun _ => 0, g⟩ (fun r => ∀ c : Dev Cert.KernelSfIdeal.nD,
          r.2.mem ((c.tc : Thread Cert.KernelSfIdeal.nD Cert.KernelSfIdeal.τ).loc Cert.KernelSfIdeal.main_v3) = v0 c
          ∧ r.2.mem ((c.tc : Thread Cert.KernelSfIdeal.nD Cert.KernelSfIdeal.τ).loc Cert.KernelSfIdeal.main_arg0) = m ((c.tc : Thread Cert.KernelSfIdeal.nD Cert.KernelSfIdeal.τ).loc Cert.KernelSfIdeal.main_arg0)
          ∧ r.2.mem ((c.tc : Thread Cert.KernelSfIdeal.nD Cert.KernelSfIdeal.τ).loc Cert.KernelSfIdeal.main_arg1) = m ((c.tc : Thread Cert.KernelSfIdeal.nD Cert.KernelSfIdeal.τ).loc Cert.KernelSfIdeal.main_arg1)
          ∧ r.2.mem ((c.tc : Thread Cert.KernelSfIdeal.nD Cert.KernelSfIdeal.τ).loc Cert.KernelSfIdeal.main_arg2) = m ((c.tc : Thread Cert.KernelSfIdeal.nD Cert.KernelSfIdeal.τ).loc Cert.KernelSfIdeal.main_arg2)
          ∧ r.2.mem ((c.tc : Thread Cert.KernelSfIdeal.nD Cert.KernelSfIdeal.τ).loc Cert.KernelSfIdeal.main_arg3) = m ((c.tc : Thread Cert.KernelSfIdeal.nD Cert.KernelSfIdeal.τ).loc Cert.KernelSfIdeal.main_arg3)
          ∧ r.2.mem ((c.tc : Thread Cert.KernelSfIdeal.nD Cert.KernelSfIdeal.τ).loc Cert.KernelSfIdeal.main_arg4) = m ((c.tc : Thread Cert.KernelSfIdeal.nD Cert.KernelSfIdeal.τ).loc Cert.KernelSfIdeal.main_arg4))
      ∧ θ_run (Cert.ReferenceSfIdeal.defs (F := Ideal)) (onTc (τ := Cert.ReferenceSfIdeal.τ) (Cert.ReferenceSfIdeal.main (F := Ideal))) ⟨m', fun _ => 0, g'⟩ (fun r => ∀ c : Dev Cert.ReferenceSfIdeal.nD,
          r.2.mem ((c.tc : Thread Cert.ReferenceSfIdeal.nD Cert.ReferenceSfIdeal.τ).loc Cert.ReferenceSfIdeal.main_v28) = v0 c
          ∧ r.2.mem ((c.tc : Thread Cert.ReferenceSfIdeal.nD Cert.ReferenceSfIdeal.τ).loc Cert.ReferenceSfIdeal.main_arg0) = m' ((c.tc : Thread Cert.ReferenceSfIdeal.nD Cert.ReferenceSfIdeal.τ).loc Cert.ReferenceSfIdeal.main_arg0)
          ∧ r.2.mem ((c.tc : Thread Cert.ReferenceSfIdeal.nD Cert.ReferenceSfIdeal.τ).loc Cert.ReferenceSfIdeal.main_arg1) = m' ((c.tc : Thread Cert.ReferenceSfIdeal.nD Cert.ReferenceSfIdeal.τ).loc Cert.ReferenceSfIdeal.main_arg1)
          ∧ r.2.mem ((c.tc : Thread Cert.ReferenceSfIdeal.nD Cert.ReferenceSfIdeal.τ).loc Cert.ReferenceSfIdeal.main_arg2) = m' ((c.tc : Thread Cert.ReferenceSfIdeal.nD Cert.ReferenceSfIdeal.τ).loc Cert.ReferenceSfIdeal.main_arg2)
          ∧ r.2.mem ((c.tc : Thread Cert.ReferenceSfIdeal.nD Cert.ReferenceSfIdeal.τ).loc Cert.ReferenceSfIdeal.main_arg3) = m' ((c.tc : Thread Cert.ReferenceSfIdeal.nD Cert.ReferenceSfIdeal.τ).loc Cert.ReferenceSfIdeal.main_arg3)
          ∧ r.2.mem ((c.tc : Thread Cert.ReferenceSfIdeal.nD Cert.ReferenceSfIdeal.τ).loc Cert.ReferenceSfIdeal.main_arg4) = m' ((c.tc : Thread Cert.ReferenceSfIdeal.nD Cert.ReferenceSfIdeal.τ).loc Cert.ReferenceSfIdeal.main_arg4))

def preserves_KernelJf_KernelJfIdeal : Prop :=
  True

def algebraic_KernelJfIdeal_ReferenceJfIdeal [hKernelJfIdeal : Cert.KernelJfIdeal.Facts] [hReferenceJfIdeal : Cert.ReferenceJfIdeal.Facts] : Prop :=
  ∀ (m : (ℓ : Loc Cert.KernelJfIdeal.nD Cert.KernelJfIdeal.τ Cert.KernelJfIdeal.sig) → Buf (Elt Ideal) ℓ) (g : Dev Cert.KernelJfIdeal.nD → PrngReg)
    (m' : (ℓ : Loc Cert.ReferenceJfIdeal.nD Cert.ReferenceJfIdeal.τ Cert.ReferenceJfIdeal.sig) → Buf (Elt Ideal) ℓ) (g' : Dev Cert.ReferenceJfIdeal.nD → PrngReg), Pre_KernelJfIdeal m →
    (∀ c : Dev Cert.KernelJfIdeal.nD,
      m' ((c.tc : Thread Cert.ReferenceJfIdeal.nD Cert.ReferenceJfIdeal.τ).loc Cert.ReferenceJfIdeal.main_arg0) = m ((c.tc : Thread Cert.KernelJfIdeal.nD Cert.KernelJfIdeal.τ).loc Cert.KernelJfIdeal.main_arg0)
      ∧ m' ((c.tc : Thread Cert.ReferenceJfIdeal.nD Cert.ReferenceJfIdeal.τ).loc Cert.ReferenceJfIdeal.main_arg1) = m ((c.tc : Thread Cert.KernelJfIdeal.nD Cert.KernelJfIdeal.τ).loc Cert.KernelJfIdeal.main_arg1)
      ∧ m' ((c.tc : Thread Cert.ReferenceJfIdeal.nD Cert.ReferenceJfIdeal.τ).loc Cert.ReferenceJfIdeal.main_arg2) = m ((c.tc : Thread Cert.KernelJfIdeal.nD Cert.KernelJfIdeal.τ).loc Cert.KernelJfIdeal.main_arg2)
      ∧ m' ((c.tc : Thread Cert.ReferenceJfIdeal.nD Cert.ReferenceJfIdeal.τ).loc Cert.ReferenceJfIdeal.main_arg3) = m ((c.tc : Thread Cert.KernelJfIdeal.nD Cert.KernelJfIdeal.τ).loc Cert.KernelJfIdeal.main_arg3)
      ∧ m' ((c.tc : Thread Cert.ReferenceJfIdeal.nD Cert.ReferenceJfIdeal.τ).loc Cert.ReferenceJfIdeal.main_arg4) = m ((c.tc : Thread Cert.KernelJfIdeal.nD Cert.KernelJfIdeal.τ).loc Cert.KernelJfIdeal.main_arg4)
      ∧ m' ((c.tc : Thread Cert.ReferenceJfIdeal.nD Cert.ReferenceJfIdeal.τ).loc Cert.ReferenceJfIdeal.main_arg5) = m ((c.tc : Thread Cert.KernelJfIdeal.nD Cert.KernelJfIdeal.τ).loc Cert.KernelJfIdeal.main_arg5)
      ∧ m' ((c.tc : Thread Cert.ReferenceJfIdeal.nD Cert.ReferenceJfIdeal.τ).loc Cert.ReferenceJfIdeal.main_arg6) = m ((c.tc : Thread Cert.KernelJfIdeal.nD Cert.KernelJfIdeal.τ).loc Cert.KernelJfIdeal.main_arg6)
      ∧ m' ((c.tc : Thread Cert.ReferenceJfIdeal.nD Cert.ReferenceJfIdeal.τ).loc Cert.ReferenceJfIdeal.main_arg7) = m ((c.tc : Thread Cert.KernelJfIdeal.nD Cert.KernelJfIdeal.τ).loc Cert.KernelJfIdeal.main_arg7)
      ∧ m' ((c.tc : Thread Cert.ReferenceJfIdeal.nD Cert.ReferenceJfIdeal.τ).loc Cert.ReferenceJfIdeal.main_arg8) = m ((c.tc : Thread Cert.KernelJfIdeal.nD Cert.KernelJfIdeal.τ).loc Cert.KernelJfIdeal.main_arg8)) →
    ∃ (v0 : (c : Dev Cert.KernelJfIdeal.nD) → Buf (Elt Ideal) ((c.tc : Thread Cert.KernelJfIdeal.nD Cert.KernelJfIdeal.τ).loc Cert.KernelJfIdeal.main_v8)),
      θ_run (Cert.KernelJfIdeal.defs (F := Ideal)) (onTc (τ := Cert.KernelJfIdeal.τ) (Cert.KernelJfIdeal.main (F := Ideal))) ⟨m, fun _ => 0, g⟩ (fun r => ∀ c : Dev Cert.KernelJfIdeal.nD,
          r.2.mem ((c.tc : Thread Cert.KernelJfIdeal.nD Cert.KernelJfIdeal.τ).loc Cert.KernelJfIdeal.main_v8) = v0 c
          ∧ r.2.mem ((c.tc : Thread Cert.KernelJfIdeal.nD Cert.KernelJfIdeal.τ).loc Cert.KernelJfIdeal.main_arg0) = m ((c.tc : Thread Cert.KernelJfIdeal.nD Cert.KernelJfIdeal.τ).loc Cert.KernelJfIdeal.main_arg0)
          ∧ r.2.mem ((c.tc : Thread Cert.KernelJfIdeal.nD Cert.KernelJfIdeal.τ).loc Cert.KernelJfIdeal.main_arg1) = m ((c.tc : Thread Cert.KernelJfIdeal.nD Cert.KernelJfIdeal.τ).loc Cert.KernelJfIdeal.main_arg1)
          ∧ r.2.mem ((c.tc : Thread Cert.KernelJfIdeal.nD Cert.KernelJfIdeal.τ).loc Cert.KernelJfIdeal.main_arg2) = m ((c.tc : Thread Cert.KernelJfIdeal.nD Cert.KernelJfIdeal.τ).loc Cert.KernelJfIdeal.main_arg2)
          ∧ r.2.mem ((c.tc : Thread Cert.KernelJfIdeal.nD Cert.KernelJfIdeal.τ).loc Cert.KernelJfIdeal.main_arg3) = m ((c.tc : Thread Cert.KernelJfIdeal.nD Cert.KernelJfIdeal.τ).loc Cert.KernelJfIdeal.main_arg3)
          ∧ r.2.mem ((c.tc : Thread Cert.KernelJfIdeal.nD Cert.KernelJfIdeal.τ).loc Cert.KernelJfIdeal.main_arg4) = m ((c.tc : Thread Cert.KernelJfIdeal.nD Cert.KernelJfIdeal.τ).loc Cert.KernelJfIdeal.main_arg4)
          ∧ r.2.mem ((c.tc : Thread Cert.KernelJfIdeal.nD Cert.KernelJfIdeal.τ).loc Cert.KernelJfIdeal.main_arg5) = m ((c.tc : Thread Cert.KernelJfIdeal.nD Cert.KernelJfIdeal.τ).loc Cert.KernelJfIdeal.main_arg5)
          ∧ r.2.mem ((c.tc : Thread Cert.KernelJfIdeal.nD Cert.KernelJfIdeal.τ).loc Cert.KernelJfIdeal.main_arg6) = m ((c.tc : Thread Cert.KernelJfIdeal.nD Cert.KernelJfIdeal.τ).loc Cert.KernelJfIdeal.main_arg6)
          ∧ r.2.mem ((c.tc : Thread Cert.KernelJfIdeal.nD Cert.KernelJfIdeal.τ).loc Cert.KernelJfIdeal.main_arg7) = m ((c.tc : Thread Cert.KernelJfIdeal.nD Cert.KernelJfIdeal.τ).loc Cert.KernelJfIdeal.main_arg7)
          ∧ r.2.mem ((c.tc : Thread Cert.KernelJfIdeal.nD Cert.KernelJfIdeal.τ).loc Cert.KernelJfIdeal.main_arg8) = m ((c.tc : Thread Cert.KernelJfIdeal.nD Cert.KernelJfIdeal.τ).loc Cert.KernelJfIdeal.main_arg8))
      ∧ θ_run (Cert.ReferenceJfIdeal.defs (F := Ideal)) (onTc (τ := Cert.ReferenceJfIdeal.τ) (Cert.ReferenceJfIdeal.main (F := Ideal))) ⟨m', fun _ => 0, g'⟩ (fun r => ∀ c : Dev Cert.ReferenceJfIdeal.nD,
          r.2.mem ((c.tc : Thread Cert.ReferenceJfIdeal.nD Cert.ReferenceJfIdeal.τ).loc Cert.ReferenceJfIdeal.main_v17) = v0 c
          ∧ r.2.mem ((c.tc : Thread Cert.ReferenceJfIdeal.nD Cert.ReferenceJfIdeal.τ).loc Cert.ReferenceJfIdeal.main_arg0) = m' ((c.tc : Thread Cert.ReferenceJfIdeal.nD Cert.ReferenceJfIdeal.τ).loc Cert.ReferenceJfIdeal.main_arg0)
          ∧ r.2.mem ((c.tc : Thread Cert.ReferenceJfIdeal.nD Cert.ReferenceJfIdeal.τ).loc Cert.ReferenceJfIdeal.main_arg1) = m' ((c.tc : Thread Cert.ReferenceJfIdeal.nD Cert.ReferenceJfIdeal.τ).loc Cert.ReferenceJfIdeal.main_arg1)
          ∧ r.2.mem ((c.tc : Thread Cert.ReferenceJfIdeal.nD Cert.ReferenceJfIdeal.τ).loc Cert.ReferenceJfIdeal.main_arg2) = m' ((c.tc : Thread Cert.ReferenceJfIdeal.nD Cert.ReferenceJfIdeal.τ).loc Cert.ReferenceJfIdeal.main_arg2)
          ∧ r.2.mem ((c.tc : Thread Cert.ReferenceJfIdeal.nD Cert.ReferenceJfIdeal.τ).loc Cert.ReferenceJfIdeal.main_arg3) = m' ((c.tc : Thread Cert.ReferenceJfIdeal.nD Cert.ReferenceJfIdeal.τ).loc Cert.ReferenceJfIdeal.main_arg3)
          ∧ r.2.mem ((c.tc : Thread Cert.ReferenceJfIdeal.nD Cert.ReferenceJfIdeal.τ).loc Cert.ReferenceJfIdeal.main_arg4) = m' ((c.tc : Thread Cert.ReferenceJfIdeal.nD Cert.ReferenceJfIdeal.τ).loc Cert.ReferenceJfIdeal.main_arg4)
          ∧ r.2.mem ((c.tc : Thread Cert.ReferenceJfIdeal.nD Cert.ReferenceJfIdeal.τ).loc Cert.ReferenceJfIdeal.main_arg5) = m' ((c.tc : Thread Cert.ReferenceJfIdeal.nD Cert.ReferenceJfIdeal.τ).loc Cert.ReferenceJfIdeal.main_arg5)
          ∧ r.2.mem ((c.tc : Thread Cert.ReferenceJfIdeal.nD Cert.ReferenceJfIdeal.τ).loc Cert.ReferenceJfIdeal.main_arg6) = m' ((c.tc : Thread Cert.ReferenceJfIdeal.nD Cert.ReferenceJfIdeal.τ).loc Cert.ReferenceJfIdeal.main_arg6)
          ∧ r.2.mem ((c.tc : Thread Cert.ReferenceJfIdeal.nD Cert.ReferenceJfIdeal.τ).loc Cert.ReferenceJfIdeal.main_arg7) = m' ((c.tc : Thread Cert.ReferenceJfIdeal.nD Cert.ReferenceJfIdeal.τ).loc Cert.ReferenceJfIdeal.main_arg7)
          ∧ r.2.mem ((c.tc : Thread Cert.ReferenceJfIdeal.nD Cert.ReferenceJfIdeal.τ).loc Cert.ReferenceJfIdeal.main_arg8) = m' ((c.tc : Thread Cert.ReferenceJfIdeal.nD Cert.ReferenceJfIdeal.τ).loc Cert.ReferenceJfIdeal.main_arg8))

def preserves_KernelLf_KernelLfIdeal : Prop :=
  True

def algebraic_KernelLfIdeal_ReferenceLfIdeal [hKernelLfIdeal : Cert.KernelLfIdeal.Facts] [hReferenceLfIdeal : Cert.ReferenceLfIdeal.Facts] : Prop :=
  ∀ (m : (ℓ : Loc Cert.KernelLfIdeal.nD Cert.KernelLfIdeal.τ Cert.KernelLfIdeal.sig) → Buf (Elt Ideal) ℓ) (g : Dev Cert.KernelLfIdeal.nD → PrngReg)
    (m' : (ℓ : Loc Cert.ReferenceLfIdeal.nD Cert.ReferenceLfIdeal.τ Cert.ReferenceLfIdeal.sig) → Buf (Elt Ideal) ℓ) (g' : Dev Cert.ReferenceLfIdeal.nD → PrngReg), Pre_KernelLfIdeal m →
    (∀ c : Dev Cert.KernelLfIdeal.nD,
      m' ((c.tc : Thread Cert.ReferenceLfIdeal.nD Cert.ReferenceLfIdeal.τ).loc Cert.ReferenceLfIdeal.main_arg0) = m ((c.tc : Thread Cert.KernelLfIdeal.nD Cert.KernelLfIdeal.τ).loc Cert.KernelLfIdeal.main_arg0)
      ∧ m' ((c.tc : Thread Cert.ReferenceLfIdeal.nD Cert.ReferenceLfIdeal.τ).loc Cert.ReferenceLfIdeal.main_arg1) = m ((c.tc : Thread Cert.KernelLfIdeal.nD Cert.KernelLfIdeal.τ).loc Cert.KernelLfIdeal.main_arg1)
      ∧ m' ((c.tc : Thread Cert.ReferenceLfIdeal.nD Cert.ReferenceLfIdeal.τ).loc Cert.ReferenceLfIdeal.main_arg2) = m ((c.tc : Thread Cert.KernelLfIdeal.nD Cert.KernelLfIdeal.τ).loc Cert.KernelLfIdeal.main_arg2)
      ∧ m' ((c.tc : Thread Cert.ReferenceLfIdeal.nD Cert.ReferenceLfIdeal.τ).loc Cert.ReferenceLfIdeal.main_arg3) = m ((c.tc : Thread Cert.KernelLfIdeal.nD Cert.KernelLfIdeal.τ).loc Cert.KernelLfIdeal.main_arg3)) →
    ∃ (v0 : (c : Dev Cert.KernelLfIdeal.nD) → Buf (Elt Ideal) ((c.tc : Thread Cert.KernelLfIdeal.nD Cert.KernelLfIdeal.τ).loc Cert.KernelLfIdeal.main_v2)),
      θ_run (Cert.KernelLfIdeal.defs (F := Ideal)) (onTc (τ := Cert.KernelLfIdeal.τ) (Cert.KernelLfIdeal.main (F := Ideal))) ⟨m, fun _ => 0, g⟩ (fun r => ∀ c : Dev Cert.KernelLfIdeal.nD,
          r.2.mem ((c.tc : Thread Cert.KernelLfIdeal.nD Cert.KernelLfIdeal.τ).loc Cert.KernelLfIdeal.main_v2) = v0 c
          ∧ r.2.mem ((c.tc : Thread Cert.KernelLfIdeal.nD Cert.KernelLfIdeal.τ).loc Cert.KernelLfIdeal.main_arg0) = m ((c.tc : Thread Cert.KernelLfIdeal.nD Cert.KernelLfIdeal.τ).loc Cert.KernelLfIdeal.main_arg0)
          ∧ r.2.mem ((c.tc : Thread Cert.KernelLfIdeal.nD Cert.KernelLfIdeal.τ).loc Cert.KernelLfIdeal.main_arg1) = m ((c.tc : Thread Cert.KernelLfIdeal.nD Cert.KernelLfIdeal.τ).loc Cert.KernelLfIdeal.main_arg1)
          ∧ r.2.mem ((c.tc : Thread Cert.KernelLfIdeal.nD Cert.KernelLfIdeal.τ).loc Cert.KernelLfIdeal.main_arg2) = m ((c.tc : Thread Cert.KernelLfIdeal.nD Cert.KernelLfIdeal.τ).loc Cert.KernelLfIdeal.main_arg2)
          ∧ r.2.mem ((c.tc : Thread Cert.KernelLfIdeal.nD Cert.KernelLfIdeal.τ).loc Cert.KernelLfIdeal.main_arg3) = m ((c.tc : Thread Cert.KernelLfIdeal.nD Cert.KernelLfIdeal.τ).loc Cert.KernelLfIdeal.main_arg3))
      ∧ θ_run (Cert.ReferenceLfIdeal.defs (F := Ideal)) (onTc (τ := Cert.ReferenceLfIdeal.τ) (Cert.ReferenceLfIdeal.main (F := Ideal))) ⟨m', fun _ => 0, g'⟩ (fun r => ∀ c : Dev Cert.ReferenceLfIdeal.nD,
          r.2.mem ((c.tc : Thread Cert.ReferenceLfIdeal.nD Cert.ReferenceLfIdeal.τ).loc Cert.ReferenceLfIdeal.main_v26) = v0 c
          ∧ r.2.mem ((c.tc : Thread Cert.ReferenceLfIdeal.nD Cert.ReferenceLfIdeal.τ).loc Cert.ReferenceLfIdeal.main_arg0) = m' ((c.tc : Thread Cert.ReferenceLfIdeal.nD Cert.ReferenceLfIdeal.τ).loc Cert.ReferenceLfIdeal.main_arg0)
          ∧ r.2.mem ((c.tc : Thread Cert.ReferenceLfIdeal.nD Cert.ReferenceLfIdeal.τ).loc Cert.ReferenceLfIdeal.main_arg1) = m' ((c.tc : Thread Cert.ReferenceLfIdeal.nD Cert.ReferenceLfIdeal.τ).loc Cert.ReferenceLfIdeal.main_arg1)
          ∧ r.2.mem ((c.tc : Thread Cert.ReferenceLfIdeal.nD Cert.ReferenceLfIdeal.τ).loc Cert.ReferenceLfIdeal.main_arg2) = m' ((c.tc : Thread Cert.ReferenceLfIdeal.nD Cert.ReferenceLfIdeal.τ).loc Cert.ReferenceLfIdeal.main_arg2)
          ∧ r.2.mem ((c.tc : Thread Cert.ReferenceLfIdeal.nD Cert.ReferenceLfIdeal.τ).loc Cert.ReferenceLfIdeal.main_arg3) = m' ((c.tc : Thread Cert.ReferenceLfIdeal.nD Cert.ReferenceLfIdeal.τ).loc Cert.ReferenceLfIdeal.main_arg3))

def preserves_KernelEf_KernelEfIdeal : Prop :=
  True

def algebraic_KernelEfIdeal_ReferenceEfIdeal [hKernelEfIdeal : Cert.KernelEfIdeal.Facts] [hReferenceEfIdeal : Cert.ReferenceEfIdeal.Facts] : Prop :=
  ∀ (m : (ℓ : Loc Cert.KernelEfIdeal.nD Cert.KernelEfIdeal.τ Cert.KernelEfIdeal.sig) → Buf (Elt Ideal) ℓ) (g : Dev Cert.KernelEfIdeal.nD → PrngReg)
    (m' : (ℓ : Loc Cert.ReferenceEfIdeal.nD Cert.ReferenceEfIdeal.τ Cert.ReferenceEfIdeal.sig) → Buf (Elt Ideal) ℓ) (g' : Dev Cert.ReferenceEfIdeal.nD → PrngReg), Pre_KernelEfIdeal m →
    (∀ c : Dev Cert.KernelEfIdeal.nD,
      m' ((c.tc : Thread Cert.ReferenceEfIdeal.nD Cert.ReferenceEfIdeal.τ).loc Cert.ReferenceEfIdeal.main_arg0) = m ((c.tc : Thread Cert.KernelEfIdeal.nD Cert.KernelEfIdeal.τ).loc Cert.KernelEfIdeal.main_arg0)
      ∧ m' ((c.tc : Thread Cert.ReferenceEfIdeal.nD Cert.ReferenceEfIdeal.τ).loc Cert.ReferenceEfIdeal.main_arg1) = m ((c.tc : Thread Cert.KernelEfIdeal.nD Cert.KernelEfIdeal.τ).loc Cert.KernelEfIdeal.main_arg1)
      ∧ m' ((c.tc : Thread Cert.ReferenceEfIdeal.nD Cert.ReferenceEfIdeal.τ).loc Cert.ReferenceEfIdeal.main_arg2) = m ((c.tc : Thread Cert.KernelEfIdeal.nD Cert.KernelEfIdeal.τ).loc Cert.KernelEfIdeal.main_arg2)
      ∧ m' ((c.tc : Thread Cert.ReferenceEfIdeal.nD Cert.ReferenceEfIdeal.τ).loc Cert.ReferenceEfIdeal.main_arg3) = m ((c.tc : Thread Cert.KernelEfIdeal.nD Cert.KernelEfIdeal.τ).loc Cert.KernelEfIdeal.main_arg3)) →
    ∃ (v0 : (c : Dev Cert.KernelEfIdeal.nD) → Buf (Elt Ideal) ((c.tc : Thread Cert.KernelEfIdeal.nD Cert.KernelEfIdeal.τ).loc Cert.KernelEfIdeal.main_v1)),
      θ_run (Cert.KernelEfIdeal.defs (F := Ideal)) (onTc (τ := Cert.KernelEfIdeal.τ) (Cert.KernelEfIdeal.main (F := Ideal))) ⟨m, fun _ => 0, g⟩ (fun r => ∀ c : Dev Cert.KernelEfIdeal.nD,
          r.2.mem ((c.tc : Thread Cert.KernelEfIdeal.nD Cert.KernelEfIdeal.τ).loc Cert.KernelEfIdeal.main_v1) = v0 c
          ∧ r.2.mem ((c.tc : Thread Cert.KernelEfIdeal.nD Cert.KernelEfIdeal.τ).loc Cert.KernelEfIdeal.main_arg0) = m ((c.tc : Thread Cert.KernelEfIdeal.nD Cert.KernelEfIdeal.τ).loc Cert.KernelEfIdeal.main_arg0)
          ∧ r.2.mem ((c.tc : Thread Cert.KernelEfIdeal.nD Cert.KernelEfIdeal.τ).loc Cert.KernelEfIdeal.main_arg1) = m ((c.tc : Thread Cert.KernelEfIdeal.nD Cert.KernelEfIdeal.τ).loc Cert.KernelEfIdeal.main_arg1)
          ∧ r.2.mem ((c.tc : Thread Cert.KernelEfIdeal.nD Cert.KernelEfIdeal.τ).loc Cert.KernelEfIdeal.main_arg2) = m ((c.tc : Thread Cert.KernelEfIdeal.nD Cert.KernelEfIdeal.τ).loc Cert.KernelEfIdeal.main_arg2)
          ∧ r.2.mem ((c.tc : Thread Cert.KernelEfIdeal.nD Cert.KernelEfIdeal.τ).loc Cert.KernelEfIdeal.main_arg3) = m ((c.tc : Thread Cert.KernelEfIdeal.nD Cert.KernelEfIdeal.τ).loc Cert.KernelEfIdeal.main_arg3))
      ∧ θ_run (Cert.ReferenceEfIdeal.defs (F := Ideal)) (onTc (τ := Cert.ReferenceEfIdeal.τ) (Cert.ReferenceEfIdeal.main (F := Ideal))) ⟨m', fun _ => 0, g'⟩ (fun r => ∀ c : Dev Cert.ReferenceEfIdeal.nD,
          r.2.mem ((c.tc : Thread Cert.ReferenceEfIdeal.nD Cert.ReferenceEfIdeal.τ).loc Cert.ReferenceEfIdeal.main_v20) = v0 c
          ∧ r.2.mem ((c.tc : Thread Cert.ReferenceEfIdeal.nD Cert.ReferenceEfIdeal.τ).loc Cert.ReferenceEfIdeal.main_arg0) = m' ((c.tc : Thread Cert.ReferenceEfIdeal.nD Cert.ReferenceEfIdeal.τ).loc Cert.ReferenceEfIdeal.main_arg0)
          ∧ r.2.mem ((c.tc : Thread Cert.ReferenceEfIdeal.nD Cert.ReferenceEfIdeal.τ).loc Cert.ReferenceEfIdeal.main_arg1) = m' ((c.tc : Thread Cert.ReferenceEfIdeal.nD Cert.ReferenceEfIdeal.τ).loc Cert.ReferenceEfIdeal.main_arg1)
          ∧ r.2.mem ((c.tc : Thread Cert.ReferenceEfIdeal.nD Cert.ReferenceEfIdeal.τ).loc Cert.ReferenceEfIdeal.main_arg2) = m' ((c.tc : Thread Cert.ReferenceEfIdeal.nD Cert.ReferenceEfIdeal.τ).loc Cert.ReferenceEfIdeal.main_arg2)
          ∧ r.2.mem ((c.tc : Thread Cert.ReferenceEfIdeal.nD Cert.ReferenceEfIdeal.τ).loc Cert.ReferenceEfIdeal.main_arg3) = m' ((c.tc : Thread Cert.ReferenceEfIdeal.nD Cert.ReferenceEfIdeal.τ).loc Cert.ReferenceEfIdeal.main_arg3))

def preserves_KernelAf_KernelAfIdeal : Prop :=
  IdealRules.named_const.Statement Cert.KernelAfIdeal.κ "mask" .f32 0xF149F2CA#32 ⊥

def algebraic_KernelAfIdeal_ReferenceAfIdeal_pre_finite_scores [hKernelAfIdeal : Cert.KernelAfIdeal.Facts] [hReferenceAfIdeal : Cert.ReferenceAfIdeal.Facts] [hPre_finite_scores : Cert.Pre_finite_scores.Facts] : Prop :=
  ∀ (m : (ℓ : Loc Cert.KernelAfIdeal.nD Cert.KernelAfIdeal.τ Cert.KernelAfIdeal.sig) → Buf (Elt Ideal) ℓ) (g : Dev Cert.KernelAfIdeal.nD → PrngReg)
    (m' : (ℓ : Loc Cert.ReferenceAfIdeal.nD Cert.ReferenceAfIdeal.τ Cert.ReferenceAfIdeal.sig) → Buf (Elt Ideal) ℓ) (g' : Dev Cert.ReferenceAfIdeal.nD → PrngReg), Pre_KernelAfIdeal_finite_scores m →
    (∀ c : Dev Cert.KernelAfIdeal.nD,
      m' ((c.tc : Thread Cert.ReferenceAfIdeal.nD Cert.ReferenceAfIdeal.τ).loc Cert.ReferenceAfIdeal.main_arg0) = m ((c.tc : Thread Cert.KernelAfIdeal.nD Cert.KernelAfIdeal.τ).loc Cert.KernelAfIdeal.main_arg0)
      ∧ m' ((c.tc : Thread Cert.ReferenceAfIdeal.nD Cert.ReferenceAfIdeal.τ).loc Cert.ReferenceAfIdeal.main_arg1) = m ((c.tc : Thread Cert.KernelAfIdeal.nD Cert.KernelAfIdeal.τ).loc Cert.KernelAfIdeal.main_arg1)
      ∧ m' ((c.tc : Thread Cert.ReferenceAfIdeal.nD Cert.ReferenceAfIdeal.τ).loc Cert.ReferenceAfIdeal.main_arg2) = m ((c.tc : Thread Cert.KernelAfIdeal.nD Cert.KernelAfIdeal.τ).loc Cert.KernelAfIdeal.main_arg2)) →
    ∃ (v0 : (c : Dev Cert.KernelAfIdeal.nD) → Buf (Elt Ideal) ((c.tc : Thread Cert.KernelAfIdeal.nD Cert.KernelAfIdeal.τ).loc Cert.KernelAfIdeal.main_v0_0)) (v1 : (c : Dev Cert.KernelAfIdeal.nD) → Buf (Elt Ideal) ((c.tc : Thread Cert.KernelAfIdeal.nD Cert.KernelAfIdeal.τ).loc Cert.KernelAfIdeal.main_v0_1)),
      θ_run (Cert.KernelAfIdeal.defs (F := Ideal)) (onTc (τ := Cert.KernelAfIdeal.τ) (Cert.KernelAfIdeal.main (F := Ideal))) ⟨m, fun _ => 0, g⟩ (fun r => ∀ c : Dev Cert.KernelAfIdeal.nD,
          r.2.mem ((c.tc : Thread Cert.KernelAfIdeal.nD Cert.KernelAfIdeal.τ).loc Cert.KernelAfIdeal.main_v0_0) = v0 c
          ∧ r.2.mem ((c.tc : Thread Cert.KernelAfIdeal.nD Cert.KernelAfIdeal.τ).loc Cert.KernelAfIdeal.main_v0_1) = v1 c
          ∧ r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
          ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
          ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2))
      ∧ θ_run (Cert.ReferenceAfIdeal.defs (F := Ideal)) (onTc (τ := Cert.ReferenceAfIdeal.τ) (Cert.ReferenceAfIdeal.main (F := Ideal))) ⟨m', fun _ => 0, g'⟩ (fun r => ∀ c : Dev Cert.ReferenceAfIdeal.nD,
          r.2.mem ((c.tc : Thread Cert.ReferenceAfIdeal.nD Cert.ReferenceAfIdeal.τ).loc Cert.ReferenceAfIdeal.main_v27) = v0 c
          ∧ r.2.mem ((c.tc : Thread Cert.ReferenceAfIdeal.nD Cert.ReferenceAfIdeal.τ).loc Cert.ReferenceAfIdeal.main_v34) = v1 c
          ∧ r.2.mem ((c.tc : Thread Cert.ReferenceAfIdeal.nD Cert.ReferenceAfIdeal.τ).loc Cert.ReferenceAfIdeal.main_arg0) = m' ((c.tc : Thread Cert.ReferenceAfIdeal.nD Cert.ReferenceAfIdeal.τ).loc Cert.ReferenceAfIdeal.main_arg0)
          ∧ r.2.mem ((c.tc : Thread Cert.ReferenceAfIdeal.nD Cert.ReferenceAfIdeal.τ).loc Cert.ReferenceAfIdeal.main_arg1) = m' ((c.tc : Thread Cert.ReferenceAfIdeal.nD Cert.ReferenceAfIdeal.τ).loc Cert.ReferenceAfIdeal.main_arg1)
          ∧ r.2.mem ((c.tc : Thread Cert.ReferenceAfIdeal.nD Cert.ReferenceAfIdeal.τ).loc Cert.ReferenceAfIdeal.main_arg2) = m' ((c.tc : Thread Cert.ReferenceAfIdeal.nD Cert.ReferenceAfIdeal.τ).loc Cert.ReferenceAfIdeal.main_arg2))

def Claim : Prop :=
  ∃ (hKernel : Cert.Kernel.Facts) (hKernelIdeal : Cert.KernelIdeal.Facts) (hReferenceIdeal : Cert.ReferenceIdeal.Facts) (hKernelDx : Cert.KernelDx.Facts) (hKernelDxIdeal : Cert.KernelDxIdeal.Facts) (hReferenceDxIdeal : Cert.ReferenceDxIdeal.Facts) (hKernelDw : Cert.KernelDw.Facts) (hKernelDwIdeal : Cert.KernelDwIdeal.Facts) (hReferenceDwIdeal : Cert.ReferenceDwIdeal.Facts) (hKernelBdx : Cert.KernelBdx.Facts) (hKernelBdxIdeal : Cert.KernelBdxIdeal.Facts) (hReferenceBdxIdeal : Cert.ReferenceBdxIdeal.Facts) (hKernelBdw : Cert.KernelBdw.Facts) (hKernelBdwIdeal : Cert.KernelBdwIdeal.Facts) (hReferenceBdwIdeal : Cert.ReferenceBdwIdeal.Facts) (hKernelGdw : Cert.KernelGdw.Facts) (hKernelGdwIdeal : Cert.KernelGdwIdeal.Facts) (hReferenceGdwIdeal : Cert.ReferenceGdwIdeal.Facts) (hKernelGdx : Cert.KernelGdx.Facts) (hKernelGdxIdeal : Cert.KernelGdxIdeal.Facts) (hReferenceGdxIdeal : Cert.ReferenceGdxIdeal.Facts) (hKernelIdx : Cert.KernelIdx.Facts) (hKernelIdxIdeal : Cert.KernelIdxIdeal.Facts) (hReferenceIdxIdeal : Cert.ReferenceIdxIdeal.Facts) (hKernelIdw : Cert.KernelIdw.Facts) (hKernelIdwIdeal : Cert.KernelIdwIdeal.Facts) (hReferenceIdwIdeal : Cert.ReferenceIdwIdeal.Facts) (hKernelOdx : Cert.KernelOdx.Facts) (hKernelOdxIdeal : Cert.KernelOdxIdeal.Facts) (hReferenceOdxIdeal : Cert.ReferenceOdxIdeal.Facts) (hKernelOdw : Cert.KernelOdw.Facts) (hKernelOdwIdeal : Cert.KernelOdwIdeal.Facts) (hReferenceOdwIdeal : Cert.ReferenceOdwIdeal.Facts) (hKernelOf : Cert.KernelOf.Facts) (hKernelOfIdeal : Cert.KernelOfIdeal.Facts) (hReferenceOfIdeal : Cert.ReferenceOfIdeal.Facts) (hKernelPdx : Cert.KernelPdx.Facts) (hKernelPdxIdeal : Cert.KernelPdxIdeal.Facts) (hReferencePdxIdeal : Cert.ReferencePdxIdeal.Facts) (hKernelPdw : Cert.KernelPdw.Facts) (hKernelPdwIdeal : Cert.KernelPdwIdeal.Facts) (hReferencePdwIdeal : Cert.ReferencePdwIdeal.Facts) (hKernelPf : Cert.KernelPf.Facts) (hKernelPfIdeal : Cert.KernelPfIdeal.Facts) (hReferencePfIdeal : Cert.ReferencePfIdeal.Facts) (hKernelUdx : Cert.KernelUdx.Facts) (hKernelUdxIdeal : Cert.KernelUdxIdeal.Facts) (hReferenceUdxIdeal : Cert.ReferenceUdxIdeal.Facts) (hKernelUdw : Cert.KernelUdw.Facts) (hKernelUdwIdeal : Cert.KernelUdwIdeal.Facts) (hReferenceUdwIdeal : Cert.ReferenceUdwIdeal.Facts) (hKernelUf : Cert.KernelUf.Facts) (hKernelUfIdeal : Cert.KernelUfIdeal.Facts) (hReferenceUfIdeal : Cert.ReferenceUfIdeal.Facts) (hKernelVdx : Cert.KernelVdx.Facts) (hKernelVdxIdeal : Cert.KernelVdxIdeal.Facts) (hReferenceVdxIdeal : Cert.ReferenceVdxIdeal.Facts) (hKernelVdw : Cert.KernelVdw.Facts) (hKernelVdwIdeal : Cert.KernelVdwIdeal.Facts) (hReferenceVdwIdeal : Cert.ReferenceVdwIdeal.Facts) (hKernelVf : Cert.KernelVf.Facts) (hKernelVfIdeal : Cert.KernelVfIdeal.Facts) (hReferenceVfIdeal : Cert.ReferenceVfIdeal.Facts) (hKernelIf : Cert.KernelIf.Facts) (hKernelIfIdeal : Cert.KernelIfIdeal.Facts) (hReferenceIfIdeal : Cert.ReferenceIfIdeal.Facts) (hKernelMf : Cert.KernelMf.Facts) (hKernelMfIdeal : Cert.KernelMfIdeal.Facts) (hReferenceMfIdeal : Cert.ReferenceMfIdeal.Facts) (hKernelBf : Cert.KernelBf.Facts) (hKernelBfIdeal : Cert.KernelBfIdeal.Facts) (hReferenceBfIdeal : Cert.ReferenceBfIdeal.Facts) (hKernelGf : Cert.KernelGf.Facts) (hKernelGfIdeal : Cert.KernelGfIdeal.Facts) (hReferenceGfIdeal : Cert.ReferenceGfIdeal.Facts) (hKernelCf : Cert.KernelCf.Facts) (hKernelCfIdeal : Cert.KernelCfIdeal.Facts) (hReferenceCfIdeal : Cert.ReferenceCfIdeal.Facts) (hKernelSf : Cert.KernelSf.Facts) (hKernelSfIdeal : Cert.KernelSfIdeal.Facts) (hReferenceSfIdeal : Cert.ReferenceSfIdeal.Facts) (hKernelJf : Cert.KernelJf.Facts) (hKernelJfIdeal : Cert.KernelJfIdeal.Facts) (hReferenceJfIdeal : Cert.ReferenceJfIdeal.Facts) (hKernelLf : Cert.KernelLf.Facts) (hKernelLfIdeal : Cert.KernelLfIdeal.Facts) (hReferenceLfIdeal : Cert.ReferenceLfIdeal.Facts) (hKernelEf : Cert.KernelEf.Facts) (hKernelEfIdeal : Cert.KernelEfIdeal.Facts) (hReferenceEfIdeal : Cert.ReferenceEfIdeal.Facts) (hKernelAf : Cert.KernelAf.Facts) (hKernelAfIdeal : Cert.KernelAfIdeal.Facts) (hReferenceAfIdeal : Cert.ReferenceAfIdeal.Facts) (hPre_finite_branch : Cert.Pre_finite_branch.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelBdx (hKernelBdx := hKernelBdx)
    ∧ quiescent_KernelBdxIdeal (hKernelBdxIdeal := hKernelBdxIdeal)
    ∧ quiescent_ReferenceBdxIdeal (hReferenceBdxIdeal := hReferenceBdxIdeal)
    ∧ quiescent_KernelBdw (hKernelBdw := hKernelBdw)
    ∧ quiescent_KernelBdwIdeal (hKernelBdwIdeal := hKernelBdwIdeal)
    ∧ quiescent_ReferenceBdwIdeal (hReferenceBdwIdeal := hReferenceBdwIdeal)
    ∧ quiescent_KernelGdw (hKernelGdw := hKernelGdw)
    ∧ quiescent_KernelGdwIdeal (hKernelGdwIdeal := hKernelGdwIdeal)
    ∧ quiescent_ReferenceGdwIdeal (hReferenceGdwIdeal := hReferenceGdwIdeal)
    ∧ quiescent_KernelGdx (hKernelGdx := hKernelGdx)
    ∧ quiescent_KernelGdxIdeal (hKernelGdxIdeal := hKernelGdxIdeal)
    ∧ quiescent_KernelGdxIdeal_pre_finite_branch (hKernelGdxIdeal := hKernelGdxIdeal) (hPre_finite_branch := hPre_finite_branch)
    ∧ quiescent_ReferenceGdxIdeal (hReferenceGdxIdeal := hReferenceGdxIdeal)
    ∧ quiescent_ReferenceGdxIdeal_pre_finite_branch (hReferenceGdxIdeal := hReferenceGdxIdeal) (hPre_finite_branch := hPre_finite_branch)
    ∧ quiescent_KernelIdx (hKernelIdx := hKernelIdx)
    ∧ quiescent_KernelIdxIdeal (hKernelIdxIdeal := hKernelIdxIdeal)
    ∧ quiescent_ReferenceIdxIdeal (hReferenceIdxIdeal := hReferenceIdxIdeal)
    ∧ quiescent_KernelIdw (hKernelIdw := hKernelIdw)
    ∧ quiescent_KernelIdwIdeal (hKernelIdwIdeal := hKernelIdwIdeal)
    ∧ quiescent_ReferenceIdwIdeal (hReferenceIdwIdeal := hReferenceIdwIdeal)
    ∧ quiescent_KernelOdx (hKernelOdx := hKernelOdx)
    ∧ quiescent_KernelOdxIdeal (hKernelOdxIdeal := hKernelOdxIdeal)
    ∧ quiescent_ReferenceOdxIdeal (hReferenceOdxIdeal := hReferenceOdxIdeal)
    ∧ quiescent_KernelOdw (hKernelOdw := hKernelOdw)
    ∧ quiescent_KernelOdwIdeal (hKernelOdwIdeal := hKernelOdwIdeal)
    ∧ quiescent_ReferenceOdwIdeal (hReferenceOdwIdeal := hReferenceOdwIdeal)
    ∧ quiescent_KernelOf (hKernelOf := hKernelOf)
    ∧ quiescent_KernelOfIdeal (hKernelOfIdeal := hKernelOfIdeal)
    ∧ quiescent_ReferenceOfIdeal (hReferenceOfIdeal := hReferenceOfIdeal)
    ∧ quiescent_KernelPdx (hKernelPdx := hKernelPdx)
    ∧ quiescent_KernelPdxIdeal (hKernelPdxIdeal := hKernelPdxIdeal)
    ∧ quiescent_ReferencePdxIdeal (hReferencePdxIdeal := hReferencePdxIdeal)
    ∧ quiescent_KernelPdw (hKernelPdw := hKernelPdw)
    ∧ quiescent_KernelPdwIdeal (hKernelPdwIdeal := hKernelPdwIdeal)
    ∧ quiescent_ReferencePdwIdeal (hReferencePdwIdeal := hReferencePdwIdeal)
    ∧ quiescent_KernelPf (hKernelPf := hKernelPf)
    ∧ quiescent_KernelPfIdeal (hKernelPfIdeal := hKernelPfIdeal)
    ∧ quiescent_ReferencePfIdeal (hReferencePfIdeal := hReferencePfIdeal)
    ∧ quiescent_KernelUdx (hKernelUdx := hKernelUdx)
    ∧ quiescent_KernelUdxIdeal (hKernelUdxIdeal := hKernelUdxIdeal)
    ∧ quiescent_ReferenceUdxIdeal (hReferenceUdxIdeal := hReferenceUdxIdeal)
    ∧ quiescent_KernelUdw (hKernelUdw := hKernelUdw)
    ∧ quiescent_KernelUdwIdeal (hKernelUdwIdeal := hKernelUdwIdeal)
    ∧ quiescent_ReferenceUdwIdeal (hReferenceUdwIdeal := hReferenceUdwIdeal)
    ∧ quiescent_KernelUf (hKernelUf := hKernelUf)
    ∧ quiescent_KernelUfIdeal (hKernelUfIdeal := hKernelUfIdeal)
    ∧ quiescent_ReferenceUfIdeal (hReferenceUfIdeal := hReferenceUfIdeal)
    ∧ quiescent_KernelVdx (hKernelVdx := hKernelVdx)
    ∧ quiescent_KernelVdxIdeal (hKernelVdxIdeal := hKernelVdxIdeal)
    ∧ quiescent_ReferenceVdxIdeal (hReferenceVdxIdeal := hReferenceVdxIdeal)
    ∧ quiescent_KernelVdw (hKernelVdw := hKernelVdw)
    ∧ quiescent_KernelVdwIdeal (hKernelVdwIdeal := hKernelVdwIdeal)
    ∧ quiescent_ReferenceVdwIdeal (hReferenceVdwIdeal := hReferenceVdwIdeal)
    ∧ quiescent_KernelVf (hKernelVf := hKernelVf)
    ∧ quiescent_KernelVfIdeal (hKernelVfIdeal := hKernelVfIdeal)
    ∧ quiescent_ReferenceVfIdeal (hReferenceVfIdeal := hReferenceVfIdeal)
    ∧ quiescent_KernelIf (hKernelIf := hKernelIf)
    ∧ quiescent_KernelIfIdeal (hKernelIfIdeal := hKernelIfIdeal)
    ∧ quiescent_ReferenceIfIdeal (hReferenceIfIdeal := hReferenceIfIdeal)
    ∧ quiescent_KernelMf (hKernelMf := hKernelMf)
    ∧ quiescent_KernelMfIdeal (hKernelMfIdeal := hKernelMfIdeal)
    ∧ quiescent_ReferenceMfIdeal (hReferenceMfIdeal := hReferenceMfIdeal)
    ∧ quiescent_KernelBf (hKernelBf := hKernelBf)
    ∧ quiescent_KernelBfIdeal (hKernelBfIdeal := hKernelBfIdeal)
    ∧ quiescent_ReferenceBfIdeal (hReferenceBfIdeal := hReferenceBfIdeal)
    ∧ quiescent_KernelGf (hKernelGf := hKernelGf)
    ∧ quiescent_KernelGfIdeal (hKernelGfIdeal := hKernelGfIdeal)
    ∧ quiescent_ReferenceGfIdeal (hReferenceGfIdeal := hReferenceGfIdeal)
    ∧ quiescent_KernelCf (hKernelCf := hKernelCf)
    ∧ quiescent_KernelCfIdeal (hKernelCfIdeal := hKernelCfIdeal)
    ∧ quiescent_ReferenceCfIdeal (hReferenceCfIdeal := hReferenceCfIdeal)
    ∧ quiescent_KernelSf (hKernelSf := hKernelSf)
    ∧ quiescent_KernelSfIdeal (hKernelSfIdeal := hKernelSfIdeal)
    ∧ quiescent_ReferenceSfIdeal (hReferenceSfIdeal := hReferenceSfIdeal)
    ∧ quiescent_KernelJf (hKernelJf := hKernelJf)
    ∧ quiescent_KernelJfIdeal (hKernelJfIdeal := hKernelJfIdeal)
    ∧ quiescent_ReferenceJfIdeal (hReferenceJfIdeal := hReferenceJfIdeal)
    ∧ quiescent_KernelLf (hKernelLf := hKernelLf)
    ∧ quiescent_KernelLfIdeal (hKernelLfIdeal := hKernelLfIdeal)
    ∧ quiescent_ReferenceLfIdeal (hReferenceLfIdeal := hReferenceLfIdeal)
    ∧ quiescent_KernelEf (hKernelEf := hKernelEf)
    ∧ quiescent_KernelEfIdeal (hKernelEfIdeal := hKernelEfIdeal)
    ∧ quiescent_ReferenceEfIdeal (hReferenceEfIdeal := hReferenceEfIdeal)
    ∧ quiescent_KernelAf (hKernelAf := hKernelAf)
    ∧ quiescent_KernelAfIdeal (hKernelAfIdeal := hKernelAfIdeal)
    ∧ quiescent_KernelAfIdeal_pre_finite_scores (hKernelAfIdeal := hKernelAfIdeal) (hPre_finite_scores := hPre_finite_scores)
    ∧ quiescent_ReferenceAfIdeal (hReferenceAfIdeal := hReferenceAfIdeal)
    ∧ quiescent_ReferenceAfIdeal_pre_finite_scores (hReferenceAfIdeal := hReferenceAfIdeal) (hPre_finite_scores := hPre_finite_scores)
    ∧ preserves_Kernel_KernelIdeal
    ∧ algebraic_KernelIdeal_ReferenceIdeal (hKernelIdeal := hKernelIdeal) (hReferenceIdeal := hReferenceIdeal)
    ∧ preserves_KernelDx_KernelDxIdeal
    ∧ algebraic_KernelDxIdeal_ReferenceDxIdeal (hKernelDxIdeal := hKernelDxIdeal) (hReferenceDxIdeal := hReferenceDxIdeal)
    ∧ preserves_KernelDw_KernelDwIdeal
    ∧ algebraic_KernelDwIdeal_ReferenceDwIdeal (hKernelDwIdeal := hKernelDwIdeal) (hReferenceDwIdeal := hReferenceDwIdeal)
    ∧ preserves_KernelBdx_KernelBdxIdeal
    ∧ algebraic_KernelBdxIdeal_ReferenceBdxIdeal (hKernelBdxIdeal := hKernelBdxIdeal) (hReferenceBdxIdeal := hReferenceBdxIdeal)
    ∧ preserves_KernelBdw_KernelBdwIdeal
    ∧ algebraic_KernelBdwIdeal_ReferenceBdwIdeal (hKernelBdwIdeal := hKernelBdwIdeal) (hReferenceBdwIdeal := hReferenceBdwIdeal)
    ∧ preserves_KernelGdw_KernelGdwIdeal
    ∧ algebraic_KernelGdwIdeal_ReferenceGdwIdeal (hKernelGdwIdeal := hKernelGdwIdeal) (hReferenceGdwIdeal := hReferenceGdwIdeal)
    ∧ preserves_KernelGdx_KernelGdxIdeal
    ∧ algebraic_KernelGdxIdeal_ReferenceGdxIdeal_pre_finite_branch (hKernelGdxIdeal := hKernelGdxIdeal) (hReferenceGdxIdeal := hReferenceGdxIdeal) (hPre_finite_branch := hPre_finite_branch)
    ∧ preserves_KernelIdx_KernelIdxIdeal
    ∧ algebraic_KernelIdxIdeal_ReferenceIdxIdeal (hKernelIdxIdeal := hKernelIdxIdeal) (hReferenceIdxIdeal := hReferenceIdxIdeal)
    ∧ preserves_KernelIdw_KernelIdwIdeal
    ∧ algebraic_KernelIdwIdeal_ReferenceIdwIdeal (hKernelIdwIdeal := hKernelIdwIdeal) (hReferenceIdwIdeal := hReferenceIdwIdeal)
    ∧ preserves_KernelOdx_KernelOdxIdeal
    ∧ algebraic_KernelOdxIdeal_ReferenceOdxIdeal (hKernelOdxIdeal := hKernelOdxIdeal) (hReferenceOdxIdeal := hReferenceOdxIdeal)
    ∧ preserves_KernelOdw_KernelOdwIdeal
    ∧ algebraic_KernelOdwIdeal_ReferenceOdwIdeal (hKernelOdwIdeal := hKernelOdwIdeal) (hReferenceOdwIdeal := hReferenceOdwIdeal)
    ∧ preserves_KernelOf_KernelOfIdeal
    ∧ algebraic_KernelOfIdeal_ReferenceOfIdeal (hKernelOfIdeal := hKernelOfIdeal) (hReferenceOfIdeal := hReferenceOfIdeal)
    ∧ preserves_KernelPdx_KernelPdxIdeal
    ∧ algebraic_KernelPdxIdeal_ReferencePdxIdeal (hKernelPdxIdeal := hKernelPdxIdeal) (hReferencePdxIdeal := hReferencePdxIdeal)
    ∧ preserves_KernelPdw_KernelPdwIdeal
    ∧ algebraic_KernelPdwIdeal_ReferencePdwIdeal (hKernelPdwIdeal := hKernelPdwIdeal) (hReferencePdwIdeal := hReferencePdwIdeal)
    ∧ preserves_KernelPf_KernelPfIdeal
    ∧ algebraic_KernelPfIdeal_ReferencePfIdeal (hKernelPfIdeal := hKernelPfIdeal) (hReferencePfIdeal := hReferencePfIdeal)
    ∧ preserves_KernelUdx_KernelUdxIdeal
    ∧ algebraic_KernelUdxIdeal_ReferenceUdxIdeal (hKernelUdxIdeal := hKernelUdxIdeal) (hReferenceUdxIdeal := hReferenceUdxIdeal)
    ∧ preserves_KernelUdw_KernelUdwIdeal
    ∧ algebraic_KernelUdwIdeal_ReferenceUdwIdeal (hKernelUdwIdeal := hKernelUdwIdeal) (hReferenceUdwIdeal := hReferenceUdwIdeal)
    ∧ preserves_KernelUf_KernelUfIdeal
    ∧ algebraic_KernelUfIdeal_ReferenceUfIdeal (hKernelUfIdeal := hKernelUfIdeal) (hReferenceUfIdeal := hReferenceUfIdeal)
    ∧ preserves_KernelVdx_KernelVdxIdeal
    ∧ algebraic_KernelVdxIdeal_ReferenceVdxIdeal (hKernelVdxIdeal := hKernelVdxIdeal) (hReferenceVdxIdeal := hReferenceVdxIdeal)
    ∧ preserves_KernelVdw_KernelVdwIdeal
    ∧ algebraic_KernelVdwIdeal_ReferenceVdwIdeal (hKernelVdwIdeal := hKernelVdwIdeal) (hReferenceVdwIdeal := hReferenceVdwIdeal)
    ∧ preserves_KernelVf_KernelVfIdeal
    ∧ algebraic_KernelVfIdeal_ReferenceVfIdeal (hKernelVfIdeal := hKernelVfIdeal) (hReferenceVfIdeal := hReferenceVfIdeal)
    ∧ preserves_KernelIf_KernelIfIdeal
    ∧ algebraic_KernelIfIdeal_ReferenceIfIdeal (hKernelIfIdeal := hKernelIfIdeal) (hReferenceIfIdeal := hReferenceIfIdeal)
    ∧ preserves_KernelMf_KernelMfIdeal
    ∧ algebraic_KernelMfIdeal_ReferenceMfIdeal (hKernelMfIdeal := hKernelMfIdeal) (hReferenceMfIdeal := hReferenceMfIdeal)
    ∧ preserves_KernelBf_KernelBfIdeal
    ∧ algebraic_KernelBfIdeal_ReferenceBfIdeal (hKernelBfIdeal := hKernelBfIdeal) (hReferenceBfIdeal := hReferenceBfIdeal)
    ∧ preserves_KernelGf_KernelGfIdeal
    ∧ algebraic_KernelGfIdeal_ReferenceGfIdeal (hKernelGfIdeal := hKernelGfIdeal) (hReferenceGfIdeal := hReferenceGfIdeal)
    ∧ preserves_KernelCf_KernelCfIdeal
    ∧ algebraic_KernelCfIdeal_ReferenceCfIdeal (hKernelCfIdeal := hKernelCfIdeal) (hReferenceCfIdeal := hReferenceCfIdeal)
    ∧ preserves_KernelSf_KernelSfIdeal
    ∧ algebraic_KernelSfIdeal_ReferenceSfIdeal (hKernelSfIdeal := hKernelSfIdeal) (hReferenceSfIdeal := hReferenceSfIdeal)
    ∧ preserves_KernelJf_KernelJfIdeal
    ∧ algebraic_KernelJfIdeal_ReferenceJfIdeal (hKernelJfIdeal := hKernelJfIdeal) (hReferenceJfIdeal := hReferenceJfIdeal)
    ∧ preserves_KernelLf_KernelLfIdeal
    ∧ algebraic_KernelLfIdeal_ReferenceLfIdeal (hKernelLfIdeal := hKernelLfIdeal) (hReferenceLfIdeal := hReferenceLfIdeal)
    ∧ preserves_KernelEf_KernelEfIdeal
    ∧ algebraic_KernelEfIdeal_ReferenceEfIdeal (hKernelEfIdeal := hKernelEfIdeal) (hReferenceEfIdeal := hReferenceEfIdeal)
    ∧ preserves_KernelAf_KernelAfIdeal
    ∧ algebraic_KernelAfIdeal_ReferenceAfIdeal_pre_finite_scores (hKernelAfIdeal := hKernelAfIdeal) (hReferenceAfIdeal := hReferenceAfIdeal) (hPre_finite_scores := hPre_finite_scores)
-- ==== Pre_finite_branch.lean ====
abbrev S4096x256 : Shape := ⟨2, ![4096, 256]⟩
abbrev S256x1024 : Shape := ⟨2, ![256, 1024]⟩
abbrev S4096x1024 : Shape := ⟨2, ![4096, 1024]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x256 .f32) (main_arg1 : FVec F S4096x256 .f32) (main_arg2 : FVec F S256x1024 .f32) (main_arg3 : FVec F S4096x1024 .bf16) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x1024 .f32 := Host.absf main_arg2
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S4096x1024 .f32 := (extf .f32 · bitsLt_bf16_f32) main_arg3
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  main_v14
-- ==== Pre_finite_scores.lean ====
abbrev S4096x512 : Shape := ⟨2, ![4096, 512]⟩
abbrev S4096x256 : Shape := ⟨2, ![4096, 256]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : FVec F S4096x256 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x1024 : Shape := ⟨2, ![4096, 1024]⟩
abbrev S4096 : Shape := ⟨1, ![4096]⟩
abbrev S1024 : Shape := ⟨1, ![1024]⟩
abbrev S1x1024 : Shape := ⟨2, ![1, 1024]⟩
abbrev S256x1024 : Shape := ⟨2, ![256, 1024]⟩

abbrev nBuf : Space → Nat
  | .hbm => 30
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096, .f32⟩
  | .hbm, ⟨9, _⟩ => ⟨S4096x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_v8_8 : Ref sig .tc := ⟨.hbm, 26, rfl⟩
abbrev main_v8_9 : Ref sig .tc := ⟨.hbm, 27, rfl⟩
abbrev main_v8_10 : Ref sig .tc := ⟨.hbm, 28, rfl⟩
abbrev main_v8_11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem22_0 : DmaSem sig := 39
abbrev cc0_sem23_0 : DmaSem sig := 40
abbrev cc0_sem24_0 : DmaSem sig := 41

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v79 : BitVec 1 := Scalar.cmpi .eq arg0 c0_i32
  let v80 : BitVec 32 := Scalar.extui v79
  let c0_i32_48 : BitVec 32 := 0#32
  let v81 : BitVec 1 := Scalar.cmpi .ne v80 c0_i32_48
  v81

def k0_cond2 (i : grid0.Coords) : BitVec 1 :=
  let arg0 : BitVec 32 := BitVec.ofNat 32 (i 0).val
  let c0_i32 : BitVec 32 := 0#32
  let v79 : BitVec 1 := Scalar.cmpi .eq arg0 c0_i32
  let v_true : BitVec 1 := 1#1
  let v82 : BitVec 1 := Scalar.xori v79 v_true
  let v83 : BitVec 32 := Scalar.extui v82
  let c0_i32_49 : BitVec 32 := 0#32
  let v84 : BitVec 1 := Scalar.cmpi .ne v83 c0_i32_49
  v84

def k0_cond3 (i : grid0.Coords) : BitVec 1 :=
  let arg0 : BitVec 32 := BitVec.ofNat 32 (i 0).val
  let c0_i32 : BitVec 32 := 0#32
  let v79 : BitVec 1 := Scalar.cmpi .eq arg0 c0_i32
  let v85 : BitVec 32 := Scalar.extui v79
  let c0_i32_50 : BitVec 32 := 0#32
  let v86 : BitVec 1 := Scalar.cmpi .ne v85 c0_i32_50
  v86

def k0_cond4 (i : grid0.Coords) : BitVec 1 :=
  let arg0 : BitVec 32 := BitVec.ofNat 32 (i 0).val
  let c0_i32 : BitVec 32 := 0#32
  let v79 : BitVec 1 := Scalar.cmpi .eq arg0 c0_i32
  let true_51 : BitVec 1 := 1#1
  let v87 : BitVec 1 := Scalar.xori v79 true_51
  let v88 : BitVec 32 := Scalar.extui v87
  let c0_i32_52 : BitVec 32 := 0#32
  let v89 : BitVec 1 := Scalar.cmpi .ne v88 c0_i32_52
  v89

def k0_cond5 (i : grid0.Coords) : BitVec 1 :=
  let arg0 : BitVec 32 := BitVec.ofNat 32 (i 0).val
  let c0_i32 : BitVec 32 := 0#32
  let v79 : BitVec 1 := Scalar.cmpi .eq arg0 c0_i32
  let v90 : BitVec 32 := Scalar.extui v79
  let c0_i32_53 : BitVec 32 := 0#32
  let v91 : BitVec 1 := Scalar.cmpi .ne v90 c0_i32_53
  v91

def k0_cond6 (i : grid0.Coords) : BitVec 1 :=
  let arg0 : BitVec 32 := BitVec.ofNat 32 (i 0).val
  let c0_i32 : BitVec 32 := 0#32
  let v79 : BitVec 1 := Scalar.cmpi .eq arg0 c0_i32
  let true_54 : BitVec 1 := 1#1
  let v92 : BitVec 1 := Scalar.xori v79 true_54
  let v93 : BitVec 32 := Scalar.extui v92
  let c0_i32_55 : BitVec 32 := 0#32
  let v94 : BitVec 1 := Scalar.cmpi .ne v93 c0_i32_55
  v94

def k0_cond7 (i : grid0.Coords) : BitVec 1 :=
  let arg0 : BitVec 32 := BitVec.ofNat 32 (i 0).val
  let c0_i32 : BitVec 32 := 0#32
  let v79 : BitVec 1 := Scalar.cmpi .eq arg0 c0_i32
  let v95 : BitVec 32 := Scalar.extui v79
  let c0_i32_56 : BitVec 32 := 0#32
  let v96 : BitVec 1 := Scalar.cmpi .ne v95 c0_i32_56
  v96

def k0_cond8 (i : grid0.Coords) : BitVec 1 :=
  let arg0 : BitVec 32 := BitVec.ofNat 32 (i 0).val
  let c0_i32 : BitVec 32 := 0#32
  let v79 : BitVec 1 := Scalar.cmpi .eq arg0 c0_i32
  let true_57 : BitVec 1 := 1#1
  let v97 : BitVec 1 := Scalar.xori v79 true_57
  let v98 : BitVec 32 := Scalar.extui v97
  let c0_i32_58 : BitVec 32 := 0#32
  let v99 : BitVec 1 := Scalar.cmpi .ne v98 c0_i32_58
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S4096x1024 : Shape := ⟨2, ![4096, 1024]⟩
abbrev S4096 : Shape := ⟨1, ![4096]⟩
abbrev S4096x1x1024 : Shape := ⟨3, ![4096, 1, 1024]⟩
abbrev S4096x4x1024 : Shape := ⟨3, ![4096, 4, 1024]⟩
abbrev S4096x4096 : Shape := ⟨2, ![4096, 4096]⟩
abbrev S1x4096 : Shape := ⟨2, ![1, 4096]⟩
abbrev S_ : Shape := ⟨0, ![]⟩
abbrev S1024 : Shape := ⟨1, ![1024]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096, .f32⟩
  | .hbm, ⟨9, _⟩ => ⟨S4096x1024, .f32⟩
  | .hbm, ⟨10, _⟩ => ⟨S4096x1x1024, .f32⟩
  | .hbm, ⟨11, _⟩ => ⟨S4096x1x1024, .f32⟩
  | .hbm, ⟨12, _⟩ => ⟨S4096x1x1024, .f32⟩
  | .hbm, ⟨13, _⟩ => ⟨S4096x1x1024, .f32⟩
  | .hbm, ⟨14, _⟩ => ⟨S4096x4x1024, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4x1024, .f32⟩
  | .hbm, ⟨32, _⟩ => ⟨S4096x4x1024, .f32⟩
  | .hbm, ⟨33, _⟩ => ⟨S_, .f32⟩
  | .hbm, ⟨34, _⟩ => ⟨S4096x1024, .f32⟩
  | .hbm, ⟨35, _⟩ => ⟨S4096x4x1024, .f32⟩
  | .hbm, ⟨36, _⟩ => ⟨S4096x4x1024, .f32⟩
  | .hbm, ⟨37, _⟩ => ⟨S4096x4x1024, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1x1024, .f32⟩
  | .hbm, ⟨50, _⟩ => ⟨S4096x1024, .f32⟩
  | .hbm, ⟨51, _⟩ => ⟨S4096x1x1024, .f32⟩
  | .hbm, ⟨52, _⟩ => ⟨S4096x1024, .f32⟩
  | .hbm, ⟨53, _⟩ => ⟨S4096x1x1024, .f32⟩
  | .hbm, ⟨54, _⟩ => ⟨S4096x1024, .f32⟩
  | .hbm, ⟨55, _⟩ => ⟨S4096x1x1024, .f32⟩
  | .hbm, ⟨56, _⟩ => ⟨S4096x1024, .f32⟩
  | .hbm, ⟨57, _⟩ => ⟨S4096x1024, .bf16⟩
  | .hbm, ⟨58, _⟩ => ⟨S4096x1024, .bf16⟩
  | .hbm, ⟨59, _⟩ => ⟨S4096x1024, .bf16⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S1024, .f32⟩
  | .hbm, ⟨66, _⟩ => ⟨S1x1024, .f32⟩
  | .hbm, ⟨67, _⟩ => ⟨S1024, .f32⟩
  | .hbm, ⟨68, _⟩ => ⟨S1x1024, .f32⟩
  | .hbm, ⟨69, _⟩ => ⟨S1024, .f32⟩
  | .hbm, ⟨70, _⟩ => ⟨S1x1024, .f32⟩
  | .hbm, ⟨71, _⟩ => ⟨S1024, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== KernelDx.lean ====
abbrev S1024x4096 : Shape := ⟨2, ![1024, 4096]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S1024x4096, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x4096, .bf16⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x4096, .bf16⟩
  | .local _ .vmem, ⟨9, _⟩ => ⟨S512x1024, .f32⟩
  | .local _ .vmem, ⟨10, _⟩ => ⟨S512x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDxIdeal.lean ====
abbrev S1024x4096 : Shape := ⟨2, ![1024, 4096]⟩
abbrev S4096x1024 : Shape := ⟨2, ![4096, 1024]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x4096, .bf16⟩
  | .hbm, ⟨6, _⟩ => ⟨S4096x4096, .f32⟩
  | .hbm, ⟨7, _⟩ => ⟨S_, .f32⟩
  | .hbm, ⟨8, _⟩ => ⟨S4096x1024, .f32⟩
  | .hbm, ⟨9, _⟩ => ⟨S4096x4096, .f32⟩
  | .hbm, ⟨10, _⟩ => ⟨S4096x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== KernelDw.lean ====
abbrev S4096x1024 : Shape := ⟨2, ![4096, 1024]⟩
abbrev S1024x4096 : Shape := ⟨2, ![1024, 4096]⟩
abbrev S256x1024 : Shape := ⟨2, ![256, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x4096, .f32⟩
  | .local _ .vmem, ⟨11, _⟩ => ⟨S1024x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceDwIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x4096, .bf16⟩
  | .hbm, ⟨6, _⟩ => ⟨S4096x4096, .f32⟩
  | .hbm, ⟨7, _⟩ => ⟨S_, .f32⟩
  | .hbm, ⟨8, _⟩ => ⟨S1024x4096, .f32⟩
  | .hbm, ⟨9, _⟩ => ⟨S4096x4096, .f32⟩
  | .hbm, ⟨10, _⟩ => ⟨S4096x1024, .f32⟩
  | .hbm, ⟨11, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== KernelBdx.lean ====
abbrev S256x1024 : Shape := ⟨2, ![256, 1024]⟩
abbrev S4096x1024 : Shape := ⟨2, ![4096, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4096x1024, .bf16⟩
  | .hbm, ⟨2, _⟩ => ⟨S256x1024, .bf16⟩
  | .hbm, ⟨3, _⟩ => ⟨S4096x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceBdxIdeal.lean ====
abbrev S256x1024 : Shape := ⟨2, ![256, 1024]⟩
abbrev S4096x1024 : Shape := ⟨2, ![4096, 1024]⟩
abbrev S_ : Shape := ⟨0, ![]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x1024, .bf16⟩
  | .hbm, ⟨2, _⟩ => ⟨S_, .f32⟩
  | .hbm, ⟨3, _⟩ => ⟨S4096x256, .f32⟩
  | .hbm, ⟨4, _⟩ => ⟨S4096x1024, .f32⟩
  | .hbm, ⟨5, _⟩ => ⟨S4096x1024, .f32⟩
  | .hbm, ⟨6, _⟩ => ⟨S4096x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelBdw.lean ====
abbrev S4096x256 : Shape := ⟨2, ![4096, 256]⟩
abbrev S4096x1024 : Shape := ⟨2, ![4096, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceBdwIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGdw.lean ====
abbrev S4096x256 : Shape := ⟨2, ![4096, 256]⟩
abbrev S4096x1024 : Shape := ⟨2, ![4096, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x1024, .bf16⟩
  | .hbm, ⟨3, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceGdwIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 19
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x1024, .bf16⟩
  | .hbm, ⟨3, _⟩ => ⟨S_, .f32⟩
  | .hbm, ⟨4, _⟩ => ⟨S256x1024, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S4096x1024, .f32⟩
  | .hbm, ⟨16, _⟩ => ⟨S4096x1024, .f32⟩
  | .hbm, ⟨17, _⟩ => ⟨S1024x256, .f32⟩
  | .hbm, ⟨18, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== KernelGdx.lean ====
abbrev S4096x256 : Shape := ⟨2, ![4096, 256]⟩
abbrev S256x1024 : Shape := ⟨2, ![256, 1024]⟩
abbrev S4096x1024 : Shape := ⟨2, ![4096, 1024]⟩
abbrev S512x1024 : Shape := ⟨2, ![512, 1024]⟩
abbrev S512x256 : Shape := ⟨2, ![512, 256]⟩

abbrev nBuf : Space → Nat
  | .hbm => 7
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S4096x1024, .bf16⟩
  | .hbm, ⟨4, _⟩ => ⟨S256x1024, .bf16⟩
  | .hbm, ⟨5, _⟩ => ⟨S4096x256, .f32⟩
  | .hbm, ⟨6, _⟩ => ⟨S4096x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGdxIdeal.lean ====
abbrev S4096x256 : Shape := ⟨2, ![4096, 256]⟩
abbrev S256x1024 : Shape := ⟨2, ![256, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S4096x1024, .bf16⟩
  | .hbm, ⟨4, _⟩ => ⟨S4096x256, .f32⟩
  | .hbm, ⟨5, _⟩ => ⟨S4096x256, .f32⟩
  | .hbm, ⟨6, _⟩ => ⟨S_, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x1024, .f32⟩
  | .hbm, ⟨19, _⟩ => ⟨S4096x1024, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== KernelIdx.lean ====
abbrev S1024x3072 : Shape := ⟨2, ![1024, 3072]⟩
abbrev S4096x256 : Shape := ⟨2, ![4096, 256]⟩
abbrev S4096x128 : Shape := ⟨2, ![4096, 128]⟩
abbrev S4096x1024 : Shape := ⟨2, ![4096, 1024]⟩
abbrev S512x256 : Shape := ⟨2, ![512, 256]⟩
abbrev S512x128 : Shape := ⟨2, ![512, 128]⟩
abbrev S512x1024 : Shape := ⟨2, ![512, 1024]⟩
abbrev S1024x256 : Shape := ⟨2, ![1024, 256]⟩
abbrev S1024x128 : Shape := ⟨2, ![1024, 128]⟩

abbrev nBuf : Space → Nat
  | .hbm => 16
  | .vmem => 29
  | .smem => 0
  | _ => 0

abbrev bufTy : (tb : Table) → Fin (tcTables nBuf tb) → BufTy
  | .hbm, ⟨0, _⟩ => ⟨S1024x3072, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x128, .f32⟩
  | .hbm, ⟨13, _⟩ => ⟨S4096x128, .f32⟩
  | .hbm, ⟨14, _⟩ => ⟨S1024x3072, .bf16⟩
  | .hbm, ⟨15, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S1024x3072, .bf16⟩
  | .local _ .vmem, ⟨27, _⟩ => ⟨S512x1024, .f32⟩
  | .local _ .vmem, ⟨28, _⟩ => ⟨S512x1024, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x3072 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdxIdeal.lean ====
abbrev S1024x3072 : Shape := ⟨2, ![1024, 3072]⟩
abbrev S4096x256 : Shape := ⟨2, ![4096, 256]⟩
abbrev S4096x128 : Shape := ⟨2, ![4096, 128]⟩
abbrev S_ : Shape := ⟨0, ![]⟩
abbrev S4096x1024 : Shape := ⟨2, ![4096, 1024]⟩
abbrev S4096x3072 : Shape := ⟨2, ![4096, 3072]⟩

abbrev nBuf : Space → Nat
  | .hbm => 19
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x1024, .f32⟩
  | .hbm, ⟨16, _⟩ => ⟨S4096x3072, .f32⟩
  | .hbm, ⟨17, _⟩ => ⟨S4096x3072, .f32⟩
  | .hbm, ⟨18, _⟩ => ⟨S4096x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩

abbrev nD : Nat := 1
abbrev τ : Topo := Topo.v7x

variable {F : FTy → Type} [FloatOps F]
-- ==== KernelIdw.lean ====
abbrev S4096x1024 : Shape := ⟨2, ![4096, 1024]⟩
abbrev S4096x256 : Shape := ⟨2, ![4096, 256]⟩
abbrev S4096x128 : Shape := ⟨2, ![4096, 128]⟩
abbrev S1024x3072 : Shape := ⟨2, ![1024, 3072]⟩
abbrev S256x1024 : Shape := ⟨2, ![256, 1024]⟩
abbrev S256x256 : Shape := ⟨2, ![256, 256]⟩
abbrev S256x128 : Shape := ⟨2, ![256, 128]⟩
abbrev S1024x256 : Shape := ⟨2, ![1024, 256]⟩
abbrev S1024x128 : Shape := ⟨2, ![1024, 128]⟩

abbrev nBuf : Space → Nat
  | .hbm => 15
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x128, .f32⟩
  | .hbm, ⟨13, _⟩ => ⟨S4096x128, .f32⟩
  | .hbm, ⟨14, _⟩ => ⟨S1024x3072, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S1024x3072, .f32⟩
  | .local _ .vmem, ⟨29, _⟩ => ⟨S1024x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v109 : BitVec 1 := Scalar.cmpi .eq arg0 c15_i32
  let v110 : BitVec 32 := Scalar.extui v109
  let c0_i32_80 : BitVec 32 := 0#32
  let v111 : BitVec 1 := Scalar.cmpi .ne v110 c0_i32_80
  v111

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdwIdeal.lean ====
abbrev S4096x1024 : Shape := ⟨2, ![4096, 1024]⟩
abbrev S4096x256 : Shape := ⟨2, ![4096, 256]⟩
abbrev S4096x128 : Shape := ⟨2, ![4096, 128]⟩
abbrev S_ : Shape := ⟨0, ![]⟩
abbrev S1024x3072 : Shape := ⟨2, ![1024, 3072]⟩
abbrev S4096x3072 : Shape := ⟨2, ![4096, 3072]⟩
abbrev S3072x1024 : Shape := ⟨2, ![3072, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S1024x3072, .f32⟩
  | .hbm, ⟨16, _⟩ => ⟨S4096x3072, .f32⟩
  | .hbm, ⟨17, _⟩ => ⟨S4096x3072, .f32⟩
  | .hbm, ⟨18, _⟩ => ⟨S3072x1024, .f32⟩
  | .hbm, ⟨19, _⟩ => ⟨S1024x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩

abbrev nD : Nat := 1
abbrev τ : Topo := Topo.v7x

variable {F : FTy → Type} [FloatOps F]
-- ==== KernelOdx.lean ====
abbrev S1024x1024 : Shape := ⟨2, ![1024, 1024]⟩
abbrev S4096x1024 : Shape := ⟨2, ![4096, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceOdxIdeal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOdw.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceOdwIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOf.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceOfIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelPdx.lean ====
abbrev S256x1024 : Shape := ⟨2, ![256, 1024]⟩
abbrev S4096x1024 : Shape := ⟨2, ![4096, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S256x1024, .bf16⟩
  | .hbm, ⟨3, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePdxIdeal.lean ====
abbrev S256x1024 : Shape := ⟨2, ![256, 1024]⟩
abbrev S4096x1024 : Shape := ⟨2, ![4096, 1024]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S_, .f32⟩
  | .hbm, ⟨3, _⟩ => ⟨S4096x256, .f32⟩
  | .hbm, ⟨4, _⟩ => ⟨S4096x1024, .f32⟩
  | .hbm, ⟨5, _⟩ => ⟨S4096x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelPdw.lean ====
abbrev S4096x256 : Shape := ⟨2, ![4096, 256]⟩
abbrev S4096x1024 : Shape := ⟨2, ![4096, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferencePdwIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelPf.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S256x1024, .bf16⟩
  | .hbm, ⟨3, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePfIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUdx.lean ====
abbrev S256x2048 : Shape := ⟨2, ![256, 2048]⟩
abbrev S4096x2048 : Shape := ⟨2, ![4096, 2048]⟩
abbrev S4096x256 : Shape := ⟨2, ![4096, 256]⟩
abbrev S512x2048 : Shape := ⟨2, ![512, 2048]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S4096x2048, .f32⟩
  | .hbm, ⟨2, _⟩ => ⟨S256x2048, .bf16⟩
  | .hbm, ⟨3, _⟩ => ⟨S4096x256, .f32⟩
  | .local _ .vmem, ⟨0, _⟩ => ⟨S512x2048, .f32⟩
  | .local _ .vmem, ⟨1, _⟩ => ⟨S512x2048, .f32⟩
  | .local _ .vmem, ⟨2, _⟩ => ⟨S256x2048, .bf16⟩
  | .local _ .vmem, ⟨3, _⟩ => ⟨S512x256, .f32⟩
  | .local _ .vmem, ⟨4, _⟩ => ⟨S512x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceUdxIdeal.lean ====
abbrev S256x2048 : Shape := ⟨2, ![256, 2048]⟩
abbrev S4096x2048 : Shape := ⟨2, ![4096, 2048]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4096x2048, .f32⟩
  | .hbm, ⟨2, _⟩ => ⟨S_, .f32⟩
  | .hbm, ⟨3, _⟩ => ⟨S4096x256, .f32⟩
  | .hbm, ⟨4, _⟩ => ⟨S4096x2048, .f32⟩
  | .hbm, ⟨5, _⟩ => ⟨S4096x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUdw.lean ====
abbrev S4096x256 : Shape := ⟨2, ![4096, 256]⟩
abbrev S4096x2048 : Shape := ⟨2, ![4096, 2048]⟩
abbrev S256x2048 : Shape := ⟨2, ![256, 2048]⟩
abbrev S512x256 : Shape := ⟨2, ![512, 256]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S512x256, .f32⟩
  | .local _ .vmem, ⟨1, _⟩ => ⟨S512x256, .f32⟩
  | .local _ .vmem, ⟨2, _⟩ => ⟨S512x2048, .f32⟩
  | .local _ .vmem, ⟨3, _⟩ => ⟨S512x2048, .f32⟩
  | .local _ .vmem, ⟨4, _⟩ => ⟨S256x2048, .f32⟩
  | .local _ .vmem, ⟨5, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceUdwIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelUf.lean ====
abbrev S4096x256 : Shape := ⟨2, ![4096, 256]⟩
abbrev S256x2048 : Shape := ⟨2, ![256, 2048]⟩
abbrev S4096x2048 : Shape := ⟨2, ![4096, 2048]⟩
abbrev S512x256 : Shape := ⟨2, ![512, 256]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x2048, .bf16⟩
  | .hbm, ⟨3, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S256x2048, .bf16⟩
  | .local _ .vmem, ⟨3, _⟩ => ⟨S512x2048, .f32⟩
  | .local _ .vmem, ⟨4, _⟩ => ⟨S512x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceUfIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelVdx.lean ====
abbrev S2048x256 : Shape := ⟨2, ![2048, 256]⟩
abbrev S4096x256 : Shape := ⟨2, ![4096, 256]⟩
abbrev S4096x2048 : Shape := ⟨2, ![4096, 2048]⟩
abbrev S512x256 : Shape := ⟨2, ![512, 256]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S4096x256, .f32⟩
  | .hbm, ⟨2, _⟩ => ⟨S2048x256, .bf16⟩
  | .hbm, ⟨3, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S2048x256, .bf16⟩
  | .local _ .vmem, ⟨3, _⟩ => ⟨S512x2048, .f32⟩
  | .local _ .vmem, ⟨4, _⟩ => ⟨S512x2048, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceVdxIdeal.lean ====
abbrev S2048x256 : Shape := ⟨2, ![2048, 256]⟩
abbrev S4096x256 : Shape := ⟨2, ![4096, 256]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S4096x256, .f32⟩
  | .hbm, ⟨2, _⟩ => ⟨S_, .f32⟩
  | .hbm, ⟨3, _⟩ => ⟨S4096x2048, .f32⟩
  | .hbm, ⟨4, _⟩ => ⟨S4096x256, .f32⟩
  | .hbm, ⟨5, _⟩ => ⟨S4096x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelVdw.lean ====
abbrev S4096x2048 : Shape := ⟨2, ![4096, 2048]⟩
abbrev S4096x256 : Shape := ⟨2, ![4096, 256]⟩
abbrev S2048x256 : Shape := ⟨2, ![2048, 256]⟩
abbrev S512x2048 : Shape := ⟨2, ![512, 2048]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x256, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S2048x256, .f32⟩
  | .local _ .vmem, ⟨5, _⟩ => ⟨S2048x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceVdwIdeal.lean ====
abbrev S4096x2048 : Shape := ⟨2, ![4096, 2048]⟩
abbrev S4096x256 : Shape := ⟨2, ![4096, 256]⟩
abbrev S_ : Shape := ⟨0, ![]⟩
abbrev S2048x256 : Shape := ⟨2, ![2048, 256]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S_, .f32⟩
  | .hbm, ⟨3, _⟩ => ⟨S2048x256, .f32⟩
  | .hbm, ⟨4, _⟩ => ⟨S4096x256, .f32⟩
  | .hbm, ⟨5, _⟩ => ⟨S256x2048, .f32⟩
  | .hbm, ⟨6, _⟩ => ⟨S2048x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelVf.lean ====
abbrev S4096x2048 : Shape := ⟨2, ![4096, 2048]⟩
abbrev S2048x256 : Shape := ⟨2, ![2048, 256]⟩
abbrev S4096x256 : Shape := ⟨2, ![4096, 256]⟩
abbrev S512x2048 : Shape := ⟨2, ![512, 2048]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x256, .f32⟩
  | .hbm, ⟨2, _⟩ => ⟨S2048x256, .bf16⟩
  | .hbm, ⟨3, _⟩ => ⟨S4096x256, .f32⟩
  | .local _ .vmem, ⟨0, _⟩ => ⟨S512x2048, .f32⟩
  | .local _ .vmem, ⟨1, _⟩ => ⟨S512x2048, .f32⟩
  | .local _ .vmem, ⟨2, _⟩ => ⟨S2048x256, .bf16⟩
  | .local _ .vmem, ⟨3, _⟩ => ⟨S512x256, .f32⟩
  | .local _ .vmem, ⟨4, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceVfIdeal.lean ====
abbrev S4096x2048 : Shape := ⟨2, ![4096, 2048]⟩
abbrev S2048x256 : Shape := ⟨2, ![2048, 256]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x256, .f32⟩
  | .hbm, ⟨2, _⟩ => ⟨S4096x256, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelIf.lean ====
abbrev S4096x1024 : Shape := ⟨2, ![4096, 1024]⟩
abbrev S1024x3072 : Shape := ⟨2, ![1024, 3072]⟩
abbrev S4096x256 : Shape := ⟨2, ![4096, 256]⟩
abbrev S4096x128 : Shape := ⟨2, ![4096, 128]⟩
abbrev S512x1024 : Shape := ⟨2, ![512, 1024]⟩
abbrev S512x256 : Shape := ⟨2, ![512, 256]⟩
abbrev S512x128 : Shape := ⟨2, ![512, 128]⟩
abbrev S1024x256 : Shape := ⟨2, ![1024, 256]⟩
abbrev S1024x128 : Shape := ⟨2, ![1024, 128]⟩

abbrev nBuf : Space → Nat
  | .hbm => 16
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S1024x3072, .bf16⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x128, .f32⟩
  | .hbm, ⟨15, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev main_v1_8 : Ref sig .tc := ⟨.hbm, 11, rfl⟩
abbrev main_v1_9 : Ref sig .tc := ⟨.hbm, 12, rfl⟩
abbrev main_v1_10 : Ref sig .tc := ⟨.hbm, 13, rfl⟩
abbrev main_v1_11 : Ref sig .tc := ⟨.hbm, 14, rfl⟩
abbrev main_v1_12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIfIdeal.lean ====
abbrev S4096x1024 : Shape := ⟨2, ![4096, 1024]⟩
abbrev S1024x3072 : Shape := ⟨2, ![1024, 3072]⟩
abbrev S4096x3072 : Shape := ⟨2, ![4096, 3072]⟩
abbrev S4096x256 : Shape := ⟨2, ![4096, 256]⟩
abbrev S4096x128 : Shape := ⟨2, ![4096, 128]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3072, .f32⟩
  | .hbm, ⟨2, _⟩ => ⟨S4096x3072, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x128, .f32⟩
  | .hbm, ⟨15, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== KernelMf.lean ====
abbrev S4096x1024 : Shape := ⟨2, ![4096, 1024]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMfIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelBf.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S256x1024, .bf16⟩
  | .hbm, ⟨3, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceBfIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGf.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S256x1024, .bf16⟩
  | .hbm, ⟨4, _⟩ => ⟨S4096x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S512x1024, .f32⟩
  | .local _ .vmem, ⟨6, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceGfIdeal.lean ====
abbrev S4096x256 : Shape := ⟨2, ![4096, 256]⟩
abbrev S256x1024 : Shape := ⟨2, ![256, 1024]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]
-- ==== KernelCf.lean ====
abbrev S4096x256 : Shape := ⟨2, ![4096, 256]⟩
abbrev S256 : Shape := ⟨1, ![256]⟩
abbrev S256x256 : Shape := ⟨2, ![256, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S1x256, .f32⟩
  | .hbm, ⟨6, _⟩ => ⟨S1x256, .f32⟩
  | .hbm, ⟨7, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S512x256, .f32⟩
  | .local _ .vmem, ⟨8, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceCfIdeal.lean ====
abbrev S4096x256 : Shape := ⟨2, ![4096, 256]⟩
abbrev S256 : Shape := ⟨1, ![256]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S1x256 : Shape := ⟨2, ![1, 256]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x256, .f32⟩
  | .hbm, ⟨27, _⟩ => ⟨S4096x256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S1x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096x256, .f32⟩
  | .hbm, ⟨38, _⟩ => ⟨S4096x256, .f32⟩
  | .hbm, ⟨39, _⟩ => ⟨S_, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== KernelSf.lean ====
abbrev S4096x256 : Shape := ⟨2, ![4096, 256]⟩
abbrev S256 : Shape := ⟨1, ![256]⟩
abbrev S256x512 : Shape := ⟨2, ![256, 512]⟩
abbrev S1x256 : Shape := ⟨2, ![1, 256]⟩
abbrev S256x256 : Shape := ⟨2, ![256, 256]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S256, .f32⟩
  | .hbm, ⟨4, _⟩ => ⟨S256x512, .f32⟩
  | .hbm, ⟨5, _⟩ => ⟨S1x256, .f32⟩
  | .hbm, ⟨6, _⟩ => ⟨S256x256, .f32⟩
  | .hbm, ⟨7, _⟩ => ⟨S256x256, .f32⟩
  | .hbm, ⟨8, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S512x256, .f32⟩
  | .local _ .vmem, ⟨10, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceSfIdeal.lean ====
abbrev S4096x256 : Shape := ⟨2, ![4096, 256]⟩
abbrev S256 : Shape := ⟨1, ![256]⟩
abbrev S256x512 : Shape := ⟨2, ![256, 512]⟩
abbrev S1x256 : Shape := ⟨2, ![1, 256]⟩
abbrev S_ : Shape := ⟨0, ![]⟩
abbrev S4096x512 : Shape := ⟨2, ![4096, 512]⟩

abbrev nBuf : Space → Nat
  | .hbm => 48
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S256, .f32⟩
  | .hbm, ⟨4, _⟩ => ⟨S256x512, .f32⟩
  | .hbm, ⟨5, _⟩ => ⟨S1x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x512, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== KernelJf.lean ====
abbrev S4096x1024 : Shape := ⟨2, ![4096, 1024]⟩
abbrev S4096 : Shape := ⟨1, ![4096]⟩
abbrev S1024 : Shape := ⟨1, ![1024]⟩
abbrev S1x1024 : Shape := ⟨2, ![1, 1024]⟩
abbrev S256x1024 : Shape := ⟨2, ![256, 1024]⟩

abbrev nBuf : Space → Nat
  | .hbm => 18
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceJfIdeal.lean ====
abbrev S4096x1024 : Shape := ⟨2, ![4096, 1024]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S4096x4x1024 : Shape := ⟨3, ![4096, 4, 1024]⟩
abbrev S4096x1x1024 : Shape := ⟨3, ![4096, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4x1024, .f32⟩
  | .hbm, ⟨22, _⟩ => ⟨S4096x1x1024, .f32⟩
  | .hbm, ⟨23, _⟩ => ⟨S4096x1x1024, .f32⟩
  | .hbm, ⟨24, _⟩ => ⟨S4096x1x1024, .f32⟩
  | .hbm, ⟨25, _⟩ => ⟨S4096x1x1024, .f32⟩
  | .hbm, ⟨26, _⟩ => ⟨S4096x4x1024, .f32⟩
  | .hbm, ⟨27, _⟩ => ⟨S4096x4x1024, .f32⟩
  | .hbm, ⟨28, _⟩ => ⟨S_, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== KernelLf.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceLfIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelEf.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceEfIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== KernelAf.lean ====
abbrev S4096x512 : Shape := ⟨2, ![4096, 512]⟩
abbrev S4096x256 : Shape := ⟨2, ![4096, 256]⟩
abbrev S512x256 : Shape := ⟨2, ![512, 256]⟩
abbrev S4096x128 : Shape := ⟨2, ![4096, 128]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S4096x256, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4096x256, .bf16⟩
  | .local _ .vmem, ⟨11, _⟩ => ⟨S4096x128, .bf16⟩
  | .local _ .vmem, ⟨12, _⟩ => ⟨S4096x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_22 : BitVec 32 := 0#32
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let v57 : BitVec 32 := Scalar.subi v56 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_24 : BitVec 32 := 1#32
  ⟨c0_i32_22, v61, c1_i32_24⟩
def k0_mult1 (i : grid0.Coords) (k0_t1 : Fin (k0_t1_loop i).trips) : BitVec 32 :=
  let c0_i32_22 : BitVec 32 := 0#32
  let c1_i32_24 : BitVec 32 := 1#32
  let arg10 : BitVec 32 := Scf.iv c0_i32_22 c1_i32_24 k0_t1
  let c512_i32_34 : BitVec 32 := 512#32
  let v89 : BitVec 32 := Scalar.muli arg10 c512_i32_34
  v89
def k0_off1 (i : grid0.Coords) (k0_t1 : Fin (k0_t1_loop i).trips) : Fin 2 → Nat :=
  let c0_i32_22 : BitVec 32 := 0#32
  let c1_i32_24 : BitVec 32 := 1#32
  let arg10 : BitVec 32 := Scf.iv c0_i32_22 c1_i32_24 k0_t1
  let c512_i32_34 : BitVec 32 := 512#32
  let v89 : BitVec 32 := Scalar.muli arg10 c512_i32_34
  let v90 : BitVec 32 := v89
  let v91 : Index := Scalar.indexCast v90
  let c0_35 : Index := 0#32
  ![v91.toNat, 0]
def k0_off2 (i : grid0.Coords) (k0_t1 : Fin (k0_t1_loop i).trips) : Fin 2 → Nat :=
  let c0_i32_22 : BitVec 32 := 0#32
  let c1_i32_24 : BitVec 32 := 1#32
  let arg10 : BitVec 32 := Scf.iv c0_i32_22 c1_i32_24 k0_t1
  let c512_i32_34 : BitVec 32 := 512#32
  let v89 : BitVec 32 := Scalar.muli arg10 c512_i32_34
  let v90 : BitVec 32 := v89
  let v109 : Index := Scalar.indexCast v90
  let c0_40 : Index := 0#32
  ![v109.toNat, 0]
@[reducible] def k0_t2_loop (i : grid0.Coords) : Scf.Loop 32 :=
  let c0_i32_22 : BitVec 32 := 0#32
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let v57 : BitVec 32 := Scalar.subi v56 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let v58 : BitVec 32 := Scalar.addi c0_i32_22 v57
  let c1_i32_25 : BitVec 32 := 1#32
  ⟨v61, v58, c1_i32_25⟩
def k0_mult2 (i : grid0.Coords) (k0_t2 : Fin (k0_t2_loop i).trips) : BitVec 32 :=
  let c0_i32_22 : BitVec 32 := 0#32
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let v57 : BitVec 32 := Scalar.subi v56 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k0_t2
  let c512_i32_34 : BitVec 32 := 512#32
  let v89 : BitVec 32 := Scalar.muli arg10 c512_i32_34
  v89
def k0_off3 (i : grid0.Coords) (k0_t2 : Fin (k0_t2_loop i).trips) : Fin 2 → Nat :=
  let c0_i32_22 : BitVec 32 := 0#32
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let v57 : BitVec 32 := Scalar.subi v56 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k0_t2
  let c512_i32_34 : BitVec 32 := 512#32
  let v89 : BitVec 32 := Scalar.muli arg10 c512_i32_34
  let v90 : BitVec 32 := v89
  let v91 : Index := Scalar.indexCast v90
  let c0_35 : Index := 0#32
  ![v91.toNat, 0]
def k0_off4 (i : grid0.Coords) (k0_t2 : Fin (k0_t2_loop i).trips) : Fin 2 → Nat :=
  let c0_i32_22 : BitVec 32 := 0#32
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let v57 : BitVec 32 := Scalar.subi v56 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg10 : BitVec 32 := Scf.iv v61 c1_i32_25 k0_t2
  let c512_i32_34 : BitVec 32 := 512#32
  let v89 : BitVec 32 := Scalar.muli arg10 c512_i32_34
  let v90 : BitVec 32 := v89
  let v109 : Index := Scalar.indexCast v90
  let c0_40 : Index := 0#32
  ![v109.toNat, 0]
@[reducible] def k0_t3_loop (i : grid0.Coords) : Scf.Loop 32 :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c512_i32_4 : BitVec 32 := 512#32
  let v18 : BitVec 32 := Scalar.muli arg1 c512_i32_4
  let c512_i32_5 : BitVec 32 := 512#32
  let v19 : BitVec 32 := Scalar.addi v18 c512_i32_5
  let c1_i32 : BitVec 32 := 1#32
  let v20 : BitVec 32 := Scalar.subi v19 c1_i32
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let c1_i32_26 : BitVec 32 := 1#32
  let v64 : BitVec 32 := Scalar.addi v37 c1_i32_26
  let v65 : BitVec 32 := Scalar.subi v64 v56
  let c1_i32_27 : BitVec 32 := 1#32
  let v67 : BitVec 32 := Scalar.divsi v65 c1_i32_27
  let v68 : BitVec 32 := Scalar.muli v67 c1_i32_27
  let v69 : BitVec 32 := Scalar.addi v56 v68
  let c1_i32_28 : BitVec 32 := 1#32
  ⟨v56, v69, c1_i32_28⟩
def k0_mult3 (i : grid0.Coords) (k0_t3 : Fin (k0_t3_loop i).trips) : BitVec 32 :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c1_i32_28 : BitVec 32 := 1#32
  let arg10 : BitVec 32 := Scf.iv v56 c1_i32_28 k0_t3
  let c512_i32_34 : BitVec 32 := 512#32
  let v89 : BitVec 32 := Scalar.muli arg10 c512_i32_34
  v89
def k0_off5 (i : grid0.Coords) (k0_t3 : Fin (k0_t3_loop i).trips) : Fin 2 → Nat :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c1_i32_28 : BitVec 32 := 1#32
  let arg10 : BitVec 32 := Scf.iv v56 c1_i32_28 k0_t3
  let c512_i32_34 : BitVec 32 := 512#32
  let v89 : BitVec 32 := Scalar.muli arg10 c512_i32_34
  let v90 : BitVec 32 := v89
  let v91 : Index := Scalar.indexCast v90
  let c0_35 : Index := 0#32
  ![v91.toNat, 0]
def k0_off6 (i : grid0.Coords) (k0_t3 : Fin (k0_t3_loop i).trips) : Fin 2 → Nat :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c1_i32_28 : BitVec 32 := 1#32
  let arg10 : BitVec 32 := Scf.iv v56 c1_i32_28 k0_t3
  let c512_i32_34 : BitVec 32 := 512#32
  let v89 : BitVec 32 := Scalar.muli arg10 c512_i32_34
  let v90 : BitVec 32 := v89
  let v115 : Index := Scalar.indexCast v90
  let c0_41 : Index := 0#32
  ![v115.toNat, 0]
@[reducible] def k0_t4_loop (i : grid0.Coords) : Scf.Loop 32 :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c512_i32_4 : BitVec 32 := 512#32
  let v18 : BitVec 32 := Scalar.muli arg1 c512_i32_4
  let c512_i32_5 : BitVec 32 := 512#32
  let v19 : BitVec 32 := Scalar.addi v18 c512_i32_5
  let c1_i32 : BitVec 32 := 1#32
  let v20 : BitVec 32 := Scalar.subi v19 c1_i32
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let c1_i32_26 : BitVec 32 := 1#32
  let v64 : BitVec 32 := Scalar.addi v37 c1_i32_26
  let v65 : BitVec 32 := Scalar.subi v64 v56
  let c1_i32_27 : BitVec 32 := 1#32
  let v67 : BitVec 32 := Scalar.divsi v65 c1_i32_27
  let v68 : BitVec 32 := Scalar.muli v67 c1_i32_27
  let v69 : BitVec 32 := Scalar.addi v56 v68
  let v66 : BitVec 32 := Scalar.addi v56 v65
  let c1_i32_29 : BitVec 32 := 1#32
  ⟨v69, v66, c1_i32_29⟩
def k0_mult4 (i : grid0.Coords) (k0_t4 : Fin (k0_t4_loop i).trips) : BitVec 32 :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c512_i32_4 : BitVec 32 := 512#32
  let v18 : BitVec 32 := Scalar.muli arg1 c512_i32_4
  let c512_i32_5 : BitVec 32 := 512#32
  let v19 : BitVec 32 := Scalar.addi v18 c512_i32_5
  let c1_i32 : BitVec 32 := 1#32
  let v20 : BitVec 32 := Scalar.subi v19 c1_i32
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let c1_i32_26 : BitVec 32 := 1#32
  let v64 : BitVec 32 := Scalar.addi v37 c1_i32_26
  let v65 : BitVec 32 := Scalar.subi v64 v56
  let c1_i32_27 : BitVec 32 := 1#32
  let v67 : BitVec 32 := Scalar.divsi v65 c1_i32_27
  let v68 : BitVec 32 := Scalar.muli v67 c1_i32_27
  let v69 : BitVec 32 := Scalar.addi v56 v68
  let c1_i32_29 : BitVec 32 := 1#32
  let arg10 : BitVec 32 := Scf.iv v69 c1_i32_29 k0_t4
  let c512_i32_34 : BitVec 32 := 512#32
  let v89 : BitVec 32 := Scalar.muli arg10 c512_i32_34
  v89
def k0_off7 (i : grid0.Coords) (k0_t4 : Fin (k0_t4_loop i).trips) : Fin 2 → Nat :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c512_i32_4 : BitVec 32 := 512#32
  let v18 : BitVec 32 := Scalar.muli arg1 c512_i32_4
  let c512_i32_5 : BitVec 32 := 512#32
  let v19 : BitVec 32 := Scalar.addi v18 c512_i32_5
  let c1_i32 : BitVec 32 := 1#32
  let v20 : BitVec 32 := Scalar.subi v19 c1_i32
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let c1_i32_26 : BitVec 32 := 1#32
  let v64 : BitVec 32 := Scalar.addi v37 c1_i32_26
  let v65 : BitVec 32 := Scalar.subi v64 v56
  let c1_i32_27 : BitVec 32 := 1#32
  let v67 : BitVec 32 := Scalar.divsi v65 c1_i32_27
  let v68 : BitVec 32 := Scalar.muli v67 c1_i32_27
  let v69 : BitVec 32 := Scalar.addi v56 v68
  let c1_i32_29 : BitVec 32 := 1#32
  let arg10 : BitVec 32 := Scf.iv v69 c1_i32_29 k0_t4
  let c512_i32_34 : BitVec 32 := 512#32
  let v89 : BitVec 32 := Scalar.muli arg10 c512_i32_34
  let v90 : BitVec 32 := v89
  let v91 : Index := Scalar.indexCast v90
  let c0_35 : Index := 0#32
  ![v91.toNat, 0]
def k0_off8 (i : grid0.Coords) (k0_t4 : Fin (k0_t4_loop i).trips) : Fin 2 → Nat :=
  let arg1 : BitVec 32 := BitVec.ofNat 32 (i 1).val
  let c512_i32_13 : BitVec 32 := 512#32
  let v38 : BitVec 32 := Scalar.muli arg1 c512_i32_13
  let c1_i32_14 : BitVec 32 := 1#32
  let v39 : BitVec 32 := Scalar.addi v38 c1_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c512_i32_15 : BitVec 32 := 512#32
  let c0_i32_18 : BitVec 32 := 0#32
  let v46 : BitVec 1 := Scalar.cmpi .sgt c512_i32_15 c0_i32_18
  let v47 : BitVec 32 := Scalar.extui v46
  let c0_i32_19 : BitVec 32 := 0#32
  let v48 : BitVec 1 := Scalar.cmpi .slt c512_i32_15 c0_i32_19
  let v49 : BitVec 32 := Scalar.extui v48
  let v50 : BitVec 32 := Scalar.subi v47 v49
  let v51 : BitVec 1 := Scalar.cmpi .ne v45 v50
  let v52 : BitVec 32 := Scalar.remsi v39 c512_i32_15
  let c0_i32_20 : BitVec 32 := 0#32
  let v53 : BitVec 1 := Scalar.cmpi .ne v52 c0_i32_20
  let v54 : BitVec 1 := Scalar.andi v51 v53
  let v40 : BitVec 32 := Scalar.divsi v39 c512_i32_15
  let c1_i32_21 : BitVec 32 := 1#32
  let v55 : BitVec 32 := Scalar.subi v40 c1_i32_21
  let v56 : BitVec 32 := Scalar.select v54 v55 v40
  let c512_i32_4 : BitVec 32 := 512#32
  let v18 : BitVec 32 := Scalar.muli arg1 c512_i32_4
  let c512_i32_5 : BitVec 32 := 512#32
  let v19 : BitVec 32 := Scalar.addi v18 c512_i32_5
  let c1_i32 : BitVec 32 := 1#32
  let v20 : BitVec 32 := Scalar.subi v19 c1_i32
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c512_i32_6 : BitVec 32 := 512#32
  let c0_i32_9 : BitVec 32 := 0#32
  let v27 : BitVec 1 := Scalar.cmpi .sgt c512_i32_6 c0_i32_9
  let v28 : BitVec 32 := Scalar.extui v27
  let c0_i32_10 : BitVec 32 := 0#32
  let v29 : BitVec 1 := Scalar.cmpi .slt c512_i32_6 c0_i32_10
  let v30 : BitVec 32 := Scalar.extui v29
  let v31 : BitVec 32 := Scalar.subi v28 v30
  let v32 : BitVec 1 := Scalar.cmpi .ne v26 v31
  let v33 : BitVec 32 := Scalar.remsi v20 c512_i32_6
  let c0_i32_11 : BitVec 32 := 0#32
  let v34 : BitVec 1 := Scalar.cmpi .ne v33 c0_i32_11
  let v35 : BitVec 1 := Scalar.andi v32 v34
  let v21 : BitVec 32 := Scalar.divsi v20 c512_i32_6
  let c1_i32_12 : BitVec 32 := 1#32
  let v36 : BitVec 32 := Scalar.subi v21 c1_i32_12
  let v37 : BitVec 32 := Scalar.select v35 v36 v21
  let c1_i32_26 : BitVec 32 := 1#32
  let v64 : BitVec 32 := Scalar.addi v37 c1_i32_26
  let v65 : BitVec 32 := Scalar.subi v64 v56
  let c1_i32_27 : BitVec 32 := 1#32
  let v67 : BitVec 32 := Scalar.divsi v65 c1_i32_27
  let v68 : BitVec 32 := Scalar.muli v67 c1_i32_27
  let v69 : BitVec 32 := Scalar.addi v56 v68
  let c1_i32_29 : BitVec 32 := 1#32
  let arg10 : BitVec 32 := Scf.iv v69 c1_i32_29 k0_t4
  let c512_i32_34 : BitVec 32 := 512#32
  let v89 : BitVec 32 := Scalar.muli arg10 c512_i32_34
  let v90 : BitVec 32 := v89
  let v115 : Index := Scalar.indexCast v90
  let c0_41 : Index := 0#32
  ![v115.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelAfIdeal.lean ====
variable {F : FTy → Type} [FloatOps F] [Named F]
def κ : String → Option EReal := fun
  | "mask" => some ⊥
  | _ => none
-- ==== ReferenceAfIdeal.lean ====
abbrev S4096x512 : Shape := ⟨2, ![4096, 512]⟩
abbrev S4096x256 : Shape := ⟨2, ![4096, 256]⟩
abbrev S4096x4x128 : Shape := ⟨3, ![4096, 4, 128]⟩
abbrev S4096x4x64 : Shape := ⟨3, ![4096, 4, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4096x4 : Shape := ⟨2, ![4096, 4]⟩
abbrev S4096x4x1 : Shape := ⟨3, ![4096, 4, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x256, .f32⟩
  | .hbm, ⟨3, _⟩ => ⟨S4096x4x128, .f32⟩
  | .hbm, ⟨4, _⟩ => ⟨S4096x4x128, .f32⟩
  | .hbm, ⟨5, _⟩ => ⟨S4096x4x64, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4x4096x4096, .i1⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x64x4096, .f32⟩
  | .hbm, ⟨37, _⟩ => ⟨S4096x4x64, .f32⟩
  | .hbm, ⟨38, _⟩ => ⟨S4096x256, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x4096, .f32⟩
  | .hbm, ⟨43, _⟩ => ⟨S4096x4, .f32⟩
  | .hbm, ⟨44, _⟩ => ⟨S4096x4x1, .f32⟩
  | .hbm, ⟨45, _⟩ => ⟨S4096x4x64, .f32⟩
  | .hbm, ⟨46, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.MergeBody.lean ====
/-
  What one grid point of the gated merge's gradient computes: of a block of 256 tokens, the gradients of the four
  branches and of the four gate logits, and what it adds to the four bias gradients. `body_A` is the body's triple at
  the first block, `body_B` at every later one; both name what each output window is left with.
-/
module

public import proofs.«01_k».proof.Proof.Gen.KernelIdeal.Frame.Runs
public import Idealize.ShloMosaic.Lib.Pipeline.ValueKit
public import Idealize.ShloMosaic.Lib.Claim

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The gate of a block: the logistic function of its logits plus the bias row. -/
def gate (g : Vec F S256x1024 .f32) (b : Vec F S1x1024 .f32) : FVec F S256x1024 .f32 :=
  logistic (addf g (broadcastTo S256x1024 b broadcasts_S1x1024_S256x1024))

/-- The gradient of a branch's block: its gate times the cotangent. -/
def dBranch (g : Vec F S256x1024 .f32) (b : Vec F S1x1024 .f32) (ct : Vec F S256x1024 .f32) : FVec F S256x1024 .f32 :=
  mulf (gate g b) ct

/-- The gradient of a gate's logits: the cotangent times the branch times the gate's slope `s (1 − s)`. -/
def dLogit (r g : Vec F S256x1024 .f32) (b : Vec F S1x1024 .f32) (ct : Vec F S256x1024 .f32) : FVec F S256x1024 .f32 :=
  mulf (mulf ct r) (mulf (gate g b) (subf (broadcast S256x1024 (Scalar.ofBits .f32 0x3F800000#32)) (gate g b)))

/-- The block's column sums of the logits' gradient: what the point gives to the bias gradient. -/
def dBias (r g : Vec F S256x1024 .f32) (b : Vec F S1x1024 .f32) (ct : Vec F S256x1024 .f32) : FVec F S1x1024 .f32 :=
  shapeCast S1x1024 (multiReduction .add [0] S1024 (dLogit r g b ct) 0x00000000#32 reduces_S256x1024_S1024 (.inl rfl) rfl)
    shapeCasts_S1024_S1x1024

section

variable (c : Dev nD) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S256x1024 .f32) (h12 : a12.IsWhole) (a13 : Memref sig .tc .vmem S256x1024 .bf16) (h13 : a13.IsWhole) (a14 : Memref sig .tc .vmem S256x1024 .bf16) (h14 : a14.IsWhole) (a15 : Memref sig .tc .vmem S256x1024 .bf16) (h15 : a15.IsWhole) (a16 : Memref sig .tc .vmem S256x1024 .bf16) (h16 : a16.IsWhole) (a17 : Memref sig .tc .vmem S256x1024 .bf16) (h17 : a17.IsWhole) (a18 : Memref sig .tc .vmem S256x1024 .bf16) (h18 : a18.IsWhole) (a19 : Memref sig .tc .vmem S256x1024 .bf16) (h19 : a19.IsWhole) (a20 : Memref sig .tc .vmem S256x1024 .bf16) (h20 : a20.IsWhole) (a21 : Memref sig .tc .vmem S1x1024 .f32) (h21 : a21.IsWhole) (a22 : Memref sig .tc .vmem S1x1024 .f32) (h22 : a22.IsWhole) (a23 : Memref sig .tc .vmem S1x1024 .f32) (h23 : a23.IsWhole) (a24 : Memref sig .tc .vmem S1x1024 .f32) (h24 : a24.IsWhole)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S1x1024 .f32) (x9 : Vec F S1x1024 .f32) (x10 : Vec F S1x1024 .f32) (x11 : Vec F S1x1024 .f32) (x12 : Vec F S256x1024 .f32)

set_option maxHeartbeats 2000000 in
/-- At the first token block the body leaves the gradients of the branches and of the gate logits of its block, and
    the block's column sums in the four bias rows. -/
theorem body_A (c0 : cond0_0 i) (c1 : ¬cond0_1 i) (c2 : cond0_2 i) (c3 : ¬cond0_3 i) (c4 : cond0_4 i) (c5 : ¬cond0_5 i) (c6 : cond0_6 i) (c7 : ¬cond0_7 i)  (E : Set ℕ) (K : PUnit → sProp 𝕄) :
    iprop(owns (c : Thread nD τ) a0 fullShare (x0) ∗ owns (c : Thread nD τ) a1 fullShare (x1) ∗ owns (c : Thread nD τ) a2 fullShare (x2) ∗ owns (c : Thread nD τ) a3 fullShare (x3) ∗ owns (c : Thread nD τ) a4 fullShare (x4) ∗ owns (c : Thread nD τ) a5 fullShare (x5) ∗ owns (c : Thread nD τ) a6 fullShare (x6) ∗ owns (c : Thread nD τ) a7 fullShare (x7) ∗ owns (c : Thread nD τ) a8 fullShare (x8) ∗ owns (c : Thread nD τ) a9 fullShare (x9) ∗ owns (c : Thread nD τ) a10 fullShare (x10) ∗ owns (c : Thread nD τ) a11 fullShare (x11) ∗ owns (c : Thread nD τ) a12 fullShare (x12) ∗ (∃ d, owns (c : Thread nD τ) a13 fullShare (d)) ∗ (∃ d, owns (c : Thread nD τ) a14 fullShare (d)) ∗ (∃ d, owns (c : Thread nD τ) a15 fullShare (d)) ∗ (∃ d, owns (c : Thread nD τ) a16 fullShare (d)) ∗ (∃ d, owns (c : Thread nD τ) a17 fullShare (d)) ∗ (∃ d, owns (c : Thread nD τ) a18 fullShare (d)) ∗ (∃ d, owns (c : Thread nD τ) a19 fullShare (d)) ∗ (∃ d, owns (c : Thread nD τ) a20 fullShare (d)) ∗ (∃ d, owns (c : Thread nD τ) a21 fullShare (d)) ∗ (∃ d, owns (c : Thread nD τ) a22 fullShare (d)) ∗ (∃ d, owns (c : Thread nD τ) a23 fullShare (d)) ∗ (∃ d, owns (c : Thread nD τ) a24 fullShare (d))
        ∗ (iprop(owns (c : Thread nD τ) a0 fullShare (x0) ∗ owns (c : Thread nD τ) a1 fullShare (x1) ∗ owns (c : Thread nD τ) a2 fullShare (x2) ∗ owns (c : Thread nD τ) a3 fullShare (x3) ∗ owns (c : Thread nD τ) a4 fullShare (x4) ∗ owns (c : Thread nD τ) a5 fullShare (x5) ∗ owns (c : Thread nD τ) a6 fullShare (x6) ∗ owns (c : Thread nD τ) a7 fullShare (x7) ∗ owns (c : Thread nD τ) a8 fullShare (x8) ∗ owns (c : Thread nD τ) a9 fullShare (x9) ∗ owns (c : Thread nD τ) a10 fullShare (x10) ∗ owns (c : Thread nD τ) a11 fullShare (x11) ∗ owns (c : Thread nD τ) a12 fullShare (x12) ∗ owns (c : Thread nD τ) a13 fullShare (truncf .bf16 (dBranch x4 x8 x12) bitsLt_bf16_f32) ∗ owns (c : Thread nD τ) a14 fullShare (truncf .bf16 (dBranch x5 x9 x12) bitsLt_bf16_f32) ∗ owns (c : Thread nD τ) a15 fullShare (truncf .bf16 (dBranch x6 x10 x12) bitsLt_bf16_f32) ∗ owns (c : Thread nD τ) a16 fullShare (truncf .bf16 (dBranch x7 x11 x12) bitsLt_bf16_f32) ∗ owns (c : Thread nD τ) a17 fullShare (truncf .bf16 (dLogit x0 x4 x8 x12) bitsLt_bf16_f32) ∗ owns (c : Thread nD τ) a18 fullShare (truncf .bf16 (dLogit x1 x5 x9 x12) bitsLt_bf16_f32) ∗ owns (c : Thread nD τ) a19 fullShare (truncf .bf16 (dLogit x2 x6 x10 x12) bitsLt_bf16_f32) ∗ owns (c : Thread nD τ) a20 fullShare (truncf .bf16 (dLogit x3 x7 x11 x12) bitsLt_bf16_f32) ∗ owns (c : Thread nD τ) a21 fullShare (dBias x0 x4 x8 x12) ∗ owns (c : Thread nD τ) a22 fullShare (dBias x1 x5 x9 x12) ∗ owns (c : Thread nD τ) a23 fullShare (dBias x2 x6 x10 x12) ∗ owns (c : Thread nD τ) a24 fullShare (dBias x3 x7 x11 x12)) -∗ K ⟨⟩))
      ⊢ wp frame (wpE (defs₀ (F := F)) Variants.none c none) E (cc0_merge_bwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24) K := by
  simp only [cc0_merge_bwd_eq_skeleton]; unfold cc0_merge_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12
  sl_exec (disch := first | sl_exact c0 | sl_exact c1 | sl_exact c2 | sl_exact c3 | sl_exact c4 | sl_exact c5 | sl_exact c6 | sl_exact c7)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H13]
  · iexists _; isplitr; swap; · iexact H13
    ipureintro
    rw [View.read_writes_eq_canon _ _ _ (View.cover_of_tiledL _ S256x1024.size (by sl_kernel_rfl))]
    frame_out
    unfold_payloads
    simp only [shapeCast_self, dBias, dLogit, dBranch, gate]
  isplitl [H14]
  · iexists _; isplitr; swap; · iexact H14
    ipureintro
    rw [View.read_writes_eq_canon _ _ _ (View.cover_of_tiledL _ S256x1024.size (by sl_kernel_rfl))]
    frame_out
    unfold_payloads
    simp only [shapeCast_self, dBias, dLogit, dBranch, gate]
  isplitl [H15]
  · iexists _; isplitr; swap; · iexact H15
    ipureintro
    rw [View.read_writes_eq_canon _ _ _ (View.cover_of_tiledL _ S256x1024.size (by sl_kernel_rfl))]
    frame_out
    unfold_payloads
    simp only [shapeCast_self, dBias, dLogit, dBranch, gate]
  isplitl [H16]
  · iexists _; isplitr; swap; · iexact H16
    ipureintro
    rw [View.read_writes_eq_canon _ _ _ (View.cover_of_tiledL _ S256x1024.size (by sl_kernel_rfl))]
    frame_out
    unfold_payloads
    simp only [shapeCast_self, dBias, dLogit, dBranch, gate]
  isplitl [H17]
  · iexists _; isplitr; swap; · iexact H17
    ipureintro
    rw [View.read_writes_eq_canon _ _ _ (View.cover_of_tiledL _ S256x1024.size (by sl_kernel_rfl))]
    frame_out
    unfold_payloads
    simp only [shapeCast_self, dBias, dLogit, dBranch, gate]
  isplitl [H18]
  · iexists _; isplitr; swap; · iexact H18
    ipureintro
    rw [View.read_writes_eq_canon _ _ _ (View.cover_of_tiledL _ S256x1024.size (by sl_kernel_rfl))]
    frame_out
    unfold_payloads
    simp only [shapeCast_self, dBias, dLogit, dBranch, gate]
  isplitl [H19]
  · iexists _; isplitr; swap; · iexact H19
    ipureintro
    rw [View.read_writes_eq_canon _ _ _ (View.cover_of_tiledL _ S256x1024.size (by sl_kernel_rfl))]
    frame_out
    unfold_payloads
    simp only [shapeCast_self, dBias, dLogit, dBranch, gate]
  isplitl [H20]
  · iexists _; isplitr; swap; · iexact H20
    ipureintro
    rw [View.read_writes_eq_canon _ _ _ (View.cover_of_tiledL _ S256x1024.size (by sl_kernel_rfl))]
    frame_out
    unfold_payloads
    simp only [shapeCast_self, dBias, dLogit, dBranch, gate]
  isplitl [H21]
  · iexists _; isplitr; swap; · iexact H21
    ipureintro
    rw [View.read_writes_eq_canon _ _ _ (View.cover_of_tiledL _ S1x1024.size (by sl_kernel_rfl))]
    frame_out
    unfold_payloads
    simp only [shapeCast_self, dBias, dLogit, dBranch, gate]
  isplitl [H22]
  · iexists _; isplitr; swap; · iexact H22
    ipureintro
    rw [View.read_writes_eq_canon _ _ _ (View.cover_of_tiledL _ S1x1024.size (by sl_kernel_rfl))]
    frame_out
    unfold_payloads
    simp only [shapeCast_self, dBias, dLogit, dBranch, gate]
  isplitl [H23]
  · iexists _; isplitr; swap; · iexact H23
    ipureintro
    rw [View.read_writes_eq_canon _ _ _ (View.cover_of_tiledL _ S1x1024.size (by sl_kernel_rfl))]
    frame_out
    unfold_payloads
    simp only [shapeCast_self, dBias, dLogit, dBranch, gate]
  · iexists _; isplitr; swap; · iexact H24
    ipureintro
    rw [View.read_writes_eq_canon _ _ _ (View.cover_of_tiledL _ S1x1024.size (by sl_kernel_rfl))]
    frame_out
    unfold_payloads
    simp only [shapeCast_self, dBias, dLogit, dBranch, gate]

set_option maxHeartbeats 2000000 in
/-- At every later token block the body leaves the same gradients of its block, and adds the block's column sums to what
    the four bias rows held. -/
theorem body_B (c0 : ¬cond0_0 i) (c1 : cond0_1 i) (c2 : ¬cond0_2 i) (c3 : cond0_3 i) (c4 : ¬cond0_4 i) (c5 : cond0_5 i) (c6 : ¬cond0_6 i) (c7 : cond0_7 i) (p21 : Vec F S1x1024 .f32) (p22 : Vec F S1x1024 .f32) (p23 : Vec F S1x1024 .f32) (p24 : Vec F S1x1024 .f32) (E : Set ℕ) (K : PUnit → sProp 𝕄) :
    iprop(owns (c : Thread nD τ) a0 fullShare (x0) ∗ owns (c : Thread nD τ) a1 fullShare (x1) ∗ owns (c : Thread nD τ) a2 fullShare (x2) ∗ owns (c : Thread nD τ) a3 fullShare (x3) ∗ owns (c : Thread nD τ) a4 fullShare (x4) ∗ owns (c : Thread nD τ) a5 fullShare (x5) ∗ owns (c : Thread nD τ) a6 fullShare (x6) ∗ owns (c : Thread nD τ) a7 fullShare (x7) ∗ owns (c : Thread nD τ) a8 fullShare (x8) ∗ owns (c : Thread nD τ) a9 fullShare (x9) ∗ owns (c : Thread nD τ) a10 fullShare (x10) ∗ owns (c : Thread nD τ) a11 fullShare (x11) ∗ owns (c : Thread nD τ) a12 fullShare (x12) ∗ (∃ d, owns (c : Thread nD τ) a13 fullShare (d)) ∗ (∃ d, owns (c : Thread nD τ) a14 fullShare (d)) ∗ (∃ d, owns (c : Thread nD τ) a15 fullShare (d)) ∗ (∃ d, owns (c : Thread nD τ) a16 fullShare (d)) ∗ (∃ d, owns (c : Thread nD τ) a17 fullShare (d)) ∗ (∃ d, owns (c : Thread nD τ) a18 fullShare (d)) ∗ (∃ d, owns (c : Thread nD τ) a19 fullShare (d)) ∗ (∃ d, owns (c : Thread nD τ) a20 fullShare (d)) ∗ owns (c : Thread nD τ) a21 fullShare (p21) ∗ owns (c : Thread nD τ) a22 fullShare (p22) ∗ owns (c : Thread nD τ) a23 fullShare (p23) ∗ owns (c : Thread nD τ) a24 fullShare (p24)
        ∗ (iprop(owns (c : Thread nD τ) a0 fullShare (x0) ∗ owns (c : Thread nD τ) a1 fullShare (x1) ∗ owns (c : Thread nD τ) a2 fullShare (x2) ∗ owns (c : Thread nD τ) a3 fullShare (x3) ∗ owns (c : Thread nD τ) a4 fullShare (x4) ∗ owns (c : Thread nD τ) a5 fullShare (x5) ∗ owns (c : Thread nD τ) a6 fullShare (x6) ∗ owns (c : Thread nD τ) a7 fullShare (x7) ∗ owns (c : Thread nD τ) a8 fullShare (x8) ∗ owns (c : Thread nD τ) a9 fullShare (x9) ∗ owns (c : Thread nD τ) a10 fullShare (x10) ∗ owns (c : Thread nD τ) a11 fullShare (x11) ∗ owns (c : Thread nD τ) a12 fullShare (x12) ∗ owns (c : Thread nD τ) a13 fullShare (truncf .bf16 (dBranch x4 x8 x12) bitsLt_bf16_f32) ∗ owns (c : Thread nD τ) a14 fullShare (truncf .bf16 (dBranch x5 x9 x12) bitsLt_bf16_f32) ∗ owns (c : Thread nD τ) a15 fullShare (truncf .bf16 (dBranch x6 x10 x12) bitsLt_bf16_f32) ∗ owns (c : Thread nD τ) a16 fullShare (truncf .bf16 (dBranch x7 x11 x12) bitsLt_bf16_f32) ∗ owns (c : Thread nD τ) a17 fullShare (truncf .bf16 (dLogit x0 x4 x8 x12) bitsLt_bf16_f32) ∗ owns (c : Thread nD τ) a18 fullShare (truncf .bf16 (dLogit x1 x5 x9 x12) bitsLt_bf16_f32) ∗ owns (c : Thread nD τ) a19 fullShare (truncf .bf16 (dLogit x2 x6 x10 x12) bitsLt_bf16_f32) ∗ owns (c : Thread nD τ) a20 fullShare (truncf .bf16 (dLogit x3 x7 x11 x12) bitsLt_bf16_f32) ∗ owns (c : Thread nD τ) a21 fullShare (addf p21 (dBias x0 x4 x8 x12)) ∗ owns (c : Thread nD τ) a22 fullShare (addf p22 (dBias x1 x5 x9 x12)) ∗ owns (c : Thread nD τ) a23 fullShare (addf p23 (dBias x2 x6 x10 x12)) ∗ owns (c : Thread nD τ) a24 fullShare (addf p24 (dBias x3 x7 x11 x12))) -∗ K ⟨⟩))
      ⊢ wp frame (wpE (defs₀ (F := F)) Variants.none c none) E (cc0_merge_bwd i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24) K := by
  simp only [cc0_merge_bwd_eq_skeleton]; unfold cc0_merge_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%f24, %hf24, H24⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h21.eq_unread hf21; obtain rfl := h22.eq_unread hf22; obtain rfl := h23.eq_unread hf23; obtain rfl := h24.eq_unread hf24
  sl_exec (disch := first | sl_exact c0 | sl_exact c1 | sl_exact c2 | sl_exact c3 | sl_exact c4 | sl_exact c5 | sl_exact c6 | sl_exact c7)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H13]
  · iexists _; isplitr; swap; · iexact H13
    ipureintro
    rw [View.read_writes_eq_canon _ _ _ (View.cover_of_tiledL _ S256x1024.size (by sl_kernel_rfl))]
    frame_out
    unfold_payloads
    simp only [shapeCast_self, dBias, dLogit, dBranch, gate]
  isplitl [H14]
  · iexists _; isplitr; swap; · iexact H14
    ipureintro
    rw [View.read_writes_eq_canon _ _ _ (View.cover_of_tiledL _ S256x1024.size (by sl_kernel_rfl))]
    frame_out
    unfold_payloads
    simp only [shapeCast_self, dBias, dLogit, dBranch, gate]
  isplitl [H15]
  · iexists _; isplitr; swap; · iexact H15
    ipureintro
    rw [View.read_writes_eq_canon _ _ _ (View.cover_of_tiledL _ S256x1024.size (by sl_kernel_rfl))]
    frame_out
    unfold_payloads
    simp only [shapeCast_self, dBias, dLogit, dBranch, gate]
  isplitl [H16]
  · iexists _; isplitr; swap; · iexact H16
    ipureintro
    rw [View.read_writes_eq_canon _ _ _ (View.cover_of_tiledL _ S256x1024.size (by sl_kernel_rfl))]
    frame_out
    unfold_payloads
    simp only [shapeCast_self, dBias, dLogit, dBranch, gate]
  isplitl [H17]
  · iexists _; isplitr; swap; · iexact H17
    ipureintro
    rw [View.read_writes_eq_canon _ _ _ (View.cover_of_tiledL _ S256x1024.size (by sl_kernel_rfl))]
    frame_out
    unfold_payloads
    simp only [shapeCast_self, dBias, dLogit, dBranch, gate]
  isplitl [H18]
  · iexists _; isplitr; swap; · iexact H18
    ipureintro
    rw [View.read_writes_eq_canon _ _ _ (View.cover_of_tiledL _ S256x1024.size (by sl_kernel_rfl))]
    frame_out
    unfold_payloads
    simp only [shapeCast_self, dBias, dLogit, dBranch, gate]
  isplitl [H19]
  · iexists _; isplitr; swap; · iexact H19
    ipureintro
    rw [View.read_writes_eq_canon _ _ _ (View.cover_of_tiledL _ S256x1024.size (by sl_kernel_rfl))]
    frame_out
    unfold_payloads
    simp only [shapeCast_self, dBias, dLogit, dBranch, gate]
  isplitl [H20]
  · iexists _; isplitr; swap; · iexact H20
    ipureintro
    rw [View.read_writes_eq_canon _ _ _ (View.cover_of_tiledL _ S256x1024.size (by sl_kernel_rfl))]
    frame_out
    unfold_payloads
    simp only [shapeCast_self, dBias, dLogit, dBranch, gate]
  isplitl [H21]
  · iexists _; isplitr; swap; · iexact H21
    ipureintro
    rw [View.read_writes_eq_canon _ _ _ (View.cover_of_tiledL _ S1x1024.size (by sl_kernel_rfl))]
    frame_out
    unfold_payloads
    simp only [shapeCast_self, dBias, dLogit, dBranch, gate]
  isplitl [H22]
  · iexists _; isplitr; swap; · iexact H22
    ipureintro
    rw [View.read_writes_eq_canon _ _ _ (View.cover_of_tiledL _ S1x1024.size (by sl_kernel_rfl))]
    frame_out
    unfold_payloads
    simp only [shapeCast_self, dBias, dLogit, dBranch, gate]
  isplitl [H23]
  · iexists _; isplitr; swap; · iexact H23
    ipureintro
    rw [View.read_writes_eq_canon _ _ _ (View.cover_of_tiledL _ S1x1024.size (by sl_kernel_rfl))]
    frame_out
    unfold_payloads
    simp only [shapeCast_self, dBias, dLogit, dBranch, gate]
  · iexists _; isplitr; swap; · iexact H24
    ipureintro
    rw [View.read_writes_eq_canon _ _ _ (View.cover_of_tiledL _ S1x1024.size (by sl_kernel_rfl))]
    frame_out
    unfold_payloads
    simp only [shapeCast_self, dBias, dLogit, dBranch, gate]

end

end Cert.KernelIdeal.Merge

end
-- ==== Proof.MergeFrame.lean ====
/-
  The run of the gated merge's gradient, over any float interpretation: what each window holds point by point, the
  body's obligation at every point (by the two triples of MergeBody), and the run of @main. The bias windows keep one
  block through the sixteen points: `accum` is what they hold after each.
-/
module

public import proofs.«01_k».proof.Proof.MergeBody
public import Idealize.ShloMosaic.Lib.Pipeline.ValueKit
public import Idealize.ShloMosaic.Lib.Claim

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a bias row holds after point `n`: the first block's column sums, then each later block's added. -/
def accum (term : Fin cfg0.N → Vec F S1x1024 .f32) : (n : ℕ) → n < cfg0.N → Vec F S1x1024 .f32
  | 0, h => term ⟨0, h⟩
  | n + 1, h => addf (accum term n (Nat.lt_of_succ_lt h)) (term ⟨n + 1, h⟩)

/-- At the first point the row holds that point's sums. -/
theorem accum_first (term : Fin cfg0.N → Vec F S1x1024 .f32) (t : Fin cfg0.N) (h : t.val % 16 = 0) :
    accum term t.val t.isLt = term t := by
  have hN : t.val < 16 := lt_of_lt_of_eq t.isLt (show cfg0.N = 16 from N_0)
  obtain ⟨n, hn⟩ := t
  cases n with
  | zero => rfl
  | succ n => exfalso; simp only at h hN; omega

/-- At a later point it holds what the point before left plus that point's sums. -/
theorem accum_later (term : Fin cfg0.N → Vec F S1x1024 .f32) (t : Fin cfg0.N) (h : ¬t.val % 16 = 0) :
    accum term t.val t.isLt
      = addf (accum term (t.val - 1) (Nat.lt_of_le_of_lt (Nat.sub_le _ _) t.isLt)) (term t) := by
  obtain ⟨n, hn⟩ := t
  cases n with
  | zero => exact absurd rfl h
  | succ n => rfl

/-- The block's column sums for bias row 0, at each point. -/
def sums_0 (c : Dev nD) (t : Fin cfg0.N) : Vec F S1x1024 .f32 :=
  dBias (iblk m c 0 t) (iblk m c 4 t) (iblk m c 8 t) (iblk m c 12 t)

/-- The block's column sums for bias row 1, at each point. -/
def sums_1 (c : Dev nD) (t : Fin cfg0.N) : Vec F S1x1024 .f32 :=
  dBias (iblk m c 1 t) (iblk m c 5 t) (iblk m c 9 t) (iblk m c 12 t)

/-- The block's column sums for bias row 2, at each point. -/
def sums_2 (c : Dev nD) (t : Fin cfg0.N) : Vec F S1x1024 .f32 :=
  dBias (iblk m c 2 t) (iblk m c 6 t) (iblk m c 10 t) (iblk m c 12 t)

/-- The block's column sums for bias row 3, at each point. -/
def sums_3 (c : Dev nD) (t : Fin cfg0.N) : Vec F S1x1024 .f32 :=
  dBias (iblk m c 3 t) (iblk m c 7 t) (iblk m c 11 t) (iblk m c 12 t)

/-- The pipeline's proof data: an input window holds its block; a gradient window what the body computes from the
    point's blocks; a bias window the sums so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => truncf .bf16 (dBranch (iblk m c 4 t) (iblk m c 8 t) (iblk m c 12 t)) bitsLt_bf16_f32
    | ⟨14, _⟩ => truncf .bf16 (dBranch (iblk m c 5 t) (iblk m c 9 t) (iblk m c 12 t)) bitsLt_bf16_f32
    | ⟨15, _⟩ => truncf .bf16 (dBranch (iblk m c 6 t) (iblk m c 10 t) (iblk m c 12 t)) bitsLt_bf16_f32
    | ⟨16, _⟩ => truncf .bf16 (dBranch (iblk m c 7 t) (iblk m c 11 t) (iblk m c 12 t)) bitsLt_bf16_f32
    | ⟨17, _⟩ => truncf .bf16 (dLogit (iblk m c 0 t) (iblk m c 4 t) (iblk m c 8 t) (iblk m c 12 t)) bitsLt_bf16_f32
    | ⟨18, _⟩ => truncf .bf16 (dLogit (iblk m c 1 t) (iblk m c 5 t) (iblk m c 9 t) (iblk m c 12 t)) bitsLt_bf16_f32
    | ⟨19, _⟩ => truncf .bf16 (dLogit (iblk m c 2 t) (iblk m c 6 t) (iblk m c 10 t) (iblk m c 12 t)) bitsLt_bf16_f32
    | ⟨20, _⟩ => truncf .bf16 (dLogit (iblk m c 3 t) (iblk m c 7 t) (iblk m c 11 t) (iblk m c 12 t)) bitsLt_bf16_f32
    | ⟨21, _⟩ => accum (sums_0 m c) t.val t.isLt
    | ⟨22, _⟩ => accum (sums_1 m c) t.val t.isLt
    | ⟨23, _⟩ => accum (sums_2 m c) t.val t.isLt
    | ⟨24, _⟩ => accum (sums_3 m c) t.val t.isLt
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = truncf .bf16 (dBranch (iblk m c 4 t) (iblk m c 8 t) (iblk m c 12 t)) bitsLt_bf16_f32 := by dsimp only [dats]
theorem after_14 : (dats m 0 c).after 14 t = truncf .bf16 (dBranch (iblk m c 5 t) (iblk m c 9 t) (iblk m c 12 t)) bitsLt_bf16_f32 := by dsimp only [dats]
theorem after_15 : (dats m 0 c).after 15 t = truncf .bf16 (dBranch (iblk m c 6 t) (iblk m c 10 t) (iblk m c 12 t)) bitsLt_bf16_f32 := by dsimp only [dats]
theorem after_16 : (dats m 0 c).after 16 t = truncf .bf16 (dBranch (iblk m c 7 t) (iblk m c 11 t) (iblk m c 12 t)) bitsLt_bf16_f32 := by dsimp only [dats]
theorem after_17 : (dats m 0 c).after 17 t = truncf .bf16 (dLogit (iblk m c 0 t) (iblk m c 4 t) (iblk m c 8 t) (iblk m c 12 t)) bitsLt_bf16_f32 := by dsimp only [dats]
theorem after_18 : (dats m 0 c).after 18 t = truncf .bf16 (dLogit (iblk m c 1 t) (iblk m c 5 t) (iblk m c 9 t) (iblk m c 12 t)) bitsLt_bf16_f32 := by dsimp only [dats]
theorem after_19 : (dats m 0 c).after 19 t = truncf .bf16 (dLogit (iblk m c 2 t) (iblk m c 6 t) (iblk m c 10 t) (iblk m c 12 t)) bitsLt_bf16_f32 := by dsimp only [dats]
theorem after_20 : (dats m 0 c).after 20 t = truncf .bf16 (dLogit (iblk m c 3 t) (iblk m c 7 t) (iblk m c 11 t) (iblk m c 12 t)) bitsLt_bf16_f32 := by dsimp only [dats]
theorem after_21 : (dats m 0 c).after 21 t = accum (sums_0 m c) t.val t.isLt := by dsimp only [dats]
theorem after_22 : (dats m 0 c).after 22 t = accum (sums_1 m c) t.val t.isLt := by dsimp only [dats]
theorem after_23 : (dats m 0 c).after 23 t = accum (sums_2 m c) t.val t.isLt := by dsimp only [dats]
theorem after_24 : (dats m 0 c).after 24 t = accum (sums_3 m c) t.val t.isLt := by dsimp only [dats]
theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d
theorem before_10 (d) : (dats m 0 c).before 10 t d = iblk m c 10 t :=
  before0_10_of m (dats m 0 c) (A_eq m c 10) (after_10 m c) t d
theorem before_11 (d) : (dats m 0 c).before 11 t d = iblk m c 11 t :=
  before0_11_of m (dats m 0 c) (A_eq m c 11) (after_11 m c) t d
theorem before_12 (d) : (dats m 0 c).before 12 t d = iblk m c 12 t :=
  before0_12_of m (dats m 0 c) (A_eq m c 12) (after_12 m c) t d

/-- The first point is the one whose position is a multiple of 16. -/
theorem pos_cases : (t.val % 16 = 0 ∧ ¬1 ≤ t.val) ∨ (¬t.val % 16 = 0 ∧ 1 ≤ t.val) := by
  have hN : t.val < 16 := lt_of_lt_of_eq t.isLt (show cfg0.N = 16 from N_0)
  omega

/-- Bias window 0 is stored into at every point. -/
theorem live_21 : cfg0.idle 21 (grid0.coords t) = false := by
  rcases pos_cases t with ⟨h, h1⟩ | ⟨h, h1⟩
  · exact liveAt0_21_A t ((hcond0_0 t).mpr h) (fun e => h1 ((hcond0_1 t).mp e)) ((hcond0_2 t).mpr h) (fun e => h1 ((hcond0_3 t).mp e)) ((hcond0_4 t).mpr h) (fun e => h1 ((hcond0_5 t).mp e)) ((hcond0_6 t).mpr h) (fun e => h1 ((hcond0_7 t).mp e))
  · exact liveAt0_21_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)

/-- At a later point bias window 0 holds what the point before left. -/
theorem before_21 (h : ¬t.val % 16 = 0) (d) : (dats m 0 c).before 21 t d
    = accum (sums_0 m c) (t.val - 1) (Nat.lt_of_le_of_lt (Nat.sub_le _ _) t.isLt) := by
  have h1 : 1 ≤ t.val := (pos_cases t).elim (fun e => absurd e.1 h) (·.2)
  rw [Dat.before_out_traj _ 21 rfl (fun _ _ => rfl)
      (fun t _ hi _ => absurd ((live_21 t).symm.trans hi) Bool.false_ne_true) t.val t rfl d,
    if_neg (by rw [notFresh0_21_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)]; exact Bool.false_ne_true)]
  dsimp only [dats]

/-- Bias window 1 is stored into at every point. -/
theorem live_22 : cfg0.idle 22 (grid0.coords t) = false := by
  rcases pos_cases t with ⟨h, h1⟩ | ⟨h, h1⟩
  · exact liveAt0_22_A t ((hcond0_0 t).mpr h) (fun e => h1 ((hcond0_1 t).mp e)) ((hcond0_2 t).mpr h) (fun e => h1 ((hcond0_3 t).mp e)) ((hcond0_4 t).mpr h) (fun e => h1 ((hcond0_5 t).mp e)) ((hcond0_6 t).mpr h) (fun e => h1 ((hcond0_7 t).mp e))
  · exact liveAt0_22_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)

/-- At a later point bias window 1 holds what the point before left. -/
theorem before_22 (h : ¬t.val % 16 = 0) (d) : (dats m 0 c).before 22 t d
    = accum (sums_1 m c) (t.val - 1) (Nat.lt_of_le_of_lt (Nat.sub_le _ _) t.isLt) := by
  have h1 : 1 ≤ t.val := (pos_cases t).elim (fun e => absurd e.1 h) (·.2)
  rw [Dat.before_out_traj _ 22 rfl (fun _ _ => rfl)
      (fun t _ hi _ => absurd ((live_22 t).symm.trans hi) Bool.false_ne_true) t.val t rfl d,
    if_neg (by rw [notFresh0_22_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)]; exact Bool.false_ne_true)]
  dsimp only [dats]

/-- Bias window 2 is stored into at every point. -/
theorem live_23 : cfg0.idle 23 (grid0.coords t) = false := by
  rcases pos_cases t with ⟨h, h1⟩ | ⟨h, h1⟩
  · exact liveAt0_23_A t ((hcond0_0 t).mpr h) (fun e => h1 ((hcond0_1 t).mp e)) ((hcond0_2 t).mpr h) (fun e => h1 ((hcond0_3 t).mp e)) ((hcond0_4 t).mpr h) (fun e => h1 ((hcond0_5 t).mp e)) ((hcond0_6 t).mpr h) (fun e => h1 ((hcond0_7 t).mp e))
  · exact liveAt0_23_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)

/-- At a later point bias window 2 holds what the point before left. -/
theorem before_23 (h : ¬t.val % 16 = 0) (d) : (dats m 0 c).before 23 t d
    = accum (sums_2 m c) (t.val - 1) (Nat.lt_of_le_of_lt (Nat.sub_le _ _) t.isLt) := by
  have h1 : 1 ≤ t.val := (pos_cases t).elim (fun e => absurd e.1 h) (·.2)
  rw [Dat.before_out_traj _ 23 rfl (fun _ _ => rfl)
      (fun t _ hi _ => absurd ((live_23 t).symm.trans hi) Bool.false_ne_true) t.val t rfl d,
    if_neg (by rw [notFresh0_23_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)]; exact Bool.false_ne_true)]
  dsimp only [dats]

/-- Bias window 3 is stored into at every point. -/
theorem live_24 : cfg0.idle 24 (grid0.coords t) = false := by
  rcases pos_cases t with ⟨h, h1⟩ | ⟨h, h1⟩
  · exact liveAt0_24_A t ((hcond0_0 t).mpr h) (fun e => h1 ((hcond0_1 t).mp e)) ((hcond0_2 t).mpr h) (fun e => h1 ((hcond0_3 t).mp e)) ((hcond0_4 t).mpr h) (fun e => h1 ((hcond0_5 t).mp e)) ((hcond0_6 t).mpr h) (fun e => h1 ((hcond0_7 t).mp e))
  · exact liveAt0_24_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)

/-- At a later point bias window 3 holds what the point before left. -/
theorem before_24 (h : ¬t.val % 16 = 0) (d) : (dats m 0 c).before 24 t d
    = accum (sums_3 m c) (t.val - 1) (Nat.lt_of_le_of_lt (Nat.sub_le _ _) t.isLt) := by
  have h1 : 1 ≤ t.val := (pos_cases t).elim (fun e => absurd e.1 h) (·.2)
  rw [Dat.before_out_traj _ 24 rfl (fun _ _ => rfl)
      (fun t _ hi _ => absurd ((live_24 t).symm.trans hi) Bool.false_ne_true) t.val t rfl d,
    if_neg (by rw [notFresh0_24_B t (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1)]; exact Bool.false_ne_true)]
  dsimp only [dats]

/-- What the body is called with at point `t`, window by window. -/
def bodyPre : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)))

/-- What it returns. -/
def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t ∗ (dats m 0 c).leavesExact 24 t)

theorem leaves_0 : (dats m 0 c).leavesExact 0 t = owns (c : Thread nD τ) (ms0_0 t) fullShare (iblk m c 0 t) := by
  unfold Dat.leavesExact; rw [liveAt0_0 t, after_0]
theorem leaves_1 : (dats m 0 c).leavesExact 1 t = owns (c : Thread nD τ) (ms0_1 t) fullShare (iblk m c 1 t) := by
  unfold Dat.leavesExact; rw [liveAt0_1 t, after_1]
theorem leaves_2 : (dats m 0 c).leavesExact 2 t = owns (c : Thread nD τ) (ms0_2 t) fullShare (iblk m c 2 t) := by
  unfold Dat.leavesExact; rw [liveAt0_2 t, after_2]
theorem leaves_3 : (dats m 0 c).leavesExact 3 t = owns (c : Thread nD τ) (ms0_3 t) fullShare (iblk m c 3 t) := by
  unfold Dat.leavesExact; rw [liveAt0_3 t, after_3]
theorem leaves_4 : (dats m 0 c).leavesExact 4 t = owns (c : Thread nD τ) (ms0_4 t) fullShare (iblk m c 4 t) := by
  unfold Dat.leavesExact; rw [liveAt0_4 t, after_4]
theorem leaves_5 : (dats m 0 c).leavesExact 5 t = owns (c : Thread nD τ) (ms0_5 t) fullShare (iblk m c 5 t) := by
  unfold Dat.leavesExact; rw [liveAt0_5 t, after_5]
theorem leaves_6 : (dats m 0 c).leavesExact 6 t = owns (c : Thread nD τ) (ms0_6 t) fullShare (iblk m c 6 t) := by
  unfold Dat.leavesExact; rw [liveAt0_6 t, after_6]
theorem leaves_7 : (dats m 0 c).leavesExact 7 t = owns (c : Thread nD τ) (ms0_7 t) fullShare (iblk m c 7 t) := by
  unfold Dat.leavesExact; rw [liveAt0_7 t, after_7]
theorem leaves_8 : (dats m 0 c).leavesExact 8 t = owns (c : Thread nD τ) (ms0_8 t) fullShare (iblk m c 8 t) := by
  unfold Dat.leavesExact; rw [liveAt0_8 t, after_8]
theorem leaves_9 : (dats m 0 c).leavesExact 9 t = owns (c : Thread nD τ) (ms0_9 t) fullShare (iblk m c 9 t) := by
  unfold Dat.leavesExact; rw [liveAt0_9 t, after_9]
theorem leaves_10 : (dats m 0 c).leavesExact 10 t = owns (c : Thread nD τ) (ms0_10 t) fullShare (iblk m c 10 t) := by
  unfold Dat.leavesExact; rw [liveAt0_10 t, after_10]
theorem leaves_11 : (dats m 0 c).leavesExact 11 t = owns (c : Thread nD τ) (ms0_11 t) fullShare (iblk m c 11 t) := by
  unfold Dat.leavesExact; rw [liveAt0_11 t, after_11]
theorem leaves_12 : (dats m 0 c).leavesExact 12 t = owns (c : Thread nD τ) (ms0_12 t) fullShare (iblk m c 12 t) := by
  unfold Dat.leavesExact; rw [liveAt0_12 t, after_12]
theorem leaves_13 : (dats m 0 c).leavesExact 13 t = owns (c : Thread nD τ) (ms0_13 t) fullShare (truncf .bf16 (dBranch (iblk m c 4 t) (iblk m c 8 t) (iblk m c 12 t)) bitsLt_bf16_f32) := by
  unfold Dat.leavesExact; rw [liveAt0_13 t, after_13]
theorem leaves_14 : (dats m 0 c).leavesExact 14 t = owns (c : Thread nD τ) (ms0_14 t) fullShare (truncf .bf16 (dBranch (iblk m c 5 t) (iblk m c 9 t) (iblk m c 12 t)) bitsLt_bf16_f32) := by
  unfold Dat.leavesExact; rw [liveAt0_14 t, after_14]
theorem leaves_15 : (dats m 0 c).leavesExact 15 t = owns (c : Thread nD τ) (ms0_15 t) fullShare (truncf .bf16 (dBranch (iblk m c 6 t) (iblk m c 10 t) (iblk m c 12 t)) bitsLt_bf16_f32) := by
  unfold Dat.leavesExact; rw [liveAt0_15 t, after_15]
theorem leaves_16 : (dats m 0 c).leavesExact 16 t = owns (c : Thread nD τ) (ms0_16 t) fullShare (truncf .bf16 (dBranch (iblk m c 7 t) (iblk m c 11 t) (iblk m c 12 t)) bitsLt_bf16_f32) := by
  unfold Dat.leavesExact; rw [liveAt0_16 t, after_16]
theorem leaves_17 : (dats m 0 c).leavesExact 17 t = owns (c : Thread nD τ) (ms0_17 t) fullShare (truncf .bf16 (dLogit (iblk m c 0 t) (iblk m c 4 t) (iblk m c 8 t) (iblk m c 12 t)) bitsLt_bf16_f32) := by
  unfold Dat.leavesExact; rw [liveAt0_17 t, after_17]
theorem leaves_18 : (dats m 0 c).leavesExact 18 t = owns (c : Thread nD τ) (ms0_18 t) fullShare (truncf .bf16 (dLogit (iblk m c 1 t) (iblk m c 5 t) (iblk m c 9 t) (iblk m c 12 t)) bitsLt_bf16_f32) := by
  unfold Dat.leavesExact; rw [liveAt0_18 t, after_18]
theorem leaves_19 : (dats m 0 c).leavesExact 19 t = owns (c : Thread nD τ) (ms0_19 t) fullShare (truncf .bf16 (dLogit (iblk m c 2 t) (iblk m c 6 t) (iblk m c 10 t) (iblk m c 12 t)) bitsLt_bf16_f32) := by
  unfold Dat.leavesExact; rw [liveAt0_19 t, after_19]
theorem leaves_20 : (dats m 0 c).leavesExact 20 t = owns (c : Thread nD τ) (ms0_20 t) fullShare (truncf .bf16 (dLogit (iblk m c 3 t) (iblk m c 7 t) (iblk m c 11 t) (iblk m c 12 t)) bitsLt_bf16_f32) := by
  unfold Dat.leavesExact; rw [liveAt0_20 t, after_20]
theorem leaves_21 : (dats m 0 c).leavesExact 21 t = owns (c : Thread nD τ) (ms0_21 t) fullShare (accum (sums_0 m c) t.val t.isLt) := by
  unfold Dat.leavesExact; rw [live_21 t, after_21]
theorem leaves_22 : (dats m 0 c).leavesExact 22 t = owns (c : Thread nD τ) (ms0_22 t) fullShare (accum (sums_1 m c) t.val t.isLt) := by
  unfold Dat.leavesExact; rw [live_22 t, after_22]
theorem leaves_23 : (dats m 0 c).leavesExact 23 t = owns (c : Thread nD τ) (ms0_23 t) fullShare (accum (sums_2 m c) t.val t.isLt) := by
  unfold Dat.leavesExact; rw [live_23 t, after_23]
theorem leaves_24 : (dats m 0 c).leavesExact 24 t = owns (c : Thread nD τ) (ms0_24 t) fullShare (accum (sums_3 m c) t.val t.isLt) := by
  unfold Dat.leavesExact; rw [live_24 t, after_24]

set_option maxHeartbeats 2000000 in
/-- The body's triple at any point: the first point by `body_A`, a later one by `body_B`. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl]
  rcases pos_cases t with ⟨h, h1⟩ | ⟨h, h1⟩
  · skip
    rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
    rw [accum_first (sums_0 m c) t h, accum_first (sums_1 m c) t h, accum_first (sums_2 m c) t h, accum_first (sums_3 m c) t h]
    unfold sums_0 sums_1 sums_2 sums_3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (body_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      ((hcond0_0 t).mpr h) (fun e => h1 ((hcond0_1 t).mp e)) ((hcond0_2 t).mpr h) (fun e => h1 ((hcond0_3 t).mp e)) ((hcond0_4 t).mpr h) (fun e => h1 ((hcond0_5 t).mp e)) ((hcond0_6 t).mpr h) (fun e => h1 ((hcond0_7 t).mp e))  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · skip
    rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24]
    rw [accum_later (sums_0 m c) t h, accum_later (sums_1 m c) t h, accum_later (sums_2 m c) t h, accum_later (sums_3 m c) t h]
    simp only [before_21 m c t h, before_22 m c t h, before_23 m c t h, before_24 m c t h]
    unfold sums_0 sums_1 sums_2 sums_3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (body_B c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (fun e => h ((hcond0_0 t).mp e)) ((hcond0_1 t).mpr h1) (fun e => h ((hcond0_2 t).mp e)) ((hcond0_3 t).mpr h1) (fun e => h ((hcond0_4 t).mp e)) ((hcond0_5 t).mpr h1) (fun e => h ((hcond0_6 t).mp e)) ((hcond0_7 t).mpr h1) (accum (sums_0 m c) (t.val - 1) (Nat.lt_of_le_of_lt (Nat.sub_le _ _) t.isLt)) (accum (sums_1 m c) (t.val - 1) (Nat.lt_of_le_of_lt (Nat.sub_le _ _) t.isLt)) (accum (sums_2 m c) (t.val - 1) (Nat.lt_of_le_of_lt (Nat.sub_le _ _) t.isLt)) (accum (sums_3 m c) (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    iintro ⟨H0, H1, H2, H3, H4, H5, H6, H7, H8, H9, H10, H11, H12, H13, H14, H15, H16, H17, H18, H19, H20, H21, H22, H23, H24⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

end

/-- The library's body obligation, at every point. -/
theorem body_obligation (c : Dev nD) :
    BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

set_option backward.isDefEq.respectTransparency.types false in
/-- The launch: @main runs to completion, every array of the pipeline ends at what the proof data computes, and every
    semaphore counter is zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of @main, the counters left out. -/
theorem run_main : θ_run defs (onTc (τ := τ) (main (F := F))) (s₀ m ρ) (Pipeline.FramePost cfgs (dats m) 0 (V m)) :=
  (θ_run defs _ _).mono (fun _ h => h.1) (run_main_quiescent m ρ)

/-- The frame: @main leaves every argument array as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ))
    ((θ_run defs _ _).mono (fun _ h => h.2) (run_main_quiescent m ρ))

end Cert.KernelIdeal.Merge

end
-- ==== Proof.MergeValue.lean ====
module

public import proofs.«01_k».proof.Proof.MergeFrame
public import Idealize.ShloMosaic.Lib.Pipeline.ValueKit
public import Idealize.ShloMosaic.Lib.Claim

@[expose] public section

set_option maxRecDepth 16384

noncomputable section

namespace Cert.KernelIdeal.Merge

open Cert.KernelIdeal Cert.KernelIdeal.Gen
open Idealize.ShloMosaic Idealize.ShloMosaic.TcCoe Idealize.SL.Sem
open Idealize.ShloMosaic.Pipeline (Dat)

/-- The gate of a channel: the logistic function of the logit plus the channel's entry in part `n` of the bias vector. -/
def gateAt (n : ℕ) (hn : n < 4) (gl : FVec Ideal S4096x1024 .f32) (b : FVec Ideal S4096 .f32) (s : Fin 4096) (d : Fin 1024) : EReal :=
  Ideal.logistic (gl (ix2 s d) + b (ix1 ⟨n * 1024 + d.val, by omega⟩))

/-- The gradient of branch `n`: its gate times the gradient of the merged rows. -/
def branchGrad (n : ℕ) (hn : n < 4) (gl : FVec Ideal S4096x1024 .f32) (b : FVec Ideal S4096 .f32) (ct : FVec Ideal S4096x1024 .f32) :
    FVec Ideal S4096x1024 .bf16 :=
  fun i => gateAt n hn gl b (i 0) (i 1) * ct i

/-- The gradient of gate `n`'s logit at a token and channel. -/
def logitAt (n : ℕ) (hn : n < 4) (br gl : FVec Ideal S4096x1024 .f32) (b : FVec Ideal S4096 .f32) (ct : FVec Ideal S4096x1024 .f32)
    (s : Fin 4096) (d : Fin 1024) : EReal :=
  ct (ix2 s d) * br (ix2 s d) * (gateAt n hn gl b s d * (1 - gateAt n hn gl b s d))

/-- The gradient of gate `n`'s logits. -/
def logitGrad (n : ℕ) (hn : n < 4) (br gl : FVec Ideal S4096x1024 .f32) (b : FVec Ideal S4096 .f32) (ct : FVec Ideal S4096x1024 .f32) :
    FVec Ideal S4096x1024 .bf16 :=
  fun i => logitAt n hn br gl b ct (i 0) (i 1)

/-- The gradient of part `n` of the bias: the logits' gradient summed over the tokens. -/
def biasGrad (n : ℕ) (hn : n < 4) (br gl : FVec Ideal S4096x1024 .f32) (b : FVec Ideal S4096 .f32) (ct : FVec Ideal S4096x1024 .f32) :
    FVec Ideal S1x1024 .f32 :=
  fun j => ∑ s : Fin 4096, logitAt n hn br gl b ct s (j 1)

/-- Where each window's block lies at a point: the row windows walk down the tokens, the bias windows stay. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

variable (m : (ℓ : Loc nD τ sig) → Buf (Elt Ideal) ℓ) (c : Dev nD)

/-- The call's gradient of branch 0. -/
theorem final_13 : (dats m 0 c).arrAt 13 cfg0.N = branchGrad 0 (by omega) (m ((c : Thread nD τ).loc main_arg4)) (m ((c : Thread nD τ).loc main_arg8)) (m ((c : Thread nD τ).loc main_arg9)) := by
  refine (dats m 0 c).arrAt_eq_of_covers 13 _ (by decide +kernel) fun t hf y => ?_
  blk_simp
  rw [after_13]
  pointwise [dBranch, gate, branchGrad, gateAt]
  blk_point [iblk, V, idx t]

/-- The call's gradient of gate 0's logits. -/
theorem final_17 : (dats m 0 c).arrAt 17 cfg0.N = logitGrad 0 (by omega) (m ((c : Thread nD τ).loc main_arg0)) (m ((c : Thread nD τ).loc main_arg4)) (m ((c : Thread nD τ).loc main_arg8)) (m ((c : Thread nD τ).loc main_arg9)) := by
  refine (dats m 0 c).arrAt_eq_of_covers 17 _ (by decide +kernel) fun t hf y => ?_
  blk_simp
  rw [after_17]
  pointwise [dLogit, gate, logitGrad, logitAt, gateAt]
  blk_point [iblk, V, idx t]

/-- The call's gradient of part 0 of the bias. -/
theorem final_21 : (dats m 0 c).arrAt 21 cfg0.N = biasGrad 0 (by omega) (m ((c : Thread nD τ).loc main_arg0)) (m ((c : Thread nD τ).loc main_arg4)) (m ((c : Thread nD τ).loc main_arg8)) (m ((c : Thread nD τ).loc main_arg9)) := by
  refine (dats m 0 c).arrAt_eq_of_after_last 21 t0_15 (by decide +kernel) _ fun j => ?_
  blk_simp
  rw [after_21]
  rw [Pipeline.eq_sum_fin_of_reset_step_apply_last (accum (sums_0 m c)) 16 (fun _ => 0) (fun t j => sums_0 m c t j)
    (fun t h j => by rw [accum_first _ t h, zero_add]) (fun t h j => by rw [accum_later _ t h]; rfl) (le_of_eq N_0) t0_15 rfl j, zero_add]
  pointwise [sums_0, dBias, dLogit, gate, biasGrad, logitAt, gateAt]
  refine Fin.sum_mul_add_congr fun t k hk => ?_
  blk_point [iblk, V, idx t]

/-- The call's gradient of branch 1. -/
theorem final_14 : (dats m 0 c).arrAt 14 cfg0.N = branchGrad 1 (by omega) (m ((c : Thread nD τ).loc main_arg5)) (m ((c : Thread nD τ).loc main_arg8)) (m ((c : Thread nD τ).loc main_arg9)) := by
  refine (dats m 0 c).arrAt_eq_of_covers 14 _ (by decide +kernel) fun t hf y => ?_
  blk_simp
  rw [after_14]
  pointwise [dBranch, gate, branchGrad, gateAt]
  blk_point [iblk, V, idx t]

/-- The call's gradient of gate 1's logits. -/
theorem final_18 : (dats m 0 c).arrAt 18 cfg0.N = logitGrad 1 (by omega) (m ((c : Thread nD τ).loc main_arg1)) (m ((c : Thread nD τ).loc main_arg5)) (m ((c : Thread nD τ).loc main_arg8)) (m ((c : Thread nD τ).loc main_arg9)) := by
  refine (dats m 0 c).arrAt_eq_of_covers 18 _ (by decide +kernel) fun t hf y => ?_
  blk_simp
  rw [after_18]
  pointwise [dLogit, gate, logitGrad, logitAt, gateAt]
  blk_point [iblk, V, idx t]

/-- The call's gradient of part 1 of the bias. -/
theorem final_22 : (dats m 0 c).arrAt 22 cfg0.N = biasGrad 1 (by omega) (m ((c : Thread nD τ).loc main_arg1)) (m ((c : Thread nD τ).loc main_arg5)) (m ((c : Thread nD τ).loc main_arg8)) (m ((c : Thread nD τ).loc main_arg9)) := by
  refine (dats m 0 c).arrAt_eq_of_after_last 22 t0_15 (by decide +kernel) _ fun j => ?_
  blk_simp
  rw [after_22]
  rw [Pipeline.eq_sum_fin_of_reset_step_apply_last (accum (sums_1 m c)) 16 (fun _ => 0) (fun t j => sums_1 m c t j)
    (fun t h j => by rw [accum_first _ t h, zero_add]) (fun t h j => by rw [accum_later _ t h]; rfl) (le_of_eq N_0) t0_15 rfl j, zero_add]
  pointwise [sums_1, dBias, dLogit, gate, biasGrad, logitAt, gateAt]
  refine Fin.sum_mul_add_congr fun t k hk => ?_
  blk_point [iblk, V, idx t]

/-- The call's gradient of branch 2. -/
theorem final_15 : (dats m 0 c).arrAt 15 cfg0.N = branchGrad 2 (by omega) (m ((c : Thread nD τ).loc main_arg6)) (m ((c : Thread nD τ).loc main_arg8)) (m ((c : Thread nD τ).loc main_arg9)) := by
  refine (dats m 0 c).arrAt_eq_of_covers 15 _ (by decide +kernel) fun t hf y => ?_
  blk_simp
  rw [after_15]
  pointwise [dBranch, gate, branchGrad, gateAt]
  blk_point [iblk, V, idx t]

/-- The call's gradient of gate 2's logits. -/
theorem final_19 : (dats m 0 c).arrAt 19 cfg0.N = logitGrad 2 (by omega) (m ((c : Thread nD τ).loc main_arg2)) (m ((c : Thread nD τ).loc main_arg6)) (m ((c : Thread nD τ).loc main_arg8)) (m ((c : Thread nD τ).loc main_arg9)) := by
  refine (dats m 0 c).arrAt_eq_of_covers 19 _ (by decide +kernel) fun t hf y => ?_
  blk_simp
  rw [after_19]
  pointwise [dLogit, gate, logitGrad, logitAt, gateAt]
  blk_point [iblk, V, idx t]

/-- The call's gradient of part 2 of the bias. -/
theorem final_23 : (dats m 0 c).arrAt 23 cfg0.N = biasGrad 2 (by omega) (m ((c : Thread nD τ).loc main_arg2)) (m ((c : Thread nD τ).loc main_arg6)) (m ((c : Thread nD τ).loc main_arg8)) (m ((c : Thread nD τ).loc main_arg9)) := by
  refine (dats m 0 c).arrAt_eq_of_after_last 23 t0_15 (by decide +kernel) _ fun j => ?_
  blk_simp
  rw [after_23]
  rw [Pipeline.eq_sum_fin_of_reset_step_apply_last (accum (sums_2 m c)) 16 (fun _ => 0) (fun t j => sums_2 m c t j)
    (fun t h j => by rw [accum_first _ t h, zero_add]) (fun t h j => by rw [accum_later _ t h]; rfl) (le_of_eq N_0) t0_15 rfl j, zero_add]
  pointwise [sums_2, dBias, dLogit, gate, biasGrad, logitAt, gateAt]
  refine Fin.sum_mul_add_congr fun t k hk => ?_
  blk_point [iblk, V, idx t]

/-- The call's gradient of branch 3. -/
theorem final_16 : (dats m 0 c).arrAt 16 cfg0.N = branchGrad 3 (by omega) (m ((c : Thread nD τ).loc main_arg7)) (m ((c : Thread nD τ).loc main_arg8)) (m ((c : Thread nD τ).loc main_arg9)) := by
  refine (dats m 0 c).arrAt_eq_of_covers 16 _ (by decide +kernel) fun t hf y => ?_
  blk_simp
  rw [after_16]
  pointwise [dBranch, gate, branchGrad, gateAt]
  blk_point [iblk, V, idx t]

/-- The call's gradient of gate 3's logits. -/
theorem final_20 : (dats m 0 c).arrAt 20 cfg0.N = logitGrad 3 (by omega) (m ((c : Thread nD τ).loc main_arg3)) (m ((c : Thread nD τ).loc main_arg7)) (m ((c : Thread nD τ).loc main_arg8)) (m ((c : Thread nD τ).loc main_arg9)) := by
  refine (dats m 0 c).arrAt_eq_of_covers 20 _ (by decide +kernel) fun t hf y => ?_
  blk_simp
  rw [after_20]
  pointwise [dLogit, gate, logitGrad, logitAt, gateAt]
  blk_point [iblk, V, idx t]

/-- The call's gradient of part 3 of the bias. -/
theorem final_24 : (dats m 0 c).arrAt 24 cfg0.N = biasGrad 3 (by omega) (m ((c : Thread nD τ).loc main_arg3)) (m ((c : Thread nD τ).loc main_arg7)) (m ((c : Thread nD τ).loc main_arg8)) (m ((c : Thread nD τ).loc main_arg9)) := by
  refine (dats m 0 c).arrAt_eq_of_after_last 24 t0_15 (by decide +kernel) _ fun j => ?_
  blk_simp
  rw [after_24]
  rw [Pipeline.eq_sum_fin_of_reset_step_apply_last (accum (sums_3 m c)) 16 (fun _ => 0) (fun t j => sums_3 m c t j)
    (fun t h j => by rw [accum_first _ t h, zero_add]) (fun t h j => by rw [accum_later _ t h]; rfl) (le_of_eq N_0) t0_15 rfl j, zero_add]
  pointwise [sums_3, dBias, dLogit, gate, biasGrad, logitAt, gateAt]
  refine Fin.sum_mul_add_congr fun t k hk => ?_
  blk_point [iblk, V, idx t]

/-- The run of the call: its twelve results, the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v8_0) = branchGrad 0 (by omega) (m ((c : Thread nD τ).loc main_arg4)) (m ((c : Thread nD τ).loc main_arg8)) (m ((c : Thread nD τ).loc main_arg9))
      ∧ r.2.mem ((c.tc : Thread nD τ).loc main_v8_1) = branchGrad 1 (by omega) (m ((c : Thread nD τ).loc main_arg5)) (m ((c : Thread nD τ).loc main_arg8)) (m ((c : Thread nD τ).loc main_arg9))
      ∧ r.2.mem ((c.tc : Thread nD τ).loc main_v8_2) = branchGrad 2 (by omega) (m ((c : Thread nD τ).loc main_arg6)) (m ((c : Thread nD τ).loc main_arg8)) (m ((c : Thread nD τ).loc main_arg9))
      ∧ r.2.mem ((c.tc : Thread nD τ).loc main_v8_3) = branchGrad 3 (by omega) (m ((c : Thread nD τ).loc main_arg7)) (m ((c : Thread nD τ).loc main_arg8)) (m ((c : Thread nD τ).loc main_arg9))
      ∧ r.2.mem ((c.tc : Thread nD τ).loc main_v8_4) = logitGrad 0 (by omega) (m ((c : Thread nD τ).loc main_arg0)) (m ((c : Thread nD τ).loc main_arg4)) (m ((c : Thread nD τ).loc main_arg8)) (m ((c : Thread nD τ).loc main_arg9))
      ∧ r.2.mem ((c.tc : Thread nD τ).loc main_v8_5) = logitGrad 1 (by omega) (m ((c : Thread nD τ).loc main_arg1)) (m ((c : Thread nD τ).loc main_arg5)) (m ((c : Thread nD τ).loc main_arg8)) (m ((c : Thread nD τ).loc main_arg9))
      ∧ r.2.mem ((c.tc : Thread nD τ).loc main_v8_6) = logitGrad 2 (by omega) (m ((c : Thread nD τ).loc main_arg2)) (m ((c : Thread nD τ).loc main_arg6)) (m ((c : Thread nD τ).loc main_arg8)) (m ((c : Thread nD τ).loc main_arg9))
      ∧ r.2.mem ((c.tc : Thread nD τ).loc main_v8_7) = logitGrad 3 (by omega) (m ((c : Thread nD τ).loc main_arg3)) (m ((c : Thread nD τ).loc main_arg7)) (m ((c : Thread nD τ).loc main_arg8)) (m ((c : Thread nD τ).loc main_arg9))
      ∧ r.2.mem ((c.tc : Thread nD τ).loc main_v8_8) = biasGrad 0 (by omega) (m ((c : Thread nD τ).loc main_arg0)) (m ((c : Thread nD τ).loc main_arg4)) (m ((c : Thread nD τ).loc main_arg8)) (m ((c : Thread nD τ).loc main_arg9))
      ∧ r.2.mem ((c.tc : Thread nD τ).loc main_v8_9) = biasGrad 1 (by omega) (m ((c : Thread nD τ).loc main_arg1)) (m ((c : Thread nD τ).loc main_arg5)) (m ((c : Thread nD τ).loc main_arg8)) (m ((c : Thread nD τ).loc main_arg9))
      ∧ r.2.mem ((c.tc : Thread nD τ).loc main_v8_10) = biasGrad 2 (by omega) (m ((c : Thread nD τ).loc main_arg2)) (m ((c : Thread nD τ).loc main_arg6)) (m ((c : Thread nD τ).loc main_arg8)) (m ((c : Thread nD τ).loc main_arg9))
      ∧ r.2.mem ((c.tc : Thread nD τ).loc main_v8_11) = biasGrad 3 (by omega) (m ((c : Thread nD τ).loc main_arg3)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).1 13).trans (final_13 m c),
      ((h.1 c).1 14).trans (final_14 m c),
      ((h.1 c).1 15).trans (final_15 m c),
      ((h.1 c).1 16).trans (final_16 m c),
      ((h.1 c).1 17).trans (final_17 m c),
      ((h.1 c).1 18).trans (final_18 m c),
      ((h.1 c).1 19).trans (final_19 m c),
      ((h.1 c).1 20).trans (final_20 m c),
      ((h.1 c).1 21).trans (final_21 m c),
      ((h.1 c).1 22).trans (final_22 m c),
      ((h.1 c).1 23).trans (final_23 m c),
      ((h.1 c).1 24).trans (final_24 m c),
      h.2.1 c⟩)
    (θ_run_and (run_main m ρ) (frame m ρ))

end Cert.KernelIdeal.Merge

end
-- ==== Proof.MergeReference.lean ====
module

public import proofs.«01_k».proof.Proof.Gen.ReferenceIdeal.Run
public import proofs.«01_k».proof.Proof.MergeValue
public import Idealize.ShloMosaic.Lib.Pipeline.ValueKit
public import Idealize.ShloMosaic.Lib.Claim

@[expose] public section

set_option maxRecDepth 16384

noncomputable section

namespace Cert.ReferenceIdeal.Merge

open Cert.ReferenceIdeal Cert.ReferenceIdeal.Gen
open Cert.KernelIdeal.Merge (gateAt branchGrad logitAt logitGrad biasGrad)
open Idealize.ShloMosaic Idealize.ShloMosaic.TcCoe Idealize.SL.Sem

/-- A row of ones, as the reference spells it. -/
def ones : FVec Ideal S4096x4096 .f32 := broadcastInDim S4096x4096 ![] bcast_S_S4096x4096 (constant S_ .f32 0x3F800000#32)

/-- The four gates side by side, as the reference computes them. -/
def gates (l0 l1 l2 l3 : FVec Ideal S4096x1024 .f32) (b : FVec Ideal S4096 .f32) : FVec Ideal S4096x4096 .f32 :=
  Host.divf ones (addf ones (Host.exp (Host.negf (addf
    (concatenate S4096x4096 1 [⟨S4096x1024, l0⟩, ⟨S4096x1024, l1⟩, ⟨S4096x1024, l2⟩, ⟨S4096x1024, l3⟩]
      concatenates_S4096x1024_S4096x1024_S4096x1024_S4096x1024_S4096x4096_d1)
    (broadcastInDim S4096x4096 ![0, 1] bcast_S1x4096_S4096x4096_0_1 (broadcastInDim S1x4096 ![1] bcast_S4096_S1x4096_1 b))))))

/-- The four branches stacked. -/
def branches (b0 b1 b2 b3 : FVec Ideal S4096x1024 .f32) : FVec Ideal S4096x4x1024 .f32 :=
  concatenate S4096x4x1024 1 [⟨S4096x1x1024, broadcastInDim S4096x1x1024 ![0, 2] bcast_S4096x1024_S4096x1x1024_0_2 b0⟩,
      ⟨S4096x1x1024, broadcastInDim S4096x1x1024 ![0, 2] bcast_S4096x1024_S4096x1x1024_0_2 b1⟩,
      ⟨S4096x1x1024, broadcastInDim S4096x1x1024 ![0, 2] bcast_S4096x1024_S4096x1x1024_0_2 b2⟩,
      ⟨S4096x1x1024, broadcastInDim S4096x1x1024 ![0, 2] bcast_S4096x1024_S4096x1x1024_0_2 b3⟩]
    concatenates_S4096x1x1024_S4096x1x1024_S4096x1x1024_S4096x1x1024_S4096x4x1024_d1

/-- The gradient of the merged rows, repeated for the four branches. -/
def spread (ct : FVec Ideal S4096x1024 .f32) : FVec Ideal S4096x4x1024 .f32 :=
  broadcastInDim S4096x4x1024 ![0, 2] bcast_S4096x1024_S4096x4x1024_0_2 ct

/-- The gradients of the four branches. -/
def dBranches (l0 l1 l2 l3 : FVec Ideal S4096x1024 .f32) (b : FVec Ideal S4096 .f32) (ct : FVec Ideal S4096x1024 .f32) : FVec Ideal S4096x4x1024 .f32 :=
  mulf (shapeCast S4096x4x1024 (gates l0 l1 l2 l3 b) shapeCasts_S4096x4096_S4096x4x1024) (spread ct)

/-- The gradients of the four gates' logits, side by side. -/
def dLogits (b0 b1 b2 b3 l0 l1 l2 l3 : FVec Ideal S4096x1024 .f32) (b : FVec Ideal S4096 .f32) (ct : FVec Ideal S4096x1024 .f32) : FVec Ideal S4096x4096 .f32 :=
  mulf (shapeCast S4096x4096 (mulf (spread ct) (branches b0 b1 b2 b3)) shapeCasts_S4096x4x1024_S4096x4096)
    (mulf (gates l0 l1 l2 l3 b) (subf ones (gates l0 l1 l2 l3 b)))

/-- The bias vector's gradient. -/
def dBiases (b0 b1 b2 b3 l0 l1 l2 l3 : FVec Ideal S4096x1024 .f32) (b : FVec Ideal S4096 .f32) (ct : FVec Ideal S4096x1024 .f32) : FVec Ideal S4096 .f32 :=
  Host.reduceAdd (shapeCast S1x4096 (Host.reduceAdd (dLogits b0 b1 b2 b3 l0 l1 l2 l3 b ct) (constant S_ .f32 0x00000000#32)
    reducesTo_S4096x4096_S4096_d0 h_S_) shapeCasts_S4096_S1x4096) (constant S_ .f32 0x00000000#32) reducesTo_S1x4096_S4096_d0 h_S_

variable (b0 b1 b2 b3 l0 l1 l2 l3 ct : FVec Ideal S4096x1024 .f32) (b : FVec Ideal S4096 .f32)

/-- Part 0 of the gates, at a token and channel. -/
theorem gates_0 (s : Fin 4096) (d : Fin 1024) :
    gates l0 l1 l2 l3 b (ix2 s ⟨d.val, by omega⟩) = gateAt 0 (by omega) l0 b s d := by
  pointwise [gates, ones, gateAt]
  rfl

/-- Part 0 of the logits' gradients, at a token and channel. -/
theorem logits_0 (s : Fin 4096) (d : Fin 1024) :
    dLogits b0 b1 b2 b3 l0 l1 l2 l3 b ct (ix2 s ⟨d.val, by omega⟩) = logitAt 0 (by omega) b0 l0 b ct s d := by
  pointwise [dLogits, spread, branches, logitAt, ones]
  have hq : d.val / 1024 < 1 := by omega
  simp only [dif_pos hq, Nat.mod_eq_of_lt d.isLt, gates_0]

/-- The reference's gradient of branch 0. -/
theorem branch_0 : (truncf .bf16 (shapeCast S4096x1024 (extractStridedSlice S4096x1x1024 ![0, 0, 0] (dBranches l0 l1 l2 l3 b ct)
    slices_S4096x4x1024_S4096x1x1024_0_0_0) shapeCasts_S4096x1x1024_S4096x1024) bitsLt_bf16_f32 : FVec Ideal S4096x1024 .bf16)
    = branchGrad 0 (by omega) l0 b ct := by
  funext i
  pointwise [dBranches, spread, branchGrad]
  exact congrArg (· * ct i) (gates_0 l0 l1 l2 l3 b (i 0) (i 1))

/-- The reference's gradient of gate 0's logits. -/
theorem logit_0 : (truncf .bf16 (extractStridedSlice S4096x1024 ![0, 0] (dLogits b0 b1 b2 b3 l0 l1 l2 l3 b ct)
    slices_S4096x4096_S4096x1024_0_0) bitsLt_bf16_f32 : FVec Ideal S4096x1024 .bf16)
    = logitGrad 0 (by omega) b0 l0 b ct := by
  funext i
  pointwise [logitGrad]
  exact logits_0 b0 b1 b2 b3 l0 l1 l2 l3 ct b (i 0) (i 1)

/-- The reference's gradient of part 0 of the bias. -/
theorem bias_0 : (shapeCast S1x1024 (extractStridedSlice S1024 ![0] (dBiases b0 b1 b2 b3 l0 l1 l2 l3 b ct)
    slices_S4096_S1024_0) shapeCasts_S1024_S1x1024 : FVec Ideal S1x1024 .f32)
    = biasGrad 0 (by omega) b0 l0 b ct := by
  funext j
  pointwise [dBiases, biasGrad]
  rw [Fin.sum_univ_one]
  exact Finset.sum_congr rfl fun s _ => logits_0 b0 b1 b2 b3 l0 l1 l2 l3 ct b s (j 1)

/-- Part 1 of the gates, at a token and channel. -/
theorem gates_1 (s : Fin 4096) (d : Fin 1024) :
    gates l0 l1 l2 l3 b (ix2 s ⟨1024 + d.val, by omega⟩) = gateAt 1 (by omega) l1 b s d := by
  pointwise [gates, ones, gateAt]
  rfl

/-- Part 1 of the logits' gradients, at a token and channel. -/
theorem logits_1 (s : Fin 4096) (d : Fin 1024) :
    dLogits b0 b1 b2 b3 l0 l1 l2 l3 b ct (ix2 s ⟨1024 + d.val, by omega⟩) = logitAt 1 (by omega) b1 l1 b ct s d := by
  pointwise [dLogits, spread, branches, logitAt, ones]
  have hq : (1024 + d.val) / 1024 = 1 := by omega
  have hr : (1024 + d.val) % 1024 = d.val := by omega
  simp [hq, hr, gates_1]

/-- The reference's gradient of branch 1. -/
theorem branch_1 : (truncf .bf16 (shapeCast S4096x1024 (extractStridedSlice S4096x1x1024 ![0, 1, 0] (dBranches l0 l1 l2 l3 b ct)
    slices_S4096x4x1024_S4096x1x1024_0_1_0) shapeCasts_S4096x1x1024_S4096x1024) bitsLt_bf16_f32 : FVec Ideal S4096x1024 .bf16)
    = branchGrad 1 (by omega) l1 b ct := by
  funext i
  pointwise [dBranches, spread, branchGrad]
  exact congrArg (· * ct i) (gates_1 l0 l1 l2 l3 b (i 0) (i 1))

/-- The reference's gradient of gate 1's logits. -/
theorem logit_1 : (truncf .bf16 (extractStridedSlice S4096x1024 ![0, 1024] (dLogits b0 b1 b2 b3 l0 l1 l2 l3 b ct)
    slices_S4096x4096_S4096x1024_0_1024) bitsLt_bf16_f32 : FVec Ideal S4096x1024 .bf16)
    = logitGrad 1 (by omega) b1 l1 b ct := by
  funext i
  pointwise [logitGrad]
  exact logits_1 b0 b1 b2 b3 l0 l1 l2 l3 ct b (i 0) (i 1)

/-- The reference's gradient of part 1 of the bias. -/
theorem bias_1 : (shapeCast S1x1024 (extractStridedSlice S1024 ![1024] (dBiases b0 b1 b2 b3 l0 l1 l2 l3 b ct)
    slices_S4096_S1024_1024) shapeCasts_S1024_S1x1024 : FVec Ideal S1x1024 .f32)
    = biasGrad 1 (by omega) b1 l1 b ct := by
  funext j
  pointwise [dBiases, biasGrad]
  rw [Fin.sum_univ_one]
  exact Finset.sum_congr rfl fun s _ => logits_1 b0 b1 b2 b3 l0 l1 l2 l3 ct b s (j 1)

/-- Part 2 of the gates, at a token and channel. -/
theorem gates_2 (s : Fin 4096) (d : Fin 1024) :
    gates l0 l1 l2 l3 b (ix2 s ⟨2048 + d.val, by omega⟩) = gateAt 2 (by omega) l2 b s d := by
  pointwise [gates, ones, gateAt]
  have e0 : ¬ 2048 + d.val < 1024 := by omega
  have e1 : ¬ 2048 + d.val - 1024 < 1024 := by omega
  have e2 : 2048 + d.val - 1024 - 1024 < 1024 := by omega
  have e3 : 2048 + d.val - 1024 - 1024 = d.val := by omega
  simp only [dif_neg e0, dif_neg e1, e3, dif_pos d.isLt]
  rfl

/-- Part 2 of the logits' gradients, at a token and channel. -/
theorem logits_2 (s : Fin 4096) (d : Fin 1024) :
    dLogits b0 b1 b2 b3 l0 l1 l2 l3 b ct (ix2 s ⟨2048 + d.val, by omega⟩) = logitAt 2 (by omega) b2 l2 b ct s d := by
  pointwise [dLogits, spread, branches, logitAt, ones]
  have hq : (2048 + d.val) / 1024 = 2 := by omega
  have hr : (2048 + d.val) % 1024 = d.val := by omega
  simp [hq, hr, gates_2]

/-- The reference's gradient of branch 2. -/
theorem branch_2 : (truncf .bf16 (shapeCast S4096x1024 (extractStridedSlice S4096x1x1024 ![0, 2, 0] (dBranches l0 l1 l2 l3 b ct)
    slices_S4096x4x1024_S4096x1x1024_0_2_0) shapeCasts_S4096x1x1024_S4096x1024) bitsLt_bf16_f32 : FVec Ideal S4096x1024 .bf16)
    = branchGrad 2 (by omega) l2 b ct := by
  funext i
  pointwise [dBranches, spread, branchGrad]
  exact congrArg (· * ct i) (gates_2 l0 l1 l2 l3 b (i 0) (i 1))

/-- The reference's gradient of gate 2's logits. -/
theorem logit_2 : (truncf .bf16 (extractStridedSlice S4096x1024 ![0, 2048] (dLogits b0 b1 b2 b3 l0 l1 l2 l3 b ct)
    slices_S4096x4096_S4096x1024_0_2048) bitsLt_bf16_f32 : FVec Ideal S4096x1024 .bf16)
    = logitGrad 2 (by omega) b2 l2 b ct := by
  funext i
  pointwise [logitGrad]
  exact logits_2 b0 b1 b2 b3 l0 l1 l2 l3 ct b (i 0) (i 1)

/-- The reference's gradient of part 2 of the bias. -/
theorem bias_2 : (shapeCast S1x1024 (extractStridedSlice S1024 ![2048] (dBiases b0 b1 b2 b3 l0 l1 l2 l3 b ct)
    slices_S4096_S1024_2048) shapeCasts_S1024_S1x1024 : FVec Ideal S1x1024 .f32)
    = biasGrad 2 (by omega) b2 l2 b ct := by
  funext j
  pointwise [dBiases, biasGrad]
  rw [Fin.sum_univ_one]
  exact Finset.sum_congr rfl fun s _ => logits_2 b0 b1 b2 b3 l0 l1 l2 l3 ct b s (j 1)

/-- Part 3 of the gates, at a token and channel. -/
theorem gates_3 (s : Fin 4096) (d : Fin 1024) :
    gates l0 l1 l2 l3 b (ix2 s ⟨3072 + d.val, by omega⟩) = gateAt 3 (by omega) l3 b s d := by
  pointwise [gates, ones, gateAt]
  have e0 : ¬ 3072 + d.val < 1024 := by omega
  have e1 : ¬ 3072 + d.val - 1024 < 1024 := by omega
  have e2 : ¬ 3072 + d.val - 1024 - 1024 < 1024 := by omega
  have e3 : 3072 + d.val - 1024 - 1024 - 1024 = d.val := by omega
  simp only [dif_neg e0, dif_neg e1, dif_neg e2, e3]
  rfl

/-- Part 3 of the logits' gradients, at a token and channel. -/
theorem logits_3 (s : Fin 4096) (d : Fin 1024) :
    dLogits b0 b1 b2 b3 l0 l1 l2 l3 b ct (ix2 s ⟨3072 + d.val, by omega⟩) = logitAt 3 (by omega) b3 l3 b ct s d := by
  pointwise [dLogits, spread, branches, logitAt, ones]
  have hq : (3072 + d.val) / 1024 = 3 := by omega
  have hr : (3072 + d.val) % 1024 = d.val := by omega
  simp [hq, hr, gates_3]

/-- The reference's gradient of branch 3. -/
theorem branch_3 : (truncf .bf16 (shapeCast S4096x1024 (extractStridedSlice S4096x1x1024 ![0, 3, 0] (dBranches l0 l1 l2 l3 b ct)
    slices_S4096x4x1024_S4096x1x1024_0_3_0) shapeCasts_S4096x1x1024_S4096x1024) bitsLt_bf16_f32 : FVec Ideal S4096x1024 .bf16)
    = branchGrad 3 (by omega) l3 b ct := by
  funext i
  pointwise [dBranches, spread, branchGrad]
  exact congrArg (· * ct i) (gates_3 l0 l1 l2 l3 b (i 0) (i 1))

/-- The reference's gradient of gate 3's logits. -/
theorem logit_3 : (truncf .bf16 (extractStridedSlice S4096x1024 ![0, 3072] (dLogits b0 b1 b2 b3 l0 l1 l2 l3 b ct)
    slices_S4096x4096_S4096x1024_0_3072) bitsLt_bf16_f32 : FVec Ideal S4096x1024 .bf16)
    = logitGrad 3 (by omega) b3 l3 b ct := by
  funext i
  pointwise [logitGrad]
  exact logits_3 b0 b1 b2 b3 l0 l1 l2 l3 ct b (i 0) (i 1)

/-- The reference's gradient of part 3 of the bias. -/
theorem bias_3 : (shapeCast S1x1024 (extractStridedSlice S1024 ![3072] (dBiases b0 b1 b2 b3 l0 l1 l2 l3 b ct)
    slices_S4096_S1024_3072) shapeCasts_S1024_S1x1024 : FVec Ideal S1x1024 .f32)
    = biasGrad 3 (by omega) b3 l3 b ct := by
  funext j
  pointwise [dBiases, biasGrad]
  rw [Fin.sum_univ_one]
  exact Finset.sum_congr rfl fun s _ => logits_3 b0 b1 b2 b3 l0 l1 l2 l3 ct b s (j 1)

end Cert.ReferenceIdeal.Merge

end
-- ==== Proof.MergeSame.lean ====
module

public import proofs.«01_k».proof.Defs
public import proofs.«01_k».proof.Proof.Gen.Kernel
public import proofs.«01_k».proof.Proof.MergeFrame
public import Idealize.ShloMosaic.Lib.Claim

@[expose] public section

set_option maxRecDepth 16384

noncomputable section

namespace Cert.KernelIdeal.Merge

open Idealize.ShloMosaic Idealize.ShloMosaic.TcCoe Idealize.SL.Sem

/-- The frame of the idealized program's text, read at the machine's own floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

/-- The kernel's program has the same text as the idealized one, so its frame is that one read at the machine's floats. -/
theorem same_text : Cert.quiescent_Kernel = FrameAtBits := by
  sl_kernel_rfl

/-- The frame of the kernel's program. -/
theorem frame_kernel : Cert.quiescent_Kernel :=
  same_text.mpr fun m ρ _ => frame (F := Bits) m ρ

end Cert.KernelIdeal.Merge

end
-- ==== Proof.DxValue.lean ====
/-
  The gradient of the merge's input rows, `dlogits · w_mergeᵀ`: the call adds the four gates' products, the reference contracts
  the four side by side.
-/
module

public import proofs.«01_k».proof.Proof.Gen.KernelDxIdeal.Frame
public import proofs.«01_k».proof.Proof.Gen.ReferenceDxIdeal.Run
public import Idealize.ShloMosaic.Lib.Pipeline.ValueKit
public import Idealize.ShloMosaic.Lib.Claim

@[expose] public section

set_option maxRecDepth 16384

noncomputable section

namespace Cert.KernelDxIdeal.Merge

open Cert.KernelDxIdeal Cert.KernelDxIdeal.Gen
open Idealize.ShloMosaic Idealize.ShloMosaic.TcCoe Idealize.SL.Sem
open Idealize.ShloMosaic.Pipeline (Dat)

/-- The reference's term: the four logits' gradients side by side, times the transposed weights. -/
def rowsGrad (w : FVec Ideal S1024x4096 .f32) (d0 d1 d2 d3 : FVec Ideal S4096x1024 .bf16) : FVec Ideal S4096x1024 .f32 :=
  Host.dotGeneral Cert.ReferenceDxIdeal.dot_S4096x4096_S1024x4096_S4096x1024_1_1_0_0_n_n none
    (extf .f32 (concatenate Cert.ReferenceDxIdeal.S4096x4096 1 [⟨S4096x1024, d0⟩, ⟨S4096x1024, d1⟩, ⟨S4096x1024, d2⟩, ⟨S4096x1024, d3⟩]
      Cert.ReferenceDxIdeal.Gen.concatenates_S4096x1024_S4096x1024_S4096x1024_S4096x1024_S4096x4096_d1) Cert.ReferenceDxIdeal.Gen.bitsLt_bf16_f32) w

/-- Where each window's block lies: the rows walk down the tokens, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- A sum over 4096 columns is the sum of the four sums over 1024. -/
theorem sum_quarters (f : Fin 4096 → EReal) : ∑ k, f k
    = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  have h := Fin.sum_univ_add (a := 3072) (b := 1024) (show Fin (3072 + 1024) → EReal from f)
  have h2 := Fin.sum_univ_add (a := 2048) (b := 1024) (fun k => f (Fin.castAdd 1024 k))
  have h3 := Fin.sum_univ_add (a := 1024) (b := 1024) (fun k => f (Fin.castAdd 1024 (Fin.castAdd 1024 k)))
  exact h.trans (congrArg (· + _) (h2.trans (congrArg (· + _) h3)))

/-- The reference's term at a row and column, as the four gates' sums. -/
theorem rowsGrad_apply (w : FVec Ideal S1024x4096 .f32) (d0 d1 d2 d3 : FVec Ideal S4096x1024 .bf16) (j : S4096x1024.Idx) :
    rowsGrad w d0 d1 d2 d3 j = (∑ k : Fin 1024, d0 (ix2 (j 0) k) * w (ix2 (j 1) ⟨k.val, by omega⟩))
      + (∑ k : Fin 1024, d1 (ix2 (j 0) k) * w (ix2 (j 1) ⟨1024 + k.val, by omega⟩))
      + (∑ k : Fin 1024, d2 (ix2 (j 0) k) * w (ix2 (j 1) ⟨2048 + k.val, by omega⟩))
      + (∑ k : Fin 1024, d3 (ix2 (j 0) k) * w (ix2 (j 1) ⟨3072 + k.val, by omega⟩)) := by
  pointwise [rowsGrad]
  rw [sum_quarters]
  rfl

variable (m : (ℓ : Loc nD τ sig) → Buf (Elt Ideal) ℓ) (c : Dev nD)

/-- The call's result. -/
theorem final : (dats m 0 c).arrAt 5 cfg0.N = rowsGrad (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  refine Eq.trans ?_ (rowsGrad_apply _ _ _ _ _ _).symm
  pointwise [k0_pay1]
  blk_point [iblk, V, idx t]

end Cert.KernelDxIdeal.Merge

end
-- ==== Proof.DxClaims.lean ====
/-
  The five claims on the call of the gradient of the merge's input rows.
-/
module

public import proofs.«01_k».proof.Defs
public import proofs.«01_k».proof.Proof.Gen.KernelDx
public import proofs.«01_k».proof.Proof.Gen.KernelDxIdeal.Value
public import proofs.«01_k».proof.Proof.DxValue
public import Idealize.ShloMosaic.Lib.Claim
public import Idealize.ShloMosaic.Adequacy
public import Idealize.ShloMosaic.Init

@[expose] public section

set_option maxRecDepth 16384

noncomputable section

namespace Cert.KernelDxIdeal.Merge

open Idealize.ShloMosaic Idealize.ShloMosaic.TcCoe Idealize.SL.Sem

/-- The frame of the idealized program's text, read at the machine's own floats. -/
def FrameAtBits : Prop :=
  ∀ (m : (ℓ : Loc Cert.KernelDxIdeal.nD Cert.KernelDxIdeal.τ Cert.KernelDxIdeal.sig) → Buf (Elt Bits) ℓ) (g : Dev Cert.KernelDxIdeal.nD → PrngReg), True →
    θ_run (Cert.KernelDxIdeal.defs (F := Bits)) (onTc (τ := Cert.KernelDxIdeal.τ) (Cert.KernelDxIdeal.main (F := Bits))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

/-- The kernel's program has the same text as the idealized one, so its frame is that one read at the machine's floats. -/
theorem same_text : Cert.quiescent_KernelDx = FrameAtBits := by
  sl_kernel_rfl

/-- Every run of the kernel's program ends in a quiescent state. -/
theorem frame_kernel : Cert.quiescent_KernelDx :=
  same_text.mpr fun m ρ _ => Cert.KernelDxIdeal.Gen.frame (F := Bits) m ρ

/-- Every run of the idealized kernel ends in a quiescent state. -/
theorem frame_ideal : Cert.quiescent_KernelDxIdeal := fun m ρ _ => Cert.KernelDxIdeal.Gen.frame m ρ

/-- Every run of the idealized reference ends in a quiescent state. -/
theorem frame_reference : Cert.quiescent_ReferenceDxIdeal := by
  intro m g _
  refine (θ_run _ _ _).mono (fun r h => ⟨fun c => (h c).2, sem_eq_zero_of_no_sems (by decide) r.2⟩) (Cert.ReferenceDxIdeal.Value.run m g)

/-- Idealizing the kernel rewrites nothing. -/
theorem preserves : Cert.preserves_KernelDx_KernelDxIdeal := trivial

/-- The kernel's result equals the reference's. -/
theorem algebraic : Cert.algebraic_KernelDxIdeal_ReferenceDxIdeal := by
  intro m g m' g' _ hagree
  refine ⟨_, (θ_run _ _ _).mono (fun r h c => ⟨(h c).1.trans (final m c), (h c).2⟩) (Cert.KernelDxIdeal.Value.run_blocks m g),
    (θ_run _ _ _).mono (fun r h c => ?_) (Cert.ReferenceDxIdeal.Value.run m' g')⟩
  obtain ⟨h0, h1, h2, h3, h4⟩ := hagree c
  obtain ⟨r0, rest⟩ := h c
  refine ⟨r0.trans ?_, rest⟩
  rw [h0, h1, h2, h3, h4]
  rfl

end Cert.KernelDxIdeal.Merge

end
-- ==== Proof.DwValue.lean ====
/-
  The gradient of the merge's weights, `xᵀ · dlogits`: the call sums over sixteen blocks of 256 tokens and writes the four gates'
  columns in turn, the reference contracts the four side by side over the 4096 tokens at once, transposed.
-/
module

public import proofs.«01_k».proof.Proof.Gen.KernelDwIdeal.Frame
public import proofs.«01_k».proof.Proof.Gen.ReferenceDwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelDwIdeal.Merge

open Cert.KernelDwIdeal Cert.KernelDwIdeal.Gen
open Idealize.ShloMosaic Idealize.ShloMosaic.TcCoe Idealize.SL.Sem
open Idealize.ShloMosaic.Pipeline (Dat)

/-- The reference's term: the transposed gradients side by side times the rows, transposed back. -/
def weightsGrad (x : FVec Ideal S4096x1024 .f32) (d0 d1 d2 d3 : FVec Ideal S4096x1024 .bf16) : FVec Ideal S1024x4096 .f32 :=
  transpose S1024x4096 [1, 0] (Host.dotGeneral Cert.ReferenceDwIdeal.dot_S4096x4096_S4096x1024_S4096x1024_0_0_1_1_n_n none
    (extf .f32 (concatenate Cert.ReferenceDwIdeal.S4096x4096 1 [⟨S4096x1024, d0⟩, ⟨S4096x1024, d1⟩, ⟨S4096x1024, d2⟩, ⟨S4096x1024, d3⟩]
      Cert.ReferenceDwIdeal.Gen.concatenates_S4096x1024_S4096x1024_S4096x1024_S4096x1024_S4096x4096_d1) Cert.ReferenceDwIdeal.Gen.bitsLt_bf16_f32) x)
    Cert.ReferenceDwIdeal.Gen.transposes_S4096x1024_S1024x4096_1_0

/-- Where each window's block lies: the inputs walk down the tokens, the result stays. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] :=
  (by decide +kernel : ∀ t : Fin grid0.N, _)

/-- The scratch starts at zero. -/
theorem zero_apply (j : S1024x4096.Idx) : k0_pay2 (F := Ideal) j = 0 := by
  pointwise [k0_pay2]

/-- The entry of four arrays side by side. -/
def beside {α : Type} (d0 d1 d2 d3 : Fin 1024 → α) (j : Fin 4096) : α :=
  if h : j.val < 1024 then d0 ⟨j, h⟩ else if h : j.val - 1024 < 1024 then d1 ⟨j - 1024, h⟩
  else if h : j.val - 1024 - 1024 < 1024 then d2 ⟨j - 1024 - 1024, h⟩ else d3 ⟨j - 1024 - 1024 - 1024, by omega⟩

/-- The reference's term at a row and column: the sum over the tokens. -/
theorem weightsGrad_apply (x : FVec Ideal S4096x1024 .f32) (d0 d1 d2 d3 : FVec Ideal S4096x1024 .bf16) (j : S1024x4096.Idx) :
    weightsGrad x d0 d1 d2 d3 j = ∑ k : Fin 4096, x (ix2 k (j 0)) * beside (fun i => d0 (ix2 k i)) (fun i => d1 (ix2 k i))
      (fun i => d2 (ix2 k i)) (fun i => d3 (ix2 k i)) (j 1) := by
  pointwise [weightsGrad]
  exact Finset.sum_congr rfl fun k _ => mul_comm _ _

variable (m : (ℓ : Loc nD τ sig) → Buf (Elt Ideal) ℓ) (c : Dev nD)

/-- Stores that cover the buffer hide the earlier ones. -/
theorem canon_append {S : Shape} {e : EltTy} {Val : EltTy → Type} [∀ e, Nonempty (Val e)] (L' : List (View.Piece Val S e)) (y : S.Idx) :
    ∀ L : List (View.Piece Val S e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append L' y L ?_
      obtain ⟨q, hq, hyq⟩ := hc
      rcases List.mem_cons.mp hq with rfl | hq'
      · exact absurd hyq hm
      · exact ⟨q, hq', hyq⟩

/-- The same at four stores, as a step of a proof. -/
theorem canon_four {S : Shape} {e : EltTy} {Val : EltTy → Type} [∀ e, Nonempty (Val e)] (p0 p1 p2 p3 q : View.Piece Val S e) (y : S.Idx) (v : Val e)
    (hc : ∃ p ∈ [p0, p1, p2, p3], y ∈ p.1.set) (h : View.canon [p0, p1, p2, p3] y = v) : View.canon [p0, p1, p2, p3, q] y = v :=
  (canon_append [q] y [p0, p1, p2, p3] hc).trans h

/-- What one block of tokens adds. -/
def part (x : FVec Ideal S256x1024 .f32) (d0 d1 d2 d3 : FVec Ideal S256x1024 .bf16) (j : S1024x4096.Idx) : EReal :=
  ∑ k : Fin 256, x (ix2 k (j 0)) * beside (fun i => d0 (ix2 k i)) (fun i => d1 (ix2 k i)) (fun i => d2 (ix2 k i)) (fun i => d3 (ix2 k i)) (j 1)

/-- The first block starts from zero. -/
theorem step_first (t : Fin cfg0.N) (h : t.val % 16 = 0) (j : S1024x4096.Idx) :
    (outsAt0 (F := Ideal) m c t.val t.isLt).2 j = 0 + part (iblk m c 0 t) (iblk m c 1 t) (iblk m c 2 t) (iblk m c 3 t) (iblk m c 4 t) j := by
  rw [outsAt0_A m c t h (by omega)]; frame_out
  clear h
  simp (discharger := decide) only [↓View.readCov_skip, View.readCov_fill]
  refine canon_four _ _ _ _ _ j _ (View.cover_of_tiled_head _ _ _ (by rfl) _) ?_
  canon_tiles x e
  all_goals (pointwise [k0_pay1, k0_pay2, k0_pay3, k0_pay4, k0_pay5, k0_pay6, part, beside])
  all_goals (blk_point []; all_goals (exfalso; omega))

/-- A later block adds to what the block before left. -/
theorem step_next (t : Fin cfg0.N) (h : ¬t.val % 16 = 0) (j : S1024x4096.Idx) :
    (outsAt0 (F := Ideal) m c t.val t.isLt).2 j = (outsAt0 (F := Ideal) m c (t.val - 1) (Nat.lt_of_le_of_lt (Nat.sub_le _ _) t.isLt)).2 j
      + part (iblk m c 0 t) (iblk m c 1 t) (iblk m c 2 t) (iblk m c 3 t) (iblk m c 4 t) j := by
  by_cases h1 : t.val % 16 = 15
  · rw [outsAt0_C m c t h h1]; frame_out
    clear h h1
    simp only [read_unread_whole]
    canon_tiles x e
    all_goals (pointwise [k0_pay1, k0_pay3, k0_pay4, k0_pay5, k0_pay6, part, beside])
    all_goals (blk_point []; all_goals (exfalso; omega))
  · rw [outsAt0_B m c t h h1]; frame_out
    clear h h1
    simp only [read_unread_whole]
    canon_tiles x e
    all_goals (pointwise [k0_pay1, k0_pay3, k0_pay4, k0_pay5, k0_pay6, part, beside])
    all_goals (blk_point []; all_goals (exfalso; omega))

/-- The call's result. -/
theorem final : (dats m 0 c).arrAt 5 cfg0.N = weightsGrad (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 5 t0_15 (by decide +kernel) _ fun j => ?_
  blk_simp
  rw [after0_5]
  have h := Pipeline.eq_sum_fin_of_reset_step_apply_last (fun n h => (outsAt0 (F := Ideal) m c n h).2) 16 (fun _ => 0) _
    (step_first m c) (step_next m c) (le_of_eq N_0) t0_15 rfl j
  refine Eq.trans (b := (outsAt0 (F := Ideal) m c t0_15.val t0_15.isLt).2 j) ?_ ?_
  · rw [outsAt0_C m c t0_15 (by decide) (by decide)]
    frame_out
    rw [View.readCov_eq_canon']
    exact congrFun (View.ld_unit_lit (S := S1024x4096) (off := ![0, 0]) _ _ (by decide)) j
  rw [h, zero_add, weightsGrad_apply]
  refine Fin.sum_mul_add_congr fun t k hk => ?_
  blk_point [iblk, V, idx t]

end Cert.KernelDwIdeal.Merge

end
-- ==== Proof.DwClaims.lean ====
/-
  The five claims on the call of the gradient of the merge's weights.
-/
module

public import proofs.«01_k».proof.Defs
public import proofs.«01_k».proof.Proof.Gen.KernelDw
public import proofs.«01_k».proof.Proof.Gen.KernelDwIdeal.Value
public import proofs.«01_k».proof.Proof.DwValue
public import Idealize.ShloMosaic.Lib.Claim
public import Idealize.ShloMosaic.Adequacy
public import Idealize.ShloMosaic.Init

@[expose] public section

set_option maxRecDepth 16384

noncomputable section

namespace Cert.KernelDwIdeal.Merge

open Idealize.ShloMosaic Idealize.ShloMosaic.TcCoe Idealize.SL.Sem

/-- The frame of the idealized program's text, read at the machine's own floats. -/
def FrameAtBits : Prop :=
  ∀ (m : (ℓ : Loc Cert.KernelDwIdeal.nD Cert.KernelDwIdeal.τ Cert.KernelDwIdeal.sig) → Buf (Elt Bits) ℓ) (g : Dev Cert.KernelDwIdeal.nD → PrngReg), True →
    θ_run (Cert.KernelDwIdeal.defs (F := Bits)) (onTc (τ := Cert.KernelDwIdeal.τ) (Cert.KernelDwIdeal.main (F := Bits))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3)
      ∧ r.2.mem ((c.tc : Thread Cert.KernelDwIdeal.nD Cert.KernelDwIdeal.τ).loc Cert.KernelDwIdeal.main_arg4) = m ((c.tc : Thread Cert.KernelDwIdeal.nD Cert.KernelDwIdeal.τ).loc Cert.KernelDwIdeal.main_arg4))
      ∧ r.2.sem = fun _ => 0)

/-- The kernel's program has the same text as the idealized one, so its frame is that one read at the machine's floats. -/
theorem same_text : Cert.quiescent_KernelDw = FrameAtBits := by
  sl_kernel_rfl

/-- Every run of the kernel's program ends in a quiescent state. -/
theorem frame_kernel : Cert.quiescent_KernelDw :=
  same_text.mpr fun m ρ _ => Cert.KernelDwIdeal.Gen.frame (F := Bits) m ρ

/-- Every run of the idealized kernel ends in a quiescent state. -/
theorem frame_ideal : Cert.quiescent_KernelDwIdeal := fun m ρ _ => Cert.KernelDwIdeal.Gen.frame m ρ

/-- Every run of the idealized reference ends in a quiescent state. -/
theorem frame_reference : Cert.quiescent_ReferenceDwIdeal := by
  intro m g _
  refine (θ_run _ _ _).mono (fun r h => ⟨fun c => (h c).2, sem_eq_zero_of_no_sems (by decide) r.2⟩) (Cert.ReferenceDwIdeal.Value.run m g)

/-- Idealizing the kernel rewrites nothing. -/
theorem preserves : Cert.preserves_KernelDw_KernelDwIdeal := trivial

/-- The kernel's result equals the reference's. -/
theorem algebraic : Cert.algebraic_KernelDwIdeal_ReferenceDwIdeal := by
  intro m g m' g' _ hagree
  refine ⟨_, (θ_run _ _ _).mono (fun r h c => ⟨(h c).1.trans (final m c), (h c).2⟩) (Cert.KernelDwIdeal.Value.run_blocks m g),
    (θ_run _ _ _).mono (fun r h c => ?_) (Cert.ReferenceDwIdeal.Value.run m' g')⟩
  obtain ⟨h0, h1, h2, h3, h4⟩ := hagree c
  obtain ⟨r0, rest⟩ := h c
  refine ⟨r0.trans ?_, rest⟩
  rw [h0, h1, h2, h3, h4]
  rfl

end Cert.KernelDwIdeal.Merge

end
-- ==== Proof.BdxValue.lean ====
/-
  The gradient of a branch's input rows, `dbranch · wᵀ`: the call's result array is the reference's term.
-/
module

public import proofs.«01_k».proof.Proof.Gen.KernelBdxIdeal.Frame
public import proofs.«01_k».proof.Proof.Gen.ReferenceBdxIdeal.Run
public import Idealize.ShloMosaic.Lib.Pipeline.ValueKit
public import Idealize.ShloMosaic.Lib.Claim

@[expose] public section

set_option maxRecDepth 16384

noncomputable section

namespace Cert.KernelBdxIdeal.Branch

open Cert.KernelBdxIdeal Cert.KernelBdxIdeal.Gen
open Idealize.ShloMosaic Idealize.ShloMosaic.TcCoe Idealize.SL.Sem
open Idealize.ShloMosaic.Pipeline (Dat)

/-- The reference's term: the gradient of the branch times the transposed weights. -/
def rowsGrad (w : FVec Ideal S256x1024 .f32) (d : FVec Ideal S4096x1024 .bf16) : FVec Ideal S4096x256 .f32 :=
  Host.dotGeneral Cert.ReferenceBdxIdeal.dot_S4096x1024_S256x1024_S4096x256_1_1_0_0_n_n none
    (extf .f32 d Cert.ReferenceBdxIdeal.Gen.bitsLt_bf16_f32) w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = rowsGrad (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsGrad]
  blk_point [iblk, V, idx t]

end Cert.KernelBdxIdeal.Branch

end
-- ==== Proof.BdxClaims.lean ====
/-
  The five claims on the call of the gradient of a branch's input rows.
-/
module

public import proofs.«01_k».proof.Defs
public import proofs.«01_k».proof.Proof.Gen.KernelBdx
public import proofs.«01_k».proof.Proof.Gen.KernelBdxIdeal.Value
public import proofs.«01_k».proof.Proof.BdxValue
public import Idealize.ShloMosaic.Lib.Claim
public import Idealize.ShloMosaic.Adequacy
public import Idealize.ShloMosaic.Init

@[expose] public section

set_option maxRecDepth 16384

noncomputable section

namespace Cert.KernelBdxIdeal.Branch

open Idealize.ShloMosaic Idealize.ShloMosaic.TcCoe Idealize.SL.Sem

/-- The frame of the idealized program's text, read at the machine's own floats. -/
def FrameAtBits : Prop :=
  ∀ (m : (ℓ : Loc Cert.KernelBdxIdeal.nD Cert.KernelBdxIdeal.τ Cert.KernelBdxIdeal.sig) → Buf (Elt Bits) ℓ) (g : Dev Cert.KernelBdxIdeal.nD → PrngReg), True →
    θ_run (Cert.KernelBdxIdeal.defs (F := Bits)) (onTc (τ := Cert.KernelBdxIdeal.τ) (Cert.KernelBdxIdeal.main (F := Bits))) ⟨m, fun _ => 0, g⟩ (fun r => (∀ c : Dev Cert.KernelBdxIdeal.nD,
      r.2.mem ((c.tc : Thread Cert.KernelBdxIdeal.nD Cert.KernelBdxIdeal.τ).loc Cert.KernelBdxIdeal.main_arg0) = m ((c.tc : Thread Cert.KernelBdxIdeal.nD Cert.KernelBdxIdeal.τ).loc Cert.KernelBdxIdeal.main_arg0)
      ∧ r.2.mem ((c.tc : Thread Cert.KernelBdxIdeal.nD Cert.KernelBdxIdeal.τ).loc Cert.KernelBdxIdeal.main_arg1) = m ((c.tc : Thread Cert.KernelBdxIdeal.nD Cert.KernelBdxIdeal.τ).loc Cert.KernelBdxIdeal.main_arg1))
      ∧ r.2.sem = fun _ => 0)

/-- The kernel's program has the same text as the idealized one, so its frame is that one read at the machine's floats. -/
theorem same_text : Cert.quiescent_KernelBdx = FrameAtBits := by
  sl_kernel_rfl

/-- Every run of the kernel's program ends in a quiescent state. -/
theorem frame_kernel : Cert.quiescent_KernelBdx :=
  same_text.mpr fun m ρ _ => Cert.KernelBdxIdeal.Gen.frame (F := Bits) m ρ

/-- Every run of the idealized kernel ends in a quiescent state. -/
theorem frame_ideal : Cert.quiescent_KernelBdxIdeal := fun m ρ _ => Cert.KernelBdxIdeal.Gen.frame m ρ

/-- Every run of the idealized reference ends in a quiescent state. -/
theorem frame_reference : Cert.quiescent_ReferenceBdxIdeal := by
  intro m g _
  refine (θ_run _ _ _).mono (fun r h => ⟨fun c => (h c).2, sem_eq_zero_of_no_sems (by decide) r.2⟩) (Cert.ReferenceBdxIdeal.Value.run m g)

/-- Idealizing the kernel rewrites nothing. -/
theorem preserves : Cert.preserves_KernelBdx_KernelBdxIdeal := trivial

/-- The kernel's result equals the reference's. -/
theorem algebraic : Cert.algebraic_KernelBdxIdeal_ReferenceBdxIdeal := by
  intro m g m' g' _ hagree
  refine ⟨_, (θ_run _ _ _).mono (fun r h c => ⟨(h c).1.trans (final m c), (h c).2⟩) (Cert.KernelBdxIdeal.Value.run_blocks m g),
    (θ_run _ _ _).mono (fun r h c => ?_) (Cert.ReferenceBdxIdeal.Value.run m' g')⟩
  obtain ⟨h0, h1⟩ := hagree c
  obtain ⟨r0, rest⟩ := h c
  refine ⟨r0.trans ?_, rest⟩
  rw [h0, h1]
  rfl

end Cert.KernelBdxIdeal.Branch

end
-- ==== Proof.BdwValue.lean ====
/-
  The gradient of a branch's weights, `rowsᵀ · dbranch`: the call sums over eight blocks of 512 tokens, the reference over the
  4096 tokens at once, transposed.
-/
module

public import proofs.«01_k».proof.Proof.Gen.KernelBdwIdeal.Frame
public import proofs.«01_k».proof.Proof.Gen.ReferenceBdwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelBdwIdeal.Branch

open Cert.KernelBdwIdeal Cert.KernelBdwIdeal.Gen
open Idealize.ShloMosaic Idealize.ShloMosaic.TcCoe Idealize.SL.Sem
open Idealize.ShloMosaic.Pipeline (Dat)

/-- The reference's term: the transposed gradient times the rows, transposed back. -/
def weightsGrad (y : FVec Ideal S4096x256 .f32) (d : FVec Ideal S4096x1024 .bf16) : FVec Ideal S256x1024 .f32 :=
  transpose S256x1024 [1, 0] (Host.dotGeneral Cert.ReferenceBdwIdeal.dot_S4096x1024_S4096x256_S1024x256_0_0_1_1_n_n none
    (extf .f32 d Cert.ReferenceBdwIdeal.Gen.bitsLt_bf16_f32) y) Cert.ReferenceBdwIdeal.Gen.transposes_S1024x256_S256x1024_1_0

/-- Where each window's block lies: the inputs walk down the tokens, the result stays. -/
theorem idx : ∀ t : Fin cfg0.N, win0_0.index t = ![t.val, 0] ∧ win0_1.index t = ![t.val, 0] ∧ win0_2.index t = ![0, 0] :=
  (by decide +kernel : ∀ t : Fin grid0.N, _)

/-- The scratch starts at zero. -/
theorem zero_apply (j : S256x1024.Idx) : k0_pay1 (F := Ideal) j = 0 := by
  pointwise [k0_pay1]

/-- Each point adds its block of tokens' product. -/
theorem add_apply (x : FVec Ideal S512x256 .f32) (a : FVec Ideal S256x1024 .f32) (d : FVec Ideal S512x1024 .bf16) (j : S256x1024.Idx) :
    k0_pay2 x a d j = a j + ∑ k : Fin 512, x (ix2 k (j 0)) * d (ix2 k (j 1)) := by
  pointwise [k0_pay2]

/-- The reference's term at a row and column: the sum over the tokens. -/
theorem weightsGrad_apply (y : FVec Ideal S4096x256 .f32) (d : FVec Ideal S4096x1024 .bf16) (j : S256x1024.Idx) :
    weightsGrad y d j = ∑ k : Fin 4096, y (ix2 k (j 0)) * d (ix2 k (j 1)) := by
  pointwise [weightsGrad]
  exact Finset.sum_congr rfl fun k _ => mul_comm _ _

variable (m : (ℓ : Loc nD τ sig) → Buf (Elt Ideal) ℓ) (c : Dev nD)

/-- The call's result. -/
theorem final : (dats m 0 c).arrAt 2 cfg0.N = weightsGrad (m ((c : Thread nD τ).loc main_arg0)) (m ((c : Thread nD τ).loc main_arg1)) := by
  refine (dats m 0 c).arrAt_eq_of_after_last 2 t0_7 (by decide +kernel) _ fun j => ?_
  blk_simp
  rw [after0_2]
  have h := Pipeline.eq_sum_fin_of_reset_step_apply_last (fun n h => (outsAt0 (F := Ideal) m c n h).2) 8 (fun _ => 0) _
    (fun t h j => by rw [outsAt0_A m c t h (by omega)]; frame_out; rw [add_apply, zero_apply])
    (fun t h j => by
      by_cases h1 : t.val % 8 = 7
      · rw [outsAt0_C m c t h h1]; frame_out; rw [add_apply, read_unread_whole]
      · rw [outsAt0_B m c t h h1]; frame_out; rw [add_apply, read_unread_whole])
    (le_of_eq N_0) t0_7 rfl j
  refine Eq.trans (b := (outsAt0 (F := Ideal) m c t0_7.val t0_7.isLt).2 j) ?_ ?_
  · rw [outsAt0_C m c t0_7 (by decide) (by decide)]
    frame_out
  rw [h, zero_add, weightsGrad_apply]
  refine Fin.sum_mul_add_congr fun t k hk => ?_
  blk_point [iblk, V, idx t]

end Cert.KernelBdwIdeal.Branch

end
-- ==== Proof.BdwClaims.lean ====
/-
  The five claims on the call of the gradient of a branch's weights.
-/
module

public import proofs.«01_k».proof.Defs
public import proofs.«01_k».proof.Proof.Gen.KernelBdw
public import proofs.«01_k».proof.Proof.Gen.KernelBdwIdeal.Value
public import proofs.«01_k».proof.Proof.BdwValue
public import Idealize.ShloMosaic.Lib.Claim
public import Idealize.ShloMosaic.Adequacy
public import Idealize.ShloMosaic.Init

@[expose] public section

set_option maxRecDepth 16384

noncomputable section

namespace Cert.KernelBdwIdeal.Branch

open Idealize.ShloMosaic Idealize.ShloMosaic.TcCoe Idealize.SL.Sem

/-- The frame of the idealized program's text, read at the machine's own floats. -/
def FrameAtBits : Prop :=
  ∀ (m : (ℓ : Loc Cert.KernelBdwIdeal.nD Cert.KernelBdwIdeal.τ Cert.KernelBdwIdeal.sig) → Buf (Elt Bits) ℓ) (g : Dev Cert.KernelBdwIdeal.nD → PrngReg), True →
    θ_run (Cert.KernelBdwIdeal.defs (F := Bits)) (onTc (τ := Cert.KernelBdwIdeal.τ) (Cert.KernelBdwIdeal.main (F := Bits))) ⟨m, fun _ => 0, g⟩ (fun r => (∀ c : Dev Cert.KernelBdwIdeal.nD,
      r.2.mem ((c.tc : Thread Cert.KernelBdwIdeal.nD Cert.KernelBdwIdeal.τ).loc Cert.KernelBdwIdeal.main_arg0) = m ((c.tc : Thread Cert.KernelBdwIdeal.nD Cert.KernelBdwIdeal.τ).loc Cert.KernelBdwIdeal.main_arg0)
      ∧ r.2.mem ((c.tc : Thread Cert.KernelBdwIdeal.nD Cert.KernelBdwIdeal.τ).loc Cert.KernelBdwIdeal.main_arg1) = m ((c.tc : Thread Cert.KernelBdwIdeal.nD Cert.KernelBdwIdeal.τ).loc Cert.KernelBdwIdeal.main_arg1))
      ∧ r.2.sem = fun _ => 0)

/-- The kernel's program has the same text as the idealized one, so its frame is that one read at the machine's floats. -/
theorem same_text : Cert.quiescent_KernelBdw = FrameAtBits := by
  sl_kernel_rfl

/-- Every run of the kernel's program ends in a quiescent state. -/
theorem frame_kernel : Cert.quiescent_KernelBdw :=
  same_text.mpr fun m ρ _ => Cert.KernelBdwIdeal.Gen.frame (F := Bits) m ρ

/-- Every run of the idealized kernel ends in a quiescent state. -/
theorem frame_ideal : Cert.quiescent_KernelBdwIdeal := fun m ρ _ => Cert.KernelBdwIdeal.Gen.frame m ρ

/-- Every run of the idealized reference ends in a quiescent state. -/
theorem frame_reference : Cert.quiescent_ReferenceBdwIdeal := by
  intro m g _
  refine (θ_run _ _ _).mono (fun r h => ⟨fun c => (h c).2, sem_eq_zero_of_no_sems (by decide) r.2⟩) (Cert.ReferenceBdwIdeal.Value.run m g)

/-- Idealizing the kernel rewrites nothing. -/
theorem preserves : Cert.preserves_KernelBdw_KernelBdwIdeal := trivial

/-- The kernel's result equals the reference's. -/
theorem algebraic : Cert.algebraic_KernelBdwIdeal_ReferenceBdwIdeal := by
  intro m g m' g' _ hagree
  refine ⟨_, (θ_run _ _ _).mono (fun r h c => ⟨(h c).1.trans (final m c), (h c).2⟩) (Cert.KernelBdwIdeal.Value.run_blocks m g),
    (θ_run _ _ _).mono (fun r h c => ?_) (Cert.ReferenceBdwIdeal.Value.run m' g')⟩
  obtain ⟨h0, h1⟩ := hagree c
  obtain ⟨r0, rest⟩ := h c
  refine ⟨r0.trans ?_, rest⟩
  rw [h0, h1]
  rfl

end Cert.KernelBdwIdeal.Branch

end
-- ==== Proof.GdwValue.lean ====
/-
  The gradient of a gated branch's weights, `(y · silu z)ᵀ · dbranch`: the call sums over eight blocks of 512 tokens, the
  reference over the 4096 tokens at once, transposed.
-/
module

public import proofs.«01_k».proof.Proof.Gen.KernelGdwIdeal.Frame
public import proofs.«01_k».proof.Proof.Gen.ReferenceGdwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelGdwIdeal.Branch

open Cert.KernelGdwIdeal Cert.KernelGdwIdeal.Gen
open Idealize.ShloMosaic Idealize.ShloMosaic.TcCoe Idealize.SL.Sem
open Idealize.ShloMosaic.Pipeline (Dat)

/-- The reference's term: the transposed gradient times the gated rows, transposed back. -/
def weightsGrad (y z : FVec Ideal S4096x256 .f32) (d : FVec Ideal S4096x1024 .bf16) : FVec Ideal S256x1024 .f32 :=
  transpose S256x1024 [1, 0] (Host.dotGeneral Cert.ReferenceGdwIdeal.dot_S4096x1024_S4096x256_S1024x256_0_0_1_1_n_n none
    (extf .f32 d Cert.ReferenceGdwIdeal.Gen.bitsLt_bf16_f32)
    (mulf y (mulf z (Host.divf (broadcastInDim S4096x256 ![] Cert.ReferenceGdwIdeal.Gen.bcast_S_S4096x256 (constant (F := Ideal) Cert.ReferenceGdwIdeal.S_ .f32 0x3F800000#32))
      (addf (broadcastInDim S4096x256 ![] Cert.ReferenceGdwIdeal.Gen.bcast_S_S4096x256 (constant (F := Ideal) Cert.ReferenceGdwIdeal.S_ .f32 0x3F800000#32))
        (Host.exp (Host.negf z))))))) Cert.ReferenceGdwIdeal.Gen.transposes_S1024x256_S256x1024_1_0

/-- The gate `silu`. -/
def gate (z : EReal) : EReal := z * Ideal.logistic z

/-- Where each window's block lies: the inputs walk down the tokens, the result stays. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The scratch starts at zero. -/
theorem zero_apply (j : S256x1024.Idx) : k0_pay1 (F := Ideal) j = 0 := by
  pointwise [k0_pay1]

/-- Each point adds its block of tokens' product. -/
theorem add_apply (y z : FVec Ideal S512x256 .f32) (a : FVec Ideal S256x1024 .f32) (d : FVec Ideal S512x1024 .bf16) (j : S256x1024.Idx) :
    k0_pay2 y z a d j = a j + ∑ k : Fin 512, y (ix2 k (j 0)) * gate (z (ix2 k (j 0))) * d (ix2 k (j 1)) := by
  pointwise [k0_pay2]
  rfl

/-- The reference's term at a row and column: the sum over the tokens. -/
theorem weightsGrad_apply (y z : FVec Ideal S4096x256 .f32) (d : FVec Ideal S4096x1024 .bf16) (j : S256x1024.Idx) :
    weightsGrad y z d j = ∑ k : Fin 4096, y (ix2 k (j 0)) * gate (z (ix2 k (j 0))) * d (ix2 k (j 1)) := by
  pointwise [weightsGrad]
  exact Finset.sum_congr rfl fun k _ => mul_comm _ _

variable (m : (ℓ : Loc nD τ sig) → Buf (Elt Ideal) ℓ) (c : Dev nD)

/-- The call's result. -/
theorem final : (dats m 0 c).arrAt 3 cfg0.N = weightsGrad (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3]
  have h := Pipeline.eq_sum_fin_of_reset_step_apply_last (fun n h => (outsAt0 (F := Ideal) m c n h).2) 8 (fun _ => 0) _
    (fun t h j => by rw [outsAt0_A m c t h (by omega)]; frame_out; rw [add_apply, zero_apply])
    (fun t h j => by
      by_cases h1 : t.val % 8 = 7
      · rw [outsAt0_C m c t h h1]; frame_out; rw [add_apply, read_unread_whole]
      · rw [outsAt0_B m c t h h1]; frame_out; rw [add_apply, read_unread_whole])
    (le_of_eq N_0) t0_7 rfl j
  refine Eq.trans (b := (outsAt0 (F := Ideal) m c t0_7.val t0_7.isLt).2 j) ?_ ?_
  · rw [outsAt0_C m c t0_7 (by decide) (by decide)]
    frame_out
  rw [h, zero_add, weightsGrad_apply]
  refine Fin.sum_mul_add_congr fun t k hk => ?_
  blk_point [iblk, V, idx t]

end Cert.KernelGdwIdeal.Branch

end
-- ==== Proof.GdwClaims.lean ====
/-
  The five claims on the call of the gradient of a gated branch's weights.
-/
module

public import proofs.«01_k».proof.Defs
public import proofs.«01_k».proof.Proof.Gen.KernelGdw
public import proofs.«01_k».proof.Proof.Gen.KernelGdwIdeal.Value
public import proofs.«01_k».proof.Proof.GdwValue
public import Idealize.ShloMosaic.Lib.Claim
public import Idealize.ShloMosaic.Adequacy
public import Idealize.ShloMosaic.Init

@[expose] public section

set_option maxRecDepth 16384

noncomputable section

namespace Cert.KernelGdwIdeal.Branch

open Idealize.ShloMosaic Idealize.ShloMosaic.TcCoe Idealize.SL.Sem

/-- The frame of the idealized program's text, read at the machine's own floats. -/
def FrameAtBits : Prop :=
  ∀ (m : (ℓ : Loc Cert.KernelGdwIdeal.nD Cert.KernelGdwIdeal.τ Cert.KernelGdwIdeal.sig) → Buf (Elt Bits) ℓ) (g : Dev Cert.KernelGdwIdeal.nD → PrngReg), True →
    θ_run (Cert.KernelGdwIdeal.defs (F := Bits)) (onTc (τ := Cert.KernelGdwIdeal.τ) (Cert.KernelGdwIdeal.main (F := Bits))) ⟨m, fun _ => 0, g⟩ (fun r => (∀ c : Dev Cert.KernelGdwIdeal.nD,
      r.2.mem ((c.tc : Thread Cert.KernelGdwIdeal.nD Cert.KernelGdwIdeal.τ).loc Cert.KernelGdwIdeal.main_arg0) = m ((c.tc : Thread Cert.KernelGdwIdeal.nD Cert.KernelGdwIdeal.τ).loc Cert.KernelGdwIdeal.main_arg0)
      ∧ r.2.mem ((c.tc : Thread Cert.KernelGdwIdeal.nD Cert.KernelGdwIdeal.τ).loc Cert.KernelGdwIdeal.main_arg1) = m ((c.tc : Thread Cert.KernelGdwIdeal.nD Cert.KernelGdwIdeal.τ).loc Cert.KernelGdwIdeal.main_arg1)
      ∧ r.2.mem ((c.tc : Thread Cert.KernelGdwIdeal.nD Cert.KernelGdwIdeal.τ).loc Cert.KernelGdwIdeal.main_arg2) = m ((c.tc : Thread Cert.KernelGdwIdeal.nD Cert.KernelGdwIdeal.τ).loc Cert.KernelGdwIdeal.main_arg2))
      ∧ r.2.sem = fun _ => 0)

/-- The kernel's program has the same text as the idealized one, so its frame is that one read at the machine's floats. -/
theorem same_text : Cert.quiescent_KernelGdw = FrameAtBits := by
  sl_kernel_rfl

/-- Every run of the kernel's program ends in a quiescent state. -/
theorem frame_kernel : Cert.quiescent_KernelGdw :=
  same_text.mpr fun m ρ _ => Cert.KernelGdwIdeal.Gen.frame (F := Bits) m ρ

/-- Every run of the idealized kernel ends in a quiescent state. -/
theorem frame_ideal : Cert.quiescent_KernelGdwIdeal := fun m ρ _ => Cert.KernelGdwIdeal.Gen.frame m ρ

/-- Every run of the idealized reference ends in a quiescent state. -/
theorem frame_reference : Cert.quiescent_ReferenceGdwIdeal := by
  intro m g _
  refine (θ_run _ _ _).mono (fun r h => ⟨fun c => (h c).2, sem_eq_zero_of_no_sems (by decide) r.2⟩) (Cert.ReferenceGdwIdeal.Value.run m g)

/-- Idealizing the kernel rewrites nothing. -/
theorem preserves : Cert.preserves_KernelGdw_KernelGdwIdeal := trivial

/-- The kernel's result equals the reference's. -/
theorem algebraic : Cert.algebraic_KernelGdwIdeal_ReferenceGdwIdeal := by
  intro m g m' g' _ hagree
  refine ⟨_, (θ_run _ _ _).mono (fun r h c => ⟨(h c).1.trans (final m c), (h c).2⟩) (Cert.KernelGdwIdeal.Value.run_blocks m g),
    (θ_run _ _ _).mono (fun r h c => ?_) (Cert.ReferenceGdwIdeal.Value.run m' g')⟩
  obtain ⟨h0, h1, h2⟩ := hagree c
  obtain ⟨r0, rest⟩ := h c
  refine ⟨r0.trans ?_, rest⟩
  rw [h0, h1, h2]
  rfl

end Cert.KernelGdwIdeal.Branch

end
-- ==== Proof.GdxValue.lean ====
/-
  The gradients of a gated branch's rows and of its gate's rows: the call's two result arrays are the reference's terms. The second
  holds where the rows, the weights and the gradient are finite, since it distributes a product over a sum.
-/
module

public import proofs.«01_k».proof.Proof.Gen.KernelGdxIdeal.Frame
public import proofs.«01_k».proof.Proof.Gen.ReferenceGdxIdeal.Run
public import proofs.«01_k».proof.Pre_finite_branch
public import Idealize.ShloMosaic.Lib.ReduceAll
public import Idealize.ShloMosaic.Lib.Pipeline.ValueKit
public import Idealize.ShloMosaic.Lib.Claim

@[expose] public section

set_option maxRecDepth 16384

noncomputable section

namespace Cert.KernelGdxIdeal.Branch

open Cert.KernelGdxIdeal Cert.KernelGdxIdeal.Gen
open Idealize.ShloMosaic Idealize.ShloMosaic.TcCoe Idealize.SL.Sem
open Idealize.ShloMosaic.Pipeline (Dat)

/-- The gradient of the gated rows: the branch's gradient times the transposed weights. -/
def gatedGrad (w : FVec Ideal S256x1024 .f32) (d : FVec Ideal S4096x1024 .bf16) : FVec Ideal S4096x256 .f32 :=
  Host.dotGeneral Cert.ReferenceGdxIdeal.dot_S4096x1024_S256x1024_S4096x256_1_1_0_0_n_n none (extf .f32 d Cert.ReferenceGdxIdeal.Gen.bitsLt_bf16_f32) w

/-- The reference's sigmoid of the gate's rows. -/
def sigmoid (z : FVec Ideal S4096x256 .f32) : FVec Ideal S4096x256 .f32 :=
  Host.divf (broadcastInDim S4096x256 ![] Cert.ReferenceGdxIdeal.Gen.bcast_S_S4096x256 (constant (F := Ideal) Cert.ReferenceGdxIdeal.S_ .f32 0x3F800000#32))
    (addf (broadcastInDim S4096x256 ![] Cert.ReferenceGdxIdeal.Gen.bcast_S_S4096x256 (constant (F := Ideal) Cert.ReferenceGdxIdeal.S_ .f32 0x3F800000#32)) (Host.exp (Host.negf z)))

/-- The reference's gradient of the rows. -/
def rowsGrad (z : FVec Ideal S4096x256 .f32) (w : FVec Ideal S256x1024 .f32) (d : FVec Ideal S4096x1024 .bf16) : FVec Ideal S4096x256 .f32 :=
  mulf (gatedGrad w d) (mulf z (sigmoid z))

/-- The reference's gradient of the gate's rows. -/
def gateGrad (y z : FVec Ideal S4096x256 .f32) (w : FVec Ideal S256x1024 .f32) (d : FVec Ideal S4096x1024 .bf16) : FVec Ideal S4096x256 .f32 :=
  addf (mulf (mulf y (gatedGrad w d)) (sigmoid z)) (mulf (mulf z (mulf y (gatedGrad w d))) (mulf (sigmoid z)
    (subf (broadcastInDim S4096x256 ![] Cert.ReferenceGdxIdeal.Gen.bcast_S_S4096x256 (constant (F := Ideal) Cert.ReferenceGdxIdeal.S_ .f32 0x3F800000#32)) (sigmoid z))))

/-- The sum behind a gated row's gradient. -/
def dotRow (w : FVec Ideal S256x1024 .f32) (d : FVec Ideal S4096x1024 .bf16) (j : S4096x256.Idx) : EReal :=
  ∑ k : Fin 1024, d (ix2 (j 0) k) * w (ix2 (j 1) k)

/-- The gradient of the gated rows at a row and column. -/
theorem gatedGrad_apply (w : FVec Ideal S256x1024 .f32) (d : FVec Ideal S4096x1024 .bf16) (j : S4096x256.Idx) :
    gatedGrad w d j = dotRow w d j := by
  pointwise [gatedGrad]
  rfl

/-- The sigmoid at a row and column. -/
theorem sigmoid_apply (z : FVec Ideal S4096x256 .f32) (j : S4096x256.Idx) : sigmoid z j = Ideal.logistic (z j) := by
  pointwise [sigmoid]
  rfl

/-- The product rule of `silu` at a finite factor. -/
theorem silu_rule (a : ℝ) (z : EReal) :
    (a : EReal) * (Ideal.logistic z * (1 + z * (1 - Ideal.logistic z)))
      = (a : EReal) * Ideal.logistic z + z * (a : EReal) * (Ideal.logistic z * (1 - Ideal.logistic z)) := by
  induction z with
  | bot => simp
  | top =>
    have h : (1 : EReal) - 1 = 0 := by rw [← EReal.coe_one, ← EReal.coe_sub, sub_self, EReal.coe_zero]
    rw [Ideal.logistic_top, h, mul_zero, mul_zero, mul_zero, add_zero, add_zero, mul_one]
  | coe r =>
    rw [Ideal.logistic_coe, ← EReal.coe_one]
    simp only [← EReal.coe_sub, ← EReal.coe_mul, ← EReal.coe_add]
    exact congrArg _ (by ring)

/-- A sum of reals is real. -/
theorem sum_real {n : ℕ} (f : Fin n → EReal) (h : ∀ k, ∃ r : ℝ, f k = r) : ∃ r : ℝ, ∑ k, f k = r :=
  Finset.sum_induction f (fun x => ∃ r : ℝ, x = r)
    (fun _ _ ⟨a, ha⟩ ⟨b, hb⟩ => ⟨a + b, by rw [ha, hb, EReal.coe_add]⟩) ⟨0, EReal.coe_zero.symm⟩ fun k _ => h k

/-- Below infinity in absolute value is real. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    rw [Ideal.cmp_olt, decide_eq_false hn] at h
    exact absurd h (by decide)
  induction x with
  | bot => simp at hlt
  | top => simp at hlt
  | coe r => exact ⟨r, rfl⟩

instance : Subsingleton Cert.Pre_finite_branch.S_.Idx := ⟨fun a b => funext fun i => i.elim0⟩

/-- What the precondition says: the rows, the weights and the gradient are finite. -/
theorem finite_of_pre (y z : FVec Ideal S4096x256 .f32) (w : FVec Ideal S256x1024 .f32) (d : FVec Ideal S4096x1024 .bf16)
    [Cert.Pre_finite_branch.Facts] (h : Cert.Pre_finite_branch.fn (F := Ideal) y z w d = fun _ => 1#1) :
    (∀ j, ∃ r : ℝ, y j = r) ∧ (∀ j, ∃ r : ℝ, w j = r) ∧ ∀ j, ∃ r : ℝ, d j = r := by
  have e := congrFun h (Shape.Idx.first (s := Cert.Pre_finite_branch.S_) (by decide))
  obtain ⟨e12, e3⟩ := IntOp.andi_eq_one.1 e
  obtain ⟨e1, e2⟩ := IntOp.andi_eq_one.1 e12
  exact ⟨fun j => real_of_lt _ (Host.reduce_andi_all _ _ _ _ _ e1 j), fun j => real_of_lt _ (Host.reduce_andi_all _ _ _ _ _ e2 j),
    fun j => real_of_lt _ (Host.reduce_andi_all _ _ _ _ _ e3 j)⟩

/-- The kernel's gate gradient at one entry is the reference's. -/
theorem gateGrad_apply (y z : FVec Ideal S4096x256 .f32) (w : FVec Ideal S256x1024 .f32) (d : FVec Ideal S4096x1024 .bf16)
    (hy : ∀ j, ∃ r : ℝ, y j = r) (hw : ∀ j, ∃ r : ℝ, w j = r) (hd : ∀ j, ∃ r : ℝ, d j = r) (j : S4096x256.Idx) :
    gateGrad y z w d j = dotRow w d j * y j * (Ideal.logistic (z j) * (1 + z j * (1 - Ideal.logistic (z j)))) := by
  obtain ⟨a, ha⟩ : ∃ r : ℝ, dotRow w d j * y j = r := by
    obtain ⟨s, hs⟩ := sum_real (fun k : Fin 1024 => d (ix2 (j 0) k) * w (ix2 (j 1) k)) fun k => by
      obtain ⟨u, hu⟩ := hd (ix2 (j 0) k)
      obtain ⟨v, hv⟩ := hw (ix2 (j 1) k)
      exact ⟨u * v, by rw [hu, hv, EReal.coe_mul]⟩
    obtain ⟨v, hv⟩ := hy j
    exact ⟨s * v, by rw [dotRow, hs, hv, EReal.coe_mul]⟩
  rw [ha, silu_rule, ← ha]
  pointwise [gateGrad, gatedGrad_apply, sigmoid_apply]
  rw [mul_comm (y j)]

/-- Where each window's block lies: the rows walk down the tokens, the weights stay. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ) (c : Dev nD)

/-- The call's first result. -/
theorem final0 : (dats m 0 c).arrAt 4 cfg0.N = rowsGrad (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, rowsGrad, gatedGrad_apply, sigmoid_apply, dotRow]
  blk_point [iblk, V, idx t]

/-- The call's second result. -/
theorem final1 (hy : ∀ j, ∃ r : ℝ, (m ((c : Thread nD τ).loc main_arg0)) j = (r : EReal)) (hw : ∀ j, ∃ r : ℝ, (m ((c : Thread nD τ).loc main_arg2)) j = (r : EReal)) (hd : ∀ j, ∃ r : ℝ, (m ((c : Thread nD τ).loc main_arg3)) j = (r : EReal)) :
    (dats m 0 c).arrAt 5 cfg0.N = gateGrad (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  refine Eq.trans ?_ (gateGrad_apply _ _ _ _ hy hw hd _).symm
  pointwise [k0_pay1, k0_pay2, k0_pay4, dotRow]
  blk_point [iblk, V, idx t]

end Cert.KernelGdxIdeal.Branch

end
-- ==== Proof.GdxClaims.lean ====
/-
  The five claims on the call of the gradients of a gated branch's rows, the last one at finite arguments.
-/
module

public import proofs.«01_k».proof.Defs
public import proofs.«01_k».proof.Proof.Gen.KernelGdx
public import proofs.«01_k».proof.Proof.Gen.KernelGdxIdeal.Value
public import proofs.«01_k».proof.Proof.Gen.Pre_finite_branch
public import proofs.«01_k».proof.Proof.GdxValue
public import Idealize.ShloMosaic.Lib.Claim
public import Idealize.ShloMosaic.Adequacy
public import Idealize.ShloMosaic.Init

@[expose] public section

set_option maxRecDepth 16384

noncomputable section

namespace Cert.KernelGdxIdeal.Branch

open Idealize.ShloMosaic Idealize.ShloMosaic.TcCoe Idealize.SL.Sem

/-- The frame of the idealized program's text, read at the machine's own floats. -/
def FrameAtBits : Prop :=
  ∀ (m : (ℓ : Loc Cert.KernelGdxIdeal.nD Cert.KernelGdxIdeal.τ Cert.KernelGdxIdeal.sig) → Buf (Elt Bits) ℓ) (g : Dev Cert.KernelGdxIdeal.nD → PrngReg), True →
    θ_run (Cert.KernelGdxIdeal.defs (F := Bits)) (onTc (τ := Cert.KernelGdxIdeal.τ) (Cert.KernelGdxIdeal.main (F := Bits))) ⟨m, fun _ => 0, g⟩ (fun r => (∀ c : Dev Cert.KernelGdxIdeal.nD,
      r.2.mem ((c.tc : Thread Cert.KernelGdxIdeal.nD Cert.KernelGdxIdeal.τ).loc Cert.KernelGdxIdeal.main_arg0) = m ((c.tc : Thread Cert.KernelGdxIdeal.nD Cert.KernelGdxIdeal.τ).loc Cert.KernelGdxIdeal.main_arg0)
      ∧ r.2.mem ((c.tc : Thread Cert.KernelGdxIdeal.nD Cert.KernelGdxIdeal.τ).loc Cert.KernelGdxIdeal.main_arg1) = m ((c.tc : Thread Cert.KernelGdxIdeal.nD Cert.KernelGdxIdeal.τ).loc Cert.KernelGdxIdeal.main_arg1)
      ∧ r.2.mem ((c.tc : Thread Cert.KernelGdxIdeal.nD Cert.KernelGdxIdeal.τ).loc Cert.KernelGdxIdeal.main_arg2) = m ((c.tc : Thread Cert.KernelGdxIdeal.nD Cert.KernelGdxIdeal.τ).loc Cert.KernelGdxIdeal.main_arg2)
      ∧ r.2.mem ((c.tc : Thread Cert.KernelGdxIdeal.nD Cert.KernelGdxIdeal.τ).loc Cert.KernelGdxIdeal.main_arg3) = m ((c.tc : Thread Cert.KernelGdxIdeal.nD Cert.KernelGdxIdeal.τ).loc Cert.KernelGdxIdeal.main_arg3))
      ∧ r.2.sem = fun _ => 0)

/-- The kernel's program has the same text as the idealized one, so its frame is that one read at the machine's floats. -/
theorem same_text : Cert.quiescent_KernelGdx = FrameAtBits := by
  sl_kernel_rfl

/-- Every run of the kernel's program ends in a quiescent state. -/
theorem frame_kernel : Cert.quiescent_KernelGdx :=
  same_text.mpr fun m ρ _ => Cert.KernelGdxIdeal.Gen.frame (F := Bits) m ρ

/-- Every run of the idealized kernel ends in a quiescent state. -/
theorem frame_ideal : Cert.quiescent_KernelGdxIdeal := fun m ρ _ => Cert.KernelGdxIdeal.Gen.frame m ρ

/-- Every run of the idealized reference ends in a quiescent state. -/
theorem frame_reference : Cert.quiescent_ReferenceGdxIdeal := by
  intro m g _
  refine (θ_run _ _ _).mono (fun r h => ⟨fun c => (h c).2.2, sem_eq_zero_of_no_sems (by decide) r.2⟩) (Cert.ReferenceGdxIdeal.Value.run m g)

/-- Every run of the idealized kernel from a memory meeting the precondition ends in a quiescent state. -/
theorem frame_ideal_pre : Cert.quiescent_KernelGdxIdeal_pre_finite_branch := fun m ρ _ => Cert.KernelGdxIdeal.Gen.frame m ρ

/-- Every run of the idealized reference from a memory meeting the precondition ends in a quiescent state. -/
theorem frame_reference_pre : Cert.quiescent_ReferenceGdxIdeal_pre_finite_branch := by
  intro m g _
  refine (θ_run _ _ _).mono (fun r h => ⟨fun c => (h c).2.2, sem_eq_zero_of_no_sems (by decide) r.2⟩) (Cert.ReferenceGdxIdeal.Value.run m g)

/-- Idealizing the kernel rewrites nothing. -/
theorem preserves : Cert.preserves_KernelGdx_KernelGdxIdeal := trivial

/-- The kernel's results equal the reference's at finite arguments. -/
theorem algebraic : Cert.algebraic_KernelGdxIdeal_ReferenceGdxIdeal_pre_finite_branch := by
  intro m g m' g' hp hagree
  refine ⟨_, _, (θ_run _ _ _).mono (fun r h c => ⟨(h c).1.trans (final0 m c), (h c).2.1.trans (final1 m c (finite_of_pre _ _ _ _ (hp c)).1 (finite_of_pre _ _ _ _ (hp c)).2.1 (finite_of_pre _ _ _ _ (hp c)).2.2), (h c).2.2⟩) (Cert.KernelGdxIdeal.Value.run_blocks m g),
    (θ_run _ _ _).mono (fun r h c => ?_) (Cert.ReferenceGdxIdeal.Value.run m' g')⟩
  obtain ⟨h0, h1, h2, h3⟩ := hagree c
  obtain ⟨r0, r1, rest⟩ := h c
  refine ⟨r0.trans ?_, r1.trans ?_, rest⟩
  · rw [h1, h2, h3]
    rfl
  · rw [h0, h1, h2, h3]
    rfl

end Cert.KernelGdxIdeal.Branch

end
-- ==== Proof.IdxValue.lean ====
/-
  The gradient of the input product's rows, `dh · w_inᵀ`: the call adds the thirteen column blocks' products, the reference
  contracts the thirteen side by side.
-/
module

public import proofs.«01_k».proof.Proof.Gen.KernelIdxIdeal.Frame
public import proofs.«01_k».proof.Proof.Gen.ReferenceIdxIdeal.Run
public import Idealize.ShloMosaic.Lib.Pipeline.ValueKit
public import Idealize.ShloMosaic.Lib.Claim

@[expose] public section

set_option maxRecDepth 16384

noncomputable section

namespace Cert.KernelIdxIdeal.Input

open Cert.KernelIdxIdeal Cert.KernelIdxIdeal.Gen
open Idealize.ShloMosaic Idealize.ShloMosaic.TcCoe Idealize.SL.Sem
open Idealize.ShloMosaic.Pipeline (Dat)

/-- The reference's thirteen gradients side by side. -/
def joined (d0 d1 d2 d3 d4 d5 d6 d7 d8 d9 d10 : FVec Ideal S4096x256 .f32) (d11 d12 : FVec Ideal S4096x128 .f32) : FVec Ideal Cert.ReferenceIdxIdeal.S4096x3072 .f32 :=
  (concatenate Cert.ReferenceIdxIdeal.S4096x3072 1 [⟨S4096x256, d0⟩, ⟨S4096x256, d1⟩, ⟨S4096x256, d2⟩, ⟨S4096x256, d3⟩, ⟨S4096x256, d4⟩, ⟨S4096x256, d5⟩, ⟨S4096x256, d6⟩, ⟨S4096x256, d7⟩, ⟨S4096x256, d8⟩, ⟨S4096x256, d9⟩, ⟨S4096x256, d10⟩, ⟨S4096x128, d11⟩, ⟨S4096x128, d12⟩]
      Cert.ReferenceIdxIdeal.Gen.concatenates_S4096x256_S4096x256_S4096x256_S4096x256_S4096x256_S4096x256_S4096x256_S4096x256_S4096x256_S4096x256_S4096x256_S4096x128_S4096x128_S4096x3072_d1)

/-- Block 0 of the thirteen side by side. -/
theorem joined_0 (d0 d1 d2 d3 d4 d5 d6 d7 d8 d9 d10 : FVec Ideal S4096x256 .f32) (d11 d12 : FVec Ideal S4096x128 .f32) (j : Cert.ReferenceIdxIdeal.S4096x3072.Idx)
    (k : Fin 256) (h : 0 + k.val = (j 1).val) : joined d0 d1 d2 d3 d4 d5 d6 d7 d8 d9 d10 d11 d12 j = d0 (ix2 (j 0) k) := by
  unfold joined
  refine concatenate_apply_piece (t := Cert.ReferenceIdxIdeal.S4096x3072) 1 _ _ j 0 (by simp) S4096x256 d0 rfl rfl 0 (by simp) (ix2 (j 0) k) (fun b hb => ?_) h
  match b, hb with
  | ⟨0, _⟩, _ => rfl
  | ⟨1, _⟩, hb => exact absurd rfl hb

/-- Block 1 of the thirteen side by side. -/
theorem joined_1 (d0 d1 d2 d3 d4 d5 d6 d7 d8 d9 d10 : FVec Ideal S4096x256 .f32) (d11 d12 : FVec Ideal S4096x128 .f32) (j : Cert.ReferenceIdxIdeal.S4096x3072.Idx)
    (k : Fin 256) (h : 256 + k.val = (j 1).val) : joined d0 d1 d2 d3 d4 d5 d6 d7 d8 d9 d10 d11 d12 j = d1 (ix2 (j 0) k) := by
  unfold joined
  refine concatenate_apply_piece (t := Cert.ReferenceIdxIdeal.S4096x3072) 1 _ _ j 1 (by simp) S4096x256 d1 rfl rfl 256 (by simp) (ix2 (j 0) k) (fun b hb => ?_) h
  match b, hb with
  | ⟨0, _⟩, _ => rfl
  | ⟨1, _⟩, hb => exact absurd rfl hb

/-- Block 2 of the thirteen side by side. -/
theorem joined_2 (d0 d1 d2 d3 d4 d5 d6 d7 d8 d9 d10 : FVec Ideal S4096x256 .f32) (d11 d12 : FVec Ideal S4096x128 .f32) (j : Cert.ReferenceIdxIdeal.S4096x3072.Idx)
    (k : Fin 256) (h : 512 + k.val = (j 1).val) : joined d0 d1 d2 d3 d4 d5 d6 d7 d8 d9 d10 d11 d12 j = d2 (ix2 (j 0) k) := by
  unfold joined
  refine concatenate_apply_piece (t := Cert.ReferenceIdxIdeal.S4096x3072) 1 _ _ j 2 (by simp) S4096x256 d2 rfl rfl 512 (by simp) (ix2 (j 0) k) (fun b hb => ?_) h
  match b, hb with
  | ⟨0, _⟩, _ => rfl
  | ⟨1, _⟩, hb => exact absurd rfl hb

/-- Block 3 of the thirteen side by side. -/
theorem joined_3 (d0 d1 d2 d3 d4 d5 d6 d7 d8 d9 d10 : FVec Ideal S4096x256 .f32) (d11 d12 : FVec Ideal S4096x128 .f32) (j : Cert.ReferenceIdxIdeal.S4096x3072.Idx)
    (k : Fin 256) (h : 768 + k.val = (j 1).val) : joined d0 d1 d2 d3 d4 d5 d6 d7 d8 d9 d10 d11 d12 j = d3 (ix2 (j 0) k) := by
  unfold joined
  refine concatenate_apply_piece (t := Cert.ReferenceIdxIdeal.S4096x3072) 1 _ _ j 3 (by simp) S4096x256 d3 rfl rfl 768 (by simp) (ix2 (j 0) k) (fun b hb => ?_) h
  match b, hb with
  | ⟨0, _⟩, _ => rfl
  | ⟨1, _⟩, hb => exact absurd rfl hb

/-- Block 4 of the thirteen side by side. -/
theorem joined_4 (d0 d1 d2 d3 d4 d5 d6 d7 d8 d9 d10 : FVec Ideal S4096x256 .f32) (d11 d12 : FVec Ideal S4096x128 .f32) (j : Cert.ReferenceIdxIdeal.S4096x3072.Idx)
    (k : Fin 256) (h : 1024 + k.val = (j 1).val) : joined d0 d1 d2 d3 d4 d5 d6 d7 d8 d9 d10 d11 d12 j = d4 (ix2 (j 0) k) := by
  unfold joined
  refine concatenate_apply_piece (t := Cert.ReferenceIdxIdeal.S4096x3072) 1 _ _ j 4 (by simp) S4096x256 d4 rfl rfl 1024 (by simp) (ix2 (j 0) k) (fun b hb => ?_) h
  match b, hb with
  | ⟨0, _⟩, _ => rfl
  | ⟨1, _⟩, hb => exact absurd rfl hb

/-- Block 5 of the thirteen side by side. -/
theorem joined_5 (d0 d1 d2 d3 d4 d5 d6 d7 d8 d9 d10 : FVec Ideal S4096x256 .f32) (d11 d12 : FVec Ideal S4096x128 .f32) (j : Cert.ReferenceIdxIdeal.S4096x3072.Idx)
    (k : Fin 256) (h : 1280 + k.val = (j 1).val) : joined d0 d1 d2 d3 d4 d5 d6 d7 d8 d9 d10 d11 d12 j = d5 (ix2 (j 0) k) := by
  unfold joined
  refine concatenate_apply_piece (t := Cert.ReferenceIdxIdeal.S4096x3072) 1 _ _ j 5 (by simp) S4096x256 d5 rfl rfl 1280 (by simp) (ix2 (j 0) k) (fun b hb => ?_) h
  match b, hb with
  | ⟨0, _⟩, _ => rfl
  | ⟨1, _⟩, hb => exact absurd rfl hb

/-- Block 6 of the thirteen side by side. -/
theorem joined_6 (d0 d1 d2 d3 d4 d5 d6 d7 d8 d9 d10 : FVec Ideal S4096x256 .f32) (d11 d12 : FVec Ideal S4096x128 .f32) (j : Cert.ReferenceIdxIdeal.S4096x3072.Idx)
    (k : Fin 256) (h : 1536 + k.val = (j 1).val) : joined d0 d1 d2 d3 d4 d5 d6 d7 d8 d9 d10 d11 d12 j = d6 (ix2 (j 0) k) := by
  unfold joined
  refine concatenate_apply_piece (t := Cert.ReferenceIdxIdeal.S4096x3072) 1 _ _ j 6 (by simp) S4096x256 d6 rfl rfl 1536 (by simp) (ix2 (j 0) k) (fun b hb => ?_) h
  match b, hb with
  | ⟨0, _⟩, _ => rfl
  | ⟨1, _⟩, hb => exact absurd rfl hb

/-- Block 7 of the thirteen side by side. -/
theorem joined_7 (d0 d1 d2 d3 d4 d5 d6 d7 d8 d9 d10 : FVec Ideal S4096x256 .f32) (d11 d12 : FVec Ideal S4096x128 .f32) (j : Cert.ReferenceIdxIdeal.S4096x3072.Idx)
    (k : Fin 256) (h : 1792 + k.val = (j 1).val) : joined d0 d1 d2 d3 d4 d5 d6 d7 d8 d9 d10 d11 d12 j = d7 (ix2 (j 0) k) := by
  unfold joined
  refine concatenate_apply_piece (t := Cert.ReferenceIdxIdeal.S4096x3072) 1 _ _ j 7 (by simp) S4096x256 d7 rfl rfl 1792 (by simp) (ix2 (j 0) k) (fun b hb => ?_) h
  match b, hb with
  | ⟨0, _⟩, _ => rfl
  | ⟨1, _⟩, hb => exact absurd rfl hb

/-- Block 8 of the thirteen side by side. -/
theorem joined_8 (d0 d1 d2 d3 d4 d5 d6 d7 d8 d9 d10 : FVec Ideal S4096x256 .f32) (d11 d12 : FVec Ideal S4096x128 .f32) (j : Cert.ReferenceIdxIdeal.S4096x3072.Idx)
    (k : Fin 256) (h : 2048 + k.val = (j 1).val) : joined d0 d1 d2 d3 d4 d5 d6 d7 d8 d9 d10 d11 d12 j = d8 (ix2 (j 0) k) := by
  unfold joined
  refine concatenate_apply_piece (t := Cert.ReferenceIdxIdeal.S4096x3072) 1 _ _ j 8 (by simp) S4096x256 d8 rfl rfl 2048 (by simp) (ix2 (j 0) k) (fun b hb => ?_) h
  match b, hb with
  | ⟨0, _⟩, _ => rfl
  | ⟨1, _⟩, hb => exact absurd rfl hb

/-- Block 9 of the thirteen side by side. -/
theorem joined_9 (d0 d1 d2 d3 d4 d5 d6 d7 d8 d9 d10 : FVec Ideal S4096x256 .f32) (d11 d12 : FVec Ideal S4096x128 .f32) (j : Cert.ReferenceIdxIdeal.S4096x3072.Idx)
    (k : Fin 256) (h : 2304 + k.val = (j 1).val) : joined d0 d1 d2 d3 d4 d5 d6 d7 d8 d9 d10 d11 d12 j = d9 (ix2 (j 0) k) := by
  unfold joined
  refine concatenate_apply_piece (t := Cert.ReferenceIdxIdeal.S4096x3072) 1 _ _ j 9 (by simp) S4096x256 d9 rfl rfl 2304 (by simp) (ix2 (j 0) k) (fun b hb => ?_) h
  match b, hb with
  | ⟨0, _⟩, _ => rfl
  | ⟨1, _⟩, hb => exact absurd rfl hb

/-- Block 10 of the thirteen side by side. -/
theorem joined_10 (d0 d1 d2 d3 d4 d5 d6 d7 d8 d9 d10 : FVec Ideal S4096x256 .f32) (d11 d12 : FVec Ideal S4096x128 .f32) (j : Cert.ReferenceIdxIdeal.S4096x3072.Idx)
    (k : Fin 256) (h : 2560 + k.val = (j 1).val) : joined d0 d1 d2 d3 d4 d5 d6 d7 d8 d9 d10 d11 d12 j = d10 (ix2 (j 0) k) := by
  unfold joined
  refine concatenate_apply_piece (t := Cert.ReferenceIdxIdeal.S4096x3072) 1 _ _ j 10 (by simp) S4096x256 d10 rfl rfl 2560 (by simp) (ix2 (j 0) k) (fun b hb => ?_) h
  match b, hb with
  | ⟨0, _⟩, _ => rfl
  | ⟨1, _⟩, hb => exact absurd rfl hb

/-- Block 11 of the thirteen side by side. -/
theorem joined_11 (d0 d1 d2 d3 d4 d5 d6 d7 d8 d9 d10 : FVec Ideal S4096x256 .f32) (d11 d12 : FVec Ideal S4096x128 .f32) (j : Cert.ReferenceIdxIdeal.S4096x3072.Idx)
    (k : Fin 128) (h : 2816 + k.val = (j 1).val) : joined d0 d1 d2 d3 d4 d5 d6 d7 d8 d9 d10 d11 d12 j = d11 (ix2 (j 0) k) := by
  unfold joined
  refine concatenate_apply_piece (t := Cert.ReferenceIdxIdeal.S4096x3072) 1 _ _ j 11 (by simp) S4096x128 d11 rfl rfl 2816 (by simp) (ix2 (j 0) k) (fun b hb => ?_) h
  match b, hb with
  | ⟨0, _⟩, _ => rfl
  | ⟨1, _⟩, hb => exact absurd rfl hb

/-- Block 12 of the thirteen side by side. -/
theorem joined_12 (d0 d1 d2 d3 d4 d5 d6 d7 d8 d9 d10 : FVec Ideal S4096x256 .f32) (d11 d12 : FVec Ideal S4096x128 .f32) (j : Cert.ReferenceIdxIdeal.S4096x3072.Idx)
    (k : Fin 128) (h : 2944 + k.val = (j 1).val) : joined d0 d1 d2 d3 d4 d5 d6 d7 d8 d9 d10 d11 d12 j = d12 (ix2 (j 0) k) := by
  unfold joined
  refine concatenate_apply_piece (t := Cert.ReferenceIdxIdeal.S4096x3072) 1 _ _ j 12 (by simp) S4096x128 d12 rfl rfl 2944 (by simp) (ix2 (j 0) k) (fun b hb => ?_) h
  match b, hb with
  | ⟨0, _⟩, _ => rfl
  | ⟨1, _⟩, hb => exact absurd rfl hb

/-- The reference's term: the thirteen gradients side by side, times the transposed weights. -/
def rowsGrad (w : FVec Ideal S1024x3072 .f32) (d0 d1 d2 d3 d4 d5 d6 d7 d8 d9 d10 : FVec Ideal S4096x256 .f32) (d11 d12 : FVec Ideal S4096x128 .f32) : FVec Ideal S4096x1024 .f32 :=
  Host.dotGeneral Cert.ReferenceIdxIdeal.dot_S4096x3072_S1024x3072_S4096x1024_1_1_0_0_n_n none
    (joined d0 d1 d2 d3 d4 d5 d6 d7 d8 d9 d10 d11 d12) w

/-- Where each window's block lies: the rows walk down the tokens, the weights stay. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![0, 0]
    ∧ win0_14.index t = ![t.val, 0] :=
  (by decide +kernel : ∀ t : Fin grid0.N, _)

/-- A sum over 3072 columns is the sum of the thirteen blocks' sums. -/
theorem sum_parts (f : Fin 3072 → EReal) : ∑ k, f k
    = (∑ k : Fin 256, f ⟨0 + k.val, by omega⟩)
      + (∑ k : Fin 256, f ⟨256 + k.val, by omega⟩)
      + (∑ k : Fin 256, f ⟨512 + k.val, by omega⟩)
      + (∑ k : Fin 256, f ⟨768 + k.val, by omega⟩)
      + (∑ k : Fin 256, f ⟨1024 + k.val, by omega⟩)
      + (∑ k : Fin 256, f ⟨1280 + k.val, by omega⟩)
      + (∑ k : Fin 256, f ⟨1536 + k.val, by omega⟩)
      + (∑ k : Fin 256, f ⟨1792 + k.val, by omega⟩)
      + (∑ k : Fin 256, f ⟨2048 + k.val, by omega⟩)
      + (∑ k : Fin 256, f ⟨2304 + k.val, by omega⟩)
      + (∑ k : Fin 256, f ⟨2560 + k.val, by omega⟩)
      + (∑ k : Fin 128, f ⟨2816 + k.val, by omega⟩)
      + (∑ k : Fin 128, f ⟨2944 + k.val, by omega⟩) := by
  have h12 := Fin.sum_univ_add (a := 2944) (b := 128) (show Fin (2944 + 128) → EReal from f)
  have h11 := Fin.sum_univ_add (a := 2816) (b := 128) (show Fin (2816 + 128) → EReal from fun k => f ⟨k.val, by omega⟩)
  have h10 := Fin.sum_univ_add (a := 2560) (b := 256) (show Fin (2560 + 256) → EReal from fun k => f ⟨k.val, by omega⟩)
  have h9 := Fin.sum_univ_add (a := 2304) (b := 256) (show Fin (2304 + 256) → EReal from fun k => f ⟨k.val, by omega⟩)
  have h8 := Fin.sum_univ_add (a := 2048) (b := 256) (show Fin (2048 + 256) → EReal from fun k => f ⟨k.val, by omega⟩)
  have h7 := Fin.sum_univ_add (a := 1792) (b := 256) (show Fin (1792 + 256) → EReal from fun k => f ⟨k.val, by omega⟩)
  have h6 := Fin.sum_univ_add (a := 1536) (b := 256) (show Fin (1536 + 256) → EReal from fun k => f ⟨k.val, by omega⟩)
  have h5 := Fin.sum_univ_add (a := 1280) (b := 256) (show Fin (1280 + 256) → EReal from fun k => f ⟨k.val, by omega⟩)
  have h4 := Fin.sum_univ_add (a := 1024) (b := 256) (show Fin (1024 + 256) → EReal from fun k => f ⟨k.val, by omega⟩)
  have h3 := Fin.sum_univ_add (a := 768) (b := 256) (show Fin (768 + 256) → EReal from fun k => f ⟨k.val, by omega⟩)
  have h2 := Fin.sum_univ_add (a := 512) (b := 256) (show Fin (512 + 256) → EReal from fun k => f ⟨k.val, by omega⟩)
  have h1 := Fin.sum_univ_add (a := 256) (b := 256) (show Fin (256 + 256) → EReal from fun k => f ⟨k.val, by omega⟩)
  have h0 : (∑ k : Fin 256, f ⟨0 + k.val, by omega⟩) = ∑ k : Fin 256, f ⟨k.val, by omega⟩ :=
    Finset.sum_congr rfl fun k _ => congrArg f (Fin.ext (Nat.zero_add _))
  rw [h0]
  exact h12.trans (congrArg (· + _) (h11.trans (congrArg (· + _) (h10.trans (congrArg (· + _) (h9.trans (congrArg (· + _) (h8.trans (congrArg (· + _) (h7.trans (congrArg (· + _) (h6.trans (congrArg (· + _) (h5.trans (congrArg (· + _) (h4.trans (congrArg (· + _) (h3.trans (congrArg (· + _) (h2.trans (congrArg (· + _) (h1))))))))))))))))))))))

/-- The reference's term at a row and column, as one sum. -/
theorem rowsGrad_sum (w : FVec Ideal S1024x3072 .f32) (d0 d1 d2 d3 d4 d5 d6 d7 d8 d9 d10 : FVec Ideal S4096x256 .f32) (d11 d12 : FVec Ideal S4096x128 .f32) (j : S4096x1024.Idx) :
    rowsGrad w d0 d1 d2 d3 d4 d5 d6 d7 d8 d9 d10 d11 d12 j = ∑ k : Fin 3072, joined d0 d1 d2 d3 d4 d5 d6 d7 d8 d9 d10 d11 d12 (ix2 (j 0) k) * w (ix2 (j 1) k) := by
  pointwise [rowsGrad]

/-- The same as the thirteen blocks' sums. -/
theorem rowsGrad_apply (w : FVec Ideal S1024x3072 .f32) (d0 d1 d2 d3 d4 d5 d6 d7 d8 d9 d10 : FVec Ideal S4096x256 .f32) (d11 d12 : FVec Ideal S4096x128 .f32) (j : S4096x1024.Idx) :
    rowsGrad w d0 d1 d2 d3 d4 d5 d6 d7 d8 d9 d10 d11 d12 j
    = (∑ k : Fin 256, d0 (ix2 (j 0) k) * w (ix2 (j 1) ⟨0 + k.val, by omega⟩))
      + (∑ k : Fin 256, d1 (ix2 (j 0) k) * w (ix2 (j 1) ⟨256 + k.val, by omega⟩))
      + (∑ k : Fin 256, d2 (ix2 (j 0) k) * w (ix2 (j 1) ⟨512 + k.val, by omega⟩))
      + (∑ k : Fin 256, d3 (ix2 (j 0) k) * w (ix2 (j 1) ⟨768 + k.val, by omega⟩))
      + (∑ k : Fin 256, d4 (ix2 (j 0) k) * w (ix2 (j 1) ⟨1024 + k.val, by omega⟩))
      + (∑ k : Fin 256, d5 (ix2 (j 0) k) * w (ix2 (j 1) ⟨1280 + k.val, by omega⟩))
      + (∑ k : Fin 256, d6 (ix2 (j 0) k) * w (ix2 (j 1) ⟨1536 + k.val, by omega⟩))
      + (∑ k : Fin 256, d7 (ix2 (j 0) k) * w (ix2 (j 1) ⟨1792 + k.val, by omega⟩))
      + (∑ k : Fin 256, d8 (ix2 (j 0) k) * w (ix2 (j 1) ⟨2048 + k.val, by omega⟩))
      + (∑ k : Fin 256, d9 (ix2 (j 0) k) * w (ix2 (j 1) ⟨2304 + k.val, by omega⟩))
      + (∑ k : Fin 256, d10 (ix2 (j 0) k) * w (ix2 (j 1) ⟨2560 + k.val, by omega⟩))
      + (∑ k : Fin 128, d11 (ix2 (j 0) k) * w (ix2 (j 1) ⟨2816 + k.val, by omega⟩))
      + (∑ k : Fin 128, d12 (ix2 (j 0) k) * w (ix2 (j 1) ⟨2944 + k.val, by omega⟩)) := by
  rw [rowsGrad_sum, sum_parts]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (Finset.sum_congr rfl fun k _ => congrArg (· * _) (joined_0 _ _ _ _ _ _ _ _ _ _ _ _ _ _ k rfl))
    (Finset.sum_congr rfl fun k _ => congrArg (· * _) (joined_1 _ _ _ _ _ _ _ _ _ _ _ _ _ _ k rfl)))
    (Finset.sum_congr rfl fun k _ => congrArg (· * _) (joined_2 _ _ _ _ _ _ _ _ _ _ _ _ _ _ k rfl)))
    (Finset.sum_congr rfl fun k _ => congrArg (· * _) (joined_3 _ _ _ _ _ _ _ _ _ _ _ _ _ _ k rfl)))
    (Finset.sum_congr rfl fun k _ => congrArg (· * _) (joined_4 _ _ _ _ _ _ _ _ _ _ _ _ _ _ k rfl)))
    (Finset.sum_congr rfl fun k _ => congrArg (· * _) (joined_5 _ _ _ _ _ _ _ _ _ _ _ _ _ _ k rfl)))
    (Finset.sum_congr rfl fun k _ => congrArg (· * _) (joined_6 _ _ _ _ _ _ _ _ _ _ _ _ _ _ k rfl)))
    (Finset.sum_congr rfl fun k _ => congrArg (· * _) (joined_7 _ _ _ _ _ _ _ _ _ _ _ _ _ _ k rfl)))
    (Finset.sum_congr rfl fun k _ => congrArg (· * _) (joined_8 _ _ _ _ _ _ _ _ _ _ _ _ _ _ k rfl)))
    (Finset.sum_congr rfl fun k _ => congrArg (· * _) (joined_9 _ _ _ _ _ _ _ _ _ _ _ _ _ _ k rfl)))
    (Finset.sum_congr rfl fun k _ => congrArg (· * _) (joined_10 _ _ _ _ _ _ _ _ _ _ _ _ _ _ k rfl)))
    (Finset.sum_congr rfl fun k _ => congrArg (· * _) (joined_11 _ _ _ _ _ _ _ _ _ _ _ _ _ _ k rfl)))
    (Finset.sum_congr rfl fun k _ => congrArg (· * _) (joined_12 _ _ _ _ _ _ _ _ _ _ _ _ _ _ k rfl)))

variable (m : (ℓ : Loc nD τ sig) → Buf (Elt Ideal) ℓ) (c : Dev nD)

/-- The call's result. -/
theorem final : (dats m 0 c).arrAt 14 cfg0.N = rowsGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t hf y => ?_
  blk_simp
  rw [after0_14]
  frame_out
  refine Eq.trans ?_ (rowsGrad_apply _ _ _ _ _ _ _ _ _ _ _ _ _ _ _).symm
  pointwise [k0_pay1, k0_pay2, k0_pay3, k0_pay4]
  blk_point [iblk, V, idx t]

end Cert.KernelIdxIdeal.Input

end
-- ==== Proof.IdxClaims.lean ====
/-
  The five claims on the call of the gradient of the input product's rows.
-/
module

public import proofs.«01_k».proof.Defs
public import proofs.«01_k».proof.Proof.Gen.KernelIdx
public import proofs.«01_k».proof.Proof.Gen.KernelIdxIdeal.Value
public import proofs.«01_k».proof.Proof.IdxValue
public import Idealize.ShloMosaic.Lib.Claim
public import Idealize.ShloMosaic.Adequacy
public import Idealize.ShloMosaic.Init

@[expose] public section

set_option maxRecDepth 16384

noncomputable section

namespace Cert.KernelIdxIdeal.Input

open Idealize.ShloMosaic Idealize.ShloMosaic.TcCoe Idealize.SL.Sem

/-- The frame of the idealized program's text, read at the machine's own floats. -/
def FrameAtBits : Prop :=
  ∀ (m : (ℓ : Loc Cert.KernelIdxIdeal.nD Cert.KernelIdxIdeal.τ Cert.KernelIdxIdeal.sig) → Buf (Elt Bits) ℓ) (g : Dev Cert.KernelIdxIdeal.nD → PrngReg), True →
    θ_run (Cert.KernelIdxIdeal.defs (F := Bits)) (onTc (τ := Cert.KernelIdxIdeal.τ) (Cert.KernelIdxIdeal.main (F := Bits))) ⟨m, fun _ => 0, g⟩ (fun r => (∀ c : Dev Cert.KernelIdxIdeal.nD,
      r.2.mem ((c.tc : Thread Cert.KernelIdxIdeal.nD Cert.KernelIdxIdeal.τ).loc Cert.KernelIdxIdeal.main_arg0) = m ((c.tc : Thread Cert.KernelIdxIdeal.nD Cert.KernelIdxIdeal.τ).loc Cert.KernelIdxIdeal.main_arg0)
      ∧ r.2.mem ((c.tc : Thread Cert.KernelIdxIdeal.nD Cert.KernelIdxIdeal.τ).loc Cert.KernelIdxIdeal.main_arg1) = m ((c.tc : Thread Cert.KernelIdxIdeal.nD Cert.KernelIdxIdeal.τ).loc Cert.KernelIdxIdeal.main_arg1)
      ∧ r.2.mem ((c.tc : Thread Cert.KernelIdxIdeal.nD Cert.KernelIdxIdeal.τ).loc Cert.KernelIdxIdeal.main_arg2) = m ((c.tc : Thread Cert.KernelIdxIdeal.nD Cert.KernelIdxIdeal.τ).loc Cert.KernelIdxIdeal.main_arg2)
      ∧ r.2.mem ((c.tc : Thread Cert.KernelIdxIdeal.nD Cert.KernelIdxIdeal.τ).loc Cert.KernelIdxIdeal.main_arg3) = m ((c.tc : Thread Cert.KernelIdxIdeal.nD Cert.KernelIdxIdeal.τ).loc Cert.KernelIdxIdeal.main_arg3)
      ∧ r.2.mem ((c.tc : Thread Cert.KernelIdxIdeal.nD Cert.KernelIdxIdeal.τ).loc Cert.KernelIdxIdeal.main_arg4) = m ((c.tc : Thread Cert.KernelIdxIdeal.nD Cert.KernelIdxIdeal.τ).loc Cert.KernelIdxIdeal.main_arg4)
      ∧ r.2.mem ((c.tc : Thread Cert.KernelIdxIdeal.nD Cert.KernelIdxIdeal.τ).loc Cert.KernelIdxIdeal.main_arg5) = m ((c.tc : Thread Cert.KernelIdxIdeal.nD Cert.KernelIdxIdeal.τ).loc Cert.KernelIdxIdeal.main_arg5)
      ∧ r.2.mem ((c.tc : Thread Cert.KernelIdxIdeal.nD Cert.KernelIdxIdeal.τ).loc Cert.KernelIdxIdeal.main_arg6) = m ((c.tc : Thread Cert.KernelIdxIdeal.nD Cert.KernelIdxIdeal.τ).loc Cert.KernelIdxIdeal.main_arg6)
      ∧ r.2.mem ((c.tc : Thread Cert.KernelIdxIdeal.nD Cert.KernelIdxIdeal.τ).loc Cert.KernelIdxIdeal.main_arg7) = m ((c.tc : Thread Cert.KernelIdxIdeal.nD Cert.KernelIdxIdeal.τ).loc Cert.KernelIdxIdeal.main_arg7)
      ∧ r.2.mem ((c.tc : Thread Cert.KernelIdxIdeal.nD Cert.KernelIdxIdeal.τ).loc Cert.KernelIdxIdeal.main_arg8) = m ((c.tc : Thread Cert.KernelIdxIdeal.nD Cert.KernelIdxIdeal.τ).loc Cert.KernelIdxIdeal.main_arg8)
      ∧ r.2.mem ((c.tc : Thread Cert.KernelIdxIdeal.nD Cert.KernelIdxIdeal.τ).loc Cert.KernelIdxIdeal.main_arg9) = m ((c.tc : Thread Cert.KernelIdxIdeal.nD Cert.KernelIdxIdeal.τ).loc Cert.KernelIdxIdeal.main_arg9)
      ∧ r.2.mem ((c.tc : Thread Cert.KernelIdxIdeal.nD Cert.KernelIdxIdeal.τ).loc Cert.KernelIdxIdeal.main_arg10) = m ((c.tc : Thread Cert.KernelIdxIdeal.nD Cert.KernelIdxIdeal.τ).loc Cert.KernelIdxIdeal.main_arg10)
      ∧ r.2.mem ((c.tc : Thread Cert.KernelIdxIdeal.nD Cert.KernelIdxIdeal.τ).loc Cert.KernelIdxIdeal.main_arg11) = m ((c.tc : Thread Cert.KernelIdxIdeal.nD Cert.KernelIdxIdeal.τ).loc Cert.KernelIdxIdeal.main_arg11)
      ∧ r.2.mem ((c.tc : Thread Cert.KernelIdxIdeal.nD Cert.KernelIdxIdeal.τ).loc Cert.KernelIdxIdeal.main_arg12) = m ((c.tc : Thread Cert.KernelIdxIdeal.nD Cert.KernelIdxIdeal.τ).loc Cert.KernelIdxIdeal.main_arg12)
      ∧ r.2.mem ((c.tc : Thread Cert.KernelIdxIdeal.nD Cert.KernelIdxIdeal.τ).loc Cert.KernelIdxIdeal.main_arg13) = m ((c.tc : Thread Cert.KernelIdxIdeal.nD Cert.KernelIdxIdeal.τ).loc Cert.KernelIdxIdeal.main_arg13))
      ∧ r.2.sem = fun _ => 0)

/-- The kernel's program has the same text as the idealized one, so its frame is that one read at the machine's floats. -/
theorem same_text : Cert.quiescent_KernelIdx = FrameAtBits := by
  sl_kernel_rfl

/-- Every run of the kernel's program ends in a quiescent state. -/
theorem frame_kernel : Cert.quiescent_KernelIdx :=
  same_text.mpr fun m ρ _ => Cert.KernelIdxIdeal.Gen.frame (F := Bits) m ρ

/-- Every run of the idealized kernel ends in a quiescent state. -/
theorem frame_ideal : Cert.quiescent_KernelIdxIdeal := fun m ρ _ => Cert.KernelIdxIdeal.Gen.frame m ρ

/-- Every run of the idealized reference ends in a quiescent state. -/
theorem frame_reference : Cert.quiescent_ReferenceIdxIdeal := by
  intro m g _
  refine (θ_run _ _ _).mono (fun r h => ⟨fun c => (h c).2, sem_eq_zero_of_no_sems (by decide) r.2⟩) (Cert.ReferenceIdxIdeal.Value.run m g)

/-- Idealizing the kernel rewrites nothing. -/
theorem preserves : Cert.preserves_KernelIdx_KernelIdxIdeal := trivial

/-- The kernel's result equals the reference's. -/
theorem algebraic : Cert.algebraic_KernelIdxIdeal_ReferenceIdxIdeal := by
  intro m g m' g' _ hagree
  refine ⟨_, (θ_run _ _ _).mono (fun r h c => ⟨(h c).1.trans (final m c), (h c).2⟩) (Cert.KernelIdxIdeal.Value.run_blocks m g),
    (θ_run _ _ _).mono (fun r h c => ?_) (Cert.ReferenceIdxIdeal.Value.run m' g')⟩
  obtain ⟨h0, h1, h2, h3, h4, h5, h6, h7, h8, h9, h10, h11, h12, h13⟩ := hagree c
  obtain ⟨r0, rest⟩ := h c
  refine ⟨r0.trans ?_, rest⟩
  rw [h0, h1, h2, h3, h4, h5, h6, h7, h8, h9, h10, h11, h12, h13]
  rfl

end Cert.KernelIdxIdeal.Input

end
-- ==== Proof.IdwValue.lean ====
/-
  The gradient of the input product's weights, `xᵀ · dh`: the call sums over sixteen blocks of 256 tokens and writes the thirteen
  column blocks in turn, the reference contracts the thirteen side by side over the 4096 tokens at once, transposed.
-/
module

public import proofs.«01_k».proof.Proof.Gen.KernelIdwIdeal.Frame
public import proofs.«01_k».proof.Proof.Gen.ReferenceIdwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelIdwIdeal.Input

open Cert.KernelIdwIdeal Cert.KernelIdwIdeal.Gen
open Idealize.ShloMosaic Idealize.ShloMosaic.TcCoe Idealize.SL.Sem
open Idealize.ShloMosaic.Pipeline (Dat)

/-- The reference's thirteen gradients side by side. -/
def joined (d0 d1 d2 d3 d4 d5 d6 d7 d8 d9 d10 : FVec Ideal S4096x256 .f32) (d11 d12 : FVec Ideal S4096x128 .f32) : FVec Ideal Cert.ReferenceIdwIdeal.S4096x3072 .f32 :=
  (concatenate Cert.ReferenceIdwIdeal.S4096x3072 1 [⟨S4096x256, d0⟩, ⟨S4096x256, d1⟩, ⟨S4096x256, d2⟩, ⟨S4096x256, d3⟩, ⟨S4096x256, d4⟩, ⟨S4096x256, d5⟩, ⟨S4096x256, d6⟩, ⟨S4096x256, d7⟩, ⟨S4096x256, d8⟩, ⟨S4096x256, d9⟩, ⟨S4096x256, d10⟩, ⟨S4096x128, d11⟩, ⟨S4096x128, d12⟩]
      Cert.ReferenceIdwIdeal.Gen.concatenates_S4096x256_S4096x256_S4096x256_S4096x256_S4096x256_S4096x256_S4096x256_S4096x256_S4096x256_S4096x256_S4096x256_S4096x128_S4096x128_S4096x3072_d1)

/-- Block 0 of the thirteen side by side. -/
theorem joined_0 (d0 d1 d2 d3 d4 d5 d6 d7 d8 d9 d10 : FVec Ideal S4096x256 .f32) (d11 d12 : FVec Ideal S4096x128 .f32) (j : Cert.ReferenceIdwIdeal.S4096x3072.Idx)
    (k : Fin 256) (h : 0 + k.val = (j 1).val) : joined d0 d1 d2 d3 d4 d5 d6 d7 d8 d9 d10 d11 d12 j = d0 (ix2 (j 0) k) := by
  unfold joined
  refine concatenate_apply_piece (t := Cert.ReferenceIdwIdeal.S4096x3072) 1 _ _ j 0 (by simp) S4096x256 d0 rfl rfl 0 (by simp) (ix2 (j 0) k) (fun b hb => ?_) h
  match b, hb with
  | ⟨0, _⟩, _ => rfl
  | ⟨1, _⟩, hb => exact absurd rfl hb

/-- Block 1 of the thirteen side by side. -/
theorem joined_1 (d0 d1 d2 d3 d4 d5 d6 d7 d8 d9 d10 : FVec Ideal S4096x256 .f32) (d11 d12 : FVec Ideal S4096x128 .f32) (j : Cert.ReferenceIdwIdeal.S4096x3072.Idx)
    (k : Fin 256) (h : 256 + k.val = (j 1).val) : joined d0 d1 d2 d3 d4 d5 d6 d7 d8 d9 d10 d11 d12 j = d1 (ix2 (j 0) k) := by
  unfold joined
  refine concatenate_apply_piece (t := Cert.ReferenceIdwIdeal.S4096x3072) 1 _ _ j 1 (by simp) S4096x256 d1 rfl rfl 256 (by simp) (ix2 (j 0) k) (fun b hb => ?_) h
  match b, hb with
  | ⟨0, _⟩, _ => rfl
  | ⟨1, _⟩, hb => exact absurd rfl hb

/-- Block 2 of the thirteen side by side. -/
theorem joined_2 (d0 d1 d2 d3 d4 d5 d6 d7 d8 d9 d10 : FVec Ideal S4096x256 .f32) (d11 d12 : FVec Ideal S4096x128 .f32) (j : Cert.ReferenceIdwIdeal.S4096x3072.Idx)
    (k : Fin 256) (h : 512 + k.val = (j 1).val) : joined d0 d1 d2 d3 d4 d5 d6 d7 d8 d9 d10 d11 d12 j = d2 (ix2 (j 0) k) := by
  unfold joined
  refine concatenate_apply_piece (t := Cert.ReferenceIdwIdeal.S4096x3072) 1 _ _ j 2 (by simp) S4096x256 d2 rfl rfl 512 (by simp) (ix2 (j 0) k) (fun b hb => ?_) h
  match b, hb with
  | ⟨0, _⟩, _ => rfl
  | ⟨1, _⟩, hb => exact absurd rfl hb

/-- Block 3 of the thirteen side by side. -/
theorem joined_3 (d0 d1 d2 d3 d4 d5 d6 d7 d8 d9 d10 : FVec Ideal S4096x256 .f32) (d11 d12 : FVec Ideal S4096x128 .f32) (j : Cert.ReferenceIdwIdeal.S4096x3072.Idx)
    (k : Fin 256) (h : 768 + k.val = (j 1).val) : joined d0 d1 d2 d3 d4 d5 d6 d7 d8 d9 d10 d11 d12 j = d3 (ix2 (j 0) k) := by
  unfold joined
  refine concatenate_apply_piece (t := Cert.ReferenceIdwIdeal.S4096x3072) 1 _ _ j 3 (by simp) S4096x256 d3 rfl rfl 768 (by simp) (ix2 (j 0) k) (fun b hb => ?_) h
  match b, hb with
  | ⟨0, _⟩, _ => rfl
  | ⟨1, _⟩, hb => exact absurd rfl hb

/-- Block 4 of the thirteen side by side. -/
theorem joined_4 (d0 d1 d2 d3 d4 d5 d6 d7 d8 d9 d10 : FVec Ideal S4096x256 .f32) (d11 d12 : FVec Ideal S4096x128 .f32) (j : Cert.ReferenceIdwIdeal.S4096x3072.Idx)
    (k : Fin 256) (h : 1024 + k.val = (j 1).val) : joined d0 d1 d2 d3 d4 d5 d6 d7 d8 d9 d10 d11 d12 j = d4 (ix2 (j 0) k) := by
  unfold joined
  refine concatenate_apply_piece (t := Cert.ReferenceIdwIdeal.S4096x3072) 1 _ _ j 4 (by simp) S4096x256 d4 rfl rfl 1024 (by simp) (ix2 (j 0) k) (fun b hb => ?_) h
  match b, hb with
  | ⟨0, _⟩, _ => rfl
  | ⟨1, _⟩, hb => exact absurd rfl hb

/-- Block 5 of the thirteen side by side. -/
theorem joined_5 (d0 d1 d2 d3 d4 d5 d6 d7 d8 d9 d10 : FVec Ideal S4096x256 .f32) (d11 d12 : FVec Ideal S4096x128 .f32) (j : Cert.ReferenceIdwIdeal.S4096x3072.Idx)
    (k : Fin 256) (h : 1280 + k.val = (j 1).val) : joined d0 d1 d2 d3 d4 d5 d6 d7 d8 d9 d10 d11 d12 j = d5 (ix2 (j 0) k) := by
  unfold joined
  refine concatenate_apply_piece (t := Cert.ReferenceIdwIdeal.S4096x3072) 1 _ _ j 5 (by simp) S4096x256 d5 rfl rfl 1280 (by simp) (ix2 (j 0) k) (fun b hb => ?_) h
  match b, hb with
  | ⟨0, _⟩, _ => rfl
  | ⟨1, _⟩, hb => exact absurd rfl hb

/-- Block 6 of the thirteen side by side. -/
theorem joined_6 (d0 d1 d2 d3 d4 d5 d6 d7 d8 d9 d10 : FVec Ideal S4096x256 .f32) (d11 d12 : FVec Ideal S4096x128 .f32) (j : Cert.ReferenceIdwIdeal.S4096x3072.Idx)
    (k : Fin 256) (h : 1536 + k.val = (j 1).val) : joined d0 d1 d2 d3 d4 d5 d6 d7 d8 d9 d10 d11 d12 j = d6 (ix2 (j 0) k) := by
  unfold joined
  refine concatenate_apply_piece (t := Cert.ReferenceIdwIdeal.S4096x3072) 1 _ _ j 6 (by simp) S4096x256 d6 rfl rfl 1536 (by simp) (ix2 (j 0) k) (fun b hb => ?_) h
  match b, hb with
  | ⟨0, _⟩, _ => rfl
  | ⟨1, _⟩, hb => exact absurd rfl hb

/-- Block 7 of the thirteen side by side. -/
theorem joined_7 (d0 d1 d2 d3 d4 d5 d6 d7 d8 d9 d10 : FVec Ideal S4096x256 .f32) (d11 d12 : FVec Ideal S4096x128 .f32) (j : Cert.ReferenceIdwIdeal.S4096x3072.Idx)
    (k : Fin 256) (h : 1792 + k.val = (j 1).val) : joined d0 d1 d2 d3 d4 d5 d6 d7 d8 d9 d10 d11 d12 j = d7 (ix2 (j 0) k) := by
  unfold joined
  refine concatenate_apply_piece (t := Cert.ReferenceIdwIdeal.S4096x3072) 1 _ _ j 7 (by simp) S4096x256 d7 rfl rfl 1792 (by simp) (ix2 (j 0) k) (fun b hb => ?_) h
  match b, hb with
  | ⟨0, _⟩, _ => rfl
  | ⟨1, _⟩, hb => exact absurd rfl hb

/-- Block 8 of the thirteen side by side. -/
theorem joined_8 (d0 d1 d2 d3 d4 d5 d6 d7 d8 d9 d10 : FVec Ideal S4096x256 .f32) (d11 d12 : FVec Ideal S4096x128 .f32) (j : Cert.ReferenceIdwIdeal.S4096x3072.Idx)
    (k : Fin 256) (h : 2048 + k.val = (j 1).val) : joined d0 d1 d2 d3 d4 d5 d6 d7 d8 d9 d10 d11 d12 j = d8 (ix2 (j 0) k) := by
  unfold joined
  refine concatenate_apply_piece (t := Cert.ReferenceIdwIdeal.S4096x3072) 1 _ _ j 8 (by simp) S4096x256 d8 rfl rfl 2048 (by simp) (ix2 (j 0) k) (fun b hb => ?_) h
  match b, hb with
  | ⟨0, _⟩, _ => rfl
  | ⟨1, _⟩, hb => exact absurd rfl hb

/-- Block 9 of the thirteen side by side. -/
theorem joined_9 (d0 d1 d2 d3 d4 d5 d6 d7 d8 d9 d10 : FVec Ideal S4096x256 .f32) (d11 d12 : FVec Ideal S4096x128 .f32) (j : Cert.ReferenceIdwIdeal.S4096x3072.Idx)
    (k : Fin 256) (h : 2304 + k.val = (j 1).val) : joined d0 d1 d2 d3 d4 d5 d6 d7 d8 d9 d10 d11 d12 j = d9 (ix2 (j 0) k) := by
  unfold joined
  refine concatenate_apply_piece (t := Cert.ReferenceIdwIdeal.S4096x3072) 1 _ _ j 9 (by simp) S4096x256 d9 rfl rfl 2304 (by simp) (ix2 (j 0) k) (fun b hb => ?_) h
  match b, hb with
  | ⟨0, _⟩, _ => rfl
  | ⟨1, _⟩, hb => exact absurd rfl hb

/-- Block 10 of the thirteen side by side. -/
theorem joined_10 (d0 d1 d2 d3 d4 d5 d6 d7 d8 d9 d10 : FVec Ideal S4096x256 .f32) (d11 d12 : FVec Ideal S4096x128 .f32) (j : Cert.ReferenceIdwIdeal.S4096x3072.Idx)
    (k : Fin 256) (h : 2560 + k.val = (j 1).val) : joined d0 d1 d2 d3 d4 d5 d6 d7 d8 d9 d10 d11 d12 j = d10 (ix2 (j 0) k) := by
  unfold joined
  refine concatenate_apply_piece (t := Cert.ReferenceIdwIdeal.S4096x3072) 1 _ _ j 10 (by simp) S4096x256 d10 rfl rfl 2560 (by simp) (ix2 (j 0) k) (fun b hb => ?_) h
  match b, hb with
  | ⟨0, _⟩, _ => rfl
  | ⟨1, _⟩, hb => exact absurd rfl hb

/-- Block 11 of the thirteen side by side. -/
theorem joined_11 (d0 d1 d2 d3 d4 d5 d6 d7 d8 d9 d10 : FVec Ideal S4096x256 .f32) (d11 d12 : FVec Ideal S4096x128 .f32) (j : Cert.ReferenceIdwIdeal.S4096x3072.Idx)
    (k : Fin 128) (h : 2816 + k.val = (j 1).val) : joined d0 d1 d2 d3 d4 d5 d6 d7 d8 d9 d10 d11 d12 j = d11 (ix2 (j 0) k) := by
  unfold joined
  refine concatenate_apply_piece (t := Cert.ReferenceIdwIdeal.S4096x3072) 1 _ _ j 11 (by simp) S4096x128 d11 rfl rfl 2816 (by simp) (ix2 (j 0) k) (fun b hb => ?_) h
  match b, hb with
  | ⟨0, _⟩, _ => rfl
  | ⟨1, _⟩, hb => exact absurd rfl hb

/-- Block 12 of the thirteen side by side. -/
theorem joined_12 (d0 d1 d2 d3 d4 d5 d6 d7 d8 d9 d10 : FVec Ideal S4096x256 .f32) (d11 d12 : FVec Ideal S4096x128 .f32) (j : Cert.ReferenceIdwIdeal.S4096x3072.Idx)
    (k : Fin 128) (h : 2944 + k.val = (j 1).val) : joined d0 d1 d2 d3 d4 d5 d6 d7 d8 d9 d10 d11 d12 j = d12 (ix2 (j 0) k) := by
  unfold joined
  refine concatenate_apply_piece (t := Cert.ReferenceIdwIdeal.S4096x3072) 1 _ _ j 12 (by simp) S4096x128 d12 rfl rfl 2944 (by simp) (ix2 (j 0) k) (fun b hb => ?_) h
  match b, hb with
  | ⟨0, _⟩, _ => rfl
  | ⟨1, _⟩, hb => exact absurd rfl hb

/-- The reference's term: the transposed gradients side by side times the rows, transposed back. -/
def weightsGrad (x : FVec Ideal S4096x1024 .f32) (d0 d1 d2 d3 d4 d5 d6 d7 d8 d9 d10 : FVec Ideal S4096x256 .f32) (d11 d12 : FVec Ideal S4096x128 .f32) : FVec Ideal S1024x3072 .f32 :=
  transpose S1024x3072 [1, 0] (Host.dotGeneral Cert.ReferenceIdwIdeal.dot_S4096x3072_S4096x1024_S3072x1024_0_0_1_1_n_n none
    (joined d0 d1 d2 d3 d4 d5 d6 d7 d8 d9 d10 d11 d12) x)
    Cert.ReferenceIdwIdeal.Gen.transposes_S3072x1024_S1024x3072_1_0

/-- Where each window's block lies: the inputs walk down the tokens, the result stays. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![0, 0] :=
  (by decide +kernel : ∀ t : Fin grid0.N, _)

/-- The scratch starts at zero. -/
theorem zero_apply (j : S1024x3072.Idx) : k0_pay4 (F := Ideal) j = 0 := by
  pointwise [k0_pay4]

/-- The entry of thirteen arrays side by side. -/
def beside {α : Type} (d0 d1 d2 d3 d4 d5 d6 d7 d8 d9 d10 : Fin 256 → α) (d11 d12 : Fin 128 → α) (j : Fin 3072) : α :=
  if h : j.val < 256 then d0 ⟨j.val, h⟩
  else if h : j.val - 256 < 256 then d1 ⟨j.val - 256, h⟩
  else if h : j.val - 256 - 256 < 256 then d2 ⟨j.val - 256 - 256, h⟩
  else if h : j.val - 256 - 256 - 256 < 256 then d3 ⟨j.val - 256 - 256 - 256, h⟩
  else if h : j.val - 256 - 256 - 256 - 256 < 256 then d4 ⟨j.val - 256 - 256 - 256 - 256, h⟩
  else if h : j.val - 256 - 256 - 256 - 256 - 256 < 256 then d5 ⟨j.val - 256 - 256 - 256 - 256 - 256, h⟩
  else if h : j.val - 256 - 256 - 256 - 256 - 256 - 256 < 256 then d6 ⟨j.val - 256 - 256 - 256 - 256 - 256 - 256, h⟩
  else if h : j.val - 256 - 256 - 256 - 256 - 256 - 256 - 256 < 256 then d7 ⟨j.val - 256 - 256 - 256 - 256 - 256 - 256 - 256, h⟩
  else if h : j.val - 256 - 256 - 256 - 256 - 256 - 256 - 256 - 256 < 256 then d8 ⟨j.val - 256 - 256 - 256 - 256 - 256 - 256 - 256 - 256, h⟩
  else if h : j.val - 256 - 256 - 256 - 256 - 256 - 256 - 256 - 256 - 256 < 256 then d9 ⟨j.val - 256 - 256 - 256 - 256 - 256 - 256 - 256 - 256 - 256, h⟩
  else if h : j.val - 256 - 256 - 256 - 256 - 256 - 256 - 256 - 256 - 256 - 256 < 256 then d10 ⟨j.val - 256 - 256 - 256 - 256 - 256 - 256 - 256 - 256 - 256 - 256, h⟩
  else if h : j.val - 256 - 256 - 256 - 256 - 256 - 256 - 256 - 256 - 256 - 256 - 256 < 128 then d11 ⟨j.val - 256 - 256 - 256 - 256 - 256 - 256 - 256 - 256 - 256 - 256 - 256, h⟩
  else d12 ⟨j.val - 256 - 256 - 256 - 256 - 256 - 256 - 256 - 256 - 256 - 256 - 256 - 128, by omega⟩

/-- The thirteen side by side at a row and column. -/
theorem joined_apply (d0 d1 d2 d3 d4 d5 d6 d7 d8 d9 d10 : FVec Ideal S4096x256 .f32) (d11 d12 : FVec Ideal S4096x128 .f32) (j : Cert.ReferenceIdwIdeal.S4096x3072.Idx) :
    joined d0 d1 d2 d3 d4 d5 d6 d7 d8 d9 d10 d11 d12 j = beside (fun i => d0 (ix2 (j 0) i)) (fun i => d1 (ix2 (j 0) i)) (fun i => d2 (ix2 (j 0) i)) (fun i => d3 (ix2 (j 0) i)) (fun i => d4 (ix2 (j 0) i)) (fun i => d5 (ix2 (j 0) i)) (fun i => d6 (ix2 (j 0) i)) (fun i => d7 (ix2 (j 0) i)) (fun i => d8 (ix2 (j 0) i)) (fun i => d9 (ix2 (j 0) i)) (fun i => d10 (ix2 (j 0) i)) (fun i => d11 (ix2 (j 0) i)) (fun i => d12 (ix2 (j 0) i)) (j 1) := by
  unfold beside
  by_cases h0 : (j 1).val < 256
  · rw [dif_pos h0]
    exact joined_0 d0 d1 d2 d3 d4 d5 d6 d7 d8 d9 d10 d11 d12 j _ (show 0 + ((j 1).val) = (j 1).val by omega)
  rw [dif_neg h0]
  by_cases h1 : (j 1).val - 256 < 256
  · rw [dif_pos h1]
    exact joined_1 d0 d1 d2 d3 d4 d5 d6 d7 d8 d9 d10 d11 d12 j _ (show 256 + ((j 1).val - 256) = (j 1).val by omega)
  rw [dif_neg h1]
  by_cases h2 : (j 1).val - 256 - 256 < 256
  · rw [dif_pos h2]
    exact joined_2 d0 d1 d2 d3 d4 d5 d6 d7 d8 d9 d10 d11 d12 j _ (show 512 + ((j 1).val - 256 - 256) = (j 1).val by omega)
  rw [dif_neg h2]
  by_cases h3 : (j 1).val - 256 - 256 - 256 < 256
  · rw [dif_pos h3]
    exact joined_3 d0 d1 d2 d3 d4 d5 d6 d7 d8 d9 d10 d11 d12 j _ (show 768 + ((j 1).val - 256 - 256 - 256) = (j 1).val by omega)
  rw [dif_neg h3]
  by_cases h4 : (j 1).val - 256 - 256 - 256 - 256 < 256
  · rw [dif_pos h4]
    exact joined_4 d0 d1 d2 d3 d4 d5 d6 d7 d8 d9 d10 d11 d12 j _ (show 1024 + ((j 1).val - 256 - 256 - 256 - 256) = (j 1).val by omega)
  rw [dif_neg h4]
  by_cases h5 : (j 1).val - 256 - 256 - 256 - 256 - 256 < 256
  · rw [dif_pos h5]
    exact joined_5 d0 d1 d2 d3 d4 d5 d6 d7 d8 d9 d10 d11 d12 j _ (show 1280 + ((j 1).val - 256 - 256 - 256 - 256 - 256) = (j 1).val by omega)
  rw [dif_neg h5]
  by_cases h6 : (j 1).val - 256 - 256 - 256 - 256 - 256 - 256 < 256
  · rw [dif_pos h6]
    exact joined_6 d0 d1 d2 d3 d4 d5 d6 d7 d8 d9 d10 d11 d12 j _ (show 1536 + ((j 1).val - 256 - 256 - 256 - 256 - 256 - 256) = (j 1).val by omega)
  rw [dif_neg h6]
  by_cases h7 : (j 1).val - 256 - 256 - 256 - 256 - 256 - 256 - 256 < 256
  · rw [dif_pos h7]
    exact joined_7 d0 d1 d2 d3 d4 d5 d6 d7 d8 d9 d10 d11 d12 j _ (show 1792 + ((j 1).val - 256 - 256 - 256 - 256 - 256 - 256 - 256) = (j 1).val by omega)
  rw [dif_neg h7]
  by_cases h8 : (j 1).val - 256 - 256 - 256 - 256 - 256 - 256 - 256 - 256 < 256
  · rw [dif_pos h8]
    exact joined_8 d0 d1 d2 d3 d4 d5 d6 d7 d8 d9 d10 d11 d12 j _ (show 2048 + ((j 1).val - 256 - 256 - 256 - 256 - 256 - 256 - 256 - 256) = (j 1).val by omega)
  rw [dif_neg h8]
  by_cases h9 : (j 1).val - 256 - 256 - 256 - 256 - 256 - 256 - 256 - 256 - 256 < 256
  · rw [dif_pos h9]
    exact joined_9 d0 d1 d2 d3 d4 d5 d6 d7 d8 d9 d10 d11 d12 j _ (show 2304 + ((j 1).val - 256 - 256 - 256 - 256 - 256 - 256 - 256 - 256 - 256) = (j 1).val by omega)
  rw [dif_neg h9]
  by_cases h10 : (j 1).val - 256 - 256 - 256 - 256 - 256 - 256 - 256 - 256 - 256 - 256 < 256
  · rw [dif_pos h10]
    exact joined_10 d0 d1 d2 d3 d4 d5 d6 d7 d8 d9 d10 d11 d12 j _ (show 2560 + ((j 1).val - 256 - 256 - 256 - 256 - 256 - 256 - 256 - 256 - 256 - 256) = (j 1).val by omega)
  rw [dif_neg h10]
  by_cases h11 : (j 1).val - 256 - 256 - 256 - 256 - 256 - 256 - 256 - 256 - 256 - 256 - 256 < 128
  · rw [dif_pos h11]
    exact joined_11 d0 d1 d2 d3 d4 d5 d6 d7 d8 d9 d10 d11 d12 j _ (show 2816 + ((j 1).val - 256 - 256 - 256 - 256 - 256 - 256 - 256 - 256 - 256 - 256 - 256) = (j 1).val by omega)
  rw [dif_neg h11]
  exact joined_12 d0 d1 d2 d3 d4 d5 d6 d7 d8 d9 d10 d11 d12 j _ (show 2944 + ((j 1).val - 256 - 256 - 256 - 256 - 256 - 256 - 256 - 256 - 256 - 256 - 256 - 128) = (j 1).val by omega)

/-- The reference's term at a row and column: the sum over the tokens. -/
theorem weightsGrad_apply (x : FVec Ideal S4096x1024 .f32) (d0 d1 d2 d3 d4 d5 d6 d7 d8 d9 d10 : FVec Ideal S4096x256 .f32) (d11 d12 : FVec Ideal S4096x128 .f32) (j : S1024x3072.Idx) :
    weightsGrad x d0 d1 d2 d3 d4 d5 d6 d7 d8 d9 d10 d11 d12 j = ∑ k : Fin 4096, x (ix2 k (j 0)) * beside (fun i => d0 (ix2 k i)) (fun i => d1 (ix2 k i)) (fun i => d2 (ix2 k i)) (fun i => d3 (ix2 k i)) (fun i => d4 (ix2 k i)) (fun i => d5 (ix2 k i)) (fun i => d6 (ix2 k i)) (fun i => d7 (ix2 k i)) (fun i => d8 (ix2 k i)) (fun i => d9 (ix2 k i)) (fun i => d10 (ix2 k i)) (fun i => d11 (ix2 k i)) (fun i => d12 (ix2 k i)) (j 1) := by
  pointwise [weightsGrad]
  exact Finset.sum_congr rfl fun k _ => (mul_comm _ _).trans (congrArg (_ * ·) (joined_apply _ _ _ _ _ _ _ _ _ _ _ _ _ _))

variable (m : (ℓ : Loc nD τ sig) → Buf (Elt Ideal) ℓ) (c : Dev nD)

/-- Stores that cover the buffer hide the earlier ones. -/
theorem canon_append {S : Shape} {e : EltTy} {Val : EltTy → Type} [∀ e, Nonempty (Val e)] (L' : List (View.Piece Val S e)) (y : S.Idx) :
    ∀ L : List (View.Piece Val S e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append L' y L ?_
      obtain ⟨q, hq, hyq⟩ := hc
      rcases List.mem_cons.mp hq with rfl | hq'
      · exact absurd hyq hm
      · exact ⟨q, hq', hyq⟩

/-- The same at thirteen stores, as a step of a proof. -/
theorem canon_parts {S : Shape} {e : EltTy} {Val : EltTy → Type} [∀ e, Nonempty (Val e)] (p0 p1 p2 p3 p4 p5 p6 p7 p8 p9 p10 p11 p12 q : View.Piece Val S e) (y : S.Idx) (v : Val e)
    (hc : ∃ p ∈ [p0, p1, p2, p3, p4, p5, p6, p7, p8, p9, p10, p11, p12], y ∈ p.1.set)
    (h : View.canon [p0, p1, p2, p3, p4, p5, p6, p7, p8, p9, p10, p11, p12] y = v) :
    View.canon [p0, p1, p2, p3, p4, p5, p6, p7, p8, p9, p10, p11, p12, q] y = v :=
  (canon_append [q] y [p0, p1, p2, p3, p4, p5, p6, p7, p8, p9, p10, p11, p12] hc).trans h

/-- A store over some columns covers those; the rest is left to the others. -/
theorem cover_cols {Val : EltTy → Type} {e : EltTy} {o n : ℕ} {inb} (w : (Rect.unit (s := S1024x3072) ![0, o] ![1024, n] inb).shape.Idx → Val e)
    (L : List (View.Piece Val S1024x3072 e)) (y : S1024x3072.Idx)
    (h : ¬(o ≤ (y 1).val ∧ (y 1).val < o + n) → ∃ q ∈ L, y ∈ q.1.set) :
    ∃ q ∈ (⟨Rect.unit ![0, o] ![1024, n] inb, w⟩ : View.Piece Val S1024x3072 e) :: L, y ∈ q.1.set := by
  by_cases hc : o ≤ (y 1).val ∧ (y 1).val < o + n
  · have hy : y ∈ (Rect.unit (s := S1024x3072) ![0, o] ![1024, n] inb).set := by
      refine Rect.mem_set_unit.mpr ?_
      intro a
      have h0 : (y 0).val < 1024 := (y 0).isLt
      match a with
      | ⟨0, _⟩ => exact ⟨Nat.zero_le _, by show (y 0).val < 0 + 1024; omega⟩
      | ⟨1, _⟩ => exact hc
    exact ⟨⟨Rect.unit ![0, o] ![1024, n] inb, w⟩, List.mem_cons_self, hy⟩
  · obtain ⟨q, hq, hy⟩ := h hc
    exact ⟨q, List.mem_cons_of_mem _ hq, hy⟩

/-- What one block of tokens adds. -/
def part (x : FVec Ideal S256x1024 .f32) (d0 d1 d2 d3 d4 d5 d6 d7 d8 d9 d10 : FVec Ideal S256x256 .f32) (d11 d12 : FVec Ideal S256x128 .f32) (j : S1024x3072.Idx) : EReal :=
  ∑ k : Fin 256, x (ix2 k (j 0)) * beside (fun i => d0 (ix2 k i)) (fun i => d1 (ix2 k i)) (fun i => d2 (ix2 k i)) (fun i => d3 (ix2 k i)) (fun i => d4 (ix2 k i)) (fun i => d5 (ix2 k i)) (fun i => d6 (ix2 k i)) (fun i => d7 (ix2 k i)) (fun i => d8 (ix2 k i)) (fun i => d9 (ix2 k i)) (fun i => d10 (ix2 k i)) (fun i => d11 (ix2 k i)) (fun i => d12 (ix2 k i)) (j 1)

/-- The first block starts from zero. -/
theorem step_first (t : Fin cfg0.N) (h : t.val % 16 = 0) (j : S1024x3072.Idx) :
    (outsAt0 (F := Ideal) m c t.val t.isLt).2 j = 0 + part (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j := by
  rw [outsAt0_A m c t h (by omega)]; frame_out
  clear h
  simp (discharger := decide) only [↓View.readCov_skip, View.readCov_fill]
  refine canon_parts _ _ _ _ _ _ _ _ _ _ _ _ _ _ j _ (cover_cols _ _ j fun h12 => cover_cols _ _ j fun h11 => cover_cols _ _ j fun h10 => cover_cols _ _ j fun h9 => cover_cols _ _ j fun h8 => cover_cols _ _ j fun h7 => cover_cols _ _ j fun h6 => cover_cols _ _ j fun h5 => cover_cols _ _ j fun h4 => cover_cols _ _ j fun h3 => cover_cols _ _ j fun h2 => cover_cols _ _ j fun h1 => cover_cols _ _ j fun h0 => absurd (show (j 1).val < 3072 from (j 1).isLt) (by omega)) ?_
  canon_tiles x e using (cover_cols _ _ j fun h12 => cover_cols _ _ j fun h11 => cover_cols _ _ j fun h10 => cover_cols _ _ j fun h9 => cover_cols _ _ j fun h8 => cover_cols _ _ j fun h7 => cover_cols _ _ j fun h6 => cover_cols _ _ j fun h5 => cover_cols _ _ j fun h4 => cover_cols _ _ j fun h3 => cover_cols _ _ j fun h2 => cover_cols _ _ j fun h1 => cover_cols _ _ j fun h0 => absurd (show (j 1).val < 3072 from (j 1).isLt) (by omega))
  all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, part, beside])
  all_goals (blk_point []; all_goals (exfalso; omega))

/-- A later block adds to what the block before left. -/
theorem step_next (t : Fin cfg0.N) (h : ¬t.val % 16 = 0) (j : S1024x3072.Idx) :
    (outsAt0 (F := Ideal) m c t.val t.isLt).2 j = (outsAt0 (F := Ideal) m c (t.val - 1) (Nat.lt_of_le_of_lt (Nat.sub_le _ _) t.isLt)).2 j
      + part (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j := by
  by_cases h1 : t.val % 16 = 15
  · rw [outsAt0_C m c t h h1]; frame_out
    clear h h1
    simp only [read_unread_whole]
    canon_tiles x e using (cover_cols _ _ j fun h12 => cover_cols _ _ j fun h11 => cover_cols _ _ j fun h10 => cover_cols _ _ j fun h9 => cover_cols _ _ j fun h8 => cover_cols _ _ j fun h7 => cover_cols _ _ j fun h6 => cover_cols _ _ j fun h5 => cover_cols _ _ j fun h4 => cover_cols _ _ j fun h3 => cover_cols _ _ j fun h2 => cover_cols _ _ j fun h1 => cover_cols _ _ j fun h0 => absurd (show (j 1).val < 3072 from (j 1).isLt) (by omega))
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, part, beside])
    all_goals (blk_point []; all_goals (exfalso; omega))
  · rw [outsAt0_B m c t h h1]; frame_out
    clear h h1
    simp only [read_unread_whole]
    canon_tiles x e using (cover_cols _ _ j fun h12 => cover_cols _ _ j fun h11 => cover_cols _ _ j fun h10 => cover_cols _ _ j fun h9 => cover_cols _ _ j fun h8 => cover_cols _ _ j fun h7 => cover_cols _ _ j fun h6 => cover_cols _ _ j fun h5 => cover_cols _ _ j fun h4 => cover_cols _ _ j fun h3 => cover_cols _ _ j fun h2 => cover_cols _ _ j fun h1 => cover_cols _ _ j fun h0 => absurd (show (j 1).val < 3072 from (j 1).isLt) (by omega))
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, part, beside])
    all_goals (blk_point []; all_goals (exfalso; omega))

/-- The call's result. -/
theorem final : (dats m 0 c).arrAt 14 cfg0.N = weightsGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_after_last 14 t0_15 (by decide +kernel) _ fun j => ?_
  blk_simp
  rw [after0_14]
  have h := Pipeline.eq_sum_fin_of_reset_step_apply_last (fun n h => (outsAt0 (F := Ideal) m c n h).2) 16 (fun _ => 0) _
    (step_first m c) (step_next m c) (le_of_eq N_0) t0_15 rfl j
  refine Eq.trans (b := (outsAt0 (F := Ideal) m c t0_15.val t0_15.isLt).2 j) ?_ ?_
  · rw [outsAt0_C m c t0_15 (by decide) (by decide)]
    frame_out
    rw [View.readCov_eq_canon']
    exact congrFun (View.ld_unit_lit (S := S1024x3072) (off := ![0, 0]) _ _ (by decide)) j
  rw [h, zero_add, weightsGrad_apply]
  refine Fin.sum_mul_add_congr fun t k hk => ?_
  blk_point [iblk, V, idx t]

end Cert.KernelIdwIdeal.Input

end
-- ==== Proof.IdwClaims.lean ====
/-
  The five claims on the call of the gradient of the input product's weights.
-/
module

public import proofs.«01_k».proof.Defs
public import proofs.«01_k».proof.Proof.Gen.KernelIdw
public import proofs.«01_k».proof.Proof.Gen.KernelIdwIdeal.Value
public import proofs.«01_k».proof.Proof.IdwValue
public import Idealize.ShloMosaic.Lib.Claim
public import Idealize.ShloMosaic.Adequacy
public import Idealize.ShloMosaic.Init

@[expose] public section

set_option maxRecDepth 16384

noncomputable section

namespace Cert.KernelIdwIdeal.Input

open Idealize.ShloMosaic Idealize.ShloMosaic.TcCoe Idealize.SL.Sem

/-- The frame of the idealized program's text, read at the machine's own floats. -/
def FrameAtBits : Prop :=
  ∀ (m : (ℓ : Loc Cert.KernelIdwIdeal.nD Cert.KernelIdwIdeal.τ Cert.KernelIdwIdeal.sig) → Buf (Elt Bits) ℓ) (g : Dev Cert.KernelIdwIdeal.nD → PrngReg), True →
    θ_run (Cert.KernelIdwIdeal.defs (F := Bits)) (onTc (τ := Cert.KernelIdwIdeal.τ) (Cert.KernelIdwIdeal.main (F := Bits))) ⟨m, fun _ => 0, g⟩ (fun r => (∀ c : Dev Cert.KernelIdwIdeal.nD,
      r.2.mem ((c.tc : Thread Cert.KernelIdwIdeal.nD Cert.KernelIdwIdeal.τ).loc Cert.KernelIdwIdeal.main_arg0) = m ((c.tc : Thread Cert.KernelIdwIdeal.nD Cert.KernelIdwIdeal.τ).loc Cert.KernelIdwIdeal.main_arg0)
      ∧ r.2.mem ((c.tc : Thread Cert.KernelIdwIdeal.nD Cert.KernelIdwIdeal.τ).loc Cert.KernelIdwIdeal.main_arg1) = m ((c.tc : Thread Cert.KernelIdwIdeal.nD Cert.KernelIdwIdeal.τ).loc Cert.KernelIdwIdeal.main_arg1)
      ∧ r.2.mem ((c.tc : Thread Cert.KernelIdwIdeal.nD Cert.KernelIdwIdeal.τ).loc Cert.KernelIdwIdeal.main_arg2) = m ((c.tc : Thread Cert.KernelIdwIdeal.nD Cert.KernelIdwIdeal.τ).loc Cert.KernelIdwIdeal.main_arg2)
      ∧ r.2.mem ((c.tc : Thread Cert.KernelIdwIdeal.nD Cert.KernelIdwIdeal.τ).loc Cert.KernelIdwIdeal.main_arg3) = m ((c.tc : Thread Cert.KernelIdwIdeal.nD Cert.KernelIdwIdeal.τ).loc Cert.KernelIdwIdeal.main_arg3)
      ∧ r.2.mem ((c.tc : Thread Cert.KernelIdwIdeal.nD Cert.KernelIdwIdeal.τ).loc Cert.KernelIdwIdeal.main_arg4) = m ((c.tc : Thread Cert.KernelIdwIdeal.nD Cert.KernelIdwIdeal.τ).loc Cert.KernelIdwIdeal.main_arg4)
      ∧ r.2.mem ((c.tc : Thread Cert.KernelIdwIdeal.nD Cert.KernelIdwIdeal.τ).loc Cert.KernelIdwIdeal.main_arg5) = m ((c.tc : Thread Cert.KernelIdwIdeal.nD Cert.KernelIdwIdeal.τ).loc Cert.KernelIdwIdeal.main_arg5)
      ∧ r.2.mem ((c.tc : Thread Cert.KernelIdwIdeal.nD Cert.KernelIdwIdeal.τ).loc Cert.KernelIdwIdeal.main_arg6) = m ((c.tc : Thread Cert.KernelIdwIdeal.nD Cert.KernelIdwIdeal.τ).loc Cert.KernelIdwIdeal.main_arg6)
      ∧ r.2.mem ((c.tc : Thread Cert.KernelIdwIdeal.nD Cert.KernelIdwIdeal.τ).loc Cert.KernelIdwIdeal.main_arg7) = m ((c.tc : Thread Cert.KernelIdwIdeal.nD Cert.KernelIdwIdeal.τ).loc Cert.KernelIdwIdeal.main_arg7)
      ∧ r.2.mem ((c.tc : Thread Cert.KernelIdwIdeal.nD Cert.KernelIdwIdeal.τ).loc Cert.KernelIdwIdeal.main_arg8) = m ((c.tc : Thread Cert.KernelIdwIdeal.nD Cert.KernelIdwIdeal.τ).loc Cert.KernelIdwIdeal.main_arg8)
      ∧ r.2.mem ((c.tc : Thread Cert.KernelIdwIdeal.nD Cert.KernelIdwIdeal.τ).loc Cert.KernelIdwIdeal.main_arg9) = m ((c.tc : Thread Cert.KernelIdwIdeal.nD Cert.KernelIdwIdeal.τ).loc Cert.KernelIdwIdeal.main_arg9)
      ∧ r.2.mem ((c.tc : Thread Cert.KernelIdwIdeal.nD Cert.KernelIdwIdeal.τ).loc Cert.KernelIdwIdeal.main_arg10) = m ((c.tc : Thread Cert.KernelIdwIdeal.nD Cert.KernelIdwIdeal.τ).loc Cert.KernelIdwIdeal.main_arg10)
      ∧ r.2.mem ((c.tc : Thread Cert.KernelIdwIdeal.nD Cert.KernelIdwIdeal.τ).loc Cert.KernelIdwIdeal.main_arg11) = m ((c.tc : Thread Cert.KernelIdwIdeal.nD Cert.KernelIdwIdeal.τ).loc Cert.KernelIdwIdeal.main_arg11)
      ∧ r.2.mem ((c.tc : Thread Cert.KernelIdwIdeal.nD Cert.KernelIdwIdeal.τ).loc Cert.KernelIdwIdeal.main_arg12) = m ((c.tc : Thread Cert.KernelIdwIdeal.nD Cert.KernelIdwIdeal.τ).loc Cert.KernelIdwIdeal.main_arg12)
      ∧ r.2.mem ((c.tc : Thread Cert.KernelIdwIdeal.nD Cert.KernelIdwIdeal.τ).loc Cert.KernelIdwIdeal.main_arg13) = m ((c.tc : Thread Cert.KernelIdwIdeal.nD Cert.KernelIdwIdeal.τ).loc Cert.KernelIdwIdeal.main_arg13))
      ∧ r.2.sem = fun _ => 0)

/-- The kernel's program has the same text as the idealized one, so its frame is that one read at the machine's floats. -/
theorem same_text : Cert.quiescent_KernelIdw = FrameAtBits := by
  sl_kernel_rfl

/-- Every run of the kernel's program ends in a quiescent state. -/
theorem frame_kernel : Cert.quiescent_KernelIdw :=
  same_text.mpr fun m ρ _ => Cert.KernelIdwIdeal.Gen.frame (F := Bits) m ρ

/-- Every run of the idealized kernel ends in a quiescent state. -/
theorem frame_ideal : Cert.quiescent_KernelIdwIdeal := fun m ρ _ => Cert.KernelIdwIdeal.Gen.frame m ρ

/-- Every run of the idealized reference ends in a quiescent state. -/
theorem frame_reference : Cert.quiescent_ReferenceIdwIdeal := by
  intro m g _
  refine (θ_run _ _ _).mono (fun r h => ⟨fun c => (h c).2, sem_eq_zero_of_no_sems (by decide) r.2⟩) (Cert.ReferenceIdwIdeal.Value.run m g)

/-- Idealizing the kernel rewrites nothing. -/
theorem preserves : Cert.preserves_KernelIdw_KernelIdwIdeal := trivial

/-- The kernel's result equals the reference's. -/
theorem algebraic : Cert.algebraic_KernelIdwIdeal_ReferenceIdwIdeal := by
  intro m g m' g' _ hagree
  refine ⟨_, (θ_run _ _ _).mono (fun r h c => ⟨(h c).1.trans (final m c), (h c).2⟩) (Cert.KernelIdwIdeal.Value.run_blocks m g),
    (θ_run _ _ _).mono (fun r h c => ?_) (Cert.ReferenceIdwIdeal.Value.run m' g')⟩
  obtain ⟨h0, h1, h2, h3, h4, h5, h6, h7, h8, h9, h10, h11, h12, h13⟩ := hagree c
  obtain ⟨r0, rest⟩ := h c
  refine ⟨r0.trans ?_, rest⟩
  rw [h0, h1, h2, h3, h4, h5, h6, h7, h8, h9, h10, h11, h12, h13]
  rfl

end Cert.KernelIdwIdeal.Input

end
-- ==== Proof.OdxValue.lean ====
/-
  The gradient of the rows of the product with a square weight: the call's result array is the reference's term.
-/
module

public import proofs.«01_k».proof.Proof.Gen.KernelOdxIdeal.Frame
public import proofs.«01_k».proof.Proof.Gen.ReferenceOdxIdeal.Run
public import Idealize.ShloMosaic.Lib.Pipeline.ValueKit
public import Idealize.ShloMosaic.Lib.Claim

@[expose] public section

set_option maxRecDepth 16384

noncomputable section

namespace Cert.KernelOdxIdeal.Product

open Cert.KernelOdxIdeal Cert.KernelOdxIdeal.Gen
open Idealize.ShloMosaic Idealize.ShloMosaic.TcCoe Idealize.SL.Sem
open Idealize.ShloMosaic.Pipeline (Dat)

/-- The reference's term: the gradient of the product times the transposed weights. -/
def rowsGrad (w : FVec Ideal S1024x1024 .f32) (d : FVec Ideal S4096x1024 .f32) : FVec Ideal S4096x1024 .f32 :=
  Host.dotGeneral Cert.ReferenceOdxIdeal.dot_S4096x1024_S1024x1024_S4096x1024_1_1_0_0_n_n none d w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = rowsGrad (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsGrad]
  blk_point [iblk, V, idx t]

end Cert.KernelOdxIdeal.Product

end
-- ==== Proof.OdxClaims.lean ====
/-
  The five claims on the call of the gradient of the rows of a product of width 1024 by 1024.
-/
module

public import proofs.«01_k».proof.Defs
public import proofs.«01_k».proof.Proof.Gen.KernelOdx
public import proofs.«01_k».proof.Proof.Gen.KernelOdxIdeal.Value
public import proofs.«01_k».proof.Proof.OdxValue
public import Idealize.ShloMosaic.Lib.Claim
public import Idealize.ShloMosaic.Adequacy
public import Idealize.ShloMosaic.Init

@[expose] public section

set_option maxRecDepth 16384

noncomputable section

namespace Cert.KernelOdxIdeal.Product

open Idealize.ShloMosaic Idealize.ShloMosaic.TcCoe Idealize.SL.Sem

/-- The frame of the idealized program's text, read at the machine's own floats. -/
def FrameAtBits : Prop :=
  ∀ (m : (ℓ : Loc Cert.KernelOdxIdeal.nD Cert.KernelOdxIdeal.τ Cert.KernelOdxIdeal.sig) → Buf (Elt Bits) ℓ) (g : Dev Cert.KernelOdxIdeal.nD → PrngReg), True →
    θ_run (Cert.KernelOdxIdeal.defs (F := Bits)) (onTc (τ := Cert.KernelOdxIdeal.τ) (Cert.KernelOdxIdeal.main (F := Bits))) ⟨m, fun _ => 0, g⟩ (fun r => (∀ c : Dev Cert.KernelOdxIdeal.nD,
      r.2.mem ((c.tc : Thread Cert.KernelOdxIdeal.nD Cert.KernelOdxIdeal.τ).loc Cert.KernelOdxIdeal.main_arg0) = m ((c.tc : Thread Cert.KernelOdxIdeal.nD Cert.KernelOdxIdeal.τ).loc Cert.KernelOdxIdeal.main_arg0)
      ∧ r.2.mem ((c.tc : Thread Cert.KernelOdxIdeal.nD Cert.KernelOdxIdeal.τ).loc Cert.KernelOdxIdeal.main_arg1) = m ((c.tc : Thread Cert.KernelOdxIdeal.nD Cert.KernelOdxIdeal.τ).loc Cert.KernelOdxIdeal.main_arg1))
      ∧ r.2.sem = fun _ => 0)

/-- The kernel's program has the same text as the idealized one, so its frame is that one read at the machine's floats. -/
theorem same_text : Cert.quiescent_KernelOdx = FrameAtBits := by
  sl_kernel_rfl

/-- Every run of the kernel's program ends in a quiescent state. -/
theorem frame_kernel : Cert.quiescent_KernelOdx :=
  same_text.mpr fun m ρ _ => Cert.KernelOdxIdeal.Gen.frame (F := Bits) m ρ

/-- Every run of the idealized kernel ends in a quiescent state. -/
theorem frame_ideal : Cert.quiescent_KernelOdxIdeal := fun m ρ _ => Cert.KernelOdxIdeal.Gen.frame m ρ

/-- Every run of the idealized reference ends in a quiescent state. -/
theorem frame_reference : Cert.quiescent_ReferenceOdxIdeal := by
  intro m g _
  refine (θ_run _ _ _).mono (fun r h => ⟨fun c => (h c).2, sem_eq_zero_of_no_sems (by decide) r.2⟩) (Cert.ReferenceOdxIdeal.Value.run m g)

/-- Idealizing the kernel rewrites nothing. -/
theorem preserves : Cert.preserves_KernelOdx_KernelOdxIdeal := trivial

/-- The kernel's result equals the reference's. -/
theorem algebraic : Cert.algebraic_KernelOdxIdeal_ReferenceOdxIdeal := by
  intro m g m' g' _ hagree
  refine ⟨_, (θ_run _ _ _).mono (fun r h c => ⟨(h c).1.trans (final m c), (h c).2⟩) (Cert.KernelOdxIdeal.Value.run_blocks m g),
    (θ_run _ _ _).mono (fun r h c => ?_) (Cert.ReferenceOdxIdeal.Value.run m' g')⟩
  obtain ⟨h0, h1⟩ := hagree c
  obtain ⟨r0, rest⟩ := h c
  refine ⟨r0.trans ?_, rest⟩
  rw [h0, h1]
  rfl

end Cert.KernelOdxIdeal.Product

end
-- ==== Proof.OdwValue.lean ====
/-
  The gradient of the weights of the product with a square weight: the call sums over eight blocks of 512 tokens, the reference over
  the 4096 tokens at once, transposed.
-/
module

public import proofs.«01_k».proof.Proof.Gen.KernelOdwIdeal.Frame
public import proofs.«01_k».proof.Proof.Gen.ReferenceOdwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelOdwIdeal.Product

open Cert.KernelOdwIdeal Cert.KernelOdwIdeal.Gen
open Idealize.ShloMosaic Idealize.ShloMosaic.TcCoe Idealize.SL.Sem
open Idealize.ShloMosaic.Pipeline (Dat)

/-- The reference's term: the transposed gradient times the rows, transposed back. -/
def weightsGrad (a : FVec Ideal S4096x1024 .f32) (d : FVec Ideal S4096x1024 .f32) : FVec Ideal S1024x1024 .f32 :=
  transpose S1024x1024 [1, 0] (Host.dotGeneral Cert.ReferenceOdwIdeal.dot_S4096x1024_S4096x1024_S1024x1024_0_0_1_1_n_n none d a)
    Cert.ReferenceOdwIdeal.Gen.transposes_S1024x1024_S1024x1024_1_0

/-- Where each window's block lies: the inputs walk down the tokens, the result stays. -/
theorem idx : ∀ t : Fin cfg0.N, win0_0.index t = ![t.val, 0] ∧ win0_1.index t = ![t.val, 0] ∧ win0_2.index t = ![0, 0] :=
  (by decide +kernel : ∀ t : Fin grid0.N, _)

/-- The scratch starts at zero. -/
theorem zero_apply (j : S1024x1024.Idx) : k0_pay1 (F := Ideal) j = 0 := by
  pointwise [k0_pay1]

/-- Each point adds its block of tokens' product. -/
theorem add_apply (x : FVec Ideal S512x1024 .f32) (a : FVec Ideal S1024x1024 .f32) (d : FVec Ideal S512x1024 .f32) (j : S1024x1024.Idx) :
    k0_pay2 x a d j = a j + ∑ k : Fin 512, x (ix2 k (j 0)) * d (ix2 k (j 1)) := by
  pointwise [k0_pay2]

/-- The reference's term at a row and column: the sum over the tokens. -/
theorem weightsGrad_apply (a : FVec Ideal S4096x1024 .f32) (d : FVec Ideal S4096x1024 .f32) (j : S1024x1024.Idx) :
    weightsGrad a d j = ∑ k : Fin 4096, a (ix2 k (j 0)) * d (ix2 k (j 1)) := by
  pointwise [weightsGrad]
  exact Finset.sum_congr rfl fun k _ => mul_comm _ _

variable (m : (ℓ : Loc nD τ sig) → Buf (Elt Ideal) ℓ) (c : Dev nD)

/-- The call's result. -/
theorem final : (dats m 0 c).arrAt 2 cfg0.N = weightsGrad (m ((c : Thread nD τ).loc main_arg0)) (m ((c : Thread nD τ).loc main_arg1)) := by
  refine (dats m 0 c).arrAt_eq_of_after_last 2 t0_7 (by decide +kernel) _ fun j => ?_
  blk_simp
  rw [after0_2]
  have h := Pipeline.eq_sum_fin_of_reset_step_apply_last (fun n h => (outsAt0 (F := Ideal) m c n h).2) 8 (fun _ => 0) _
    (fun t h j => by rw [outsAt0_A m c t h (by omega)]; frame_out; rw [add_apply, zero_apply])
    (fun t h j => by
      by_cases h1 : t.val % 8 = 7
      · rw [outsAt0_C m c t h h1]; frame_out; rw [add_apply, read_unread_whole]
      · rw [outsAt0_B m c t h h1]; frame_out; rw [add_apply, read_unread_whole])
    (le_of_eq N_0) t0_7 rfl j
  refine Eq.trans (b := (outsAt0 (F := Ideal) m c t0_7.val t0_7.isLt).2 j) ?_ ?_
  · rw [outsAt0_C m c t0_7 (by decide) (by decide)]
    frame_out
  rw [h, zero_add, weightsGrad_apply]
  refine Fin.sum_mul_add_congr fun t k hk => ?_
  blk_point [iblk, V, idx t]

end Cert.KernelOdwIdeal.Product

end
-- ==== Proof.OdwClaims.lean ====
/-
  The five claims on the call of the gradient of the weights of a product of width 1024 by 1024.
-/
module

public import proofs.«01_k».proof.Defs
public import proofs.«01_k».proof.Proof.Gen.KernelOdw
public import proofs.«01_k».proof.Proof.Gen.KernelOdwIdeal.Value
public import proofs.«01_k».proof.Proof.OdwValue
public import Idealize.ShloMosaic.Lib.Claim
public import Idealize.ShloMosaic.Adequacy
public import Idealize.ShloMosaic.Init

@[expose] public section

set_option maxRecDepth 16384

noncomputable section

namespace Cert.KernelOdwIdeal.Product

open Idealize.ShloMosaic Idealize.ShloMosaic.TcCoe Idealize.SL.Sem

/-- The frame of the idealized program's text, read at the machine's own floats. -/
def FrameAtBits : Prop :=
  ∀ (m : (ℓ : Loc Cert.KernelOdwIdeal.nD Cert.KernelOdwIdeal.τ Cert.KernelOdwIdeal.sig) → Buf (Elt Bits) ℓ) (g : Dev Cert.KernelOdwIdeal.nD → PrngReg), True →
    θ_run (Cert.KernelOdwIdeal.defs (F := Bits)) (onTc (τ := Cert.KernelOdwIdeal.τ) (Cert.KernelOdwIdeal.main (F := Bits))) ⟨m, fun _ => 0, g⟩ (fun r => (∀ c : Dev Cert.KernelOdwIdeal.nD,
      r.2.mem ((c.tc : Thread Cert.KernelOdwIdeal.nD Cert.KernelOdwIdeal.τ).loc Cert.KernelOdwIdeal.main_arg0) = m ((c.tc : Thread Cert.KernelOdwIdeal.nD Cert.KernelOdwIdeal.τ).loc Cert.KernelOdwIdeal.main_arg0)
      ∧ r.2.mem ((c.tc : Thread Cert.KernelOdwIdeal.nD Cert.KernelOdwIdeal.τ).loc Cert.KernelOdwIdeal.main_arg1) = m ((c.tc : Thread Cert.KernelOdwIdeal.nD Cert.KernelOdwIdeal.τ).loc Cert.KernelOdwIdeal.main_arg1))
      ∧ r.2.sem = fun _ => 0)

/-- The kernel's program has the same text as the idealized one, so its frame is that one read at the machine's floats. -/
theorem same_text : Cert.quiescent_KernelOdw = FrameAtBits := by
  sl_kernel_rfl

/-- Every run of the kernel's program ends in a quiescent state. -/
theorem frame_kernel : Cert.quiescent_KernelOdw :=
  same_text.mpr fun m ρ _ => Cert.KernelOdwIdeal.Gen.frame (F := Bits) m ρ

/-- Every run of the idealized kernel ends in a quiescent state. -/
theorem frame_ideal : Cert.quiescent_KernelOdwIdeal := fun m ρ _ => Cert.KernelOdwIdeal.Gen.frame m ρ

/-- Every run of the idealized reference ends in a quiescent state. -/
theorem frame_reference : Cert.quiescent_ReferenceOdwIdeal := by
  intro m g _
  refine (θ_run _ _ _).mono (fun r h => ⟨fun c => (h c).2, sem_eq_zero_of_no_sems (by decide) r.2⟩) (Cert.ReferenceOdwIdeal.Value.run m g)

/-- Idealizing the kernel rewrites nothing. -/
theorem preserves : Cert.preserves_KernelOdw_KernelOdwIdeal := trivial

/-- The kernel's result equals the reference's. -/
theorem algebraic : Cert.algebraic_KernelOdwIdeal_ReferenceOdwIdeal := by
  intro m g m' g' _ hagree
  refine ⟨_, (θ_run _ _ _).mono (fun r h c => ⟨(h c).1.trans (final m c), (h c).2⟩) (Cert.KernelOdwIdeal.Value.run_blocks m g),
    (θ_run _ _ _).mono (fun r h c => ?_) (Cert.ReferenceOdwIdeal.Value.run m' g')⟩
  obtain ⟨h0, h1⟩ := hagree c
  obtain ⟨r0, rest⟩ := h c
  refine ⟨r0.trans ?_, rest⟩
  rw [h0, h1]
  rfl

end Cert.KernelOdwIdeal.Product

end
-- ==== Proof.OfValue.lean ====
/-
  The product with a square weight: the call's result array is the reference's term.
-/
module

public import proofs.«01_k».proof.Proof.Gen.KernelOfIdeal.Frame
public import proofs.«01_k».proof.Proof.Gen.ReferenceOfIdeal.Run
public import Idealize.ShloMosaic.Lib.Pipeline.ValueKit
public import Idealize.ShloMosaic.Lib.Claim

@[expose] public section

set_option maxRecDepth 16384

noncomputable section

namespace Cert.KernelOfIdeal.Product

open Cert.KernelOfIdeal Cert.KernelOfIdeal.Gen
open Idealize.ShloMosaic Idealize.ShloMosaic.TcCoe Idealize.SL.Sem
open Idealize.ShloMosaic.Pipeline (Dat)

/-- The reference's term: the rows times the weights. -/
def product (a : FVec Ideal S4096x1024 .f32) (w : FVec Ideal S1024x1024 .f32) : FVec Ideal S4096x1024 .f32 :=
  Host.dotGeneral Cert.ReferenceOfIdeal.dot_S4096x1024_S1024x1024_S4096x1024_1_0_0_1_n_n none a w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, idx t]

end Cert.KernelOfIdeal.Product

end
-- ==== Proof.OfClaims.lean ====
/-
  The five claims on the call of a product of width 1024 by 1024.
-/
module

public import proofs.«01_k».proof.Defs
public import proofs.«01_k».proof.Proof.Gen.KernelOf
public import proofs.«01_k».proof.Proof.Gen.KernelOfIdeal.Value
public import proofs.«01_k».proof.Proof.OfValue
public import Idealize.ShloMosaic.Lib.Claim
public import Idealize.ShloMosaic.Adequacy
public import Idealize.ShloMosaic.Init

@[expose] public section

set_option maxRecDepth 16384

noncomputable section

namespace Cert.KernelOfIdeal.Product

open Idealize.ShloMosaic Idealize.ShloMosaic.TcCoe Idealize.SL.Sem

/-- The frame of the idealized program's text, read at the machine's own floats. -/
def FrameAtBits : Prop :=
  ∀ (m : (ℓ : Loc Cert.KernelOfIdeal.nD Cert.KernelOfIdeal.τ Cert.KernelOfIdeal.sig) → Buf (Elt Bits) ℓ) (g : Dev Cert.KernelOfIdeal.nD → PrngReg), True →
    θ_run (Cert.KernelOfIdeal.defs (F := Bits)) (onTc (τ := Cert.KernelOfIdeal.τ) (Cert.KernelOfIdeal.main (F := Bits))) ⟨m, fun _ => 0, g⟩ (fun r => (∀ c : Dev Cert.KernelOfIdeal.nD,
      r.2.mem ((c.tc : Thread Cert.KernelOfIdeal.nD Cert.KernelOfIdeal.τ).loc Cert.KernelOfIdeal.main_arg0) = m ((c.tc : Thread Cert.KernelOfIdeal.nD Cert.KernelOfIdeal.τ).loc Cert.KernelOfIdeal.main_arg0)
      ∧ r.2.mem ((c.tc : Thread Cert.KernelOfIdeal.nD Cert.KernelOfIdeal.τ).loc Cert.KernelOfIdeal.main_arg1) = m ((c.tc : Thread Cert.KernelOfIdeal.nD Cert.KernelOfIdeal.τ).loc Cert.KernelOfIdeal.main_arg1))
      ∧ r.2.sem = fun _ => 0)

/-- The kernel's program has the same text as the idealized one, so its frame is that one read at the machine's floats. -/
theorem same_text : Cert.quiescent_KernelOf = FrameAtBits := by
  sl_kernel_rfl

/-- Every run of the kernel's program ends in a quiescent state. -/
theorem frame_kernel : Cert.quiescent_KernelOf :=
  same_text.mpr fun m ρ _ => Cert.KernelOfIdeal.Gen.frame (F := Bits) m ρ

/-- Every run of the idealized kernel ends in a quiescent state. -/
theorem frame_ideal : Cert.quiescent_KernelOfIdeal := fun m ρ _ => Cert.KernelOfIdeal.Gen.frame m ρ

/-- Every run of the idealized reference ends in a quiescent state. -/
theorem frame_reference : Cert.quiescent_ReferenceOfIdeal := by
  intro m g _
  refine (θ_run _ _ _).mono (fun r h => ⟨fun c => (h c).2, sem_eq_zero_of_no_sems (by decide) r.2⟩) (Cert.ReferenceOfIdeal.Value.run m g)

/-- Idealizing the kernel rewrites nothing. -/
theorem preserves : Cert.preserves_KernelOf_KernelOfIdeal := trivial

/-- The kernel's result equals the reference's. -/
theorem algebraic : Cert.algebraic_KernelOfIdeal_ReferenceOfIdeal := by
  intro m g m' g' _ hagree
  refine ⟨_, (θ_run _ _ _).mono (fun r h c => ⟨(h c).1.trans (final m c), (h c).2⟩) (Cert.KernelOfIdeal.Value.run_blocks m g),
    (θ_run _ _ _).mono (fun r h c => ?_) (Cert.ReferenceOfIdeal.Value.run m' g')⟩
  obtain ⟨h0, h1⟩ := hagree c
  obtain ⟨r0, rest⟩ := h c
  refine ⟨r0.trans ?_, rest⟩
  rw [h0, h1]
  rfl

end Cert.KernelOfIdeal.Product

end
-- ==== Proof.PdxValue.lean ====
/-
  The gradient of the rows of the product with the embedding weight: the call's result array is the reference's term.
-/
module

public import proofs.«01_k».proof.Proof.Gen.KernelPdxIdeal.Frame
public import proofs.«01_k».proof.Proof.Gen.ReferencePdxIdeal.Run
public import Idealize.ShloMosaic.Lib.Pipeline.ValueKit
public import Idealize.ShloMosaic.Lib.Claim

@[expose] public section

set_option maxRecDepth 16384

noncomputable section

namespace Cert.KernelPdxIdeal.Product

open Cert.KernelPdxIdeal Cert.KernelPdxIdeal.Gen
open Idealize.ShloMosaic Idealize.ShloMosaic.TcCoe Idealize.SL.Sem
open Idealize.ShloMosaic.Pipeline (Dat)

/-- The reference's term: the gradient of the product times the transposed weights. -/
def rowsGrad (w : FVec Ideal S256x1024 .f32) (d : FVec Ideal S4096x1024 .f32) : FVec Ideal S4096x256 .f32 :=
  Host.dotGeneral Cert.ReferencePdxIdeal.dot_S4096x1024_S256x1024_S4096x256_1_1_0_0_n_n none d w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = rowsGrad (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsGrad]
  blk_point [iblk, V, idx t]

end Cert.KernelPdxIdeal.Product

end
-- ==== Proof.PdxClaims.lean ====
/-
  The five claims on the call of the gradient of the rows of a product of width 256 by 1024.
-/
module

public import proofs.«01_k».proof.Defs
public import proofs.«01_k».proof.Proof.Gen.KernelPdx
public import proofs.«01_k».proof.Proof.Gen.KernelPdxIdeal.Value
public import proofs.«01_k».proof.Proof.PdxValue
public import Idealize.ShloMosaic.Lib.Claim
public import Idealize.ShloMosaic.Adequacy
public import Idealize.ShloMosaic.Init

@[expose] public section

set_option maxRecDepth 16384

noncomputable section

namespace Cert.KernelPdxIdeal.Product

open Idealize.ShloMosaic Idealize.ShloMosaic.TcCoe Idealize.SL.Sem

/-- The frame of the idealized program's text, read at the machine's own floats. -/
def FrameAtBits : Prop :=
  ∀ (m : (ℓ : Loc Cert.KernelPdxIdeal.nD Cert.KernelPdxIdeal.τ Cert.KernelPdxIdeal.sig) → Buf (Elt Bits) ℓ) (g : Dev Cert.KernelPdxIdeal.nD → PrngReg), True →
    θ_run (Cert.KernelPdxIdeal.defs (F := Bits)) (onTc (τ := Cert.KernelPdxIdeal.τ) (Cert.KernelPdxIdeal.main (F := Bits))) ⟨m, fun _ => 0, g⟩ (fun r => (∀ c : Dev Cert.KernelPdxIdeal.nD,
      r.2.mem ((c.tc : Thread Cert.KernelPdxIdeal.nD Cert.KernelPdxIdeal.τ).loc Cert.KernelPdxIdeal.main_arg0) = m ((c.tc : Thread Cert.KernelPdxIdeal.nD Cert.KernelPdxIdeal.τ).loc Cert.KernelPdxIdeal.main_arg0)
      ∧ r.2.mem ((c.tc : Thread Cert.KernelPdxIdeal.nD Cert.KernelPdxIdeal.τ).loc Cert.KernelPdxIdeal.main_arg1) = m ((c.tc : Thread Cert.KernelPdxIdeal.nD Cert.KernelPdxIdeal.τ).loc Cert.KernelPdxIdeal.main_arg1))
      ∧ r.2.sem = fun _ => 0)

/-- The kernel's program has the same text as the idealized one, so its frame is that one read at the machine's floats. -/
theorem same_text : Cert.quiescent_KernelPdx = FrameAtBits := by
  sl_kernel_rfl

/-- Every run of the kernel's program ends in a quiescent state. -/
theorem frame_kernel : Cert.quiescent_KernelPdx :=
  same_text.mpr fun m ρ _ => Cert.KernelPdxIdeal.Gen.frame (F := Bits) m ρ

/-- Every run of the idealized kernel ends in a quiescent state. -/
theorem frame_ideal : Cert.quiescent_KernelPdxIdeal := fun m ρ _ => Cert.KernelPdxIdeal.Gen.frame m ρ

/-- Every run of the idealized reference ends in a quiescent state. -/
theorem frame_reference : Cert.quiescent_ReferencePdxIdeal := by
  intro m g _
  refine (θ_run _ _ _).mono (fun r h => ⟨fun c => (h c).2, sem_eq_zero_of_no_sems (by decide) r.2⟩) (Cert.ReferencePdxIdeal.Value.run m g)

/-- Idealizing the kernel rewrites nothing. -/
theorem preserves : Cert.preserves_KernelPdx_KernelPdxIdeal := trivial

/-- The kernel's result equals the reference's. -/
theorem algebraic : Cert.algebraic_KernelPdxIdeal_ReferencePdxIdeal := by
  intro m g m' g' _ hagree
  refine ⟨_, (θ_run _ _ _).mono (fun r h c => ⟨(h c).1.trans (final m c), (h c).2⟩) (Cert.KernelPdxIdeal.Value.run_blocks m g),
    (θ_run _ _ _).mono (fun r h c => ?_) (Cert.ReferencePdxIdeal.Value.run m' g')⟩
  obtain ⟨h0, h1⟩ := hagree c
  obtain ⟨r0, rest⟩ := h c
  refine ⟨r0.trans ?_, rest⟩
  rw [h0, h1]
  rfl

end Cert.KernelPdxIdeal.Product

end
-- ==== Proof.PdwValue.lean ====
/-
  The gradient of the weights of the product with the embedding weight: the call sums over eight blocks of 512 tokens, the reference over
  the 4096 tokens at once, transposed.
-/
module

public import proofs.«01_k».proof.Proof.Gen.KernelPdwIdeal.Frame
public import proofs.«01_k».proof.Proof.Gen.ReferencePdwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelPdwIdeal.Product

open Cert.KernelPdwIdeal Cert.KernelPdwIdeal.Gen
open Idealize.ShloMosaic Idealize.ShloMosaic.TcCoe Idealize.SL.Sem
open Idealize.ShloMosaic.Pipeline (Dat)

/-- The reference's term: the transposed gradient times the rows, transposed back. -/
def weightsGrad (a : FVec Ideal S4096x256 .f32) (d : FVec Ideal S4096x1024 .f32) : FVec Ideal S256x1024 .f32 :=
  transpose S256x1024 [1, 0] (Host.dotGeneral Cert.ReferencePdwIdeal.dot_S4096x1024_S4096x256_S1024x256_0_0_1_1_n_n none d a)
    Cert.ReferencePdwIdeal.Gen.transposes_S1024x256_S256x1024_1_0

/-- Where each window's block lies: the inputs walk down the tokens, the result stays. -/
theorem idx : ∀ t : Fin cfg0.N, win0_0.index t = ![t.val, 0] ∧ win0_1.index t = ![t.val, 0] ∧ win0_2.index t = ![0, 0] :=
  (by decide +kernel : ∀ t : Fin grid0.N, _)

/-- The scratch starts at zero. -/
theorem zero_apply (j : S256x1024.Idx) : k0_pay1 (F := Ideal) j = 0 := by
  pointwise [k0_pay1]

/-- Each point adds its block of tokens' product. -/
theorem add_apply (x : FVec Ideal S512x256 .f32) (a : FVec Ideal S256x1024 .f32) (d : FVec Ideal S512x1024 .f32) (j : S256x1024.Idx) :
    k0_pay2 x a d j = a j + ∑ k : Fin 512, x (ix2 k (j 0)) * d (ix2 k (j 1)) := by
  pointwise [k0_pay2]

/-- The reference's term at a row and column: the sum over the tokens. -/
theorem weightsGrad_apply (a : FVec Ideal S4096x256 .f32) (d : FVec Ideal S4096x1024 .f32) (j : S256x1024.Idx) :
    weightsGrad a d j = ∑ k : Fin 4096, a (ix2 k (j 0)) * d (ix2 k (j 1)) := by
  pointwise [weightsGrad]
  exact Finset.sum_congr rfl fun k _ => mul_comm _ _

variable (m : (ℓ : Loc nD τ sig) → Buf (Elt Ideal) ℓ) (c : Dev nD)

/-- The call's result. -/
theorem final : (dats m 0 c).arrAt 2 cfg0.N = weightsGrad (m ((c : Thread nD τ).loc main_arg0)) (m ((c : Thread nD τ).loc main_arg1)) := by
  refine (dats m 0 c).arrAt_eq_of_after_last 2 t0_7 (by decide +kernel) _ fun j => ?_
  blk_simp
  rw [after0_2]
  have h := Pipeline.eq_sum_fin_of_reset_step_apply_last (fun n h => (outsAt0 (F := Ideal) m c n h).2) 8 (fun _ => 0) _
    (fun t h j => by rw [outsAt0_A m c t h (by omega)]; frame_out; rw [add_apply, zero_apply])
    (fun t h j => by
      by_cases h1 : t.val % 8 = 7
      · rw [outsAt0_C m c t h h1]; frame_out; rw [add_apply, read_unread_whole]
      · rw [outsAt0_B m c t h h1]; frame_out; rw [add_apply, read_unread_whole])
    (le_of_eq N_0) t0_7 rfl j
  refine Eq.trans (b := (outsAt0 (F := Ideal) m c t0_7.val t0_7.isLt).2 j) ?_ ?_
  · rw [outsAt0_C m c t0_7 (by decide) (by decide)]
    frame_out
  rw [h, zero_add, weightsGrad_apply]
  refine Fin.sum_mul_add_congr fun t k hk => ?_
  blk_point [iblk, V, idx t]

end Cert.KernelPdwIdeal.Product

end
-- ==== Proof.PdwClaims.lean ====
/-
  The five claims on the call of the gradient of the weights of a product of width 256 by 1024.
-/
module

public import proofs.«01_k».proof.Defs
public import proofs.«01_k».proof.Proof.Gen.KernelPdw
public import proofs.«01_k».proof.Proof.Gen.KernelPdwIdeal.Value
public import proofs.«01_k».proof.Proof.PdwValue
public import Idealize.ShloMosaic.Lib.Claim
public import Idealize.ShloMosaic.Adequacy
public import Idealize.ShloMosaic.Init

@[expose] public section

set_option maxRecDepth 16384

noncomputable section

namespace Cert.KernelPdwIdeal.Product

open Idealize.ShloMosaic Idealize.ShloMosaic.TcCoe Idealize.SL.Sem

/-- The frame of the idealized program's text, read at the machine's own floats. -/
def FrameAtBits : Prop :=
  ∀ (m : (ℓ : Loc Cert.KernelPdwIdeal.nD Cert.KernelPdwIdeal.τ Cert.KernelPdwIdeal.sig) → Buf (Elt Bits) ℓ) (g : Dev Cert.KernelPdwIdeal.nD → PrngReg), True →
    θ_run (Cert.KernelPdwIdeal.defs (F := Bits)) (onTc (τ := Cert.KernelPdwIdeal.τ) (Cert.KernelPdwIdeal.main (F := Bits))) ⟨m, fun _ => 0, g⟩ (fun r => (∀ c : Dev Cert.KernelPdwIdeal.nD,
      r.2.mem ((c.tc : Thread Cert.KernelPdwIdeal.nD Cert.KernelPdwIdeal.τ).loc Cert.KernelPdwIdeal.main_arg0) = m ((c.tc : Thread Cert.KernelPdwIdeal.nD Cert.KernelPdwIdeal.τ).loc Cert.KernelPdwIdeal.main_arg0)
      ∧ r.2.mem ((c.tc : Thread Cert.KernelPdwIdeal.nD Cert.KernelPdwIdeal.τ).loc Cert.KernelPdwIdeal.main_arg1) = m ((c.tc : Thread Cert.KernelPdwIdeal.nD Cert.KernelPdwIdeal.τ).loc Cert.KernelPdwIdeal.main_arg1))
      ∧ r.2.sem = fun _ => 0)

/-- The kernel's program has the same text as the idealized one, so its frame is that one read at the machine's floats. -/
theorem same_text : Cert.quiescent_KernelPdw = FrameAtBits := by
  sl_kernel_rfl

/-- Every run of the kernel's program ends in a quiescent state. -/
theorem frame_kernel : Cert.quiescent_KernelPdw :=
  same_text.mpr fun m ρ _ => Cert.KernelPdwIdeal.Gen.frame (F := Bits) m ρ

/-- Every run of the idealized kernel ends in a quiescent state. -/
theorem frame_ideal : Cert.quiescent_KernelPdwIdeal := fun m ρ _ => Cert.KernelPdwIdeal.Gen.frame m ρ

/-- Every run of the idealized reference ends in a quiescent state. -/
theorem frame_reference : Cert.quiescent_ReferencePdwIdeal := by
  intro m g _
  refine (θ_run _ _ _).mono (fun r h => ⟨fun c => (h c).2, sem_eq_zero_of_no_sems (by decide) r.2⟩) (Cert.ReferencePdwIdeal.Value.run m g)

/-- Idealizing the kernel rewrites nothing. -/
theorem preserves : Cert.preserves_KernelPdw_KernelPdwIdeal := trivial

/-- The kernel's result equals the reference's. -/
theorem algebraic : Cert.algebraic_KernelPdwIdeal_ReferencePdwIdeal := by
  intro m g m' g' _ hagree
  refine ⟨_, (θ_run _ _ _).mono (fun r h c => ⟨(h c).1.trans (final m c), (h c).2⟩) (Cert.KernelPdwIdeal.Value.run_blocks m g),
    (θ_run _ _ _).mono (fun r h c => ?_) (Cert.ReferencePdwIdeal.Value.run m' g')⟩
  obtain ⟨h0, h1⟩ := hagree c
  obtain ⟨r0, rest⟩ := h c
  refine ⟨r0.trans ?_, rest⟩
  rw [h0, h1]
  rfl

end Cert.KernelPdwIdeal.Product

end
-- ==== Proof.PfValue.lean ====
/-
  The product with the embedding weight: the call's result array is the reference's term.
-/
module

public import proofs.«01_k».proof.Proof.Gen.KernelPfIdeal.Frame
public import proofs.«01_k».proof.Proof.Gen.ReferencePfIdeal.Run
public import Idealize.ShloMosaic.Lib.Pipeline.ValueKit
public import Idealize.ShloMosaic.Lib.Claim

@[expose] public section

set_option maxRecDepth 16384

noncomputable section

namespace Cert.KernelPfIdeal.Product

open Cert.KernelPfIdeal Cert.KernelPfIdeal.Gen
open Idealize.ShloMosaic Idealize.ShloMosaic.TcCoe Idealize.SL.Sem
open Idealize.ShloMosaic.Pipeline (Dat)

/-- The reference's term: the rows times the weights. -/
def product (a : FVec Ideal S4096x256 .f32) (w : FVec Ideal S256x1024 .f32) : FVec Ideal S4096x1024 .f32 :=
  Host.dotGeneral Cert.ReferencePfIdeal.dot_S4096x256_S256x1024_S4096x1024_1_0_0_1_n_n none a w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, idx t]

end Cert.KernelPfIdeal.Product

end
-- ==== Proof.PfClaims.lean ====
/-
  The five claims on the call of a product of width 256 by 1024.
-/
module

public import proofs.«01_k».proof.Defs
public import proofs.«01_k».proof.Proof.Gen.KernelPf
public import proofs.«01_k».proof.Proof.Gen.KernelPfIdeal.Value
public import proofs.«01_k».proof.Proof.PfValue
public import Idealize.ShloMosaic.Lib.Claim
public import Idealize.ShloMosaic.Adequacy
public import Idealize.ShloMosaic.Init

@[expose] public section

set_option maxRecDepth 16384

noncomputable section

namespace Cert.KernelPfIdeal.Product

open Idealize.ShloMosaic Idealize.ShloMosaic.TcCoe Idealize.SL.Sem

/-- The frame of the idealized program's text, read at the machine's own floats. -/
def FrameAtBits : Prop :=
  ∀ (m : (ℓ : Loc Cert.KernelPfIdeal.nD Cert.KernelPfIdeal.τ Cert.KernelPfIdeal.sig) → Buf (Elt Bits) ℓ) (g : Dev Cert.KernelPfIdeal.nD → PrngReg), True →
    θ_run (Cert.KernelPfIdeal.defs (F := Bits)) (onTc (τ := Cert.KernelPfIdeal.τ) (Cert.KernelPfIdeal.main (F := Bits))) ⟨m, fun _ => 0, g⟩ (fun r => (∀ c : Dev Cert.KernelPfIdeal.nD,
      r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
      ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1))
      ∧ r.2.sem = fun _ => 0)

/-- The kernel's program has the same text as the idealized one, so its frame is that one read at the machine's floats. -/
theorem same_text : Cert.quiescent_KernelPf = FrameAtBits := by
  sl_kernel_rfl

/-- Every run of the kernel's program ends in a quiescent state. -/
theorem frame_kernel : Cert.quiescent_KernelPf :=
  same_text.mpr fun m ρ _ => Cert.KernelPfIdeal.Gen.frame (F := Bits) m ρ

/-- Every run of the idealized kernel ends in a quiescent state. -/
theorem frame_ideal : Cert.quiescent_KernelPfIdeal := fun m ρ _ => Cert.KernelPfIdeal.Gen.frame m ρ

/-- Every run of the idealized reference ends in a quiescent state. -/
theorem frame_reference : Cert.quiescent_ReferencePfIdeal := by
  intro m g _
  refine (θ_run _ _ _).mono (fun r h => ⟨fun c => (h c).2, sem_eq_zero_of_no_sems (by decide) r.2⟩) (Cert.ReferencePfIdeal.Value.run m g)

/-- Idealizing the kernel rewrites nothing. -/
theorem preserves : Cert.preserves_KernelPf_KernelPfIdeal := trivial

/-- The kernel's result equals the reference's. -/
theorem algebraic : Cert.algebraic_KernelPfIdeal_ReferencePfIdeal := by
  intro m g m' g' _ hagree
  refine ⟨_, (θ_run _ _ _).mono (fun r h c => ⟨(h c).1.trans (final m c), (h c).2⟩) (Cert.KernelPfIdeal.Value.run_blocks m g),
    (θ_run _ _ _).mono (fun r h c => ?_) (Cert.ReferencePfIdeal.Value.run m' g')⟩
  obtain ⟨h0, h1⟩ := hagree c
  obtain ⟨r0, rest⟩ := h c
  refine ⟨r0.trans ?_, rest⟩
  rw [h0, h1]
  rfl

end Cert.KernelPfIdeal.Product

end
-- ==== Proof.UdxValue.lean ====
/-
  The gradient of the rows of the product with the state space layer's input weight: the call's result array is the reference's term.
-/
module

public import proofs.«01_k».proof.Proof.Gen.KernelUdxIdeal.Frame
public import proofs.«01_k».proof.Proof.Gen.ReferenceUdxIdeal.Run
public import Idealize.ShloMosaic.Lib.Pipeline.ValueKit
public import Idealize.ShloMosaic.Lib.Claim

@[expose] public section

set_option maxRecDepth 16384

noncomputable section

namespace Cert.KernelUdxIdeal.Product

open Cert.KernelUdxIdeal Cert.KernelUdxIdeal.Gen
open Idealize.ShloMosaic Idealize.ShloMosaic.TcCoe Idealize.SL.Sem
open Idealize.ShloMosaic.Pipeline (Dat)

/-- The reference's term: the gradient of the product times the transposed weights. -/
def rowsGrad (w : FVec Ideal S256x2048 .f32) (d : FVec Ideal S4096x2048 .f32) : FVec Ideal S4096x256 .f32 :=
  Host.dotGeneral Cert.ReferenceUdxIdeal.dot_S4096x2048_S256x2048_S4096x256_1_1_0_0_n_n none d w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = rowsGrad (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsGrad]
  blk_point [iblk, V, idx t]

end Cert.KernelUdxIdeal.Product

end
-- ==== Proof.UdxClaims.lean ====
/-
  The five claims on the call of the gradient of the rows of a product of width 256 by 2048.
-/
module

public import proofs.«01_k».proof.Defs
public import proofs.«01_k».proof.Proof.Gen.KernelUdx
public import proofs.«01_k».proof.Proof.Gen.KernelUdxIdeal.Value
public import proofs.«01_k».proof.Proof.UdxValue
public import Idealize.ShloMosaic.Lib.Claim
public import Idealize.ShloMosaic.Adequacy
public import Idealize.ShloMosaic.Init

@[expose] public section

set_option maxRecDepth 16384

noncomputable section

namespace Cert.KernelUdxIdeal.Product

open Idealize.ShloMosaic Idealize.ShloMosaic.TcCoe Idealize.SL.Sem

/-- The frame of the idealized program's text, read at the machine's own floats. -/
def FrameAtBits : Prop :=
  ∀ (m : (ℓ : Loc Cert.KernelUdxIdeal.nD Cert.KernelUdxIdeal.τ Cert.KernelUdxIdeal.sig) → Buf (Elt Bits) ℓ) (g : Dev Cert.KernelUdxIdeal.nD → PrngReg), True →
    θ_run (Cert.KernelUdxIdeal.defs (F := Bits)) (onTc (τ := Cert.KernelUdxIdeal.τ) (Cert.KernelUdxIdeal.main (F := Bits))) ⟨m, fun _ => 0, g⟩ (fun r => (∀ c : Dev Cert.KernelUdxIdeal.nD,
      r.2.mem ((c.tc : Thread Cert.KernelUdxIdeal.nD Cert.KernelUdxIdeal.τ).loc Cert.KernelUdxIdeal.main_arg0) = m ((c.tc : Thread Cert.KernelUdxIdeal.nD Cert.KernelUdxIdeal.τ).loc Cert.KernelUdxIdeal.main_arg0)
      ∧ r.2.mem ((c.tc : Thread Cert.KernelUdxIdeal.nD Cert.KernelUdxIdeal.τ).loc Cert.KernelUdxIdeal.main_arg1) = m ((c.tc : Thread Cert.KernelUdxIdeal.nD Cert.KernelUdxIdeal.τ).loc Cert.KernelUdxIdeal.main_arg1))
      ∧ r.2.sem = fun _ => 0)

/-- The kernel's program has the same text as the idealized one, so its frame is that one read at the machine's floats. -/
theorem same_text : Cert.quiescent_KernelUdx = FrameAtBits := by
  sl_kernel_rfl

/-- Every run of the kernel's program ends in a quiescent state. -/
theorem frame_kernel : Cert.quiescent_KernelUdx :=
  same_text.mpr fun m ρ _ => Cert.KernelUdxIdeal.Gen.frame (F := Bits) m ρ

/-- Every run of the idealized kernel ends in a quiescent state. -/
theorem frame_ideal : Cert.quiescent_KernelUdxIdeal := fun m ρ _ => Cert.KernelUdxIdeal.Gen.frame m ρ

/-- Every run of the idealized reference ends in a quiescent state. -/
theorem frame_reference : Cert.quiescent_ReferenceUdxIdeal := by
  intro m g _
  refine (θ_run _ _ _).mono (fun r h => ⟨fun c => (h c).2, sem_eq_zero_of_no_sems (by decide) r.2⟩) (Cert.ReferenceUdxIdeal.Value.run m g)

/-- Idealizing the kernel rewrites nothing. -/
theorem preserves : Cert.preserves_KernelUdx_KernelUdxIdeal := trivial

/-- The kernel's result equals the reference's. -/
theorem algebraic : Cert.algebraic_KernelUdxIdeal_ReferenceUdxIdeal := by
  intro m g m' g' _ hagree
  refine ⟨_, (θ_run _ _ _).mono (fun r h c => ⟨(h c).1.trans (final m c), (h c).2⟩) (Cert.KernelUdxIdeal.Value.run_blocks m g),
    (θ_run _ _ _).mono (fun r h c => ?_) (Cert.ReferenceUdxIdeal.Value.run m' g')⟩
  obtain ⟨h0, h1⟩ := hagree c
  obtain ⟨r0, rest⟩ := h c
  refine ⟨r0.trans ?_, rest⟩
  rw [h0, h1]
  rfl

end Cert.KernelUdxIdeal.Product

end
-- ==== Proof.UdwValue.lean ====
/-
  The gradient of the weights of the product with the state space layer's input weight: the call sums over eight blocks of 512 tokens, the reference over
  the 4096 tokens at once, transposed.
-/
module

public import proofs.«01_k».proof.Proof.Gen.KernelUdwIdeal.Frame
public import proofs.«01_k».proof.Proof.Gen.ReferenceUdwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelUdwIdeal.Product

open Cert.KernelUdwIdeal Cert.KernelUdwIdeal.Gen
open Idealize.ShloMosaic Idealize.ShloMosaic.TcCoe Idealize.SL.Sem
open Idealize.ShloMosaic.Pipeline (Dat)

/-- The reference's term: the transposed gradient times the rows, transposed back. -/
def weightsGrad (a : FVec Ideal S4096x256 .f32) (d : FVec Ideal S4096x2048 .f32) : FVec Ideal S256x2048 .f32 :=
  transpose S256x2048 [1, 0] (Host.dotGeneral Cert.ReferenceUdwIdeal.dot_S4096x2048_S4096x256_S2048x256_0_0_1_1_n_n none d a)
    Cert.ReferenceUdwIdeal.Gen.transposes_S2048x256_S256x2048_1_0

/-- Where each window's block lies: the inputs walk down the tokens, the result stays. -/
theorem idx : ∀ t : Fin cfg0.N, win0_0.index t = ![t.val, 0] ∧ win0_1.index t = ![t.val, 0] ∧ win0_2.index t = ![0, 0] :=
  (by decide +kernel : ∀ t : Fin grid0.N, _)

/-- The scratch starts at zero. -/
theorem zero_apply (j : S256x2048.Idx) : k0_pay1 (F := Ideal) j = 0 := by
  pointwise [k0_pay1]

/-- Each point adds its block of tokens' product. -/
theorem add_apply (x : FVec Ideal S512x256 .f32) (a : FVec Ideal S256x2048 .f32) (d : FVec Ideal S512x2048 .f32) (j : S256x2048.Idx) :
    k0_pay2 x a d j = a j + ∑ k : Fin 512, x (ix2 k (j 0)) * d (ix2 k (j 1)) := by
  pointwise [k0_pay2]

/-- The reference's term at a row and column: the sum over the tokens. -/
theorem weightsGrad_apply (a : FVec Ideal S4096x256 .f32) (d : FVec Ideal S4096x2048 .f32) (j : S256x2048.Idx) :
    weightsGrad a d j = ∑ k : Fin 4096, a (ix2 k (j 0)) * d (ix2 k (j 1)) := by
  pointwise [weightsGrad]
  exact Finset.sum_congr rfl fun k _ => mul_comm _ _

variable (m : (ℓ : Loc nD τ sig) → Buf (Elt Ideal) ℓ) (c : Dev nD)

/-- The call's result. -/
theorem final : (dats m 0 c).arrAt 2 cfg0.N = weightsGrad (m ((c : Thread nD τ).loc main_arg0)) (m ((c : Thread nD τ).loc main_arg1)) := by
  refine (dats m 0 c).arrAt_eq_of_after_last 2 t0_7 (by decide +kernel) _ fun j => ?_
  blk_simp
  rw [after0_2]
  have h := Pipeline.eq_sum_fin_of_reset_step_apply_last (fun n h => (outsAt0 (F := Ideal) m c n h).2) 8 (fun _ => 0) _
    (fun t h j => by rw [outsAt0_A m c t h (by omega)]; frame_out; rw [add_apply, zero_apply])
    (fun t h j => by
      by_cases h1 : t.val % 8 = 7
      · rw [outsAt0_C m c t h h1]; frame_out; rw [add_apply, read_unread_whole]
      · rw [outsAt0_B m c t h h1]; frame_out; rw [add_apply, read_unread_whole])
    (le_of_eq N_0) t0_7 rfl j
  refine Eq.trans (b := (outsAt0 (F := Ideal) m c t0_7.val t0_7.isLt).2 j) ?_ ?_
  · rw [outsAt0_C m c t0_7 (by decide) (by decide)]
    frame_out
  rw [h, zero_add, weightsGrad_apply]
  refine Fin.sum_mul_add_congr fun t k hk => ?_
  blk_point [iblk, V, idx t]

end Cert.KernelUdwIdeal.Product

end
-- ==== Proof.UdwClaims.lean ====
/-
  The five claims on the call of the gradient of the weights of a product of width 256 by 2048.
-/
module

public import proofs.«01_k».proof.Defs
public import proofs.«01_k».proof.Proof.Gen.KernelUdw
public import proofs.«01_k».proof.Proof.Gen.KernelUdwIdeal.Value
public import proofs.«01_k».proof.Proof.UdwValue
public import Idealize.ShloMosaic.Lib.Claim
public import Idealize.ShloMosaic.Adequacy
public import Idealize.ShloMosaic.Init

@[expose] public section

set_option maxRecDepth 16384

noncomputable section

namespace Cert.KernelUdwIdeal.Product

open Idealize.ShloMosaic Idealize.ShloMosaic.TcCoe Idealize.SL.Sem

/-- The frame of the idealized program's text, read at the machine's own floats. -/
def FrameAtBits : Prop :=
  ∀ (m : (ℓ : Loc Cert.KernelUdwIdeal.nD Cert.KernelUdwIdeal.τ Cert.KernelUdwIdeal.sig) → Buf (Elt Bits) ℓ) (g : Dev Cert.KernelUdwIdeal.nD → PrngReg), True →
    θ_run (Cert.KernelUdwIdeal.defs (F := Bits)) (onTc (τ := Cert.KernelUdwIdeal.τ) (Cert.KernelUdwIdeal.main (F := Bits))) ⟨m, fun _ => 0, g⟩ (fun r => (∀ c : Dev Cert.KernelUdwIdeal.nD,
      r.2.mem ((c.tc : Thread Cert.KernelUdwIdeal.nD Cert.KernelUdwIdeal.τ).loc Cert.KernelUdwIdeal.main_arg0) = m ((c.tc : Thread Cert.KernelUdwIdeal.nD Cert.KernelUdwIdeal.τ).loc Cert.KernelUdwIdeal.main_arg0)
      ∧ r.2.mem ((c.tc : Thread Cert.KernelUdwIdeal.nD Cert.KernelUdwIdeal.τ).loc Cert.KernelUdwIdeal.main_arg1) = m ((c.tc : Thread Cert.KernelUdwIdeal.nD Cert.KernelUdwIdeal.τ).loc Cert.KernelUdwIdeal.main_arg1))
      ∧ r.2.sem = fun _ => 0)

/-- The kernel's program has the same text as the idealized one, so its frame is that one read at the machine's floats. -/
theorem same_text : Cert.quiescent_KernelUdw = FrameAtBits := by
  sl_kernel_rfl

/-- Every run of the kernel's program ends in a quiescent state. -/
theorem frame_kernel : Cert.quiescent_KernelUdw :=
  same_text.mpr fun m ρ _ => Cert.KernelUdwIdeal.Gen.frame (F := Bits) m ρ

/-- Every run of the idealized kernel ends in a quiescent state. -/
theorem frame_ideal : Cert.quiescent_KernelUdwIdeal := fun m ρ _ => Cert.KernelUdwIdeal.Gen.frame m ρ

/-- Every run of the idealized reference ends in a quiescent state. -/
theorem frame_reference : Cert.quiescent_ReferenceUdwIdeal := by
  intro m g _
  refine (θ_run _ _ _).mono (fun r h => ⟨fun c => (h c).2, sem_eq_zero_of_no_sems (by decide) r.2⟩) (Cert.ReferenceUdwIdeal.Value.run m g)

/-- Idealizing the kernel rewrites nothing. -/
theorem preserves : Cert.preserves_KernelUdw_KernelUdwIdeal := trivial

/-- The kernel's result equals the reference's. -/
theorem algebraic : Cert.algebraic_KernelUdwIdeal_ReferenceUdwIdeal := by
  intro m g m' g' _ hagree
  refine ⟨_, (θ_run _ _ _).mono (fun r h c => ⟨(h c).1.trans (final m c), (h c).2⟩) (Cert.KernelUdwIdeal.Value.run_blocks m g),
    (θ_run _ _ _).mono (fun r h c => ?_) (Cert.ReferenceUdwIdeal.Value.run m' g')⟩
  obtain ⟨h0, h1⟩ := hagree c
  obtain ⟨r0, rest⟩ := h c
  refine ⟨r0.trans ?_, rest⟩
  rw [h0, h1]
  rfl

end Cert.KernelUdwIdeal.Product

end
-- ==== Proof.UfValue.lean ====
/-
  The product with the state space layer's input weight: the call's result array is the reference's term.
-/
module

public import proofs.«01_k».proof.Proof.Gen.KernelUfIdeal.Frame
public import proofs.«01_k».proof.Proof.Gen.ReferenceUfIdeal.Run
public import Idealize.ShloMosaic.Lib.Pipeline.ValueKit
public import Idealize.ShloMosaic.Lib.Claim

@[expose] public section

set_option maxRecDepth 16384

noncomputable section

namespace Cert.KernelUfIdeal.Product

open Cert.KernelUfIdeal Cert.KernelUfIdeal.Gen
open Idealize.ShloMosaic Idealize.ShloMosaic.TcCoe Idealize.SL.Sem
open Idealize.ShloMosaic.Pipeline (Dat)

/-- The reference's term: the rows times the weights. -/
def product (a : FVec Ideal S4096x256 .f32) (w : FVec Ideal S256x2048 .f32) : FVec Ideal S4096x2048 .f32 :=
  Host.dotGeneral Cert.ReferenceUfIdeal.dot_S4096x256_S256x2048_S4096x2048_1_0_0_1_n_n none a w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, idx t]

end Cert.KernelUfIdeal.Product

end
-- ==== Proof.UfClaims.lean ====
/-
  The five claims on the call of a product of width 256 by 2048.
-/
module

public import proofs.«01_k».proof.Defs
public import proofs.«01_k».proof.Proof.Gen.KernelUf
public import proofs.«01_k».proof.Proof.Gen.KernelUfIdeal.Value
public import proofs.«01_k».proof.Proof.UfValue
public import Idealize.ShloMosaic.Lib.Claim
public import Idealize.ShloMosaic.Adequacy
public import Idealize.ShloMosaic.Init

@[expose] public section

set_option maxRecDepth 16384

noncomputable section

namespace Cert.KernelUfIdeal.Product

open Idealize.ShloMosaic Idealize.ShloMosaic.TcCoe Idealize.SL.Sem

/-- The frame of the idealized program's text, read at the machine's own floats. -/
def FrameAtBits : Prop :=
  ∀ (m : (ℓ : Loc Cert.KernelUfIdeal.nD Cert.KernelUfIdeal.τ Cert.KernelUfIdeal.sig) → Buf (Elt Bits) ℓ) (g : Dev Cert.KernelUfIdeal.nD → PrngReg), True →
    θ_run (Cert.KernelUfIdeal.defs (F := Bits)) (onTc (τ := Cert.KernelUfIdeal.τ) (Cert.KernelUfIdeal.main (F := Bits))) ⟨m, fun _ => 0, g⟩ (fun r => (∀ c : Dev Cert.KernelUfIdeal.nD,
      r.2.mem ((c.tc : Thread Cert.KernelUfIdeal.nD Cert.KernelUfIdeal.τ).loc Cert.KernelUfIdeal.main_arg0) = m ((c.tc : Thread Cert.KernelUfIdeal.nD Cert.KernelUfIdeal.τ).loc Cert.KernelUfIdeal.main_arg0)
      ∧ r.2.mem ((c.tc : Thread Cert.KernelUfIdeal.nD Cert.KernelUfIdeal.τ).loc Cert.KernelUfIdeal.main_arg1) = m ((c.tc : Thread Cert.KernelUfIdeal.nD Cert.KernelUfIdeal.τ).loc Cert.KernelUfIdeal.main_arg1))
      ∧ r.2.sem = fun _ => 0)

/-- The kernel's program has the same text as the idealized one, so its frame is that one read at the machine's floats. -/
theorem same_text : Cert.quiescent_KernelUf = FrameAtBits := by
  sl_kernel_rfl

/-- Every run of the kernel's program ends in a quiescent state. -/
theorem frame_kernel : Cert.quiescent_KernelUf :=
  same_text.mpr fun m ρ _ => Cert.KernelUfIdeal.Gen.frame (F := Bits) m ρ

/-- Every run of the idealized kernel ends in a quiescent state. -/
theorem frame_ideal : Cert.quiescent_KernelUfIdeal := fun m ρ _ => Cert.KernelUfIdeal.Gen.frame m ρ

/-- Every run of the idealized reference ends in a quiescent state. -/
theorem frame_reference : Cert.quiescent_ReferenceUfIdeal := by
  intro m g _
  refine (θ_run _ _ _).mono (fun r h => ⟨fun c => (h c).2, sem_eq_zero_of_no_sems (by decide) r.2⟩) (Cert.ReferenceUfIdeal.Value.run m g)

/-- Idealizing the kernel rewrites nothing. -/
theorem preserves : Cert.preserves_KernelUf_KernelUfIdeal := trivial

/-- The kernel's result equals the reference's. -/
theorem algebraic : Cert.algebraic_KernelUfIdeal_ReferenceUfIdeal := by
  intro m g m' g' _ hagree
  refine ⟨_, (θ_run _ _ _).mono (fun r h c => ⟨(h c).1.trans (final m c), (h c).2⟩) (Cert.KernelUfIdeal.Value.run_blocks m g),
    (θ_run _ _ _).mono (fun r h c => ?_) (Cert.ReferenceUfIdeal.Value.run m' g')⟩
  obtain ⟨h0, h1⟩ := hagree c
  obtain ⟨r0, rest⟩ := h c
  refine ⟨r0.trans ?_, rest⟩
  rw [h0, h1]
  rfl

end Cert.KernelUfIdeal.Product

end
-- ==== Proof.VdxValue.lean ====
/-
  The gradient of the rows of the product with the state space layer's output weight: the call's result array is the reference's term.
-/
module

public import proofs.«01_k».proof.Proof.Gen.KernelVdxIdeal.Frame
public import proofs.«01_k».proof.Proof.Gen.ReferenceVdxIdeal.Run
public import Idealize.ShloMosaic.Lib.Pipeline.ValueKit
public import Idealize.ShloMosaic.Lib.Claim

@[expose] public section

set_option maxRecDepth 16384

noncomputable section

namespace Cert.KernelVdxIdeal.Product

open Cert.KernelVdxIdeal Cert.KernelVdxIdeal.Gen
open Idealize.ShloMosaic Idealize.ShloMosaic.TcCoe Idealize.SL.Sem
open Idealize.ShloMosaic.Pipeline (Dat)

/-- The reference's term: the gradient of the product times the transposed weights. -/
def rowsGrad (w : FVec Ideal S2048x256 .f32) (d : FVec Ideal S4096x256 .f32) : FVec Ideal S4096x2048 .f32 :=
  Host.dotGeneral Cert.ReferenceVdxIdeal.dot_S4096x256_S2048x256_S4096x2048_1_1_0_0_n_n none d w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = rowsGrad (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsGrad]
  blk_point [iblk, V, idx t]

end Cert.KernelVdxIdeal.Product

end
-- ==== Proof.VdxClaims.lean ====
/-
  The five claims on the call of the gradient of the rows of a product of width 2048 by 256.
-/
module

public import proofs.«01_k».proof.Defs
public import proofs.«01_k».proof.Proof.Gen.KernelVdx
public import proofs.«01_k».proof.Proof.Gen.KernelVdxIdeal.Value
public import proofs.«01_k».proof.Proof.VdxValue
public import Idealize.ShloMosaic.Lib.Claim
public import Idealize.ShloMosaic.Adequacy
public import Idealize.ShloMosaic.Init

@[expose] public section

set_option maxRecDepth 16384

noncomputable section

namespace Cert.KernelVdxIdeal.Product

open Idealize.ShloMosaic Idealize.ShloMosaic.TcCoe Idealize.SL.Sem

/-- The frame of the idealized program's text, read at the machine's own floats. -/
def FrameAtBits : Prop :=
  ∀ (m : (ℓ : Loc Cert.KernelVdxIdeal.nD Cert.KernelVdxIdeal.τ Cert.KernelVdxIdeal.sig) → Buf (Elt Bits) ℓ) (g : Dev Cert.KernelVdxIdeal.nD → PrngReg), True →
    θ_run (Cert.KernelVdxIdeal.defs (F := Bits)) (onTc (τ := Cert.KernelVdxIdeal.τ) (Cert.KernelVdxIdeal.main (F := Bits))) ⟨m, fun _ => 0, g⟩ (fun r => (∀ c : Dev Cert.KernelVdxIdeal.nD,
      r.2.mem ((c.tc : Thread Cert.KernelVdxIdeal.nD Cert.KernelVdxIdeal.τ).loc Cert.KernelVdxIdeal.main_arg0) = m ((c.tc : Thread Cert.KernelVdxIdeal.nD Cert.KernelVdxIdeal.τ).loc Cert.KernelVdxIdeal.main_arg0)
      ∧ r.2.mem ((c.tc : Thread Cert.KernelVdxIdeal.nD Cert.KernelVdxIdeal.τ).loc Cert.KernelVdxIdeal.main_arg1) = m ((c.tc : Thread Cert.KernelVdxIdeal.nD Cert.KernelVdxIdeal.τ).loc Cert.KernelVdxIdeal.main_arg1))
      ∧ r.2.sem = fun _ => 0)

/-- The kernel's program has the same text as the idealized one, so its frame is that one read at the machine's floats. -/
theorem same_text : Cert.quiescent_KernelVdx = FrameAtBits := by
  sl_kernel_rfl

/-- Every run of the kernel's program ends in a quiescent state. -/
theorem frame_kernel : Cert.quiescent_KernelVdx :=
  same_text.mpr fun m ρ _ => Cert.KernelVdxIdeal.Gen.frame (F := Bits) m ρ

/-- Every run of the idealized kernel ends in a quiescent state. -/
theorem frame_ideal : Cert.quiescent_KernelVdxIdeal := fun m ρ _ => Cert.KernelVdxIdeal.Gen.frame m ρ

/-- Every run of the idealized reference ends in a quiescent state. -/
theorem frame_reference : Cert.quiescent_ReferenceVdxIdeal := by
  intro m g _
  refine (θ_run _ _ _).mono (fun r h => ⟨fun c => (h c).2, sem_eq_zero_of_no_sems (by decide) r.2⟩) (Cert.ReferenceVdxIdeal.Value.run m g)

/-- Idealizing the kernel rewrites nothing. -/
theorem preserves : Cert.preserves_KernelVdx_KernelVdxIdeal := trivial

/-- The kernel's result equals the reference's. -/
theorem algebraic : Cert.algebraic_KernelVdxIdeal_ReferenceVdxIdeal := by
  intro m g m' g' _ hagree
  refine ⟨_, (θ_run _ _ _).mono (fun r h c => ⟨(h c).1.trans (final m c), (h c).2⟩) (Cert.KernelVdxIdeal.Value.run_blocks m g),
    (θ_run _ _ _).mono (fun r h c => ?_) (Cert.ReferenceVdxIdeal.Value.run m' g')⟩
  obtain ⟨h0, h1⟩ := hagree c
  obtain ⟨r0, rest⟩ := h c
  refine ⟨r0.trans ?_, rest⟩
  rw [h0, h1]
  rfl

end Cert.KernelVdxIdeal.Product

end
-- ==== Proof.VdwValue.lean ====
/-
  The gradient of the weights of the product with the state space layer's output weight: the call sums over eight blocks of 512 tokens, the reference over
  the 4096 tokens at once, transposed.
-/
module

public import proofs.«01_k».proof.Proof.Gen.KernelVdwIdeal.Frame
public import proofs.«01_k».proof.Proof.Gen.ReferenceVdwIdeal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelVdwIdeal.Product

open Cert.KernelVdwIdeal Cert.KernelVdwIdeal.Gen
open Idealize.ShloMosaic Idealize.ShloMosaic.TcCoe Idealize.SL.Sem
open Idealize.ShloMosaic.Pipeline (Dat)

/-- The reference's term: the transposed gradient times the rows, transposed back. -/
def weightsGrad (a : FVec Ideal S4096x2048 .f32) (d : FVec Ideal S4096x256 .f32) : FVec Ideal S2048x256 .f32 :=
  transpose S2048x256 [1, 0] (Host.dotGeneral Cert.ReferenceVdwIdeal.dot_S4096x256_S4096x2048_S256x2048_0_0_1_1_n_n none d a)
    Cert.ReferenceVdwIdeal.Gen.transposes_S256x2048_S2048x256_1_0

/-- Where each window's block lies: the inputs walk down the tokens, the result stays. -/
theorem idx : ∀ t : Fin cfg0.N, win0_0.index t = ![t.val, 0] ∧ win0_1.index t = ![t.val, 0] ∧ win0_2.index t = ![0, 0] :=
  (by decide +kernel : ∀ t : Fin grid0.N, _)

/-- The scratch starts at zero. -/
theorem zero_apply (j : S2048x256.Idx) : k0_pay1 (F := Ideal) j = 0 := by
  pointwise [k0_pay1]

/-- Each point adds its block of tokens' product. -/
theorem add_apply (x : FVec Ideal S512x2048 .f32) (a : FVec Ideal S2048x256 .f32) (d : FVec Ideal S512x256 .f32) (j : S2048x256.Idx) :
    k0_pay2 x a d j = a j + ∑ k : Fin 512, x (ix2 k (j 0)) * d (ix2 k (j 1)) := by
  pointwise [k0_pay2]

/-- The reference's term at a row and column: the sum over the tokens. -/
theorem weightsGrad_apply (a : FVec Ideal S4096x2048 .f32) (d : FVec Ideal S4096x256 .f32) (j : S2048x256.Idx) :
    weightsGrad a d j = ∑ k : Fin 4096, a (ix2 k (j 0)) * d (ix2 k (j 1)) := by
  pointwise [weightsGrad]
  exact Finset.sum_congr rfl fun k _ => mul_comm _ _

variable (m : (ℓ : Loc nD τ sig) → Buf (Elt Ideal) ℓ) (c : Dev nD)

/-- The call's result. -/
theorem final : (dats m 0 c).arrAt 2 cfg0.N = weightsGrad (m ((c : Thread nD τ).loc main_arg0)) (m ((c : Thread nD τ).loc main_arg1)) := by
  refine (dats m 0 c).arrAt_eq_of_after_last 2 t0_7 (by decide +kernel) _ fun j => ?_
  blk_simp
  rw [after0_2]
  have h := Pipeline.eq_sum_fin_of_reset_step_apply_last (fun n h => (outsAt0 (F := Ideal) m c n h).2) 8 (fun _ => 0) _
    (fun t h j => by rw [outsAt0_A m c t h (by omega)]; frame_out; rw [add_apply, zero_apply])
    (fun t h j => by
      by_cases h1 : t.val % 8 = 7
      · rw [outsAt0_C m c t h h1]; frame_out; rw [add_apply, read_unread_whole]
      · rw [outsAt0_B m c t h h1]; frame_out; rw [add_apply, read_unread_whole])
    (le_of_eq N_0) t0_7 rfl j
  refine Eq.trans (b := (outsAt0 (F := Ideal) m c t0_7.val t0_7.isLt).2 j) ?_ ?_
  · rw [outsAt0_C m c t0_7 (by decide) (by decide)]
    frame_out
  rw [h, zero_add, weightsGrad_apply]
  refine Fin.sum_mul_add_congr fun t k hk => ?_
  blk_point [iblk, V, idx t]

end Cert.KernelVdwIdeal.Product

end
-- ==== Proof.VdwClaims.lean ====
/-
  The five claims on the call of the gradient of the weights of a product of width 2048 by 256.
-/
module

public import proofs.«01_k».proof.Defs
public import proofs.«01_k».proof.Proof.Gen.KernelVdw
public import proofs.«01_k».proof.Proof.Gen.KernelVdwIdeal.Value
public import proofs.«01_k».proof.Proof.VdwValue
public import Idealize.ShloMosaic.Lib.Claim
public import Idealize.ShloMosaic.Adequacy
public import Idealize.ShloMosaic.Init

@[expose] public section

set_option maxRecDepth 16384

noncomputable section

namespace Cert.KernelVdwIdeal.Product

open Idealize.ShloMosaic Idealize.ShloMosaic.TcCoe Idealize.SL.Sem

/-- The frame of the idealized program's text, read at the machine's own floats. -/
def FrameAtBits : Prop :=
  ∀ (m : (ℓ : Loc Cert.KernelVdwIdeal.nD Cert.KernelVdwIdeal.τ Cert.KernelVdwIdeal.sig) → Buf (Elt Bits) ℓ) (g : Dev Cert.KernelVdwIdeal.nD → PrngReg), True →
    θ_run (Cert.KernelVdwIdeal.defs (F := Bits)) (onTc (τ := Cert.KernelVdwIdeal.τ) (Cert.KernelVdwIdeal.main (F := Bits))) ⟨m, fun _ => 0, g⟩ (fun r => (∀ c : Dev Cert.KernelVdwIdeal.nD,
      r.2.mem ((c.tc : Thread Cert.KernelVdwIdeal.nD Cert.KernelVdwIdeal.τ).loc Cert.KernelVdwIdeal.main_arg0) = m ((c.tc : Thread Cert.KernelVdwIdeal.nD Cert.KernelVdwIdeal.τ).loc Cert.KernelVdwIdeal.main_arg0)
      ∧ r.2.mem ((c.tc : Thread Cert.KernelVdwIdeal.nD Cert.KernelVdwIdeal.τ).loc Cert.KernelVdwIdeal.main_arg1) = m ((c.tc : Thread Cert.KernelVdwIdeal.nD Cert.KernelVdwIdeal.τ).loc Cert.KernelVdwIdeal.main_arg1))
      ∧ r.2.sem = fun _ => 0)

/-- The kernel's program has the same text as the idealized one, so its frame is that one read at the machine's floats. -/
theorem same_text : Cert.quiescent_KernelVdw = FrameAtBits := by
  sl_kernel_rfl

/-- Every run of the kernel's program ends in a quiescent state. -/
theorem frame_kernel : Cert.quiescent_KernelVdw :=
  same_text.mpr fun m ρ _ => Cert.KernelVdwIdeal.Gen.frame (F := Bits) m ρ

/-- Every run of the idealized kernel ends in a quiescent state. -/
theorem frame_ideal : Cert.quiescent_KernelVdwIdeal := fun m ρ _ => Cert.KernelVdwIdeal.Gen.frame m ρ

/-- Every run of the idealized reference ends in a quiescent state. -/
theorem frame_reference : Cert.quiescent_ReferenceVdwIdeal := by
  intro m g _
  refine (θ_run _ _ _).mono (fun r h => ⟨fun c => (h c).2, sem_eq_zero_of_no_sems (by decide) r.2⟩) (Cert.ReferenceVdwIdeal.Value.run m g)

/-- Idealizing the kernel rewrites nothing. -/
theorem preserves : Cert.preserves_KernelVdw_KernelVdwIdeal := trivial

/-- The kernel's result equals the reference's. -/
theorem algebraic : Cert.algebraic_KernelVdwIdeal_ReferenceVdwIdeal := by
  intro m g m' g' _ hagree
  refine ⟨_, (θ_run _ _ _).mono (fun r h c => ⟨(h c).1.trans (final m c), (h c).2⟩) (Cert.KernelVdwIdeal.Value.run_blocks m g),
    (θ_run _ _ _).mono (fun r h c => ?_) (Cert.ReferenceVdwIdeal.Value.run m' g')⟩
  obtain ⟨h0, h1⟩ := hagree c
  obtain ⟨r0, rest⟩ := h c
  refine ⟨r0.trans ?_, rest⟩
  rw [h0, h1]
  rfl

end Cert.KernelVdwIdeal.Product

end
-- ==== Proof.VfValue.lean ====
/-
  The product with the state space layer's output weight: the call's result array is the reference's term.
-/
module

public import proofs.«01_k».proof.Proof.Gen.KernelVfIdeal.Frame
public import proofs.«01_k».proof.Proof.Gen.ReferenceVfIdeal.Run
public import Idealize.ShloMosaic.Lib.Pipeline.ValueKit
public import Idealize.ShloMosaic.Lib.Claim

@[expose] public section

set_option maxRecDepth 16384

noncomputable section

namespace Cert.KernelVfIdeal.Product

open Cert.KernelVfIdeal Cert.KernelVfIdeal.Gen
open Idealize.ShloMosaic Idealize.ShloMosaic.TcCoe Idealize.SL.Sem
open Idealize.ShloMosaic.Pipeline (Dat)

/-- The reference's term: the rows times the weights. -/
def product (a : FVec Ideal S4096x2048 .f32) (w : FVec Ideal S2048x256 .f32) : FVec Ideal S4096x256 .f32 :=
  Host.dotGeneral Cert.ReferenceVfIdeal.dot_S4096x2048_S2048x256_S4096x256_1_0_0_1_n_n none a w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, idx t]

end Cert.KernelVfIdeal.Product

end
-- ==== Proof.VfClaims.lean ====
/-
  The five claims on the call of a product of width 2048 by 256.
-/
module

public import proofs.«01_k».proof.Defs
public import proofs.«01_k».proof.Proof.Gen.KernelVf
public import proofs.«01_k».proof.Proof.Gen.KernelVfIdeal.Value
public import proofs.«01_k».proof.Proof.VfValue
public import Idealize.ShloMosaic.Lib.Claim
public import Idealize.ShloMosaic.Adequacy
public import Idealize.ShloMosaic.Init

@[expose] public section

set_option maxRecDepth 16384

noncomputable section

namespace Cert.KernelVfIdeal.Product

open Idealize.ShloMosaic Idealize.ShloMosaic.TcCoe Idealize.SL.Sem

/-- The frame of the idealized program's text, read at the machine's own floats. -/
def FrameAtBits : Prop :=
  ∀ (m : (ℓ : Loc Cert.KernelVfIdeal.nD Cert.KernelVfIdeal.τ Cert.KernelVfIdeal.sig) → Buf (Elt Bits) ℓ) (g : Dev Cert.KernelVfIdeal.nD → PrngReg), True →
    θ_run (Cert.KernelVfIdeal.defs (F := Bits)) (onTc (τ := Cert.KernelVfIdeal.τ) (Cert.KernelVfIdeal.main (F := Bits))) ⟨m, fun _ => 0, g⟩ (fun r => (∀ c : Dev Cert.KernelVfIdeal.nD,
      r.2.mem ((c.tc : Thread Cert.KernelVfIdeal.nD Cert.KernelVfIdeal.τ).loc Cert.KernelVfIdeal.main_arg0) = m ((c.tc : Thread Cert.KernelVfIdeal.nD Cert.KernelVfIdeal.τ).loc Cert.KernelVfIdeal.main_arg0)
      ∧ r.2.mem ((c.tc : Thread Cert.KernelVfIdeal.nD Cert.KernelVfIdeal.τ).loc Cert.KernelVfIdeal.main_arg1) = m ((c.tc : Thread Cert.KernelVfIdeal.nD Cert.KernelVfIdeal.τ).loc Cert.KernelVfIdeal.main_arg1))
      ∧ r.2.sem = fun _ => 0)

/-- The kernel's program has the same text as the idealized one, so its frame is that one read at the machine's floats. -/
theorem same_text : Cert.quiescent_KernelVf = FrameAtBits := by
  sl_kernel_rfl

/-- Every run of the kernel's program ends in a quiescent state. -/
theorem frame_kernel : Cert.quiescent_KernelVf :=
  same_text.mpr fun m ρ _ => Cert.KernelVfIdeal.Gen.frame (F := Bits) m ρ

/-- Every run of the idealized kernel ends in a quiescent state. -/
theorem frame_ideal : Cert.quiescent_KernelVfIdeal := fun m ρ _ => Cert.KernelVfIdeal.Gen.frame m ρ

/-- Every run of the idealized reference ends in a quiescent state. -/
theorem frame_reference : Cert.quiescent_ReferenceVfIdeal := by
  intro m g _
  refine (θ_run _ _ _).mono (fun r h => ⟨fun c => (h c).2, sem_eq_zero_of_no_sems (by decide) r.2⟩) (Cert.ReferenceVfIdeal.Value.run m g)

/-- Idealizing the kernel rewrites nothing. -/
theorem preserves : Cert.preserves_KernelVf_KernelVfIdeal := trivial

/-- The kernel's result equals the reference's. -/
theorem algebraic : Cert.algebraic_KernelVfIdeal_ReferenceVfIdeal := by
  intro m g m' g' _ hagree
  refine ⟨_, (θ_run _ _ _).mono (fun r h c => ⟨(h c).1.trans (final m c), (h c).2⟩) (Cert.KernelVfIdeal.Value.run_blocks m g),
    (θ_run _ _ _).mono (fun r h c => ?_) (Cert.ReferenceVfIdeal.Value.run m' g')⟩
  obtain ⟨h0, h1⟩ := hagree c
  obtain ⟨r0, rest⟩ := h c
  refine ⟨r0.trans ?_, rest⟩
  rw [h0, h1]
  rfl

end Cert.KernelVfIdeal.Product

end
-- ==== Proof.IfValue.lean ====
/-
  The product of the input: the call's 13 result arrays are the reference's column blocks.
-/
module

public import proofs.«01_k».proof.Proof.Gen.KernelIfIdeal.Frame
public import proofs.«01_k».proof.Proof.Gen.ReferenceIfIdeal.Run
public import Idealize.ShloMosaic.Lib.Pipeline.ValueKit
public import Idealize.ShloMosaic.Lib.Claim

@[expose] public section

set_option maxRecDepth 16384

noncomputable section

namespace Cert.KernelIfIdeal.Input

open Cert.KernelIfIdeal Cert.KernelIfIdeal.Gen
open Idealize.ShloMosaic Idealize.ShloMosaic.TcCoe Idealize.SL.Sem
open Idealize.ShloMosaic.Pipeline (Dat)

/-- The reference's product: the rows times the weights. -/
def product (a : FVec Ideal S4096x1024 .f32) (w : FVec Ideal S1024x3072 .f32) : FVec Ideal Cert.ReferenceIfIdeal.S4096x3072 .f32 :=
  Host.dotGeneral Cert.ReferenceIfIdeal.dot_S4096x1024_S1024x3072_S4096x3072_1_0_0_1_n_n none a w

/-- Its columns from 0 on, 256 wide. -/
def cols0 (a : FVec Ideal S4096x1024 .f32) (w : FVec Ideal S1024x3072 .f32) : FVec Ideal S4096x256 .f32 :=
  extractStridedSlice S4096x256 ![0, 0] (product a w) Cert.ReferenceIfIdeal.Gen.slices_S4096x3072_S4096x256_0_0

/-- Its columns from 256 on, 256 wide. -/
def cols1 (a : FVec Ideal S4096x1024 .f32) (w : FVec Ideal S1024x3072 .f32) : FVec Ideal S4096x256 .f32 :=
  extractStridedSlice S4096x256 ![0, 256] (product a w) Cert.ReferenceIfIdeal.Gen.slices_S4096x3072_S4096x256_0_256

/-- Its columns from 512 on, 256 wide. -/
def cols2 (a : FVec Ideal S4096x1024 .f32) (w : FVec Ideal S1024x3072 .f32) : FVec Ideal S4096x256 .f32 :=
  extractStridedSlice S4096x256 ![0, 512] (product a w) Cert.ReferenceIfIdeal.Gen.slices_S4096x3072_S4096x256_0_512

/-- Its columns from 768 on, 256 wide. -/
def cols3 (a : FVec Ideal S4096x1024 .f32) (w : FVec Ideal S1024x3072 .f32) : FVec Ideal S4096x256 .f32 :=
  extractStridedSlice S4096x256 ![0, 768] (product a w) Cert.ReferenceIfIdeal.Gen.slices_S4096x3072_S4096x256_0_768

/-- Its columns from 1024 on, 256 wide. -/
def cols4 (a : FVec Ideal S4096x1024 .f32) (w : FVec Ideal S1024x3072 .f32) : FVec Ideal S4096x256 .f32 :=
  extractStridedSlice S4096x256 ![0, 1024] (product a w) Cert.ReferenceIfIdeal.Gen.slices_S4096x3072_S4096x256_0_1024

/-- Its columns from 1280 on, 256 wide. -/
def cols5 (a : FVec Ideal S4096x1024 .f32) (w : FVec Ideal S1024x3072 .f32) : FVec Ideal S4096x256 .f32 :=
  extractStridedSlice S4096x256 ![0, 1280] (product a w) Cert.ReferenceIfIdeal.Gen.slices_S4096x3072_S4096x256_0_1280

/-- Its columns from 1536 on, 256 wide. -/
def cols6 (a : FVec Ideal S4096x1024 .f32) (w : FVec Ideal S1024x3072 .f32) : FVec Ideal S4096x256 .f32 :=
  extractStridedSlice S4096x256 ![0, 1536] (product a w) Cert.ReferenceIfIdeal.Gen.slices_S4096x3072_S4096x256_0_1536

/-- Its columns from 1792 on, 256 wide. -/
def cols7 (a : FVec Ideal S4096x1024 .f32) (w : FVec Ideal S1024x3072 .f32) : FVec Ideal S4096x256 .f32 :=
  extractStridedSlice S4096x256 ![0, 1792] (product a w) Cert.ReferenceIfIdeal.Gen.slices_S4096x3072_S4096x256_0_1792

/-- Its columns from 2048 on, 256 wide. -/
def cols8 (a : FVec Ideal S4096x1024 .f32) (w : FVec Ideal S1024x3072 .f32) : FVec Ideal S4096x256 .f32 :=
  extractStridedSlice S4096x256 ![0, 2048] (product a w) Cert.ReferenceIfIdeal.Gen.slices_S4096x3072_S4096x256_0_2048

/-- Its columns from 2304 on, 256 wide. -/
def cols9 (a : FVec Ideal S4096x1024 .f32) (w : FVec Ideal S1024x3072 .f32) : FVec Ideal S4096x256 .f32 :=
  extractStridedSlice S4096x256 ![0, 2304] (product a w) Cert.ReferenceIfIdeal.Gen.slices_S4096x3072_S4096x256_0_2304

/-- Its columns from 2560 on, 256 wide. -/
def cols10 (a : FVec Ideal S4096x1024 .f32) (w : FVec Ideal S1024x3072 .f32) : FVec Ideal S4096x256 .f32 :=
  extractStridedSlice S4096x256 ![0, 2560] (product a w) Cert.ReferenceIfIdeal.Gen.slices_S4096x3072_S4096x256_0_2560

/-- Its columns from 2816 on, 128 wide. -/
def cols11 (a : FVec Ideal S4096x1024 .f32) (w : FVec Ideal S1024x3072 .f32) : FVec Ideal S4096x128 .f32 :=
  extractStridedSlice S4096x128 ![0, 2816] (product a w) Cert.ReferenceIfIdeal.Gen.slices_S4096x3072_S4096x128_0_2816

/-- Its columns from 2944 on, 128 wide. -/
def cols12 (a : FVec Ideal S4096x1024 .f32) (w : FVec Ideal S1024x3072 .f32) : FVec Ideal S4096x128 .f32 :=
  extractStridedSlice S4096x128 ![0, 2944] (product a w) Cert.ReferenceIfIdeal.Gen.slices_S4096x3072_S4096x128_0_2944

/-- Where each window's block lies: the rows walk down the tokens, the weights stay. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ) (c : Dev nD)

/-- The call's result 0. -/
theorem final0 : (dats m 0 c).arrAt 2 cfg0.N = cols0 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols0, product]
  blk_point [iblk, V, idx t]

/-- The call's result 1. -/
theorem final1 : (dats m 0 c).arrAt 3 cfg0.N = cols1 (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols1, product]
  blk_point [iblk, V, idx t]

/-- The call's result 2. -/
theorem final2 : (dats m 0 c).arrAt 4 cfg0.N = cols2 (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols2, product]
  blk_point [iblk, V, idx t]

/-- The call's result 3. -/
theorem final3 : (dats m 0 c).arrAt 5 cfg0.N = cols3 (m ((c : Thread nD τ).loc main_arg0)) (m ((c : Thread nD τ).loc main_arg1)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols3, product]
  blk_point [iblk, V, idx t]

/-- The call's result 4. -/
theorem final4 : (dats m 0 c).arrAt 6 cfg0.N = cols4 (m ((c : Thread nD τ).loc main_arg0)) (m ((c : Thread nD τ).loc main_arg1)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols4, product]
  blk_point [iblk, V, idx t]

/-- The call's result 5. -/
theorem final5 : (dats m 0 c).arrAt 7 cfg0.N = cols5 (m ((c : Thread nD τ).loc main_arg0)) (m ((c : Thread nD τ).loc main_arg1)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols5, product]
  blk_point [iblk, V, idx t]

/-- The call's result 6. -/
theorem final6 : (dats m 0 c).arrAt 8 cfg0.N = cols6 (m ((c : Thread nD τ).loc main_arg0)) (m ((c : Thread nD τ).loc main_arg1)) := by
  refine (dats m 0 c).arrAt_eq_of_covers 8 _ (by decide +kernel) fun t hf y => ?_
  blk_simp
  rw [after0_8]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols6, product]
  blk_point [iblk, V, idx t]

/-- The call's result 7. -/
theorem final7 : (dats m 0 c).arrAt 9 cfg0.N = cols7 (m ((c : Thread nD τ).loc main_arg0)) (m ((c : Thread nD τ).loc main_arg1)) := by
  refine (dats m 0 c).arrAt_eq_of_covers 9 _ (by decide +kernel) fun t hf y => ?_
  blk_simp
  rw [after0_9]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols7, product]
  blk_point [iblk, V, idx t]

/-- The call's result 8. -/
theorem final8 : (dats m 0 c).arrAt 10 cfg0.N = cols8 (m ((c : Thread nD τ).loc main_arg0)) (m ((c : Thread nD τ).loc main_arg1)) := by
  refine (dats m 0 c).arrAt_eq_of_covers 10 _ (by decide +kernel) fun t hf y => ?_
  blk_simp
  rw [after0_10]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols8, product]
  blk_point [iblk, V, idx t]

/-- The call's result 9. -/
theorem final9 : (dats m 0 c).arrAt 11 cfg0.N = cols9 (m ((c : Thread nD τ).loc main_arg0)) (m ((c : Thread nD τ).loc main_arg1)) := by
  refine (dats m 0 c).arrAt_eq_of_covers 11 _ (by decide +kernel) fun t hf y => ?_
  blk_simp
  rw [after0_11]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols9, product]
  blk_point [iblk, V, idx t]

/-- The call's result 10. -/
theorem final10 : (dats m 0 c).arrAt 12 cfg0.N = cols10 (m ((c : Thread nD τ).loc main_arg0)) (m ((c : Thread nD τ).loc main_arg1)) := by
  refine (dats m 0 c).arrAt_eq_of_covers 12 _ (by decide +kernel) fun t hf y => ?_
  blk_simp
  rw [after0_12]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols10, product]
  blk_point [iblk, V, idx t]

/-- The call's result 11. -/
theorem final11 : (dats m 0 c).arrAt 13 cfg0.N = cols11 (m ((c : Thread nD τ).loc main_arg0)) (m ((c : Thread nD τ).loc main_arg1)) := by
  refine (dats m 0 c).arrAt_eq_of_covers 13 _ (by decide +kernel) fun t hf y => ?_
  blk_simp
  rw [after0_13]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols11, product]
  blk_point [iblk, V, idx t]

/-- The call's result 12. -/
theorem final12 : (dats m 0 c).arrAt 14 cfg0.N = cols12 (m ((c : Thread nD τ).loc main_arg0)) (m ((c : Thread nD τ).loc main_arg1)) := by
  refine (dats m 0 c).arrAt_eq_of_covers 14 _ (by decide +kernel) fun t hf y => ?_
  blk_simp
  rw [after0_14]
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, cols12, product]
  blk_point [iblk, V, idx t]

end Cert.KernelIfIdeal.Input

end
-- ==== Proof.IfClaims.lean ====
/-
  The five claims on the call of the input product.
-/
module

public import proofs.«01_k».proof.Defs
public import proofs.«01_k».proof.Proof.Gen.KernelIf
public import proofs.«01_k».proof.Proof.Gen.KernelIfIdeal.Value
public import proofs.«01_k».proof.Proof.IfValue
public import Idealize.ShloMosaic.Lib.Claim
public import Idealize.ShloMosaic.Adequacy
public import Idealize.ShloMosaic.Init

@[expose] public section

set_option maxRecDepth 16384

noncomputable section

namespace Cert.KernelIfIdeal.Input

open Idealize.ShloMosaic Idealize.ShloMosaic.TcCoe Idealize.SL.Sem

/-- The frame of the idealized program's text, read at the machine's own floats. -/
def FrameAtBits : Prop :=
  ∀ (m : (ℓ : Loc Cert.KernelIfIdeal.nD Cert.KernelIfIdeal.τ Cert.KernelIfIdeal.sig) → Buf (Elt Bits) ℓ) (g : Dev Cert.KernelIfIdeal.nD → PrngReg), True →
    θ_run (Cert.KernelIfIdeal.defs (F := Bits)) (onTc (τ := Cert.KernelIfIdeal.τ) (Cert.KernelIfIdeal.main (F := Bits))) ⟨m, fun _ => 0, g⟩ (fun r => (∀ c : Dev Cert.KernelIfIdeal.nD,
      r.2.mem ((c.tc : Thread Cert.KernelIfIdeal.nD Cert.KernelIfIdeal.τ).loc Cert.KernelIfIdeal.main_arg0) = m ((c.tc : Thread Cert.KernelIfIdeal.nD Cert.KernelIfIdeal.τ).loc Cert.KernelIfIdeal.main_arg0)
      ∧ r.2.mem ((c.tc : Thread Cert.KernelIfIdeal.nD Cert.KernelIfIdeal.τ).loc Cert.KernelIfIdeal.main_arg1) = m ((c.tc : Thread Cert.KernelIfIdeal.nD Cert.KernelIfIdeal.τ).loc Cert.KernelIfIdeal.main_arg1))
      ∧ r.2.sem = fun _ => 0)

/-- The kernel's program has the same text as the idealized one, so its frame is that one read at the machine's floats. -/
theorem same_text : Cert.quiescent_KernelIf = FrameAtBits := by
  sl_kernel_rfl

/-- Every run of the kernel's program ends in a quiescent state. -/
theorem frame_kernel : Cert.quiescent_KernelIf :=
  same_text.mpr fun m ρ _ => Cert.KernelIfIdeal.Gen.frame (F := Bits) m ρ

/-- Every run of the idealized kernel ends in a quiescent state. -/
theorem frame_ideal : Cert.quiescent_KernelIfIdeal := fun m ρ _ => Cert.KernelIfIdeal.Gen.frame m ρ

/-- Every run of the idealized reference ends in a quiescent state. -/
theorem frame_reference : Cert.quiescent_ReferenceIfIdeal := by
  intro m g _
  refine (θ_run _ _ _).mono (fun r h => ⟨fun c => (h c).2.2.2.2.2.2.2.2.2.2.2.2.2, sem_eq_zero_of_no_sems (by decide) r.2⟩) (Cert.ReferenceIfIdeal.Value.run m g)

/-- Idealizing the kernel rewrites nothing. -/
theorem preserves : Cert.preserves_KernelIf_KernelIfIdeal := trivial

/-- The kernel's results equal the reference's. -/
theorem algebraic : Cert.algebraic_KernelIfIdeal_ReferenceIfIdeal := by
  intro m g m' g' _ hagree
  refine ⟨_, _, _, _, _, _, _, _, _, _, _, _, _, (θ_run _ _ _).mono (fun r h c => ⟨(h c).1.trans (final0 m c), (h c).2.1.trans (final1 m c), (h c).2.2.1.trans (final2 m c), (h c).2.2.2.1.trans (final3 m c), (h c).2.2.2.2.1.trans (final4 m c), (h c).2.2.2.2.2.1.trans (final5 m c), (h c).2.2.2.2.2.2.1.trans (final6 m c), (h c).2.2.2.2.2.2.2.1.trans (final7 m c), (h c).2.2.2.2.2.2.2.2.1.trans (final8 m c), (h c).2.2.2.2.2.2.2.2.2.1.trans (final9 m c), (h c).2.2.2.2.2.2.2.2.2.2.1.trans (final10 m c), (h c).2.2.2.2.2.2.2.2.2.2.2.1.trans (final11 m c), (h c).2.2.2.2.2.2.2.2.2.2.2.2.1.trans (final12 m c), (h c).2.2.2.2.2.2.2.2.2.2.2.2.2⟩) (Cert.KernelIfIdeal.Value.run_blocks m g),
    (θ_run _ _ _).mono (fun r h c => ?_) (Cert.ReferenceIfIdeal.Value.run m' g')⟩
  obtain ⟨h0, h1⟩ := hagree c
  obtain ⟨r0, r1, r2, r3, r4, r5, r6, r7, r8, r9, r10, r11, r12, rest⟩ := h c
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, rest⟩
  all_goals (rw [h0, h1]; rfl)

end Cert.KernelIfIdeal.Input

end
-- ==== Proof.MfValue.lean ====
/-
  The product of the merge's logits: the call's 4 result arrays are the reference's column blocks.
-/
module

public import proofs.«01_k».proof.Proof.Gen.KernelMfIdeal.Frame
public import proofs.«01_k».proof.Proof.Gen.ReferenceMfIdeal.Run
public import Idealize.ShloMosaic.Lib.Pipeline.ValueKit
public import Idealize.ShloMosaic.Lib.Claim

@[expose] public section

set_option maxRecDepth 16384

noncomputable section

namespace Cert.KernelMfIdeal.Merge

open Cert.KernelMfIdeal Cert.KernelMfIdeal.Gen
open Idealize.ShloMosaic Idealize.ShloMosaic.TcCoe Idealize.SL.Sem
open Idealize.ShloMosaic.Pipeline (Dat)

/-- The reference's product: the rows times the weights. -/
def product (a : FVec Ideal S4096x1024 .f32) (w : FVec Ideal S1024x4096 .f32) : FVec Ideal Cert.ReferenceMfIdeal.S4096x4096 .f32 :=
  Host.dotGeneral Cert.ReferenceMfIdeal.dot_S4096x1024_S1024x4096_S4096x4096_1_0_0_1_n_n none a w

/-- Its columns from 0 on, 1024 wide. -/
def cols0 (a : FVec Ideal S4096x1024 .f32) (w : FVec Ideal S1024x4096 .f32) : FVec Ideal S4096x1024 .f32 :=
  extractStridedSlice S4096x1024 ![0, 0] (product a w) Cert.ReferenceMfIdeal.Gen.slices_S4096x4096_S4096x1024_0_0

/-- Its columns from 1024 on, 1024 wide. -/
def cols1 (a : FVec Ideal S4096x1024 .f32) (w : FVec Ideal S1024x4096 .f32) : FVec Ideal S4096x1024 .f32 :=
  extractStridedSlice S4096x1024 ![0, 1024] (product a w) Cert.ReferenceMfIdeal.Gen.slices_S4096x4096_S4096x1024_0_1024

/-- Its columns from 2048 on, 1024 wide. -/
def cols2 (a : FVec Ideal S4096x1024 .f32) (w : FVec Ideal S1024x4096 .f32) : FVec Ideal S4096x1024 .f32 :=
  extractStridedSlice S4096x1024 ![0, 2048] (product a w) Cert.ReferenceMfIdeal.Gen.slices_S4096x4096_S4096x1024_0_2048

/-- Its columns from 3072 on, 1024 wide. -/
def cols3 (a : FVec Ideal S4096x1024 .f32) (w : FVec Ideal S1024x4096 .f32) : FVec Ideal S4096x1024 .f32 :=
  extractStridedSlice S4096x1024 ![0, 3072] (product a w) Cert.ReferenceMfIdeal.Gen.slices_S4096x4096_S4096x1024_0_3072

/-- Where each window's block lies: the rows walk down the tokens, the weights stay. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ) (c : Dev nD)

/-- The call's result 0. -/
theorem final0 : (dats m 0 c).arrAt 2 cfg0.N = cols0 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, k0_pay2, k0_pay3, k0_pay4, k0_pay5, cols0, product]
  blk_point [iblk, V, idx t]

/-- The call's result 1. -/
theorem final1 : (dats m 0 c).arrAt 3 cfg0.N = cols1 (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, k0_pay2, k0_pay3, k0_pay4, k0_pay5, cols1, product]
  blk_point [iblk, V, idx t]

/-- The call's result 2. -/
theorem final2 : (dats m 0 c).arrAt 4 cfg0.N = cols2 (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay1, k0_pay2, k0_pay3, k0_pay4, k0_pay5, cols2, product]
  blk_point [iblk, V, idx t]

/-- The call's result 3. -/
theorem final3 : (dats m 0 c).arrAt 5 cfg0.N = cols3 (m ((c : Thread nD τ).loc main_arg0)) (m ((c : Thread nD τ).loc main_arg1)) := by
  refine (dats m 0 c).arrAt_eq_of_covers 5 _ (by decide +kernel) fun t hf y => ?_
  blk_simp
  rw [after0_5]
  frame_out
  pointwise [k0_pay1, k0_pay2, k0_pay3, k0_pay4, k0_pay5, cols3, product]
  blk_point [iblk, V, idx t]

end Cert.KernelMfIdeal.Merge

end
-- ==== Proof.MfClaims.lean ====
/-
  The five claims on the call of the merge's product.
-/
module

public import proofs.«01_k».proof.Defs
public import proofs.«01_k».proof.Proof.Gen.KernelMf
public import proofs.«01_k».proof.Proof.Gen.KernelMfIdeal.Value
public import proofs.«01_k».proof.Proof.MfValue
public import Idealize.ShloMosaic.Lib.Claim
public import Idealize.ShloMosaic.Adequacy
public import Idealize.ShloMosaic.Init

@[expose] public section

set_option maxRecDepth 16384

noncomputable section

namespace Cert.KernelMfIdeal.Merge

open Idealize.ShloMosaic Idealize.ShloMosaic.TcCoe Idealize.SL.Sem

/-- The frame of the idealized program's text, read at the machine's own floats. -/
def FrameAtBits : Prop :=
  ∀ (m : (ℓ : Loc Cert.KernelMfIdeal.nD Cert.KernelMfIdeal.τ Cert.KernelMfIdeal.sig) → Buf (Elt Bits) ℓ) (g : Dev Cert.KernelMfIdeal.nD → PrngReg), True →
    θ_run (Cert.KernelMfIdeal.defs (F := Bits)) (onTc (τ := Cert.KernelMfIdeal.τ) (Cert.KernelMfIdeal.main (F := Bits))) ⟨m, fun _ => 0, g⟩ (fun r => (∀ c : Dev Cert.KernelMfIdeal.nD,
      r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
      ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1))
      ∧ r.2.sem = fun _ => 0)

/-- The kernel's program has the same text as the idealized one, so its frame is that one read at the machine's floats. -/
theorem same_text : Cert.quiescent_KernelMf = FrameAtBits := by
  sl_kernel_rfl

/-- Every run of the kernel's program ends in a quiescent state. -/
theorem frame_kernel : Cert.quiescent_KernelMf :=
  same_text.mpr fun m ρ _ => Cert.KernelMfIdeal.Gen.frame (F := Bits) m ρ

/-- Every run of the idealized kernel ends in a quiescent state. -/
theorem frame_ideal : Cert.quiescent_KernelMfIdeal := fun m ρ _ => Cert.KernelMfIdeal.Gen.frame m ρ

/-- Every run of the idealized reference ends in a quiescent state. -/
theorem frame_reference : Cert.quiescent_ReferenceMfIdeal := by
  intro m g _
  refine (θ_run _ _ _).mono (fun r h => ⟨fun c => (h c).2.2.2.2, sem_eq_zero_of_no_sems (by decide) r.2⟩) (Cert.ReferenceMfIdeal.Value.run m g)

/-- Idealizing the kernel rewrites nothing. -/
theorem preserves : Cert.preserves_KernelMf_KernelMfIdeal := trivial

/-- The kernel's results equal the reference's. -/
theorem algebraic : Cert.algebraic_KernelMfIdeal_ReferenceMfIdeal := by
  intro m g m' g' _ hagree
  refine ⟨_, _, _, _, (θ_run _ _ _).mono (fun r h c => ⟨(h c).1.trans (final0 m c), (h c).2.1.trans (final1 m c), (h c).2.2.1.trans (final2 m c), (h c).2.2.2.1.trans (final3 m c), (h c).2.2.2.2⟩) (Cert.KernelMfIdeal.Value.run_blocks m g),
    (θ_run _ _ _).mono (fun r h c => ?_) (Cert.ReferenceMfIdeal.Value.run m' g')⟩
  obtain ⟨h0, h1⟩ := hagree c
  obtain ⟨r0, r1, r2, r3, rest⟩ := h c
  refine ⟨r0.trans ?_, r1.trans ?_, r2.trans ?_, r3.trans ?_, rest⟩
  all_goals (rw [h0, h1]; rfl)

end Cert.KernelMfIdeal.Merge

end
-- ==== Proof.BfValue.lean ====
/-
  The product of a branch without gate: the call's result array is the reference's term.
-/
module

public import proofs.«01_k».proof.Proof.Gen.KernelBfIdeal.Frame
public import proofs.«01_k».proof.Proof.Gen.ReferenceBfIdeal.Run
public import Idealize.ShloMosaic.Lib.Pipeline.ValueKit
public import Idealize.ShloMosaic.Lib.Claim

@[expose] public section

set_option maxRecDepth 16384

noncomputable section

namespace Cert.KernelBfIdeal.Branch

open Cert.KernelBfIdeal Cert.KernelBfIdeal.Gen
open Idealize.ShloMosaic Idealize.ShloMosaic.TcCoe Idealize.SL.Sem
open Idealize.ShloMosaic.Pipeline (Dat)

/-- The reference's term: the rows times the weights. -/
def product (a : FVec Ideal S4096x256 .f32) (w : FVec Ideal S256x1024 .f32) : FVec Ideal S4096x1024 .f32 :=
  Host.dotGeneral Cert.ReferenceBfIdeal.dot_S4096x256_S256x1024_S4096x1024_1_0_0_1_n_n none a w

/-- Where each window's block lies: the rows walk down the tokens, the weights stay. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The call's result. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, product]
  blk_point [iblk, V, idx t]

end Cert.KernelBfIdeal.Branch

end
-- ==== Proof.BfClaims.lean ====
/-
  The five claims on the call of a branch's product.
-/
module

public import proofs.«01_k».proof.Defs
public import proofs.«01_k».proof.Proof.Gen.KernelBf
public import proofs.«01_k».proof.Proof.Gen.KernelBfIdeal.Value
public import proofs.«01_k».proof.Proof.BfValue
public import Idealize.ShloMosaic.Lib.Claim
public import Idealize.ShloMosaic.Adequacy
public import Idealize.ShloMosaic.Init

@[expose] public section

set_option maxRecDepth 16384

noncomputable section

namespace Cert.KernelBfIdeal.Branch

open Idealize.ShloMosaic Idealize.ShloMosaic.TcCoe Idealize.SL.Sem

/-- The frame of the idealized program's text, read at the machine's own floats. -/
def FrameAtBits : Prop :=
  ∀ (m : (ℓ : Loc Cert.KernelBfIdeal.nD Cert.KernelBfIdeal.τ Cert.KernelBfIdeal.sig) → Buf (Elt Bits) ℓ) (g : Dev Cert.KernelBfIdeal.nD → PrngReg), True →
    θ_run (Cert.KernelBfIdeal.defs (F := Bits)) (onTc (τ := Cert.KernelBfIdeal.τ) (Cert.KernelBfIdeal.main (F := Bits))) ⟨m, fun _ => 0, g⟩ (fun r => (∀ c : Dev Cert.KernelBfIdeal.nD,
      r.2.mem ((c.tc : Thread Cert.KernelBfIdeal.nD Cert.KernelBfIdeal.τ).loc Cert.KernelBfIdeal.main_arg0) = m ((c.tc : Thread Cert.KernelBfIdeal.nD Cert.KernelBfIdeal.τ).loc Cert.KernelBfIdeal.main_arg0)
      ∧ r.2.mem ((c.tc : Thread Cert.KernelBfIdeal.nD Cert.KernelBfIdeal.τ).loc Cert.KernelBfIdeal.main_arg1) = m ((c.tc : Thread Cert.KernelBfIdeal.nD Cert.KernelBfIdeal.τ).loc Cert.KernelBfIdeal.main_arg1))
      ∧ r.2.sem = fun _ => 0)

/-- The kernel's program has the same text as the idealized one, so its frame is that one read at the machine's floats. -/
theorem same_text : Cert.quiescent_KernelBf = FrameAtBits := by
  sl_kernel_rfl

/-- Every run of the kernel's program ends in a quiescent state. -/
theorem frame_kernel : Cert.quiescent_KernelBf :=
  same_text.mpr fun m ρ _ => Cert.KernelBfIdeal.Gen.frame (F := Bits) m ρ

/-- Every run of the idealized kernel ends in a quiescent state. -/
theorem frame_ideal : Cert.quiescent_KernelBfIdeal := fun m ρ _ => Cert.KernelBfIdeal.Gen.frame m ρ

/-- Every run of the idealized reference ends in a quiescent state. -/
theorem frame_reference : Cert.quiescent_ReferenceBfIdeal := by
  intro m g _
  refine (θ_run _ _ _).mono (fun r h => ⟨fun c => (h c).2, sem_eq_zero_of_no_sems (by decide) r.2⟩) (Cert.ReferenceBfIdeal.Value.run m g)

/-- Idealizing the kernel rewrites nothing. -/
theorem preserves : Cert.preserves_KernelBf_KernelBfIdeal := trivial

/-- The kernel's result equals the reference's. -/
theorem algebraic : Cert.algebraic_KernelBfIdeal_ReferenceBfIdeal := by
  intro m g m' g' _ hagree
  refine ⟨_, (θ_run _ _ _).mono (fun r h c => ⟨(h c).1.trans (final m c), (h c).2⟩) (Cert.KernelBfIdeal.Value.run_blocks m g),
    (θ_run _ _ _).mono (fun r h c => ?_) (Cert.ReferenceBfIdeal.Value.run m' g')⟩
  obtain ⟨h0, h1⟩ := hagree c
  obtain ⟨r0, rest⟩ := h c
  refine ⟨r0.trans ?_, rest⟩
  rw [h0, h1]
  rfl

end Cert.KernelBfIdeal.Branch

end
-- ==== Proof.GfValue.lean ====
/-
  The product of a gated branch: the call's result array is the reference's term.
-/
module

public import proofs.«01_k».proof.Proof.Gen.KernelGfIdeal.Frame
public import proofs.«01_k».proof.Proof.Gen.ReferenceGfIdeal.Run
public import Idealize.ShloMosaic.Lib.Pipeline.ValueKit
public import Idealize.ShloMosaic.Lib.Claim

@[expose] public section

set_option maxRecDepth 16384

noncomputable section

namespace Cert.KernelGfIdeal.Branch

open Cert.KernelGfIdeal Cert.KernelGfIdeal.Gen
open Idealize.ShloMosaic Idealize.ShloMosaic.TcCoe Idealize.SL.Sem
open Idealize.ShloMosaic.Pipeline (Dat)

/-- The reference's sigmoid of the gate's rows. -/
def sigmoid (z : FVec Ideal S4096x256 .f32) : FVec Ideal S4096x256 .f32 :=
  Host.divf (broadcastInDim S4096x256 ![] Cert.ReferenceGfIdeal.Gen.bcast_S_S4096x256 (constant (F := Ideal) Cert.ReferenceGfIdeal.S_ .f32 0x3F800000#32))
    (addf (broadcastInDim S4096x256 ![] Cert.ReferenceGfIdeal.Gen.bcast_S_S4096x256 (constant (F := Ideal) Cert.ReferenceGfIdeal.S_ .f32 0x3F800000#32)) (Host.exp (Host.negf z)))

/-- The sigmoid at a row and column. -/
theorem sigmoid_apply (z : FVec Ideal S4096x256 .f32) (j : S4096x256.Idx) : sigmoid z j = Ideal.logistic (z j) := by
  pointwise [sigmoid]
  rfl

/-- The reference's term: the rows times `silu` of the gate's rows, times the weights. -/
def product (a z : FVec Ideal S4096x256 .f32) (w : FVec Ideal S256x1024 .f32) : FVec Ideal S4096x1024 .f32 :=
  Host.dotGeneral Cert.ReferenceGfIdeal.dot_S4096x256_S256x1024_S4096x1024_1_0_0_1_n_n none
    (mulf a (mulf z (sigmoid z))) w

/-- Where each window's block lies: the rows walk down the tokens, the weights stay. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ) (c : Dev nD)

/-- The call's result. -/
theorem final : (dats m 0 c).arrAt 3 cfg0.N = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, product, sigmoid_apply]
  blk_point [iblk, V, idx t]

end Cert.KernelGfIdeal.Branch

end
-- ==== Proof.GfClaims.lean ====
/-
  The five claims on the call of a gated branch's product.
-/
module

public import proofs.«01_k».proof.Defs
public import proofs.«01_k».proof.Proof.Gen.KernelGf
public import proofs.«01_k».proof.Proof.Gen.KernelGfIdeal.Value
public import proofs.«01_k».proof.Proof.GfValue
public import Idealize.ShloMosaic.Lib.Claim
public import Idealize.ShloMosaic.Adequacy
public import Idealize.ShloMosaic.Init

@[expose] public section

set_option maxRecDepth 16384

noncomputable section

namespace Cert.KernelGfIdeal.Branch

open Idealize.ShloMosaic Idealize.ShloMosaic.TcCoe Idealize.SL.Sem

/-- The frame of the idealized program's text, read at the machine's own floats. -/
def FrameAtBits : Prop :=
  ∀ (m : (ℓ : Loc Cert.KernelGfIdeal.nD Cert.KernelGfIdeal.τ Cert.KernelGfIdeal.sig) → Buf (Elt Bits) ℓ) (g : Dev Cert.KernelGfIdeal.nD → PrngReg), True →
    θ_run (Cert.KernelGfIdeal.defs (F := Bits)) (onTc (τ := Cert.KernelGfIdeal.τ) (Cert.KernelGfIdeal.main (F := Bits))) ⟨m, fun _ => 0, g⟩ (fun r => (∀ c : Dev Cert.KernelGfIdeal.nD,
      r.2.mem ((c.tc : Thread Cert.KernelGfIdeal.nD Cert.KernelGfIdeal.τ).loc Cert.KernelGfIdeal.main_arg0) = m ((c.tc : Thread Cert.KernelGfIdeal.nD Cert.KernelGfIdeal.τ).loc Cert.KernelGfIdeal.main_arg0)
      ∧ r.2.mem ((c.tc : Thread Cert.KernelGfIdeal.nD Cert.KernelGfIdeal.τ).loc Cert.KernelGfIdeal.main_arg1) = m ((c.tc : Thread Cert.KernelGfIdeal.nD Cert.KernelGfIdeal.τ).loc Cert.KernelGfIdeal.main_arg1)
      ∧ r.2.mem ((c.tc : Thread Cert.KernelGfIdeal.nD Cert.KernelGfIdeal.τ).loc Cert.KernelGfIdeal.main_arg2) = m ((c.tc : Thread Cert.KernelGfIdeal.nD Cert.KernelGfIdeal.τ).loc Cert.KernelGfIdeal.main_arg2))
      ∧ r.2.sem = fun _ => 0)

/-- The kernel's program has the same text as the idealized one, so its frame is that one read at the machine's floats. -/
theorem same_text : Cert.quiescent_KernelGf = FrameAtBits := by
  sl_kernel_rfl

/-- Every run of the kernel's program ends in a quiescent state. -/
theorem frame_kernel : Cert.quiescent_KernelGf :=
  same_text.mpr fun m ρ _ => Cert.KernelGfIdeal.Gen.frame (F := Bits) m ρ

/-- Every run of the idealized kernel ends in a quiescent state. -/
theorem frame_ideal : Cert.quiescent_KernelGfIdeal := fun m ρ _ => Cert.KernelGfIdeal.Gen.frame m ρ

/-- Every run of the idealized reference ends in a quiescent state. -/
theorem frame_reference : Cert.quiescent_ReferenceGfIdeal := by
  intro m g _
  refine (θ_run _ _ _).mono (fun r h => ⟨fun c => (h c).2, sem_eq_zero_of_no_sems (by decide) r.2⟩) (Cert.ReferenceGfIdeal.Value.run m g)

/-- Idealizing the kernel rewrites nothing. -/
theorem preserves : Cert.preserves_KernelGf_KernelGfIdeal := trivial

/-- The kernel's result equals the reference's. -/
theorem algebraic : Cert.algebraic_KernelGfIdeal_ReferenceGfIdeal := by
  intro m g m' g' _ hagree
  refine ⟨_, (θ_run _ _ _).mono (fun r h c => ⟨(h c).1.trans (final m c), (h c).2⟩) (Cert.KernelGfIdeal.Value.run_blocks m g),
    (θ_run _ _ _).mono (fun r h c => ?_) (Cert.ReferenceGfIdeal.Value.run m' g')⟩
  obtain ⟨h0, h1, h2⟩ := hagree c
  obtain ⟨r0, rest⟩ := h c
  refine ⟨r0.trans ?_, rest⟩
  rw [h0, h1, h2]
  rfl

end Cert.KernelGfIdeal.Branch

end
-- ==== Proof.CfValue.lean ====
/-
  The convolution branch's output: the call's result array is the reference's term.
-/
module

public import proofs.«01_k».proof.Proof.Gen.KernelCfIdeal.Frame
public import proofs.«01_k».proof.Proof.Gen.ReferenceCfIdeal.Run
public import Idealize.ShloMosaic.Lib.Pipeline.ValueKit
public import Idealize.ShloMosaic.Lib.Claim

@[expose] public section

set_option maxRecDepth 16384

noncomputable section

namespace Cert.KernelCfIdeal.Row

open Cert.KernelCfIdeal
open Cert.KernelCfIdeal.Gen
open Idealize.ShloMosaic Idealize.ShloMosaic.TcCoe Idealize.SL.Sem
open Idealize.ShloMosaic.Pipeline (Dat)

/-- One value repeated over the tokens' rows. -/
def fill (b : BitVec 32) : FVec Ideal S4096x256 .f32 :=
  broadcastInDim S4096x256 ![] Cert.ReferenceCfIdeal.Gen.bcast_S_S4096x256 (constant (F := Ideal) Cert.ReferenceCfIdeal.S_ .f32 b)

/-- One value repeated down a column. -/
def column (b : BitVec 32) : FVec Ideal Cert.ReferenceCfIdeal.S4096x1 .f32 :=
  broadcastInDim Cert.ReferenceCfIdeal.S4096x1 ![] Cert.ReferenceCfIdeal.Gen.bcast_S_S4096x1 (constant (F := Ideal) Cert.ReferenceCfIdeal.S_ .f32 b)

/-- A column repeated along the rows. -/
def spread (v : FVec Ideal Cert.ReferenceCfIdeal.S4096x1 .f32) : FVec Ideal S4096x256 .f32 :=
  broadcastInDim S4096x256 ![0, 1] Cert.ReferenceCfIdeal.Gen.bcast_S4096x1_S4096x256_0_1 v

/-- The mean of each row. -/
def mean (z : FVec Ideal S4096x256 .f32) : FVec Ideal Cert.ReferenceCfIdeal.S4096x1 .f32 :=
  Host.divf (broadcastInDim Cert.ReferenceCfIdeal.S4096x1 ![0] Cert.ReferenceCfIdeal.Gen.bcast_S4096_S4096x1_0 (Host.reduceAdd z (constant (F := Ideal) Cert.ReferenceCfIdeal.S_ .f32 0x00000000#32) Cert.ReferenceCfIdeal.Gen.reducesTo_S4096x256_S4096_d1 Cert.ReferenceCfIdeal.Gen.h_S_))
    (column 0x43800000#32)

/-- A vector repeated down the rows. -/
def rows (g : FVec Ideal S256 .f32) : FVec Ideal S4096x256 .f32 :=
  broadcastInDim S4096x256 ![0, 1] Cert.ReferenceCfIdeal.Gen.bcast_S1x256_S4096x256_0_1 (broadcastInDim S1x256 ![1] Cert.ReferenceCfIdeal.Gen.bcast_S256_S1x256_1 g)

/-- The rows less their means. -/
def centred (z : FVec Ideal S4096x256 .f32) : FVec Ideal S4096x256 .f32 := subf z (spread (mean z))

/-- The layer norm of the rows. -/
def layerNorm (z : FVec Ideal S4096x256 .f32) (g b : FVec Ideal S256 .f32) : FVec Ideal S4096x256 .f32 :=
  addf (mulf (mulf (centred z) (spread (Host.rsqrt (addf (mean (mulf (centred z) (centred z))) (column 0x3727C5AC#32))))) (rows g)) (rows b)

/-- The sigmoid of the rows. -/
def sigmoid (z : FVec Ideal S4096x256 .f32) : FVec Ideal S4096x256 .f32 :=
  Host.divf (fill 0x3F800000#32) (addf (fill 0x3F800000#32) (Host.exp (Host.negf z)))

/-- The sigmoid at a row and column. -/
theorem sigmoid_apply (z : FVec Ideal S4096x256 .f32) (j : S4096x256.Idx) : sigmoid z j = Ideal.logistic (z j) := by
  pointwise [sigmoid, fill]
  rfl

/-- The rows times their sigmoid. -/
def silu (z : FVec Ideal S4096x256 .f32) : FVec Ideal S4096x256 .f32 := mulf z (sigmoid z)

/-- The reference's term: `silu` of the layer norm, times the weights, times `silu` of the gate's rows. -/
def output (cv a : FVec Ideal S4096x256 .f32) (g b : FVec Ideal S256 .f32) (w : FVec Ideal S256x256 .f32) : FVec Ideal S4096x256 .f32 :=
  mulf (Host.dotGeneral Cert.ReferenceCfIdeal.dot_S4096x256_S256x256_S4096x256_1_0_0_1_n_n none (silu (layerNorm cv g b)) w) (silu a)

/-- Where each window's block lies: the rows walk down the tokens, the parameters stay. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ) (c : Dev nD)

/-- The call's result. -/
theorem final : (dats m 0 c).arrAt 5 cfg0.N = output (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, output, silu, sigmoid_apply, layerNorm, centred, mean, rows, spread, column, fill]
  blk_point [iblk, V, idx t]

end Cert.KernelCfIdeal.Row

end
-- ==== Proof.CfClaims.lean ====
/-
  The five claims on the call of the end of the convolution branch.
-/
module

public import proofs.«01_k».proof.Defs
public import proofs.«01_k».proof.Proof.Gen.KernelCf
public import proofs.«01_k».proof.Proof.Gen.KernelCfIdeal.Value
public import proofs.«01_k».proof.Proof.CfValue
public import Idealize.ShloMosaic.Lib.Claim
public import Idealize.ShloMosaic.Adequacy
public import Idealize.ShloMosaic.Init

@[expose] public section

set_option maxRecDepth 16384

noncomputable section

namespace Cert.KernelCfIdeal.Row

open Idealize.ShloMosaic Idealize.ShloMosaic.TcCoe Idealize.SL.Sem

/-- The frame of the idealized program's text, read at the machine's own floats. -/
def FrameAtBits : Prop :=
  ∀ (m : (ℓ : Loc Cert.KernelCfIdeal.nD Cert.KernelCfIdeal.τ Cert.KernelCfIdeal.sig) → Buf (Elt Bits) ℓ) (g : Dev Cert.KernelCfIdeal.nD → PrngReg), True →
    θ_run (Cert.KernelCfIdeal.defs (F := Bits)) (onTc (τ := Cert.KernelCfIdeal.τ) (Cert.KernelCfIdeal.main (F := Bits))) ⟨m, fun _ => 0, g⟩ (fun r => (∀ c : Dev Cert.KernelCfIdeal.nD,
      r.2.mem ((c.tc : Thread Cert.KernelCfIdeal.nD Cert.KernelCfIdeal.τ).loc Cert.KernelCfIdeal.main_arg0) = m ((c.tc : Thread Cert.KernelCfIdeal.nD Cert.KernelCfIdeal.τ).loc Cert.KernelCfIdeal.main_arg0)
      ∧ r.2.mem ((c.tc : Thread Cert.KernelCfIdeal.nD Cert.KernelCfIdeal.τ).loc Cert.KernelCfIdeal.main_arg1) = m ((c.tc : Thread Cert.KernelCfIdeal.nD Cert.KernelCfIdeal.τ).loc Cert.KernelCfIdeal.main_arg1)
      ∧ r.2.mem ((c.tc : Thread Cert.KernelCfIdeal.nD Cert.KernelCfIdeal.τ).loc Cert.KernelCfIdeal.main_arg2) = m ((c.tc : Thread Cert.KernelCfIdeal.nD Cert.KernelCfIdeal.τ).loc Cert.KernelCfIdeal.main_arg2)
      ∧ r.2.mem ((c.tc : Thread Cert.KernelCfIdeal.nD Cert.KernelCfIdeal.τ).loc Cert.KernelCfIdeal.main_arg3) = m ((c.tc : Thread Cert.KernelCfIdeal.nD Cert.KernelCfIdeal.τ).loc Cert.KernelCfIdeal.main_arg3)
      ∧ r.2.mem ((c.tc : Thread Cert.KernelCfIdeal.nD Cert.KernelCfIdeal.τ).loc Cert.KernelCfIdeal.main_arg4) = m ((c.tc : Thread Cert.KernelCfIdeal.nD Cert.KernelCfIdeal.τ).loc Cert.KernelCfIdeal.main_arg4))
      ∧ r.2.sem = fun _ => 0)

/-- The kernel's program has the same text as the idealized one, so its frame is that one read at the machine's floats. -/
theorem same_text : Cert.quiescent_KernelCf = FrameAtBits := by
  sl_kernel_rfl

/-- Every run of the kernel's program ends in a quiescent state. -/
theorem frame_kernel : Cert.quiescent_KernelCf :=
  same_text.mpr fun m ρ _ => Cert.KernelCfIdeal.Gen.frame (F := Bits) m ρ

/-- Every run of the idealized kernel ends in a quiescent state. -/
theorem frame_ideal : Cert.quiescent_KernelCfIdeal := fun m ρ _ => Cert.KernelCfIdeal.Gen.frame m ρ

/-- Every run of the idealized reference ends in a quiescent state. -/
theorem frame_reference : Cert.quiescent_ReferenceCfIdeal := by
  intro m g _
  refine (θ_run _ _ _).mono (fun r h => ⟨fun c => (h c).2, sem_eq_zero_of_no_sems (by decide) r.2⟩) (Cert.ReferenceCfIdeal.Value.run m g)

/-- Idealizing the kernel rewrites nothing. -/
theorem preserves : Cert.preserves_KernelCf_KernelCfIdeal := trivial

/-- The kernel's result equals the reference's. -/
theorem algebraic : Cert.algebraic_KernelCfIdeal_ReferenceCfIdeal := by
  intro m g m' g' _ hagree
  refine ⟨_, (θ_run _ _ _).mono (fun r h c => ⟨(h c).1.trans (final m c), (h c).2⟩) (Cert.KernelCfIdeal.Value.run_blocks m g),
    (θ_run _ _ _).mono (fun r h c => ?_) (Cert.ReferenceCfIdeal.Value.run m' g')⟩
  obtain ⟨h0, h1, h2, h3, h4⟩ := hagree c
  obtain ⟨r0, rest⟩ := h c
  refine ⟨r0.trans ?_, rest⟩
  rw [Cert.ReferenceCfIdeal.Value.res_main_v27, h0, h1, h2, h3, h4]
  rfl

end Cert.KernelCfIdeal.Row

end
-- ==== Proof.SfValue.lean ====
/-
  The state-space branch's output: the call's result array is the reference's term.
-/
module

public import proofs.«01_k».proof.Proof.Gen.KernelSfIdeal.Frame
public import proofs.«01_k».proof.Proof.Gen.ReferenceSfIdeal.Run
public import Idealize.ShloMosaic.Lib.Pipeline.ValueKit
public import Idealize.ShloMosaic.Lib.Claim

@[expose] public section

set_option maxRecDepth 16384

noncomputable section

namespace Cert.KernelSfIdeal.Row

open Cert.KernelSfIdeal
open Cert.KernelSfIdeal.Gen
open Idealize.ShloMosaic Idealize.ShloMosaic.TcCoe Idealize.SL.Sem
open Idealize.ShloMosaic.Pipeline (Dat)

/-- One value repeated over the tokens' rows. -/
def fill (b : BitVec 32) : FVec Ideal S4096x256 .f32 :=
  broadcastInDim S4096x256 ![] Cert.ReferenceSfIdeal.Gen.bcast_S_S4096x256 (constant (F := Ideal) Cert.ReferenceSfIdeal.S_ .f32 b)

/-- The sigmoid of the rows. -/
def sigmoid (z : FVec Ideal S4096x256 .f32) : FVec Ideal S4096x256 .f32 :=
  Host.divf (fill 0x3F800000#32) (addf (fill 0x3F800000#32) (Host.exp (Host.negf z)))

/-- The sigmoid at a row and column. -/
theorem sigmoid_apply (z : FVec Ideal S4096x256 .f32) (j : S4096x256.Idx) : sigmoid z j = Ideal.logistic (z j) := by
  pointwise [sigmoid, fill]
  rfl

/-- The scan's rows plus the inputs times the skip vector. -/
def skipped (y u : FVec Ideal S4096x256 .f32) (d : FVec Ideal S256 .f32) : FVec Ideal S4096x256 .f32 :=
  addf y (mulf (broadcastInDim S4096x256 ![0, 1] Cert.ReferenceSfIdeal.Gen.bcast_S1x256_S4096x256_0_1 (broadcastInDim S1x256 ![1] Cert.ReferenceSfIdeal.Gen.bcast_S256_S1x256_1 d)) u)

/-- The smooth rectifier of the rows, by its hyperbolic tangent. -/
def gelu (z : FVec Ideal S4096x256 .f32) : FVec Ideal S4096x256 .f32 :=
  mulf z (mulf (fill 0x3F000000#32) (addf (fill 0x3F800000#32) (Host.tanh (mulf (fill 0x3F4C422A#32) (addf z (mulf (fill 0x3D372713#32) (mulf (mulf z z) z)))))))

/-- The gated product's two halves, side by side. -/
def halves (y u : FVec Ideal S4096x256 .f32) (d : FVec Ideal S256 .f32) (w : FVec Ideal S256x512 .f32) : FVec Ideal Cert.ReferenceSfIdeal.S4096x512 .f32 :=
  Host.dotGeneral Cert.ReferenceSfIdeal.dot_S4096x256_S256x512_S4096x512_1_0_0_1_n_n none (gelu (skipped y u d)) w

/-- The reference's term: the first half times the sigmoid of the second, times `silu` of the gate's rows. -/
def output (y u z : FVec Ideal S4096x256 .f32) (d : FVec Ideal S256 .f32) (w : FVec Ideal S256x512 .f32) : FVec Ideal S4096x256 .f32 :=
  mulf (mulf (extractStridedSlice S4096x256 ![0, 0] (halves y u d w) Cert.ReferenceSfIdeal.Gen.slices_S4096x512_S4096x256_0_0)
      (sigmoid (extractStridedSlice S4096x256 ![0, 256] (halves y u d w) Cert.ReferenceSfIdeal.Gen.slices_S4096x512_S4096x256_0_256)))
    (mulf z (sigmoid z))

/-- Where each window's block lies: the rows walk down the tokens, the parameters stay. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ) (c : Dev nD)

/-- The call's result. -/
theorem final : (dats m 0 c).arrAt 6 cfg0.N = output (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay1, output, halves, sigmoid_apply, gelu, skipped, fill]
  blk_point [iblk, V, idx t]

end Cert.KernelSfIdeal.Row

end
-- ==== Proof.SfClaims.lean ====
/-
  The five claims on the call of the end of the state space branch.
-/
module

public import proofs.«01_k».proof.Defs
public import proofs.«01_k».proof.Proof.Gen.KernelSf
public import proofs.«01_k».proof.Proof.Gen.KernelSfIdeal.Value
public import proofs.«01_k».proof.Proof.SfValue
public import Idealize.ShloMosaic.Lib.Claim
public import Idealize.ShloMosaic.Adequacy
public import Idealize.ShloMosaic.Init

@[expose] public section

set_option maxRecDepth 16384

noncomputable section

namespace Cert.KernelSfIdeal.Row

open Idealize.ShloMosaic Idealize.ShloMosaic.TcCoe Idealize.SL.Sem

/-- The frame of the idealized program's text, read at the machine's own floats. -/
def FrameAtBits : Prop :=
  ∀ (m : (ℓ : Loc Cert.KernelSfIdeal.nD Cert.KernelSfIdeal.τ Cert.KernelSfIdeal.sig) → Buf (Elt Bits) ℓ) (g : Dev Cert.KernelSfIdeal.nD → PrngReg), True →
    θ_run (Cert.KernelSfIdeal.defs (F := Bits)) (onTc (τ := Cert.KernelSfIdeal.τ) (Cert.KernelSfIdeal.main (F := Bits))) ⟨m, fun _ => 0, g⟩ (fun r => (∀ c : Dev Cert.KernelSfIdeal.nD,
      r.2.mem ((c.tc : Thread Cert.KernelSfIdeal.nD Cert.KernelSfIdeal.τ).loc Cert.KernelSfIdeal.main_arg0) = m ((c.tc : Thread Cert.KernelSfIdeal.nD Cert.KernelSfIdeal.τ).loc Cert.KernelSfIdeal.main_arg0)
      ∧ r.2.mem ((c.tc : Thread Cert.KernelSfIdeal.nD Cert.KernelSfIdeal.τ).loc Cert.KernelSfIdeal.main_arg1) = m ((c.tc : Thread Cert.KernelSfIdeal.nD Cert.KernelSfIdeal.τ).loc Cert.KernelSfIdeal.main_arg1)
      ∧ r.2.mem ((c.tc : Thread Cert.KernelSfIdeal.nD Cert.KernelSfIdeal.τ).loc Cert.KernelSfIdeal.main_arg2) = m ((c.tc : Thread Cert.KernelSfIdeal.nD Cert.KernelSfIdeal.τ).loc Cert.KernelSfIdeal.main_arg2)
      ∧ r.2.mem ((c.tc : Thread Cert.KernelSfIdeal.nD Cert.KernelSfIdeal.τ).loc Cert.KernelSfIdeal.main_arg3) = m ((c.tc : Thread Cert.KernelSfIdeal.nD Cert.KernelSfIdeal.τ).loc Cert.KernelSfIdeal.main_arg3)
      ∧ r.2.mem ((c.tc : Thread Cert.KernelSfIdeal.nD Cert.KernelSfIdeal.τ).loc Cert.KernelSfIdeal.main_arg4) = m ((c.tc : Thread Cert.KernelSfIdeal.nD Cert.KernelSfIdeal.τ).loc Cert.KernelSfIdeal.main_arg4))
      ∧ r.2.sem = fun _ => 0)

/-- The kernel's program has the same text as the idealized one, so its frame is that one read at the machine's floats. -/
theorem same_text : Cert.quiescent_KernelSf = FrameAtBits := by
  sl_kernel_rfl

/-- Every run of the kernel's program ends in a quiescent state. -/
theorem frame_kernel : Cert.quiescent_KernelSf :=
  same_text.mpr fun m ρ _ => Cert.KernelSfIdeal.Gen.frame (F := Bits) m ρ

/-- Every run of the idealized kernel ends in a quiescent state. -/
theorem frame_ideal : Cert.quiescent_KernelSfIdeal := fun m ρ _ => Cert.KernelSfIdeal.Gen.frame m ρ

/-- Every run of the idealized reference ends in a quiescent state. -/
theorem frame_reference : Cert.quiescent_ReferenceSfIdeal := by
  intro m g _
  refine (θ_run _ _ _).mono (fun r h => ⟨fun c => (h c).2, sem_eq_zero_of_no_sems (by decide) r.2⟩) (Cert.ReferenceSfIdeal.Value.run m g)

/-- Idealizing the kernel rewrites nothing. -/
theorem preserves : Cert.preserves_KernelSf_KernelSfIdeal := trivial

/-- The kernel's result equals the reference's. -/
theorem algebraic : Cert.algebraic_KernelSfIdeal_ReferenceSfIdeal := by
  intro m g m' g' _ hagree
  refine ⟨_, (θ_run _ _ _).mono (fun r h c => ⟨(h c).1.trans (final m c), (h c).2⟩) (Cert.KernelSfIdeal.Value.run_blocks m g),
    (θ_run _ _ _).mono (fun r h c => ?_) (Cert.ReferenceSfIdeal.Value.run m' g')⟩
  obtain ⟨h0, h1, h2, h3, h4⟩ := hagree c
  obtain ⟨r0, rest⟩ := h c
  refine ⟨r0.trans ?_, rest⟩
  rw [Cert.ReferenceSfIdeal.Value.res_main_v28, h0, h1, h2, h3, h4]
  rfl

end Cert.KernelSfIdeal.Row

end
-- ==== Proof.JfValue.lean ====
/-
  The gated sum of the branches: the call's result array is the reference's term.
-/
module

public import proofs.«01_k».proof.Proof.Gen.KernelJfIdeal.Frame
public import proofs.«01_k».proof.Proof.Gen.ReferenceJfIdeal.Run
public import Idealize.ShloMosaic.Lib.Pipeline.ValueKit
public import Idealize.ShloMosaic.Lib.Claim

@[expose] public section

set_option maxRecDepth 16384

noncomputable section

namespace Cert.KernelJfIdeal.Row

open Cert.KernelJfIdeal
open Cert.KernelJfIdeal.Gen
open Idealize.ShloMosaic Idealize.ShloMosaic.TcCoe Idealize.SL.Sem
open Idealize.ShloMosaic.Pipeline (Dat)

/-- The four branches' gate rows side by side. -/
def gateRows (g0 g1 g2 g3 : FVec Ideal S4096x1024 .f32) : FVec Ideal Cert.ReferenceJfIdeal.S4096x4096 .f32 :=
  (concatenate Cert.ReferenceJfIdeal.S4096x4096 1 [⟨S4096x1024, g0⟩, ⟨S4096x1024, g1⟩, ⟨S4096x1024, g2⟩, ⟨S4096x1024, g3⟩]
    Cert.ReferenceJfIdeal.Gen.concatenates_S4096x1024_S4096x1024_S4096x1024_S4096x1024_S4096x4096_d1)

/-- The four branches' rows, one above another for each token. -/
def branchRows (b0 b1 b2 b3 : FVec Ideal S4096x1024 .f32) : FVec Ideal Cert.ReferenceJfIdeal.S4096x4x1024 .f32 :=
  (concatenate Cert.ReferenceJfIdeal.S4096x4x1024 1 [⟨Cert.ReferenceJfIdeal.S4096x1x1024, broadcastInDim Cert.ReferenceJfIdeal.S4096x1x1024 ![0, 2] Cert.ReferenceJfIdeal.Gen.bcast_S4096x1024_S4096x1x1024_0_2 b0⟩, ⟨Cert.ReferenceJfIdeal.S4096x1x1024, broadcastInDim Cert.ReferenceJfIdeal.S4096x1x1024 ![0, 2] Cert.ReferenceJfIdeal.Gen.bcast_S4096x1024_S4096x1x1024_0_2 b1⟩, ⟨Cert.ReferenceJfIdeal.S4096x1x1024, broadcastInDim Cert.ReferenceJfIdeal.S4096x1x1024 ![0, 2] Cert.ReferenceJfIdeal.Gen.bcast_S4096x1024_S4096x1x1024_0_2 b2⟩, ⟨Cert.ReferenceJfIdeal.S4096x1x1024, broadcastInDim Cert.ReferenceJfIdeal.S4096x1x1024 ![0, 2] Cert.ReferenceJfIdeal.Gen.bcast_S4096x1024_S4096x1x1024_0_2 b3⟩]
    Cert.ReferenceJfIdeal.Gen.concatenates_S4096x1x1024_S4096x1x1024_S4096x1x1024_S4096x1x1024_S4096x4x1024_d1)

/-- Block 0 of the gate rows. -/
theorem gateRows_0 (g0 g1 g2 g3 : FVec Ideal S4096x1024 .f32) (j : Cert.ReferenceJfIdeal.S4096x4096.Idx) (k : Fin 1024) (h : 0 + k.val = (j 1).val) :
    gateRows g0 g1 g2 g3 j = g0 (ix2 (j 0) k) := by
  unfold gateRows
  refine concatenate_apply_piece (t := Cert.ReferenceJfIdeal.S4096x4096) 1 _ _ j 0 (by simp) S4096x1024 g0 rfl rfl 0 (by simp) (ix2 (j 0) k) (fun b hb => ?_) h
  match b, hb with
  | ⟨0, _⟩, _ => rfl
  | ⟨1, _⟩, hb => exact absurd rfl hb

/-- Branch 0's rows among the four. -/
theorem branchRows_0 (b0 b1 b2 b3 : FVec Ideal S4096x1024 .f32) (r : Fin 4096) (n : Fin 4) (k : Fin 1024) (h : n.val = 0) :
    branchRows b0 b1 b2 b3 (ix3 r n k) = b0 (ix2 r k) := by
  unfold branchRows
  refine (concatenate_apply_piece (t := Cert.ReferenceJfIdeal.S4096x4x1024) 1 _ _ (ix3 r n k) 0 (by simp) Cert.ReferenceJfIdeal.S4096x1x1024 _ rfl rfl 0 (by simp) (ix3 r 0 k) (fun b hb => ?_) (by show 0 + 0 = n.val; omega)).trans ?_
  · match b, hb with
    | ⟨0, _⟩, _ => rfl
    | ⟨1, _⟩, hb => exact absurd rfl hb
    | ⟨2, _⟩, _ => rfl
  · pointwise

/-- Block 1 of the gate rows. -/
theorem gateRows_1 (g0 g1 g2 g3 : FVec Ideal S4096x1024 .f32) (j : Cert.ReferenceJfIdeal.S4096x4096.Idx) (k : Fin 1024) (h : 1024 + k.val = (j 1).val) :
    gateRows g0 g1 g2 g3 j = g1 (ix2 (j 0) k) := by
  unfold gateRows
  refine concatenate_apply_piece (t := Cert.ReferenceJfIdeal.S4096x4096) 1 _ _ j 1 (by simp) S4096x1024 g1 rfl rfl 1024 (by simp) (ix2 (j 0) k) (fun b hb => ?_) h
  match b, hb with
  | ⟨0, _⟩, _ => rfl
  | ⟨1, _⟩, hb => exact absurd rfl hb

/-- Branch 1's rows among the four. -/
theorem branchRows_1 (b0 b1 b2 b3 : FVec Ideal S4096x1024 .f32) (r : Fin 4096) (n : Fin 4) (k : Fin 1024) (h : n.val = 1) :
    branchRows b0 b1 b2 b3 (ix3 r n k) = b1 (ix2 r k) := by
  unfold branchRows
  refine (concatenate_apply_piece (t := Cert.ReferenceJfIdeal.S4096x4x1024) 1 _ _ (ix3 r n k) 1 (by simp) Cert.ReferenceJfIdeal.S4096x1x1024 _ rfl rfl 1 (by simp) (ix3 r 0 k) (fun b hb => ?_) (by show 1 + 0 = n.val; omega)).trans ?_
  · match b, hb with
    | ⟨0, _⟩, _ => rfl
    | ⟨1, _⟩, hb => exact absurd rfl hb
    | ⟨2, _⟩, _ => rfl
  · pointwise

/-- Block 2 of the gate rows. -/
theorem gateRows_2 (g0 g1 g2 g3 : FVec Ideal S4096x1024 .f32) (j : Cert.ReferenceJfIdeal.S4096x4096.Idx) (k : Fin 1024) (h : 2048 + k.val = (j 1).val) :
    gateRows g0 g1 g2 g3 j = g2 (ix2 (j 0) k) := by
  unfold gateRows
  refine concatenate_apply_piece (t := Cert.ReferenceJfIdeal.S4096x4096) 1 _ _ j 2 (by simp) S4096x1024 g2 rfl rfl 2048 (by simp) (ix2 (j 0) k) (fun b hb => ?_) h
  match b, hb with
  | ⟨0, _⟩, _ => rfl
  | ⟨1, _⟩, hb => exact absurd rfl hb

/-- Branch 2's rows among the four. -/
theorem branchRows_2 (b0 b1 b2 b3 : FVec Ideal S4096x1024 .f32) (r : Fin 4096) (n : Fin 4) (k : Fin 1024) (h : n.val = 2) :
    branchRows b0 b1 b2 b3 (ix3 r n k) = b2 (ix2 r k) := by
  unfold branchRows
  refine (concatenate_apply_piece (t := Cert.ReferenceJfIdeal.S4096x4x1024) 1 _ _ (ix3 r n k) 2 (by simp) Cert.ReferenceJfIdeal.S4096x1x1024 _ rfl rfl 2 (by simp) (ix3 r 0 k) (fun b hb => ?_) (by show 2 + 0 = n.val; omega)).trans ?_
  · match b, hb with
    | ⟨0, _⟩, _ => rfl
    | ⟨1, _⟩, hb => exact absurd rfl hb
    | ⟨2, _⟩, _ => rfl
  · pointwise

/-- Block 3 of the gate rows. -/
theorem gateRows_3 (g0 g1 g2 g3 : FVec Ideal S4096x1024 .f32) (j : Cert.ReferenceJfIdeal.S4096x4096.Idx) (k : Fin 1024) (h : 3072 + k.val = (j 1).val) :
    gateRows g0 g1 g2 g3 j = g3 (ix2 (j 0) k) := by
  unfold gateRows
  refine concatenate_apply_piece (t := Cert.ReferenceJfIdeal.S4096x4096) 1 _ _ j 3 (by simp) S4096x1024 g3 rfl rfl 3072 (by simp) (ix2 (j 0) k) (fun b hb => ?_) h
  match b, hb with
  | ⟨0, _⟩, _ => rfl
  | ⟨1, _⟩, hb => exact absurd rfl hb

/-- Branch 3's rows among the four. -/
theorem branchRows_3 (b0 b1 b2 b3 : FVec Ideal S4096x1024 .f32) (r : Fin 4096) (n : Fin 4) (k : Fin 1024) (h : n.val = 3) :
    branchRows b0 b1 b2 b3 (ix3 r n k) = b3 (ix2 r k) := by
  unfold branchRows
  refine (concatenate_apply_piece (t := Cert.ReferenceJfIdeal.S4096x4x1024) 1 _ _ (ix3 r n k) 3 (by simp) Cert.ReferenceJfIdeal.S4096x1x1024 _ rfl rfl 3 (by simp) (ix3 r 0 k) (fun b hb => ?_) (by show 3 + 0 = n.val; omega)).trans ?_
  · match b, hb with
    | ⟨0, _⟩, _ => rfl
    | ⟨1, _⟩, hb => exact absurd rfl hb
    | ⟨2, _⟩, _ => rfl
  · pointwise

/-- One value repeated over the gates. -/
def fill (b : BitVec 32) : FVec Ideal Cert.ReferenceJfIdeal.S4096x4096 .f32 :=
  broadcastInDim Cert.ReferenceJfIdeal.S4096x4096 ![] Cert.ReferenceJfIdeal.Gen.bcast_S_S4096x4096 (constant (F := Ideal) Cert.ReferenceJfIdeal.S_ .f32 b)

/-- The sigmoid of the gates. -/
def sigmoid (z : FVec Ideal Cert.ReferenceJfIdeal.S4096x4096 .f32) : FVec Ideal Cert.ReferenceJfIdeal.S4096x4096 .f32 :=
  Host.divf (fill 0x3F800000#32) (addf (fill 0x3F800000#32) (Host.exp (Host.negf z)))

/-- The sigmoid at a row and column. -/
theorem sigmoid_apply (z : FVec Ideal Cert.ReferenceJfIdeal.S4096x4096 .f32) (j : Cert.ReferenceJfIdeal.S4096x4096.Idx) : sigmoid z j = Ideal.logistic (z j) := by
  pointwise [sigmoid, fill]
  rfl

/-- The gates: the sigmoid of the gate rows plus their bias. -/
def gates (g0 g1 g2 g3 : FVec Ideal S4096x1024 .f32) (b : FVec Ideal S4096 .f32) : FVec Ideal Cert.ReferenceJfIdeal.S4096x4096 .f32 :=
  sigmoid (addf (gateRows g0 g1 g2 g3) (broadcastInDim Cert.ReferenceJfIdeal.S4096x4096 ![0, 1] Cert.ReferenceJfIdeal.Gen.bcast_S1x4096_S4096x4096_0_1 (broadcastInDim Cert.ReferenceJfIdeal.S1x4096 ![1] Cert.ReferenceJfIdeal.Gen.bcast_S4096_S1x4096_1 b)))

/-- The reference's term: the gated sum of the branches' rows. -/
def merged (b0 b1 b2 b3 g0 g1 g2 g3 : FVec Ideal S4096x1024 .f32) (b : FVec Ideal S4096 .f32) : FVec Ideal S4096x1024 .f32 :=
  Host.reduceAdd (mulf (shapeCast Cert.ReferenceJfIdeal.S4096x4x1024 (gates g0 g1 g2 g3 b) Cert.ReferenceJfIdeal.Gen.shapeCasts_S4096x4096_S4096x4x1024) (branchRows b0 b1 b2 b3))
    (constant (F := Ideal) Cert.ReferenceJfIdeal.S_ .f32 0x00000000#32) Cert.ReferenceJfIdeal.Gen.reducesTo_S4096x4x1024_S4096x1024_d1 Cert.ReferenceJfIdeal.Gen.h_S_

/-- The reference's term at a row and column. -/
theorem merged_apply (b0 b1 b2 b3 g0 g1 g2 g3 : FVec Ideal S4096x1024 .f32) (b : FVec Ideal S4096 .f32) (r : Fin 4096) (k : Fin 1024) :
    merged b0 b1 b2 b3 g0 g1 g2 g3 b (ix2 r k) = Ideal.logistic (g0 (ix2 r k) + b (ix1 ⟨k.val, by omega⟩)) * b0 (ix2 r k) + Ideal.logistic (g1 (ix2 r k) + b (ix1 ⟨1024 + k.val, by omega⟩)) * b1 (ix2 r k) + Ideal.logistic (g2 (ix2 r k) + b (ix1 ⟨2048 + k.val, by omega⟩)) * b2 (ix2 r k)
      + Ideal.logistic (g3 (ix2 r k) + b (ix1 ⟨3072 + k.val, by omega⟩)) * b3 (ix2 r k) := by
  pointwise [merged, gates, sigmoid_apply]
  rw [Fin.sum_univ_four]
  rw [gateRows_0 _ _ _ _ _ k (by show 0 + k.val = 0 * 1024 + k.val; omega), branchRows_0 _ _ _ _ r 0 k rfl]
  rw [gateRows_1 _ _ _ _ _ k (by show 1024 + k.val = 1 * 1024 + k.val; omega), branchRows_1 _ _ _ _ r 1 k rfl]
  rw [gateRows_2 _ _ _ _ _ k (by show 2048 + k.val = 2 * 1024 + k.val; omega), branchRows_2 _ _ _ _ r 2 k rfl]
  rw [gateRows_3 _ _ _ _ _ k (by show 3072 + k.val = 3 * 1024 + k.val; omega), branchRows_3 _ _ _ _ r 3 k rfl]
  have e0 : (⟨(0 : Fin 4).val * 1024 + k.val, by omega⟩ : Fin 4096) = ⟨k.val, by omega⟩ := Fin.ext (by simp)
  have e1 : (⟨(1 : Fin 4).val * 1024 + k.val, by show 1 * 1024 + k.val < 4096; omega⟩ : Fin 4096) = ⟨1024 + k.val, by omega⟩ := Fin.ext (by simp)
  have e2 : (⟨(2 : Fin 4).val * 1024 + k.val, by show 2 * 1024 + k.val < 4096; omega⟩ : Fin 4096) = ⟨2048 + k.val, by omega⟩ := Fin.ext (by show 2 * 1024 + k.val = 2048 + k.val; omega)
  have e3 : (⟨(3 : Fin 4).val * 1024 + k.val, by show 3 * 1024 + k.val < 4096; omega⟩ : Fin 4096) = ⟨3072 + k.val, by omega⟩ := Fin.ext (by show 3 * 1024 + k.val = 3072 + k.val; omega)
  rw [e0, e1, e2, e3]
  rfl

/-- The reference's term at an index. -/
theorem merged_at (b0 b1 b2 b3 g0 g1 g2 g3 : FVec Ideal S4096x1024 .f32) (b : FVec Ideal S4096 .f32) (j : S4096x1024.Idx) :
    merged b0 b1 b2 b3 g0 g1 g2 g3 b j = Ideal.logistic (g0 j + b (ix1 ⟨(j 1).val, by have := (j 1).isLt; have e : S4096x1024.size 1 = 1024 := rfl; omega⟩)) * b0 j + Ideal.logistic (g1 j + b (ix1 ⟨1024 + (j 1).val, by have := (j 1).isLt; have e : S4096x1024.size 1 = 1024 := rfl; omega⟩)) * b1 j + Ideal.logistic (g2 j + b (ix1 ⟨2048 + (j 1).val, by have := (j 1).isLt; have e : S4096x1024.size 1 = 1024 := rfl; omega⟩)) * b2 j
      + Ideal.logistic (g3 j + b (ix1 ⟨3072 + (j 1).val, by have := (j 1).isLt; have e : S4096x1024.size 1 = 1024 := rfl; omega⟩)) * b3 j := by
  have h := merged_apply b0 b1 b2 b3 g0 g1 g2 g3 b (j 0) (j 1)
  rw [ix2_eta j] at h
  exact h

/-- Where each window's block lies: the rows walk down the tokens, the parameters stay. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] ∧ win0_10.index t = ![0, 0] ∧ win0_11.index t = ![0, 0] ∧ win0_12.index t = ![t.val, 0] :=
  (by decide +kernel : ∀ t : Fin grid0.N, _)

variable (m : (ℓ : Loc nD τ sig) → Buf (Elt Ideal) ℓ) (c : Dev nD)

/-- Branch 0's bias block is the bias vector's stretch. -/
theorem bias_0 (t : Fin cfg0.N) (k : Fin 1024) : iblk m c 8 t (ix2 0 k) = (m ((c : Thread nD τ).loc main_arg8)) (ix1 ⟨k.val, by omega⟩) := by
  blk_point [iblk, V, idx t]

/-- Branch 1's bias block is the bias vector's stretch. -/
theorem bias_1 (t : Fin cfg0.N) (k : Fin 1024) : iblk m c 9 t (ix2 0 k) = (m ((c : Thread nD τ).loc main_arg8)) (ix1 ⟨1024 + k.val, by omega⟩) := by
  blk_point [iblk, V, idx t]

/-- Branch 2's bias block is the bias vector's stretch. -/
theorem bias_2 (t : Fin cfg0.N) (k : Fin 1024) : iblk m c 10 t (ix2 0 k) = (m ((c : Thread nD τ).loc main_arg8)) (ix1 ⟨2048 + k.val, by omega⟩) := by
  blk_point [iblk, V, idx t]

/-- Branch 3's bias block is the bias vector's stretch. -/
theorem bias_3 (t : Fin cfg0.N) (k : Fin 1024) : iblk m c 11 t (ix2 0 k) = (m ((c : Thread nD τ).loc main_arg8)) (ix1 ⟨3072 + k.val, by omega⟩) := by
  blk_point [iblk, V, idx t]

/-- The call's result. -/
theorem final : (dats m 0 c).arrAt 12 cfg0.N = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  frame_out
  pointwise [k0_pay1]
  refine Eq.trans ?_ (merged_at _ _ _ _ _ _ _ _ _ _).symm
  refine congrArg₂ HAdd.hAdd (congrArg₂ HAdd.hAdd (congrArg₂ HAdd.hAdd ?_ ?_) ?_) ?_
  · refine congrArg₂ HMul.hMul (congrArg Ideal.logistic (congrArg₂ HAdd.hAdd ?_ ?_)) ?_
    · blk_point [iblk, V, idx t]
    · blk_point [iblk, V, idx t]
    · blk_point [iblk, V, idx t]
  · refine congrArg₂ HMul.hMul (congrArg Ideal.logistic (congrArg₂ HAdd.hAdd ?_ ?_)) ?_
    · blk_point [iblk, V, idx t]
    · blk_point [iblk, V, idx t]
    · blk_point [iblk, V, idx t]
  · refine congrArg₂ HMul.hMul (congrArg Ideal.logistic (congrArg₂ HAdd.hAdd ?_ ?_)) ?_
    · blk_point [iblk, V, idx t]
    · blk_point [iblk, V, idx t]
    · blk_point [iblk, V, idx t]
  · refine congrArg₂ HMul.hMul (congrArg Ideal.logistic (congrArg₂ HAdd.hAdd ?_ ?_)) ?_
    · blk_point [iblk, V, idx t]
    · blk_point [iblk, V, idx t]
    · blk_point [iblk, V, idx t]

end Cert.KernelJfIdeal.Row

end
-- ==== Proof.JfClaims.lean ====
/-
  The five claims on the call of the branches' gated sum.
-/
module

public import proofs.«01_k».proof.Defs
public import proofs.«01_k».proof.Proof.Gen.KernelJf
public import proofs.«01_k».proof.Proof.Gen.KernelJfIdeal.Value
public import proofs.«01_k».proof.Proof.JfValue
public import Idealize.ShloMosaic.Lib.Claim
public import Idealize.ShloMosaic.Adequacy
public import Idealize.ShloMosaic.Init

@[expose] public section

set_option maxRecDepth 16384

noncomputable section

namespace Cert.KernelJfIdeal.Row

open Idealize.ShloMosaic Idealize.ShloMosaic.TcCoe Idealize.SL.Sem

/-- The frame of the idealized program's text, read at the machine's own floats. -/
def FrameAtBits : Prop :=
  ∀ (m : (ℓ : Loc Cert.KernelJfIdeal.nD Cert.KernelJfIdeal.τ Cert.KernelJfIdeal.sig) → Buf (Elt Bits) ℓ) (g : Dev Cert.KernelJfIdeal.nD → PrngReg), True →
    θ_run (Cert.KernelJfIdeal.defs (F := Bits)) (onTc (τ := Cert.KernelJfIdeal.τ) (Cert.KernelJfIdeal.main (F := Bits))) ⟨m, fun _ => 0, g⟩ (fun r => (∀ c : Dev Cert.KernelJfIdeal.nD,
      r.2.mem ((c.tc : Thread Cert.KernelJfIdeal.nD Cert.KernelJfIdeal.τ).loc Cert.KernelJfIdeal.main_arg0) = m ((c.tc : Thread Cert.KernelJfIdeal.nD Cert.KernelJfIdeal.τ).loc Cert.KernelJfIdeal.main_arg0)
      ∧ r.2.mem ((c.tc : Thread Cert.KernelJfIdeal.nD Cert.KernelJfIdeal.τ).loc Cert.KernelJfIdeal.main_arg1) = m ((c.tc : Thread Cert.KernelJfIdeal.nD Cert.KernelJfIdeal.τ).loc Cert.KernelJfIdeal.main_arg1)
      ∧ r.2.mem ((c.tc : Thread Cert.KernelJfIdeal.nD Cert.KernelJfIdeal.τ).loc Cert.KernelJfIdeal.main_arg2) = m ((c.tc : Thread Cert.KernelJfIdeal.nD Cert.KernelJfIdeal.τ).loc Cert.KernelJfIdeal.main_arg2)
      ∧ r.2.mem ((c.tc : Thread Cert.KernelJfIdeal.nD Cert.KernelJfIdeal.τ).loc Cert.KernelJfIdeal.main_arg3) = m ((c.tc : Thread Cert.KernelJfIdeal.nD Cert.KernelJfIdeal.τ).loc Cert.KernelJfIdeal.main_arg3)
      ∧ r.2.mem ((c.tc : Thread Cert.KernelJfIdeal.nD Cert.KernelJfIdeal.τ).loc Cert.KernelJfIdeal.main_arg4) = m ((c.tc : Thread Cert.KernelJfIdeal.nD Cert.KernelJfIdeal.τ).loc Cert.KernelJfIdeal.main_arg4)
      ∧ r.2.mem ((c.tc : Thread Cert.KernelJfIdeal.nD Cert.KernelJfIdeal.τ).loc Cert.KernelJfIdeal.main_arg5) = m ((c.tc : Thread Cert.KernelJfIdeal.nD Cert.KernelJfIdeal.τ).loc Cert.KernelJfIdeal.main_arg5)
      ∧ r.2.mem ((c.tc : Thread Cert.KernelJfIdeal.nD Cert.KernelJfIdeal.τ).loc Cert.KernelJfIdeal.main_arg6) = m ((c.tc : Thread Cert.KernelJfIdeal.nD Cert.KernelJfIdeal.τ).loc Cert.KernelJfIdeal.main_arg6)
      ∧ r.2.mem ((c.tc : Thread Cert.KernelJfIdeal.nD Cert.KernelJfIdeal.τ).loc Cert.KernelJfIdeal.main_arg7) = m ((c.tc : Thread Cert.KernelJfIdeal.nD Cert.KernelJfIdeal.τ).loc Cert.KernelJfIdeal.main_arg7)
      ∧ r.2.mem ((c.tc : Thread Cert.KernelJfIdeal.nD Cert.KernelJfIdeal.τ).loc Cert.KernelJfIdeal.main_arg8) = m ((c.tc : Thread Cert.KernelJfIdeal.nD Cert.KernelJfIdeal.τ).loc Cert.KernelJfIdeal.main_arg8))
      ∧ r.2.sem = fun _ => 0)

/-- The kernel's program has the same text as the idealized one, so its frame is that one read at the machine's floats. -/
theorem same_text : Cert.quiescent_KernelJf = FrameAtBits := by
  sl_kernel_rfl

/-- Every run of the kernel's program ends in a quiescent state. -/
theorem frame_kernel : Cert.quiescent_KernelJf :=
  same_text.mpr fun m ρ _ => Cert.KernelJfIdeal.Gen.frame (F := Bits) m ρ

/-- Every run of the idealized kernel ends in a quiescent state. -/
theorem frame_ideal : Cert.quiescent_KernelJfIdeal := fun m ρ _ => Cert.KernelJfIdeal.Gen.frame m ρ

/-- Every run of the idealized reference ends in a quiescent state. -/
theorem frame_reference : Cert.quiescent_ReferenceJfIdeal := by
  intro m g _
  refine (θ_run _ _ _).mono (fun r h => ⟨fun c => (h c).2, sem_eq_zero_of_no_sems (by decide) r.2⟩) (Cert.ReferenceJfIdeal.Value.run m g)

/-- Idealizing the kernel rewrites nothing. -/
theorem preserves : Cert.preserves_KernelJf_KernelJfIdeal := trivial

/-- The kernel's result equals the reference's. -/
theorem algebraic : Cert.algebraic_KernelJfIdeal_ReferenceJfIdeal := by
  intro m g m' g' _ hagree
  refine ⟨_, (θ_run _ _ _).mono (fun r h c => ⟨(h c).1.trans (final m c), (h c).2⟩) (Cert.KernelJfIdeal.Value.run_blocks m g),
    (θ_run _ _ _).mono (fun r h c => ?_) (Cert.ReferenceJfIdeal.Value.run m' g')⟩
  obtain ⟨h0, h1, h2, h3, h4, h5, h6, h7, h8⟩ := hagree c
  obtain ⟨r0, rest⟩ := h c
  refine ⟨r0.trans ?_, rest⟩
  rw [h0, h1, h2, h3, h4, h5, h6, h7, h8]
  rfl

end Cert.KernelJfIdeal.Row

end
-- ==== Proof.LfValue.lean ====
/-
  The layer norm after the residual sum: the call's result array is the reference's term.
-/
module

public import proofs.«01_k».proof.Proof.Gen.KernelLfIdeal.Frame
public import proofs.«01_k».proof.Proof.Gen.ReferenceLfIdeal.Run
public import Idealize.ShloMosaic.Lib.Pipeline.ValueKit
public import Idealize.ShloMosaic.Lib.Claim

@[expose] public section

set_option maxRecDepth 16384

noncomputable section

namespace Cert.KernelLfIdeal.Row

open Cert.KernelLfIdeal
open Cert.KernelLfIdeal.Gen
open Idealize.ShloMosaic Idealize.ShloMosaic.TcCoe Idealize.SL.Sem
open Idealize.ShloMosaic.Pipeline (Dat)

/-- One value repeated over the tokens' rows. -/
def fill (b : BitVec 32) : FVec Ideal S4096x1024 .f32 :=
  broadcastInDim S4096x1024 ![] Cert.ReferenceLfIdeal.Gen.bcast_S_S4096x1024 (constant (F := Ideal) Cert.ReferenceLfIdeal.S_ .f32 b)

/-- One value repeated down a column. -/
def column (b : BitVec 32) : FVec Ideal Cert.ReferenceLfIdeal.S4096x1 .f32 :=
  broadcastInDim Cert.ReferenceLfIdeal.S4096x1 ![] Cert.ReferenceLfIdeal.Gen.bcast_S_S4096x1 (constant (F := Ideal) Cert.ReferenceLfIdeal.S_ .f32 b)

/-- A column repeated along the rows. -/
def spread (v : FVec Ideal Cert.ReferenceLfIdeal.S4096x1 .f32) : FVec Ideal S4096x1024 .f32 :=
  broadcastInDim S4096x1024 ![0, 1] Cert.ReferenceLfIdeal.Gen.bcast_S4096x1_S4096x1024_0_1 v

/-- The mean of each row. -/
def mean (z : FVec Ideal S4096x1024 .f32) : FVec Ideal Cert.ReferenceLfIdeal.S4096x1 .f32 :=
  Host.divf (broadcastInDim Cert.ReferenceLfIdeal.S4096x1 ![0] Cert.ReferenceLfIdeal.Gen.bcast_S4096_S4096x1_0 (Host.reduceAdd z (constant (F := Ideal) Cert.ReferenceLfIdeal.S_ .f32 0x00000000#32) Cert.ReferenceLfIdeal.Gen.reducesTo_S4096x1024_S4096_d1 Cert.ReferenceLfIdeal.Gen.h_S_))
    (column 0x44800000#32)

/-- A vector repeated down the rows. -/
def rows (g : FVec Ideal S1024 .f32) : FVec Ideal S4096x1024 .f32 :=
  broadcastInDim S4096x1024 ![0, 1] Cert.ReferenceLfIdeal.Gen.bcast_S1x1024_S4096x1024_0_1 (broadcastInDim S1x1024 ![1] Cert.ReferenceLfIdeal.Gen.bcast_S1024_S1x1024_1 g)

/-- The rows less their means. -/
def centred (z : FVec Ideal S4096x1024 .f32) : FVec Ideal S4096x1024 .f32 := subf z (spread (mean z))

/-- The layer norm of the rows. -/
def layerNorm (z : FVec Ideal S4096x1024 .f32) (g b : FVec Ideal S1024 .f32) : FVec Ideal S4096x1024 .f32 :=
  addf (mulf (mulf (centred z) (spread (Host.rsqrt (addf (mean (mulf (centred z) (centred z))) (column 0x3727C5AC#32))))) (rows g)) (rows b)

/-- The reference's term: the layer norm of the scaled stream plus the merged branches. -/
def normed (x mo : FVec Ideal S4096x1024 .f32) (g b : FVec Ideal S1024 .f32) : FVec Ideal S4096x1024 .f32 :=
  layerNorm (addf (mulf (fill 0x3FD744FD#32) x) mo) g b

/-- Where each window's block lies: the rows walk down the tokens, the parameters stay. -/
theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

variable (m : (ℓ : Loc nD τ sig) → Buf (Elt Ideal) ℓ) (c : Dev nD)

/-- The call's result. -/
theorem final : (dats m 0 c).arrAt 4 cfg0.N = normed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, normed, layerNorm, centred, mean, rows, spread, column, fill]
  blk_point [iblk, V, idx t]

end Cert.KernelLfIdeal.Row

end
-- ==== Proof.LfClaims.lean ====
/-
  The five claims on the call of the layer norm after the merge.
-/
module

public import proofs.«01_k».proof.Defs
public import proofs.«01_k».proof.Proof.Gen.KernelLf
public import proofs.«01_k».proof.Proof.Gen.KernelLfIdeal.Value
public import proofs.«01_k».proof.Proof.LfValue
public import Idealize.ShloMosaic.Lib.Claim
public import Idealize.ShloMosaic.Adequacy
public import Idealize.ShloMosaic.Init

@[expose] public section

set_option maxRecDepth 16384

noncomputable section

namespace Cert.KernelLfIdeal.Row

open Idealize.ShloMosaic Idealize.ShloMosaic.TcCoe Idealize.SL.Sem

/-- The frame of the idealized program's text, read at the machine's own floats. -/
def FrameAtBits : Prop :=
  ∀ (m : (ℓ : Loc Cert.KernelLfIdeal.nD Cert.KernelLfIdeal.τ Cert.KernelLfIdeal.sig) → Buf (Elt Bits) ℓ) (g : Dev Cert.KernelLfIdeal.nD → PrngReg), True →
    θ_run (Cert.KernelLfIdeal.defs (F := Bits)) (onTc (τ := Cert.KernelLfIdeal.τ) (Cert.KernelLfIdeal.main (F := Bits))) ⟨m, fun _ => 0, g⟩ (fun r => (∀ c : Dev Cert.KernelLfIdeal.nD,
      r.2.mem ((c.tc : Thread Cert.KernelLfIdeal.nD Cert.KernelLfIdeal.τ).loc Cert.KernelLfIdeal.main_arg0) = m ((c.tc : Thread Cert.KernelLfIdeal.nD Cert.KernelLfIdeal.τ).loc Cert.KernelLfIdeal.main_arg0)
      ∧ r.2.mem ((c.tc : Thread Cert.KernelLfIdeal.nD Cert.KernelLfIdeal.τ).loc Cert.KernelLfIdeal.main_arg1) = m ((c.tc : Thread Cert.KernelLfIdeal.nD Cert.KernelLfIdeal.τ).loc Cert.KernelLfIdeal.main_arg1)
      ∧ r.2.mem ((c.tc : Thread Cert.KernelLfIdeal.nD Cert.KernelLfIdeal.τ).loc Cert.KernelLfIdeal.main_arg2) = m ((c.tc : Thread Cert.KernelLfIdeal.nD Cert.KernelLfIdeal.τ).loc Cert.KernelLfIdeal.main_arg2)
      ∧ r.2.mem ((c.tc : Thread Cert.KernelLfIdeal.nD Cert.KernelLfIdeal.τ).loc Cert.KernelLfIdeal.main_arg3) = m ((c.tc : Thread Cert.KernelLfIdeal.nD Cert.KernelLfIdeal.τ).loc Cert.KernelLfIdeal.main_arg3))
      ∧ r.2.sem = fun _ => 0)

/-- The kernel's program has the same text as the idealized one, so its frame is that one read at the machine's floats. -/
theorem same_text : Cert.quiescent_KernelLf = FrameAtBits := by
  sl_kernel_rfl

/-- Every run of the kernel's program ends in a quiescent state. -/
theorem frame_kernel : Cert.quiescent_KernelLf :=
  same_text.mpr fun m ρ _ => Cert.KernelLfIdeal.Gen.frame (F := Bits) m ρ

/-- Every run of the idealized kernel ends in a quiescent state. -/
theorem frame_ideal : Cert.quiescent_KernelLfIdeal := fun m ρ _ => Cert.KernelLfIdeal.Gen.frame m ρ

/-- Every run of the idealized reference ends in a quiescent state. -/
theorem frame_reference : Cert.quiescent_ReferenceLfIdeal := by
  intro m g _
  refine (θ_run _ _ _).mono (fun r h => ⟨fun c => (h c).2, sem_eq_zero_of_no_sems (by decide) r.2⟩) (Cert.ReferenceLfIdeal.Value.run m g)

/-- Idealizing the kernel rewrites nothing. -/
theorem preserves : Cert.preserves_KernelLf_KernelLfIdeal := trivial

/-- The kernel's result equals the reference's. -/
theorem algebraic : Cert.algebraic_KernelLfIdeal_ReferenceLfIdeal := by
  intro m g m' g' _ hagree
  refine ⟨_, (θ_run _ _ _).mono (fun r h c => ⟨(h c).1.trans (final m c), (h c).2⟩) (Cert.KernelLfIdeal.Value.run_blocks m g),
    (θ_run _ _ _).mono (fun r h c => ?_) (Cert.ReferenceLfIdeal.Value.run m' g')⟩
  obtain ⟨h0, h1, h2, h3⟩ := hagree c
  obtain ⟨r0, rest⟩ := h c
  refine ⟨r0.trans ?_, rest⟩
  rw [h0, h1, h2, h3]
  rfl

end Cert.KernelLfIdeal.Row

end
-- ==== Proof.EfValue.lean ====
/-
  The layer of the per-layer embedding: the call's result array is the reference's term.
-/
module

public import proofs.«01_k».proof.Proof.Gen.KernelEfIdeal.Frame
public import proofs.«01_k».proof.Proof.Gen.ReferenceEfIdeal.Run
public import Idealize.ShloMosaic.Lib.Pipeline.ValueKit
public import Idealize.ShloMosaic.Lib.Claim

@[expose] public section

set_option maxRecDepth 16384

noncomputable section

namespace Cert.KernelEfIdeal.Row

open Cert.KernelEfIdeal
open Cert.KernelEfIdeal.Gen
open Idealize.ShloMosaic Idealize.ShloMosaic.TcCoe Idealize.SL.Sem
open Idealize.ShloMosaic.Pipeline (Dat)

/-- One value repeated over the tokens' rows. -/
def fill (b : BitVec 32) : FVec Ideal S4096x1024 .f32 :=
  broadcastInDim S4096x1024 ![] Cert.ReferenceEfIdeal.Gen.bcast_S_S4096x1024 (constant (F := Ideal) Cert.ReferenceEfIdeal.S_ .f32 b)

/-- One value repeated down a column. -/
def column (b : BitVec 32) : FVec Ideal Cert.ReferenceEfIdeal.S4096x1 .f32 :=
  broadcastInDim Cert.ReferenceEfIdeal.S4096x1 ![] Cert.ReferenceEfIdeal.Gen.bcast_S_S4096x1 (constant (F := Ideal) Cert.ReferenceEfIdeal.S_ .f32 b)

/-- A column repeated along the rows. -/
def spread (v : FVec Ideal Cert.ReferenceEfIdeal.S4096x1 .f32) : FVec Ideal S4096x1024 .f32 :=
  broadcastInDim S4096x1024 ![0, 1] Cert.ReferenceEfIdeal.Gen.bcast_S4096x1_S4096x1024_0_1 v

/-- The mean of each row. -/
def mean (z : FVec Ideal S4096x1024 .f32) : FVec Ideal Cert.ReferenceEfIdeal.S4096x1 .f32 :=
  Host.divf (broadcastInDim Cert.ReferenceEfIdeal.S4096x1 ![0] Cert.ReferenceEfIdeal.Gen.bcast_S4096_S4096x1_0 (Host.reduceAdd z (constant (F := Ideal) Cert.ReferenceEfIdeal.S_ .f32 0x00000000#32) Cert.ReferenceEfIdeal.Gen.reducesTo_S4096x1024_S4096_d1 Cert.ReferenceEfIdeal.Gen.h_S_))
    (column 0x44800000#32)

/-- A vector repeated down the rows. -/
def rows (g : FVec Ideal S1024 .f32) : FVec Ideal S4096x1024 .f32 :=
  broadcastInDim S4096x1024 ![0, 1] Cert.ReferenceEfIdeal.Gen.bcast_S1x1024_S4096x1024_0_1 (broadcastInDim S1x1024 ![1] Cert.ReferenceEfIdeal.Gen.bcast_S1024_S1x1024_1 g)

/-- The sigmoid of the rows. -/
def sigmoid (z : FVec Ideal S4096x1024 .f32) : FVec Ideal S4096x1024 .f32 :=
  Host.divf (fill 0x3F800000#32) (addf (fill 0x3F800000#32) (Host.exp (Host.negf z)))

/-- The sigmoid at a row and column. -/
theorem sigmoid_apply (z : FVec Ideal S4096x1024 .f32) (j : S4096x1024.Idx) : sigmoid z j = Ideal.logistic (z j) := by
  pointwise [sigmoid, fill]
  rfl

/-- The gated rows. -/
def gated (pe gl : FVec Ideal S4096x1024 .f32) : FVec Ideal S4096x1024 .f32 := mulf pe (sigmoid gl)

/-- The reference's term: the rows plus the root-mean-square norm of the gated embedding. -/
def added (x1 pe gl : FVec Ideal S4096x1024 .f32) (g : FVec Ideal S1024 .f32) : FVec Ideal S4096x1024 .f32 :=
  addf x1 (mulf (mulf (gated pe gl) (spread (Host.rsqrt (addf (mean (mulf (gated pe gl) (gated pe gl))) (column 0x358637BD#32))))) (rows g))

/-- Where each window's block lies: the rows walk down the tokens, the parameters stay. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

variable (m : (ℓ : Loc nD τ sig) → Buf (Elt Ideal) ℓ) (c : Dev nD)

/-- The call's result. -/
theorem final : (dats m 0 c).arrAt 4 cfg0.N = added (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, added, gated, sigmoid_apply, mean, rows, spread, column, fill]
  blk_point [iblk, V, idx t]

end Cert.KernelEfIdeal.Row

end
-- ==== Proof.EfClaims.lean ====
/-
  The five claims on the call of the addition of the per layer rows.
-/
module

public import proofs.«01_k».proof.Defs
public import proofs.«01_k».proof.Proof.Gen.KernelEf
public import proofs.«01_k».proof.Proof.Gen.KernelEfIdeal.Value
public import proofs.«01_k».proof.Proof.EfValue
public import Idealize.ShloMosaic.Lib.Claim
public import Idealize.ShloMosaic.Adequacy
public import Idealize.ShloMosaic.Init

@[expose] public section

set_option maxRecDepth 16384

noncomputable section

namespace Cert.KernelEfIdeal.Row

open Idealize.ShloMosaic Idealize.ShloMosaic.TcCoe Idealize.SL.Sem

/-- The frame of the idealized program's text, read at the machine's own floats. -/
def FrameAtBits : Prop :=
  ∀ (m : (ℓ : Loc Cert.KernelEfIdeal.nD Cert.KernelEfIdeal.τ Cert.KernelEfIdeal.sig) → Buf (Elt Bits) ℓ) (g : Dev Cert.KernelEfIdeal.nD → PrngReg), True →
    θ_run (Cert.KernelEfIdeal.defs (F := Bits)) (onTc (τ := Cert.KernelEfIdeal.τ) (Cert.KernelEfIdeal.main (F := Bits))) ⟨m, fun _ => 0, g⟩ (fun r => (∀ c : Dev Cert.KernelEfIdeal.nD,
      r.2.mem ((c.tc : Thread Cert.KernelEfIdeal.nD Cert.KernelEfIdeal.τ).loc Cert.KernelEfIdeal.main_arg0) = m ((c.tc : Thread Cert.KernelEfIdeal.nD Cert.KernelEfIdeal.τ).loc Cert.KernelEfIdeal.main_arg0)
      ∧ r.2.mem ((c.tc : Thread Cert.KernelEfIdeal.nD Cert.KernelEfIdeal.τ).loc Cert.KernelEfIdeal.main_arg1) = m ((c.tc : Thread Cert.KernelEfIdeal.nD Cert.KernelEfIdeal.τ).loc Cert.KernelEfIdeal.main_arg1)
      ∧ r.2.mem ((c.tc : Thread Cert.KernelEfIdeal.nD Cert.KernelEfIdeal.τ).loc Cert.KernelEfIdeal.main_arg2) = m ((c.tc : Thread Cert.KernelEfIdeal.nD Cert.KernelEfIdeal.τ).loc Cert.KernelEfIdeal.main_arg2)
      ∧ r.2.mem ((c.tc : Thread Cert.KernelEfIdeal.nD Cert.KernelEfIdeal.τ).loc Cert.KernelEfIdeal.main_arg3) = m ((c.tc : Thread Cert.KernelEfIdeal.nD Cert.KernelEfIdeal.τ).loc Cert.KernelEfIdeal.main_arg3))
      ∧ r.2.sem = fun _ => 0)

/-- The kernel's program has the same text as the idealized one, so its frame is that one read at the machine's floats. -/
theorem same_text : Cert.quiescent_KernelEf = FrameAtBits := by
  sl_kernel_rfl

/-- Every run of the kernel's program ends in a quiescent state. -/
theorem frame_kernel : Cert.quiescent_KernelEf :=
  same_text.mpr fun m ρ _ => Cert.KernelEfIdeal.Gen.frame (F := Bits) m ρ

/-- Every run of the idealized kernel ends in a quiescent state. -/
theorem frame_ideal : Cert.quiescent_KernelEfIdeal := fun m ρ _ => Cert.KernelEfIdeal.Gen.frame m ρ

/-- Every run of the idealized reference ends in a quiescent state. -/
theorem frame_reference : Cert.quiescent_ReferenceEfIdeal := by
  intro m g _
  refine (θ_run _ _ _).mono (fun r h => ⟨fun c => (h c).2, sem_eq_zero_of_no_sems (by decide) r.2⟩) (Cert.ReferenceEfIdeal.Value.run m g)

/-- Idealizing the kernel rewrites nothing. -/
theorem preserves : Cert.preserves_KernelEf_KernelEfIdeal := trivial

/-- The kernel's result equals the reference's. -/
theorem algebraic : Cert.algebraic_KernelEfIdeal_ReferenceEfIdeal := by
  intro m g m' g' _ hagree
  refine ⟨_, (θ_run _ _ _).mono (fun r h c => ⟨(h c).1.trans (final m c), (h c).2⟩) (Cert.KernelEfIdeal.Value.run_blocks m g),
    (θ_run _ _ _).mono (fun r h c => ?_) (Cert.ReferenceEfIdeal.Value.run m' g')⟩
  obtain ⟨h0, h1, h2, h3⟩ := hagree c
  obtain ⟨r0, rest⟩ := h c
  refine ⟨r0.trans ?_, rest⟩
  rw [h0, h1, h2, h3]
  rfl

end Cert.KernelEfIdeal.Row

end
-- ==== Proof.AfMath.lean ====
/-
  Online softmax over the extended reals: the running maximum, the running sum of exponentials and the running weighted sum of a row
  of scores taken tile by tile, and their closed forms.
-/
module

public import Idealize.ShloMosaic.Lib.Claim
public import Idealize.ShloMosaic.Lib.Pointwise

@[expose] public section

noncomputable section

namespace Cert.KernelAfIdeal.Attention

open Idealize.ShloMosaic

variable (S : ℕ → Fin 512 → EReal) (v : ℕ → Fin 512 → EReal)

/-- The largest of a tile's scores. -/
def tileMax (s : Fin 512 → EReal) : EReal := Finset.univ.sup s

/-- The running maximum after some tiles. -/
def M : ℕ → EReal
  | 0 => ⊥
  | n + 1 => max (M n) (tileMax (S n))

/-- The running weighted sum of exponentials after some tiles. -/
def P : ℕ → EReal
  | 0 => 0
  | n + 1 => P n * Ideal.exp (M S n - M S (n + 1)) + ∑ k, Ideal.exp (S n k - M S (n + 1)) * v n k

/-- The running sum of exponentials after some tiles. -/
def L : ℕ → EReal
  | 0 => 0
  | n + 1 => Ideal.exp (M S n - M S (n + 1)) * L n + ∑ k, Ideal.exp (S n k - M S (n + 1))

/-- The running maximum never falls. -/
theorem M_le (n : ℕ) : M S n ≤ M S (n + 1) := le_max_left _ _

/-- Each score of an earlier tile is at most the running maximum. -/
theorem score_le : ∀ (n t : ℕ), t < n → ∀ k, S t k ≤ M S n
  | 0, t, h, k => absurd h (Nat.not_lt_zero t)
  | n + 1, t, h, k => by
    rcases Nat.lt_succ_iff_lt_or_eq.1 h with h | rfl
    · exact (score_le n t h k).trans (M_le S n)
    · exact (Finset.le_sup (f := S t) (Finset.mem_univ k)).trans (le_max_right _ _)

/-- The running maximum is at most whatever bounds the scores. -/
theorem M_le_of (b : EReal) : ∀ n : ℕ, (∀ t < n, ∀ k, S t k ≤ b) → M S n ≤ b
  | 0, _ => bot_le
  | n + 1, h => max_le (M_le_of b n fun t ht k => h t (Nat.lt_succ_of_lt ht) k) (Finset.sup_le fun k _ => h n (Nat.lt_succ_self n) k)

/-- An exponential is not negative. -/
theorem exp_nonneg (x : EReal) : 0 ≤ Ideal.exp x := by
  induction x with
  | bot => simp
  | top => simp
  | coe r => simpa using (Real.exp_pos r).le

/-- The exponential of a score less a bound is real. -/
theorem exp_real {x b : EReal} (h : x ≤ b) : ∃ r : ℝ, 0 ≤ r ∧ Ideal.exp (x - b) = r := by
  induction b with
  | bot => exact ⟨0, le_refl _, by simp [le_bot_iff.1 h]⟩
  | top => exact ⟨0, le_refl _, by induction x <;> simp⟩
  | coe b =>
    induction x with
    | bot => exact ⟨0, le_refl _, by simp⟩
    | top => exact absurd h (by simp)
    | coe x => exact ⟨Real.exp (x - b), (Real.exp_pos _).le, by rw [← EReal.coe_sub, Ideal.exp_coe]⟩

/-- Rescaling an exponential to a larger bound. -/
theorem exp_rescale {x a b : EReal} (h : x ≤ a) (h' : a ≤ b) : Ideal.exp (a - b) * Ideal.exp (x - a) = Ideal.exp (x - b) := by
  induction b with
  | bot =>
    have ha := le_bot_iff.1 h'
    subst ha
    have hx := le_bot_iff.1 h
    subst hx
    simp
  | top =>
    have e : ∀ y : EReal, Ideal.exp (y - ⊤) = 0 := fun y => by induction y <;> simp
    rw [e, e, zero_mul]
  | coe b =>
    induction a with
    | bot =>
      have hx := le_bot_iff.1 h
      subst hx
      simp
    | top => exact absurd h' (by simp)
    | coe a =>
      induction x with
      | bot => simp
      | top => exact absurd h (by simp)
      | coe x =>
        rw [← EReal.coe_sub, ← EReal.coe_sub, ← EReal.coe_sub, Ideal.exp_coe, Ideal.exp_coe, Ideal.exp_coe, ← EReal.coe_mul, ← Real.exp_add]
        congr 2
        ring

/-- A real factor that is not negative distributes over a sum. -/
theorem mul_sum_real {ι : Type} (s : Finset ι) (f : ι → EReal) {r : ℝ} (hr : 0 ≤ r) : (r : EReal) * ∑ k ∈ s, f k = ∑ k ∈ s, (r : EReal) * f k := by
  classical
  induction s using Finset.induction_on with
  | empty => simp
  | insert a s ha ih => rw [Finset.sum_insert ha, Finset.sum_insert ha, EReal.left_distrib_of_nonneg_of_ne_top (EReal.coe_nonneg.2 hr) (EReal.coe_ne_top r), ih]

/-- A sum of reals is the sum's real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The running weighted sum in closed form. -/
theorem P_eq : ∀ n : ℕ, P S v n = ∑ t ∈ Finset.range n, ∑ k, Ideal.exp (S t k - M S n) * v t k
  | 0 => by simp [P]
  | n + 1 => by
    obtain ⟨r, hr, e⟩ := exp_real (M_le S n)
    rw [P, P_eq n, Finset.sum_range_succ, mul_comm, e, mul_sum_real _ _ hr]
    refine congrArg₂ _ (Finset.sum_congr rfl fun t ht => ?_) rfl
    rw [mul_sum_real _ _ hr]
    refine Finset.sum_congr rfl fun k _ => ?_
    rw [← mul_assoc, ← e, exp_rescale (score_le S n t (Finset.mem_range.1 ht) k) (M_le S n)]

/-- The running sum in closed form. -/
theorem L_eq : ∀ n : ℕ, L S n = ∑ t ∈ Finset.range n, ∑ k, Ideal.exp (S t k - M S n)
  | 0 => by simp [L]
  | n + 1 => by
    obtain ⟨r, hr, e⟩ := exp_real (M_le S n)
    rw [L, L_eq n, Finset.sum_range_succ, e, mul_sum_real _ _ hr]
    refine congrArg₂ _ (Finset.sum_congr rfl fun t ht => ?_) rfl
    rw [mul_sum_real _ _ hr]
    refine Finset.sum_congr rfl fun k _ => ?_
    rw [← e, exp_rescale (score_le S n t (Finset.mem_range.1 ht) k) (M_le S n)]

/-- Tiles whose scores are all minus infinity do not raise the running maximum. -/
theorem M_tail {n : ℕ} (h : ∀ t, n ≤ t → ∀ k, S t k = ⊥) : ∀ d : ℕ, M S (n + d) = M S n
  | 0 => rfl
  | d + 1 => by
    show max (M S (n + d)) (tileMax (S (n + d))) = _
    rw [M_tail h d]
    exact max_eq_left (Finset.sup_le fun k _ => by rw [h _ (Nat.le_add_right n d) k]; exact bot_le)

/-- An exponential of minus infinity is zero. -/
theorem exp_bot_sub (b : EReal) : Ideal.exp (⊥ - b) = 0 := by simp

/-- The running sum of the weights is a positive real where the maximum is a real score. -/
theorem L_real {n : ℕ} {b : ℝ} (hM : M S n = b) (hmem : ∃ t < n, ∃ k, S t k = b) : ∃ r : ℝ, 0 < r ∧ L S n = r := by
  have hex : ∀ t k, ∃ r : ℝ, 0 ≤ r ∧ (t < n → Ideal.exp (S t k - M S n) = r) := fun t k => by
    by_cases ht : t < n
    · obtain ⟨r, hr, e⟩ := exp_real (score_le S n t ht k)
      exact ⟨r, hr, fun _ => e⟩
    · exact ⟨0, le_refl _, fun h => absurd h ht⟩
  choose g hg0 hg using hex
  refine ⟨∑ t ∈ Finset.range n, ∑ k, g t k, ?_, ?_⟩
  · obtain ⟨t, ht, k, hk⟩ := hmem
    have e := hg t k ht
    rw [hk, hM, ← EReal.coe_sub, sub_self, Ideal.exp_coe, Real.exp_zero] at e
    have e1 : g t k = 1 := (EReal.coe_eq_coe_iff.1 e).symm
    refine lt_of_lt_of_le (by rw [e1]; exact one_pos : 0 < g t k) ?_
    refine (Finset.single_le_sum (f := fun k => g t k) (fun k _ => hg0 t k) (Finset.mem_univ k)).trans ?_
    exact Finset.single_le_sum (f := fun t => ∑ k, g t k) (fun t _ => Finset.sum_nonneg fun k _ => hg0 t k) (Finset.mem_range.2 ht)
  · rw [L_eq, coe_sum]
    refine Finset.sum_congr rfl fun t ht => ?_
    rw [coe_sum]
    exact Finset.sum_congr rfl fun k _ => hg t k (Finset.mem_range.1 ht)

/-- Where later tiles hold only minus infinity and the maximum is real, the quotient of the two running sums is the softmax's weighted
    sum over all tiles. -/
theorem quotient {n d : ℕ} {b : ℝ} (h : ∀ t, n ≤ t → ∀ k, S t k = ⊥) (hM : M S n = b) (hmem : ∃ t < n, ∃ k, S t k = b) :
    Ideal.div (P S v n) (L S n)
      = ∑ t ∈ Finset.range (n + d), ∑ k, Ideal.div (Ideal.exp (S t k - M S n)) (∑ t ∈ Finset.range (n + d), ∑ k, Ideal.exp (S t k - M S n)) * v t k := by
  have hsum : ∀ f : ℕ → Fin 512 → EReal, (∑ t ∈ Finset.range (n + d), ∑ k, Ideal.exp (S t k - M S n) * f t k)
      = ∑ t ∈ Finset.range n, ∑ k, Ideal.exp (S t k - M S n) * f t k := by
    intro f
    rw [Finset.sum_range_add]
    refine (congrArg₂ _ rfl ?_).trans (add_zero _)
    refine Finset.sum_eq_zero fun t _ => Finset.sum_eq_zero fun k _ => ?_
    rw [h _ (Nat.le_add_right n t) k, exp_bot_sub, zero_mul]
  have hL : (∑ t ∈ Finset.range (n + d), ∑ k, Ideal.exp (S t k - M S n)) = L S n := by
    rw [L_eq]
    simpa using hsum fun _ _ => 1
  obtain ⟨l, hl, eL⟩ := L_real S hM hmem
  have hne : (l : EReal) ≠ 0 := by
    intro e
    exact hl.ne' (by exact_mod_cast e)
  have hdiv : ∀ x : EReal, Ideal.div x (l : EReal) = ((l⁻¹ : ℝ) : EReal) * x := fun x => by
    rw [Ideal.div, if_neg hne, EReal.coe_inv, mul_comm]
  have hl' : (0 : ℝ) ≤ l⁻¹ := (inv_pos.2 hl).le
  rw [hL, eL, hdiv, P_eq, ← hsum, mul_sum_real _ _ hl']
  refine Finset.sum_congr rfl fun t _ => ?_
  rw [mul_sum_real _ _ hl']
  refine Finset.sum_congr rfl fun k _ => ?_
  rw [hdiv, mul_assoc]

/-- The running maximum plus the logarithm of the running sum is the logarithm of the sum of all exponentials. -/
theorem logsum {n d : ℕ} {b : ℝ} (h : ∀ t, n ≤ t → ∀ k, S t k = ⊥) (hM : M S n = b) (hmem : ∃ t < n, ∃ k, S t k = b) :
    M S n + Ideal.log (L S n) = Ideal.log (∑ t ∈ Finset.range (n + d), ∑ k, Ideal.exp (S t k)) := by
  have hcut : ∑ t ∈ Finset.range (n + d), ∑ k, Ideal.exp (S t k) = ∑ t ∈ Finset.range n, ∑ k, Ideal.exp (S t k) := by
    rw [Finset.sum_range_add]
    refine (congrArg₂ _ rfl ?_).trans (add_zero _)
    refine Finset.sum_eq_zero fun t _ => Finset.sum_eq_zero fun k _ => ?_
    rw [h _ (Nat.le_add_right n t) k]
    rfl
  have hone : ∀ x : EReal, x ≤ b → Ideal.exp x = ((Real.exp b : ℝ) : EReal) * Ideal.exp (x - b) := fun x hx => by
    induction x with
    | bot => simp
    | top => exact absurd hx (by simp)
    | coe x =>
      rw [← EReal.coe_sub, Ideal.exp_coe, Ideal.exp_coe, ← EReal.coe_mul, ← Real.exp_add]
      congr 2
      ring
  obtain ⟨l, hl, eL⟩ := L_real S hM hmem
  have hsum : ∑ t ∈ Finset.range n, ∑ k, Ideal.exp (S t k) = ((Real.exp b * l : ℝ) : EReal) := by
    rw [EReal.coe_mul, ← eL, L_eq, mul_sum_real _ _ (Real.exp_pos b).le]
    refine Finset.sum_congr rfl fun t ht => ?_
    rw [mul_sum_real _ _ (Real.exp_pos b).le]
    refine Finset.sum_congr rfl fun k _ => ?_
    have hle := score_le S n t (Finset.mem_range.1 ht) k
    rw [hM] at hle ⊢
    exact hone _ hle
  have hlog : ∀ x : ℝ, 0 < x → Ideal.log (x : EReal) = ((Real.log x : ℝ) : EReal) := fun x hx => if_neg (not_le.2 hx)
  rw [hcut, hsum, eL, hM, hlog _ hl, hlog _ (mul_pos (Real.exp_pos b) hl), Real.log_mul (Real.exp_pos b).ne' hl.ne', Real.log_exp, EReal.coe_add]

end Cert.KernelAfIdeal.Attention

end
-- ==== Proof.AfTile.lean ====
/-
  One tile of keys in the attention kernel's loops: how a trip's values carry the running maximum, the running sum and the running
  weighted sum of each query row from one tile to the next.
-/
module

public import proofs.«01_k».proof.Proof.Gen.KernelAfIdeal.Skeleton
public import proofs.«01_k».proof.Proof.AfMath
public import Idealize.ShloMosaic.Lib.Pointwise

@[expose] public section

set_option maxRecDepth 16384

noncomputable section

namespace Cert.KernelAfIdeal.Attention

open Idealize.ShloMosaic Idealize.ShloMosaic.TcCoe Idealize.SL.Sem Cert.KernelAfIdeal Cert.KernelAfIdeal.Gen

/-- The carried values after some tiles, for two heads' scores by query row and the values by column. -/
structure After (S0 S1 : Fin 512 → ℕ → Fin 512 → EReal) (v : Fin 128 → ℕ → Fin 512 → EReal) (n : ℕ)
    (m0 l0 m1 l1 : FVec Ideal S512x1 .f32) (a : FVec Ideal S512x128 .f32) : Prop where
  m0 : ∀ r : Fin 512, m0 (ix2 r 0) = M (S0 r) n
  l0 : ∀ r : Fin 512, l0 (ix2 r 0) = L (S0 r) n
  m1 : ∀ r : Fin 512, m1 (ix2 r 0) = M (S1 r) n
  l1 : ∀ r : Fin 512, l1 (ix2 r 0) = L (S1 r) n
  acc : ∀ (r : Fin 512) (d : Fin 128), a (ix2 r d) = if d.val < 64 then P (S0 r) (v d) n else P (S1 r) (v d) n

/-- The largest of a tile's scores as the kernel folds them. -/
theorem fold_max (f : Fin 512 → EReal) : Finset.fold max (Ideal.ofBits .f32 4286578688#32) f Finset.univ = tileMax f := by
  have e : Ideal.ofBits .f32 4286578688#32 = ⊥ := by simp [Ideal.ofBits, Ideal.ieee]
  rw [e]
  rfl

/-- The lane test of the accumulator picks the first head below lane 64. -/
theorem lane (d : Fin 128) (x y : EReal) : Scalar.select (IntOp.cmpi CmpIPredicate.slt (BitVec.ofNat 32 d.val) 64#32) x y = if d.val < 64 then x else y := by
  have h : ∀ d : Fin 128, IntOp.cmpi CmpIPredicate.slt (BitVec.ofNat 32 d.val) 64#32 = if d.val < 64 then 1#1 else 0#1 := by decide +kernel
  rw [h]
  split_ifs <;> rfl

variable {S0 S1 : Fin 512 → ℕ → Fin 512 → EReal} {v : Fin 128 → ℕ → Fin 512 → EReal} {n : ℕ}

/-- A trip over a tile without a mask. -/
theorem step_full {m0 l0 m1 l1 : FVec Ideal S512x1 .f32} {a : FVec Ideal S512x128 .f32} (h : After S0 S1 v n m0 l0 m1 l1 a)
    (Q0 Q1 : FVec Ideal S512x128 .bf16) (K : Vec Ideal S512x256 .bf16) (V0 V1 : Vec Ideal S512x128 .bf16)
    (h0 : ∀ r k : Fin 512, k0_pay2 Q0 K (ix2 r k) = S0 r n k) (h1 : ∀ r k : Fin 512, k0_pay8 Q1 K (ix2 r k) = S1 r n k)
    (hv0 : ∀ (k : Fin 512) (d : Fin 128), V0 (ix2 k d) = if d.val < 64 then v d n k else 0)
    (hv1 : ∀ (k : Fin 512) (d : Fin 128), V1 (ix2 k d) = if d.val < 64 then 0 else v d n k) :
    After S0 S1 v (n + 1) (k0_pay3 Q0 m0 K) (k0_pay6 Q0 m0 l0 K) (k0_pay9 Q1 m1 K) (k0_pay12 Q1 m1 l1 K)
      (k0_pay62 k0_pay55 a (k0_pay7 Q0 m0 K V0) (k0_pay10 Q1 m1 K) (k0_pay13 Q1 m1 K V1) (k0_pay14 Q0 m0 K)) := by
  have e0 : ∀ r : Fin 512, k0_pay3 Q0 m0 K (ix2 r 0) = M (S0 r) (n + 1) := fun r => by
    pointwise [k0_pay3]
    rw [fold_max]
    exact congrArg₂ max (h.m0 r) (congrArg tileMax (funext fun k => h0 r k))
  have e1 : ∀ r : Fin 512, k0_pay9 Q1 m1 K (ix2 r 0) = M (S1 r) (n + 1) := fun r => by
    pointwise [k0_pay9]
    rw [fold_max]
    exact congrArg₂ max (h.m1 r) (congrArg tileMax (funext fun k => h1 r k))
  refine ⟨e0, fun r => ?_, e1, fun r => ?_, fun r d => ?_⟩
  · pointwise [k0_pay6, k0_pay4, k0_pay5]
    simp only [ix2, h0, e0, h.m0, h.l0, L]
  · pointwise [k0_pay12, k0_pay10, k0_pay11]
    simp only [h1, e1, h.m1, h.l1, L]
  · pointwise [k0_pay62, k0_pay55, k0_pay7, k0_pay13, k0_pay14, k0_pay4, k0_pay5, k0_pay10, k0_pay11]
    rw [lane]
    simp only [h0, h1, e0, e1, h.m0, h.m1, h.acc, hv0, hv1]
    by_cases hd : d.val < 64 <;> simp [hd, P]

/-- The trip over the tile on the diagonal, whose later keys are masked. -/
theorem step_masked {m0 l0 m1 l1 : FVec Ideal S512x1 .f32} {a : FVec Ideal S512x128 .f32} (h : After S0 S1 v n m0 l0 m1 l1 a)
    (i : grid0.Coords) (w : IVec S512x512 32) (b b' : BitVec 32) (t : Fin (k0_t3_loop i).trips)
    (Q0 Q1 : FVec Ideal S512x128 .bf16) (K : Vec Ideal S512x256 .bf16) (V0 V1 : Vec Ideal S512x128 .bf16)
    (h0 : ∀ r k : Fin 512, k0_pay29 i Q0 w b b' t K (ix2 r k) = S0 r n k) (h1 : ∀ r k : Fin 512, k0_pay35 i Q1 w b b' t K (ix2 r k) = S1 r n k)
    (hv0 : ∀ (k : Fin 512) (d : Fin 128), V0 (ix2 k d) = if d.val < 64 then v d n k else 0)
    (hv1 : ∀ (k : Fin 512) (d : Fin 128), V1 (ix2 k d) = if d.val < 64 then 0 else v d n k) :
    After S0 S1 v (n + 1) (k0_pay30 i Q0 w b b' t m0 K) (k0_pay33 i Q0 w b b' t m0 l0 K) (k0_pay36 i Q1 w b b' t m1 K)
      (k0_pay64 (k0_pay38 i Q1 w b b' t m1 K) (k0_pay39 i Q1 w b b' t m1 l1 K))
      (k0_pay65 k0_pay55 a (k0_pay31 i Q0 w b b' t m0 K) (k0_pay34 i Q0 w b b' t m0 K V0) (k0_pay37 i Q1 w b b' t m1 K)
        (k0_pay38 i Q1 w b b' t m1 K) V1) := by
  have e0 : ∀ r : Fin 512, k0_pay30 i Q0 w b b' t m0 K (ix2 r 0) = M (S0 r) (n + 1) := fun r => by
    pointwise [k0_pay30]
    rw [fold_max]
    exact congrArg₂ max (h.m0 r) (congrArg tileMax (funext fun k => h0 r k))
  have e1 : ∀ r : Fin 512, k0_pay36 i Q1 w b b' t m1 K (ix2 r 0) = M (S1 r) (n + 1) := fun r => by
    pointwise [k0_pay36]
    rw [fold_max]
    exact congrArg₂ max (h.m1 r) (congrArg tileMax (funext fun k => h1 r k))
  refine ⟨e0, fun r => ?_, e1, fun r => ?_, fun r d => ?_⟩
  · pointwise [k0_pay33, k0_pay31, k0_pay32]
    simp only [h0, e0, h.m0, h.l0, L]
  · pointwise [k0_pay64, k0_pay39, k0_pay37, k0_pay38]
    simp only [h1, e1, h.m1, h.l1, L]
  · pointwise [k0_pay65, k0_pay55, k0_pay34, k0_pay31, k0_pay32, k0_pay37, k0_pay38]
    rw [lane]
    simp only [h0, h1, e0, e1, h.m0, h.m1, h.acc, hv0, hv1]
    by_cases hd : d.val < 64 <;> simp [hd, P]

/-- The named mask is minus infinity. -/
theorem mask_eq : (Named.named κ "mask" 0xF149F2CA#32 : Ideal .f32) = (⊥ : EReal) := rfl

/-- The values the first loop starts from. -/
theorem start : After S0 S1 v 0 k0_pay59 k0_pay60 k0_pay59 k0_pay60 k0_pay61 := by
  refine ⟨fun r => ?_, fun r => ?_, fun r => ?_, fun r => ?_, fun r d => ?_⟩
  · pointwise [k0_pay59]
    exact mask_eq
  · pointwise [k0_pay60]
    rfl
  · pointwise [k0_pay59]
    exact mask_eq
  · pointwise [k0_pay60]
    rfl
  · pointwise [k0_pay61]
    split_ifs <;> rfl

/-- What the call stores: the quotient of the two running sums. -/
theorem stored {m0 l0 m1 l1 : FVec Ideal S512x1 .f32} {a : FVec Ideal S512x128 .f32} (h : After S0 S1 v n m0 l0 m1 l1 a) (r : Fin 512) (d : Fin 128) :
    k0_pay68 k0_pay55 l0 l1 a (ix2 r d) = if d.val < 64 then Ideal.div (P (S0 r) (v d) n) (L (S0 r) n) else Ideal.div (P (S1 r) (v d) n) (L (S1 r) n) := by
  pointwise [k0_pay68, k0_pay55]
  rw [lane]
  simp only [h.l0, h.l1, h.acc]
  by_cases hd : d.val < 64 <;> simp [hd]

/-- What the call stores second: the running maximum plus the logarithm of the running sum of the weights. -/
theorem storedLse {m0 l0 m1 l1 : FVec Ideal S512x1 .f32} {a : FVec Ideal S512x128 .f32} (h : After S0 S1 v n m0 l0 m1 l1 a) (r : Fin 512) (d : Fin 128) :
    k0_pay1 k0_pay55 m0 l0 m1 l1 (ix2 r d) = if d.val < 64 then M (S0 r) n + Ideal.log (L (S0 r) n) else M (S1 r) n + Ideal.log (L (S1 r) n) := by
  pointwise [k0_pay1, k0_pay55]
  rw [lane]
  simp only [h.l0, h.l1, h.m0, h.m1]

end Cert.KernelAfIdeal.Attention

end
-- ==== Proof.AfTrip.lean ====
/-
  The attention kernel's four loops over tiles of keys: how many trips each makes, where its loads lie, what a trip computes, and the
  carried values they end with.
-/
module

public import proofs.«01_k».proof.Proof.Gen.KernelAfIdeal.Loops
public import proofs.«01_k».proof.Proof.AfTile
public import Idealize.ShloMosaic.Lib.Pointwise
public import Idealize.ShloMosaic.Lib.WholeRead

@[expose] public section

set_option maxRecDepth 16384

noncomputable section

namespace Cert.KernelAfIdeal.Attention

open Idealize.ShloMosaic Idealize.ShloMosaic.TcCoe Idealize.SL.Sem Cert.KernelAfIdeal Cert.KernelAfIdeal.Gen

/-- The first loop's trips: one for each whole tile of keys before the diagonal. -/
theorem trips1 : ∀ i : grid0.Coords, (k0_t1_loop i).trips = (i 1).val := by decide +kernel

/-- The second loop makes no trip. -/
theorem trips2 : ∀ i : grid0.Coords, (k0_t2_loop i).trips = 0 := by decide +kernel

/-- The third loop makes one trip, over the tile on the diagonal. -/
theorem trips3 : ∀ i : grid0.Coords, (k0_t3_loop i).trips = 1 := by decide +kernel

/-- The fourth loop makes no trip. -/
theorem trips4 : ∀ i : grid0.Coords, (k0_t4_loop i).trips = 0 := by decide +kernel

/-- Where a trip of the first loop loads the keys. -/
theorem off1 : ∀ (i : grid0.Coords) (k : Fin (k0_t1_loop i).trips), k0_off1 i k = ![k.val * 512, 0] := by decide +kernel

/-- Where a trip of the first loop loads the values. -/
theorem off2 : ∀ (i : grid0.Coords) (k : Fin (k0_t1_loop i).trips), k0_off2 i k = ![k.val * 512, 0] := by decide +kernel

/-- Where the third loop's trip loads the keys. -/
theorem off5 : ∀ (i : grid0.Coords) (k : Fin (k0_t3_loop i).trips), k0_off5 i k = ![(i 1).val * 512, 0] := by decide +kernel

/-- Where the third loop's trip loads the values. -/
theorem off6 : ∀ (i : grid0.Coords) (k : Fin (k0_t3_loop i).trips), k0_off6 i k = ![(i 1).val * 512, 0] := by decide +kernel

/-- What a trip of the first loop computes from its loads. -/
theorem trip1 (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (arg1 : BitVec 32) (v6 : IVec S512x128 1) (v8 : FVec Ideal S512x128 .bf16) (v10 : FVec Ideal S512x128 .bf16) (v14 : IVec S512x512 32) (v15 : FVec Ideal S512x1 .f32) (v16 : FVec Ideal S512x1 .f32) (v17 : FVec Ideal S512x128 .f32) (v37 v56 : BitVec 32) (X7 : BufTy.Contents (Elt Ideal) arg7.view.ty) (X8 : BufTy.Contents (Elt Ideal) arg8.view.ty) (X9 : BufTy.Contents (Elt Ideal) arg9.view.ty) (k : Fin (k0_t1_loop i).trips) (acc : FVec Ideal S512x1 .f32 × FVec Ideal S512x1 .f32 × FVec Ideal S512x1 .f32 × FVec Ideal S512x1 .f32 × FVec Ideal S512x128 .f32)
    (K : Vec Ideal S512x256 .bf16) (V0 V1 : Vec Ideal S512x128 .bf16)
    (hK : View.readAt (Elt Ideal) arg7.view (Rect.unit (s := S4096x256) (k0_off1 i k) S512x256.size (k0_off1_inb i k)).toLoadRect X7 = K)
    (hV0 : View.readAt (Elt Ideal) arg8.view (Rect.unit (s := S4096x128) (k0_off2 i k) S512x128.size (k0_off2_inb i k)).toLoadRect X8 = V0)
    (hV1 : View.readAt (Elt Ideal) arg9.view (Rect.unit (s := S4096x128) (k0_off2 i k) S512x128.size (k0_off2_inb i k)).toLoadRect X9 = V1) :
    tripR_k0_t1 (F := Ideal) Variants.none c none i arg2 harg2 arg3 harg3 arg4 harg4 arg5 harg5 arg6 harg6 arg7 harg7 arg8 harg8 arg9 harg9 arg1 v6 v8 v10 v14 v15 v16 v17 v37 X7 X8 X9 k acc
      = (k0_pay3 v8 acc.1 K, k0_pay6 v8 acc.1 acc.2.1 K, k0_pay9 v10 acc.2.2.1 K, k0_pay12 v10 acc.2.2.1 acc.2.2.2.1 K,
        k0_pay62 v6 acc.2.2.2.2 (k0_pay7 v8 acc.1 K V0) (k0_pay10 v10 acc.2.2.1 K) (k0_pay13 v10 acc.2.2.1 K V1) (k0_pay14 v8 acc.1 K)) := by
  subst hK hV0 hV1
  unfold tripR_k0_t1 trip_k0_t1
  rfl

/-- What the third loop's trip computes from its loads. -/
theorem trip3 (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (arg1 : BitVec 32) (v6 : IVec S512x128 1) (v8 : FVec Ideal S512x128 .bf16) (v10 : FVec Ideal S512x128 .bf16) (v14 : IVec S512x512 32) (v15 : FVec Ideal S512x1 .f32) (v16 : FVec Ideal S512x1 .f32) (v17 : FVec Ideal S512x128 .f32) (v37 v56 : BitVec 32) (X7 : BufTy.Contents (Elt Ideal) arg7.view.ty) (X8 : BufTy.Contents (Elt Ideal) arg8.view.ty) (X9 : BufTy.Contents (Elt Ideal) arg9.view.ty) (k : Fin (k0_t3_loop i).trips) (acc : FVec Ideal S512x1 .f32 × FVec Ideal S512x1 .f32 × FVec Ideal S512x1 .f32 × FVec Ideal S512x1 .f32 × FVec Ideal S512x128 .f32)
    (K : Vec Ideal S512x256 .bf16) (V0 V1 : Vec Ideal S512x128 .bf16)
    (hK : View.readAt (Elt Ideal) arg7.view (Rect.unit (s := S4096x256) (k0_off5 i k) S512x256.size (k0_off5_inb i k)).toLoadRect X7 = K)
    (hV0 : View.readAt (Elt Ideal) arg8.view (Rect.unit (s := S4096x128) (k0_off6 i k) S512x128.size (k0_off6_inb i k)).toLoadRect X8 = V0)
    (hV1 : View.readAt (Elt Ideal) arg9.view (Rect.unit (s := S4096x128) (k0_off6 i k) S512x128.size (k0_off6_inb i k)).toLoadRect X9 = V1) :
    tripR_k0_t3 (F := Ideal) Variants.none c none i arg2 harg2 arg3 harg3 arg4 harg4 arg5 harg5 arg6 harg6 arg7 harg7 arg8 harg8 arg9 harg9 arg1 v6 v8 v10 v14 v15 v16 v17 v37 v56 X7 X8 X9 k acc
      = (k0_pay30 i v8 v14 v56 1#32 k acc.1 K, k0_pay33 i v8 v14 v56 1#32 k acc.1 acc.2.1 K, k0_pay36 i v10 v14 v56 1#32 k acc.2.2.1 K,
        k0_pay64 (k0_pay38 i v10 v14 v56 1#32 k acc.2.2.1 K) (k0_pay39 i v10 v14 v56 1#32 k acc.2.2.1 acc.2.2.2.1 K),
        k0_pay65 v6 acc.2.2.2.2 (k0_pay31 i v8 v14 v56 1#32 k acc.1 K) (k0_pay34 i v8 v14 v56 1#32 k acc.1 K V0)
          (k0_pay37 i v10 v14 v56 1#32 k acc.2.2.1 K) (k0_pay38 i v10 v14 v56 1#32 k acc.2.2.1 K) V1) := by
  subst hK hV0 hV1
  unfold tripR_k0_t3 trip_k0_t3
  rfl

end Cert.KernelAfIdeal.Attention

end
-- ==== Proof.AfScore.lean ====
/-
  The scores and values of one tile as the attention kernel's loops see them: tiles of the whole arrays of keys and values.
-/
module

public import proofs.«01_k».proof.Proof.Gen.KernelAfIdeal.Skeleton
public import proofs.«01_k».proof.Proof.AfTile
public import Idealize.ShloMosaic.Lib.Pointwise
public import Idealize.ShloMosaic.Lib.WholeRead

@[expose] public section

set_option maxRecDepth 16384

noncomputable section

namespace Cert.KernelAfIdeal.Attention

open Idealize.ShloMosaic Idealize.ShloMosaic.TcCoe Idealize.SL.Sem Cert.KernelAfIdeal Cert.KernelAfIdeal.Gen

/-- The scale of the scores. -/
def scale : EReal := Ideal.ofBits .f32 0x3DD105EC#32

/-- A query row's scores by tile and key, minus infinity at later keys and past the end. -/
def scores (q : Fin 128 → EReal) (K : Fin 4096 → Fin 128 → EReal) (row : ℕ) (t : ℕ) (k : Fin 512) : EReal :=
  if h : t * 512 + k.val < 4096 then if t * 512 + k.val ≤ row then (∑ x, q x * K ⟨t * 512 + k.val, h⟩ x) * scale else ⊥ else ⊥

/-- A column of values by tile and key, zero past the end. -/
def vals (V : Fin 4096 → EReal) (t : ℕ) (k : Fin 512) : EReal := if h : t * 512 + k.val < 4096 then V ⟨t * 512 + k.val, h⟩ else 0

/-- Signed order of two small words is the order of their numbers. -/
theorem sle_small (x y : BitVec 32) (hx : x.toNat < 2 ^ 31) (hy : y.toNat < 2 ^ 31) :
    IntOp.cmpi CmpIPredicate.sle x y = if x.toNat ≤ y.toNat then 1#1 else 0#1 := by
  have ex : x.toInt = (x.toNat : ℤ) := BitVec.toInt_eq_toNat_of_lt (by omega)
  have ey : y.toInt = (y.toNat : ℤ) := BitVec.toInt_eq_toNat_of_lt (by omega)
  have e : IntOp.cmpi CmpIPredicate.sle x y = BitVec.ofBool (x.sle y) := rfl
  rw [e, BitVec.sle, ex, ey]
  by_cases h : x.toNat ≤ y.toNat
  · rw [if_pos h, decide_eq_true (by exact_mod_cast h)]
    rfl
  · rw [if_neg h, decide_eq_false (by exact_mod_cast h)]
    rfl

/-- The word of a tile's position. -/
theorem pos_toNat (a : ℕ) (ha : a < 8) (k : Fin 512) :
    (IntOp.addi (Scalar.muli (BitVec.ofNat 32 a) 512#32) (BitVec.ofNat 32 k.val)).toNat = a * 512 + k.val := by
  have hk := k.isLt
  show ((BitVec.ofNat 32 a * 512#32) + BitVec.ofNat 32 k.val).toNat = _
  simp only [BitVec.toNat_add, BitVec.toNat_mul, BitVec.toNat_ofNat]
  omega

/-- The diagonal tile's mask keeps the keys up to the query's own. -/
theorem mask_diag (a : ℕ) (ha : a < 8) (k r : Fin 512) (x y : EReal) :
    Scalar.select (IntOp.cmpi CmpIPredicate.sle (IntOp.addi (Scalar.muli (BitVec.ofNat 32 a) 512#32) (BitVec.ofNat 32 k.val))
      (IntOp.addi (Scalar.muli (BitVec.ofNat 32 a) 512#32) (BitVec.ofNat 32 r.val))) x y = if a * 512 + k.val ≤ a * 512 + r.val then x else y := by
  have hk := k.isLt
  have hr := r.isLt
  have h1 := pos_toNat a ha k
  have h2 := pos_toNat a ha r
  rw [sle_small _ _ (by omega) (by omega), h1, h2]
  split_ifs <;> rfl

/-- The first head's scores of a tile before the diagonal. -/
theorem scores_full0 (Q : FVec Ideal S512x128 .bf16) (B : Vec Ideal S512x256 .bf16) (K : Fin 4096 → Fin 128 → EReal) (t row : ℕ) (ht : t * 512 + 512 ≤ row + 1) (h8 : t < 8)
    (hB : ∀ (k : Fin 512) (x : Fin 128), B (ix2 k ⟨x.val, by omega⟩) = K ⟨t * 512 + k.val, by omega⟩ x) (r k : Fin 512) :
    k0_pay2 Q B (ix2 r k) = scores (fun x => Q (ix2 r x)) K row t k := by
  have hk := k.isLt
  pointwise [k0_pay2]
  rw [scores, dif_pos (by omega), if_pos (by omega)]
  refine congrArg₂ _ (Finset.sum_congr rfl fun x _ => ?_) rfl
  rw [← hB]

/-- The second head's scores of a tile before the diagonal. -/
theorem scores_full1 (Q : FVec Ideal S512x128 .bf16) (B : Vec Ideal S512x256 .bf16) (K : Fin 4096 → Fin 128 → EReal) (t row : ℕ) (ht : t * 512 + 512 ≤ row + 1) (h8 : t < 8)
    (hB : ∀ (k : Fin 512) (x : Fin 128), B (ix2 k ⟨128 + x.val, by omega⟩) = K ⟨t * 512 + k.val, by omega⟩ x) (r k : Fin 512) :
    k0_pay8 Q B (ix2 r k) = scores (fun x => Q (ix2 r x)) K row t k := by
  have hk := k.isLt
  pointwise [k0_pay8]
  rw [scores, dif_pos (by omega), if_pos (by omega)]
  refine congrArg₂ _ (Finset.sum_congr rfl fun x _ => ?_) rfl
  rw [← hB]

/-- The first head's scores of the tile on the diagonal. -/
theorem scores_diag0 (i : grid0.Coords) (w : BitVec 32) (t : Fin (k0_t3_loop i).trips) (hw : Scf.iv w 1#32 t.val = BitVec.ofNat 32 (i 1).val) (h8 : (i 1).val < 8)
    (Q : FVec Ideal S512x128 .bf16) (B : Vec Ideal S512x256 .bf16) (K : Fin 4096 → Fin 128 → EReal)
    (hB : ∀ (k : Fin 512) (x : Fin 128), B (ix2 k ⟨x.val, by omega⟩) = K ⟨(i 1).val * 512 + k.val, by omega⟩ x) (r k : Fin 512) :
    k0_pay29 i Q (k0_pay58 i) w 1#32 t B (ix2 r k) = scores (fun x => Q (ix2 r x)) K ((i 1).val * 512 + r.val) (i 1).val k := by
  have hk := k.isLt
  pointwise [k0_pay29, k0_pay28, k0_pay58]
  rw [hw, mask_diag _ h8, scores, dif_pos (by omega)]
  refine if_congr Iff.rfl (congrArg₂ _ (Finset.sum_congr rfl fun x _ => ?_) rfl) rfl
  rw [← hB]

/-- The second head's scores of the tile on the diagonal. -/
theorem scores_diag1 (i : grid0.Coords) (w : BitVec 32) (t : Fin (k0_t3_loop i).trips) (hw : Scf.iv w 1#32 t.val = BitVec.ofNat 32 (i 1).val) (h8 : (i 1).val < 8)
    (Q : FVec Ideal S512x128 .bf16) (B : Vec Ideal S512x256 .bf16) (K : Fin 4096 → Fin 128 → EReal)
    (hB : ∀ (k : Fin 512) (x : Fin 128), B (ix2 k ⟨128 + x.val, by omega⟩) = K ⟨(i 1).val * 512 + k.val, by omega⟩ x) (r k : Fin 512) :
    k0_pay35 i Q (k0_pay58 i) w 1#32 t B (ix2 r k) = scores (fun x => Q (ix2 r x)) K ((i 1).val * 512 + r.val) (i 1).val k := by
  have hk := k.isLt
  pointwise [k0_pay35, k0_pay28, k0_pay58]
  rw [hw, mask_diag _ h8, scores, dif_pos (by omega)]
  refine if_congr Iff.rfl (congrArg₂ _ (Finset.sum_congr rfl fun x _ => ?_) rfl) rfl
  rw [← hB]

end Cert.KernelAfIdeal.Attention

end
-- ==== Proof.AfLoop.lean ====
/-
  The carried values at the end of the attention kernel's four loops: each query row's running maximum and sums over the tiles up to
  its own.
-/
module

public import proofs.«01_k».proof.Proof.Gen.KernelAfIdeal.Loops
public import proofs.«01_k».proof.Proof.AfTrip
public import proofs.«01_k».proof.Proof.AfScore
public import Idealize.ShloMosaic.Lib.Pointwise
public import Idealize.ShloMosaic.Lib.WholeRead

@[expose] public section

set_option maxRecDepth 16384

noncomputable section

namespace Cert.KernelAfIdeal.Attention

open Idealize.ShloMosaic Idealize.ShloMosaic.TcCoe Idealize.SL.Sem Cert.KernelAfIdeal Cert.KernelAfIdeal.Gen

/-- The grid's second coordinate is below eight. -/
theorem coord_lt : ∀ i : grid0.Coords, (i 1).val < 8 := by decide +kernel

/-- The scores of a query tile's rows against one head's keys. -/
def headScores (i : grid0.Coords) (Q : FVec Ideal S512x128 .bf16) (K : Fin 4096 → Fin 128 → EReal) (r : Fin 512) : ℕ → Fin 512 → EReal :=
  scores (fun x => Q (ix2 r x)) K ((i 1).val * 512 + r.val)

/-- The first head's keys. -/
def keys0 (xs0 : Vec Ideal S4096x256 .bf16) (k : Fin 4096) (x : Fin 128) : EReal := xs0 (ix2 k ⟨x.val, by omega⟩)

/-- The second head's keys. -/
def keys1 (xs0 : Vec Ideal S4096x256 .bf16) (k : Fin 4096) (x : Fin 128) : EReal := xs0 (ix2 k ⟨128 + x.val, by omega⟩)

/-- A loop's carried values after some tiles. -/
def Carried (i : grid0.Coords) (Q0 Q1 : FVec Ideal S512x128 .bf16) (xs0 : Vec Ideal S4096x256 .bf16) (V : Fin 128 → Fin 4096 → EReal) (n : ℕ) (acc : FVec Ideal S512x1 .f32 × FVec Ideal S512x1 .f32 × FVec Ideal S512x1 .f32 × FVec Ideal S512x1 .f32 × FVec Ideal S512x128 .f32) : Prop :=
  After (headScores i Q0 (keys0 xs0)) (headScores i Q1 (keys1 xs0)) (fun d => vals (V d)) n acc.1 acc.2.1 acc.2.2.1 acc.2.2.2.1 acc.2.2.2.2

/-- A load of a tile of the keys. -/
theorem load_keys (arg7 : Memref sig .tc .vmem S4096x256 .bf16) (harg7 : arg7.IsWhole) (xs0 : Vec Ideal S4096x256 .bf16) (off : Fin 2 → ℕ) (t : ℕ) (hoff : off = ![t * 512, 0])
    (inb : ∀ a, off a + S512x256.size a ≤ S4096x256.size a) (k : Fin 512) (e : Fin 256) (h : t * 512 + k.val < 4096) :
    View.readAt (Elt Ideal) arg7.view (Rect.unit (s := S4096x256) off S512x256.size inb).toLoadRect (harg7.unread xs0) (ix2 k e) = xs0 (ix2 ⟨t * 512 + k.val, h⟩ e) := by
  subst hoff
  rw [harg7.readAt_unread]
  refine congrArg xs0 (funext fun a => Fin.ext ?_)
  match a with
  | ⟨0, _⟩ => exact congrArg (t * 512 + ·) (Nat.one_mul _)
  | ⟨1, _⟩ => exact (Nat.zero_add _).trans (Nat.one_mul _)

/-- A load of a tile of the values. -/
theorem load_vals (arg8 : Memref sig .tc .vmem S4096x128 .bf16) (harg8 : arg8.IsWhole) (xs1 : Vec Ideal S4096x128 .bf16) (off : Fin 2 → ℕ) (t : ℕ) (hoff : off = ![t * 512, 0])
    (inb : ∀ a, off a + S512x128.size a ≤ S4096x128.size a) (k : Fin 512) (e : Fin 128) (h : t * 512 + k.val < 4096) :
    View.readAt (Elt Ideal) arg8.view (Rect.unit (s := S4096x128) off S512x128.size inb).toLoadRect (harg8.unread xs1) (ix2 k e) = xs1 (ix2 ⟨t * 512 + k.val, h⟩ e) := by
  subst hoff
  rw [harg8.readAt_unread]
  refine congrArg xs1 (funext fun a => Fin.ext ?_)
  match a with
  | ⟨0, _⟩ => exact congrArg (t * 512 + ·) (Nat.one_mul _)
  | ⟨1, _⟩ => exact (Nat.zero_add _).trans (Nat.one_mul _)

/-- The carried values after each trip of the first loop. -/
theorem loop1 (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (arg1 : BitVec 32) (v8 : FVec Ideal S512x128 .bf16) (v10 : FVec Ideal S512x128 .bf16) (v15 : FVec Ideal S512x1 .f32) (v16 : FVec Ideal S512x1 .f32) (v17 : FVec Ideal S512x128 .f32) (v37 v56 : BitVec 32) (xs0 : Vec Ideal S4096x256 .bf16) (xs1 xs2 : Vec Ideal S4096x128 .bf16) (V : Fin 128 → Fin 4096 → EReal)
    (h1 : ∀ (k : Fin 4096) (d : Fin 128), xs1 (ix2 k d) = if d.val < 64 then V d k else 0) (h2 : ∀ (k : Fin 4096) (d : Fin 128), xs2 (ix2 k d) = if d.val < 64 then 0 else V d k)
    (init : FVec Ideal S512x1 .f32 × FVec Ideal S512x1 .f32 × FVec Ideal S512x1 .f32 × FVec Ideal S512x1 .f32 × FVec Ideal S512x128 .f32) (h0 : Carried i v8 v10 xs0 V 0 init) : ∀ n : ℕ, n ≤ (i 1).val →
    Carried i v8 v10 xs0 V n (st_k0_t1 (F := Ideal) Variants.none c none i arg2 harg2 arg3 harg3 arg4 harg4 arg5 harg5 arg6 harg6 arg7 harg7 arg8 harg8 arg9 harg9 arg1 k0_pay55 v8 v10 (k0_pay58 i) v15 v16 v17 v37 (harg7.unread xs0) (harg8.unread xs1) (harg9.unread xs2) init n)
  | 0, _ => by
    rw [st_k0_t1_zero]
    exact h0
  | n + 1, hn => by
    have hc := coord_lt i
    have ih := loop1 c i arg2 harg2 arg3 harg3 arg4 harg4 arg5 harg5 arg6 harg6 arg7 harg7 arg8 harg8 arg9 harg9 arg1 v8 v10 v15 v16 v17 v37 v56 xs0 xs1 xs2 V h1 h2 init h0 n (by omega)
    have hlt : n < (k0_t1_loop i).trips := by rw [trips1]; omega
    have e := st_k0_t1_succ (F := Ideal) Variants.none c none i arg2 harg2 arg3 harg3 arg4 harg4 arg5 harg5 arg6 harg6 arg7 harg7 arg8 harg8 arg9 harg9 arg1 k0_pay55 v8 v10 (k0_pay58 i) v15 v16 v17 v37 (harg7.unread xs0) (harg8.unread xs1) (harg9.unread xs2) init ⟨n, hlt⟩
    rw [trip1 c i arg2 harg2 arg3 harg3 arg4 harg4 arg5 harg5 arg6 harg6 arg7 harg7 arg8 harg8 arg9 harg9 arg1 k0_pay55 v8 v10 (k0_pay58 i) v15 v16 v17 v37 v56 _ _ _ ⟨n, hlt⟩ _ _ _ _ rfl rfl rfl] at e
    show Carried i v8 v10 xs0 V (n + 1) _
    rw [e]
    refine step_full ih v8 v10 _ _ _ (fun r k => ?_) (fun r k => ?_) (fun k d => ?_) (fun k d => ?_)
    · exact scores_full0 v8 _ _ n _ (by omega) (by omega) (fun k x => load_keys arg7 harg7 xs0 _ n (off1 i ⟨n, hlt⟩) _ k _ _) r k
    · exact scores_full1 v10 _ _ n _ (by omega) (by omega) (fun k x => load_keys arg7 harg7 xs0 _ n (off1 i ⟨n, hlt⟩) _ k _ _) r k
    · rw [load_vals arg8 harg8 xs1 _ n (off2 i ⟨n, hlt⟩) _ k d (by omega), h1, vals, dif_pos (by omega)]
    · rw [load_vals arg9 harg9 xs2 _ n (off2 i ⟨n, hlt⟩) _ k d (by omega), h2, vals, dif_pos (by omega)]

/-- The carried values after the third loop's trip. -/
theorem loop3 (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (arg1 : BitVec 32) (v8 : FVec Ideal S512x128 .bf16) (v10 : FVec Ideal S512x128 .bf16) (v15 : FVec Ideal S512x1 .f32) (v16 : FVec Ideal S512x1 .f32) (v17 : FVec Ideal S512x128 .f32) (v37 v56 : BitVec 32) (xs0 : Vec Ideal S4096x256 .bf16) (xs1 xs2 : Vec Ideal S4096x128 .bf16) (V : Fin 128 → Fin 4096 → EReal)
    (h1 : ∀ (k : Fin 4096) (d : Fin 128), xs1 (ix2 k d) = if d.val < 64 then V d k else 0) (h2 : ∀ (k : Fin 4096) (d : Fin 128), xs2 (ix2 k d) = if d.val < 64 then 0 else V d k)
    (hv : v56 = BitVec.ofNat 32 (i 1).val) (init : FVec Ideal S512x1 .f32 × FVec Ideal S512x1 .f32 × FVec Ideal S512x1 .f32 × FVec Ideal S512x1 .f32 × FVec Ideal S512x128 .f32) (h0 : Carried i v8 v10 xs0 V (i 1).val init) :
    Carried i v8 v10 xs0 V ((i 1).val + 1) (st_k0_t3 (F := Ideal) Variants.none c none i arg2 harg2 arg3 harg3 arg4 harg4 arg5 harg5 arg6 harg6 arg7 harg7 arg8 harg8 arg9 harg9 arg1 k0_pay55 v8 v10 (k0_pay58 i) v15 v16 v17 v37 v56 (harg7.unread xs0) (harg8.unread xs1) (harg9.unread xs2) init (k0_t3_loop i).trips) := by
  have hc := coord_lt i
  have hlt : 0 < (k0_t3_loop i).trips := by rw [trips3]; omega
  have e := st_k0_t3_succ (F := Ideal) Variants.none c none i arg2 harg2 arg3 harg3 arg4 harg4 arg5 harg5 arg6 harg6 arg7 harg7 arg8 harg8 arg9 harg9 arg1 k0_pay55 v8 v10 (k0_pay58 i) v15 v16 v17 v37 v56 (harg7.unread xs0) (harg8.unread xs1) (harg9.unread xs2) init ⟨0, hlt⟩
  rw [trip3 c i arg2 harg2 arg3 harg3 arg4 harg4 arg5 harg5 arg6 harg6 arg7 harg7 arg8 harg8 arg9 harg9 arg1 k0_pay55 v8 v10 (k0_pay58 i) v15 v16 v17 v37 v56 _ _ _ ⟨0, hlt⟩ _ _ _ _ rfl rfl rfl] at e
  have e1 : (k0_t3_loop i).trips = 0 + 1 := trips3 i
  rw [e1]
  refine Eq.mpr (congrArg _ e) ?_
  rw [st_k0_t3_zero]
  have hw : Scf.iv v56 1#32 0 = BitVec.ofNat 32 (i 1).val := by
    rw [hv]
    simp [Scf.iv]
  refine step_masked h0 i (k0_pay58 i) v56 1#32 ⟨0, hlt⟩ v8 v10 _ _ _ (fun r k => ?_) (fun r k => ?_) (fun k d => ?_) (fun k d => ?_)
  · exact scores_diag0 i v56 ⟨0, hlt⟩ hw hc v8 _ _ (fun k x => load_keys arg7 harg7 xs0 _ (i 1).val (off5 i ⟨0, hlt⟩) _ k _ _) r k
  · exact scores_diag1 i v56 ⟨0, hlt⟩ hw hc v10 _ _ (fun k x => load_keys arg7 harg7 xs0 _ (i 1).val (off5 i ⟨0, hlt⟩) _ k _ _) r k
  · rw [load_vals arg8 harg8 xs1 _ (i 1).val (off6 i ⟨0, hlt⟩) _ k d (by omega), h1, vals, dif_pos (by omega)]
  · rw [load_vals arg9 harg9 xs2 _ (i 1).val (off6 i ⟨0, hlt⟩) _ k d (by omega), h2, vals, dif_pos (by omega)]

/-- The quotient a query tile ends with, from the two sums over the tiles up to its own. -/
def rowOut (i : grid0.Coords) (Q0 Q1 : FVec Ideal S512x128 .bf16) (xs0 : Vec Ideal S4096x256 .bf16) (V : Fin 128 → Fin 4096 → EReal) (r : Fin 512) (d : Fin 128) : EReal :=
  if d.val < 64 then Ideal.div (P (headScores i Q0 (keys0 xs0) r) (vals (V d)) ((i 1).val + 1)) (L (headScores i Q0 (keys0 xs0) r) ((i 1).val + 1))
  else Ideal.div (P (headScores i Q1 (keys1 xs0) r) (vals (V d)) ((i 1).val + 1)) (L (headScores i Q1 (keys1 xs0) r) ((i 1).val + 1))

/-- A row's log-sum-exp as the kernel computes it. -/
def rowLse (i : grid0.Coords) (Q0 Q1 : FVec Ideal S512x128 .bf16) (xs0 : Vec Ideal S4096x256 .bf16) (r : Fin 512) (d : Fin 128) : EReal :=
  if d.val < 64 then M (headScores i Q0 (keys0 xs0) r) ((i 1).val + 1) + Ideal.log (L (headScores i Q0 (keys0 xs0) r) ((i 1).val + 1))
  else M (headScores i Q1 (keys1 xs0) r) ((i 1).val + 1) + Ideal.log (L (headScores i Q1 (keys1 xs0) r) ((i 1).val + 1))

/-- What the four loops in a row compute. -/
theorem chain (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (arg1 : BitVec 32) (v8 : FVec Ideal S512x128 .bf16) (v10 : FVec Ideal S512x128 .bf16) (v37 v56 : BitVec 32) (v57 v69 : BitVec 32) (xs0 : Vec Ideal S4096x256 .bf16) (xs1 xs2 : Vec Ideal S4096x128 .bf16) (V : Fin 128 → Fin 4096 → EReal)
    (h1 : ∀ (k : Fin 4096) (d : Fin 128), xs1 (ix2 k d) = if d.val < 64 then V d k else 0) (h2 : ∀ (k : Fin 4096) (d : Fin 128), xs2 (ix2 k d) = if d.val < 64 then 0 else V d k)
    (X7 : BufTy.Contents (Elt Ideal) arg7.view.ty) (X8 : BufTy.Contents (Elt Ideal) arg8.view.ty) (X9 : BufTy.Contents (Elt Ideal) arg9.view.ty)
    (h7 : arg7.view.read (Elt Ideal) X7 = xs0) (h8 : arg8.view.read (Elt Ideal) X8 = xs1) (h9 : arg9.view.read (Elt Ideal) X9 = xs2) (hv : v56 = BitVec.ofNat 32 (i 1).val)
    (s1 s2 s3 s4 : FVec Ideal S512x1 .f32 × FVec Ideal S512x1 .f32 × FVec Ideal S512x1 .f32 × FVec Ideal S512x1 .f32 × FVec Ideal S512x128 .f32) (e1 : st_k0_t1 (F := Ideal) Variants.none c none i arg2 harg2 arg3 harg3 arg4 harg4 arg5 harg5 arg6 harg6 arg7 harg7 arg8 harg8 arg9 harg9 arg1 k0_pay55 v8 v10 (k0_pay58 i) k0_pay59 k0_pay60 k0_pay61 v37 X7 X8 X9 (k0_pay59, k0_pay60, k0_pay59, k0_pay60, k0_pay61) (k0_t1_loop i).trips = s1)
    (e2 : st_k0_t2 (F := Ideal) Variants.none c none i arg2 harg2 arg3 harg3 arg4 harg4 arg5 harg5 arg6 harg6 arg7 harg7 arg8 harg8 arg9 harg9 arg1 k0_pay55 v8 v10 (k0_pay58 i) k0_pay59 k0_pay60 k0_pay61 v37 v57 X7 X8 X9 (s1.1, s1.2.1, s1.2.2.1, s1.2.2.2.1, s1.2.2.2.2) (k0_t2_loop i).trips = s2)
    (e3 : st_k0_t3 (F := Ideal) Variants.none c none i arg2 harg2 arg3 harg3 arg4 harg4 arg5 harg5 arg6 harg6 arg7 harg7 arg8 harg8 arg9 harg9 arg1 k0_pay55 v8 v10 (k0_pay58 i) k0_pay59 k0_pay60 k0_pay61 v37 v56 X7 X8 X9 (s2.1, s2.2.1, s2.2.2.1, s2.2.2.2.1, s2.2.2.2.2) (k0_t3_loop i).trips = s3)
    (e4 : st_k0_t4 (F := Ideal) Variants.none c none i arg2 harg2 arg3 harg3 arg4 harg4 arg5 harg5 arg6 harg6 arg7 harg7 arg8 harg8 arg9 harg9 arg1 k0_pay55 v8 v10 (k0_pay58 i) k0_pay59 k0_pay60 k0_pay61 v37 v69 X7 X8 X9 (s3.1, s3.2.1, s3.2.2.1, s3.2.2.2.1, s3.2.2.2.2) (k0_t4_loop i).trips = s4) :
    Carried i v8 v10 xs0 V ((i 1).val + 1) s4 := by
  obtain rfl := harg7.eq_unread h7
  obtain rfl := harg8.eq_unread h8
  obtain rfl := harg9.eq_unread h9
  have c1 : Carried i v8 v10 xs0 V (i 1).val s1 := by
    rw [← e1]
    refine Eq.mpr (congrArg _ (congrArg _ (trips1 i))) ?_
    exact loop1 c i arg2 harg2 arg3 harg3 arg4 harg4 arg5 harg5 arg6 harg6 arg7 harg7 arg8 harg8 arg9 harg9 arg1 v8 v10 k0_pay59 k0_pay60 k0_pay61 v37 v56 xs0 xs1 xs2 V h1 h2 (k0_pay59, k0_pay60, k0_pay59, k0_pay60, k0_pay61) start (i 1).val (le_refl _)
  have c2 : Carried i v8 v10 xs0 V (i 1).val s2 := by
    rw [← e2, trips2, st_k0_t2_zero]
    exact c1
  have c3 : Carried i v8 v10 xs0 V ((i 1).val + 1) s3 := by
    rw [← e3]
    exact loop3 c i arg2 harg2 arg3 harg3 arg4 harg4 arg5 harg5 arg6 harg6 arg7 harg7 arg8 harg8 arg9 harg9 arg1 v8 v10 k0_pay59 k0_pay60 k0_pay61 v37 v56 xs0 xs1 xs2 V h1 h2 hv _ c2
  have c4 : Carried i v8 v10 xs0 V ((i 1).val + 1) s4 := by
    rw [← e4, trips4, st_k0_t4_zero]
    exact c3
  exact c4

end Cert.KernelAfIdeal.Attention

end
-- ==== Proof.AfCase.lean ====
/-
  What the attention kernel's body leaves at a grid point, in its two cases: where it fills the scratch from its blocks, and where it
  finds the scratch the point before left.
-/
module

public import proofs.«01_k».proof.Proof.Gen.KernelAfIdeal.Frame
public import proofs.«01_k».proof.Proof.AfLoop
public import Idealize.ShloMosaic.Lib.Pointwise
public import Idealize.ShloMosaic.Lib.Pipeline.ValueKit

@[expose] public section

set_option maxRecDepth 16384

noncomputable section

namespace Cert.KernelAfIdeal.Attention

open Idealize.ShloMosaic Idealize.ShloMosaic.TcCoe Idealize.SL.Sem Cert.KernelAfIdeal Cert.KernelAfIdeal.Gen

/-- The word of the tile on the diagonal. -/
theorem diag_word : ∀ i : grid0.Coords, (k0_t3_loop i).lb = BitVec.ofNat 32 (i 1).val := by decide +kernel

/-- The offsets of a whole block's store. -/
theorem zero_off : ∀ a : Fin S512x128.rank, (![0, 0] : Fin 2 → ℕ) a = 0 := by decide

/-- The first head's queries as the body reads them. -/
theorem queries0B (c : Dev nD) (arg2 : Memref sig .tc .vmem S512x256 .f32) (harg2 : arg2.IsWhole) (x0 : Vec Ideal S512x256 .f32) :
    kernelRun0_B.sl.r (F := Ideal) c arg2 harg2 x0 = k0_pay56 x0 := by
  unfold kernelRun0_B.sl.r
  simp (disch := decide) only [View.readAt_eq_ld, Memref.IsWhole.read_unread, View.ld_unit_lit']

/-- The second head's queries as the body reads them. -/
theorem queries1B (c : Dev nD) (arg2 : Memref sig .tc .vmem S512x256 .f32) (harg2 : arg2.IsWhole) (x0 : Vec Ideal S512x256 .f32) :
    kernelRun0_B.sl.r_1 (F := Ideal) c arg2 harg2 x0 = k0_pay57 x0 := by
  unfold kernelRun0_B.sl.r_1
  simp (disch := decide) only [View.readAt_eq_ld, Memref.IsWhole.read_unread, View.ld_unit_lit']

/-- A block written where the body finds the scratch filled. -/
theorem caseB (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (hc0 : ¬cond0_0 i)
    (x0 : Vec Ideal S512x256 .f32) (x1 : Vec Ideal S4096x256 .f32) (x2 : Vec Ideal S4096x128 .f32) (xs0 : Vec Ideal S4096x256 .bf16) (xs1 : Vec Ideal S4096x128 .bf16) (xs2 : Vec Ideal S4096x128 .bf16) (V : Fin 128 → Fin 4096 → EReal)
    (h1 : ∀ (k : Fin 4096) (d : Fin 128), xs1 (ix2 k d) = if d.val < 64 then V d k else 0) (h2 : ∀ (k : Fin 4096) (d : Fin 128), xs2 (ix2 k d) = if d.val < 64 then 0 else V d k)
    (r : Fin 512) (d : Fin 128) : out0_B_3 (F := Ideal) c i arg2 harg2 arg3 harg3 arg4 harg4 arg5 harg5 arg6 harg6 arg7 harg7 arg8 harg8 arg9 harg9 hc0 x0 x1 x2 xs0 xs1 xs2 (ix2 r d) = rowOut i (k0_pay56 x0) (k0_pay57 x0) xs0 V r d := by
  unfold out0_B_3 kernelRun0_B
  dsimp only
  rw [View.read_writes_junk_eq_canon, View.canon_cons_unit_lit' (h := zero_off)]
  unfold kernelRun0_B.sl.r_6
  rw [queries0B, queries1B]
  generalize e1 : st_k0_t1 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (harg7.unread xs0) (harg8.unread xs1) (harg9.unread xs2) (k0_pay59, k0_pay60, k0_pay59, k0_pay60, k0_pay61) (Scf.trips (k0_t1_loop i).lb (k0_t1_loop i).ub (k0_t1_loop i).st) = s1
  generalize e2 : st_k0_t2 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (kernelRun0_B.sl.v61 i) (harg7.unread xs0) (harg8.unread xs1) (harg9.unread xs2) (s1.1, s1.2.1, s1.2.2.1, s1.2.2.2.1, s1.2.2.2.2) (Scf.trips (k0_t2_loop i).lb (k0_t2_loop i).ub (k0_t2_loop i).st) = s2
  generalize e3 : st_k0_t3 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (kernelRun0_B.sl.v56 i) (harg7.unread xs0) (harg8.unread xs1) (harg9.unread xs2) (s2.1, s2.2.1, s2.2.2.1, s2.2.2.2.1, s2.2.2.2.2) (Scf.trips (k0_t3_loop i).lb (k0_t3_loop i).ub (k0_t3_loop i).st) = s3
  generalize e4 : st_k0_t4 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (kernelRun0_B.sl.v69 i) (harg7.unread xs0) (harg8.unread xs1) (harg9.unread xs2) (s3.1, s3.2.1, s3.2.2.1, s3.2.2.2.1, s3.2.2.2.2) (Scf.trips (k0_t4_loop i).lb (k0_t4_loop i).ub (k0_t4_loop i).st) = s4
  refine stored (chain c i arg2 harg2 arg3 harg3 arg4 harg4 arg5 harg5 arg6 harg6 arg7 harg7 arg8 harg8 arg9 harg9 (BitVec.ofNat 32 (i 1).val) (k0_pay56 x0) (k0_pay57 x0)
    (kernelRun0_B.sl.v37 i) (kernelRun0_B.sl.v56 i) (kernelRun0_B.sl.v61 i) (kernelRun0_B.sl.v69 i) xs0 xs1 xs2 V h1 h2
    (harg7.unread xs0) (harg8.unread xs1) (harg9.unread xs2) (harg7.read_unread _) (harg8.read_unread _) (harg9.read_unread _) (diag_word i) s1 s2 s3 s4 e1 e2 e3 e4) r d

/-- The first head's queries as the body reads them. -/
theorem queries0A (c : Dev nD) (arg2 : Memref sig .tc .vmem S512x256 .f32) (harg2 : arg2.IsWhole) (x0 : Vec Ideal S512x256 .f32) :
    kernelRun0_A.sl.r (F := Ideal) c arg2 harg2 x0 = k0_pay56 x0 := by
  unfold kernelRun0_A.sl.r
  simp (disch := decide) only [View.readAt_eq_ld, Memref.IsWhole.read_unread, View.ld_unit_lit']

/-- The second head's queries as the body reads them. -/
theorem queries1A (c : Dev nD) (arg2 : Memref sig .tc .vmem S512x256 .f32) (harg2 : arg2.IsWhole) (x0 : Vec Ideal S512x256 .f32) :
    kernelRun0_A.sl.r_1 (F := Ideal) c arg2 harg2 x0 = k0_pay57 x0 := by
  unfold kernelRun0_A.sl.r_1
  simp (disch := decide) only [View.readAt_eq_ld, Memref.IsWhole.read_unread, View.ld_unit_lit']

/-- What the body leaves in the first scratch where it fills it. -/
theorem scratch0A (c : Dev nD) (arg3 : Memref sig .tc .vmem S4096x256 .f32) (harg3 : arg3.IsWhole) (arg7 : Memref sig .tc .vmem S4096x256 .bf16) (x1 : Vec Ideal S4096x256 .f32) :
    arg7.view.read (Elt Ideal) (arg7.view.writes (Elt Ideal) arg7.view.junk (kernelRun0_A.sl.HS0_1 (F := Ideal) c arg3 harg3 x1)) = k0_pay52 x1 := by
  unfold kernelRun0_A.sl.HS0_1
  simp (disch := decide) only [View.read_writes_junk_eq_canon, View.canon_cons_unit_lit', View.readAt_eq_ld, Memref.IsWhole.read_unread, View.ld_unit_lit']

/-- What the body leaves in the second scratch where it fills it. -/
theorem scratch1A (c : Dev nD) (arg4 : Memref sig .tc .vmem S4096x128 .f32) (harg4 : arg4.IsWhole) (arg8 : Memref sig .tc .vmem S4096x128 .bf16) (x2 : Vec Ideal S4096x128 .f32) :
    arg8.view.read (Elt Ideal) (arg8.view.writes (Elt Ideal) arg8.view.junk (kernelRun0_A.sl.HS1_1 (F := Ideal) c arg4 harg4 x2)) = k0_pay53 x2 := by
  unfold kernelRun0_A.sl.HS1_1
  simp (disch := decide) only [View.read_writes_junk_eq_canon, View.canon_cons_unit_lit', View.readAt_eq_ld, Memref.IsWhole.read_unread, View.ld_unit_lit']

/-- What the body leaves in the third scratch where it fills it. -/
theorem scratch2A (c : Dev nD) (arg4 : Memref sig .tc .vmem S4096x128 .f32) (harg4 : arg4.IsWhole) (arg9 : Memref sig .tc .vmem S4096x128 .bf16) (x2 : Vec Ideal S4096x128 .f32) :
    arg9.view.read (Elt Ideal) (arg9.view.writes (Elt Ideal) arg9.view.junk (kernelRun0_A.sl.HS2_1 (F := Ideal) c arg4 harg4 x2)) = k0_pay54 x2 := by
  unfold kernelRun0_A.sl.HS2_1
  simp (disch := decide) only [View.read_writes_junk_eq_canon, View.canon_cons_unit_lit', View.readAt_eq_ld, Memref.IsWhole.read_unread, View.ld_unit_lit']

/-- A block written where the body fills the scratch. -/
theorem caseA (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (hc0 : cond0_0 i)
    (x0 : Vec Ideal S512x256 .f32) (x1 : Vec Ideal S4096x256 .f32) (x2 : Vec Ideal S4096x128 .f32) (V : Fin 128 → Fin 4096 → EReal)
    (h1 : ∀ (k : Fin 4096) (d : Fin 128), k0_pay53 x2 (ix2 k d) = if d.val < 64 then V d k else 0) (h2 : ∀ (k : Fin 4096) (d : Fin 128), k0_pay54 x2 (ix2 k d) = if d.val < 64 then 0 else V d k)
    (r : Fin 512) (d : Fin 128) : out0_A_3 (F := Ideal) c i arg2 harg2 arg3 harg3 arg4 harg4 arg5 harg5 arg6 harg6 arg7 harg7 arg8 harg8 arg9 harg9 hc0 x0 x1 x2 (ix2 r d) = rowOut i (k0_pay56 x0) (k0_pay57 x0) (k0_pay52 x1) V r d := by
  unfold out0_A_3 kernelRun0_A
  dsimp only
  rw [View.read_writes_junk_eq_canon, View.canon_cons_unit_lit' (h := zero_off)]
  unfold kernelRun0_A.sl.r_6
  rw [queries0A, queries1A]
  generalize e1 : st_k0_t1 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (k0_pay59, k0_pay60, k0_pay59, k0_pay60, k0_pay61) (Scf.trips (k0_t1_loop i).lb (k0_t1_loop i).ub (k0_t1_loop i).st) = s1
  generalize e2 : st_k0_t2 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (kernelRun0_A.sl.v61 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (s1.1, s1.2.1, s1.2.2.1, s1.2.2.2.1, s1.2.2.2.2) (Scf.trips (k0_t2_loop i).lb (k0_t2_loop i).ub (k0_t2_loop i).st) = s2
  generalize e3 : st_k0_t3 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (kernelRun0_A.sl.v56 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (s2.1, s2.2.1, s2.2.2.1, s2.2.2.2.1, s2.2.2.2.2) (Scf.trips (k0_t3_loop i).lb (k0_t3_loop i).ub (k0_t3_loop i).st) = s3
  generalize e4 : st_k0_t4 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (kernelRun0_A.sl.v69 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (s3.1, s3.2.1, s3.2.2.1, s3.2.2.2.1, s3.2.2.2.2) (Scf.trips (k0_t4_loop i).lb (k0_t4_loop i).ub (k0_t4_loop i).st) = s4
  refine stored (chain c i arg2 harg2 arg3 harg3 arg4 harg4 arg5 harg5 arg6 harg6 arg7 harg7 arg8 harg8 arg9 harg9 (BitVec.ofNat 32 (i 1).val) (k0_pay56 x0) (k0_pay57 x0)
    (kernelRun0_A.sl.v37 i) (kernelRun0_A.sl.v56 i) (kernelRun0_A.sl.v61 i) (kernelRun0_A.sl.v69 i) (k0_pay52 x1) (k0_pay53 x2) (k0_pay54 x2) V h1 h2
    (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (scratch0A c arg3 harg3 arg7 x1) (scratch1A c arg4 harg4 arg8 x2) (scratch2A c arg4 harg4 arg9 x2) (diag_word i) s1 s2 s3 s4 e1 e2 e3 e4) r d

end Cert.KernelAfIdeal.Attention

end
-- ==== Proof.AfPoint.lean ====
/-
  The call's three carried arrays at every point of the grid, and the block it writes there.
-/
module

public import proofs.«01_k».proof.Proof.AfCase
public import proofs.«01_k».proof.Proof.AfTile

@[expose] public section

set_option maxRecDepth 16384

noncomputable section

namespace Cert.KernelAfIdeal.Attention

open Idealize.ShloMosaic Idealize.ShloMosaic.TcCoe Idealize.SL.Sem Cert.KernelAfIdeal Cert.KernelAfIdeal.Gen

/-- The block that each array's window shows at a point. -/
theorem idx : ∀ t : Fin cfg0.N, win0_0.index t = ![t.val % 8, t.val / 8] ∧ win0_1.index t = ![0, t.val / 8] ∧ win0_2.index t = ![0, t.val / 8] ∧ win0_3.index t = ![t.val % 8, t.val / 8] ∧ win0_4.index t = ![t.val % 8, t.val / 8] :=
  (by decide +kernel : ∀ t : Fin grid0.N, _)

/-- A point's tile of queries. -/
theorem coords_tile : ∀ t : Fin cfg0.N, ((grid0.coords t) 1).val = t.val % 8 := (by decide +kernel : ∀ t : Fin grid0.N, _)

/-- The lane test from lane 64 on. -/
theorem lane_high (d : Fin 128) (x y : EReal) : Scalar.select (IntOp.cmpi CmpIPredicate.sge (BitVec.ofNat 32 d.val) 64#32) x y = if d.val < 64 then y else x := by
  have h : ∀ d : Fin 128, IntOp.cmpi CmpIPredicate.sge (BitVec.ofNat 32 d.val) 64#32 = if d.val < 64 then 0#1 else 1#1 := by decide +kernel
  rw [h]
  by_cases h1 : d.val < 64
  · rw [if_pos h1, if_pos h1]
    rfl
  · rw [if_neg h1, if_neg h1]
    rfl

/-- Two arrays of two axes are equal where they are equal at every pair of coordinates. -/
theorem ext2 {n0 n1 : ℕ} {α : Type} (f g : (⟨2, ![n0, n1]⟩ : Shape).Idx → α) (h : ∀ a b, f (ix2 a b) = g (ix2 a b)) : f = g := by
  funext j
  rw [eq_ix2 j]
  exact h _ _

variable (m : (ℓ : Loc nD τ sig) → Buf (Elt Ideal) ℓ) (c : Dev nD)

/-- The queries' block at a point. -/
theorem block0 (t : Fin cfg0.N) (k : Fin 512) (e : Fin 256) :
    iblk m c 0 t (ix2 k e) = m ((c : Thread nD τ).loc main_arg0) (ix2 ⟨t.val % 8 * 512 + k.val, by omega⟩ ⟨t.val / 8 * 256 + e.val, by have := t.isLt; have : cfg0.N = 16 := rfl; omega⟩) := by
  blk_point [iblk, V, idx t]

/-- The keys' block at a point. -/
theorem block1 (t : Fin cfg0.N) (k : Fin 4096) (e : Fin 256) :
    iblk m c 1 t (ix2 k e) = m ((c : Thread nD τ).loc main_arg1) (ix2 k ⟨t.val / 8 * 256 + e.val, by have := t.isLt; have : cfg0.N = 16 := rfl; omega⟩) := by
  blk_point [iblk, V, idx t]

/-- The values' block at a point. -/
theorem block2 (t : Fin cfg0.N) (k : Fin 4096) (e : Fin 128) :
    iblk m c 2 t (ix2 k e) = m ((c : Thread nD τ).loc main_arg2) (ix2 k ⟨t.val / 8 * 128 + e.val, by have := t.isLt; have : cfg0.N = 16 := rfl; omega⟩) := by
  blk_point [iblk, V, idx t]

/-- Two points of one pair of heads see the same keys. -/
theorem same1 (t s : Fin cfg0.N) (h : t.val / 8 = s.val / 8) : iblk m c 1 t = iblk m c 1 s := by
  refine ext2 (n0 := 4096) (n1 := 256) (iblk m c 1 t) (iblk m c 1 s) fun k e => ?_
  rw [block1, block1]
  simp only [h]

/-- Two points of one pair of heads see the same values. -/
theorem same2 (t s : Fin cfg0.N) (h : t.val / 8 = s.val / 8) : iblk m c 2 t = iblk m c 2 s := by
  refine ext2 (n0 := 4096) (n1 := 128) (iblk m c 2 t) (iblk m c 2 s) fun k e => ?_
  rw [block2, block2]
  simp only [h]

/-- The carried arrays at every point: the pair's keys, and its values split by head. -/
theorem carried : ∀ (n : ℕ) (hn : n < cfg0.N), (outsAt0 m c n hn).2.2.1 = k0_pay52 (iblk m c 1 ⟨n, hn⟩) ∧ (outsAt0 m c n hn).2.2.2.1 = k0_pay53 (iblk m c 2 ⟨n, hn⟩)
    ∧ (outsAt0 m c n hn).2.2.2.2 = k0_pay54 (iblk m c 2 ⟨n, hn⟩) := by
  intro n
  induction n with
  | zero =>
    intro hn
    rw [outsAt0_A m c ⟨0, hn⟩ rfl]
    dsimp only
    refine ⟨?_, ?_, ?_⟩ <;> frame_out
  | succ n ih =>
    intro hn
    by_cases h0 : (n + 1) % 8 = 0
    · rw [outsAt0_A m c ⟨n + 1, hn⟩ h0]
      dsimp only
      refine ⟨?_, ?_, ?_⟩ <;> frame_out
    · rw [outsAt0_B m c ⟨n + 1, hn⟩ h0]
      dsimp only
      have hd : (⟨n + 1, hn⟩ : Fin cfg0.N).val / 8 = (⟨n, Nat.lt_of_succ_lt hn⟩ : Fin cfg0.N).val / 8 := by
        show (n + 1) / 8 = n / 8
        omega
      rw [same1 m c _ _ hd, same2 m c _ _ hd]
      obtain ⟨i0, i1, i2⟩ := ih (Nat.lt_of_succ_lt hn)
      refine ⟨?_, ?_, ?_⟩
      · exact i0
      · exact i1
      · exact i2

end Cert.KernelAfIdeal.Attention

end
-- ==== Proof.AfCaseLse.lean ====
/-
  The block that the call writes to its second result at a point, where it finds the scratch filled and where it fills it.
-/
module

public import proofs.«01_k».proof.Proof.Gen.KernelAfIdeal.Frame
public import proofs.«01_k».proof.Proof.AfCase
public import Idealize.ShloMosaic.Lib.Pointwise
public import Idealize.ShloMosaic.Lib.Pipeline.ValueKit

@[expose] public section

set_option maxRecDepth 16384

noncomputable section

namespace Cert.KernelAfIdeal.Attention

open Idealize.ShloMosaic Idealize.ShloMosaic.TcCoe Idealize.SL.Sem Cert.KernelAfIdeal Cert.KernelAfIdeal.Gen

/-- The second block written where the body finds the scratch filled. -/
theorem caseLseB (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (hc0 : ¬cond0_0 i)
    (x0 : Vec Ideal S512x256 .f32) (x1 : Vec Ideal S4096x256 .f32) (x2 : Vec Ideal S4096x128 .f32) (xs0 : Vec Ideal S4096x256 .bf16) (xs1 : Vec Ideal S4096x128 .bf16) (xs2 : Vec Ideal S4096x128 .bf16) (V : Fin 128 → Fin 4096 → EReal)
    (h1 : ∀ (k : Fin 4096) (d : Fin 128), xs1 (ix2 k d) = if d.val < 64 then V d k else 0) (h2 : ∀ (k : Fin 4096) (d : Fin 128), xs2 (ix2 k d) = if d.val < 64 then 0 else V d k)
    (r : Fin 512) (d : Fin 128) : out0_B_4 (F := Ideal) c i arg2 harg2 arg3 harg3 arg4 harg4 arg5 harg5 arg6 harg6 arg7 harg7 arg8 harg8 arg9 harg9 hc0 x0 x1 x2 xs0 xs1 xs2 (ix2 r d) = rowLse i (k0_pay56 x0) (k0_pay57 x0) xs0 r d := by
  unfold out0_B_4 kernelRun0_B
  dsimp only
  rw [View.read_writes_junk_eq_canon, View.canon_cons_unit_lit' (h := zero_off)]
  unfold kernelRun0_B.sl.r_2 kernelRun0_B.sl.r_3 kernelRun0_B.sl.r_4 kernelRun0_B.sl.r_5
  rw [queries0B, queries1B]
  generalize e1 : st_k0_t1 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (harg7.unread xs0) (harg8.unread xs1) (harg9.unread xs2) (k0_pay59, k0_pay60, k0_pay59, k0_pay60, k0_pay61) (Scf.trips (k0_t1_loop i).lb (k0_t1_loop i).ub (k0_t1_loop i).st) = s1
  generalize e2 : st_k0_t2 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (kernelRun0_B.sl.v61 i) (harg7.unread xs0) (harg8.unread xs1) (harg9.unread xs2) (s1.1, s1.2.1, s1.2.2.1, s1.2.2.2.1, s1.2.2.2.2) (Scf.trips (k0_t2_loop i).lb (k0_t2_loop i).ub (k0_t2_loop i).st) = s2
  generalize e3 : st_k0_t3 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (kernelRun0_B.sl.v56 i) (harg7.unread xs0) (harg8.unread xs1) (harg9.unread xs2) (s2.1, s2.2.1, s2.2.2.1, s2.2.2.2.1, s2.2.2.2.2) (Scf.trips (k0_t3_loop i).lb (k0_t3_loop i).ub (k0_t3_loop i).st) = s3
  generalize e4 : st_k0_t4 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_B.sl.v37 i) (kernelRun0_B.sl.v69 i) (harg7.unread xs0) (harg8.unread xs1) (harg9.unread xs2) (s3.1, s3.2.1, s3.2.2.1, s3.2.2.2.1, s3.2.2.2.2) (Scf.trips (k0_t4_loop i).lb (k0_t4_loop i).ub (k0_t4_loop i).st) = s4
  refine storedLse (chain c i arg2 harg2 arg3 harg3 arg4 harg4 arg5 harg5 arg6 harg6 arg7 harg7 arg8 harg8 arg9 harg9 (BitVec.ofNat 32 (i 1).val) (k0_pay56 x0) (k0_pay57 x0)
    (kernelRun0_B.sl.v37 i) (kernelRun0_B.sl.v56 i) (kernelRun0_B.sl.v61 i) (kernelRun0_B.sl.v69 i) xs0 xs1 xs2 V h1 h2
    (harg7.unread xs0) (harg8.unread xs1) (harg9.unread xs2) (harg7.read_unread _) (harg8.read_unread _) (harg9.read_unread _) (diag_word i) s1 s2 s3 s4 e1 e2 e3 e4) r d

/-- The second block written where the body fills the scratch. -/
theorem caseLseA (c : Dev nD) (i : grid0.Coords) (arg2 : Memref sig .tc .vmem S512x256 .f32) (harg2 : arg2.IsWhole) (arg3 : Memref sig .tc .vmem S4096x256 .f32) (harg3 : arg3.IsWhole) (arg4 : Memref sig .tc .vmem S4096x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4096x256 .bf16) (harg7 : arg7.IsWhole) (arg8 : Memref sig .tc .vmem S4096x128 .bf16) (harg8 : arg8.IsWhole) (arg9 : Memref sig .tc .vmem S4096x128 .bf16) (harg9 : arg9.IsWhole) (hc0 : cond0_0 i)
    (x0 : Vec Ideal S512x256 .f32) (x1 : Vec Ideal S4096x256 .f32) (x2 : Vec Ideal S4096x128 .f32) (V : Fin 128 → Fin 4096 → EReal)
    (h1 : ∀ (k : Fin 4096) (d : Fin 128), k0_pay53 x2 (ix2 k d) = if d.val < 64 then V d k else 0) (h2 : ∀ (k : Fin 4096) (d : Fin 128), k0_pay54 x2 (ix2 k d) = if d.val < 64 then 0 else V d k)
    (r : Fin 512) (d : Fin 128) : out0_A_4 (F := Ideal) c i arg2 harg2 arg3 harg3 arg4 harg4 arg5 harg5 arg6 harg6 arg7 harg7 arg8 harg8 arg9 harg9 hc0 x0 x1 x2 (ix2 r d) = rowLse i (k0_pay56 x0) (k0_pay57 x0) (k0_pay52 x1) r d := by
  unfold out0_A_4 kernelRun0_A
  dsimp only
  rw [View.read_writes_junk_eq_canon, View.canon_cons_unit_lit' (h := zero_off)]
  unfold kernelRun0_A.sl.r_2 kernelRun0_A.sl.r_3 kernelRun0_A.sl.r_4 kernelRun0_A.sl.r_5
  rw [queries0A, queries1A]
  generalize e1 : st_k0_t1 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (k0_pay59, k0_pay60, k0_pay59, k0_pay60, k0_pay61) (Scf.trips (k0_t1_loop i).lb (k0_t1_loop i).ub (k0_t1_loop i).st) = s1
  generalize e2 : st_k0_t2 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (kernelRun0_A.sl.v61 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (s1.1, s1.2.1, s1.2.2.1, s1.2.2.2.1, s1.2.2.2.2) (Scf.trips (k0_t2_loop i).lb (k0_t2_loop i).ub (k0_t2_loop i).st) = s2
  generalize e3 : st_k0_t3 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (kernelRun0_A.sl.v56 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (s2.1, s2.2.1, s2.2.2.1, s2.2.2.2.1, s2.2.2.2.2) (Scf.trips (k0_t3_loop i).lb (k0_t3_loop i).ub (k0_t3_loop i).st) = s3
  generalize e4 : st_k0_t4 (F := Ideal) Variants.none c none i arg2 harg2 arg3 harg3 arg4 harg4 arg5 harg5 arg6 harg6 arg7 harg7 arg8 harg8 arg9 harg9 (BitVec.ofNat 32 (i 1).val) k0_pay55 (k0_pay56 x0) (k0_pay57 x0) (k0_pay58 i) k0_pay59 k0_pay60 k0_pay61 (kernelRun0_A.sl.v37 i) (kernelRun0_A.sl.v69 i) (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (s3.1, s3.2.1, s3.2.2.1, s3.2.2.2.1, s3.2.2.2.2) (Scf.trips (k0_t4_loop i).lb (k0_t4_loop i).ub (k0_t4_loop i).st) = s4
  refine storedLse (chain c i arg2 harg2 arg3 harg3 arg4 harg4 arg5 harg5 arg6 harg6 arg7 harg7 arg8 harg8 arg9 harg9 (BitVec.ofNat 32 (i 1).val) (k0_pay56 x0) (k0_pay57 x0)
    (kernelRun0_A.sl.v37 i) (kernelRun0_A.sl.v56 i) (kernelRun0_A.sl.v61 i) (kernelRun0_A.sl.v69 i) (k0_pay52 x1) (k0_pay53 x2) (k0_pay54 x2) V h1 h2
    (arg7.view.writes (Elt Ideal) arg7.view.junk (kernelRun0_A.sl.HS0_1 c arg3 harg3 x1)) (arg8.view.writes (Elt Ideal) arg8.view.junk (kernelRun0_A.sl.HS1_1 c arg4 harg4 x2)) (arg9.view.writes (Elt Ideal) arg9.view.junk (kernelRun0_A.sl.HS2_1 c arg4 harg4 x2)) (scratch0A c arg3 harg3 arg7 x1) (scratch1A c arg4 harg4 arg8 x2) (scratch2A c arg4 harg4 arg9 x2) (diag_word i) s1 s2 s3 s4 e1 e2 e3 e4) r d

end Cert.KernelAfIdeal.Attention

end
-- ==== Proof.AfRow.lean ====
/-
  A query row of the softmax over all keys, and its agreement with the running sums over the tiles up to the row's own.
-/
module

public import proofs.«01_k».proof.Proof.AfScore

@[expose] public section

noncomputable section

namespace Cert.KernelAfIdeal.Attention

open Idealize.ShloMosaic

variable (q : Fin 128 → EReal) (K : Fin 4096 → Fin 128 → EReal) (V : Fin 4096 → EReal) (row : ℕ)

/-- A query row's score at a key, minus infinity at later keys. -/
def rowScore (k : Fin 4096) : EReal := if k.val ≤ row then (∑ x, q x * K k x) * scale else ⊥

/-- The row's largest score. -/
def rowMax : EReal := Finset.univ.sup (rowScore q K row)

/-- The row's softmax-weighted sum of a column of values. -/
def rowAttn : EReal :=
  ∑ k : Fin 4096, Ideal.div (Ideal.exp (rowScore q K row k - rowMax q K row)) (∑ j : Fin 4096, Ideal.exp (rowScore q K row j - rowMax q K row)) * V k

/-- A sum over eight tiles is the sum over all keys. -/
theorem sum_tiles (f : ℕ → Fin 512 → EReal) (g : Fin 4096 → EReal) (h : ∀ (t : ℕ) (k : Fin 512) (hk : t * 512 + k.val < 4096), f t k = g ⟨t * 512 + k.val, hk⟩) :
    ∑ t ∈ Finset.range 8, ∑ k, f t k = ∑ k, g k := by
  rw [Finset.sum_range, ← Fintype.sum_prod_type' (f := fun (t : Fin 8) (k : Fin 512) => f t k)]
  refine Fintype.sum_equiv (finProdFinEquiv (m := 8) (n := 512)) _ _ fun x => ?_
  have h1 := x.1.isLt
  have h2 := x.2.isLt
  rw [h x.1.val x.2 (by omega)]
  refine congrArg g (Fin.ext ?_)
  show x.1.val * 512 + x.2.val = x.2.val + 512 * x.1.val
  omega

/-- A tile's score is the row's score at its key. -/
theorem scores_row (t : ℕ) (k : Fin 512) (h : t * 512 + k.val < 4096) : scores q K row t k = rowScore q K row ⟨t * 512 + k.val, h⟩ := by
  rw [scores, dif_pos h, rowScore]

/-- The running maximum is minus infinity or one of the scores. -/
theorem M_attained (S : ℕ → Fin 512 → EReal) : ∀ n : ℕ, M S n = ⊥ ∨ ∃ t < n, ∃ k, S t k = M S n
  | 0 => Or.inl rfl
  | n + 1 => by
    rcases le_total (M S n) (tileMax (S n)) with h | h
    · obtain ⟨k, _, e⟩ := Finset.exists_mem_eq_sup (Finset.univ : Finset (Fin 512)) ⟨0, Finset.mem_univ _⟩ (S n)
      exact Or.inr ⟨n, Nat.lt_succ_self n, k, e.symm.trans (max_eq_right h).symm⟩
    · have e : M S (n + 1) = M S n := max_eq_left h
      rcases M_attained S n with hb | ⟨t, ht, k, hk⟩
      · exact Or.inl (e.trans hb)
      · exact Or.inr ⟨t, Nat.lt_succ_of_lt ht, k, hk.trans e.symm⟩

/-- A row's tiles after its own hold no score, and its running maximum is the row's, a real score of one of its tiles. -/
theorem row_facts (a : ℕ) (ha : a < 8) (r : Fin 512) (hfin : ∀ k, ∃ b : ℝ, (∑ x, q x * K k x) * scale = b) :
    (∀ t, a + 1 ≤ t → ∀ k, scores q K (a * 512 + r.val) t k = ⊥) ∧ M (scores q K (a * 512 + r.val)) (a + 1) = rowMax q K (a * 512 + r.val)
      ∧ ∃ b : ℝ, M (scores q K (a * 512 + r.val)) (a + 1) = b ∧ ∃ t < a + 1, ∃ k, scores q K (a * 512 + r.val) t k = b := by
  have hr := r.isLt
  have htail : ∀ t, a + 1 ≤ t → ∀ k, scores q K (a * 512 + r.val) t k = ⊥ := fun t ht k => by
    rw [scores]
    split_ifs with h1 h2
    · omega
    · rfl
    · rfl
  have hbr : ∀ t k, scores q K (a * 512 + r.val) t k = ⊥ ∨ ∃ b : ℝ, scores q K (a * 512 + r.val) t k = b := fun t k => by
    rw [scores]
    split_ifs with h1 h2
    · exact Or.inr (hfin _)
    · exact Or.inl rfl
    · exact Or.inl rfl
  have hdiag : M (scores q K (a * 512 + r.val)) (a + 1) ≠ ⊥ := fun e => by
    have h := score_le (scores q K (a * 512 + r.val)) (a + 1) a (Nat.lt_succ_self a) r
    rw [e, le_bot_iff, scores, dif_pos (by omega), if_pos (le_refl _)] at h
    obtain ⟨b, hb⟩ := hfin ⟨a * 512 + r.val, by omega⟩
    rw [hb] at h
    exact EReal.coe_ne_bot b h
  obtain ⟨b, hb, hmem⟩ : ∃ b : ℝ, M (scores q K (a * 512 + r.val)) (a + 1) = b ∧ ∃ t < a + 1, ∃ k, scores q K (a * 512 + r.val) t k = b := by
    rcases M_attained (scores q K (a * 512 + r.val)) (a + 1) with h | ⟨t, ht, k, hk⟩
    · exact absurd h hdiag
    · rcases hbr t k with h | ⟨b, h⟩
      · exact absurd (hk.symm.trans h) hdiag
      · exact ⟨b, hk.symm.trans h, t, ht, k, h⟩
  have hmax : M (scores q K (a * 512 + r.val)) (a + 1) = rowMax q K (a * 512 + r.val) := by
    refine le_antisymm (M_le_of _ _ _ fun t ht k => ?_) (Finset.sup_le fun k _ => ?_)
    · have hk := k.isLt
      rw [scores_row _ _ _ _ _ (by omega)]
      exact Finset.le_sup (f := rowScore q K (a * 512 + r.val)) (Finset.mem_univ _)
    · have hk := k.isLt
      rw [← M_tail _ htail 7]
      have e := scores_row q K (a * 512 + r.val) (k.val / 512) ⟨k.val % 512, Nat.mod_lt _ (by decide)⟩ (by show k.val / 512 * 512 + k.val % 512 < 4096; omega)
      have ek : (⟨k.val / 512 * 512 + k.val % 512, by omega⟩ : Fin 4096) = k := Fin.ext (by show k.val / 512 * 512 + k.val % 512 = k.val; omega)
      rw [ek] at e
      rw [← e]
      exact score_le _ _ _ (by omega) _
  exact ⟨htail, hmax, b, hb, hmem⟩

/-- The running sums over the tiles up to the row's own give the softmax over all keys, where the scores are finite. -/
theorem softmax_row (a : ℕ) (ha : a < 8) (r : Fin 512) (hfin : ∀ k, ∃ b : ℝ, (∑ x, q x * K k x) * scale = b) :
    Ideal.div (P (scores q K (a * 512 + r.val)) (vals V) (a + 1)) (L (scores q K (a * 512 + r.val)) (a + 1)) = rowAttn q K V (a * 512 + r.val) := by
  obtain ⟨htail, hmax, b, hb, hmem⟩ := row_facts q K a ha r hfin
  rw [quotient _ _ (d := 7 - a) htail hb hmem, hmax, rowAttn]
  have e8 : a + 1 + (7 - a) = 8 := by omega
  rw [e8]
  have hden : ∑ t ∈ Finset.range 8, ∑ k, Ideal.exp (scores q K (a * 512 + r.val) t k - rowMax q K (a * 512 + r.val))
      = ∑ j : Fin 4096, Ideal.exp (rowScore q K (a * 512 + r.val) j - rowMax q K (a * 512 + r.val)) :=
    sum_tiles _ (fun j => Ideal.exp (rowScore q K (a * 512 + r.val) j - rowMax q K (a * 512 + r.val))) fun t k hk => by rw [scores_row q K _ t k hk]
  rw [hden]
  refine sum_tiles _ (fun k => Ideal.div (Ideal.exp (rowScore q K (a * 512 + r.val) k - rowMax q K (a * 512 + r.val)))
    (∑ j : Fin 4096, Ideal.exp (rowScore q K (a * 512 + r.val) j - rowMax q K (a * 512 + r.val))) * V k) fun t k hk => ?_
  rw [scores_row q K _ t k hk, vals, dif_pos hk]

/-- A row's log-sum-exp. -/
def rowLogSum : EReal := Ideal.log (∑ j : Fin 4096, Ideal.exp (rowScore q K row j))

/-- The running maximum and sum over the tiles up to the row's own give its log-sum-exp over all keys, where the scores are finite. -/
theorem logsum_row (a : ℕ) (ha : a < 8) (r : Fin 512) (hfin : ∀ k, ∃ b : ℝ, (∑ x, q x * K k x) * scale = b) :
    M (scores q K (a * 512 + r.val)) (a + 1) + Ideal.log (L (scores q K (a * 512 + r.val)) (a + 1)) = rowLogSum q K (a * 512 + r.val) := by
  obtain ⟨htail, hmax, b, hb, hmem⟩ := row_facts q K a ha r hfin
  rw [logsum _ (d := 7 - a) htail hb hmem, rowLogSum]
  have e8 : a + 1 + (7 - a) = 8 := by omega
  rw [e8]
  refine congrArg Ideal.log (sum_tiles _ (fun j => Ideal.exp (rowScore q K (a * 512 + r.val) j)) fun t k hk => ?_)
  rw [scores_row q K _ t k hk]

end Cert.KernelAfIdeal.Attention

end
-- ==== Proof.AfRef.lean ====
/-
  The reference attention at a query and a value column: the row's softmax-weighted sum of the column.
-/
module

public import proofs.«01_k».proof.Proof.Gen.ReferenceAfIdeal.Run
public import proofs.«01_k».proof.Proof.AfRow
public import Idealize.ShloMosaic.Lib.Pointwise

@[expose] public section

set_option maxRecDepth 16384

noncomputable section

namespace Cert.KernelAfIdeal.Attention

open Idealize.ShloMosaic
open Cert.ReferenceAfIdeal (S4x4096x4096 S4096x512 S4096x256)

/-- The reference's masked scores: one matrix over query and key for each of the four heads. -/
def scoreMat (q k : FVec Ideal S4096x512 .f32) : FVec Ideal S4x4096x4096 .f32 :=
  (select (broadcastInDim Cert.ReferenceAfIdeal.S4x4096x4096 ![1, 2] Cert.ReferenceAfIdeal.Gen.bcast_S4096x4096_S4x4096x4096_1_2 (cmpi .sle (broadcastInDim Cert.ReferenceAfIdeal.S4096x4096 ![0, 1] Cert.ReferenceAfIdeal.Gen.bcast_S1x4096_S4096x4096_0_1 (broadcastInDim Cert.ReferenceAfIdeal.S1x4096 ![1] Cert.ReferenceAfIdeal.Gen.bcast_S4096_S1x4096_1 (iotaInDim Cert.ReferenceAfIdeal.S4096 32 0))) (broadcastInDim Cert.ReferenceAfIdeal.S4096x4096 ![0, 1] Cert.ReferenceAfIdeal.Gen.bcast_S4096x1_S4096x4096_0_1 (broadcastInDim Cert.ReferenceAfIdeal.S4096x1 ![0] Cert.ReferenceAfIdeal.Gen.bcast_S4096_S4096x1_0 (iotaInDim Cert.ReferenceAfIdeal.S4096 32 0))))) (mulf (Host.dotGeneral Cert.ReferenceAfIdeal.dot_S4096x4x128_S4096x4x128_S4x4096x4096_2_2_0_0_1_1 none (shapeCast _ q Cert.ReferenceAfIdeal.Gen.shapeCasts_S4096x512_S4096x4x128) (shapeCast _ k Cert.ReferenceAfIdeal.Gen.shapeCasts_S4096x512_S4096x4x128)) (broadcastInDim Cert.ReferenceAfIdeal.S4x4096x4096 ![] Cert.ReferenceAfIdeal.Gen.bcast_S_S4x4096x4096 (constant (F := Ideal) Cert.ReferenceAfIdeal.S_ .f32 0x3DD105EC#32))) (broadcastInDim Cert.ReferenceAfIdeal.S4x4096x4096 ![] Cert.ReferenceAfIdeal.Gen.bcast_S_S4x4096x4096 (id (constant (F := Ideal) Cert.ReferenceAfIdeal.S_ .f32 0xFF800000#32))))

/-- The largest score of each row. -/
def topMat (s : FVec Ideal S4x4096x4096 .f32) : FVec Ideal Cert.ReferenceAfIdeal.S4x4096 .f32 :=
  Host.reduce FloatOps.maximumf s (constant (F := Ideal) Cert.ReferenceAfIdeal.S_ .f32 0xFF800000#32) Cert.ReferenceAfIdeal.Gen.reducesTo_S4x4096x4096_S4x4096_d2 Cert.ReferenceAfIdeal.Gen.h_S_

/-- Minus infinity in every row. -/
def lowest : FVec Ideal Cert.ReferenceAfIdeal.S4x4096 .f32 :=
  broadcastInDim Cert.ReferenceAfIdeal.S4x4096 ![] Cert.ReferenceAfIdeal.Gen.bcast_S_S4x4096 (constant (F := Ideal) Cert.ReferenceAfIdeal.S_ .f32 0xFF800000#32)

/-- The exponentials of scores less the larger of two bounds of their row. -/
def weigh (s : FVec Ideal S4x4096x4096 .f32) (b a : FVec Ideal Cert.ReferenceAfIdeal.S4x4096 .f32) : FVec Ideal S4x4096x4096 .f32 :=
  Host.exp (subf s (broadcastInDim Cert.ReferenceAfIdeal.S4x4096x4096 ![0, 1, 2] Cert.ReferenceAfIdeal.Gen.bcast_S4x4096x1_S4x4096x4096_0_1_2 (broadcastInDim Cert.ReferenceAfIdeal.S4x4096x1 ![0, 1] Cert.ReferenceAfIdeal.Gen.bcast_S4x4096_S4x4096x1_0_1 (maximumf b a))))

/-- The exponentials of the scores less their row's maximum. -/
def weightMat (s : FVec Ideal S4x4096x4096 .f32) : FVec Ideal S4x4096x4096 .f32 := weigh s lowest (topMat s)

/-- The reference's attention. -/
def attention (q k : FVec Ideal S4096x512 .f32) (v : FVec Ideal S4096x256 .f32) : FVec Ideal S4096x256 .f32 :=
  shapeCast _ (transpose Cert.ReferenceAfIdeal.S4096x4x64 [2, 0, 1] (Host.dotGeneral Cert.ReferenceAfIdeal.dot_S4096x4x64_S4x4096x4096_S4x64x4096_0_2_2_1_1_0 none (shapeCast _ v Cert.ReferenceAfIdeal.Gen.shapeCasts_S4096x256_S4096x4x64) (Host.divf (weightMat (scoreMat q k)) (broadcastInDim Cert.ReferenceAfIdeal.S4x4096x4096 ![0, 1, 2] Cert.ReferenceAfIdeal.Gen.bcast_S4x4096x1_S4x4096x4096_0_1_2 (broadcastInDim Cert.ReferenceAfIdeal.S4x4096x1 ![0, 1] Cert.ReferenceAfIdeal.Gen.bcast_S4x4096_S4x4096x1_0_1 (Host.reduceAdd (weightMat (scoreMat q k)) (constant (F := Ideal) Cert.ReferenceAfIdeal.S_ .f32 0x00000000#32) Cert.ReferenceAfIdeal.Gen.reducesTo_S4x4096x4096_S4x4096_d2 Cert.ReferenceAfIdeal.Gen.h_S_))))) Cert.ReferenceAfIdeal.Gen.transposes_S4x64x4096_S4096x4x64_2_0_1) Cert.ReferenceAfIdeal.Gen.shapeCasts_S4096x4x64_S4096x256

/-- A query row of one head. -/
def qRow (q : FVec Ideal S4096x512 .f32) (h : Fin 4) (r : Fin 4096) (x : Fin 128) : EReal := q (ix2 r ⟨h.val * 128 + x.val, by omega⟩)

/-- The keys of one head. -/
def kMat (k : FVec Ideal S4096x512 .f32) (h : Fin 4) (j : Fin 4096) (x : Fin 128) : EReal := k (ix2 j ⟨h.val * 128 + x.val, by omega⟩)

/-- A maximum over the last of three axes is a fold of `max` along it. -/
theorem fold_last {n0 n1 n2 : ℕ} {u : Shape} (s : FVec Ideal ⟨3, ![n0, n1, n2]⟩ .f32) (c : FVec Ideal u .f32) (h : (⟨3, ![n0, n1, n2]⟩ : Shape).ReducesTo [2] ⟨2, ![n0, n1]⟩)
    (hu : 0 < u.numel) (a : Fin n0) (b : Fin n1) :
    Host.reduce FloatOps.maximumf s c h hu (ix2 a b) = Finset.fold max (c (Shape.Idx.first hu)) (fun x => s (ix3 a b x)) Finset.univ :=
  (Host.reduce_eq_fold (α := EReal) (f := fun x y : EReal => max x y) s c h hu (ix2 a b)).trans (h.fold_fiber_r3_a2 (ix2 a b) _ _ s)

/-- The reference's maximum over the keys is a fold of `max` along them. -/
theorem fold_keys (s : FVec Ideal S4x4096x4096 .f32) (c : FVec Ideal Cert.ReferenceAfIdeal.S_ .f32) (h : Fin 4) (r : Fin 4096) :
    Host.reduce FloatOps.maximumf s c Cert.ReferenceAfIdeal.Gen.reducesTo_S4x4096x4096_S4x4096_d2 Cert.ReferenceAfIdeal.Gen.h_S_ (ix2 h r)
      = Finset.fold max (c (Shape.Idx.first Cert.ReferenceAfIdeal.Gen.h_S_)) (fun x => s (ix3 h r x)) Finset.univ :=
  fold_last s _ _ Cert.ReferenceAfIdeal.Gen.h_S_ h r

/-- The maximum's initial value. -/
theorem fold_init : (constant (F := Ideal) Cert.ReferenceAfIdeal.S_ .f32 0xFF800000#32) (Shape.Idx.first Cert.ReferenceAfIdeal.Gen.h_S_) = Ideal.ofBits .f32 4286578688#32 := rfl

/-- The largest score of a row. -/
theorem topMat_apply (s : FVec Ideal S4x4096x4096 .f32) (h : Fin 4) (r : Fin 4096) :
    topMat s (ix2 h r) = Finset.fold max (Ideal.ofBits .f32 4286578688#32) (fun x => s (ix3 h r x)) Finset.univ := by
  rw [topMat, fold_keys, fold_init]

/-- The exponential of a score less the larger of its row's two bounds. -/
theorem weigh_apply (s : FVec Ideal S4x4096x4096 .f32) (b a : FVec Ideal Cert.ReferenceAfIdeal.S4x4096 .f32) (h : Fin 4) (r j : Fin 4096) :
    weigh s b a (ix3 h r j) = Ideal.exp (s (ix3 h r j) - max (b (ix2 h r)) (a (ix2 h r))) := by
  pointwise [weigh]

/-- Every row's first bound. -/
theorem lowest_apply (h : Fin 4) (r : Fin 4096) : lowest (ix2 h r) = Ideal.ofBits .f32 4286578688#32 := rfl

/-- The pattern of minus infinity. -/
theorem bot_bits : Ideal.ofBits .f32 4286578688#32 = ⊥ := by
  simp [Ideal.ofBits, Ideal.ieee]

/-- The reference's scores are the row's. -/
theorem scoreMat_apply (q k : FVec Ideal S4096x512 .f32) (h : Fin 4) (r j : Fin 4096) : scoreMat q k (ix3 h r j) = rowScore (qRow q h r) (kMat k h) r.val j := by
  pointwise [scoreMat]
  have hr := r.isLt
  have hj := j.isLt
  have er : (BitVec.ofNat 32 r.val).toNat = r.val := by rw [BitVec.toNat_ofNat]; omega
  have ej : (BitVec.ofNat 32 j.val).toNat = j.val := by rw [BitVec.toNat_ofNat]; omega
  rw [sle_small _ _ (by omega) (by omega), er, ej, rowScore]
  by_cases h1 : j.val ≤ r.val
  · rw [if_pos h1, if_pos h1]
    rfl
  · rw [if_neg h1, if_neg h1]
    exact bot_bits

/-- The reference's weights are the row's exponentials. -/
theorem weight_row (q k : FVec Ideal S4096x512 .f32) (h : Fin 4) (r j : Fin 4096) :
    weightMat (scoreMat q k) (ix3 h r j) = Ideal.exp (rowScore (qRow q h r) (kMat k h) r.val j - rowMax (qRow q h r) (kMat k h) r.val) := by
  rw [weightMat, weigh_apply, lowest_apply, topMat_apply, bot_bits, scoreMat_apply, max_eq_right bot_le]
  have e : Finset.fold max ⊥ (fun x => scoreMat q k (ix3 h r x)) Finset.univ = rowMax (qRow q h r) (kMat k h) r.val := by
    simp only [scoreMat_apply]
    rfl
  rw [e]

/-- The reference's attention at a query and a value column. -/
theorem attention_apply (q k : FVec Ideal S4096x512 .f32) (v : FVec Ideal S4096x256 .f32) (r : Fin 4096) (y : Fin 256) :
    attention q k v (ix2 r y) = rowAttn (qRow q ⟨y.val / 64, by omega⟩ r) (kMat k ⟨y.val / 64, by omega⟩) (fun j => v (ix2 j y)) r.val := by
  have e : attention q k v (ix2 r y) = ∑ x, v (ix2 x y) * Ideal.div (weightMat (scoreMat q k) (ix3 ⟨y.val / 64, by omega⟩ r x)) (∑ j, weightMat (scoreMat q k) (ix3 ⟨y.val / 64, by omega⟩ r j)) := by
    rw [attention]
    generalize weightMat (scoreMat q k) = w
    pointwise
  rw [e, rowAttn]
  simp only [weight_row]
  exact Finset.sum_congr rfl fun x _ => mul_comm _ _

/-- The reference's logarithms of the sums of each row's exponentials, one value for a head's 64 lanes. -/
def logSums (s : FVec Ideal S4x4096x4096 .f32) : FVec Ideal S4096x256 .f32 :=
  shapeCast _ (broadcastInDim Cert.ReferenceAfIdeal.S4096x4x64 ![0, 1, 2] Cert.ReferenceAfIdeal.Gen.bcast_S4096x4x1_S4096x4x64_0_1_2 (broadcastInDim Cert.ReferenceAfIdeal.S4096x4x1 ![0, 1] Cert.ReferenceAfIdeal.Gen.bcast_S4096x4_S4096x4x1_0_1 (transpose Cert.ReferenceAfIdeal.S4096x4 [1, 0] (Host.log (Host.reduceAdd (Host.exp s) (constant (F := Ideal) Cert.ReferenceAfIdeal.S_ .f32 0x00000000#32) Cert.ReferenceAfIdeal.Gen.reducesTo_S4x4096x4096_S4x4096_d2 Cert.ReferenceAfIdeal.Gen.h_S_)) Cert.ReferenceAfIdeal.Gen.transposes_S4x4096_S4096x4_1_0))) Cert.ReferenceAfIdeal.Gen.shapeCasts_S4096x4x64_S4096x256

/-- The reference's log-sum-exp at a query and a lane. -/
theorem logSums_apply (q k : FVec Ideal S4096x512 .f32) (r : Fin 4096) (y : Fin 256) :
    logSums (scoreMat q k) (ix2 r y) = rowLogSum (qRow q ⟨y.val / 64, by omega⟩ r) (kMat k ⟨y.val / 64, by omega⟩) r.val := by
  have e : ∀ s : FVec Ideal S4x4096x4096 .f32, logSums s (ix2 r y) = Ideal.log (∑ j, Ideal.exp (s (ix3 ⟨y.val / 64, by omega⟩ r j))) := fun s => by
    pointwise [logSums]
  rw [e, rowLogSum]
  simp only [scoreMat_apply]

end Cert.KernelAfIdeal.Attention

end
-- ==== Proof.AfValue.lean ====
/-
  The call's two result arrays are the reference's attention and its rows' log-sum-exps, where the queries and keys are finite.
-/
module

public import proofs.«01_k».proof.Proof.AfPoint
public import proofs.«01_k».proof.Proof.AfCaseLse
public import proofs.«01_k».proof.Proof.AfRef
public import proofs.«01_k».proof.Pre_finite_scores
public import Idealize.ShloMosaic.Lib.ReduceAll
public import Idealize.ShloMosaic.Lib.Pipeline.ValueKit
public import Idealize.ShloMosaic.Lib.Claim

@[expose] public section

set_option maxRecDepth 16384

noncomputable section

namespace Cert.KernelAfIdeal.Attention

open Idealize.ShloMosaic Idealize.ShloMosaic.TcCoe Idealize.SL.Sem Cert.KernelAfIdeal Cert.KernelAfIdeal.Gen
open Idealize.ShloMosaic.Pipeline (Dat)

/-- A sum of reals is real. -/
theorem sum_real {n : ℕ} (f : Fin n → EReal) (h : ∀ k, ∃ r : ℝ, f k = r) : ∃ r : ℝ, ∑ k, f k = r :=
  Finset.sum_induction f (fun x => ∃ r : ℝ, x = r)
    (fun _ _ ⟨a, ha⟩ ⟨b, hb⟩ => ⟨a + b, by rw [ha, hb, EReal.coe_add]⟩) ⟨0, EReal.coe_zero.symm⟩ fun k _ => h k

/-- Below infinity in absolute value is real. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    rw [Ideal.cmp_olt, decide_eq_false hn] at h
    exact absurd h (by decide)
  induction x with
  | bot => simp at hlt
  | top => simp at hlt
  | coe r => exact ⟨r, rfl⟩

instance : Subsingleton Cert.Pre_finite_scores.S_.Idx := ⟨fun a b => funext fun i => i.elim0⟩

/-- What the precondition says: the queries and the keys are finite. -/
theorem finite_of_pre (q k : FVec Ideal S4096x512 .f32) (v : FVec Ideal S4096x256 .f32)
    [Cert.Pre_finite_scores.Facts] (h : Cert.Pre_finite_scores.fn (F := Ideal) q k v = fun _ => 1#1) :
    (∀ j, ∃ r : ℝ, q j = r) ∧ ∀ j, ∃ r : ℝ, k j = r := by
  have e := congrFun h (Shape.Idx.first (s := Cert.Pre_finite_scores.S_) (by decide))
  obtain ⟨e1, e2⟩ := IntOp.andi_eq_one.1 e
  exact ⟨fun j => real_of_lt _ (Host.reduce_andi_all _ _ _ _ _ e1 j), fun j => real_of_lt _ (Host.reduce_andi_all _ _ _ _ _ e2 j)⟩

/-- The scale is a real number. -/
theorem scale_real : ∃ r : ℝ, scale = r := by
  have ht : scale ≠ ⊤ := by
    unfold scale
    simp [Ideal.ofBits, Ideal.ieee]
    rw [← EReal.coe_mul]
    exact EReal.coe_ne_top _
  have hb : scale ≠ ⊥ := by
    unfold scale
    simp [Ideal.ofBits, Ideal.ieee]
    rw [← EReal.coe_mul]
    exact EReal.coe_ne_bot _
  exact ⟨scale.toReal, (EReal.coe_toReal ht hb).symm⟩

/-- A scaled score of finite queries and keys is real. -/
theorem score_real (q : Fin 128 → EReal) (K : Fin 4096 → Fin 128 → EReal) (hq : ∀ x, ∃ r : ℝ, q x = r) (hK : ∀ k x, ∃ r : ℝ, K k x = r) (k : Fin 4096) :
    ∃ b : ℝ, (∑ x, q x * K k x) * scale = b := by
  obtain ⟨s, hs⟩ := sum_real (fun x => q x * K k x) fun x => by
    obtain ⟨a, ha⟩ := hq x
    obtain ⟨b, hb⟩ := hK k x
    exact ⟨a * b, by rw [ha, hb, EReal.coe_mul]⟩
  obtain ⟨u, hu⟩ := scale_real
  exact ⟨s * u, by rw [hs, hu, EReal.coe_mul]⟩

variable (m : (ℓ : Loc nD τ sig) → Buf (Elt Ideal) ℓ) (c : Dev nD)

/-- The first head's values, zero in the second head's lanes. -/
theorem values0 (x2 : Vec Ideal S4096x128 .f32) (k : Fin 4096) (d : Fin 128) : k0_pay53 x2 (ix2 k d) = if d.val < 64 then x2 (ix2 k d) else 0 := by
  pointwise [k0_pay53]
  exact lane d _ _

/-- The second head's values, zero in the first head's lanes. -/
theorem values1 (x2 : Vec Ideal S4096x128 .f32) (k : Fin 4096) (d : Fin 128) : k0_pay54 x2 (ix2 k d) = if d.val < 64 then 0 else x2 (ix2 k d) := by
  pointwise [k0_pay54]
  exact lane_high d _ _

/-- The block written at a point, row by row. -/
theorem point (t : Fin cfg0.N) (r : Fin 512) (d : Fin 128) :
    (outsAt0 m c t.val t.isLt).1 (ix2 r d)
      = rowOut (grid0.coords t) (k0_pay56 (iblk m c 0 t)) (k0_pay57 (iblk m c 0 t)) (k0_pay52 (iblk m c 1 t)) (fun d k => iblk m c 2 t (ix2 k d)) r d := by
  by_cases h0 : t.val % 8 = 0
  · rw [outsAt0_A m c t h0]
    exact caseA c _ _ _ _ _ _ _ _ _ _ _ _ _ _ _ _ _ ((hcond0_0 t).mpr h0) _ _ _ _ (values0 _) (values1 _) r d
  · rw [outsAt0_B m c t h0]
    have hs : t.val - 1 < cfg0.N := Nat.lt_of_le_of_lt (Nat.sub_le _ _) t.isLt
    obtain ⟨i0, i1, i2⟩ := carried m c (t.val - 1) hs
    have hd : t.val / 8 = (⟨t.val - 1, hs⟩ : Fin cfg0.N).val / 8 := by
      show t.val / 8 = (t.val - 1) / 8
      omega
    rw [← same1 m c _ _ hd] at i0
    rw [← same2 m c _ _ hd] at i1 i2
    dsimp only
    rw [i0]
    generalize (outsAt0 m c (t.val - 1) hs).2.2.2.1 = u1 at i1 ⊢
    generalize (outsAt0 m c (t.val - 1) hs).2.2.2.2 = u2 at i2 ⊢
    exact caseB c _ _ _ _ _ _ _ _ _ _ _ _ _ _ _ _ _ (fun h => h0 ((hcond0_0 t).mp h)) _ _ _ _ _ _ _
      (fun k d => (congrFun i1 _).trans (values0 _ k d)) (fun k d => (congrFun i2 _).trans (values1 _ k d)) r d

/-- The second block written at a point, row by row. -/
theorem pointLse (t : Fin cfg0.N) (r : Fin 512) (d : Fin 128) :
    (outsAt0 m c t.val t.isLt).2.1 (ix2 r d)
      = rowLse (grid0.coords t) (k0_pay56 (iblk m c 0 t)) (k0_pay57 (iblk m c 0 t)) (k0_pay52 (iblk m c 1 t)) r d := by
  by_cases h0 : t.val % 8 = 0
  · rw [outsAt0_A m c t h0]
    exact caseLseA c _ _ _ _ _ _ _ _ _ _ _ _ _ _ _ _ _ ((hcond0_0 t).mpr h0) _ _ _ (fun d k => iblk m c 2 t (ix2 k d)) (values0 _) (values1 _) r d
  · rw [outsAt0_B m c t h0]
    have hs : t.val - 1 < cfg0.N := Nat.lt_of_le_of_lt (Nat.sub_le _ _) t.isLt
    obtain ⟨i0, i1, i2⟩ := carried m c (t.val - 1) hs
    have hd : t.val / 8 = (⟨t.val - 1, hs⟩ : Fin cfg0.N).val / 8 := by
      show t.val / 8 = (t.val - 1) / 8
      omega
    rw [← same1 m c _ _ hd] at i0
    rw [← same2 m c _ _ hd] at i1 i2
    dsimp only
    rw [i0]
    generalize (outsAt0 m c (t.val - 1) hs).2.2.2.1 = u1 at i1 ⊢
    generalize (outsAt0 m c (t.val - 1) hs).2.2.2.2 = u2 at i2 ⊢
    exact caseLseB c _ _ _ _ _ _ _ _ _ _ _ _ _ _ _ _ _ (fun h => h0 ((hcond0_0 t).mp h)) _ _ _ _ _ _ (fun d k => iblk m c 2 t (ix2 k d))
      (fun k d => (congrFun i1 _).trans (values0 _ k d)) (fun k d => (congrFun i2 _).trans (values1 _ k d)) r d

/-- The first head's queries in the point's block. -/
theorem query0 (x0 : Vec Ideal S512x256 .f32) (r : Fin 512) (x : Fin 128) : k0_pay56 x0 (ix2 r x) = x0 (ix2 r ⟨x.val, by omega⟩) := by
  pointwise [k0_pay56]

/-- The second head's queries in the point's block. -/
theorem query1 (x0 : Vec Ideal S512x256 .f32) (r : Fin 512) (x : Fin 128) : k0_pay57 x0 (ix2 r x) = x0 (ix2 r ⟨128 + x.val, by omega⟩) := by
  pointwise [k0_pay57]

/-- The carried keys are the block's. -/
theorem keys_apply (x1 : Vec Ideal S4096x256 .f32) (k : Fin 4096) (e : Fin 256) : k0_pay52 x1 (ix2 k e) = x1 (ix2 k e) := by
  pointwise [k0_pay52]

/-- The block's row is the reference's row. -/
theorem point_attn (hq : ∀ j, ∃ r : ℝ, m ((c : Thread nD τ).loc main_arg0) j = (r : EReal)) (hk : ∀ j, ∃ r : ℝ, m ((c : Thread nD τ).loc main_arg1) j = (r : EReal))
    (t : Fin cfg0.N) (r : Fin 512) (d : Fin 128) (R : Fin 4096) (C : Fin 256) (hR : R.val = t.val % 8 * 512 + r.val) (hC : C.val = t.val / 8 * 128 + d.val) :
    (outsAt0 m c t.val t.isLt).1 (ix2 r d) = attention (m ((c : Thread nD τ).loc main_arg0)) (m ((c : Thread nD τ).loc main_arg1)) (m ((c : Thread nD τ).loc main_arg2)) (ix2 R C) := by
  have hN : t.val < 16 := t.isLt
  have hi : ((grid0.coords t) 1).val = t.val % 8 := coords_tile t
  have hd := d.isLt
  rw [point, attention_apply, rowOut]
  have hV : (fun k => iblk m c 2 t (ix2 k d)) = fun j => m ((c : Thread nD τ).loc main_arg2) (ix2 j C) := by
    funext k
    rw [block2]
    exact congrArg (fun e => m ((c : Thread nD τ).loc main_arg2) (ix2 k e)) (Fin.ext hC.symm)
  by_cases h : d.val < 64
  · rw [if_pos h, headScores, softmax_row _ _ _ _ (by omega) r]
    · have eq : (fun x => k0_pay56 (iblk m c 0 t) (ix2 r x)) = qRow (m ((c : Thread nD τ).loc main_arg0)) ⟨C.val / 64, by omega⟩ R := by
        funext x
        rw [query0, block0, qRow]
        exact congrArg (m ((c : Thread nD τ).loc main_arg0)) (congrArg₂ ix2 (Fin.ext (by dsimp only; omega)) (Fin.ext (by dsimp only; omega)))
      have ek : keys0 (k0_pay52 (iblk m c 1 t)) = kMat (m ((c : Thread nD τ).loc main_arg1)) ⟨C.val / 64, by omega⟩ := by
        funext k x
        rw [keys0, keys_apply, block1, kMat]
        exact congrArg (m ((c : Thread nD τ).loc main_arg1)) (congrArg₂ ix2 rfl (Fin.ext (by dsimp only; omega)))
      have er : ((grid0.coords t) 1).val * 512 + r.val = R.val := by omega
      rw [eq, ek, hV, er]
    · refine score_real _ _ (fun x => ?_) fun k x => ?_
      · rw [query0, block0]
        exact hq _
      · rw [keys0, keys_apply, block1]
        exact hk _
  · rw [if_neg h, headScores, softmax_row _ _ _ _ (by omega) r]
    · have eq : (fun x => k0_pay57 (iblk m c 0 t) (ix2 r x)) = qRow (m ((c : Thread nD τ).loc main_arg0)) ⟨C.val / 64, by omega⟩ R := by
        funext x
        rw [query1, block0, qRow]
        exact congrArg (m ((c : Thread nD τ).loc main_arg0)) (congrArg₂ ix2 (Fin.ext (by dsimp only; omega)) (Fin.ext (by dsimp only; omega)))
      have ek : keys1 (k0_pay52 (iblk m c 1 t)) = kMat (m ((c : Thread nD τ).loc main_arg1)) ⟨C.val / 64, by omega⟩ := by
        funext k x
        rw [keys1, keys_apply, block1, kMat]
        exact congrArg (m ((c : Thread nD τ).loc main_arg1)) (congrArg₂ ix2 rfl (Fin.ext (by dsimp only; omega)))
      have er : ((grid0.coords t) 1).val * 512 + r.val = R.val := by omega
      rw [eq, ek, hV, er]
    · refine score_real _ _ (fun x => ?_) fun k x => ?_
      · rw [query1, block0]
        exact hq _
      · rw [keys1, keys_apply, block1]
        exact hk _

/-- The second block's row is the reference's. -/
theorem point_logsum (hq : ∀ j, ∃ r : ℝ, m ((c : Thread nD τ).loc main_arg0) j = (r : EReal)) (hk : ∀ j, ∃ r : ℝ, m ((c : Thread nD τ).loc main_arg1) j = (r : EReal))
    (t : Fin cfg0.N) (r : Fin 512) (d : Fin 128) (R : Fin 4096) (C : Fin 256) (hR : R.val = t.val % 8 * 512 + r.val) (hC : C.val = t.val / 8 * 128 + d.val) :
    (outsAt0 m c t.val t.isLt).2.1 (ix2 r d) = logSums (scoreMat (m ((c : Thread nD τ).loc main_arg0)) (m ((c : Thread nD τ).loc main_arg1))) (ix2 R C) := by
  have hN : t.val < 16 := t.isLt
  have hi : ((grid0.coords t) 1).val = t.val % 8 := coords_tile t
  have hd := d.isLt
  rw [pointLse, logSums_apply, rowLse]
  by_cases h : d.val < 64
  · rw [if_pos h, headScores, logsum_row _ _ _ (by omega) r]
    · have eq : (fun x => k0_pay56 (iblk m c 0 t) (ix2 r x)) = qRow (m ((c : Thread nD τ).loc main_arg0)) ⟨C.val / 64, by omega⟩ R := by
        funext x
        rw [query0, block0, qRow]
        exact congrArg (m ((c : Thread nD τ).loc main_arg0)) (congrArg₂ ix2 (Fin.ext (by dsimp only; omega)) (Fin.ext (by dsimp only; omega)))
      have ek : keys0 (k0_pay52 (iblk m c 1 t)) = kMat (m ((c : Thread nD τ).loc main_arg1)) ⟨C.val / 64, by omega⟩ := by
        funext k x
        rw [keys0, keys_apply, block1, kMat]
        exact congrArg (m ((c : Thread nD τ).loc main_arg1)) (congrArg₂ ix2 rfl (Fin.ext (by dsimp only; omega)))
      have er : ((grid0.coords t) 1).val * 512 + r.val = R.val := by omega
      rw [eq, ek, er]
    · refine score_real _ _ (fun x => ?_) fun k x => ?_
      · rw [query0, block0]
        exact hq _
      · rw [keys0, keys_apply, block1]
        exact hk _
  · rw [if_neg h, headScores, logsum_row _ _ _ (by omega) r]
    · have eq : (fun x => k0_pay57 (iblk m c 0 t) (ix2 r x)) = qRow (m ((c : Thread nD τ).loc main_arg0)) ⟨C.val / 64, by omega⟩ R := by
        funext x
        rw [query1, block0, qRow]
        exact congrArg (m ((c : Thread nD τ).loc main_arg0)) (congrArg₂ ix2 (Fin.ext (by dsimp only; omega)) (Fin.ext (by dsimp only; omega)))
      have ek : keys1 (k0_pay52 (iblk m c 1 t)) = kMat (m ((c : Thread nD τ).loc main_arg1)) ⟨C.val / 64, by omega⟩ := by
        funext k x
        rw [keys1, keys_apply, block1, kMat]
        exact congrArg (m ((c : Thread nD τ).loc main_arg1)) (congrArg₂ ix2 rfl (Fin.ext (by dsimp only; omega)))
      have er : ((grid0.coords t) 1).val * 512 + r.val = R.val := by omega
      rw [eq, ek, er]
    · refine score_real _ _ (fun x => ?_) fun k x => ?_
      · rw [query1, block0]
        exact hq _
      · rw [keys1, keys_apply, block1]
        exact hk _

/-- The call's first result is the reference's attention. -/
theorem final (hq : ∀ j, ∃ r : ℝ, m ((c : Thread nD τ).loc main_arg0) j = (r : EReal)) (hk : ∀ j, ∃ r : ℝ, m ((c : Thread nD τ).loc main_arg1) j = (r : EReal)) :
    (dats m 0 c).arrAt 3 cfg0.N = attention (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h1 := (y 0).isLt
  have h2 := (y 1).isLt
  have ht : t.val < 16 := t.isLt
  have e : (win0_3.blk t).view.emb y = ix2 (⟨t.val % 8 * 512 + (y 0).val, by have h : (y 0).val < 512 := h1; omega⟩ : Fin 4096) (⟨t.val / 8 * 128 + (y 1).val, by have h : (y 1).val < 128 := h2; omega⟩ : Fin 256) := by
    blk_point [idx t]
  rw [e, ← point_attn m c hq hk t (y 0) (y 1) _ _ rfl rfl]
  exact congrArg (outsAt0 m c t.val t.isLt).1 (eq_ix2 (n0 := 512) (n1 := 128) y)

/-- The call's second result is the reference's log-sum-exp. -/
theorem finalLse (hq : ∀ j, ∃ r : ℝ, m ((c : Thread nD τ).loc main_arg0) j = (r : EReal)) (hk : ∀ j, ∃ r : ℝ, m ((c : Thread nD τ).loc main_arg1) j = (r : EReal)) :
    (dats m 0 c).arrAt 4 cfg0.N = logSums (scoreMat (m ((c : Thread nD τ).loc main_arg0)) (m ((c : Thread nD τ).loc main_arg1))) := by
  refine (dats m 0 c).arrAt_eq_of_covers 4 _ (by decide +kernel) fun t hf y => ?_
  blk_simp
  rw [after0_4]
  have h1 := (y 0).isLt
  have h2 := (y 1).isLt
  have ht : t.val < 16 := t.isLt
  have e : (win0_4.blk t).view.emb y = ix2 (⟨t.val % 8 * 512 + (y 0).val, by have h : (y 0).val < 512 := h1; omega⟩ : Fin 4096) (⟨t.val / 8 * 128 + (y 1).val, by have h : (y 1).val < 128 := h2; omega⟩ : Fin 256) := by
    blk_point [idx t]
  rw [e, ← point_logsum m c hq hk t (y 0) (y 1) _ _ rfl rfl]
  exact congrArg (outsAt0 m c t.val t.isLt).2.1 (eq_ix2 (n0 := 512) (n1 := 128) y)

end Cert.KernelAfIdeal.Attention

end
-- ==== Proof.AfClaims.lean ====
/-
  The five claims on the forward call of the attention, the last one at finite queries and keys.
-/
module

public import proofs.«01_k».proof.Defs
public import proofs.«01_k».proof.Proof.Gen.KernelAf.Frame
public import proofs.«01_k».proof.Proof.Gen.KernelAfIdeal.Value
public import proofs.«01_k».proof.Proof.Gen.Pre_finite_scores
public import proofs.«01_k».proof.Proof.AfValue
public import Idealize.ShloMosaic.Lib.Claim
public import Idealize.ShloMosaic.Adequacy
public import Idealize.ShloMosaic.Init

@[expose] public section

set_option maxRecDepth 16384

noncomputable section

namespace Cert.KernelAfIdeal.Attention

open Idealize.ShloMosaic Idealize.ShloMosaic.TcCoe Idealize.SL.Sem

/-- Every run of the kernel's program ends in a quiescent state. -/
theorem frame_kernel : Cert.quiescent_KernelAf := fun m ρ _ => Cert.KernelAf.Gen.frame m ρ

/-- Every run of the idealized kernel ends in a quiescent state. -/
theorem frame_ideal : Cert.quiescent_KernelAfIdeal := fun m ρ _ => Cert.KernelAfIdeal.Gen.frame m ρ

/-- Every run of the idealized reference ends in a quiescent state. -/
theorem frame_reference : Cert.quiescent_ReferenceAfIdeal := by
  intro m g _
  refine (θ_run _ _ _).mono (fun r h => ⟨fun c => (h c).2.2, sem_eq_zero_of_no_sems (by decide) r.2⟩) (Cert.ReferenceAfIdeal.Value.run m g)

/-- Every run of the idealized kernel from a memory meeting the precondition ends in a quiescent state. -/
theorem frame_ideal_pre : Cert.quiescent_KernelAfIdeal_pre_finite_scores := fun m ρ _ => Cert.KernelAfIdeal.Gen.frame m ρ

/-- Every run of the idealized reference from a memory meeting the precondition ends in a quiescent state. -/
theorem frame_reference_pre : Cert.quiescent_ReferenceAfIdeal_pre_finite_scores := by
  intro m g _
  refine (θ_run _ _ _).mono (fun r h => ⟨fun c => (h c).2.2, sem_eq_zero_of_no_sems (by decide) r.2⟩) (Cert.ReferenceAfIdeal.Value.run m g)

/-- Idealizing the kernel reads the mask's large negative constant as minus infinity. -/
theorem preserves : Cert.preserves_KernelAf_KernelAfIdeal :=
  IdealRules.named_const.statement Cert.KernelAfIdeal.κ "mask" .f32 0xF149F2CA#32 ⊥ rfl

/-- The kernel's results equal the reference's at finite queries and keys. -/
theorem algebraic : Cert.algebraic_KernelAfIdeal_ReferenceAfIdeal_pre_finite_scores := by
  intro m g m' g' hp hagree
  refine ⟨_, _, (θ_run _ _ _).mono (fun r h c => ⟨(h c).1.trans (final m c (finite_of_pre _ _ _ (hp c)).1 (finite_of_pre _ _ _ (hp c)).2),
    (h c).2.1.trans (finalLse m c (finite_of_pre _ _ _ (hp c)).1 (finite_of_pre _ _ _ (hp c)).2), (h c).2.2⟩) (Cert.KernelAfIdeal.Value.run_blocks m g),
    (θ_run _ _ _).mono (fun r h c => ?_) (Cert.ReferenceAfIdeal.Value.run m' g')⟩
  obtain ⟨h0, h1, h2⟩ := hagree c
  obtain ⟨r0, r1, rest⟩ := h c
  refine ⟨r0.trans ?_, r1.trans ?_, rest⟩
  · rw [Cert.ReferenceAfIdeal.Value.res_main_v27, h0, h1, h2]
    rfl
  · rw [h0, h1]
    rfl

end Cert.KernelAfIdeal.Attention

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.MergeReference
public import proofs.«01_k».proof.Proof.MergeValue
public import proofs.«01_k».proof.Proof.MergeSame
public import proofs.«01_k».proof.Proof.DxClaims
public import proofs.«01_k».proof.Proof.DwClaims
public import proofs.«01_k».proof.Proof.BdxClaims
public import proofs.«01_k».proof.Proof.BdwClaims
public import proofs.«01_k».proof.Proof.GdwClaims
public import proofs.«01_k».proof.Proof.GdxClaims
public import proofs.«01_k».proof.Proof.IdxClaims
public import proofs.«01_k».proof.Proof.IdwClaims
public import proofs.«01_k».proof.Proof.OdxClaims
public import proofs.«01_k».proof.Proof.OdwClaims
public import proofs.«01_k».proof.Proof.OfClaims
public import proofs.«01_k».proof.Proof.PdxClaims
public import proofs.«01_k».proof.Proof.PdwClaims
public import proofs.«01_k».proof.Proof.PfClaims
public import proofs.«01_k».proof.Proof.UdxClaims
public import proofs.«01_k».proof.Proof.UdwClaims
public import proofs.«01_k».proof.Proof.UfClaims
public import proofs.«01_k».proof.Proof.VdxClaims
public import proofs.«01_k».proof.Proof.VdwClaims
public import proofs.«01_k».proof.Proof.VfClaims
public import proofs.«01_k».proof.Proof.IfClaims
public import proofs.«01_k».proof.Proof.MfClaims
public import proofs.«01_k».proof.Proof.BfClaims
public import proofs.«01_k».proof.Proof.GfClaims
public import proofs.«01_k».proof.Proof.CfClaims
public import proofs.«01_k».proof.Proof.SfClaims
public import proofs.«01_k».proof.Proof.JfClaims
public import proofs.«01_k».proof.Proof.LfClaims
public import proofs.«01_k».proof.Proof.EfClaims
public import proofs.«01_k».proof.Proof.AfClaims
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Every run of the kernel's program ends in a quiescent state. -/
theorem frame_kernel : Cert.quiescent_Kernel := Cert.KernelIdeal.Merge.frame_kernel

/-- Every run of the idealized kernel ends in a quiescent state. -/
theorem frame_ideal : Cert.quiescent_KernelIdeal := fun m ρ _ => Cert.KernelIdeal.Merge.frame m ρ

/-- Every run of the idealized reference ends in a quiescent state. -/
theorem frame_reference : Cert.quiescent_ReferenceIdeal := by
  intro m g _
  refine (θ_run _ _ _).mono (fun r h => ⟨fun c => ?_, sem_eq_zero_of_no_sems (by decide) r.2⟩) (Cert.ReferenceIdeal.Value.run m g)
  obtain ⟨_, _, _, _, _, _, _, _, _, _, _, _, rest⟩ := h c
  exact rest

/-- Idealizing the kernel rewrites nothing. -/
theorem preserves : Cert.preserves_Kernel_KernelIdeal := trivial

/-- The kernel's twelve results equal the reference's. -/
theorem algebraic : Cert.algebraic_KernelIdeal_ReferenceIdeal := by
  intro m g m' g' _ hagree
  refine ⟨_, _, _, _, _, _, _, _, _, _, _, _, KernelIdeal.Merge.run_values m g, (θ_run _ _ _).mono (fun r h c => ?_) (Cert.ReferenceIdeal.Value.run m' g')⟩
  obtain ⟨h0, h1, h2, h3, h4, h5, h6, h7, h8, h9⟩ := hagree c
  obtain ⟨r0, r1, r2, r3, r4, r5, r6, r7, r8, r9, r10, r11, rest⟩ := h c
  exact ⟨r0.trans ((ReferenceIdeal.Merge.branch_0 (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h4, h8, h9])),
    r1.trans ((ReferenceIdeal.Merge.branch_1 (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h5, h8, h9])),
    r2.trans ((ReferenceIdeal.Merge.branch_2 (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h6, h8, h9])),
    r3.trans ((ReferenceIdeal.Merge.branch_3 (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h7, h8, h9])),
    r4.trans ((ReferenceIdeal.Merge.logit_0 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h0, h4, h8, h9])),
    r5.trans ((ReferenceIdeal.Merge.logit_1 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h1, h5, h8, h9])),
    r6.trans ((ReferenceIdeal.Merge.logit_2 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h2, h6, h8, h9])),
    r7.trans ((ReferenceIdeal.Merge.logit_3 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h3, h7, h8, h9])),
    r8.trans ((ReferenceIdeal.Merge.bias_0 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h0, h4, h8, h9])),
    r9.trans ((ReferenceIdeal.Merge.bias_1 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h1, h5, h8, h9])),
    r10.trans ((ReferenceIdeal.Merge.bias_2 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h2, h6, h8, h9])),
    r11.trans ((ReferenceIdeal.Merge.bias_3 (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg9)) (m' (c.tc.loc ReferenceIdeal.main_arg8))).trans (by rw [h3, h7, h8, h9])), rest⟩

/-- All the claims. -/
theorem claim : Cert.Claim :=
  ⟨Cert.Kernel.Gen.facts, Cert.KernelIdeal.Gen.facts, Cert.ReferenceIdeal.Gen.facts,
    Cert.KernelDx.Gen.facts, Cert.KernelDxIdeal.Gen.facts, Cert.ReferenceDxIdeal.Gen.facts,
    Cert.KernelDw.Gen.facts, Cert.KernelDwIdeal.Gen.facts, Cert.ReferenceDwIdeal.Gen.facts,
    Cert.KernelBdx.Gen.facts, Cert.KernelBdxIdeal.Gen.facts, Cert.ReferenceBdxIdeal.Gen.facts,
    Cert.KernelBdw.Gen.facts, Cert.KernelBdwIdeal.Gen.facts, Cert.ReferenceBdwIdeal.Gen.facts,
    Cert.KernelGdw.Gen.facts, Cert.KernelGdwIdeal.Gen.facts, Cert.ReferenceGdwIdeal.Gen.facts,
    Cert.KernelGdx.Gen.facts, Cert.KernelGdxIdeal.Gen.facts, Cert.ReferenceGdxIdeal.Gen.facts,
    Cert.KernelIdx.Gen.facts, Cert.KernelIdxIdeal.Gen.facts, Cert.ReferenceIdxIdeal.Gen.facts,
    Cert.KernelIdw.Gen.facts, Cert.KernelIdwIdeal.Gen.facts, Cert.ReferenceIdwIdeal.Gen.facts,
    Cert.KernelOdx.Gen.facts, Cert.KernelOdxIdeal.Gen.facts, Cert.ReferenceOdxIdeal.Gen.facts,
    Cert.KernelOdw.Gen.facts, Cert.KernelOdwIdeal.Gen.facts, Cert.ReferenceOdwIdeal.Gen.facts,
    Cert.KernelOf.Gen.facts, Cert.KernelOfIdeal.Gen.facts, Cert.ReferenceOfIdeal.Gen.facts,
    Cert.KernelPdx.Gen.facts, Cert.KernelPdxIdeal.Gen.facts, Cert.ReferencePdxIdeal.Gen.facts,
    Cert.KernelPdw.Gen.facts, Cert.KernelPdwIdeal.Gen.facts, Cert.ReferencePdwIdeal.Gen.facts,
    Cert.KernelPf.Gen.facts, Cert.KernelPfIdeal.Gen.facts, Cert.ReferencePfIdeal.Gen.facts,
    Cert.KernelUdx.Gen.facts, Cert.KernelUdxIdeal.Gen.facts, Cert.ReferenceUdxIdeal.Gen.facts,
    Cert.KernelUdw.Gen.facts, Cert.KernelUdwIdeal.Gen.facts, Cert.ReferenceUdwIdeal.Gen.facts,
    Cert.KernelUf.Gen.facts, Cert.KernelUfIdeal.Gen.facts, Cert.ReferenceUfIdeal.Gen.facts,
    Cert.KernelVdx.Gen.facts, Cert.KernelVdxIdeal.Gen.facts, Cert.ReferenceVdxIdeal.Gen.facts,
    Cert.KernelVdw.Gen.facts, Cert.KernelVdwIdeal.Gen.facts, Cert.ReferenceVdwIdeal.Gen.facts,
    Cert.KernelVf.Gen.facts, Cert.KernelVfIdeal.Gen.facts, Cert.ReferenceVfIdeal.Gen.facts,
    Cert.KernelIf.Gen.facts, Cert.KernelIfIdeal.Gen.facts, Cert.ReferenceIfIdeal.Gen.facts,
    Cert.KernelMf.Gen.facts, Cert.KernelMfIdeal.Gen.facts, Cert.ReferenceMfIdeal.Gen.facts,
    Cert.KernelBf.Gen.facts, Cert.KernelBfIdeal.Gen.facts, Cert.ReferenceBfIdeal.Gen.facts,
    Cert.KernelGf.Gen.facts, Cert.KernelGfIdeal.Gen.facts, Cert.ReferenceGfIdeal.Gen.facts,
    Cert.KernelCf.Gen.facts, Cert.KernelCfIdeal.Gen.facts, Cert.ReferenceCfIdeal.Gen.facts,
    Cert.KernelSf.Gen.facts, Cert.KernelSfIdeal.Gen.facts, Cert.ReferenceSfIdeal.Gen.facts,
    Cert.KernelJf.Gen.facts, Cert.KernelJfIdeal.Gen.facts, Cert.ReferenceJfIdeal.Gen.facts,
    Cert.KernelLf.Gen.facts, Cert.KernelLfIdeal.Gen.facts, Cert.ReferenceLfIdeal.Gen.facts,
    Cert.KernelEf.Gen.facts, Cert.KernelEfIdeal.Gen.facts, Cert.ReferenceEfIdeal.Gen.facts,
    Cert.KernelAf.Gen.facts, Cert.KernelAfIdeal.Gen.facts, Cert.ReferenceAfIdeal.Gen.facts,
    Cert.Pre_finite_branch.Gen.facts,
    Cert.Pre_finite_scores.Gen.facts,
    frame_kernel, frame_ideal, frame_reference,
    Cert.KernelDxIdeal.Merge.frame_kernel, Cert.KernelDxIdeal.Merge.frame_ideal, Cert.KernelDxIdeal.Merge.frame_reference,
    Cert.KernelDwIdeal.Merge.frame_kernel, Cert.KernelDwIdeal.Merge.frame_ideal, Cert.KernelDwIdeal.Merge.frame_reference,
    Cert.KernelBdxIdeal.Branch.frame_kernel, Cert.KernelBdxIdeal.Branch.frame_ideal, Cert.KernelBdxIdeal.Branch.frame_reference,
    Cert.KernelBdwIdeal.Branch.frame_kernel, Cert.KernelBdwIdeal.Branch.frame_ideal, Cert.KernelBdwIdeal.Branch.frame_reference,
    Cert.KernelGdwIdeal.Branch.frame_kernel, Cert.KernelGdwIdeal.Branch.frame_ideal, Cert.KernelGdwIdeal.Branch.frame_reference,
    Cert.KernelGdxIdeal.Branch.frame_kernel, Cert.KernelGdxIdeal.Branch.frame_ideal, Cert.KernelGdxIdeal.Branch.frame_ideal_pre, Cert.KernelGdxIdeal.Branch.frame_reference, Cert.KernelGdxIdeal.Branch.frame_reference_pre,
    Cert.KernelIdxIdeal.Input.frame_kernel, Cert.KernelIdxIdeal.Input.frame_ideal, Cert.KernelIdxIdeal.Input.frame_reference,
    Cert.KernelIdwIdeal.Input.frame_kernel, Cert.KernelIdwIdeal.Input.frame_ideal, Cert.KernelIdwIdeal.Input.frame_reference,
    Cert.KernelOdxIdeal.Product.frame_kernel, Cert.KernelOdxIdeal.Product.frame_ideal, Cert.KernelOdxIdeal.Product.frame_reference,
    Cert.KernelOdwIdeal.Product.frame_kernel, Cert.KernelOdwIdeal.Product.frame_ideal, Cert.KernelOdwIdeal.Product.frame_reference,
    Cert.KernelOfIdeal.Product.frame_kernel, Cert.KernelOfIdeal.Product.frame_ideal, Cert.KernelOfIdeal.Product.frame_reference,
    Cert.KernelPdxIdeal.Product.frame_kernel, Cert.KernelPdxIdeal.Product.frame_ideal, Cert.KernelPdxIdeal.Product.frame_reference,
    Cert.KernelPdwIdeal.Product.frame_kernel, Cert.KernelPdwIdeal.Product.frame_ideal, Cert.KernelPdwIdeal.Product.frame_reference,
    Cert.KernelPfIdeal.Product.frame_kernel, Cert.KernelPfIdeal.Product.frame_ideal, Cert.KernelPfIdeal.Product.frame_reference,
    Cert.KernelUdxIdeal.Product.frame_kernel, Cert.KernelUdxIdeal.Product.frame_ideal, Cert.KernelUdxIdeal.Product.frame_reference,
    Cert.KernelUdwIdeal.Product.frame_kernel, Cert.KernelUdwIdeal.Product.frame_ideal, Cert.KernelUdwIdeal.Product.frame_reference,
    Cert.KernelUfIdeal.Product.frame_kernel, Cert.KernelUfIdeal.Product.frame_ideal, Cert.KernelUfIdeal.Product.frame_reference,
    Cert.KernelVdxIdeal.Product.frame_kernel, Cert.KernelVdxIdeal.Product.frame_ideal, Cert.KernelVdxIdeal.Product.frame_reference,
    Cert.KernelVdwIdeal.Product.frame_kernel, Cert.KernelVdwIdeal.Product.frame_ideal, Cert.KernelVdwIdeal.Product.frame_reference,
    Cert.KernelVfIdeal.Product.frame_kernel, Cert.KernelVfIdeal.Product.frame_ideal, Cert.KernelVfIdeal.Product.frame_reference,
    Cert.KernelIfIdeal.Input.frame_kernel, Cert.KernelIfIdeal.Input.frame_ideal, Cert.KernelIfIdeal.Input.frame_reference,
    Cert.KernelMfIdeal.Merge.frame_kernel, Cert.KernelMfIdeal.Merge.frame_ideal, Cert.KernelMfIdeal.Merge.frame_reference,
    Cert.KernelBfIdeal.Branch.frame_kernel, Cert.KernelBfIdeal.Branch.frame_ideal, Cert.KernelBfIdeal.Branch.frame_reference,
    Cert.KernelGfIdeal.Branch.frame_kernel, Cert.KernelGfIdeal.Branch.frame_ideal, Cert.KernelGfIdeal.Branch.frame_reference,
    Cert.KernelCfIdeal.Row.frame_kernel, Cert.KernelCfIdeal.Row.frame_ideal, Cert.KernelCfIdeal.Row.frame_reference,
    Cert.KernelSfIdeal.Row.frame_kernel, Cert.KernelSfIdeal.Row.frame_ideal, Cert.KernelSfIdeal.Row.frame_reference,
    Cert.KernelJfIdeal.Row.frame_kernel, Cert.KernelJfIdeal.Row.frame_ideal, Cert.KernelJfIdeal.Row.frame_reference,
    Cert.KernelLfIdeal.Row.frame_kernel, Cert.KernelLfIdeal.Row.frame_ideal, Cert.KernelLfIdeal.Row.frame_reference,
    Cert.KernelEfIdeal.Row.frame_kernel, Cert.KernelEfIdeal.Row.frame_ideal, Cert.KernelEfIdeal.Row.frame_reference,
    Cert.KernelAfIdeal.Attention.frame_kernel, Cert.KernelAfIdeal.Attention.frame_ideal, Cert.KernelAfIdeal.Attention.frame_ideal_pre, Cert.KernelAfIdeal.Attention.frame_reference, Cert.KernelAfIdeal.Attention.frame_reference_pre,
    preserves, algebraic,
    Cert.KernelDxIdeal.Merge.preserves, Cert.KernelDxIdeal.Merge.algebraic,
    Cert.KernelDwIdeal.Merge.preserves, Cert.KernelDwIdeal.Merge.algebraic,
    Cert.KernelBdxIdeal.Branch.preserves, Cert.KernelBdxIdeal.Branch.algebraic,
    Cert.KernelBdwIdeal.Branch.preserves, Cert.KernelBdwIdeal.Branch.algebraic,
    Cert.KernelGdwIdeal.Branch.preserves, Cert.KernelGdwIdeal.Branch.algebraic,
    Cert.KernelGdxIdeal.Branch.preserves, Cert.KernelGdxIdeal.Branch.algebraic,
    Cert.KernelIdxIdeal.Input.preserves, Cert.KernelIdxIdeal.Input.algebraic,
    Cert.KernelIdwIdeal.Input.preserves, Cert.KernelIdwIdeal.Input.algebraic,
    Cert.KernelOdxIdeal.Product.preserves, Cert.KernelOdxIdeal.Product.algebraic,
    Cert.KernelOdwIdeal.Product.preserves, Cert.KernelOdwIdeal.Product.algebraic,
    Cert.KernelOfIdeal.Product.preserves, Cert.KernelOfIdeal.Product.algebraic,
    Cert.KernelPdxIdeal.Product.preserves, Cert.KernelPdxIdeal.Product.algebraic,
    Cert.KernelPdwIdeal.Product.preserves, Cert.KernelPdwIdeal.Product.algebraic,
    Cert.KernelPfIdeal.Product.preserves, Cert.KernelPfIdeal.Product.algebraic,
    Cert.KernelUdxIdeal.Product.preserves, Cert.KernelUdxIdeal.Product.algebraic,
    Cert.KernelUdwIdeal.Product.preserves, Cert.KernelUdwIdeal.Product.algebraic,
    Cert.KernelUfIdeal.Product.preserves, Cert.KernelUfIdeal.Product.algebraic,
    Cert.KernelVdxIdeal.Product.preserves, Cert.KernelVdxIdeal.Product.algebraic,
    Cert.KernelVdwIdeal.Product.preserves, Cert.KernelVdwIdeal.Product.algebraic,
    Cert.KernelVfIdeal.Product.preserves, Cert.KernelVfIdeal.Product.algebraic,
    Cert.KernelIfIdeal.Input.preserves, Cert.KernelIfIdeal.Input.algebraic,
    Cert.KernelMfIdeal.Merge.preserves, Cert.KernelMfIdeal.Merge.algebraic,
    Cert.KernelBfIdeal.Branch.preserves, Cert.KernelBfIdeal.Branch.algebraic,
    Cert.KernelGfIdeal.Branch.preserves, Cert.KernelGfIdeal.Branch.algebraic,
    Cert.KernelCfIdeal.Row.preserves, Cert.KernelCfIdeal.Row.algebraic,
    Cert.KernelSfIdeal.Row.preserves, Cert.KernelSfIdeal.Row.algebraic,
    Cert.KernelJfIdeal.Row.preserves, Cert.KernelJfIdeal.Row.algebraic,
    Cert.KernelLfIdeal.Row.preserves, Cert.KernelLfIdeal.Row.algebraic,
    Cert.KernelEfIdeal.Row.preserves, Cert.KernelEfIdeal.Row.algebraic,
    Cert.KernelAfIdeal.Attention.preserves, Cert.KernelAfIdeal.Attention.algebraic⟩

end Cert.Proof

end
